-- ==== Defs.lean ====
def Pre_Kernel [hPre_valid : Cert.Pre_valid.Facts] (m : (ℓ : Loc Cert.Kernel.nD Cert.Kernel.τ Cert.Kernel.sig) → Buf (Elt Bits) ℓ) : Prop :=
  ∀ c : Dev Cert.Kernel.nD,
    (Cert.Pre_valid.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_valid : Cert.Pre_valid.Facts] (m : (ℓ : Loc Cert.Reference.nD Cert.Reference.τ Cert.Reference.sig) → Buf (Elt Bits) ℓ) : Prop :=
  ∀ c : Dev Cert.Reference.nD,
    (Cert.Pre_valid.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Cells (m : (ℓ : Loc Cert.Cells.nD Cert.Cells.τ Cert.Cells.sig) → Buf (Elt Bits) ℓ) : Prop :=
  True

def Pre_CellsIdeal (m : (ℓ : Loc Cert.CellsIdeal.nD Cert.CellsIdeal.τ Cert.CellsIdeal.sig) → Buf (Elt Ideal) ℓ) : Prop :=
  True

def Pre_CellsReferenceIdeal (m : (ℓ : Loc Cert.CellsReferenceIdeal.nD Cert.CellsReferenceIdeal.τ Cert.CellsReferenceIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_sound2 [hPre_sound2 : Cert.Pre_sound2.Facts] (m : (ℓ : Loc Cert.SecondIdeal.nD Cert.SecondIdeal.τ Cert.SecondIdeal.sig) → Buf (Elt Ideal) ℓ) : Prop :=
  ∀ c : Dev Cert.SecondIdeal.nD,
    (Cert.Pre_sound2.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7))) = (fun _ => 1#1)

def Pre_SecondIdeal_linked2 [hPre_linked2 : Cert.Pre_linked2.Facts] (m : (ℓ : Loc Cert.SecondIdeal.nD Cert.SecondIdeal.τ Cert.SecondIdeal.sig) → Buf (Elt Ideal) ℓ) : Prop :=
  ∀ c : Dev Cert.SecondIdeal.nD,
    (Cert.Pre_linked2.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6)) (m ((c.tc : Thread Cert.SecondIdeal.nD Cert.SecondIdeal.τ).loc Cert.SecondIdeal.main_arg7))) = (fun _ => 1#1)

def Pre_SecondReferenceIdeal (m : (ℓ : Loc Cert.SecondReferenceIdeal.nD Cert.SecondReferenceIdeal.τ Cert.SecondReferenceIdeal.sig) → Buf (Elt Ideal) ℓ) : Prop :=
  True

def Pre_SecondReferenceIdeal_sound2 [hPre_sound2 : Cert.Pre_sound2.Facts] (m : (ℓ : Loc Cert.SecondReferenceIdeal.nD Cert.SecondReferenceIdeal.τ Cert.SecondReferenceIdeal.sig) → Buf (Elt Ideal) ℓ) : Prop :=
  ∀ c : Dev Cert.SecondReferenceIdeal.nD,
    (Cert.Pre_sound2.fn (F := Ideal) (m ((c.tc : Thread Cert.SecondReferenceIdeal.nD Cert.SecondReferenceIdeal.τ).loc Cert.SecondReferenceIdeal.main_arg0)) (m ((c.tc : Thread Cert.SecondReferenceIdeal.nD Cert.SecondReferenceIdeal.τ).loc Cert.SecondReferenceIdeal.main_arg1)) (m ((c.tc : Thread Cert.SecondReferenceIdeal.nD Cert.SecondReferenceIdeal.τ).loc Cert.SecondReferenceIdeal.main_arg2)) (m ((c.tc : Thread Cert.SecondReferenceIdeal.nD Cert.SecondReferenceIdeal.τ).loc Cert.SecondReferenceIdeal.main_arg3)) (m ((c.tc : Thread Cert.SecondReferenceIdeal.nD Cert.SecondReferenceIdeal.τ).loc Cert.SecondReferenceIdeal.main_arg4)) (m ((c.tc : Thread Cert.SecondReferenceIdeal.nD Cert.SecondReferenceIdeal.τ).loc Cert.SecondReferenceIdeal.main_arg5)) (m ((c.tc : Thread Cert.SecondReferenceIdeal.nD Cert.SecondReferenceIdeal.τ).loc Cert.SecondReferenceIdeal.main_arg6)) (m ((c.tc : Thread Cert.SecondReferenceIdeal.nD Cert.SecondReferenceIdeal.τ).loc Cert.SecondReferenceIdeal.main_arg7))) = (fun _ => 1#1)

def Pre_Third (m : (ℓ : Loc Cert.Third.nD Cert.Third.τ Cert.Third.sig) → Buf (Elt Bits) ℓ) : Prop :=
  True

def Pre_ThirdIdeal (m : (ℓ : Loc Cert.ThirdIdeal.nD Cert.ThirdIdeal.τ Cert.ThirdIdeal.sig) → Buf (Elt Ideal) ℓ) : Prop :=
  True

def Pre_ThirdIdeal_sound3 [hPre_sound3 : Cert.Pre_sound3.Facts] (m : (ℓ : Loc Cert.ThirdIdeal.nD Cert.ThirdIdeal.τ Cert.ThirdIdeal.sig) → Buf (Elt Ideal) ℓ) : Prop :=
  ∀ c : Dev Cert.ThirdIdeal.nD,
    (Cert.Pre_sound3.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10)) (m ((c.tc : Thread Cert.ThirdIdeal.nD Cert.ThirdIdeal.τ).loc Cert.ThirdIdeal.main_arg11)) (m ((c.tc : Thread Cert.ThirdIdeal.nD Cert.ThirdIdeal.τ).loc Cert.ThirdIdeal.main_arg12))) = (fun _ => 1#1)

def Pre_ThirdIdeal_linked3 [hPre_linked3 : Cert.Pre_linked3.Facts] (m : (ℓ : Loc Cert.ThirdIdeal.nD Cert.ThirdIdeal.τ Cert.ThirdIdeal.sig) → Buf (Elt Ideal) ℓ) : Prop :=
  ∀ c : Dev Cert.ThirdIdeal.nD,
    (Cert.Pre_linked3.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6)) (m ((c.tc : Thread Cert.ThirdIdeal.nD Cert.ThirdIdeal.τ).loc Cert.ThirdIdeal.main_arg7)) (m ((c.tc : Thread Cert.ThirdIdeal.nD Cert.ThirdIdeal.τ).loc Cert.ThirdIdeal.main_arg8)) (m ((c.tc : Thread Cert.ThirdIdeal.nD Cert.ThirdIdeal.τ).loc Cert.ThirdIdeal.main_arg9)) (m ((c.tc : Thread Cert.ThirdIdeal.nD Cert.ThirdIdeal.τ).loc Cert.ThirdIdeal.main_arg10)) (m ((c.tc : Thread Cert.ThirdIdeal.nD Cert.ThirdIdeal.τ).loc Cert.ThirdIdeal.main_arg11)) (m ((c.tc : Thread Cert.ThirdIdeal.nD Cert.ThirdIdeal.τ).loc Cert.ThirdIdeal.main_arg12))) = (fun _ => 1#1)

def Pre_ThirdReferenceIdeal (m : (ℓ : Loc Cert.ThirdReferenceIdeal.nD Cert.ThirdReferenceIdeal.τ Cert.ThirdReferenceIdeal.sig) → Buf (Elt Ideal) ℓ) : Prop :=
  True

def Pre_ThirdReferenceIdeal_sound3 [hPre_sound3 : Cert.Pre_sound3.Facts] (m : (ℓ : Loc Cert.ThirdReferenceIdeal.nD Cert.ThirdReferenceIdeal.τ Cert.ThirdReferenceIdeal.sig) → Buf (Elt Ideal) ℓ) : Prop :=
  ∀ c : Dev Cert.ThirdReferenceIdeal.nD,
    (Cert.Pre_sound3.fn (F := Ideal) (m ((c.tc : Thread Cert.ThirdReferenceIdeal.nD Cert.ThirdReferenceIdeal.τ).loc Cert.ThirdReferenceIdeal.main_arg0)) (m ((c.tc : Thread Cert.ThirdReferenceIdeal.nD Cert.ThirdReferenceIdeal.τ).loc Cert.ThirdReferenceIdeal.main_arg1)) (m ((c.tc : Thread Cert.ThirdReferenceIdeal.nD Cert.ThirdReferenceIdeal.τ).loc Cert.ThirdReferenceIdeal.main_arg2)) (m ((c.tc : Thread Cert.ThirdReferenceIdeal.nD Cert.ThirdReferenceIdeal.τ).loc Cert.ThirdReferenceIdeal.main_arg3)) (m ((c.tc : Thread Cert.ThirdReferenceIdeal.nD Cert.ThirdReferenceIdeal.τ).loc Cert.ThirdReferenceIdeal.main_arg4)) (m ((c.tc : Thread Cert.ThirdReferenceIdeal.nD Cert.ThirdReferenceIdeal.τ).loc Cert.ThirdReferenceIdeal.main_arg5)) (m ((c.tc : Thread Cert.ThirdReferenceIdeal.nD Cert.ThirdReferenceIdeal.τ).loc Cert.ThirdReferenceIdeal.main_arg6)) (m ((c.tc : Thread Cert.ThirdReferenceIdeal.nD Cert.ThirdReferenceIdeal.τ).loc Cert.ThirdReferenceIdeal.main_arg7)) (m ((c.tc : Thread Cert.ThirdReferenceIdeal.nD Cert.ThirdReferenceIdeal.τ).loc Cert.ThirdReferenceIdeal.main_arg8)) (m ((c.tc : Thread Cert.ThirdReferenceIdeal.nD Cert.ThirdReferenceIdeal.τ).loc Cert.ThirdReferenceIdeal.main_arg9)) (m ((c.tc : Thread Cert.ThirdReferenceIdeal.nD Cert.ThirdReferenceIdeal.τ).loc Cert.ThirdReferenceIdeal.main_arg10)) (m ((c.tc : Thread Cert.ThirdReferenceIdeal.nD Cert.ThirdReferenceIdeal.τ).loc Cert.ThirdReferenceIdeal.main_arg11)) (m ((c.tc : Thread Cert.ThirdReferenceIdeal.nD Cert.ThirdReferenceIdeal.τ).loc Cert.ThirdReferenceIdeal.main_arg12))) = (fun _ => 1#1)

def Pre_Features (m : (ℓ : Loc Cert.Features.nD Cert.Features.τ Cert.Features.sig) → Buf (Elt Bits) ℓ) : Prop :=
  True

def Pre_FeaturesIdeal (m : (ℓ : Loc Cert.FeaturesIdeal.nD Cert.FeaturesIdeal.τ Cert.FeaturesIdeal.sig) → Buf (Elt Ideal) ℓ) : Prop :=
  True

def Pre_FeaturesIdeal_sound4 [hPre_sound4 : Cert.Pre_sound4.Facts] (m : (ℓ : Loc Cert.FeaturesIdeal.nD Cert.FeaturesIdeal.τ Cert.FeaturesIdeal.sig) → Buf (Elt Ideal) ℓ) : Prop :=
  ∀ c : Dev Cert.FeaturesIdeal.nD,
    (Cert.Pre_sound4.fn (F := Ideal) (m ((c.tc : Thread Cert.FeaturesIdeal.nD Cert.FeaturesIdeal.τ).loc Cert.FeaturesIdeal.main_arg0)) (m ((c.tc : Thread Cert.FeaturesIdeal.nD Cert.FeaturesIdeal.τ).loc Cert.FeaturesIdeal.main_arg1)) (m ((c.tc : Thread Cert.FeaturesIdeal.nD Cert.FeaturesIdeal.τ).loc Cert.FeaturesIdeal.main_arg2)) (m ((c.tc : Thread Cert.FeaturesIdeal.nD Cert.FeaturesIdeal.τ).loc Cert.FeaturesIdeal.main_arg3)) (m ((c.tc : Thread Cert.FeaturesIdeal.nD Cert.FeaturesIdeal.τ).loc Cert.FeaturesIdeal.main_arg4)) (m ((c.tc : Thread Cert.FeaturesIdeal.nD Cert.FeaturesIdeal.τ).loc Cert.FeaturesIdeal.main_arg5)) (m ((c.tc : Thread Cert.FeaturesIdeal.nD Cert.FeaturesIdeal.τ).loc Cert.FeaturesIdeal.main_arg6)) (m ((c.tc : Thread Cert.FeaturesIdeal.nD Cert.FeaturesIdeal.τ).loc Cert.FeaturesIdeal.main_arg7)) (m ((c.tc : Thread Cert.FeaturesIdeal.nD Cert.FeaturesIdeal.τ).loc Cert.FeaturesIdeal.main_arg8)) (m ((c.tc : Thread Cert.FeaturesIdeal.nD Cert.FeaturesIdeal.τ).loc Cert.FeaturesIdeal.main_arg9)) (m ((c.tc : Thread Cert.FeaturesIdeal.nD Cert.FeaturesIdeal.τ).loc Cert.FeaturesIdeal.main_arg10)) (m ((c.tc : Thread Cert.FeaturesIdeal.nD Cert.FeaturesIdeal.τ).loc Cert.FeaturesIdeal.main_arg11)) (m ((c.tc : Thread Cert.FeaturesIdeal.nD Cert.FeaturesIdeal.τ).loc Cert.FeaturesIdeal.main_arg12)) (m ((c.tc : Thread Cert.FeaturesIdeal.nD Cert.FeaturesIdeal.τ).loc Cert.FeaturesIdeal.main_arg13)) (m ((c.tc : Thread Cert.FeaturesIdeal.nD Cert.FeaturesIdeal.τ).loc Cert.FeaturesIdeal.main_arg14)) (m ((c.tc : Thread Cert.FeaturesIdeal.nD Cert.FeaturesIdeal.τ).loc Cert.FeaturesIdeal.main_arg15))) = (fun _ => 1#1)

def Pre_FeaturesIdeal_linked4 [hPre_linked4 : Cert.Pre_linked4.Facts] (m : (ℓ : Loc Cert.FeaturesIdeal.nD Cert.FeaturesIdeal.τ Cert.FeaturesIdeal.sig) → Buf (Elt Ideal) ℓ) : Prop :=
  ∀ c : Dev Cert.FeaturesIdeal.nD,
    (Cert.Pre_linked4.fn (F := Ideal) (m ((c.tc : Thread Cert.FeaturesIdeal.nD Cert.FeaturesIdeal.τ).loc Cert.FeaturesIdeal.main_arg0)) (m ((c.tc : Thread Cert.FeaturesIdeal.nD Cert.FeaturesIdeal.τ).loc Cert.FeaturesIdeal.main_arg1)) (m ((c.tc : Thread Cert.FeaturesIdeal.nD Cert.FeaturesIdeal.τ).loc Cert.FeaturesIdeal.main_arg2)) (m ((c.tc : Thread Cert.FeaturesIdeal.nD Cert.FeaturesIdeal.τ).loc Cert.FeaturesIdeal.main_arg3)) (m ((c.tc : Thread Cert.FeaturesIdeal.nD Cert.FeaturesIdeal.τ).loc Cert.FeaturesIdeal.main_arg4)) (m ((c.tc : Thread Cert.FeaturesIdeal.nD Cert.FeaturesIdeal.τ).loc Cert.FeaturesIdeal.main_arg5)) (m ((c.tc : Thread Cert.FeaturesIdeal.nD Cert.FeaturesIdeal.τ).loc Cert.FeaturesIdeal.main_arg6)) (m ((c.tc : Thread Cert.FeaturesIdeal.nD Cert.FeaturesIdeal.τ).loc Cert.FeaturesIdeal.main_arg7)) (m ((c.tc : Thread Cert.FeaturesIdeal.nD Cert.FeaturesIdeal.τ).loc Cert.FeaturesIdeal.main_arg8)) (m ((c.tc : Thread Cert.FeaturesIdeal.nD Cert.FeaturesIdeal.τ).loc Cert.FeaturesIdeal.main_arg9)) (m ((c.tc : Thread Cert.FeaturesIdeal.nD Cert.FeaturesIdeal.τ).loc Cert.FeaturesIdeal.main_arg10)) (m ((c.tc : Thread Cert.FeaturesIdeal.nD Cert.FeaturesIdeal.τ).loc Cert.FeaturesIdeal.main_arg11)) (m ((c.tc : Thread Cert.FeaturesIdeal.nD Cert.FeaturesIdeal.τ).loc Cert.FeaturesIdeal.main_arg12)) (m ((c.tc : Thread Cert.FeaturesIdeal.nD Cert.FeaturesIdeal.τ).loc Cert.FeaturesIdeal.main_arg13)) (m ((c.tc : Thread Cert.FeaturesIdeal.nD Cert.FeaturesIdeal.τ).loc Cert.FeaturesIdeal.main_arg14)) (m ((c.tc : Thread Cert.FeaturesIdeal.nD Cert.FeaturesIdeal.τ).loc Cert.FeaturesIdeal.main_arg15))) = (fun _ => 1#1)

def Pre_FeaturesReferenceIdeal (m : (ℓ : Loc Cert.FeaturesReferenceIdeal.nD Cert.FeaturesReferenceIdeal.τ Cert.FeaturesReferenceIdeal.sig) → Buf (Elt Ideal) ℓ) : Prop :=
  True

def Pre_FeaturesReferenceIdeal_sound4 [hPre_sound4 : Cert.Pre_sound4.Facts] (m : (ℓ : Loc Cert.FeaturesReferenceIdeal.nD Cert.FeaturesReferenceIdeal.τ Cert.FeaturesReferenceIdeal.sig) → Buf (Elt Ideal) ℓ) : Prop :=
  ∀ c : Dev Cert.FeaturesReferenceIdeal.nD,
    (Cert.Pre_sound4.fn (F := Ideal) (m ((c.tc : Thread Cert.FeaturesReferenceIdeal.nD Cert.FeaturesReferenceIdeal.τ).loc Cert.FeaturesReferenceIdeal.main_arg0)) (m ((c.tc : Thread Cert.FeaturesReferenceIdeal.nD Cert.FeaturesReferenceIdeal.τ).loc Cert.FeaturesReferenceIdeal.main_arg1)) (m ((c.tc : Thread Cert.FeaturesReferenceIdeal.nD Cert.FeaturesReferenceIdeal.τ).loc Cert.FeaturesReferenceIdeal.main_arg2)) (m ((c.tc : Thread Cert.FeaturesReferenceIdeal.nD Cert.FeaturesReferenceIdeal.τ).loc Cert.FeaturesReferenceIdeal.main_arg3)) (m ((c.tc : Thread Cert.FeaturesReferenceIdeal.nD Cert.FeaturesReferenceIdeal.τ).loc Cert.FeaturesReferenceIdeal.main_arg4)) (m ((c.tc : Thread Cert.FeaturesReferenceIdeal.nD Cert.FeaturesReferenceIdeal.τ).loc Cert.FeaturesReferenceIdeal.main_arg5)) (m ((c.tc : Thread Cert.FeaturesReferenceIdeal.nD Cert.FeaturesReferenceIdeal.τ).loc Cert.FeaturesReferenceIdeal.main_arg6)) (m ((c.tc : Thread Cert.FeaturesReferenceIdeal.nD Cert.FeaturesReferenceIdeal.τ).loc Cert.FeaturesReferenceIdeal.main_arg7)) (m ((c.tc : Thread Cert.FeaturesReferenceIdeal.nD Cert.FeaturesReferenceIdeal.τ).loc Cert.FeaturesReferenceIdeal.main_arg8)) (m ((c.tc : Thread Cert.FeaturesReferenceIdeal.nD Cert.FeaturesReferenceIdeal.τ).loc Cert.FeaturesReferenceIdeal.main_arg9)) (m ((c.tc : Thread Cert.FeaturesReferenceIdeal.nD Cert.FeaturesReferenceIdeal.τ).loc Cert.FeaturesReferenceIdeal.main_arg10)) (m ((c.tc : Thread Cert.FeaturesReferenceIdeal.nD Cert.FeaturesReferenceIdeal.τ).loc Cert.FeaturesReferenceIdeal.main_arg11)) (m ((c.tc : Thread Cert.FeaturesReferenceIdeal.nD Cert.FeaturesReferenceIdeal.τ).loc Cert.FeaturesReferenceIdeal.main_arg12)) (m ((c.tc : Thread Cert.FeaturesReferenceIdeal.nD Cert.FeaturesReferenceIdeal.τ).loc Cert.FeaturesReferenceIdeal.main_arg13)) (m ((c.tc : Thread Cert.FeaturesReferenceIdeal.nD Cert.FeaturesReferenceIdeal.τ).loc Cert.FeaturesReferenceIdeal.main_arg14)) (m ((c.tc : Thread Cert.FeaturesReferenceIdeal.nD Cert.FeaturesReferenceIdeal.τ).loc Cert.FeaturesReferenceIdeal.main_arg15))) = (fun _ => 1#1)

def Pre_SecondPlainIdeal (m : (ℓ : Loc Cert.SecondPlainIdeal.nD Cert.SecondPlainIdeal.τ Cert.SecondPlainIdeal.sig) → Buf (Elt Ideal) ℓ) : Prop :=
  True

def Pre_SecondPlainIdeal_linked2 [hPre_linked2 : Cert.Pre_linked2.Facts] (m : (ℓ : Loc Cert.SecondPlainIdeal.nD Cert.SecondPlainIdeal.τ Cert.SecondPlainIdeal.sig) → Buf (Elt Ideal) ℓ) : Prop :=
  ∀ c : Dev Cert.SecondPlainIdeal.nD,
    (Cert.Pre_linked2.fn (F := Ideal) (m ((c.tc : Thread Cert.SecondPlainIdeal.nD Cert.SecondPlainIdeal.τ).loc Cert.SecondPlainIdeal.main_arg0)) (m ((c.tc : Thread Cert.SecondPlainIdeal.nD Cert.SecondPlainIdeal.τ).loc Cert.SecondPlainIdeal.main_arg1)) (m ((c.tc : Thread Cert.SecondPlainIdeal.nD Cert.SecondPlainIdeal.τ).loc Cert.SecondPlainIdeal.main_arg2)) (m ((c.tc : Thread Cert.SecondPlainIdeal.nD Cert.SecondPlainIdeal.τ).loc Cert.SecondPlainIdeal.main_arg3)) (m ((c.tc : Thread Cert.SecondPlainIdeal.nD Cert.SecondPlainIdeal.τ).loc Cert.SecondPlainIdeal.main_arg4)) (m ((c.tc : Thread Cert.SecondPlainIdeal.nD Cert.SecondPlainIdeal.τ).loc Cert.SecondPlainIdeal.main_arg5)) (m ((c.tc : Thread Cert.SecondPlainIdeal.nD Cert.SecondPlainIdeal.τ).loc Cert.SecondPlainIdeal.main_arg6)) (m ((c.tc : Thread Cert.SecondPlainIdeal.nD Cert.SecondPlainIdeal.τ).loc Cert.SecondPlainIdeal.main_arg7))) = (fun _ => 1#1)

def Pre_ThirdPlainIdeal (m : (ℓ : Loc Cert.ThirdPlainIdeal.nD Cert.ThirdPlainIdeal.τ Cert.ThirdPlainIdeal.sig) → Buf (Elt Ideal) ℓ) : Prop :=
  True

def Pre_ThirdPlainIdeal_linked3 [hPre_linked3 : Cert.Pre_linked3.Facts] (m : (ℓ : Loc Cert.ThirdPlainIdeal.nD Cert.ThirdPlainIdeal.τ Cert.ThirdPlainIdeal.sig) → Buf (Elt Ideal) ℓ) : Prop :=
  ∀ c : Dev Cert.ThirdPlainIdeal.nD,
    (Cert.Pre_linked3.fn (F := Ideal) (m ((c.tc : Thread Cert.ThirdPlainIdeal.nD Cert.ThirdPlainIdeal.τ).loc Cert.ThirdPlainIdeal.main_arg0)) (m ((c.tc : Thread Cert.ThirdPlainIdeal.nD Cert.ThirdPlainIdeal.τ).loc Cert.ThirdPlainIdeal.main_arg1)) (m ((c.tc : Thread Cert.ThirdPlainIdeal.nD Cert.ThirdPlainIdeal.τ).loc Cert.ThirdPlainIdeal.main_arg2)) (m ((c.tc : Thread Cert.ThirdPlainIdeal.nD Cert.ThirdPlainIdeal.τ).loc Cert.ThirdPlainIdeal.main_arg3)) (m ((c.tc : Thread Cert.ThirdPlainIdeal.nD Cert.ThirdPlainIdeal.τ).loc Cert.ThirdPlainIdeal.main_arg4)) (m ((c.tc : Thread Cert.ThirdPlainIdeal.nD Cert.ThirdPlainIdeal.τ).loc Cert.ThirdPlainIdeal.main_arg5)) (m ((c.tc : Thread Cert.ThirdPlainIdeal.nD Cert.ThirdPlainIdeal.τ).loc Cert.ThirdPlainIdeal.main_arg6)) (m ((c.tc : Thread Cert.ThirdPlainIdeal.nD Cert.ThirdPlainIdeal.τ).loc Cert.ThirdPlainIdeal.main_arg7)) (m ((c.tc : Thread Cert.ThirdPlainIdeal.nD Cert.ThirdPlainIdeal.τ).loc Cert.ThirdPlainIdeal.main_arg8)) (m ((c.tc : Thread Cert.ThirdPlainIdeal.nD Cert.ThirdPlainIdeal.τ).loc Cert.ThirdPlainIdeal.main_arg9)) (m ((c.tc : Thread Cert.ThirdPlainIdeal.nD Cert.ThirdPlainIdeal.τ).loc Cert.ThirdPlainIdeal.main_arg10)) (m ((c.tc : Thread Cert.ThirdPlainIdeal.nD Cert.ThirdPlainIdeal.τ).loc Cert.ThirdPlainIdeal.main_arg11)) (m ((c.tc : Thread Cert.ThirdPlainIdeal.nD Cert.ThirdPlainIdeal.τ).loc Cert.ThirdPlainIdeal.main_arg12))) = (fun _ => 1#1)

def Pre_FeaturesPlainIdeal (m : (ℓ : Loc Cert.FeaturesPlainIdeal.nD Cert.FeaturesPlainIdeal.τ Cert.FeaturesPlainIdeal.sig) → Buf (Elt Ideal) ℓ) : Prop :=
  True

def Pre_FeaturesPlainIdeal_linked4 [hPre_linked4 : Cert.Pre_linked4.Facts] (m : (ℓ : Loc Cert.FeaturesPlainIdeal.nD Cert.FeaturesPlainIdeal.τ Cert.FeaturesPlainIdeal.sig) → Buf (Elt Ideal) ℓ) : Prop :=
  ∀ c : Dev Cert.FeaturesPlainIdeal.nD,
    (Cert.Pre_linked4.fn (F := Ideal) (m ((c.tc : Thread Cert.FeaturesPlainIdeal.nD Cert.FeaturesPlainIdeal.τ).loc Cert.FeaturesPlainIdeal.main_arg0)) (m ((c.tc : Thread Cert.FeaturesPlainIdeal.nD Cert.FeaturesPlainIdeal.τ).loc Cert.FeaturesPlainIdeal.main_arg1)) (m ((c.tc : Thread Cert.FeaturesPlainIdeal.nD Cert.FeaturesPlainIdeal.τ).loc Cert.FeaturesPlainIdeal.main_arg2)) (m ((c.tc : Thread Cert.FeaturesPlainIdeal.nD Cert.FeaturesPlainIdeal.τ).loc Cert.FeaturesPlainIdeal.main_arg3)) (m ((c.tc : Thread Cert.FeaturesPlainIdeal.nD Cert.FeaturesPlainIdeal.τ).loc Cert.FeaturesPlainIdeal.main_arg4)) (m ((c.tc : Thread Cert.FeaturesPlainIdeal.nD Cert.FeaturesPlainIdeal.τ).loc Cert.FeaturesPlainIdeal.main_arg5)) (m ((c.tc : Thread Cert.FeaturesPlainIdeal.nD Cert.FeaturesPlainIdeal.τ).loc Cert.FeaturesPlainIdeal.main_arg6)) (m ((c.tc : Thread Cert.FeaturesPlainIdeal.nD Cert.FeaturesPlainIdeal.τ).loc Cert.FeaturesPlainIdeal.main_arg7)) (m ((c.tc : Thread Cert.FeaturesPlainIdeal.nD Cert.FeaturesPlainIdeal.τ).loc Cert.FeaturesPlainIdeal.main_arg8)) (m ((c.tc : Thread Cert.FeaturesPlainIdeal.nD Cert.FeaturesPlainIdeal.τ).loc Cert.FeaturesPlainIdeal.main_arg9)) (m ((c.tc : Thread Cert.FeaturesPlainIdeal.nD Cert.FeaturesPlainIdeal.τ).loc Cert.FeaturesPlainIdeal.main_arg10)) (m ((c.tc : Thread Cert.FeaturesPlainIdeal.nD Cert.FeaturesPlainIdeal.τ).loc Cert.FeaturesPlainIdeal.main_arg11)) (m ((c.tc : Thread Cert.FeaturesPlainIdeal.nD Cert.FeaturesPlainIdeal.τ).loc Cert.FeaturesPlainIdeal.main_arg12)) (m ((c.tc : Thread Cert.FeaturesPlainIdeal.nD Cert.FeaturesPlainIdeal.τ).loc Cert.FeaturesPlainIdeal.main_arg13)) (m ((c.tc : Thread Cert.FeaturesPlainIdeal.nD Cert.FeaturesPlainIdeal.τ).loc Cert.FeaturesPlainIdeal.main_arg14)) (m ((c.tc : Thread Cert.FeaturesPlainIdeal.nD Cert.FeaturesPlainIdeal.τ).loc Cert.FeaturesPlainIdeal.main_arg15))) = (fun _ => 1#1)

def quiescent_Kernel [hKernel : Cert.Kernel.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_valid : Cert.Pre_valid.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Cells [hCells : Cert.Cells.Facts] : Prop :=
  ∀ (m : (ℓ : Loc Cert.Cells.nD Cert.Cells.τ Cert.Cells.sig) → Buf (Elt Bits) ℓ) (g : Dev Cert.Cells.nD → PrngReg), Pre_Cells m →
    θ_run (Cert.Cells.defs (F := Bits)) (onTc (τ := Cert.Cells.τ) (Cert.Cells.main (F := Bits))) ⟨m, fun _ => 0, g⟩ (fun r => (∀ c : Dev Cert.Cells.nD,
      r.2.mem ((c.tc : Thread Cert.Cells.nD Cert.Cells.τ).loc Cert.Cells.main_arg0) = m ((c.tc : Thread Cert.Cells.nD Cert.Cells.τ).loc Cert.Cells.main_arg0)
      ∧ r.2.mem ((c.tc : Thread Cert.Cells.nD Cert.Cells.τ).loc Cert.Cells.main_arg1) = m ((c.tc : Thread Cert.Cells.nD Cert.Cells.τ).loc Cert.Cells.main_arg1)
      ∧ r.2.mem ((c.tc : Thread Cert.Cells.nD Cert.Cells.τ).loc Cert.Cells.main_arg2) = m ((c.tc : Thread Cert.Cells.nD Cert.Cells.τ).loc Cert.Cells.main_arg2))
      ∧ r.2.sem = fun _ => 0)

def quiescent_CellsIdeal [hCellsIdeal : Cert.CellsIdeal.Facts] : Prop :=
  ∀ (m : (ℓ : Loc Cert.CellsIdeal.nD Cert.CellsIdeal.τ Cert.CellsIdeal.sig) → Buf (Elt Ideal) ℓ) (g : Dev Cert.CellsIdeal.nD → PrngReg), Pre_CellsIdeal m →
    θ_run (Cert.CellsIdeal.defs (F := Ideal)) (onTc (τ := Cert.CellsIdeal.τ) (Cert.CellsIdeal.main (F := Ideal))) ⟨m, fun _ => 0, g⟩ (fun r => (∀ c : Dev Cert.CellsIdeal.nD,
      r.2.mem ((c.tc : Thread Cert.CellsIdeal.nD Cert.CellsIdeal.τ).loc Cert.CellsIdeal.main_arg0) = m ((c.tc : Thread Cert.CellsIdeal.nD Cert.CellsIdeal.τ).loc Cert.CellsIdeal.main_arg0)
      ∧ r.2.mem ((c.tc : Thread Cert.CellsIdeal.nD Cert.CellsIdeal.τ).loc Cert.CellsIdeal.main_arg1) = m ((c.tc : Thread Cert.CellsIdeal.nD Cert.CellsIdeal.τ).loc Cert.CellsIdeal.main_arg1)
      ∧ r.2.mem ((c.tc : Thread Cert.CellsIdeal.nD Cert.CellsIdeal.τ).loc Cert.CellsIdeal.main_arg2) = m ((c.tc : Thread Cert.CellsIdeal.nD Cert.CellsIdeal.τ).loc Cert.CellsIdeal.main_arg2))
      ∧ r.2.sem = fun _ => 0)

def quiescent_CellsReferenceIdeal [hCellsReferenceIdeal : Cert.CellsReferenceIdeal.Facts] : Prop :=
  ∀ (m : (ℓ : Loc Cert.CellsReferenceIdeal.nD Cert.CellsReferenceIdeal.τ Cert.CellsReferenceIdeal.sig) → Buf (Elt Ideal) ℓ) (g : Dev Cert.CellsReferenceIdeal.nD → PrngReg), Pre_CellsReferenceIdeal m →
    θ_run (Cert.CellsReferenceIdeal.defs (F := Ideal)) (onTc (τ := Cert.CellsReferenceIdeal.τ) (Cert.CellsReferenceIdeal.main (F := Ideal))) ⟨m, fun _ => 0, g⟩ (fun r => (∀ c : Dev Cert.CellsReferenceIdeal.nD,
      r.2.mem ((c.tc : Thread Cert.CellsReferenceIdeal.nD Cert.CellsReferenceIdeal.τ).loc Cert.CellsReferenceIdeal.main_arg0) = m ((c.tc : Thread Cert.CellsReferenceIdeal.nD Cert.CellsReferenceIdeal.τ).loc Cert.CellsReferenceIdeal.main_arg0)
      ∧ r.2.mem ((c.tc : Thread Cert.CellsReferenceIdeal.nD Cert.CellsReferenceIdeal.τ).loc Cert.CellsReferenceIdeal.main_arg1) = m ((c.tc : Thread Cert.CellsReferenceIdeal.nD Cert.CellsReferenceIdeal.τ).loc Cert.CellsReferenceIdeal.main_arg1)
      ∧ r.2.mem ((c.tc : Thread Cert.CellsReferenceIdeal.nD Cert.CellsReferenceIdeal.τ).loc Cert.CellsReferenceIdeal.main_arg2) = m ((c.tc : Thread Cert.CellsReferenceIdeal.nD Cert.CellsReferenceIdeal.τ).loc Cert.CellsReferenceIdeal.main_arg2))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ r.2.sem = fun _ => 0)

def quiescent_SecondIdeal_pre_sound2 [hSecondIdeal : Cert.SecondIdeal.Facts] [hPre_sound2 : Cert.Pre_sound2.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_sound2 m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ r.2.sem = fun _ => 0)

def quiescent_SecondIdeal_pre_linked2 [hSecondIdeal : Cert.SecondIdeal.Facts] [hPre_linked2 : Cert.Pre_linked2.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_linked2 m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7))
      ∧ r.2.sem = fun _ => 0)

def quiescent_SecondReferenceIdeal_pre_sound2 [hSecondReferenceIdeal : Cert.SecondReferenceIdeal.Facts] [hPre_sound2 : Cert.Pre_sound2.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal_sound2 m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7))
      ∧ r.2.sem = fun _ => 0)

def quiescent_Third [hThird : Cert.Third.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2)
      ∧ r.2.mem ((c.tc : Thread Cert.Third.nD Cert.Third.τ).loc Cert.Third.main_arg3) = m ((c.tc : Thread Cert.Third.nD Cert.Third.τ).loc Cert.Third.main_arg3)
      ∧ r.2.mem ((c.tc : Thread Cert.Third.nD Cert.Third.τ).loc Cert.Third.main_arg4) = m ((c.tc : Thread Cert.Third.nD Cert.Third.τ).loc Cert.Third.main_arg4)
      ∧ r.2.mem ((c.tc : Thread Cert.Third.nD Cert.Third.τ).loc Cert.Third.main_arg5) = m ((c.tc : Thread Cert.Third.nD Cert.Third.τ).loc Cert.Third.main_arg5)
      ∧ r.2.mem ((c.tc : Thread Cert.Third.nD Cert.Third.τ).loc Cert.Third.main_arg6) = m ((c.tc : Thread Cert.Third.nD Cert.Third.τ).loc Cert.Third.main_arg6)
      ∧ r.2.mem ((c.tc : Thread Cert.Third.nD Cert.Third.τ).loc Cert.Third.main_arg7) = m ((c.tc : Thread Cert.Third.nD Cert.Third.τ).loc Cert.Third.main_arg7)
      ∧ r.2.mem ((c.tc : Thread Cert.Third.nD Cert.Third.τ).loc Cert.Third.main_arg8) = m ((c.tc : Thread Cert.Third.nD Cert.Third.τ).loc Cert.Third.main_arg8)
      ∧ r.2.mem ((c.tc : Thread Cert.Third.nD Cert.Third.τ).loc Cert.Third.main_arg9) = m ((c.tc : Thread Cert.Third.nD Cert.Third.τ).loc Cert.Third.main_arg9)
      ∧ r.2.mem ((c.tc : Thread Cert.Third.nD Cert.Third.τ).loc Cert.Third.main_arg10) = m ((c.tc : Thread Cert.Third.nD Cert.Third.τ).loc Cert.Third.main_arg10)
      ∧ r.2.mem ((c.tc : Thread Cert.Third.nD Cert.Third.τ).loc Cert.Third.main_arg11) = m ((c.tc : Thread Cert.Third.nD Cert.Third.τ).loc Cert.Third.main_arg11)
      ∧ r.2.mem ((c.tc : Thread Cert.Third.nD Cert.Third.τ).loc Cert.Third.main_arg12) = m ((c.tc : Thread Cert.Third.nD Cert.Third.τ).loc Cert.Third.main_arg12))
      ∧ r.2.sem = fun _ => 0)

def quiescent_ThirdIdeal [hThirdIdeal : Cert.ThirdIdeal.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
      ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
      ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
      ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
      ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10)
      ∧ r.2.mem ((c.tc : Thread Cert.ThirdIdeal.nD Cert.ThirdIdeal.τ).loc Cert.ThirdIdeal.main_arg11) = m ((c.tc : Thread Cert.ThirdIdeal.nD Cert.ThirdIdeal.τ).loc Cert.ThirdIdeal.main_arg11)
      ∧ r.2.mem ((c.tc : Thread Cert.ThirdIdeal.nD Cert.ThirdIdeal.τ).loc Cert.ThirdIdeal.main_arg12) = m ((c.tc : Thread Cert.ThirdIdeal.nD Cert.ThirdIdeal.τ).loc Cert.ThirdIdeal.main_arg12))
      ∧ r.2.sem = fun _ => 0)

def quiescent_ThirdIdeal_pre_sound3 [hThirdIdeal : Cert.ThirdIdeal.Facts] [hPre_sound3 : Cert.Pre_sound3.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal_sound3 m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
      ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
      ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
      ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
      ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10)
      ∧ r.2.mem ((c.tc : Thread Cert.ThirdIdeal.nD Cert.ThirdIdeal.τ).loc Cert.ThirdIdeal.main_arg11) = m ((c.tc : Thread Cert.ThirdIdeal.nD Cert.ThirdIdeal.τ).loc Cert.ThirdIdeal.main_arg11)
      ∧ r.2.mem ((c.tc : Thread Cert.ThirdIdeal.nD Cert.ThirdIdeal.τ).loc Cert.ThirdIdeal.main_arg12) = m ((c.tc : Thread Cert.ThirdIdeal.nD Cert.ThirdIdeal.τ).loc Cert.ThirdIdeal.main_arg12))
      ∧ r.2.sem = fun _ => 0)

def quiescent_ThirdIdeal_pre_linked3 [hThirdIdeal : Cert.ThirdIdeal.Facts] [hPre_linked3 : Cert.Pre_linked3.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal_linked3 m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
      ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
      ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
      ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
      ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10)
      ∧ r.2.mem ((c.tc : Thread Cert.ThirdIdeal.nD Cert.ThirdIdeal.τ).loc Cert.ThirdIdeal.main_arg11) = m ((c.tc : Thread Cert.ThirdIdeal.nD Cert.ThirdIdeal.τ).loc Cert.ThirdIdeal.main_arg11)
      ∧ r.2.mem ((c.tc : Thread Cert.ThirdIdeal.nD Cert.ThirdIdeal.τ).loc Cert.ThirdIdeal.main_arg12) = m ((c.tc : Thread Cert.ThirdIdeal.nD Cert.ThirdIdeal.τ).loc Cert.ThirdIdeal.main_arg12))
      ∧ r.2.sem = fun _ => 0)

def quiescent_ThirdReferenceIdeal [hThirdReferenceIdeal : Cert.ThirdReferenceIdeal.Facts] : Prop :=
  ∀ (m : (ℓ : Loc Cert.ThirdReferenceIdeal.nD Cert.ThirdReferenceIdeal.τ Cert.ThirdReferenceIdeal.sig) → Buf (Elt Ideal) ℓ) (g : Dev Cert.ThirdReferenceIdeal.nD → PrngReg), Pre_ThirdReferenceIdeal m →
    θ_run (Cert.ThirdReferenceIdeal.defs (F := Ideal)) (onTc (τ := Cert.ThirdReferenceIdeal.τ) (Cert.ThirdReferenceIdeal.main (F := Ideal))) ⟨m, fun _ => 0, g⟩ (fun r => (∀ c : Dev Cert.ThirdReferenceIdeal.nD,
      r.2.mem ((c.tc : Thread Cert.ThirdReferenceIdeal.nD Cert.ThirdReferenceIdeal.τ).loc Cert.ThirdReferenceIdeal.main_arg0) = m ((c.tc : Thread Cert.ThirdReferenceIdeal.nD Cert.ThirdReferenceIdeal.τ).loc Cert.ThirdReferenceIdeal.main_arg0)
      ∧ r.2.mem ((c.tc : Thread Cert.ThirdReferenceIdeal.nD Cert.ThirdReferenceIdeal.τ).loc Cert.ThirdReferenceIdeal.main_arg1) = m ((c.tc : Thread Cert.ThirdReferenceIdeal.nD Cert.ThirdReferenceIdeal.τ).loc Cert.ThirdReferenceIdeal.main_arg1)
      ∧ r.2.mem ((c.tc : Thread Cert.ThirdReferenceIdeal.nD Cert.ThirdReferenceIdeal.τ).loc Cert.ThirdReferenceIdeal.main_arg2) = m ((c.tc : Thread Cert.ThirdReferenceIdeal.nD Cert.ThirdReferenceIdeal.τ).loc Cert.ThirdReferenceIdeal.main_arg2)
      ∧ r.2.mem ((c.tc : Thread Cert.ThirdReferenceIdeal.nD Cert.ThirdReferenceIdeal.τ).loc Cert.ThirdReferenceIdeal.main_arg3) = m ((c.tc : Thread Cert.ThirdReferenceIdeal.nD Cert.ThirdReferenceIdeal.τ).loc Cert.ThirdReferenceIdeal.main_arg3)
      ∧ r.2.mem ((c.tc : Thread Cert.ThirdReferenceIdeal.nD Cert.ThirdReferenceIdeal.τ).loc Cert.ThirdReferenceIdeal.main_arg4) = m ((c.tc : Thread Cert.ThirdReferenceIdeal.nD Cert.ThirdReferenceIdeal.τ).loc Cert.ThirdReferenceIdeal.main_arg4)
      ∧ r.2.mem ((c.tc : Thread Cert.ThirdReferenceIdeal.nD Cert.ThirdReferenceIdeal.τ).loc Cert.ThirdReferenceIdeal.main_arg5) = m ((c.tc : Thread Cert.ThirdReferenceIdeal.nD Cert.ThirdReferenceIdeal.τ).loc Cert.ThirdReferenceIdeal.main_arg5)
      ∧ r.2.mem ((c.tc : Thread Cert.ThirdReferenceIdeal.nD Cert.ThirdReferenceIdeal.τ).loc Cert.ThirdReferenceIdeal.main_arg6) = m ((c.tc : Thread Cert.ThirdReferenceIdeal.nD Cert.ThirdReferenceIdeal.τ).loc Cert.ThirdReferenceIdeal.main_arg6)
      ∧ r.2.mem ((c.tc : Thread Cert.ThirdReferenceIdeal.nD Cert.ThirdReferenceIdeal.τ).loc Cert.ThirdReferenceIdeal.main_arg7) = m ((c.tc : Thread Cert.ThirdReferenceIdeal.nD Cert.ThirdReferenceIdeal.τ).loc Cert.ThirdReferenceIdeal.main_arg7)
      ∧ r.2.mem ((c.tc : Thread Cert.ThirdReferenceIdeal.nD Cert.ThirdReferenceIdeal.τ).loc Cert.ThirdReferenceIdeal.main_arg8) = m ((c.tc : Thread Cert.ThirdReferenceIdeal.nD Cert.ThirdReferenceIdeal.τ).loc Cert.ThirdReferenceIdeal.main_arg8)
      ∧ r.2.mem ((c.tc : Thread Cert.ThirdReferenceIdeal.nD Cert.ThirdReferenceIdeal.τ).loc Cert.ThirdReferenceIdeal.main_arg9) = m ((c.tc : Thread Cert.ThirdReferenceIdeal.nD Cert.ThirdReferenceIdeal.τ).loc Cert.ThirdReferenceIdeal.main_arg9)
      ∧ r.2.mem ((c.tc : Thread Cert.ThirdReferenceIdeal.nD Cert.ThirdReferenceIdeal.τ).loc Cert.ThirdReferenceIdeal.main_arg10) = m ((c.tc : Thread Cert.ThirdReferenceIdeal.nD Cert.ThirdReferenceIdeal.τ).loc Cert.ThirdReferenceIdeal.main_arg10)
      ∧ r.2.mem ((c.tc : Thread Cert.ThirdReferenceIdeal.nD Cert.ThirdReferenceIdeal.τ).loc Cert.ThirdReferenceIdeal.main_arg11) = m ((c.tc : Thread Cert.ThirdReferenceIdeal.nD Cert.ThirdReferenceIdeal.τ).loc Cert.ThirdReferenceIdeal.main_arg11)
      ∧ r.2.mem ((c.tc : Thread Cert.ThirdReferenceIdeal.nD Cert.ThirdReferenceIdeal.τ).loc Cert.ThirdReferenceIdeal.main_arg12) = m ((c.tc : Thread Cert.ThirdReferenceIdeal.nD Cert.ThirdReferenceIdeal.τ).loc Cert.ThirdReferenceIdeal.main_arg12))
      ∧ r.2.sem = fun _ => 0)

def quiescent_ThirdReferenceIdeal_pre_sound3 [hThirdReferenceIdeal : Cert.ThirdReferenceIdeal.Facts] [hPre_sound3 : Cert.Pre_sound3.Facts] : Prop :=
  ∀ (m : (ℓ : Loc Cert.ThirdReferenceIdeal.nD Cert.ThirdReferenceIdeal.τ Cert.ThirdReferenceIdeal.sig) → Buf (Elt Ideal) ℓ) (g : Dev Cert.ThirdReferenceIdeal.nD → PrngReg), Pre_ThirdReferenceIdeal_sound3 m →
    θ_run (Cert.ThirdReferenceIdeal.defs (F := Ideal)) (onTc (τ := Cert.ThirdReferenceIdeal.τ) (Cert.ThirdReferenceIdeal.main (F := Ideal))) ⟨m, fun _ => 0, g⟩ (fun r => (∀ c : Dev Cert.ThirdReferenceIdeal.nD,
      r.2.mem ((c.tc : Thread Cert.ThirdReferenceIdeal.nD Cert.ThirdReferenceIdeal.τ).loc Cert.ThirdReferenceIdeal.main_arg0) = m ((c.tc : Thread Cert.ThirdReferenceIdeal.nD Cert.ThirdReferenceIdeal.τ).loc Cert.ThirdReferenceIdeal.main_arg0)
      ∧ r.2.mem ((c.tc : Thread Cert.ThirdReferenceIdeal.nD Cert.ThirdReferenceIdeal.τ).loc Cert.ThirdReferenceIdeal.main_arg1) = m ((c.tc : Thread Cert.ThirdReferenceIdeal.nD Cert.ThirdReferenceIdeal.τ).loc Cert.ThirdReferenceIdeal.main_arg1)
      ∧ r.2.mem ((c.tc : Thread Cert.ThirdReferenceIdeal.nD Cert.ThirdReferenceIdeal.τ).loc Cert.ThirdReferenceIdeal.main_arg2) = m ((c.tc : Thread Cert.ThirdReferenceIdeal.nD Cert.ThirdReferenceIdeal.τ).loc Cert.ThirdReferenceIdeal.main_arg2)
      ∧ r.2.mem ((c.tc : Thread Cert.ThirdReferenceIdeal.nD Cert.ThirdReferenceIdeal.τ).loc Cert.ThirdReferenceIdeal.main_arg3) = m ((c.tc : Thread Cert.ThirdReferenceIdeal.nD Cert.ThirdReferenceIdeal.τ).loc Cert.ThirdReferenceIdeal.main_arg3)
      ∧ r.2.mem ((c.tc : Thread Cert.ThirdReferenceIdeal.nD Cert.ThirdReferenceIdeal.τ).loc Cert.ThirdReferenceIdeal.main_arg4) = m ((c.tc : Thread Cert.ThirdReferenceIdeal.nD Cert.ThirdReferenceIdeal.τ).loc Cert.ThirdReferenceIdeal.main_arg4)
      ∧ r.2.mem ((c.tc : Thread Cert.ThirdReferenceIdeal.nD Cert.ThirdReferenceIdeal.τ).loc Cert.ThirdReferenceIdeal.main_arg5) = m ((c.tc : Thread Cert.ThirdReferenceIdeal.nD Cert.ThirdReferenceIdeal.τ).loc Cert.ThirdReferenceIdeal.main_arg5)
      ∧ r.2.mem ((c.tc : Thread Cert.ThirdReferenceIdeal.nD Cert.ThirdReferenceIdeal.τ).loc Cert.ThirdReferenceIdeal.main_arg6) = m ((c.tc : Thread Cert.ThirdReferenceIdeal.nD Cert.ThirdReferenceIdeal.τ).loc Cert.ThirdReferenceIdeal.main_arg6)
      ∧ r.2.mem ((c.tc : Thread Cert.ThirdReferenceIdeal.nD Cert.ThirdReferenceIdeal.τ).loc Cert.ThirdReferenceIdeal.main_arg7) = m ((c.tc : Thread Cert.ThirdReferenceIdeal.nD Cert.ThirdReferenceIdeal.τ).loc Cert.ThirdReferenceIdeal.main_arg7)
      ∧ r.2.mem ((c.tc : Thread Cert.ThirdReferenceIdeal.nD Cert.ThirdReferenceIdeal.τ).loc Cert.ThirdReferenceIdeal.main_arg8) = m ((c.tc : Thread Cert.ThirdReferenceIdeal.nD Cert.ThirdReferenceIdeal.τ).loc Cert.ThirdReferenceIdeal.main_arg8)
      ∧ r.2.mem ((c.tc : Thread Cert.ThirdReferenceIdeal.nD Cert.ThirdReferenceIdeal.τ).loc Cert.ThirdReferenceIdeal.main_arg9) = m ((c.tc : Thread Cert.ThirdReferenceIdeal.nD Cert.ThirdReferenceIdeal.τ).loc Cert.ThirdReferenceIdeal.main_arg9)
      ∧ r.2.mem ((c.tc : Thread Cert.ThirdReferenceIdeal.nD Cert.ThirdReferenceIdeal.τ).loc Cert.ThirdReferenceIdeal.main_arg10) = m ((c.tc : Thread Cert.ThirdReferenceIdeal.nD Cert.ThirdReferenceIdeal.τ).loc Cert.ThirdReferenceIdeal.main_arg10)
      ∧ r.2.mem ((c.tc : Thread Cert.ThirdReferenceIdeal.nD Cert.ThirdReferenceIdeal.τ).loc Cert.ThirdReferenceIdeal.main_arg11) = m ((c.tc : Thread Cert.ThirdReferenceIdeal.nD Cert.ThirdReferenceIdeal.τ).loc Cert.ThirdReferenceIdeal.main_arg11)
      ∧ r.2.mem ((c.tc : Thread Cert.ThirdReferenceIdeal.nD Cert.ThirdReferenceIdeal.τ).loc Cert.ThirdReferenceIdeal.main_arg12) = m ((c.tc : Thread Cert.ThirdReferenceIdeal.nD Cert.ThirdReferenceIdeal.τ).loc Cert.ThirdReferenceIdeal.main_arg12))
      ∧ r.2.sem = fun _ => 0)

def quiescent_Features [hFeatures : Cert.Features.Facts] : Prop :=
  ∀ (m : (ℓ : Loc Cert.Features.nD Cert.Features.τ Cert.Features.sig) → Buf (Elt Bits) ℓ) (g : Dev Cert.Features.nD → PrngReg), Pre_Features m →
    θ_run (Cert.Features.defs (F := Bits)) (onTc (τ := Cert.Features.τ) (Cert.Features.main (F := Bits))) ⟨m, fun _ => 0, g⟩ (fun r => (∀ c : Dev Cert.Features.nD,
      r.2.mem ((c.tc : Thread Cert.Features.nD Cert.Features.τ).loc Cert.Features.main_arg0) = m ((c.tc : Thread Cert.Features.nD Cert.Features.τ).loc Cert.Features.main_arg0)
      ∧ r.2.mem ((c.tc : Thread Cert.Features.nD Cert.Features.τ).loc Cert.Features.main_arg1) = m ((c.tc : Thread Cert.Features.nD Cert.Features.τ).loc Cert.Features.main_arg1)
      ∧ r.2.mem ((c.tc : Thread Cert.Features.nD Cert.Features.τ).loc Cert.Features.main_arg2) = m ((c.tc : Thread Cert.Features.nD Cert.Features.τ).loc Cert.Features.main_arg2)
      ∧ r.2.mem ((c.tc : Thread Cert.Features.nD Cert.Features.τ).loc Cert.Features.main_arg3) = m ((c.tc : Thread Cert.Features.nD Cert.Features.τ).loc Cert.Features.main_arg3)
      ∧ r.2.mem ((c.tc : Thread Cert.Features.nD Cert.Features.τ).loc Cert.Features.main_arg4) = m ((c.tc : Thread Cert.Features.nD Cert.Features.τ).loc Cert.Features.main_arg4)
      ∧ r.2.mem ((c.tc : Thread Cert.Features.nD Cert.Features.τ).loc Cert.Features.main_arg5) = m ((c.tc : Thread Cert.Features.nD Cert.Features.τ).loc Cert.Features.main_arg5)
      ∧ r.2.mem ((c.tc : Thread Cert.Features.nD Cert.Features.τ).loc Cert.Features.main_arg6) = m ((c.tc : Thread Cert.Features.nD Cert.Features.τ).loc Cert.Features.main_arg6)
      ∧ r.2.mem ((c.tc : Thread Cert.Features.nD Cert.Features.τ).loc Cert.Features.main_arg7) = m ((c.tc : Thread Cert.Features.nD Cert.Features.τ).loc Cert.Features.main_arg7)
      ∧ r.2.mem ((c.tc : Thread Cert.Features.nD Cert.Features.τ).loc Cert.Features.main_arg8) = m ((c.tc : Thread Cert.Features.nD Cert.Features.τ).loc Cert.Features.main_arg8)
      ∧ r.2.mem ((c.tc : Thread Cert.Features.nD Cert.Features.τ).loc Cert.Features.main_arg9) = m ((c.tc : Thread Cert.Features.nD Cert.Features.τ).loc Cert.Features.main_arg9)
      ∧ r.2.mem ((c.tc : Thread Cert.Features.nD Cert.Features.τ).loc Cert.Features.main_arg10) = m ((c.tc : Thread Cert.Features.nD Cert.Features.τ).loc Cert.Features.main_arg10)
      ∧ r.2.mem ((c.tc : Thread Cert.Features.nD Cert.Features.τ).loc Cert.Features.main_arg11) = m ((c.tc : Thread Cert.Features.nD Cert.Features.τ).loc Cert.Features.main_arg11)
      ∧ r.2.mem ((c.tc : Thread Cert.Features.nD Cert.Features.τ).loc Cert.Features.main_arg12) = m ((c.tc : Thread Cert.Features.nD Cert.Features.τ).loc Cert.Features.main_arg12)
      ∧ r.2.mem ((c.tc : Thread Cert.Features.nD Cert.Features.τ).loc Cert.Features.main_arg13) = m ((c.tc : Thread Cert.Features.nD Cert.Features.τ).loc Cert.Features.main_arg13)
      ∧ r.2.mem ((c.tc : Thread Cert.Features.nD Cert.Features.τ).loc Cert.Features.main_arg14) = m ((c.tc : Thread Cert.Features.nD Cert.Features.τ).loc Cert.Features.main_arg14)
      ∧ r.2.mem ((c.tc : Thread Cert.Features.nD Cert.Features.τ).loc Cert.Features.main_arg15) = m ((c.tc : Thread Cert.Features.nD Cert.Features.τ).loc Cert.Features.main_arg15))
      ∧ r.2.sem = fun _ => 0)

def quiescent_FeaturesIdeal [hFeaturesIdeal : Cert.FeaturesIdeal.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
      ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
      ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
      ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
      ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11)
      ∧ r.2.mem ((c.tc : Thread Cert.FeaturesIdeal.nD Cert.FeaturesIdeal.τ).loc Cert.FeaturesIdeal.main_arg12) = m ((c.tc : Thread Cert.FeaturesIdeal.nD Cert.FeaturesIdeal.τ).loc Cert.FeaturesIdeal.main_arg12)
      ∧ r.2.mem ((c.tc : Thread Cert.FeaturesIdeal.nD Cert.FeaturesIdeal.τ).loc Cert.FeaturesIdeal.main_arg13) = m ((c.tc : Thread Cert.FeaturesIdeal.nD Cert.FeaturesIdeal.τ).loc Cert.FeaturesIdeal.main_arg13)
      ∧ r.2.mem ((c.tc : Thread Cert.FeaturesIdeal.nD Cert.FeaturesIdeal.τ).loc Cert.FeaturesIdeal.main_arg14) = m ((c.tc : Thread Cert.FeaturesIdeal.nD Cert.FeaturesIdeal.τ).loc Cert.FeaturesIdeal.main_arg14)
      ∧ r.2.mem ((c.tc : Thread Cert.FeaturesIdeal.nD Cert.FeaturesIdeal.τ).loc Cert.FeaturesIdeal.main_arg15) = m ((c.tc : Thread Cert.FeaturesIdeal.nD Cert.FeaturesIdeal.τ).loc Cert.FeaturesIdeal.main_arg15))
      ∧ r.2.sem = fun _ => 0)

def quiescent_FeaturesIdeal_pre_sound4 [hFeaturesIdeal : Cert.FeaturesIdeal.Facts] [hPre_sound4 : Cert.Pre_sound4.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal_sound4 m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
      ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
      ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
      ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
      ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11)
      ∧ r.2.mem ((c.tc : Thread Cert.FeaturesIdeal.nD Cert.FeaturesIdeal.τ).loc Cert.FeaturesIdeal.main_arg12) = m ((c.tc : Thread Cert.FeaturesIdeal.nD Cert.FeaturesIdeal.τ).loc Cert.FeaturesIdeal.main_arg12)
      ∧ r.2.mem ((c.tc : Thread Cert.FeaturesIdeal.nD Cert.FeaturesIdeal.τ).loc Cert.FeaturesIdeal.main_arg13) = m ((c.tc : Thread Cert.FeaturesIdeal.nD Cert.FeaturesIdeal.τ).loc Cert.FeaturesIdeal.main_arg13)
      ∧ r.2.mem ((c.tc : Thread Cert.FeaturesIdeal.nD Cert.FeaturesIdeal.τ).loc Cert.FeaturesIdeal.main_arg14) = m ((c.tc : Thread Cert.FeaturesIdeal.nD Cert.FeaturesIdeal.τ).loc Cert.FeaturesIdeal.main_arg14)
      ∧ r.2.mem ((c.tc : Thread Cert.FeaturesIdeal.nD Cert.FeaturesIdeal.τ).loc Cert.FeaturesIdeal.main_arg15) = m ((c.tc : Thread Cert.FeaturesIdeal.nD Cert.FeaturesIdeal.τ).loc Cert.FeaturesIdeal.main_arg15))
      ∧ r.2.sem = fun _ => 0)

def quiescent_FeaturesIdeal_pre_linked4 [hFeaturesIdeal : Cert.FeaturesIdeal.Facts] [hPre_linked4 : Cert.Pre_linked4.Facts] : Prop :=
  ∀ (m : (ℓ : Loc Cert.FeaturesIdeal.nD Cert.FeaturesIdeal.τ Cert.FeaturesIdeal.sig) → Buf (Elt Ideal) ℓ) (g : Dev Cert.FeaturesIdeal.nD → PrngReg), Pre_FeaturesIdeal_linked4 m →
    θ_run (Cert.FeaturesIdeal.defs (F := Ideal)) (onTc (τ := Cert.FeaturesIdeal.τ) (Cert.FeaturesIdeal.main (F := Ideal))) ⟨m, fun _ => 0, g⟩ (fun r => (∀ c : Dev Cert.FeaturesIdeal.nD,
      r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
      ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
      ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
      ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
      ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
      ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
      ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
      ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
      ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
      ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
      ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
      ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11)
      ∧ r.2.mem ((c.tc : Thread Cert.FeaturesIdeal.nD Cert.FeaturesIdeal.τ).loc Cert.FeaturesIdeal.main_arg12) = m ((c.tc : Thread Cert.FeaturesIdeal.nD Cert.FeaturesIdeal.τ).loc Cert.FeaturesIdeal.main_arg12)
      ∧ r.2.mem ((c.tc : Thread Cert.FeaturesIdeal.nD Cert.FeaturesIdeal.τ).loc Cert.FeaturesIdeal.main_arg13) = m ((c.tc : Thread Cert.FeaturesIdeal.nD Cert.FeaturesIdeal.τ).loc Cert.FeaturesIdeal.main_arg13)
      ∧ r.2.mem ((c.tc : Thread Cert.FeaturesIdeal.nD Cert.FeaturesIdeal.τ).loc Cert.FeaturesIdeal.main_arg14) = m ((c.tc : Thread Cert.FeaturesIdeal.nD Cert.FeaturesIdeal.τ).loc Cert.FeaturesIdeal.main_arg14)
      ∧ r.2.mem ((c.tc : Thread Cert.FeaturesIdeal.nD Cert.FeaturesIdeal.τ).loc Cert.FeaturesIdeal.main_arg15) = m ((c.tc : Thread Cert.FeaturesIdeal.nD Cert.FeaturesIdeal.τ).loc Cert.FeaturesIdeal.main_arg15))
      ∧ r.2.sem = fun _ => 0)

def quiescent_FeaturesReferenceIdeal [hFeaturesReferenceIdeal : Cert.FeaturesReferenceIdeal.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4)
      ∧ r.2.mem ((c.tc : Thread Cert.FeaturesReferenceIdeal.nD Cert.FeaturesReferenceIdeal.τ).loc Cert.FeaturesReferenceIdeal.main_arg5) = m ((c.tc : Thread Cert.FeaturesReferenceIdeal.nD Cert.FeaturesReferenceIdeal.τ).loc Cert.FeaturesReferenceIdeal.main_arg5)
      ∧ r.2.mem ((c.tc : Thread Cert.FeaturesReferenceIdeal.nD Cert.FeaturesReferenceIdeal.τ).loc Cert.FeaturesReferenceIdeal.main_arg6) = m ((c.tc : Thread Cert.FeaturesReferenceIdeal.nD Cert.FeaturesReferenceIdeal.τ).loc Cert.FeaturesReferenceIdeal.main_arg6)
      ∧ r.2.mem ((c.tc : Thread Cert.FeaturesReferenceIdeal.nD Cert.FeaturesReferenceIdeal.τ).loc Cert.FeaturesReferenceIdeal.main_arg7) = m ((c.tc : Thread Cert.FeaturesReferenceIdeal.nD Cert.FeaturesReferenceIdeal.τ).loc Cert.FeaturesReferenceIdeal.main_arg7)
      ∧ r.2.mem ((c.tc : Thread Cert.FeaturesReferenceIdeal.nD Cert.FeaturesReferenceIdeal.τ).loc Cert.FeaturesReferenceIdeal.main_arg8) = m ((c.tc : Thread Cert.FeaturesReferenceIdeal.nD Cert.FeaturesReferenceIdeal.τ).loc Cert.FeaturesReferenceIdeal.main_arg8)
      ∧ r.2.mem ((c.tc : Thread Cert.FeaturesReferenceIdeal.nD Cert.FeaturesReferenceIdeal.τ).loc Cert.FeaturesReferenceIdeal.main_arg9) = m ((c.tc : Thread Cert.FeaturesReferenceIdeal.nD Cert.FeaturesReferenceIdeal.τ).loc Cert.FeaturesReferenceIdeal.main_arg9)
      ∧ r.2.mem ((c.tc : Thread Cert.FeaturesReferenceIdeal.nD Cert.FeaturesReferenceIdeal.τ).loc Cert.FeaturesReferenceIdeal.main_arg10) = m ((c.tc : Thread Cert.FeaturesReferenceIdeal.nD Cert.FeaturesReferenceIdeal.τ).loc Cert.FeaturesReferenceIdeal.main_arg10)
      ∧ r.2.mem ((c.tc : Thread Cert.FeaturesReferenceIdeal.nD Cert.FeaturesReferenceIdeal.τ).loc Cert.FeaturesReferenceIdeal.main_arg11) = m ((c.tc : Thread Cert.FeaturesReferenceIdeal.nD Cert.FeaturesReferenceIdeal.τ).loc Cert.FeaturesReferenceIdeal.main_arg11)
      ∧ r.2.mem ((c.tc : Thread Cert.FeaturesReferenceIdeal.nD Cert.FeaturesReferenceIdeal.τ).loc Cert.FeaturesReferenceIdeal.main_arg12) = m ((c.tc : Thread Cert.FeaturesReferenceIdeal.nD Cert.FeaturesReferenceIdeal.τ).loc Cert.FeaturesReferenceIdeal.main_arg12)
      ∧ r.2.mem ((c.tc : Thread Cert.FeaturesReferenceIdeal.nD Cert.FeaturesReferenceIdeal.τ).loc Cert.FeaturesReferenceIdeal.main_arg13) = m ((c.tc : Thread Cert.FeaturesReferenceIdeal.nD Cert.FeaturesReferenceIdeal.τ).loc Cert.FeaturesReferenceIdeal.main_arg13)
      ∧ r.2.mem ((c.tc : Thread Cert.FeaturesReferenceIdeal.nD Cert.FeaturesReferenceIdeal.τ).loc Cert.FeaturesReferenceIdeal.main_arg14) = m ((c.tc : Thread Cert.FeaturesReferenceIdeal.nD Cert.FeaturesReferenceIdeal.τ).loc Cert.FeaturesReferenceIdeal.main_arg14)
      ∧ r.2.mem ((c.tc : Thread Cert.FeaturesReferenceIdeal.nD Cert.FeaturesReferenceIdeal.τ).loc Cert.FeaturesReferenceIdeal.main_arg15) = m ((c.tc : Thread Cert.FeaturesReferenceIdeal.nD Cert.FeaturesReferenceIdeal.τ).loc Cert.FeaturesReferenceIdeal.main_arg15))
      ∧ r.2.sem = fun _ => 0)

def quiescent_FeaturesReferenceIdeal_pre_sound4 [hFeaturesReferenceIdeal : Cert.FeaturesReferenceIdeal.Facts] [hPre_sound4 : Cert.Pre_sound4.Facts] : Prop :=
  ∀ (m : (ℓ : Loc Cert.FeaturesReferenceIdeal.nD Cert.FeaturesReferenceIdeal.τ Cert.FeaturesReferenceIdeal.sig) → Buf (Elt Ideal) ℓ) (g : Dev Cert.FeaturesReferenceIdeal.nD → PrngReg), Pre_FeaturesReferenceIdeal_sound4 m →
    θ_run (Cert.FeaturesReferenceIdeal.defs (F := Ideal)) (onTc (τ := Cert.FeaturesReferenceIdeal.τ) (Cert.FeaturesReferenceIdeal.main (F := Ideal))) ⟨m, fun _ => 0, g⟩ (fun r => (∀ c : Dev Cert.FeaturesReferenceIdeal.nD,
      r.2.mem ((c.tc : Thread Cert.FeaturesReferenceIdeal.nD Cert.FeaturesReferenceIdeal.τ).loc Cert.FeaturesReferenceIdeal.main_arg0) = m ((c.tc : Thread Cert.FeaturesReferenceIdeal.nD Cert.FeaturesReferenceIdeal.τ).loc Cert.FeaturesReferenceIdeal.main_arg0)
      ∧ r.2.mem ((c.tc : Thread Cert.FeaturesReferenceIdeal.nD Cert.FeaturesReferenceIdeal.τ).loc Cert.FeaturesReferenceIdeal.main_arg1) = m ((c.tc : Thread Cert.FeaturesReferenceIdeal.nD Cert.FeaturesReferenceIdeal.τ).loc Cert.FeaturesReferenceIdeal.main_arg1)
      ∧ r.2.mem ((c.tc : Thread Cert.FeaturesReferenceIdeal.nD Cert.FeaturesReferenceIdeal.τ).loc Cert.FeaturesReferenceIdeal.main_arg2) = m ((c.tc : Thread Cert.FeaturesReferenceIdeal.nD Cert.FeaturesReferenceIdeal.τ).loc Cert.FeaturesReferenceIdeal.main_arg2)
      ∧ r.2.mem ((c.tc : Thread Cert.FeaturesReferenceIdeal.nD Cert.FeaturesReferenceIdeal.τ).loc Cert.FeaturesReferenceIdeal.main_arg3) = m ((c.tc : Thread Cert.FeaturesReferenceIdeal.nD Cert.FeaturesReferenceIdeal.τ).loc Cert.FeaturesReferenceIdeal.main_arg3)
      ∧ r.2.mem ((c.tc : Thread Cert.FeaturesReferenceIdeal.nD Cert.FeaturesReferenceIdeal.τ).loc Cert.FeaturesReferenceIdeal.main_arg4) = m ((c.tc : Thread Cert.FeaturesReferenceIdeal.nD Cert.FeaturesReferenceIdeal.τ).loc Cert.FeaturesReferenceIdeal.main_arg4)
      ∧ r.2.mem ((c.tc : Thread Cert.FeaturesReferenceIdeal.nD Cert.FeaturesReferenceIdeal.τ).loc Cert.FeaturesReferenceIdeal.main_arg5) = m ((c.tc : Thread Cert.FeaturesReferenceIdeal.nD Cert.FeaturesReferenceIdeal.τ).loc Cert.FeaturesReferenceIdeal.main_arg5)
      ∧ r.2.mem ((c.tc : Thread Cert.FeaturesReferenceIdeal.nD Cert.FeaturesReferenceIdeal.τ).loc Cert.FeaturesReferenceIdeal.main_arg6) = m ((c.tc : Thread Cert.FeaturesReferenceIdeal.nD Cert.FeaturesReferenceIdeal.τ).loc Cert.FeaturesReferenceIdeal.main_arg6)
      ∧ r.2.mem ((c.tc : Thread Cert.FeaturesReferenceIdeal.nD Cert.FeaturesReferenceIdeal.τ).loc Cert.FeaturesReferenceIdeal.main_arg7) = m ((c.tc : Thread Cert.FeaturesReferenceIdeal.nD Cert.FeaturesReferenceIdeal.τ).loc Cert.FeaturesReferenceIdeal.main_arg7)
      ∧ r.2.mem ((c.tc : Thread Cert.FeaturesReferenceIdeal.nD Cert.FeaturesReferenceIdeal.τ).loc Cert.FeaturesReferenceIdeal.main_arg8) = m ((c.tc : Thread Cert.FeaturesReferenceIdeal.nD Cert.FeaturesReferenceIdeal.τ).loc Cert.FeaturesReferenceIdeal.main_arg8)
      ∧ r.2.mem ((c.tc : Thread Cert.FeaturesReferenceIdeal.nD Cert.FeaturesReferenceIdeal.τ).loc Cert.FeaturesReferenceIdeal.main_arg9) = m ((c.tc : Thread Cert.FeaturesReferenceIdeal.nD Cert.FeaturesReferenceIdeal.τ).loc Cert.FeaturesReferenceIdeal.main_arg9)
      ∧ r.2.mem ((c.tc : Thread Cert.FeaturesReferenceIdeal.nD Cert.FeaturesReferenceIdeal.τ).loc Cert.FeaturesReferenceIdeal.main_arg10) = m ((c.tc : Thread Cert.FeaturesReferenceIdeal.nD Cert.FeaturesReferenceIdeal.τ).loc Cert.FeaturesReferenceIdeal.main_arg10)
      ∧ r.2.mem ((c.tc : Thread Cert.FeaturesReferenceIdeal.nD Cert.FeaturesReferenceIdeal.τ).loc Cert.FeaturesReferenceIdeal.main_arg11) = m ((c.tc : Thread Cert.FeaturesReferenceIdeal.nD Cert.FeaturesReferenceIdeal.τ).loc Cert.FeaturesReferenceIdeal.main_arg11)
      ∧ r.2.mem ((c.tc : Thread Cert.FeaturesReferenceIdeal.nD Cert.FeaturesReferenceIdeal.τ).loc Cert.FeaturesReferenceIdeal.main_arg12) = m ((c.tc : Thread Cert.FeaturesReferenceIdeal.nD Cert.FeaturesReferenceIdeal.τ).loc Cert.FeaturesReferenceIdeal.main_arg12)
      ∧ r.2.mem ((c.tc : Thread Cert.FeaturesReferenceIdeal.nD Cert.FeaturesReferenceIdeal.τ).loc Cert.FeaturesReferenceIdeal.main_arg13) = m ((c.tc : Thread Cert.FeaturesReferenceIdeal.nD Cert.FeaturesReferenceIdeal.τ).loc Cert.FeaturesReferenceIdeal.main_arg13)
      ∧ r.2.mem ((c.tc : Thread Cert.FeaturesReferenceIdeal.nD Cert.FeaturesReferenceIdeal.τ).loc Cert.FeaturesReferenceIdeal.main_arg14) = m ((c.tc : Thread Cert.FeaturesReferenceIdeal.nD Cert.FeaturesReferenceIdeal.τ).loc Cert.FeaturesReferenceIdeal.main_arg14)
      ∧ r.2.mem ((c.tc : Thread Cert.FeaturesReferenceIdeal.nD Cert.FeaturesReferenceIdeal.τ).loc Cert.FeaturesReferenceIdeal.main_arg15) = m ((c.tc : Thread Cert.FeaturesReferenceIdeal.nD Cert.FeaturesReferenceIdeal.τ).loc Cert.FeaturesReferenceIdeal.main_arg15))
      ∧ r.2.sem = fun _ => 0)

def quiescent_SecondPlainIdeal [hSecondPlainIdeal : Cert.SecondPlainIdeal.Facts] : Prop :=
  ∀ (m : (ℓ : Loc Cert.SecondPlainIdeal.nD Cert.SecondPlainIdeal.τ Cert.SecondPlainIdeal.sig) → Buf (Elt Ideal) ℓ) (g : Dev Cert.SecondPlainIdeal.nD → PrngReg), Pre_SecondPlainIdeal m →
    θ_run (Cert.SecondPlainIdeal.defs (F := Ideal)) (onTc (τ := Cert.SecondPlainIdeal.τ) (Cert.SecondPlainIdeal.main (F := Ideal))) ⟨m, fun _ => 0, g⟩ (fun r => (∀ c : Dev Cert.SecondPlainIdeal.nD,
      r.2.mem ((c.tc : Thread Cert.SecondPlainIdeal.nD Cert.SecondPlainIdeal.τ).loc Cert.SecondPlainIdeal.main_arg0) = m ((c.tc : Thread Cert.SecondPlainIdeal.nD Cert.SecondPlainIdeal.τ).loc Cert.SecondPlainIdeal.main_arg0)
      ∧ r.2.mem ((c.tc : Thread Cert.SecondPlainIdeal.nD Cert.SecondPlainIdeal.τ).loc Cert.SecondPlainIdeal.main_arg1) = m ((c.tc : Thread Cert.SecondPlainIdeal.nD Cert.SecondPlainIdeal.τ).loc Cert.SecondPlainIdeal.main_arg1)
      ∧ r.2.mem ((c.tc : Thread Cert.SecondPlainIdeal.nD Cert.SecondPlainIdeal.τ).loc Cert.SecondPlainIdeal.main_arg2) = m ((c.tc : Thread Cert.SecondPlainIdeal.nD Cert.SecondPlainIdeal.τ).loc Cert.SecondPlainIdeal.main_arg2)
      ∧ r.2.mem ((c.tc : Thread Cert.SecondPlainIdeal.nD Cert.SecondPlainIdeal.τ).loc Cert.SecondPlainIdeal.main_arg3) = m ((c.tc : Thread Cert.SecondPlainIdeal.nD Cert.SecondPlainIdeal.τ).loc Cert.SecondPlainIdeal.main_arg3)
      ∧ r.2.mem ((c.tc : Thread Cert.SecondPlainIdeal.nD Cert.SecondPlainIdeal.τ).loc Cert.SecondPlainIdeal.main_arg4) = m ((c.tc : Thread Cert.SecondPlainIdeal.nD Cert.SecondPlainIdeal.τ).loc Cert.SecondPlainIdeal.main_arg4)
      ∧ r.2.mem ((c.tc : Thread Cert.SecondPlainIdeal.nD Cert.SecondPlainIdeal.τ).loc Cert.SecondPlainIdeal.main_arg5) = m ((c.tc : Thread Cert.SecondPlainIdeal.nD Cert.SecondPlainIdeal.τ).loc Cert.SecondPlainIdeal.main_arg5)
      ∧ r.2.mem ((c.tc : Thread Cert.SecondPlainIdeal.nD Cert.SecondPlainIdeal.τ).loc Cert.SecondPlainIdeal.main_arg6) = m ((c.tc : Thread Cert.SecondPlainIdeal.nD Cert.SecondPlainIdeal.τ).loc Cert.SecondPlainIdeal.main_arg6)
      ∧ r.2.mem ((c.tc : Thread Cert.SecondPlainIdeal.nD Cert.SecondPlainIdeal.τ).loc Cert.SecondPlainIdeal.main_arg7) = m ((c.tc : Thread Cert.SecondPlainIdeal.nD Cert.SecondPlainIdeal.τ).loc Cert.SecondPlainIdeal.main_arg7))
      ∧ r.2.sem = fun _ => 0)

def quiescent_SecondPlainIdeal_pre_linked2 [hSecondPlainIdeal : Cert.SecondPlainIdeal.Facts] [hPre_linked2 : Cert.Pre_linked2.Facts] : Prop :=
  ∀ (m : (ℓ : Loc Cert.SecondPlainIdeal.nD Cert.SecondPlainIdeal.τ Cert.SecondPlainIdeal.sig) → Buf (Elt Ideal) ℓ) (g : Dev Cert.SecondPlainIdeal.nD → PrngReg), Pre_SecondPlainIdeal_linked2 m →
    θ_run (Cert.SecondPlainIdeal.defs (F := Ideal)) (onTc (τ := Cert.SecondPlainIdeal.τ) (Cert.SecondPlainIdeal.main (F := Ideal))) ⟨m, fun _ => 0, g⟩ (fun r => (∀ c : Dev Cert.SecondPlainIdeal.nD,
      r.2.mem ((c.tc : Thread Cert.SecondPlainIdeal.nD Cert.SecondPlainIdeal.τ).loc Cert.SecondPlainIdeal.main_arg0) = m ((c.tc : Thread Cert.SecondPlainIdeal.nD Cert.SecondPlainIdeal.τ).loc Cert.SecondPlainIdeal.main_arg0)
      ∧ r.2.mem ((c.tc : Thread Cert.SecondPlainIdeal.nD Cert.SecondPlainIdeal.τ).loc Cert.SecondPlainIdeal.main_arg1) = m ((c.tc : Thread Cert.SecondPlainIdeal.nD Cert.SecondPlainIdeal.τ).loc Cert.SecondPlainIdeal.main_arg1)
      ∧ r.2.mem ((c.tc : Thread Cert.SecondPlainIdeal.nD Cert.SecondPlainIdeal.τ).loc Cert.SecondPlainIdeal.main_arg2) = m ((c.tc : Thread Cert.SecondPlainIdeal.nD Cert.SecondPlainIdeal.τ).loc Cert.SecondPlainIdeal.main_arg2)
      ∧ r.2.mem ((c.tc : Thread Cert.SecondPlainIdeal.nD Cert.SecondPlainIdeal.τ).loc Cert.SecondPlainIdeal.main_arg3) = m ((c.tc : Thread Cert.SecondPlainIdeal.nD Cert.SecondPlainIdeal.τ).loc Cert.SecondPlainIdeal.main_arg3)
      ∧ r.2.mem ((c.tc : Thread Cert.SecondPlainIdeal.nD Cert.SecondPlainIdeal.τ).loc Cert.SecondPlainIdeal.main_arg4) = m ((c.tc : Thread Cert.SecondPlainIdeal.nD Cert.SecondPlainIdeal.τ).loc Cert.SecondPlainIdeal.main_arg4)
      ∧ r.2.mem ((c.tc : Thread Cert.SecondPlainIdeal.nD Cert.SecondPlainIdeal.τ).loc Cert.SecondPlainIdeal.main_arg5) = m ((c.tc : Thread Cert.SecondPlainIdeal.nD Cert.SecondPlainIdeal.τ).loc Cert.SecondPlainIdeal.main_arg5)
      ∧ r.2.mem ((c.tc : Thread Cert.SecondPlainIdeal.nD Cert.SecondPlainIdeal.τ).loc Cert.SecondPlainIdeal.main_arg6) = m ((c.tc : Thread Cert.SecondPlainIdeal.nD Cert.SecondPlainIdeal.τ).loc Cert.SecondPlainIdeal.main_arg6)
      ∧ r.2.mem ((c.tc : Thread Cert.SecondPlainIdeal.nD Cert.SecondPlainIdeal.τ).loc Cert.SecondPlainIdeal.main_arg7) = m ((c.tc : Thread Cert.SecondPlainIdeal.nD Cert.SecondPlainIdeal.τ).loc Cert.SecondPlainIdeal.main_arg7))
      ∧ r.2.sem = fun _ => 0)

def quiescent_ThirdPlainIdeal [hThirdPlainIdeal : Cert.ThirdPlainIdeal.Facts] : Prop :=
  ∀ (m : (ℓ : Loc Cert.ThirdPlainIdeal.nD Cert.ThirdPlainIdeal.τ Cert.ThirdPlainIdeal.sig) → Buf (Elt Ideal) ℓ) (g : Dev Cert.ThirdPlainIdeal.nD → PrngReg), Pre_ThirdPlainIdeal m →
    θ_run (Cert.ThirdPlainIdeal.defs (F := Ideal)) (onTc (τ := Cert.ThirdPlainIdeal.τ) (Cert.ThirdPlainIdeal.main (F := Ideal))) ⟨m, fun _ => 0, g⟩ (fun r => (∀ c : Dev Cert.ThirdPlainIdeal.nD,
      r.2.mem ((c.tc : Thread Cert.ThirdPlainIdeal.nD Cert.ThirdPlainIdeal.τ).loc Cert.ThirdPlainIdeal.main_arg0) = m ((c.tc : Thread Cert.ThirdPlainIdeal.nD Cert.ThirdPlainIdeal.τ).loc Cert.ThirdPlainIdeal.main_arg0)
      ∧ r.2.mem ((c.tc : Thread Cert.ThirdPlainIdeal.nD Cert.ThirdPlainIdeal.τ).loc Cert.ThirdPlainIdeal.main_arg1) = m ((c.tc : Thread Cert.ThirdPlainIdeal.nD Cert.ThirdPlainIdeal.τ).loc Cert.ThirdPlainIdeal.main_arg1)
      ∧ r.2.mem ((c.tc : Thread Cert.ThirdPlainIdeal.nD Cert.ThirdPlainIdeal.τ).loc Cert.ThirdPlainIdeal.main_arg2) = m ((c.tc : Thread Cert.ThirdPlainIdeal.nD Cert.ThirdPlainIdeal.τ).loc Cert.ThirdPlainIdeal.main_arg2)
      ∧ r.2.mem ((c.tc : Thread Cert.ThirdPlainIdeal.nD Cert.ThirdPlainIdeal.τ).loc Cert.ThirdPlainIdeal.main_arg3) = m ((c.tc : Thread Cert.ThirdPlainIdeal.nD Cert.ThirdPlainIdeal.τ).loc Cert.ThirdPlainIdeal.main_arg3)
      ∧ r.2.mem ((c.tc : Thread Cert.ThirdPlainIdeal.nD Cert.ThirdPlainIdeal.τ).loc Cert.ThirdPlainIdeal.main_arg4) = m ((c.tc : Thread Cert.ThirdPlainIdeal.nD Cert.ThirdPlainIdeal.τ).loc Cert.ThirdPlainIdeal.main_arg4)
      ∧ r.2.mem ((c.tc : Thread Cert.ThirdPlainIdeal.nD Cert.ThirdPlainIdeal.τ).loc Cert.ThirdPlainIdeal.main_arg5) = m ((c.tc : Thread Cert.ThirdPlainIdeal.nD Cert.ThirdPlainIdeal.τ).loc Cert.ThirdPlainIdeal.main_arg5)
      ∧ r.2.mem ((c.tc : Thread Cert.ThirdPlainIdeal.nD Cert.ThirdPlainIdeal.τ).loc Cert.ThirdPlainIdeal.main_arg6) = m ((c.tc : Thread Cert.ThirdPlainIdeal.nD Cert.ThirdPlainIdeal.τ).loc Cert.ThirdPlainIdeal.main_arg6)
      ∧ r.2.mem ((c.tc : Thread Cert.ThirdPlainIdeal.nD Cert.ThirdPlainIdeal.τ).loc Cert.ThirdPlainIdeal.main_arg7) = m ((c.tc : Thread Cert.ThirdPlainIdeal.nD Cert.ThirdPlainIdeal.τ).loc Cert.ThirdPlainIdeal.main_arg7)
      ∧ r.2.mem ((c.tc : Thread Cert.ThirdPlainIdeal.nD Cert.ThirdPlainIdeal.τ).loc Cert.ThirdPlainIdeal.main_arg8) = m ((c.tc : Thread Cert.ThirdPlainIdeal.nD Cert.ThirdPlainIdeal.τ).loc Cert.ThirdPlainIdeal.main_arg8)
      ∧ r.2.mem ((c.tc : Thread Cert.ThirdPlainIdeal.nD Cert.ThirdPlainIdeal.τ).loc Cert.ThirdPlainIdeal.main_arg9) = m ((c.tc : Thread Cert.ThirdPlainIdeal.nD Cert.ThirdPlainIdeal.τ).loc Cert.ThirdPlainIdeal.main_arg9)
      ∧ r.2.mem ((c.tc : Thread Cert.ThirdPlainIdeal.nD Cert.ThirdPlainIdeal.τ).loc Cert.ThirdPlainIdeal.main_arg10) = m ((c.tc : Thread Cert.ThirdPlainIdeal.nD Cert.ThirdPlainIdeal.τ).loc Cert.ThirdPlainIdeal.main_arg10)
      ∧ r.2.mem ((c.tc : Thread Cert.ThirdPlainIdeal.nD Cert.ThirdPlainIdeal.τ).loc Cert.ThirdPlainIdeal.main_arg11) = m ((c.tc : Thread Cert.ThirdPlainIdeal.nD Cert.ThirdPlainIdeal.τ).loc Cert.ThirdPlainIdeal.main_arg11)
      ∧ r.2.mem ((c.tc : Thread Cert.ThirdPlainIdeal.nD Cert.ThirdPlainIdeal.τ).loc Cert.ThirdPlainIdeal.main_arg12) = m ((c.tc : Thread Cert.ThirdPlainIdeal.nD Cert.ThirdPlainIdeal.τ).loc Cert.ThirdPlainIdeal.main_arg12))
      ∧ r.2.sem = fun _ => 0)

def quiescent_ThirdPlainIdeal_pre_linked3 [hThirdPlainIdeal : Cert.ThirdPlainIdeal.Facts] [hPre_linked3 : Cert.Pre_linked3.Facts] : Prop :=
  ∀ (m : (ℓ : Loc Cert.ThirdPlainIdeal.nD Cert.ThirdPlainIdeal.τ Cert.ThirdPlainIdeal.sig) → Buf (Elt Ideal) ℓ) (g : Dev Cert.ThirdPlainIdeal.nD → PrngReg), Pre_ThirdPlainIdeal_linked3 m →
    θ_run (Cert.ThirdPlainIdeal.defs (F := Ideal)) (onTc (τ := Cert.ThirdPlainIdeal.τ) (Cert.ThirdPlainIdeal.main (F := Ideal))) ⟨m, fun _ => 0, g⟩ (fun r => (∀ c : Dev Cert.ThirdPlainIdeal.nD,
      r.2.mem ((c.tc : Thread Cert.ThirdPlainIdeal.nD Cert.ThirdPlainIdeal.τ).loc Cert.ThirdPlainIdeal.main_arg0) = m ((c.tc : Thread Cert.ThirdPlainIdeal.nD Cert.ThirdPlainIdeal.τ).loc Cert.ThirdPlainIdeal.main_arg0)
      ∧ r.2.mem ((c.tc : Thread Cert.ThirdPlainIdeal.nD Cert.ThirdPlainIdeal.τ).loc Cert.ThirdPlainIdeal.main_arg1) = m ((c.tc : Thread Cert.ThirdPlainIdeal.nD Cert.ThirdPlainIdeal.τ).loc Cert.ThirdPlainIdeal.main_arg1)
      ∧ r.2.mem ((c.tc : Thread Cert.ThirdPlainIdeal.nD Cert.ThirdPlainIdeal.τ).loc Cert.ThirdPlainIdeal.main_arg2) = m ((c.tc : Thread Cert.ThirdPlainIdeal.nD Cert.ThirdPlainIdeal.τ).loc Cert.ThirdPlainIdeal.main_arg2)
      ∧ r.2.mem ((c.tc : Thread Cert.ThirdPlainIdeal.nD Cert.ThirdPlainIdeal.τ).loc Cert.ThirdPlainIdeal.main_arg3) = m ((c.tc : Thread Cert.ThirdPlainIdeal.nD Cert.ThirdPlainIdeal.τ).loc Cert.ThirdPlainIdeal.main_arg3)
      ∧ r.2.mem ((c.tc : Thread Cert.ThirdPlainIdeal.nD Cert.ThirdPlainIdeal.τ).loc Cert.ThirdPlainIdeal.main_arg4) = m ((c.tc : Thread Cert.ThirdPlainIdeal.nD Cert.ThirdPlainIdeal.τ).loc Cert.ThirdPlainIdeal.main_arg4)
      ∧ r.2.mem ((c.tc : Thread Cert.ThirdPlainIdeal.nD Cert.ThirdPlainIdeal.τ).loc Cert.ThirdPlainIdeal.main_arg5) = m ((c.tc : Thread Cert.ThirdPlainIdeal.nD Cert.ThirdPlainIdeal.τ).loc Cert.ThirdPlainIdeal.main_arg5)
      ∧ r.2.mem ((c.tc : Thread Cert.ThirdPlainIdeal.nD Cert.ThirdPlainIdeal.τ).loc Cert.ThirdPlainIdeal.main_arg6) = m ((c.tc : Thread Cert.ThirdPlainIdeal.nD Cert.ThirdPlainIdeal.τ).loc Cert.ThirdPlainIdeal.main_arg6)
      ∧ r.2.mem ((c.tc : Thread Cert.ThirdPlainIdeal.nD Cert.ThirdPlainIdeal.τ).loc Cert.ThirdPlainIdeal.main_arg7) = m ((c.tc : Thread Cert.ThirdPlainIdeal.nD Cert.ThirdPlainIdeal.τ).loc Cert.ThirdPlainIdeal.main_arg7)
      ∧ r.2.mem ((c.tc : Thread Cert.ThirdPlainIdeal.nD Cert.ThirdPlainIdeal.τ).loc Cert.ThirdPlainIdeal.main_arg8) = m ((c.tc : Thread Cert.ThirdPlainIdeal.nD Cert.ThirdPlainIdeal.τ).loc Cert.ThirdPlainIdeal.main_arg8)
      ∧ r.2.mem ((c.tc : Thread Cert.ThirdPlainIdeal.nD Cert.ThirdPlainIdeal.τ).loc Cert.ThirdPlainIdeal.main_arg9) = m ((c.tc : Thread Cert.ThirdPlainIdeal.nD Cert.ThirdPlainIdeal.τ).loc Cert.ThirdPlainIdeal.main_arg9)
      ∧ r.2.mem ((c.tc : Thread Cert.ThirdPlainIdeal.nD Cert.ThirdPlainIdeal.τ).loc Cert.ThirdPlainIdeal.main_arg10) = m ((c.tc : Thread Cert.ThirdPlainIdeal.nD Cert.ThirdPlainIdeal.τ).loc Cert.ThirdPlainIdeal.main_arg10)
      ∧ r.2.mem ((c.tc : Thread Cert.ThirdPlainIdeal.nD Cert.ThirdPlainIdeal.τ).loc Cert.ThirdPlainIdeal.main_arg11) = m ((c.tc : Thread Cert.ThirdPlainIdeal.nD Cert.ThirdPlainIdeal.τ).loc Cert.ThirdPlainIdeal.main_arg11)
      ∧ r.2.mem ((c.tc : Thread Cert.ThirdPlainIdeal.nD Cert.ThirdPlainIdeal.τ).loc Cert.ThirdPlainIdeal.main_arg12) = m ((c.tc : Thread Cert.ThirdPlainIdeal.nD Cert.ThirdPlainIdeal.τ).loc Cert.ThirdPlainIdeal.main_arg12))
      ∧ r.2.sem = fun _ => 0)

def quiescent_FeaturesPlainIdeal [hFeaturesPlainIdeal : Cert.FeaturesPlainIdeal.Facts] : Prop :=
  ∀ (m : (ℓ : Loc Cert.FeaturesPlainIdeal.nD Cert.FeaturesPlainIdeal.τ Cert.FeaturesPlainIdeal.sig) → Buf (Elt Ideal) ℓ) (g : Dev Cert.FeaturesPlainIdeal.nD → PrngReg), Pre_FeaturesPlainIdeal m →
    θ_run (Cert.FeaturesPlainIdeal.defs (F := Ideal)) (onTc (τ := Cert.FeaturesPlainIdeal.τ) (Cert.FeaturesPlainIdeal.main (F := Ideal))) ⟨m, fun _ => 0, g⟩ (fun r => (∀ c : Dev Cert.FeaturesPlainIdeal.nD,
      r.2.mem ((c.tc : Thread Cert.FeaturesPlainIdeal.nD Cert.FeaturesPlainIdeal.τ).loc Cert.FeaturesPlainIdeal.main_arg0) = m ((c.tc : Thread Cert.FeaturesPlainIdeal.nD Cert.FeaturesPlainIdeal.τ).loc Cert.FeaturesPlainIdeal.main_arg0)
      ∧ r.2.mem ((c.tc : Thread Cert.FeaturesPlainIdeal.nD Cert.FeaturesPlainIdeal.τ).loc Cert.FeaturesPlainIdeal.main_arg1) = m ((c.tc : Thread Cert.FeaturesPlainIdeal.nD Cert.FeaturesPlainIdeal.τ).loc Cert.FeaturesPlainIdeal.main_arg1)
      ∧ r.2.mem ((c.tc : Thread Cert.FeaturesPlainIdeal.nD Cert.FeaturesPlainIdeal.τ).loc Cert.FeaturesPlainIdeal.main_arg2) = m ((c.tc : Thread Cert.FeaturesPlainIdeal.nD Cert.FeaturesPlainIdeal.τ).loc Cert.FeaturesPlainIdeal.main_arg2)
      ∧ r.2.mem ((c.tc : Thread Cert.FeaturesPlainIdeal.nD Cert.FeaturesPlainIdeal.τ).loc Cert.FeaturesPlainIdeal.main_arg3) = m ((c.tc : Thread Cert.FeaturesPlainIdeal.nD Cert.FeaturesPlainIdeal.τ).loc Cert.FeaturesPlainIdeal.main_arg3)
      ∧ r.2.mem ((c.tc : Thread Cert.FeaturesPlainIdeal.nD Cert.FeaturesPlainIdeal.τ).loc Cert.FeaturesPlainIdeal.main_arg4) = m ((c.tc : Thread Cert.FeaturesPlainIdeal.nD Cert.FeaturesPlainIdeal.τ).loc Cert.FeaturesPlainIdeal.main_arg4)
      ∧ r.2.mem ((c.tc : Thread Cert.FeaturesPlainIdeal.nD Cert.FeaturesPlainIdeal.τ).loc Cert.FeaturesPlainIdeal.main_arg5) = m ((c.tc : Thread Cert.FeaturesPlainIdeal.nD Cert.FeaturesPlainIdeal.τ).loc Cert.FeaturesPlainIdeal.main_arg5)
      ∧ r.2.mem ((c.tc : Thread Cert.FeaturesPlainIdeal.nD Cert.FeaturesPlainIdeal.τ).loc Cert.FeaturesPlainIdeal.main_arg6) = m ((c.tc : Thread Cert.FeaturesPlainIdeal.nD Cert.FeaturesPlainIdeal.τ).loc Cert.FeaturesPlainIdeal.main_arg6)
      ∧ r.2.mem ((c.tc : Thread Cert.FeaturesPlainIdeal.nD Cert.FeaturesPlainIdeal.τ).loc Cert.FeaturesPlainIdeal.main_arg7) = m ((c.tc : Thread Cert.FeaturesPlainIdeal.nD Cert.FeaturesPlainIdeal.τ).loc Cert.FeaturesPlainIdeal.main_arg7)
      ∧ r.2.mem ((c.tc : Thread Cert.FeaturesPlainIdeal.nD Cert.FeaturesPlainIdeal.τ).loc Cert.FeaturesPlainIdeal.main_arg8) = m ((c.tc : Thread Cert.FeaturesPlainIdeal.nD Cert.FeaturesPlainIdeal.τ).loc Cert.FeaturesPlainIdeal.main_arg8)
      ∧ r.2.mem ((c.tc : Thread Cert.FeaturesPlainIdeal.nD Cert.FeaturesPlainIdeal.τ).loc Cert.FeaturesPlainIdeal.main_arg9) = m ((c.tc : Thread Cert.FeaturesPlainIdeal.nD Cert.FeaturesPlainIdeal.τ).loc Cert.FeaturesPlainIdeal.main_arg9)
      ∧ r.2.mem ((c.tc : Thread Cert.FeaturesPlainIdeal.nD Cert.FeaturesPlainIdeal.τ).loc Cert.FeaturesPlainIdeal.main_arg10) = m ((c.tc : Thread Cert.FeaturesPlainIdeal.nD Cert.FeaturesPlainIdeal.τ).loc Cert.FeaturesPlainIdeal.main_arg10)
      ∧ r.2.mem ((c.tc : Thread Cert.FeaturesPlainIdeal.nD Cert.FeaturesPlainIdeal.τ).loc Cert.FeaturesPlainIdeal.main_arg11) = m ((c.tc : Thread Cert.FeaturesPlainIdeal.nD Cert.FeaturesPlainIdeal.τ).loc Cert.FeaturesPlainIdeal.main_arg11)
      ∧ r.2.mem ((c.tc : Thread Cert.FeaturesPlainIdeal.nD Cert.FeaturesPlainIdeal.τ).loc Cert.FeaturesPlainIdeal.main_arg12) = m ((c.tc : Thread Cert.FeaturesPlainIdeal.nD Cert.FeaturesPlainIdeal.τ).loc Cert.FeaturesPlainIdeal.main_arg12)
      ∧ r.2.mem ((c.tc : Thread Cert.FeaturesPlainIdeal.nD Cert.FeaturesPlainIdeal.τ).loc Cert.FeaturesPlainIdeal.main_arg13) = m ((c.tc : Thread Cert.FeaturesPlainIdeal.nD Cert.FeaturesPlainIdeal.τ).loc Cert.FeaturesPlainIdeal.main_arg13)
      ∧ r.2.mem ((c.tc : Thread Cert.FeaturesPlainIdeal.nD Cert.FeaturesPlainIdeal.τ).loc Cert.FeaturesPlainIdeal.main_arg14) = m ((c.tc : Thread Cert.FeaturesPlainIdeal.nD Cert.FeaturesPlainIdeal.τ).loc Cert.FeaturesPlainIdeal.main_arg14)
      ∧ r.2.mem ((c.tc : Thread Cert.FeaturesPlainIdeal.nD Cert.FeaturesPlainIdeal.τ).loc Cert.FeaturesPlainIdeal.main_arg15) = m ((c.tc : Thread Cert.FeaturesPlainIdeal.nD Cert.FeaturesPlainIdeal.τ).loc Cert.FeaturesPlainIdeal.main_arg15))
      ∧ r.2.sem = fun _ => 0)

def quiescent_FeaturesPlainIdeal_pre_linked4 [hFeaturesPlainIdeal : Cert.FeaturesPlainIdeal.Facts] [hPre_linked4 : Cert.Pre_linked4.Facts] : Prop :=
  ∀ (m : (ℓ : Loc Cert.FeaturesPlainIdeal.nD Cert.FeaturesPlainIdeal.τ Cert.FeaturesPlainIdeal.sig) → Buf (Elt Ideal) ℓ) (g : Dev Cert.FeaturesPlainIdeal.nD → PrngReg), Pre_FeaturesPlainIdeal_linked4 m →
    θ_run (Cert.FeaturesPlainIdeal.defs (F := Ideal)) (onTc (τ := Cert.FeaturesPlainIdeal.τ) (Cert.FeaturesPlainIdeal.main (F := Ideal))) ⟨m, fun _ => 0, g⟩ (fun r => (∀ c : Dev Cert.FeaturesPlainIdeal.nD,
      r.2.mem ((c.tc : Thread Cert.FeaturesPlainIdeal.nD Cert.FeaturesPlainIdeal.τ).loc Cert.FeaturesPlainIdeal.main_arg0) = m ((c.tc : Thread Cert.FeaturesPlainIdeal.nD Cert.FeaturesPlainIdeal.τ).loc Cert.FeaturesPlainIdeal.main_arg0)
      ∧ r.2.mem ((c.tc : Thread Cert.FeaturesPlainIdeal.nD Cert.FeaturesPlainIdeal.τ).loc Cert.FeaturesPlainIdeal.main_arg1) = m ((c.tc : Thread Cert.FeaturesPlainIdeal.nD Cert.FeaturesPlainIdeal.τ).loc Cert.FeaturesPlainIdeal.main_arg1)
      ∧ r.2.mem ((c.tc : Thread Cert.FeaturesPlainIdeal.nD Cert.FeaturesPlainIdeal.τ).loc Cert.FeaturesPlainIdeal.main_arg2) = m ((c.tc : Thread Cert.FeaturesPlainIdeal.nD Cert.FeaturesPlainIdeal.τ).loc Cert.FeaturesPlainIdeal.main_arg2)
      ∧ r.2.mem ((c.tc : Thread Cert.FeaturesPlainIdeal.nD Cert.FeaturesPlainIdeal.τ).loc Cert.FeaturesPlainIdeal.main_arg3) = m ((c.tc : Thread Cert.FeaturesPlainIdeal.nD Cert.FeaturesPlainIdeal.τ).loc Cert.FeaturesPlainIdeal.main_arg3)
      ∧ r.2.mem ((c.tc : Thread Cert.FeaturesPlainIdeal.nD Cert.FeaturesPlainIdeal.τ).loc Cert.FeaturesPlainIdeal.main_arg4) = m ((c.tc : Thread Cert.FeaturesPlainIdeal.nD Cert.FeaturesPlainIdeal.τ).loc Cert.FeaturesPlainIdeal.main_arg4)
      ∧ r.2.mem ((c.tc : Thread Cert.FeaturesPlainIdeal.nD Cert.FeaturesPlainIdeal.τ).loc Cert.FeaturesPlainIdeal.main_arg5) = m ((c.tc : Thread Cert.FeaturesPlainIdeal.nD Cert.FeaturesPlainIdeal.τ).loc Cert.FeaturesPlainIdeal.main_arg5)
      ∧ r.2.mem ((c.tc : Thread Cert.FeaturesPlainIdeal.nD Cert.FeaturesPlainIdeal.τ).loc Cert.FeaturesPlainIdeal.main_arg6) = m ((c.tc : Thread Cert.FeaturesPlainIdeal.nD Cert.FeaturesPlainIdeal.τ).loc Cert.FeaturesPlainIdeal.main_arg6)
      ∧ r.2.mem ((c.tc : Thread Cert.FeaturesPlainIdeal.nD Cert.FeaturesPlainIdeal.τ).loc Cert.FeaturesPlainIdeal.main_arg7) = m ((c.tc : Thread Cert.FeaturesPlainIdeal.nD Cert.FeaturesPlainIdeal.τ).loc Cert.FeaturesPlainIdeal.main_arg7)
      ∧ r.2.mem ((c.tc : Thread Cert.FeaturesPlainIdeal.nD Cert.FeaturesPlainIdeal.τ).loc Cert.FeaturesPlainIdeal.main_arg8) = m ((c.tc : Thread Cert.FeaturesPlainIdeal.nD Cert.FeaturesPlainIdeal.τ).loc Cert.FeaturesPlainIdeal.main_arg8)
      ∧ r.2.mem ((c.tc : Thread Cert.FeaturesPlainIdeal.nD Cert.FeaturesPlainIdeal.τ).loc Cert.FeaturesPlainIdeal.main_arg9) = m ((c.tc : Thread Cert.FeaturesPlainIdeal.nD Cert.FeaturesPlainIdeal.τ).loc Cert.FeaturesPlainIdeal.main_arg9)
      ∧ r.2.mem ((c.tc : Thread Cert.FeaturesPlainIdeal.nD Cert.FeaturesPlainIdeal.τ).loc Cert.FeaturesPlainIdeal.main_arg10) = m ((c.tc : Thread Cert.FeaturesPlainIdeal.nD Cert.FeaturesPlainIdeal.τ).loc Cert.FeaturesPlainIdeal.main_arg10)
      ∧ r.2.mem ((c.tc : Thread Cert.FeaturesPlainIdeal.nD Cert.FeaturesPlainIdeal.τ).loc Cert.FeaturesPlainIdeal.main_arg11) = m ((c.tc : Thread Cert.FeaturesPlainIdeal.nD Cert.FeaturesPlainIdeal.τ).loc Cert.FeaturesPlainIdeal.main_arg11)
      ∧ r.2.mem ((c.tc : Thread Cert.FeaturesPlainIdeal.nD Cert.FeaturesPlainIdeal.τ).loc Cert.FeaturesPlainIdeal.main_arg12) = m ((c.tc : Thread Cert.FeaturesPlainIdeal.nD Cert.FeaturesPlainIdeal.τ).loc Cert.FeaturesPlainIdeal.main_arg12)
      ∧ r.2.mem ((c.tc : Thread Cert.FeaturesPlainIdeal.nD Cert.FeaturesPlainIdeal.τ).loc Cert.FeaturesPlainIdeal.main_arg13) = m ((c.tc : Thread Cert.FeaturesPlainIdeal.nD Cert.FeaturesPlainIdeal.τ).loc Cert.FeaturesPlainIdeal.main_arg13)
      ∧ r.2.mem ((c.tc : Thread Cert.FeaturesPlainIdeal.nD Cert.FeaturesPlainIdeal.τ).loc Cert.FeaturesPlainIdeal.main_arg14) = m ((c.tc : Thread Cert.FeaturesPlainIdeal.nD Cert.FeaturesPlainIdeal.τ).loc Cert.FeaturesPlainIdeal.main_arg14)
      ∧ r.2.mem ((c.tc : Thread Cert.FeaturesPlainIdeal.nD Cert.FeaturesPlainIdeal.τ).loc Cert.FeaturesPlainIdeal.main_arg15) = m ((c.tc : Thread Cert.FeaturesPlainIdeal.nD Cert.FeaturesPlainIdeal.τ).loc Cert.FeaturesPlainIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_valid : Cert.Pre_valid.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Cells_CellsIdeal : Prop :=
  True

def algebraic_CellsIdeal_CellsReferenceIdeal [hCellsIdeal : Cert.CellsIdeal.Facts] [hCellsReferenceIdeal : Cert.CellsReferenceIdeal.Facts] : Prop :=
  ∀ (m : (ℓ : Loc Cert.CellsIdeal.nD Cert.CellsIdeal.τ Cert.CellsIdeal.sig) → Buf (Elt Ideal) ℓ) (g : Dev Cert.CellsIdeal.nD → PrngReg)
    (m' : (ℓ : Loc Cert.CellsReferenceIdeal.nD Cert.CellsReferenceIdeal.τ Cert.CellsReferenceIdeal.sig) → Buf (Elt Ideal) ℓ) (g' : Dev Cert.CellsReferenceIdeal.nD → PrngReg), Pre_CellsIdeal m →
    (∀ c : Dev Cert.CellsIdeal.nD,
      m' ((c.tc : Thread Cert.CellsReferenceIdeal.nD Cert.CellsReferenceIdeal.τ).loc Cert.CellsReferenceIdeal.main_arg0) = m ((c.tc : Thread Cert.CellsIdeal.nD Cert.CellsIdeal.τ).loc Cert.CellsIdeal.main_arg0)
      ∧ m' ((c.tc : Thread Cert.CellsReferenceIdeal.nD Cert.CellsReferenceIdeal.τ).loc Cert.CellsReferenceIdeal.main_arg1) = m ((c.tc : Thread Cert.CellsIdeal.nD Cert.CellsIdeal.τ).loc Cert.CellsIdeal.main_arg1)
      ∧ m' ((c.tc : Thread Cert.CellsReferenceIdeal.nD Cert.CellsReferenceIdeal.τ).loc Cert.CellsReferenceIdeal.main_arg2) = m ((c.tc : Thread Cert.CellsIdeal.nD Cert.CellsIdeal.τ).loc Cert.CellsIdeal.main_arg2)) →
    ∃ (v0 : (c : Dev Cert.CellsIdeal.nD) → Buf (Elt Ideal) ((c.tc : Thread Cert.CellsIdeal.nD Cert.CellsIdeal.τ).loc Cert.CellsIdeal.main_v2_0)) (v1 : (c : Dev Cert.CellsIdeal.nD) → Buf (Elt Ideal) ((c.tc : Thread Cert.CellsIdeal.nD Cert.CellsIdeal.τ).loc Cert.CellsIdeal.main_v2_1)),
      θ_run (Cert.CellsIdeal.defs (F := Ideal)) (onTc (τ := Cert.CellsIdeal.τ) (Cert.CellsIdeal.main (F := Ideal))) ⟨m, fun _ => 0, g⟩ (fun r => ∀ c : Dev Cert.CellsIdeal.nD,
          r.2.mem ((c.tc : Thread Cert.CellsIdeal.nD Cert.CellsIdeal.τ).loc Cert.CellsIdeal.main_v2_0) = v0 c
          ∧ r.2.mem ((c.tc : Thread Cert.CellsIdeal.nD Cert.CellsIdeal.τ).loc Cert.CellsIdeal.main_v2_1) = v1 c
          ∧ r.2.mem ((c.tc : Thread Cert.CellsIdeal.nD Cert.CellsIdeal.τ).loc Cert.CellsIdeal.main_arg0) = m ((c.tc : Thread Cert.CellsIdeal.nD Cert.CellsIdeal.τ).loc Cert.CellsIdeal.main_arg0)
          ∧ r.2.mem ((c.tc : Thread Cert.CellsIdeal.nD Cert.CellsIdeal.τ).loc Cert.CellsIdeal.main_arg1) = m ((c.tc : Thread Cert.CellsIdeal.nD Cert.CellsIdeal.τ).loc Cert.CellsIdeal.main_arg1)
          ∧ r.2.mem ((c.tc : Thread Cert.CellsIdeal.nD Cert.CellsIdeal.τ).loc Cert.CellsIdeal.main_arg2) = m ((c.tc : Thread Cert.CellsIdeal.nD Cert.CellsIdeal.τ).loc Cert.CellsIdeal.main_arg2))
      ∧ θ_run (Cert.CellsReferenceIdeal.defs (F := Ideal)) (onTc (τ := Cert.CellsReferenceIdeal.τ) (Cert.CellsReferenceIdeal.main (F := Ideal))) ⟨m', fun _ => 0, g'⟩ (fun r => ∀ c : Dev Cert.CellsReferenceIdeal.nD,
          r.2.mem ((c.tc : Thread Cert.CellsReferenceIdeal.nD Cert.CellsReferenceIdeal.τ).loc Cert.CellsReferenceIdeal.main_v11) = v0 c
          ∧ r.2.mem ((c.tc : Thread Cert.CellsReferenceIdeal.nD Cert.CellsReferenceIdeal.τ).loc Cert.CellsReferenceIdeal.main_v41) = v1 c
          ∧ r.2.mem ((c.tc : Thread Cert.CellsReferenceIdeal.nD Cert.CellsReferenceIdeal.τ).loc Cert.CellsReferenceIdeal.main_arg0) = m' ((c.tc : Thread Cert.CellsReferenceIdeal.nD Cert.CellsReferenceIdeal.τ).loc Cert.CellsReferenceIdeal.main_arg0)
          ∧ r.2.mem ((c.tc : Thread Cert.CellsReferenceIdeal.nD Cert.CellsReferenceIdeal.τ).loc Cert.CellsReferenceIdeal.main_arg1) = m' ((c.tc : Thread Cert.CellsReferenceIdeal.nD Cert.CellsReferenceIdeal.τ).loc Cert.CellsReferenceIdeal.main_arg1)
          ∧ r.2.mem ((c.tc : Thread Cert.CellsReferenceIdeal.nD Cert.CellsReferenceIdeal.τ).loc Cert.CellsReferenceIdeal.main_arg2) = m' ((c.tc : Thread Cert.CellsReferenceIdeal.nD Cert.CellsReferenceIdeal.τ).loc Cert.CellsReferenceIdeal.main_arg2))

def preserves_Second_SecondIdeal : Prop :=
  True

def algebraic_SecondIdeal_SecondReferenceIdeal_pre_sound2 [hSecondIdeal : Cert.SecondIdeal.Facts] [hSecondReferenceIdeal : Cert.SecondReferenceIdeal.Facts] [hPre_sound2 : Cert.Pre_sound2.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal_sound2 m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)
      ∧ m' ((c.tc : Thread Cert.SecondReferenceIdeal.nD Cert.SecondReferenceIdeal.τ).loc Cert.SecondReferenceIdeal.main_arg6) = m ((c.tc : Thread Cert.SecondIdeal.nD Cert.SecondIdeal.τ).loc Cert.SecondIdeal.main_arg6)
      ∧ m' ((c.tc : Thread Cert.SecondReferenceIdeal.nD Cert.SecondReferenceIdeal.τ).loc Cert.SecondReferenceIdeal.main_arg7) = m ((c.tc : Thread Cert.SecondIdeal.nD Cert.SecondIdeal.τ).loc Cert.SecondIdeal.main_arg7)) →
    ∃ (v0 : (c : Dev Cert.SecondIdeal.nD) → Buf (Elt Ideal) ((c.tc : Thread Cert.SecondIdeal.nD Cert.SecondIdeal.τ).loc Cert.SecondIdeal.main_v3)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v3) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v42) = v0 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5)
          ∧ r.2.mem ((c.tc : Thread Cert.SecondReferenceIdeal.nD Cert.SecondReferenceIdeal.τ).loc Cert.SecondReferenceIdeal.main_arg6) = m' ((c.tc : Thread Cert.SecondReferenceIdeal.nD Cert.SecondReferenceIdeal.τ).loc Cert.SecondReferenceIdeal.main_arg6)
          ∧ r.2.mem ((c.tc : Thread Cert.SecondReferenceIdeal.nD Cert.SecondReferenceIdeal.τ).loc Cert.SecondReferenceIdeal.main_arg7) = m' ((c.tc : Thread Cert.SecondReferenceIdeal.nD Cert.SecondReferenceIdeal.τ).loc Cert.SecondReferenceIdeal.main_arg7))

def preserves_Third_ThirdIdeal : Prop :=
  True

def algebraic_ThirdIdeal_ThirdReferenceIdeal_pre_sound3 [hThirdIdeal : Cert.ThirdIdeal.Facts] [hThirdReferenceIdeal : Cert.ThirdReferenceIdeal.Facts] [hPre_sound3 : Cert.Pre_sound3.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdReferenceIdeal.nD Cert.ThirdReferenceIdeal.τ Cert.ThirdReferenceIdeal.sig) → Buf (Elt Ideal) ℓ) (g' : Dev Cert.ThirdReferenceIdeal.nD → PrngReg), Pre_ThirdIdeal_sound3 m →
    (∀ c : Dev Cert.ThirdIdeal.nD,
      m' ((c.tc : Thread Cert.ThirdReferenceIdeal.nD Cert.ThirdReferenceIdeal.τ).loc Cert.ThirdReferenceIdeal.main_arg0) = m ((c.tc : Thread Cert.ThirdIdeal.nD Cert.ThirdIdeal.τ).loc Cert.ThirdIdeal.main_arg0)
      ∧ m' ((c.tc : Thread Cert.ThirdReferenceIdeal.nD Cert.ThirdReferenceIdeal.τ).loc Cert.ThirdReferenceIdeal.main_arg1) = m ((c.tc : Thread Cert.ThirdIdeal.nD Cert.ThirdIdeal.τ).loc Cert.ThirdIdeal.main_arg1)
      ∧ m' ((c.tc : Thread Cert.ThirdReferenceIdeal.nD Cert.ThirdReferenceIdeal.τ).loc Cert.ThirdReferenceIdeal.main_arg2) = m ((c.tc : Thread Cert.ThirdIdeal.nD Cert.ThirdIdeal.τ).loc Cert.ThirdIdeal.main_arg2)
      ∧ m' ((c.tc : Thread Cert.ThirdReferenceIdeal.nD Cert.ThirdReferenceIdeal.τ).loc Cert.ThirdReferenceIdeal.main_arg3) = m ((c.tc : Thread Cert.ThirdIdeal.nD Cert.ThirdIdeal.τ).loc Cert.ThirdIdeal.main_arg3)
      ∧ m' ((c.tc : Thread Cert.ThirdReferenceIdeal.nD Cert.ThirdReferenceIdeal.τ).loc Cert.ThirdReferenceIdeal.main_arg4) = m ((c.tc : Thread Cert.ThirdIdeal.nD Cert.ThirdIdeal.τ).loc Cert.ThirdIdeal.main_arg4)
      ∧ m' ((c.tc : Thread Cert.ThirdReferenceIdeal.nD Cert.ThirdReferenceIdeal.τ).loc Cert.ThirdReferenceIdeal.main_arg5) = m ((c.tc : Thread Cert.ThirdIdeal.nD Cert.ThirdIdeal.τ).loc Cert.ThirdIdeal.main_arg5)
      ∧ m' ((c.tc : Thread Cert.ThirdReferenceIdeal.nD Cert.ThirdReferenceIdeal.τ).loc Cert.ThirdReferenceIdeal.main_arg6) = m ((c.tc : Thread Cert.ThirdIdeal.nD Cert.ThirdIdeal.τ).loc Cert.ThirdIdeal.main_arg6)
      ∧ m' ((c.tc : Thread Cert.ThirdReferenceIdeal.nD Cert.ThirdReferenceIdeal.τ).loc Cert.ThirdReferenceIdeal.main_arg7) = m ((c.tc : Thread Cert.ThirdIdeal.nD Cert.ThirdIdeal.τ).loc Cert.ThirdIdeal.main_arg7)
      ∧ m' ((c.tc : Thread Cert.ThirdReferenceIdeal.nD Cert.ThirdReferenceIdeal.τ).loc Cert.ThirdReferenceIdeal.main_arg8) = m ((c.tc : Thread Cert.ThirdIdeal.nD Cert.ThirdIdeal.τ).loc Cert.ThirdIdeal.main_arg8)
      ∧ m' ((c.tc : Thread Cert.ThirdReferenceIdeal.nD Cert.ThirdReferenceIdeal.τ).loc Cert.ThirdReferenceIdeal.main_arg9) = m ((c.tc : Thread Cert.ThirdIdeal.nD Cert.ThirdIdeal.τ).loc Cert.ThirdIdeal.main_arg9)
      ∧ m' ((c.tc : Thread Cert.ThirdReferenceIdeal.nD Cert.ThirdReferenceIdeal.τ).loc Cert.ThirdReferenceIdeal.main_arg10) = m ((c.tc : Thread Cert.ThirdIdeal.nD Cert.ThirdIdeal.τ).loc Cert.ThirdIdeal.main_arg10)
      ∧ m' ((c.tc : Thread Cert.ThirdReferenceIdeal.nD Cert.ThirdReferenceIdeal.τ).loc Cert.ThirdReferenceIdeal.main_arg11) = m ((c.tc : Thread Cert.ThirdIdeal.nD Cert.ThirdIdeal.τ).loc Cert.ThirdIdeal.main_arg11)
      ∧ m' ((c.tc : Thread Cert.ThirdReferenceIdeal.nD Cert.ThirdReferenceIdeal.τ).loc Cert.ThirdReferenceIdeal.main_arg12) = m ((c.tc : Thread Cert.ThirdIdeal.nD Cert.ThirdIdeal.τ).loc Cert.ThirdIdeal.main_arg12)) →
    ∃ (v0 : (c : Dev Cert.ThirdIdeal.nD) → Buf (Elt Ideal) ((c.tc : Thread Cert.ThirdIdeal.nD Cert.ThirdIdeal.τ).loc Cert.ThirdIdeal.main_v4)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v4) = v0 c
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
          ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
          ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
          ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
          ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
          ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10)
          ∧ r.2.mem ((c.tc : Thread Cert.ThirdIdeal.nD Cert.ThirdIdeal.τ).loc Cert.ThirdIdeal.main_arg11) = m ((c.tc : Thread Cert.ThirdIdeal.nD Cert.ThirdIdeal.τ).loc Cert.ThirdIdeal.main_arg11)
          ∧ r.2.mem ((c.tc : Thread Cert.ThirdIdeal.nD Cert.ThirdIdeal.τ).loc Cert.ThirdIdeal.main_arg12) = m ((c.tc : Thread Cert.ThirdIdeal.nD Cert.ThirdIdeal.τ).loc Cert.ThirdIdeal.main_arg12))
      ∧ θ_run (Cert.ThirdReferenceIdeal.defs (F := Ideal)) (onTc (τ := Cert.ThirdReferenceIdeal.τ) (Cert.ThirdReferenceIdeal.main (F := Ideal))) ⟨m', fun _ => 0, g'⟩ (fun r => ∀ c : Dev Cert.ThirdReferenceIdeal.nD,
          r.2.mem ((c.tc : Thread Cert.ThirdReferenceIdeal.nD Cert.ThirdReferenceIdeal.τ).loc Cert.ThirdReferenceIdeal.main_v73) = v0 c
          ∧ r.2.mem ((c.tc : Thread Cert.ThirdReferenceIdeal.nD Cert.ThirdReferenceIdeal.τ).loc Cert.ThirdReferenceIdeal.main_arg0) = m' ((c.tc : Thread Cert.ThirdReferenceIdeal.nD Cert.ThirdReferenceIdeal.τ).loc Cert.ThirdReferenceIdeal.main_arg0)
          ∧ r.2.mem ((c.tc : Thread Cert.ThirdReferenceIdeal.nD Cert.ThirdReferenceIdeal.τ).loc Cert.ThirdReferenceIdeal.main_arg1) = m' ((c.tc : Thread Cert.ThirdReferenceIdeal.nD Cert.ThirdReferenceIdeal.τ).loc Cert.ThirdReferenceIdeal.main_arg1)
          ∧ r.2.mem ((c.tc : Thread Cert.ThirdReferenceIdeal.nD Cert.ThirdReferenceIdeal.τ).loc Cert.ThirdReferenceIdeal.main_arg2) = m' ((c.tc : Thread Cert.ThirdReferenceIdeal.nD Cert.ThirdReferenceIdeal.τ).loc Cert.ThirdReferenceIdeal.main_arg2)
          ∧ r.2.mem ((c.tc : Thread Cert.ThirdReferenceIdeal.nD Cert.ThirdReferenceIdeal.τ).loc Cert.ThirdReferenceIdeal.main_arg3) = m' ((c.tc : Thread Cert.ThirdReferenceIdeal.nD Cert.ThirdReferenceIdeal.τ).loc Cert.ThirdReferenceIdeal.main_arg3)
          ∧ r.2.mem ((c.tc : Thread Cert.ThirdReferenceIdeal.nD Cert.ThirdReferenceIdeal.τ).loc Cert.ThirdReferenceIdeal.main_arg4) = m' ((c.tc : Thread Cert.ThirdReferenceIdeal.nD Cert.ThirdReferenceIdeal.τ).loc Cert.ThirdReferenceIdeal.main_arg4)
          ∧ r.2.mem ((c.tc : Thread Cert.ThirdReferenceIdeal.nD Cert.ThirdReferenceIdeal.τ).loc Cert.ThirdReferenceIdeal.main_arg5) = m' ((c.tc : Thread Cert.ThirdReferenceIdeal.nD Cert.ThirdReferenceIdeal.τ).loc Cert.ThirdReferenceIdeal.main_arg5)
          ∧ r.2.mem ((c.tc : Thread Cert.ThirdReferenceIdeal.nD Cert.ThirdReferenceIdeal.τ).loc Cert.ThirdReferenceIdeal.main_arg6) = m' ((c.tc : Thread Cert.ThirdReferenceIdeal.nD Cert.ThirdReferenceIdeal.τ).loc Cert.ThirdReferenceIdeal.main_arg6)
          ∧ r.2.mem ((c.tc : Thread Cert.ThirdReferenceIdeal.nD Cert.ThirdReferenceIdeal.τ).loc Cert.ThirdReferenceIdeal.main_arg7) = m' ((c.tc : Thread Cert.ThirdReferenceIdeal.nD Cert.ThirdReferenceIdeal.τ).loc Cert.ThirdReferenceIdeal.main_arg7)
          ∧ r.2.mem ((c.tc : Thread Cert.ThirdReferenceIdeal.nD Cert.ThirdReferenceIdeal.τ).loc Cert.ThirdReferenceIdeal.main_arg8) = m' ((c.tc : Thread Cert.ThirdReferenceIdeal.nD Cert.ThirdReferenceIdeal.τ).loc Cert.ThirdReferenceIdeal.main_arg8)
          ∧ r.2.mem ((c.tc : Thread Cert.ThirdReferenceIdeal.nD Cert.ThirdReferenceIdeal.τ).loc Cert.ThirdReferenceIdeal.main_arg9) = m' ((c.tc : Thread Cert.ThirdReferenceIdeal.nD Cert.ThirdReferenceIdeal.τ).loc Cert.ThirdReferenceIdeal.main_arg9)
          ∧ r.2.mem ((c.tc : Thread Cert.ThirdReferenceIdeal.nD Cert.ThirdReferenceIdeal.τ).loc Cert.ThirdReferenceIdeal.main_arg10) = m' ((c.tc : Thread Cert.ThirdReferenceIdeal.nD Cert.ThirdReferenceIdeal.τ).loc Cert.ThirdReferenceIdeal.main_arg10)
          ∧ r.2.mem ((c.tc : Thread Cert.ThirdReferenceIdeal.nD Cert.ThirdReferenceIdeal.τ).loc Cert.ThirdReferenceIdeal.main_arg11) = m' ((c.tc : Thread Cert.ThirdReferenceIdeal.nD Cert.ThirdReferenceIdeal.τ).loc Cert.ThirdReferenceIdeal.main_arg11)
          ∧ r.2.mem ((c.tc : Thread Cert.ThirdReferenceIdeal.nD Cert.ThirdReferenceIdeal.τ).loc Cert.ThirdReferenceIdeal.main_arg12) = m' ((c.tc : Thread Cert.ThirdReferenceIdeal.nD Cert.ThirdReferenceIdeal.τ).loc Cert.ThirdReferenceIdeal.main_arg12))

def preserves_Features_FeaturesIdeal : Prop :=
  True

def algebraic_FeaturesIdeal_FeaturesReferenceIdeal_pre_sound4 [hFeaturesIdeal : Cert.FeaturesIdeal.Facts] [hFeaturesReferenceIdeal : Cert.FeaturesReferenceIdeal.Facts] [hPre_sound4 : Cert.Pre_sound4.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesReferenceIdeal.nD Cert.FeaturesReferenceIdeal.τ Cert.FeaturesReferenceIdeal.sig) → Buf (Elt Ideal) ℓ) (g' : Dev Cert.FeaturesReferenceIdeal.nD → PrngReg), Pre_FeaturesIdeal_sound4 m →
    (∀ c : Dev Cert.FeaturesIdeal.nD,
      m' ((c.tc : Thread Cert.FeaturesReferenceIdeal.nD Cert.FeaturesReferenceIdeal.τ).loc Cert.FeaturesReferenceIdeal.main_arg0) = m ((c.tc : Thread Cert.FeaturesIdeal.nD Cert.FeaturesIdeal.τ).loc Cert.FeaturesIdeal.main_arg0)
      ∧ m' ((c.tc : Thread Cert.FeaturesReferenceIdeal.nD Cert.FeaturesReferenceIdeal.τ).loc Cert.FeaturesReferenceIdeal.main_arg1) = m ((c.tc : Thread Cert.FeaturesIdeal.nD Cert.FeaturesIdeal.τ).loc Cert.FeaturesIdeal.main_arg1)
      ∧ m' ((c.tc : Thread Cert.FeaturesReferenceIdeal.nD Cert.FeaturesReferenceIdeal.τ).loc Cert.FeaturesReferenceIdeal.main_arg2) = m ((c.tc : Thread Cert.FeaturesIdeal.nD Cert.FeaturesIdeal.τ).loc Cert.FeaturesIdeal.main_arg2)
      ∧ m' ((c.tc : Thread Cert.FeaturesReferenceIdeal.nD Cert.FeaturesReferenceIdeal.τ).loc Cert.FeaturesReferenceIdeal.main_arg3) = m ((c.tc : Thread Cert.FeaturesIdeal.nD Cert.FeaturesIdeal.τ).loc Cert.FeaturesIdeal.main_arg3)
      ∧ m' ((c.tc : Thread Cert.FeaturesReferenceIdeal.nD Cert.FeaturesReferenceIdeal.τ).loc Cert.FeaturesReferenceIdeal.main_arg4) = m ((c.tc : Thread Cert.FeaturesIdeal.nD Cert.FeaturesIdeal.τ).loc Cert.FeaturesIdeal.main_arg4)
      ∧ m' ((c.tc : Thread Cert.FeaturesReferenceIdeal.nD Cert.FeaturesReferenceIdeal.τ).loc Cert.FeaturesReferenceIdeal.main_arg5) = m ((c.tc : Thread Cert.FeaturesIdeal.nD Cert.FeaturesIdeal.τ).loc Cert.FeaturesIdeal.main_arg5)
      ∧ m' ((c.tc : Thread Cert.FeaturesReferenceIdeal.nD Cert.FeaturesReferenceIdeal.τ).loc Cert.FeaturesReferenceIdeal.main_arg6) = m ((c.tc : Thread Cert.FeaturesIdeal.nD Cert.FeaturesIdeal.τ).loc Cert.FeaturesIdeal.main_arg6)
      ∧ m' ((c.tc : Thread Cert.FeaturesReferenceIdeal.nD Cert.FeaturesReferenceIdeal.τ).loc Cert.FeaturesReferenceIdeal.main_arg7) = m ((c.tc : Thread Cert.FeaturesIdeal.nD Cert.FeaturesIdeal.τ).loc Cert.FeaturesIdeal.main_arg7)
      ∧ m' ((c.tc : Thread Cert.FeaturesReferenceIdeal.nD Cert.FeaturesReferenceIdeal.τ).loc Cert.FeaturesReferenceIdeal.main_arg8) = m ((c.tc : Thread Cert.FeaturesIdeal.nD Cert.FeaturesIdeal.τ).loc Cert.FeaturesIdeal.main_arg8)
      ∧ m' ((c.tc : Thread Cert.FeaturesReferenceIdeal.nD Cert.FeaturesReferenceIdeal.τ).loc Cert.FeaturesReferenceIdeal.main_arg9) = m ((c.tc : Thread Cert.FeaturesIdeal.nD Cert.FeaturesIdeal.τ).loc Cert.FeaturesIdeal.main_arg9)
      ∧ m' ((c.tc : Thread Cert.FeaturesReferenceIdeal.nD Cert.FeaturesReferenceIdeal.τ).loc Cert.FeaturesReferenceIdeal.main_arg10) = m ((c.tc : Thread Cert.FeaturesIdeal.nD Cert.FeaturesIdeal.τ).loc Cert.FeaturesIdeal.main_arg10)
      ∧ m' ((c.tc : Thread Cert.FeaturesReferenceIdeal.nD Cert.FeaturesReferenceIdeal.τ).loc Cert.FeaturesReferenceIdeal.main_arg11) = m ((c.tc : Thread Cert.FeaturesIdeal.nD Cert.FeaturesIdeal.τ).loc Cert.FeaturesIdeal.main_arg11)
      ∧ m' ((c.tc : Thread Cert.FeaturesReferenceIdeal.nD Cert.FeaturesReferenceIdeal.τ).loc Cert.FeaturesReferenceIdeal.main_arg12) = m ((c.tc : Thread Cert.FeaturesIdeal.nD Cert.FeaturesIdeal.τ).loc Cert.FeaturesIdeal.main_arg12)
      ∧ m' ((c.tc : Thread Cert.FeaturesReferenceIdeal.nD Cert.FeaturesReferenceIdeal.τ).loc Cert.FeaturesReferenceIdeal.main_arg13) = m ((c.tc : Thread Cert.FeaturesIdeal.nD Cert.FeaturesIdeal.τ).loc Cert.FeaturesIdeal.main_arg13)
      ∧ m' ((c.tc : Thread Cert.FeaturesReferenceIdeal.nD Cert.FeaturesReferenceIdeal.τ).loc Cert.FeaturesReferenceIdeal.main_arg14) = m ((c.tc : Thread Cert.FeaturesIdeal.nD Cert.FeaturesIdeal.τ).loc Cert.FeaturesIdeal.main_arg14)
      ∧ m' ((c.tc : Thread Cert.FeaturesReferenceIdeal.nD Cert.FeaturesReferenceIdeal.τ).loc Cert.FeaturesReferenceIdeal.main_arg15) = m ((c.tc : Thread Cert.FeaturesIdeal.nD Cert.FeaturesIdeal.τ).loc Cert.FeaturesIdeal.main_arg15)) →
    ∃ (v0 : (c : Dev Cert.FeaturesIdeal.nD) → Buf (Elt Ideal) ((c.tc : Thread Cert.FeaturesIdeal.nD Cert.FeaturesIdeal.τ).loc Cert.FeaturesIdeal.main_v4)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v4) = v0 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
          ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
          ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
          ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
          ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
          ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
          ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
          ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11)
          ∧ r.2.mem ((c.tc : Thread Cert.FeaturesIdeal.nD Cert.FeaturesIdeal.τ).loc Cert.FeaturesIdeal.main_arg12) = m ((c.tc : Thread Cert.FeaturesIdeal.nD Cert.FeaturesIdeal.τ).loc Cert.FeaturesIdeal.main_arg12)
          ∧ r.2.mem ((c.tc : Thread Cert.FeaturesIdeal.nD Cert.FeaturesIdeal.τ).loc Cert.FeaturesIdeal.main_arg13) = m ((c.tc : Thread Cert.FeaturesIdeal.nD Cert.FeaturesIdeal.τ).loc Cert.FeaturesIdeal.main_arg13)
          ∧ r.2.mem ((c.tc : Thread Cert.FeaturesIdeal.nD Cert.FeaturesIdeal.τ).loc Cert.FeaturesIdeal.main_arg14) = m ((c.tc : Thread Cert.FeaturesIdeal.nD Cert.FeaturesIdeal.τ).loc Cert.FeaturesIdeal.main_arg14)
          ∧ r.2.mem ((c.tc : Thread Cert.FeaturesIdeal.nD Cert.FeaturesIdeal.τ).loc Cert.FeaturesIdeal.main_arg15) = m ((c.tc : Thread Cert.FeaturesIdeal.nD Cert.FeaturesIdeal.τ).loc Cert.FeaturesIdeal.main_arg15))
      ∧ θ_run (Cert.FeaturesReferenceIdeal.defs (F := Ideal)) (onTc (τ := Cert.FeaturesReferenceIdeal.τ) (Cert.FeaturesReferenceIdeal.main (F := Ideal))) ⟨m', fun _ => 0, g'⟩ (fun r => ∀ c : Dev Cert.FeaturesReferenceIdeal.nD,
          r.2.mem ((c.tc : Thread Cert.FeaturesReferenceIdeal.nD Cert.FeaturesReferenceIdeal.τ).loc Cert.FeaturesReferenceIdeal.main_v120) = v0 c
          ∧ r.2.mem ((c.tc : Thread Cert.FeaturesReferenceIdeal.nD Cert.FeaturesReferenceIdeal.τ).loc Cert.FeaturesReferenceIdeal.main_arg0) = m' ((c.tc : Thread Cert.FeaturesReferenceIdeal.nD Cert.FeaturesReferenceIdeal.τ).loc Cert.FeaturesReferenceIdeal.main_arg0)
          ∧ r.2.mem ((c.tc : Thread Cert.FeaturesReferenceIdeal.nD Cert.FeaturesReferenceIdeal.τ).loc Cert.FeaturesReferenceIdeal.main_arg1) = m' ((c.tc : Thread Cert.FeaturesReferenceIdeal.nD Cert.FeaturesReferenceIdeal.τ).loc Cert.FeaturesReferenceIdeal.main_arg1)
          ∧ r.2.mem ((c.tc : Thread Cert.FeaturesReferenceIdeal.nD Cert.FeaturesReferenceIdeal.τ).loc Cert.FeaturesReferenceIdeal.main_arg2) = m' ((c.tc : Thread Cert.FeaturesReferenceIdeal.nD Cert.FeaturesReferenceIdeal.τ).loc Cert.FeaturesReferenceIdeal.main_arg2)
          ∧ r.2.mem ((c.tc : Thread Cert.FeaturesReferenceIdeal.nD Cert.FeaturesReferenceIdeal.τ).loc Cert.FeaturesReferenceIdeal.main_arg3) = m' ((c.tc : Thread Cert.FeaturesReferenceIdeal.nD Cert.FeaturesReferenceIdeal.τ).loc Cert.FeaturesReferenceIdeal.main_arg3)
          ∧ r.2.mem ((c.tc : Thread Cert.FeaturesReferenceIdeal.nD Cert.FeaturesReferenceIdeal.τ).loc Cert.FeaturesReferenceIdeal.main_arg4) = m' ((c.tc : Thread Cert.FeaturesReferenceIdeal.nD Cert.FeaturesReferenceIdeal.τ).loc Cert.FeaturesReferenceIdeal.main_arg4)
          ∧ r.2.mem ((c.tc : Thread Cert.FeaturesReferenceIdeal.nD Cert.FeaturesReferenceIdeal.τ).loc Cert.FeaturesReferenceIdeal.main_arg5) = m' ((c.tc : Thread Cert.FeaturesReferenceIdeal.nD Cert.FeaturesReferenceIdeal.τ).loc Cert.FeaturesReferenceIdeal.main_arg5)
          ∧ r.2.mem ((c.tc : Thread Cert.FeaturesReferenceIdeal.nD Cert.FeaturesReferenceIdeal.τ).loc Cert.FeaturesReferenceIdeal.main_arg6) = m' ((c.tc : Thread Cert.FeaturesReferenceIdeal.nD Cert.FeaturesReferenceIdeal.τ).loc Cert.FeaturesReferenceIdeal.main_arg6)
          ∧ r.2.mem ((c.tc : Thread Cert.FeaturesReferenceIdeal.nD Cert.FeaturesReferenceIdeal.τ).loc Cert.FeaturesReferenceIdeal.main_arg7) = m' ((c.tc : Thread Cert.FeaturesReferenceIdeal.nD Cert.FeaturesReferenceIdeal.τ).loc Cert.FeaturesReferenceIdeal.main_arg7)
          ∧ r.2.mem ((c.tc : Thread Cert.FeaturesReferenceIdeal.nD Cert.FeaturesReferenceIdeal.τ).loc Cert.FeaturesReferenceIdeal.main_arg8) = m' ((c.tc : Thread Cert.FeaturesReferenceIdeal.nD Cert.FeaturesReferenceIdeal.τ).loc Cert.FeaturesReferenceIdeal.main_arg8)
          ∧ r.2.mem ((c.tc : Thread Cert.FeaturesReferenceIdeal.nD Cert.FeaturesReferenceIdeal.τ).loc Cert.FeaturesReferenceIdeal.main_arg9) = m' ((c.tc : Thread Cert.FeaturesReferenceIdeal.nD Cert.FeaturesReferenceIdeal.τ).loc Cert.FeaturesReferenceIdeal.main_arg9)
          ∧ r.2.mem ((c.tc : Thread Cert.FeaturesReferenceIdeal.nD Cert.FeaturesReferenceIdeal.τ).loc Cert.FeaturesReferenceIdeal.main_arg10) = m' ((c.tc : Thread Cert.FeaturesReferenceIdeal.nD Cert.FeaturesReferenceIdeal.τ).loc Cert.FeaturesReferenceIdeal.main_arg10)
          ∧ r.2.mem ((c.tc : Thread Cert.FeaturesReferenceIdeal.nD Cert.FeaturesReferenceIdeal.τ).loc Cert.FeaturesReferenceIdeal.main_arg11) = m' ((c.tc : Thread Cert.FeaturesReferenceIdeal.nD Cert.FeaturesReferenceIdeal.τ).loc Cert.FeaturesReferenceIdeal.main_arg11)
          ∧ r.2.mem ((c.tc : Thread Cert.FeaturesReferenceIdeal.nD Cert.FeaturesReferenceIdeal.τ).loc Cert.FeaturesReferenceIdeal.main_arg12) = m' ((c.tc : Thread Cert.FeaturesReferenceIdeal.nD Cert.FeaturesReferenceIdeal.τ).loc Cert.FeaturesReferenceIdeal.main_arg12)
          ∧ r.2.mem ((c.tc : Thread Cert.FeaturesReferenceIdeal.nD Cert.FeaturesReferenceIdeal.τ).loc Cert.FeaturesReferenceIdeal.main_arg13) = m' ((c.tc : Thread Cert.FeaturesReferenceIdeal.nD Cert.FeaturesReferenceIdeal.τ).loc Cert.FeaturesReferenceIdeal.main_arg13)
          ∧ r.2.mem ((c.tc : Thread Cert.FeaturesReferenceIdeal.nD Cert.FeaturesReferenceIdeal.τ).loc Cert.FeaturesReferenceIdeal.main_arg14) = m' ((c.tc : Thread Cert.FeaturesReferenceIdeal.nD Cert.FeaturesReferenceIdeal.τ).loc Cert.FeaturesReferenceIdeal.main_arg14)
          ∧ r.2.mem ((c.tc : Thread Cert.FeaturesReferenceIdeal.nD Cert.FeaturesReferenceIdeal.τ).loc Cert.FeaturesReferenceIdeal.main_arg15) = m' ((c.tc : Thread Cert.FeaturesReferenceIdeal.nD Cert.FeaturesReferenceIdeal.τ).loc Cert.FeaturesReferenceIdeal.main_arg15))

def algebraic_SecondIdeal_SecondPlainIdeal_pre_linked2 [hSecondIdeal : Cert.SecondIdeal.Facts] [hSecondPlainIdeal : Cert.SecondPlainIdeal.Facts] [hPre_linked2 : Cert.Pre_linked2.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondPlainIdeal.nD Cert.SecondPlainIdeal.τ Cert.SecondPlainIdeal.sig) → Buf (Elt Ideal) ℓ) (g' : Dev Cert.SecondPlainIdeal.nD → PrngReg), Pre_SecondIdeal_linked2 m →
    (∀ c : Dev Cert.SecondIdeal.nD,
      m' ((c.tc : Thread Cert.SecondPlainIdeal.nD Cert.SecondPlainIdeal.τ).loc Cert.SecondPlainIdeal.main_arg0) = m ((c.tc : Thread Cert.SecondIdeal.nD Cert.SecondIdeal.τ).loc Cert.SecondIdeal.main_arg0)
      ∧ m' ((c.tc : Thread Cert.SecondPlainIdeal.nD Cert.SecondPlainIdeal.τ).loc Cert.SecondPlainIdeal.main_arg1) = m ((c.tc : Thread Cert.SecondIdeal.nD Cert.SecondIdeal.τ).loc Cert.SecondIdeal.main_arg1)
      ∧ m' ((c.tc : Thread Cert.SecondPlainIdeal.nD Cert.SecondPlainIdeal.τ).loc Cert.SecondPlainIdeal.main_arg2) = m ((c.tc : Thread Cert.SecondIdeal.nD Cert.SecondIdeal.τ).loc Cert.SecondIdeal.main_arg2)
      ∧ m' ((c.tc : Thread Cert.SecondPlainIdeal.nD Cert.SecondPlainIdeal.τ).loc Cert.SecondPlainIdeal.main_arg3) = m ((c.tc : Thread Cert.SecondIdeal.nD Cert.SecondIdeal.τ).loc Cert.SecondIdeal.main_arg3)
      ∧ m' ((c.tc : Thread Cert.SecondPlainIdeal.nD Cert.SecondPlainIdeal.τ).loc Cert.SecondPlainIdeal.main_arg4) = m ((c.tc : Thread Cert.SecondIdeal.nD Cert.SecondIdeal.τ).loc Cert.SecondIdeal.main_arg4)
      ∧ m' ((c.tc : Thread Cert.SecondPlainIdeal.nD Cert.SecondPlainIdeal.τ).loc Cert.SecondPlainIdeal.main_arg5) = m ((c.tc : Thread Cert.SecondIdeal.nD Cert.SecondIdeal.τ).loc Cert.SecondIdeal.main_arg5)
      ∧ m' ((c.tc : Thread Cert.SecondPlainIdeal.nD Cert.SecondPlainIdeal.τ).loc Cert.SecondPlainIdeal.main_arg6) = m ((c.tc : Thread Cert.SecondIdeal.nD Cert.SecondIdeal.τ).loc Cert.SecondIdeal.main_arg6)
      ∧ m' ((c.tc : Thread Cert.SecondPlainIdeal.nD Cert.SecondPlainIdeal.τ).loc Cert.SecondPlainIdeal.main_arg7) = m ((c.tc : Thread Cert.SecondIdeal.nD Cert.SecondIdeal.τ).loc Cert.SecondIdeal.main_arg7)) →
    ∃ (v0 : (c : Dev Cert.SecondIdeal.nD) → Buf (Elt Ideal) ((c.tc : Thread Cert.SecondIdeal.nD Cert.SecondIdeal.τ).loc Cert.SecondIdeal.main_v3)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v3) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7))
      ∧ θ_run (Cert.SecondPlainIdeal.defs (F := Ideal)) (onTc (τ := Cert.SecondPlainIdeal.τ) (Cert.SecondPlainIdeal.main (F := Ideal))) ⟨m', fun _ => 0, g'⟩ (fun r => ∀ c : Dev Cert.SecondPlainIdeal.nD,
          r.2.mem ((c.tc : Thread Cert.SecondPlainIdeal.nD Cert.SecondPlainIdeal.τ).loc Cert.SecondPlainIdeal.main_v35) = v0 c
          ∧ r.2.mem ((c.tc : Thread Cert.SecondPlainIdeal.nD Cert.SecondPlainIdeal.τ).loc Cert.SecondPlainIdeal.main_arg0) = m' ((c.tc : Thread Cert.SecondPlainIdeal.nD Cert.SecondPlainIdeal.τ).loc Cert.SecondPlainIdeal.main_arg0)
          ∧ r.2.mem ((c.tc : Thread Cert.SecondPlainIdeal.nD Cert.SecondPlainIdeal.τ).loc Cert.SecondPlainIdeal.main_arg1) = m' ((c.tc : Thread Cert.SecondPlainIdeal.nD Cert.SecondPlainIdeal.τ).loc Cert.SecondPlainIdeal.main_arg1)
          ∧ r.2.mem ((c.tc : Thread Cert.SecondPlainIdeal.nD Cert.SecondPlainIdeal.τ).loc Cert.SecondPlainIdeal.main_arg2) = m' ((c.tc : Thread Cert.SecondPlainIdeal.nD Cert.SecondPlainIdeal.τ).loc Cert.SecondPlainIdeal.main_arg2)
          ∧ r.2.mem ((c.tc : Thread Cert.SecondPlainIdeal.nD Cert.SecondPlainIdeal.τ).loc Cert.SecondPlainIdeal.main_arg3) = m' ((c.tc : Thread Cert.SecondPlainIdeal.nD Cert.SecondPlainIdeal.τ).loc Cert.SecondPlainIdeal.main_arg3)
          ∧ r.2.mem ((c.tc : Thread Cert.SecondPlainIdeal.nD Cert.SecondPlainIdeal.τ).loc Cert.SecondPlainIdeal.main_arg4) = m' ((c.tc : Thread Cert.SecondPlainIdeal.nD Cert.SecondPlainIdeal.τ).loc Cert.SecondPlainIdeal.main_arg4)
          ∧ r.2.mem ((c.tc : Thread Cert.SecondPlainIdeal.nD Cert.SecondPlainIdeal.τ).loc Cert.SecondPlainIdeal.main_arg5) = m' ((c.tc : Thread Cert.SecondPlainIdeal.nD Cert.SecondPlainIdeal.τ).loc Cert.SecondPlainIdeal.main_arg5)
          ∧ r.2.mem ((c.tc : Thread Cert.SecondPlainIdeal.nD Cert.SecondPlainIdeal.τ).loc Cert.SecondPlainIdeal.main_arg6) = m' ((c.tc : Thread Cert.SecondPlainIdeal.nD Cert.SecondPlainIdeal.τ).loc Cert.SecondPlainIdeal.main_arg6)
          ∧ r.2.mem ((c.tc : Thread Cert.SecondPlainIdeal.nD Cert.SecondPlainIdeal.τ).loc Cert.SecondPlainIdeal.main_arg7) = m' ((c.tc : Thread Cert.SecondPlainIdeal.nD Cert.SecondPlainIdeal.τ).loc Cert.SecondPlainIdeal.main_arg7))

def algebraic_ThirdIdeal_ThirdPlainIdeal_pre_linked3 [hThirdIdeal : Cert.ThirdIdeal.Facts] [hThirdPlainIdeal : Cert.ThirdPlainIdeal.Facts] [hPre_linked3 : Cert.Pre_linked3.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdPlainIdeal.nD Cert.ThirdPlainIdeal.τ Cert.ThirdPlainIdeal.sig) → Buf (Elt Ideal) ℓ) (g' : Dev Cert.ThirdPlainIdeal.nD → PrngReg), Pre_ThirdIdeal_linked3 m →
    (∀ c : Dev Cert.ThirdIdeal.nD,
      m' ((c.tc : Thread Cert.ThirdPlainIdeal.nD Cert.ThirdPlainIdeal.τ).loc Cert.ThirdPlainIdeal.main_arg0) = m ((c.tc : Thread Cert.ThirdIdeal.nD Cert.ThirdIdeal.τ).loc Cert.ThirdIdeal.main_arg0)
      ∧ m' ((c.tc : Thread Cert.ThirdPlainIdeal.nD Cert.ThirdPlainIdeal.τ).loc Cert.ThirdPlainIdeal.main_arg1) = m ((c.tc : Thread Cert.ThirdIdeal.nD Cert.ThirdIdeal.τ).loc Cert.ThirdIdeal.main_arg1)
      ∧ m' ((c.tc : Thread Cert.ThirdPlainIdeal.nD Cert.ThirdPlainIdeal.τ).loc Cert.ThirdPlainIdeal.main_arg2) = m ((c.tc : Thread Cert.ThirdIdeal.nD Cert.ThirdIdeal.τ).loc Cert.ThirdIdeal.main_arg2)
      ∧ m' ((c.tc : Thread Cert.ThirdPlainIdeal.nD Cert.ThirdPlainIdeal.τ).loc Cert.ThirdPlainIdeal.main_arg3) = m ((c.tc : Thread Cert.ThirdIdeal.nD Cert.ThirdIdeal.τ).loc Cert.ThirdIdeal.main_arg3)
      ∧ m' ((c.tc : Thread Cert.ThirdPlainIdeal.nD Cert.ThirdPlainIdeal.τ).loc Cert.ThirdPlainIdeal.main_arg4) = m ((c.tc : Thread Cert.ThirdIdeal.nD Cert.ThirdIdeal.τ).loc Cert.ThirdIdeal.main_arg4)
      ∧ m' ((c.tc : Thread Cert.ThirdPlainIdeal.nD Cert.ThirdPlainIdeal.τ).loc Cert.ThirdPlainIdeal.main_arg5) = m ((c.tc : Thread Cert.ThirdIdeal.nD Cert.ThirdIdeal.τ).loc Cert.ThirdIdeal.main_arg5)
      ∧ m' ((c.tc : Thread Cert.ThirdPlainIdeal.nD Cert.ThirdPlainIdeal.τ).loc Cert.ThirdPlainIdeal.main_arg6) = m ((c.tc : Thread Cert.ThirdIdeal.nD Cert.ThirdIdeal.τ).loc Cert.ThirdIdeal.main_arg6)
      ∧ m' ((c.tc : Thread Cert.ThirdPlainIdeal.nD Cert.ThirdPlainIdeal.τ).loc Cert.ThirdPlainIdeal.main_arg7) = m ((c.tc : Thread Cert.ThirdIdeal.nD Cert.ThirdIdeal.τ).loc Cert.ThirdIdeal.main_arg7)
      ∧ m' ((c.tc : Thread Cert.ThirdPlainIdeal.nD Cert.ThirdPlainIdeal.τ).loc Cert.ThirdPlainIdeal.main_arg8) = m ((c.tc : Thread Cert.ThirdIdeal.nD Cert.ThirdIdeal.τ).loc Cert.ThirdIdeal.main_arg8)
      ∧ m' ((c.tc : Thread Cert.ThirdPlainIdeal.nD Cert.ThirdPlainIdeal.τ).loc Cert.ThirdPlainIdeal.main_arg9) = m ((c.tc : Thread Cert.ThirdIdeal.nD Cert.ThirdIdeal.τ).loc Cert.ThirdIdeal.main_arg9)
      ∧ m' ((c.tc : Thread Cert.ThirdPlainIdeal.nD Cert.ThirdPlainIdeal.τ).loc Cert.ThirdPlainIdeal.main_arg10) = m ((c.tc : Thread Cert.ThirdIdeal.nD Cert.ThirdIdeal.τ).loc Cert.ThirdIdeal.main_arg10)
      ∧ m' ((c.tc : Thread Cert.ThirdPlainIdeal.nD Cert.ThirdPlainIdeal.τ).loc Cert.ThirdPlainIdeal.main_arg11) = m ((c.tc : Thread Cert.ThirdIdeal.nD Cert.ThirdIdeal.τ).loc Cert.ThirdIdeal.main_arg11)
      ∧ m' ((c.tc : Thread Cert.ThirdPlainIdeal.nD Cert.ThirdPlainIdeal.τ).loc Cert.ThirdPlainIdeal.main_arg12) = m ((c.tc : Thread Cert.ThirdIdeal.nD Cert.ThirdIdeal.τ).loc Cert.ThirdIdeal.main_arg12)) →
    ∃ (v0 : (c : Dev Cert.ThirdIdeal.nD) → Buf (Elt Ideal) ((c.tc : Thread Cert.ThirdIdeal.nD Cert.ThirdIdeal.τ).loc Cert.ThirdIdeal.main_v4)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v4) = v0 c
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
          ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
          ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7)
          ∧ r.2.mem ((c.tc : Thread Cert.ThirdIdeal.nD Cert.ThirdIdeal.τ).loc Cert.ThirdIdeal.main_arg8) = m ((c.tc : Thread Cert.ThirdIdeal.nD Cert.ThirdIdeal.τ).loc Cert.ThirdIdeal.main_arg8)
          ∧ r.2.mem ((c.tc : Thread Cert.ThirdIdeal.nD Cert.ThirdIdeal.τ).loc Cert.ThirdIdeal.main_arg9) = m ((c.tc : Thread Cert.ThirdIdeal.nD Cert.ThirdIdeal.τ).loc Cert.ThirdIdeal.main_arg9)
          ∧ r.2.mem ((c.tc : Thread Cert.ThirdIdeal.nD Cert.ThirdIdeal.τ).loc Cert.ThirdIdeal.main_arg10) = m ((c.tc : Thread Cert.ThirdIdeal.nD Cert.ThirdIdeal.τ).loc Cert.ThirdIdeal.main_arg10)
          ∧ r.2.mem ((c.tc : Thread Cert.ThirdIdeal.nD Cert.ThirdIdeal.τ).loc Cert.ThirdIdeal.main_arg11) = m ((c.tc : Thread Cert.ThirdIdeal.nD Cert.ThirdIdeal.τ).loc Cert.ThirdIdeal.main_arg11)
          ∧ r.2.mem ((c.tc : Thread Cert.ThirdIdeal.nD Cert.ThirdIdeal.τ).loc Cert.ThirdIdeal.main_arg12) = m ((c.tc : Thread Cert.ThirdIdeal.nD Cert.ThirdIdeal.τ).loc Cert.ThirdIdeal.main_arg12))
      ∧ θ_run (Cert.ThirdPlainIdeal.defs (F := Ideal)) (onTc (τ := Cert.ThirdPlainIdeal.τ) (Cert.ThirdPlainIdeal.main (F := Ideal))) ⟨m', fun _ => 0, g'⟩ (fun r => ∀ c : Dev Cert.ThirdPlainIdeal.nD,
          r.2.mem ((c.tc : Thread Cert.ThirdPlainIdeal.nD Cert.ThirdPlainIdeal.τ).loc Cert.ThirdPlainIdeal.main_v59) = v0 c
          ∧ r.2.mem ((c.tc : Thread Cert.ThirdPlainIdeal.nD Cert.ThirdPlainIdeal.τ).loc Cert.ThirdPlainIdeal.main_arg0) = m' ((c.tc : Thread Cert.ThirdPlainIdeal.nD Cert.ThirdPlainIdeal.τ).loc Cert.ThirdPlainIdeal.main_arg0)
          ∧ r.2.mem ((c.tc : Thread Cert.ThirdPlainIdeal.nD Cert.ThirdPlainIdeal.τ).loc Cert.ThirdPlainIdeal.main_arg1) = m' ((c.tc : Thread Cert.ThirdPlainIdeal.nD Cert.ThirdPlainIdeal.τ).loc Cert.ThirdPlainIdeal.main_arg1)
          ∧ r.2.mem ((c.tc : Thread Cert.ThirdPlainIdeal.nD Cert.ThirdPlainIdeal.τ).loc Cert.ThirdPlainIdeal.main_arg2) = m' ((c.tc : Thread Cert.ThirdPlainIdeal.nD Cert.ThirdPlainIdeal.τ).loc Cert.ThirdPlainIdeal.main_arg2)
          ∧ r.2.mem ((c.tc : Thread Cert.ThirdPlainIdeal.nD Cert.ThirdPlainIdeal.τ).loc Cert.ThirdPlainIdeal.main_arg3) = m' ((c.tc : Thread Cert.ThirdPlainIdeal.nD Cert.ThirdPlainIdeal.τ).loc Cert.ThirdPlainIdeal.main_arg3)
          ∧ r.2.mem ((c.tc : Thread Cert.ThirdPlainIdeal.nD Cert.ThirdPlainIdeal.τ).loc Cert.ThirdPlainIdeal.main_arg4) = m' ((c.tc : Thread Cert.ThirdPlainIdeal.nD Cert.ThirdPlainIdeal.τ).loc Cert.ThirdPlainIdeal.main_arg4)
          ∧ r.2.mem ((c.tc : Thread Cert.ThirdPlainIdeal.nD Cert.ThirdPlainIdeal.τ).loc Cert.ThirdPlainIdeal.main_arg5) = m' ((c.tc : Thread Cert.ThirdPlainIdeal.nD Cert.ThirdPlainIdeal.τ).loc Cert.ThirdPlainIdeal.main_arg5)
          ∧ r.2.mem ((c.tc : Thread Cert.ThirdPlainIdeal.nD Cert.ThirdPlainIdeal.τ).loc Cert.ThirdPlainIdeal.main_arg6) = m' ((c.tc : Thread Cert.ThirdPlainIdeal.nD Cert.ThirdPlainIdeal.τ).loc Cert.ThirdPlainIdeal.main_arg6)
          ∧ r.2.mem ((c.tc : Thread Cert.ThirdPlainIdeal.nD Cert.ThirdPlainIdeal.τ).loc Cert.ThirdPlainIdeal.main_arg7) = m' ((c.tc : Thread Cert.ThirdPlainIdeal.nD Cert.ThirdPlainIdeal.τ).loc Cert.ThirdPlainIdeal.main_arg7)
          ∧ r.2.mem ((c.tc : Thread Cert.ThirdPlainIdeal.nD Cert.ThirdPlainIdeal.τ).loc Cert.ThirdPlainIdeal.main_arg8) = m' ((c.tc : Thread Cert.ThirdPlainIdeal.nD Cert.ThirdPlainIdeal.τ).loc Cert.ThirdPlainIdeal.main_arg8)
          ∧ r.2.mem ((c.tc : Thread Cert.ThirdPlainIdeal.nD Cert.ThirdPlainIdeal.τ).loc Cert.ThirdPlainIdeal.main_arg9) = m' ((c.tc : Thread Cert.ThirdPlainIdeal.nD Cert.ThirdPlainIdeal.τ).loc Cert.ThirdPlainIdeal.main_arg9)
          ∧ r.2.mem ((c.tc : Thread Cert.ThirdPlainIdeal.nD Cert.ThirdPlainIdeal.τ).loc Cert.ThirdPlainIdeal.main_arg10) = m' ((c.tc : Thread Cert.ThirdPlainIdeal.nD Cert.ThirdPlainIdeal.τ).loc Cert.ThirdPlainIdeal.main_arg10)
          ∧ r.2.mem ((c.tc : Thread Cert.ThirdPlainIdeal.nD Cert.ThirdPlainIdeal.τ).loc Cert.ThirdPlainIdeal.main_arg11) = m' ((c.tc : Thread Cert.ThirdPlainIdeal.nD Cert.ThirdPlainIdeal.τ).loc Cert.ThirdPlainIdeal.main_arg11)
          ∧ r.2.mem ((c.tc : Thread Cert.ThirdPlainIdeal.nD Cert.ThirdPlainIdeal.τ).loc Cert.ThirdPlainIdeal.main_arg12) = m' ((c.tc : Thread Cert.ThirdPlainIdeal.nD Cert.ThirdPlainIdeal.τ).loc Cert.ThirdPlainIdeal.main_arg12))

def algebraic_FeaturesIdeal_FeaturesPlainIdeal_pre_linked4 [hFeaturesIdeal : Cert.FeaturesIdeal.Facts] [hFeaturesPlainIdeal : Cert.FeaturesPlainIdeal.Facts] [hPre_linked4 : Cert.Pre_linked4.Facts] : Prop :=
  ∀ (m : (ℓ : Loc Cert.FeaturesIdeal.nD Cert.FeaturesIdeal.τ Cert.FeaturesIdeal.sig) → Buf (Elt Ideal) ℓ) (g : Dev Cert.FeaturesIdeal.nD → PrngReg)
    (m' : (ℓ : Loc Cert.FeaturesPlainIdeal.nD Cert.FeaturesPlainIdeal.τ Cert.FeaturesPlainIdeal.sig) → Buf (Elt Ideal) ℓ) (g' : Dev Cert.FeaturesPlainIdeal.nD → PrngReg), Pre_FeaturesIdeal_linked4 m →
    (∀ c : Dev Cert.FeaturesIdeal.nD,
      m' ((c.tc : Thread Cert.FeaturesPlainIdeal.nD Cert.FeaturesPlainIdeal.τ).loc Cert.FeaturesPlainIdeal.main_arg0) = m ((c.tc : Thread Cert.FeaturesIdeal.nD Cert.FeaturesIdeal.τ).loc Cert.FeaturesIdeal.main_arg0)
      ∧ m' ((c.tc : Thread Cert.FeaturesPlainIdeal.nD Cert.FeaturesPlainIdeal.τ).loc Cert.FeaturesPlainIdeal.main_arg1) = m ((c.tc : Thread Cert.FeaturesIdeal.nD Cert.FeaturesIdeal.τ).loc Cert.FeaturesIdeal.main_arg1)
      ∧ m' ((c.tc : Thread Cert.FeaturesPlainIdeal.nD Cert.FeaturesPlainIdeal.τ).loc Cert.FeaturesPlainIdeal.main_arg2) = m ((c.tc : Thread Cert.FeaturesIdeal.nD Cert.FeaturesIdeal.τ).loc Cert.FeaturesIdeal.main_arg2)
      ∧ m' ((c.tc : Thread Cert.FeaturesPlainIdeal.nD Cert.FeaturesPlainIdeal.τ).loc Cert.FeaturesPlainIdeal.main_arg3) = m ((c.tc : Thread Cert.FeaturesIdeal.nD Cert.FeaturesIdeal.τ).loc Cert.FeaturesIdeal.main_arg3)
      ∧ m' ((c.tc : Thread Cert.FeaturesPlainIdeal.nD Cert.FeaturesPlainIdeal.τ).loc Cert.FeaturesPlainIdeal.main_arg4) = m ((c.tc : Thread Cert.FeaturesIdeal.nD Cert.FeaturesIdeal.τ).loc Cert.FeaturesIdeal.main_arg4)
      ∧ m' ((c.tc : Thread Cert.FeaturesPlainIdeal.nD Cert.FeaturesPlainIdeal.τ).loc Cert.FeaturesPlainIdeal.main_arg5) = m ((c.tc : Thread Cert.FeaturesIdeal.nD Cert.FeaturesIdeal.τ).loc Cert.FeaturesIdeal.main_arg5)
      ∧ m' ((c.tc : Thread Cert.FeaturesPlainIdeal.nD Cert.FeaturesPlainIdeal.τ).loc Cert.FeaturesPlainIdeal.main_arg6) = m ((c.tc : Thread Cert.FeaturesIdeal.nD Cert.FeaturesIdeal.τ).loc Cert.FeaturesIdeal.main_arg6)
      ∧ m' ((c.tc : Thread Cert.FeaturesPlainIdeal.nD Cert.FeaturesPlainIdeal.τ).loc Cert.FeaturesPlainIdeal.main_arg7) = m ((c.tc : Thread Cert.FeaturesIdeal.nD Cert.FeaturesIdeal.τ).loc Cert.FeaturesIdeal.main_arg7)
      ∧ m' ((c.tc : Thread Cert.FeaturesPlainIdeal.nD Cert.FeaturesPlainIdeal.τ).loc Cert.FeaturesPlainIdeal.main_arg8) = m ((c.tc : Thread Cert.FeaturesIdeal.nD Cert.FeaturesIdeal.τ).loc Cert.FeaturesIdeal.main_arg8)
      ∧ m' ((c.tc : Thread Cert.FeaturesPlainIdeal.nD Cert.FeaturesPlainIdeal.τ).loc Cert.FeaturesPlainIdeal.main_arg9) = m ((c.tc : Thread Cert.FeaturesIdeal.nD Cert.FeaturesIdeal.τ).loc Cert.FeaturesIdeal.main_arg9)
      ∧ m' ((c.tc : Thread Cert.FeaturesPlainIdeal.nD Cert.FeaturesPlainIdeal.τ).loc Cert.FeaturesPlainIdeal.main_arg10) = m ((c.tc : Thread Cert.FeaturesIdeal.nD Cert.FeaturesIdeal.τ).loc Cert.FeaturesIdeal.main_arg10)
      ∧ m' ((c.tc : Thread Cert.FeaturesPlainIdeal.nD Cert.FeaturesPlainIdeal.τ).loc Cert.FeaturesPlainIdeal.main_arg11) = m ((c.tc : Thread Cert.FeaturesIdeal.nD Cert.FeaturesIdeal.τ).loc Cert.FeaturesIdeal.main_arg11)
      ∧ m' ((c.tc : Thread Cert.FeaturesPlainIdeal.nD Cert.FeaturesPlainIdeal.τ).loc Cert.FeaturesPlainIdeal.main_arg12) = m ((c.tc : Thread Cert.FeaturesIdeal.nD Cert.FeaturesIdeal.τ).loc Cert.FeaturesIdeal.main_arg12)
      ∧ m' ((c.tc : Thread Cert.FeaturesPlainIdeal.nD Cert.FeaturesPlainIdeal.τ).loc Cert.FeaturesPlainIdeal.main_arg13) = m ((c.tc : Thread Cert.FeaturesIdeal.nD Cert.FeaturesIdeal.τ).loc Cert.FeaturesIdeal.main_arg13)
      ∧ m' ((c.tc : Thread Cert.FeaturesPlainIdeal.nD Cert.FeaturesPlainIdeal.τ).loc Cert.FeaturesPlainIdeal.main_arg14) = m ((c.tc : Thread Cert.FeaturesIdeal.nD Cert.FeaturesIdeal.τ).loc Cert.FeaturesIdeal.main_arg14)
      ∧ m' ((c.tc : Thread Cert.FeaturesPlainIdeal.nD Cert.FeaturesPlainIdeal.τ).loc Cert.FeaturesPlainIdeal.main_arg15) = m ((c.tc : Thread Cert.FeaturesIdeal.nD Cert.FeaturesIdeal.τ).loc Cert.FeaturesIdeal.main_arg15)) →
    ∃ (v0 : (c : Dev Cert.FeaturesIdeal.nD) → Buf (Elt Ideal) ((c.tc : Thread Cert.FeaturesIdeal.nD Cert.FeaturesIdeal.τ).loc Cert.FeaturesIdeal.main_v4)),
      θ_run (Cert.FeaturesIdeal.defs (F := Ideal)) (onTc (τ := Cert.FeaturesIdeal.τ) (Cert.FeaturesIdeal.main (F := Ideal))) ⟨m, fun _ => 0, g⟩ (fun r => ∀ c : Dev Cert.FeaturesIdeal.nD,
          r.2.mem ((c.tc : Thread Cert.FeaturesIdeal.nD Cert.FeaturesIdeal.τ).loc Cert.FeaturesIdeal.main_v4) = v0 c
          ∧ r.2.mem ((c.tc : Thread Cert.FeaturesIdeal.nD Cert.FeaturesIdeal.τ).loc Cert.FeaturesIdeal.main_arg0) = m ((c.tc : Thread Cert.FeaturesIdeal.nD Cert.FeaturesIdeal.τ).loc Cert.FeaturesIdeal.main_arg0)
          ∧ r.2.mem ((c.tc : Thread Cert.FeaturesIdeal.nD Cert.FeaturesIdeal.τ).loc Cert.FeaturesIdeal.main_arg1) = m ((c.tc : Thread Cert.FeaturesIdeal.nD Cert.FeaturesIdeal.τ).loc Cert.FeaturesIdeal.main_arg1)
          ∧ r.2.mem ((c.tc : Thread Cert.FeaturesIdeal.nD Cert.FeaturesIdeal.τ).loc Cert.FeaturesIdeal.main_arg2) = m ((c.tc : Thread Cert.FeaturesIdeal.nD Cert.FeaturesIdeal.τ).loc Cert.FeaturesIdeal.main_arg2)
          ∧ r.2.mem ((c.tc : Thread Cert.FeaturesIdeal.nD Cert.FeaturesIdeal.τ).loc Cert.FeaturesIdeal.main_arg3) = m ((c.tc : Thread Cert.FeaturesIdeal.nD Cert.FeaturesIdeal.τ).loc Cert.FeaturesIdeal.main_arg3)
          ∧ r.2.mem ((c.tc : Thread Cert.FeaturesIdeal.nD Cert.FeaturesIdeal.τ).loc Cert.FeaturesIdeal.main_arg4) = m ((c.tc : Thread Cert.FeaturesIdeal.nD Cert.FeaturesIdeal.τ).loc Cert.FeaturesIdeal.main_arg4)
          ∧ r.2.mem ((c.tc : Thread Cert.FeaturesIdeal.nD Cert.FeaturesIdeal.τ).loc Cert.FeaturesIdeal.main_arg5) = m ((c.tc : Thread Cert.FeaturesIdeal.nD Cert.FeaturesIdeal.τ).loc Cert.FeaturesIdeal.main_arg5)
          ∧ r.2.mem ((c.tc : Thread Cert.FeaturesIdeal.nD Cert.FeaturesIdeal.τ).loc Cert.FeaturesIdeal.main_arg6) = m ((c.tc : Thread Cert.FeaturesIdeal.nD Cert.FeaturesIdeal.τ).loc Cert.FeaturesIdeal.main_arg6)
          ∧ r.2.mem ((c.tc : Thread Cert.FeaturesIdeal.nD Cert.FeaturesIdeal.τ).loc Cert.FeaturesIdeal.main_arg7) = m ((c.tc : Thread Cert.FeaturesIdeal.nD Cert.FeaturesIdeal.τ).loc Cert.FeaturesIdeal.main_arg7)
          ∧ r.2.mem ((c.tc : Thread Cert.FeaturesIdeal.nD Cert.FeaturesIdeal.τ).loc Cert.FeaturesIdeal.main_arg8) = m ((c.tc : Thread Cert.FeaturesIdeal.nD Cert.FeaturesIdeal.τ).loc Cert.FeaturesIdeal.main_arg8)
          ∧ r.2.mem ((c.tc : Thread Cert.FeaturesIdeal.nD Cert.FeaturesIdeal.τ).loc Cert.FeaturesIdeal.main_arg9) = m ((c.tc : Thread Cert.FeaturesIdeal.nD Cert.FeaturesIdeal.τ).loc Cert.FeaturesIdeal.main_arg9)
          ∧ r.2.mem ((c.tc : Thread Cert.FeaturesIdeal.nD Cert.FeaturesIdeal.τ).loc Cert.FeaturesIdeal.main_arg10) = m ((c.tc : Thread Cert.FeaturesIdeal.nD Cert.FeaturesIdeal.τ).loc Cert.FeaturesIdeal.main_arg10)
          ∧ r.2.mem ((c.tc : Thread Cert.FeaturesIdeal.nD Cert.FeaturesIdeal.τ).loc Cert.FeaturesIdeal.main_arg11) = m ((c.tc : Thread Cert.FeaturesIdeal.nD Cert.FeaturesIdeal.τ).loc Cert.FeaturesIdeal.main_arg11)
          ∧ r.2.mem ((c.tc : Thread Cert.FeaturesIdeal.nD Cert.FeaturesIdeal.τ).loc Cert.FeaturesIdeal.main_arg12) = m ((c.tc : Thread Cert.FeaturesIdeal.nD Cert.FeaturesIdeal.τ).loc Cert.FeaturesIdeal.main_arg12)
          ∧ r.2.mem ((c.tc : Thread Cert.FeaturesIdeal.nD Cert.FeaturesIdeal.τ).loc Cert.FeaturesIdeal.main_arg13) = m ((c.tc : Thread Cert.FeaturesIdeal.nD Cert.FeaturesIdeal.τ).loc Cert.FeaturesIdeal.main_arg13)
          ∧ r.2.mem ((c.tc : Thread Cert.FeaturesIdeal.nD Cert.FeaturesIdeal.τ).loc Cert.FeaturesIdeal.main_arg14) = m ((c.tc : Thread Cert.FeaturesIdeal.nD Cert.FeaturesIdeal.τ).loc Cert.FeaturesIdeal.main_arg14)
          ∧ r.2.mem ((c.tc : Thread Cert.FeaturesIdeal.nD Cert.FeaturesIdeal.τ).loc Cert.FeaturesIdeal.main_arg15) = m ((c.tc : Thread Cert.FeaturesIdeal.nD Cert.FeaturesIdeal.τ).loc Cert.FeaturesIdeal.main_arg15))
      ∧ θ_run (Cert.FeaturesPlainIdeal.defs (F := Ideal)) (onTc (τ := Cert.FeaturesPlainIdeal.τ) (Cert.FeaturesPlainIdeal.main (F := Ideal))) ⟨m', fun _ => 0, g'⟩ (fun r => ∀ c : Dev Cert.FeaturesPlainIdeal.nD,
          r.2.mem ((c.tc : Thread Cert.FeaturesPlainIdeal.nD Cert.FeaturesPlainIdeal.τ).loc Cert.FeaturesPlainIdeal.main_v99) = v0 c
          ∧ r.2.mem ((c.tc : Thread Cert.FeaturesPlainIdeal.nD Cert.FeaturesPlainIdeal.τ).loc Cert.FeaturesPlainIdeal.main_arg0) = m' ((c.tc : Thread Cert.FeaturesPlainIdeal.nD Cert.FeaturesPlainIdeal.τ).loc Cert.FeaturesPlainIdeal.main_arg0)
          ∧ r.2.mem ((c.tc : Thread Cert.FeaturesPlainIdeal.nD Cert.FeaturesPlainIdeal.τ).loc Cert.FeaturesPlainIdeal.main_arg1) = m' ((c.tc : Thread Cert.FeaturesPlainIdeal.nD Cert.FeaturesPlainIdeal.τ).loc Cert.FeaturesPlainIdeal.main_arg1)
          ∧ r.2.mem ((c.tc : Thread Cert.FeaturesPlainIdeal.nD Cert.FeaturesPlainIdeal.τ).loc Cert.FeaturesPlainIdeal.main_arg2) = m' ((c.tc : Thread Cert.FeaturesPlainIdeal.nD Cert.FeaturesPlainIdeal.τ).loc Cert.FeaturesPlainIdeal.main_arg2)
          ∧ r.2.mem ((c.tc : Thread Cert.FeaturesPlainIdeal.nD Cert.FeaturesPlainIdeal.τ).loc Cert.FeaturesPlainIdeal.main_arg3) = m' ((c.tc : Thread Cert.FeaturesPlainIdeal.nD Cert.FeaturesPlainIdeal.τ).loc Cert.FeaturesPlainIdeal.main_arg3)
          ∧ r.2.mem ((c.tc : Thread Cert.FeaturesPlainIdeal.nD Cert.FeaturesPlainIdeal.τ).loc Cert.FeaturesPlainIdeal.main_arg4) = m' ((c.tc : Thread Cert.FeaturesPlainIdeal.nD Cert.FeaturesPlainIdeal.τ).loc Cert.FeaturesPlainIdeal.main_arg4)
          ∧ r.2.mem ((c.tc : Thread Cert.FeaturesPlainIdeal.nD Cert.FeaturesPlainIdeal.τ).loc Cert.FeaturesPlainIdeal.main_arg5) = m' ((c.tc : Thread Cert.FeaturesPlainIdeal.nD Cert.FeaturesPlainIdeal.τ).loc Cert.FeaturesPlainIdeal.main_arg5)
          ∧ r.2.mem ((c.tc : Thread Cert.FeaturesPlainIdeal.nD Cert.FeaturesPlainIdeal.τ).loc Cert.FeaturesPlainIdeal.main_arg6) = m' ((c.tc : Thread Cert.FeaturesPlainIdeal.nD Cert.FeaturesPlainIdeal.τ).loc Cert.FeaturesPlainIdeal.main_arg6)
          ∧ r.2.mem ((c.tc : Thread Cert.FeaturesPlainIdeal.nD Cert.FeaturesPlainIdeal.τ).loc Cert.FeaturesPlainIdeal.main_arg7) = m' ((c.tc : Thread Cert.FeaturesPlainIdeal.nD Cert.FeaturesPlainIdeal.τ).loc Cert.FeaturesPlainIdeal.main_arg7)
          ∧ r.2.mem ((c.tc : Thread Cert.FeaturesPlainIdeal.nD Cert.FeaturesPlainIdeal.τ).loc Cert.FeaturesPlainIdeal.main_arg8) = m' ((c.tc : Thread Cert.FeaturesPlainIdeal.nD Cert.FeaturesPlainIdeal.τ).loc Cert.FeaturesPlainIdeal.main_arg8)
          ∧ r.2.mem ((c.tc : Thread Cert.FeaturesPlainIdeal.nD Cert.FeaturesPlainIdeal.τ).loc Cert.FeaturesPlainIdeal.main_arg9) = m' ((c.tc : Thread Cert.FeaturesPlainIdeal.nD Cert.FeaturesPlainIdeal.τ).loc Cert.FeaturesPlainIdeal.main_arg9)
          ∧ r.2.mem ((c.tc : Thread Cert.FeaturesPlainIdeal.nD Cert.FeaturesPlainIdeal.τ).loc Cert.FeaturesPlainIdeal.main_arg10) = m' ((c.tc : Thread Cert.FeaturesPlainIdeal.nD Cert.FeaturesPlainIdeal.τ).loc Cert.FeaturesPlainIdeal.main_arg10)
          ∧ r.2.mem ((c.tc : Thread Cert.FeaturesPlainIdeal.nD Cert.FeaturesPlainIdeal.τ).loc Cert.FeaturesPlainIdeal.main_arg11) = m' ((c.tc : Thread Cert.FeaturesPlainIdeal.nD Cert.FeaturesPlainIdeal.τ).loc Cert.FeaturesPlainIdeal.main_arg11)
          ∧ r.2.mem ((c.tc : Thread Cert.FeaturesPlainIdeal.nD Cert.FeaturesPlainIdeal.τ).loc Cert.FeaturesPlainIdeal.main_arg12) = m' ((c.tc : Thread Cert.FeaturesPlainIdeal.nD Cert.FeaturesPlainIdeal.τ).loc Cert.FeaturesPlainIdeal.main_arg12)
          ∧ r.2.mem ((c.tc : Thread Cert.FeaturesPlainIdeal.nD Cert.FeaturesPlainIdeal.τ).loc Cert.FeaturesPlainIdeal.main_arg13) = m' ((c.tc : Thread Cert.FeaturesPlainIdeal.nD Cert.FeaturesPlainIdeal.τ).loc Cert.FeaturesPlainIdeal.main_arg13)
          ∧ r.2.mem ((c.tc : Thread Cert.FeaturesPlainIdeal.nD Cert.FeaturesPlainIdeal.τ).loc Cert.FeaturesPlainIdeal.main_arg14) = m' ((c.tc : Thread Cert.FeaturesPlainIdeal.nD Cert.FeaturesPlainIdeal.τ).loc Cert.FeaturesPlainIdeal.main_arg14)
          ∧ r.2.mem ((c.tc : Thread Cert.FeaturesPlainIdeal.nD Cert.FeaturesPlainIdeal.τ).loc Cert.FeaturesPlainIdeal.main_arg15) = m' ((c.tc : Thread Cert.FeaturesPlainIdeal.nD Cert.FeaturesPlainIdeal.τ).loc Cert.FeaturesPlainIdeal.main_arg15))

def Claim : Prop :=
  ∃ (hKernel : Cert.Kernel.Facts) (hKernelIdeal : Cert.KernelIdeal.Facts) (hReferenceIdeal : Cert.ReferenceIdeal.Facts) (hReference : Cert.Reference.Facts) (hCells : Cert.Cells.Facts) (hCellsIdeal : Cert.CellsIdeal.Facts) (hCellsReferenceIdeal : Cert.CellsReferenceIdeal.Facts) (hSecond : Cert.Second.Facts) (hSecondIdeal : Cert.SecondIdeal.Facts) (hSecondReferenceIdeal : Cert.SecondReferenceIdeal.Facts) (hThird : Cert.Third.Facts) (hThirdIdeal : Cert.ThirdIdeal.Facts) (hThirdReferenceIdeal : Cert.ThirdReferenceIdeal.Facts) (hFeatures : Cert.Features.Facts) (hFeaturesIdeal : Cert.FeaturesIdeal.Facts) (hFeaturesReferenceIdeal : Cert.FeaturesReferenceIdeal.Facts) (hSecondPlainIdeal : Cert.SecondPlainIdeal.Facts) (hThirdPlainIdeal : Cert.ThirdPlainIdeal.Facts) (hFeaturesPlainIdeal : Cert.FeaturesPlainIdeal.Facts) (hPre_valid : Cert.Pre_valid.Facts) (hPre_sound2 : Cert.Pre_sound2.Facts) (hPre_linked2 : Cert.Pre_linked2.Facts) (hPre_sound3 : Cert.Pre_sound3.Facts) (hPre_linked3 : Cert.Pre_linked3.Facts) (hPre_sound4 : Cert.Pre_sound4.Facts) (hPre_linked4 : Cert.Pre_linked4.Facts),
    quiescent_Kernel (hKernel := hKernel) (hPre_valid := hPre_valid)
    ∧ quiescent_KernelIdeal (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ quiescent_Reference (hReference := hReference) (hPre_valid := hPre_valid)
    ∧ quiescent_Cells (hCells := hCells)
    ∧ quiescent_CellsIdeal (hCellsIdeal := hCellsIdeal)
    ∧ quiescent_CellsReferenceIdeal (hCellsReferenceIdeal := hCellsReferenceIdeal)
    ∧ quiescent_Second (hSecond := hSecond)
    ∧ quiescent_SecondIdeal (hSecondIdeal := hSecondIdeal)
    ∧ quiescent_SecondIdeal_pre_sound2 (hSecondIdeal := hSecondIdeal) (hPre_sound2 := hPre_sound2)
    ∧ quiescent_SecondIdeal_pre_linked2 (hSecondIdeal := hSecondIdeal) (hPre_linked2 := hPre_linked2)
    ∧ quiescent_SecondReferenceIdeal (hSecondReferenceIdeal := hSecondReferenceIdeal)
    ∧ quiescent_SecondReferenceIdeal_pre_sound2 (hSecondReferenceIdeal := hSecondReferenceIdeal) (hPre_sound2 := hPre_sound2)
    ∧ quiescent_Third (hThird := hThird)
    ∧ quiescent_ThirdIdeal (hThirdIdeal := hThirdIdeal)
    ∧ quiescent_ThirdIdeal_pre_sound3 (hThirdIdeal := hThirdIdeal) (hPre_sound3 := hPre_sound3)
    ∧ quiescent_ThirdIdeal_pre_linked3 (hThirdIdeal := hThirdIdeal) (hPre_linked3 := hPre_linked3)
    ∧ quiescent_ThirdReferenceIdeal (hThirdReferenceIdeal := hThirdReferenceIdeal)
    ∧ quiescent_ThirdReferenceIdeal_pre_sound3 (hThirdReferenceIdeal := hThirdReferenceIdeal) (hPre_sound3 := hPre_sound3)
    ∧ quiescent_Features (hFeatures := hFeatures)
    ∧ quiescent_FeaturesIdeal (hFeaturesIdeal := hFeaturesIdeal)
    ∧ quiescent_FeaturesIdeal_pre_sound4 (hFeaturesIdeal := hFeaturesIdeal) (hPre_sound4 := hPre_sound4)
    ∧ quiescent_FeaturesIdeal_pre_linked4 (hFeaturesIdeal := hFeaturesIdeal) (hPre_linked4 := hPre_linked4)
    ∧ quiescent_FeaturesReferenceIdeal (hFeaturesReferenceIdeal := hFeaturesReferenceIdeal)
    ∧ quiescent_FeaturesReferenceIdeal_pre_sound4 (hFeaturesReferenceIdeal := hFeaturesReferenceIdeal) (hPre_sound4 := hPre_sound4)
    ∧ quiescent_SecondPlainIdeal (hSecondPlainIdeal := hSecondPlainIdeal)
    ∧ quiescent_SecondPlainIdeal_pre_linked2 (hSecondPlainIdeal := hSecondPlainIdeal) (hPre_linked2 := hPre_linked2)
    ∧ quiescent_ThirdPlainIdeal (hThirdPlainIdeal := hThirdPlainIdeal)
    ∧ quiescent_ThirdPlainIdeal_pre_linked3 (hThirdPlainIdeal := hThirdPlainIdeal) (hPre_linked3 := hPre_linked3)
    ∧ quiescent_FeaturesPlainIdeal (hFeaturesPlainIdeal := hFeaturesPlainIdeal)
    ∧ quiescent_FeaturesPlainIdeal_pre_linked4 (hFeaturesPlainIdeal := hFeaturesPlainIdeal) (hPre_linked4 := hPre_linked4)
    ∧ preserves_Kernel_KernelIdeal
    ∧ algebraic_KernelIdeal_ReferenceIdeal (hKernelIdeal := hKernelIdeal) (hReferenceIdeal := hReferenceIdeal) (hPre_valid := hPre_valid)
    ∧ bitexact_Kernel_Reference (hKernel := hKernel) (hReference := hReference) (hPre_valid := hPre_valid)
    ∧ preserves_Cells_CellsIdeal
    ∧ algebraic_CellsIdeal_CellsReferenceIdeal (hCellsIdeal := hCellsIdeal) (hCellsReferenceIdeal := hCellsReferenceIdeal)
    ∧ preserves_Second_SecondIdeal
    ∧ algebraic_SecondIdeal_SecondReferenceIdeal_pre_sound2 (hSecondIdeal := hSecondIdeal) (hSecondReferenceIdeal := hSecondReferenceIdeal) (hPre_sound2 := hPre_sound2)
    ∧ preserves_Third_ThirdIdeal
    ∧ algebraic_ThirdIdeal_ThirdReferenceIdeal_pre_sound3 (hThirdIdeal := hThirdIdeal) (hThirdReferenceIdeal := hThirdReferenceIdeal) (hPre_sound3 := hPre_sound3)
    ∧ preserves_Features_FeaturesIdeal
    ∧ algebraic_FeaturesIdeal_FeaturesReferenceIdeal_pre_sound4 (hFeaturesIdeal := hFeaturesIdeal) (hFeaturesReferenceIdeal := hFeaturesReferenceIdeal) (hPre_sound4 := hPre_sound4)
    ∧ algebraic_SecondIdeal_SecondPlainIdeal_pre_linked2 (hSecondIdeal := hSecondIdeal) (hSecondPlainIdeal := hSecondPlainIdeal) (hPre_linked2 := hPre_linked2)
    ∧ algebraic_ThirdIdeal_ThirdPlainIdeal_pre_linked3 (hThirdIdeal := hThirdIdeal) (hThirdPlainIdeal := hThirdPlainIdeal) (hPre_linked3 := hPre_linked3)
    ∧ algebraic_FeaturesIdeal_FeaturesPlainIdeal_pre_linked4 (hFeaturesIdeal := hFeaturesIdeal) (hFeaturesPlainIdeal := hFeaturesPlainIdeal) (hPre_linked4 := hPre_linked4)
-- ==== Pre_linked2.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S2x64 : Shape := ⟨2, ![2, 64]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S_ : Shape := ⟨0, ![]⟩
abbrev S1x64 : Shape := ⟨2, ![1, 64]⟩

class Facts : Prop where
  transposes_S4x100000x4_S4x4x100000_0_2_1 : S4x100000x4.Transposes [0, 2, 1] S4x4x100000
  transposes_S4x100000x64_S4x64x100000_0_2_1 : S4x100000x64.Transposes [0, 2, 1] S4x64x100000
  bcast_S64_S1x64x1_1 : S64.BroadcastsInDim S1x64x1 (![1] : Fin 1 → Fin S1x64x1.rank)
  bcast_S1x64x1_S4x64x100000_0_1_2 : S1x64x1.BroadcastsInDim S4x64x100000 (![0, 1, 2] : Fin 3 → Fin S4x64x100000.rank)
  bcast_S_S4x100000x4 : S_.BroadcastsInDim S4x100000x4 (![] : Fin 0 → Fin S4x100000x4.rank)
  reducesTo_S4x100000x4_S_d0_1_2 : S4x100000x4.ReducesTo [0, 1, 2] S_
  h_S_ : 0 < S_.numel
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  reducesTo_S4x64x100000_S64_d0_2 : S4x64x100000.ReducesTo [0, 2] S64
  bcast_S64_S1x64_1 : S64.BroadcastsInDim S1x64 (![1] : Fin 1 → Fin S1x64.rank)
  concatenates_S1x64_S1x64_S2x64_d0 : Shape.Concatenates [S1x64, S1x64] S2x64 0
  reducesTo_S2x64_S_d0_1 : S2x64.ReducesTo [0, 1] S_
  dot_S4x4x100000_S64x4_S4x100000x64_1_1_02_0_n_n_wf : DotDims.WF S4x4x100000 S64x4 S4x100000x64 [1] [1] [0, 2] [0] [] []

variable [Facts]

def dot_S4x4x100000_S64x4_S4x100000x64_1_1_02_0_n_n : DotDims S4x4x100000 S64x4 S4x100000x64 where
  lhsContracting := [1]
  rhsContracting := [1]
  lhsNonContracting := [0, 2]
  rhsNonContracting := [0]
  lhsBatch := []
  rhsBatch := []
  wf := dot_S4x4x100000_S64x4_S4x100000x64_1_1_02_0_n_n_wf
def fn_part1 {F : FTy → Type} [FloatOps F] (main_arg3 : FVec F S64 .f32) (main_arg7 : FVec F S2x64 .f32) (main_v5 : FVec F S4x64x100000 .f32) (main_v14 : IVec S_ 1) (main_v17 : IVec S64 1) (main_c_3 : IVec S_ 1) : IVec S_ 1 :=
  let main_v18 : IVec S_ 1 := (fun x v => Host.reduce IntOp.andi x v reducesTo_S64_S_d0 h_S_) main_v17 main_c_3
  let main_v19 : IVec S_ 1 := andi main_v14 main_v18
  let main_v20 : FVec F S64 .f32 := Host.absf main_arg3
  let main_cst_4 : FVec F S_ .f32 := constant S_ .f32 0x7F800000#32
  let main_v21 : FVec F S64 .f32 := broadcastInDim S64 ![] bcast_S_S64 main_cst_4
  let main_v22 : IVec S64 1 := cmpf .olt main_v20 main_v21
  let main_c_5 : IVec S_ 1 := constantI S_ 1 1#1
  let main_v23 : IVec S_ 1 := (fun x v => Host.reduce IntOp.andi x v reducesTo_S64_S_d0 h_S_) main_v22 main_c_5
  let main_v24 : IVec S_ 1 := andi main_v19 main_v23
  let main_cst_6 : FVec F S_ .f32 := constant S_ .f32 0x00000000#32
  let main_v25 : FVec F S64 .f32 := (fun x v => Host.reduceAdd x v reducesTo_S4x64x100000_S64_d0_2 h_S_) main_v5 main_cst_6
  let main_v26 : FVec F S4x64x100000 .f32 := mulf main_v5 main_v5
  let main_cst_7 : FVec F S_ .f32 := constant S_ .f32 0x00000000#32
  let main_v27 : FVec F S64 .f32 := (fun x v => Host.reduceAdd x v reducesTo_S4x64x100000_S64_d0_2 h_S_) main_v26 main_cst_7
  let main_v28 : FVec F S1x64 .f32 := broadcastInDim S1x64 ![1] bcast_S64_S1x64_1 main_v25
  let main_v29 : FVec F S1x64 .f32 := broadcastInDim S1x64 ![1] bcast_S64_S1x64_1 main_v27
  let main_v30 : FVec F S2x64 .f32 := (fun a b => concatenate S2x64 0 [⟨S1x64, a⟩, ⟨S1x64, b⟩] concatenates_S1x64_S1x64_S2x64_d0) main_v28 main_v29
  let main_v31 : IVec S2x64 1 := cmpf .oeq main_arg7 main_v30
  let main_c_8 : IVec S_ 1 := constantI S_ 1 1#1
  let main_v32 : IVec S_ 1 := (fun x v => Host.reduce IntOp.andi x v reducesTo_S2x64_S_d0_1 h_S_) main_v31 main_c_8
  let main_v33 : IVec S_ 1 := andi main_v24 main_v32
  main_v33

def fn {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S2x64 .f32) : IVec S_ 1 :=
  let main_v0 : FVec F S4x4x100000 .f32 := (transpose S4x4x100000 [0, 2, 1] · transposes_S4x100000x4_S4x4x100000_0_2_1) main_arg0
  let main_v1 : FVec F S4x100000x64 .f32 := (fun l r => Host.dotGeneral dot_S4x4x100000_S64x4_S4x100000x64_1_1_02_0_n_n none l r) main_v0 main_arg1
  let main_v2 : FVec F S4x64x100000 .f32 := (transpose S4x64x100000 [0, 2, 1] · transposes_S4x100000x64_S4x64x100000_0_2_1) main_v1
  let main_v3 : FVec F S1x64x1 .f32 := broadcastInDim S1x64x1 ![1] bcast_S64_S1x64x1_1 main_arg2
  let main_v4 : FVec F S4x64x100000 .f32 := broadcastInDim S4x64x100000 ![0, 1, 2] bcast_S1x64x1_S4x64x100000_0_1_2 main_v3
  let main_v5 : FVec F S4x64x100000 .f32 := addf main_v2 main_v4
  let main_v6 : FVec F S4x100000x4 .f32 := Host.absf main_arg0
  let main_cst : FVec F S_ .f32 := constant S_ .f32 0x7F800000#32
  let main_v7 : FVec F S4x100000x4 .f32 := broadcastInDim S4x100000x4 ![] bcast_S_S4x100000x4 main_cst
  let main_v8 : IVec S4x100000x4 1 := cmpf .olt main_v6 main_v7
  let main_c : IVec S_ 1 := constantI S_ 1 1#1
  let main_v9 : IVec S_ 1 := (fun x v => Host.reduce IntOp.andi x v reducesTo_S4x100000x4_S_d0_1_2 h_S_) main_v8 main_c
  let main_v10 : FVec F S64x4 .f32 := Host.absf main_arg1
  let main_cst_0 : FVec F S_ .f32 := constant S_ .f32 0x7F800000#32
  let main_v11 : FVec F S64x4 .f32 := broadcastInDim S64x4 ![] bcast_S_S64x4 main_cst_0
  let main_v12 : IVec S64x4 1 := cmpf .olt main_v10 main_v11
  let main_c_1 : IVec S_ 1 := constantI S_ 1 1#1
  let main_v13 : IVec S_ 1 := (fun x v => Host.reduce IntOp.andi x v reducesTo_S64x4_S_d0_1 h_S_) main_v12 main_c_1
  let main_v14 : IVec S_ 1 := andi main_v9 main_v13
  let main_v15 : FVec F S64 .f32 := Host.absf main_arg2
  let main_cst_2 : FVec F S_ .f32 := constant S_ .f32 0x7F800000#32
  let main_v16 : FVec F S64 .f32 := broadcastInDim S64 ![] bcast_S_S64 main_cst_2
  let main_v17 : IVec S64 1 := cmpf .olt main_v15 main_v16
  let main_c_3 : IVec S_ 1 := constantI S_ 1 1#1
  fn_part1 (F := F) main_arg3 main_arg7 main_v5 main_v14 main_v17 main_c_3
-- ==== Pre_linked3.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S_ : Shape := ⟨0, ![]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩
abbrev S1x64 : Shape := ⟨2, ![1, 64]⟩

class Facts : Prop where
  transposes_S4x100000x4_S4x4x100000_0_2_1 : S4x100000x4.Transposes [0, 2, 1] S4x4x100000
  transposes_S4x100000x64_S4x64x100000_0_2_1 : S4x100000x64.Transposes [0, 2, 1] S4x64x100000
  bcast_S64_S1x64x1_1 : S64.BroadcastsInDim S1x64x1 (![1] : Fin 1 → Fin S1x64x1.rank)
  bcast_S1x64x1_S4x64x100000_0_1_2 : S1x64x1.BroadcastsInDim S4x64x100000 (![0, 1, 2] : Fin 3 → Fin S4x64x100000.rank)
  reducesTo_S4x64x100000_S64_d0_2 : S4x64x100000.ReducesTo [0, 2] S64
  h_S_ : 0 < S_.numel
  bcast_S_S1x64x1 : S_.BroadcastsInDim S1x64x1 (![] : Fin 0 → Fin S1x64x1.rank)
  bcast_S_S4x64x100000 : S_.BroadcastsInDim S4x64x100000 (![] : Fin 0 → Fin S4x64x100000.rank)
  transposes_S4x100000x128_S4x128x100000_0_2_1 : S4x100000x128.Transposes [0, 2, 1] S4x128x100000
  bcast_S128_S1x128x1_1 : S128.BroadcastsInDim S1x128x1 (![1] : Fin 1 → Fin S1x128x1.rank)
  bcast_S1x128x1_S4x128x100000_0_1_2 : S1x128x1.BroadcastsInDim S4x128x100000 (![0, 1, 2] : Fin 3 → Fin S4x128x100000.rank)
  reducesTo_S4x128x100000_S128_d0_2 : S4x128x100000.ReducesTo [0, 2] S128
  bcast_S128_S1x128_1 : S128.BroadcastsInDim S1x128 (![1] : Fin 1 → Fin S1x128.rank)
  concatenates_S1x128_S1x128_S2x128_d0 : Shape.Concatenates [S1x128, S1x128] S2x128 0
  bcast_S_S4x100000x4 : S_.BroadcastsInDim S4x100000x4 (![] : Fin 0 → Fin S4x100000x4.rank)
  reducesTo_S4x100000x4_S_d0_1_2 : S4x100000x4.ReducesTo [0, 1, 2] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S64_S1x64_1 : S64.BroadcastsInDim S1x64 (![1] : Fin 1 → Fin S1x64.rank)
  concatenates_S1x64_S1x64_S2x64_d0 : Shape.Concatenates [S1x64, S1x64] S2x64 0
  reducesTo_S2x64_S_d0_1 : S2x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  reducesTo_S2x128_S_d0_1 : S2x128.ReducesTo [0, 1] S_
  dot_S4x4x100000_S64x4_S4x100000x64_1_1_02_0_n_n_wf : DotDims.WF S4x4x100000 S64x4 S4x100000x64 [1] [1] [0, 2] [0] [] []
  dot_S4x64x100000_S128x64_S4x100000x128_1_1_02_0_n_n_wf : DotDims.WF S4x64x100000 S128x64 S4x100000x128 [1] [1] [0, 2] [0] [] []

variable [Facts]

def dot_S4x4x100000_S64x4_S4x100000x64_1_1_02_0_n_n : DotDims S4x4x100000 S64x4 S4x100000x64 where
  lhsContracting := [1]
  rhsContracting := [1]
  lhsNonContracting := [0, 2]
  rhsNonContracting := [0]
  lhsBatch := []
  rhsBatch := []
  wf := dot_S4x4x100000_S64x4_S4x100000x64_1_1_02_0_n_n_wf
def dot_S4x64x100000_S128x64_S4x100000x128_1_1_02_0_n_n : DotDims S4x64x100000 S128x64 S4x100000x128 where
  lhsContracting := [1]
  rhsContracting := [1]
  lhsNonContracting := [0, 2]
  rhsNonContracting := [0]
  lhsBatch := []
  rhsBatch := []
  wf := dot_S4x64x100000_S128x64_S4x100000x128_1_1_02_0_n_n_wf
def fn_where {F : FTy → Type} [FloatOps F] (arg0 : IVec S_ 1) (arg1 : FVec F S1x64x1 .f32) (arg2 : FVec F S_ .f32) : FVec F S1x64x1 .f32 :=
  let v0 : FVec F S_ .f32 := id arg2
  let v1 : FVec F S1x64x1 .f32 := broadcastInDim S1x64x1 ![] bcast_S_S1x64x1 v0
  let v2 : FVec F S1x64x1 .f32 := (fun p a b => select (broadcastInDim S1x64x1 ![] bcast_S_S1x64x1 p) a b) arg0 arg1 v1
  v2

def fn_var {F : FTy → Type} [FloatOps F] (arg0 : FVec F S4x64x100000 .f32) (arg1 : IVec S_ 32) : FVec F S1x64x1 .f32 :=
  let cst : FVec F S_ .f32 := constant S_ .f32 0x00000000#32
  let v0 : FVec F S64 .f32 := (fun x v => Host.reduceAdd x v reducesTo_S4x64x100000_S64_d0_2 h_S_) arg0 cst
  let v1 : FVec F S1x64x1 .f32 := broadcastInDim S1x64x1 ![1] bcast_S64_S1x64x1_1 v0
  let cst_0 : FVec F S_ .f32 := constant S_ .f32 0x48C35000#32
  let v2 : FVec F S1x64x1 .f32 := broadcastInDim S1x64x1 ![] bcast_S_S1x64x1 cst_0
  let v3 : FVec F S1x64x1 .f32 := Host.divf v1 v2
  let v4 : FVec F S4x64x100000 .f32 := broadcastInDim S4x64x100000 ![0, 1, 2] bcast_S1x64x1_S4x64x100000_0_1_2 v3
  let v5 : FVec F S4x64x100000 .f32 := subf arg0 v4
  let v6 : FVec F S4x64x100000 .f32 := mulf v5 v5
  let v7 : FVec F S_ .f32 := sitofp .f32 arg1
  let cst_1 : FVec F S_ .f32 := constant S_ .f32 0x48C35000#32
  let v8 : FVec F S_ .f32 := subf cst_1 v7
  let cst_2 : FVec F S_ .f32 := constant S_ .f32 0x00000000#32
  let v9 : FVec F S64 .f32 := (fun x v => Host.reduceAdd x v reducesTo_S4x64x100000_S64_d0_2 h_S_) v6 cst_2
  let v10 : FVec F S1x64x1 .f32 := broadcastInDim S1x64x1 ![1] bcast_S64_S1x64x1_1 v9
  let v11 : FVec F S1x64x1 .f32 := broadcastInDim S1x64x1 ![] bcast_S_S1x64x1 v8
  let v12 : FVec F S1x64x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x64x1 .f32 := fn_where (F := F) v13 v12 cst_4
  v14

def fn_relu {F : FTy → Type} [FloatOps F] (arg0 : FVec F S4x64x100000 .f32) : FVec F S4x64x100000 .f32 :=
  let cst : FVec F S_ .f32 := constant S_ .f32 0x00000000#32
  let v0 : FVec F S4x64x100000 .f32 := broadcastInDim S4x64x100000 ![] bcast_S_S4x64x100000 cst
  let v1 : FVec F S4x64x100000 .f32 := maximumf arg0 v0
  v1

def fn_part4 {F : FTy → Type} [FloatOps F] (main_arg6 : FVec F S128 .f32) (main_arg7 : FVec F S128 .f32) (main_arg12 : FVec F S2x128 .f32) (main_v35 : FVec F S2x128 .f32) (main_v69 : IVec S_ 1) (main_v73 : IVec S_ 1) (main_v74 : FVec F S128x64 .f32) (main_v75 : FVec F S128x64 .f32) : IVec S_ 1 :=
  let main_v76 : IVec S128x64 1 := cmpf .olt main_v74 main_v75
  let main_c_18 : IVec S_ 1 := constantI S_ 1 1#1
  let main_v77 : IVec S_ 1 := (fun x v => Host.reduce IntOp.andi x v reducesTo_S128x64_S_d0_1 h_S_) main_v76 main_c_18
  let main_v78 : IVec S_ 1 := andi main_v73 main_v77
  let main_v79 : FVec F S128 .f32 := Host.absf main_arg6
  let main_cst_19 : FVec F S_ .f32 := constant S_ .f32 0x7F800000#32
  let main_v80 : FVec F S128 .f32 := broadcastInDim S128 ![] bcast_S_S128 main_cst_19
  let main_v81 : IVec S128 1 := cmpf .olt main_v79 main_v80
  let main_c_20 : IVec S_ 1 := constantI S_ 1 1#1
  let main_v82 : IVec S_ 1 := (fun x v => Host.reduce IntOp.andi x v reducesTo_S128_S_d0 h_S_) main_v81 main_c_20
  let main_v83 : IVec S_ 1 := andi main_v78 main_v82
  let main_v84 : FVec F S128 .f32 := Host.absf main_arg7
  let main_cst_21 : FVec F S_ .f32 := constant S_ .f32 0x7F800000#32
  let main_v85 : FVec F S128 .f32 := broadcastInDim S128 ![] bcast_S_S128 main_cst_21
  let main_v86 : IVec S128 1 := cmpf .olt main_v84 main_v85
  let main_c_22 : IVec S_ 1 := constantI S_ 1 1#1
  let main_v87 : IVec S_ 1 := (fun x v => Host.reduce IntOp.andi x v reducesTo_S128_S_d0 h_S_) main_v86 main_c_22
  let main_v88 : IVec S_ 1 := andi main_v83 main_v87
  let main_v89 : IVec S_ 1 := andi main_v69 main_v88
  let main_v90 : IVec S2x128 1 := cmpf .oeq main_arg12 main_v35
  let main_c_23 : IVec S_ 1 := constantI S_ 1 1#1
  let main_v91 : IVec S_ 1 := (fun x v => Host.reduce IntOp.andi x v reducesTo_S2x128_S_d0_1 h_S_) main_v90 main_c_23
  let main_v92 : IVec S_ 1 := andi main_v89 main_v91
  main_v92

def fn_part3 {F : FTy → Type} [FloatOps F] (main_arg4 : FVec F S64 .f32) (main_arg5 : FVec F S128x64 .f32) (main_arg6 : FVec F S128 .f32) (main_arg7 : FVec F S128 .f32) (main_arg11 : FVec F S2x64 .f32) (main_arg12 : FVec F S2x128 .f32) (main_v35 : FVec F S2x128 .f32) (main_v41 : FVec F S4x64x100000 .f32) (main_v55 : IVec S_ 1) (main_v58 : IVec S64 1) : IVec S_ 1 :=
  let main_c_11 : IVec S_ 1 := constantI S_ 1 1#1
  let main_v59 : IVec S_ 1 := (fun x v => Host.reduce IntOp.andi x v reducesTo_S64_S_d0 h_S_) main_v58 main_c_11
  let main_v60 : IVec S_ 1 := andi main_v55 main_v59
  let main_cst_12 : FVec F S_ .f32 := constant S_ .f32 0x00000000#32
  let main_v61 : FVec F S64 .f32 := (fun x v => Host.reduceAdd x v reducesTo_S4x64x100000_S64_d0_2 h_S_) main_v41 main_cst_12
  let main_v62 : FVec F S4x64x100000 .f32 := mulf main_v41 main_v41
  let main_cst_13 : FVec F S_ .f32 := constant S_ .f32 0x00000000#32
  let main_v63 : FVec F S64 .f32 := (fun x v => Host.reduceAdd x v reducesTo_S4x64x100000_S64_d0_2 h_S_) main_v62 main_cst_13
  let main_v64 : FVec F S1x64 .f32 := broadcastInDim S1x64 ![1] bcast_S64_S1x64_1 main_v61
  let main_v65 : FVec F S1x64 .f32 := broadcastInDim S1x64 ![1] bcast_S64_S1x64_1 main_v63
  let main_v66 : FVec F S2x64 .f32 := (fun a b => concatenate S2x64 0 [⟨S1x64, a⟩, ⟨S1x64, b⟩] concatenates_S1x64_S1x64_S2x64_d0) main_v64 main_v65
  let main_v67 : IVec S2x64 1 := cmpf .oeq main_arg11 main_v66
  let main_c_14 : IVec S_ 1 := constantI S_ 1 1#1
  let main_v68 : IVec S_ 1 := (fun x v => Host.reduce IntOp.andi x v reducesTo_S2x64_S_d0_1 h_S_) main_v67 main_c_14
  let main_v69 : IVec S_ 1 := andi main_v60 main_v68
  let main_v70 : FVec F S64 .f32 := Host.absf main_arg4
  let main_cst_15 : FVec F S_ .f32 := constant S_ .f32 0x7F800000#32
  let main_v71 : FVec F S64 .f32 := broadcastInDim S64 ![] bcast_S_S64 main_cst_15
  let main_v72 : IVec S64 1 := cmpf .olt main_v70 main_v71
  let main_c_16 : IVec S_ 1 := constantI S_ 1 1#1
  let main_v73 : IVec S_ 1 := (fun x v => Host.reduce IntOp.andi x v reducesTo_S64_S_d0 h_S_) main_v72 main_c_16
  let main_v74 : FVec F S128x64 .f32 := Host.absf main_arg5
  let main_cst_17 : FVec F S_ .f32 := constant S_ .f32 0x7F800000#32
  let main_v75 : FVec F S128x64 .f32 := broadcastInDim S128x64 ![] bcast_S_S128x64 main_cst_17
  fn_part4 (F := F) main_arg6 main_arg7 main_arg12 main_v35 main_v69 main_v73 main_v74 main_v75

def fn_part2 {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg11 : FVec F S2x64 .f32) (main_arg12 : FVec F S2x128 .f32) (main_v35 : FVec F S2x128 .f32) (main_v41 : FVec F S4x64x100000 .f32) : IVec S_ 1 :=
  let main_v42 : FVec F S4x100000x4 .f32 := Host.absf main_arg0
  let main_cst_4 : FVec F S_ .f32 := constant S_ .f32 0x7F800000#32
  let main_v43 : FVec F S4x100000x4 .f32 := broadcastInDim S4x100000x4 ![] bcast_S_S4x100000x4 main_cst_4
  let main_v44 : IVec S4x100000x4 1 := cmpf .olt main_v42 main_v43
  let main_c_5 : IVec S_ 1 := constantI S_ 1 1#1
  let main_v45 : IVec S_ 1 := (fun x v => Host.reduce IntOp.andi x v reducesTo_S4x100000x4_S_d0_1_2 h_S_) main_v44 main_c_5
  let main_v46 : FVec F S64x4 .f32 := Host.absf main_arg1
  let main_cst_6 : FVec F S_ .f32 := constant S_ .f32 0x7F800000#32
  let main_v47 : FVec F S64x4 .f32 := broadcastInDim S64x4 ![] bcast_S_S64x4 main_cst_6
  let main_v48 : IVec S64x4 1 := cmpf .olt main_v46 main_v47
  let main_c_7 : IVec S_ 1 := constantI S_ 1 1#1
  let main_v49 : IVec S_ 1 := (fun x v => Host.reduce IntOp.andi x v reducesTo_S64x4_S_d0_1 h_S_) main_v48 main_c_7
  let main_v50 : IVec S_ 1 := andi main_v45 main_v49
  let main_v51 : FVec F S64 .f32 := Host.absf main_arg2
  let main_cst_8 : FVec F S_ .f32 := constant S_ .f32 0x7F800000#32
  let main_v52 : FVec F S64 .f32 := broadcastInDim S64 ![] bcast_S_S64 main_cst_8
  let main_v53 : IVec S64 1 := cmpf .olt main_v51 main_v52
  let main_c_9 : IVec S_ 1 := constantI S_ 1 1#1
  let main_v54 : IVec S_ 1 := (fun x v => Host.reduce IntOp.andi x v reducesTo_S64_S_d0 h_S_) main_v53 main_c_9
  let main_v55 : IVec S_ 1 := andi main_v50 main_v54
  let main_v56 : FVec F S64 .f32 := Host.absf main_arg3
  let main_cst_10 : FVec F S_ .f32 := constant S_ .f32 0x7F800000#32
  let main_v57 : FVec F S64 .f32 := broadcastInDim S64 ![] bcast_S_S64 main_cst_10
  let main_v58 : IVec S64 1 := cmpf .olt main_v56 main_v57
  fn_part3 (F := F) main_arg4 main_arg5 main_arg6 main_arg7 main_arg11 main_arg12 main_v35 main_v41 main_v55 main_v58

def fn_part1 {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg11 : FVec F S2x64 .f32) (main_arg12 : FVec F S2x128 .f32) (main_v17 : FVec F S4x64x100000 .f32) (main_v19 : FVec F S4x64x100000 .f32) : IVec S_ 1 :=
  let main_v20 : FVec F S4x64x100000 .f32 := mulf main_v17 main_v19
  let main_v21 : FVec F S1x64x1 .f32 := broadcastInDim S1x64x1 ![1] bcast_S64_S1x64x1_1 main_arg4
  let main_v22 : FVec F S4x64x100000 .f32 := broadcastInDim S4x64x100000 ![0, 1, 2] bcast_S1x64x1_S4x64x100000_0_1_2 main_v21
  let main_v23 : FVec F S4x64x100000 .f32 := addf main_v20 main_v22
  let main_v24 : FVec F S4x64x100000 .f32 := fn_relu (F := F) main_v23
  let main_v25 : FVec F S4x100000x128 .f32 := (fun l r => Host.dotGeneral dot_S4x64x100000_S128x64_S4x100000x128_1_1_02_0_n_n none l r) main_v24 main_arg5
  let main_v26 : FVec F S4x128x100000 .f32 := (transpose S4x128x100000 [0, 2, 1] · transposes_S4x100000x128_S4x128x100000_0_2_1) main_v25
  let main_v27 : FVec F S1x128x1 .f32 := broadcastInDim S1x128x1 ![1] bcast_S128_S1x128x1_1 main_arg6
  let main_v28 : FVec F S4x128x100000 .f32 := broadcastInDim S4x128x100000 ![0, 1, 2] bcast_S1x128x1_S4x128x100000_0_1_2 main_v27
  let main_v29 : FVec F S4x128x100000 .f32 := addf main_v26 main_v28
  let main_cst_2 : FVec F S_ .f32 := constant S_ .f32 0x00000000#32
  let main_v30 : FVec F S128 .f32 := (fun x v => Host.reduceAdd x v reducesTo_S4x128x100000_S128_d0_2 h_S_) main_v29 main_cst_2
  let main_v31 : FVec F S4x128x100000 .f32 := mulf main_v29 main_v29
  let main_cst_3 : FVec F S_ .f32 := constant S_ .f32 0x00000000#32
  let main_v32 : FVec F S128 .f32 := (fun x v => Host.reduceAdd x v reducesTo_S4x128x100000_S128_d0_2 h_S_) main_v31 main_cst_3
  let main_v33 : FVec F S1x128 .f32 := broadcastInDim S1x128 ![1] bcast_S128_S1x128_1 main_v30
  let main_v34 : FVec F S1x128 .f32 := broadcastInDim S1x128 ![1] bcast_S128_S1x128_1 main_v32
  let main_v35 : FVec F S2x128 .f32 := (fun a b => concatenate S2x128 0 [⟨S1x128, a⟩, ⟨S1x128, b⟩] concatenates_S1x128_S1x128_S2x128_d0) main_v33 main_v34
  let main_v36 : FVec F S4x4x100000 .f32 := (transpose S4x4x100000 [0, 2, 1] · transposes_S4x100000x4_S4x4x100000_0_2_1) main_arg0
  let main_v37 : FVec F S4x100000x64 .f32 := (fun l r => Host.dotGeneral dot_S4x4x100000_S64x4_S4x100000x64_1_1_02_0_n_n none l r) main_v36 main_arg1
  let main_v38 : FVec F S4x64x100000 .f32 := (transpose S4x64x100000 [0, 2, 1] · transposes_S4x100000x64_S4x64x100000_0_2_1) main_v37
  let main_v39 : FVec F S1x64x1 .f32 := broadcastInDim S1x64x1 ![1] bcast_S64_S1x64x1_1 main_arg2
  let main_v40 : FVec F S4x64x100000 .f32 := broadcastInDim S4x64x100000 ![0, 1, 2] bcast_S1x64x1_S4x64x100000_0_1_2 main_v39
  let main_v41 : FVec F S4x64x100000 .f32 := addf main_v38 main_v40
  fn_part2 (F := F) main_arg0 main_arg1 main_arg2 main_arg3 main_arg4 main_arg5 main_arg6 main_arg7 main_arg11 main_arg12 main_v35 main_v41

def fn {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S2x64 .f32) (main_arg12 : FVec F S2x128 .f32) : IVec S_ 1 :=
  let main_v0 : FVec F S4x4x100000 .f32 := (transpose S4x4x100000 [0, 2, 1] · transposes_S4x100000x4_S4x4x100000_0_2_1) main_arg0
  let main_v1 : FVec F S4x100000x64 .f32 := (fun l r => Host.dotGeneral dot_S4x4x100000_S64x4_S4x100000x64_1_1_02_0_n_n none l r) main_v0 main_arg1
  let main_v2 : FVec F S4x64x100000 .f32 := (transpose S4x64x100000 [0, 2, 1] · transposes_S4x100000x64_S4x64x100000_0_2_1) main_v1
  let main_v3 : FVec F S1x64x1 .f32 := broadcastInDim S1x64x1 ![1] bcast_S64_S1x64x1_1 main_arg2
  let main_v4 : FVec F S4x64x100000 .f32 := broadcastInDim S4x64x100000 ![0, 1, 2] bcast_S1x64x1_S4x64x100000_0_1_2 main_v3
  let main_v5 : FVec F S4x64x100000 .f32 := addf main_v2 main_v4
  let main_cst : FVec F S_ .f32 := constant S_ .f32 0x00000000#32
  let main_v6 : FVec F S64 .f32 := (fun x v => Host.reduceAdd x v reducesTo_S4x64x100000_S64_d0_2 h_S_) main_v5 main_cst
  let main_v7 : FVec F S1x64x1 .f32 := broadcastInDim S1x64x1 ![1] bcast_S64_S1x64x1_1 main_v6
  let main_cst_0 : FVec F S_ .f32 := constant S_ .f32 0x48C35000#32
  let main_v8 : FVec F S1x64x1 .f32 := broadcastInDim S1x64x1 ![] bcast_S_S1x64x1 main_cst_0
  let main_v9 : FVec F S1x64x1 .f32 := Host.divf main_v7 main_v8
  let main_c : IVec S_ 32 := constantI S_ 32 0#32
  let main_v10 : FVec F S1x64x1 .f32 := fn_var (F := F) main_v5 main_c
  let main_v11 : FVec F S4x64x100000 .f32 := broadcastInDim S4x64x100000 ![0, 1, 2] bcast_S1x64x1_S4x64x100000_0_1_2 main_v9
  let main_v12 : FVec F S4x64x100000 .f32 := subf main_v5 main_v11
  let main_cst_1 : FVec F S_ .f32 := constant S_ .f32 0x3727C5AC#32
  let main_v13 : FVec F S1x64x1 .f32 := broadcastInDim S1x64x1 ![] bcast_S_S1x64x1 main_cst_1
  let main_v14 : FVec F S1x64x1 .f32 := addf main_v10 main_v13
  let main_v15 : FVec F S1x64x1 .f32 := Host.sqrt main_v14
  let main_v16 : FVec F S4x64x100000 .f32 := broadcastInDim S4x64x100000 ![0, 1, 2] bcast_S1x64x1_S4x64x100000_0_1_2 main_v15
  let main_v17 : FVec F S4x64x100000 .f32 := Host.divf main_v12 main_v16
  let main_v18 : FVec F S1x64x1 .f32 := broadcastInDim S1x64x1 ![1] bcast_S64_S1x64x1_1 main_arg3
  let main_v19 : FVec F S4x64x100000 .f32 := broadcastInDim S4x64x100000 ![0, 1, 2] bcast_S1x64x1_S4x64x100000_0_1_2 main_v18
  fn_part1 (F := F) main_arg0 main_arg1 main_arg2 main_arg3 main_arg4 main_arg5 main_arg6 main_arg7 main_arg11 main_arg12 main_v17 main_v19
-- ==== Pre_linked4.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S_ : Shape := ⟨0, ![]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩
abbrev S1x64 : Shape := ⟨2, ![1, 64]⟩

class Facts : Prop where
  transposes_S4x100000x4_S4x4x100000_0_2_1 : S4x100000x4.Transposes [0, 2, 1] S4x4x100000
  transposes_S4x100000x64_S4x64x100000_0_2_1 : S4x100000x64.Transposes [0, 2, 1] S4x64x100000
  bcast_S64_S1x64x1_1 : S64.BroadcastsInDim S1x64x1 (![1] : Fin 1 → Fin S1x64x1.rank)
  bcast_S1x64x1_S4x64x100000_0_1_2 : S1x64x1.BroadcastsInDim S4x64x100000 (![0, 1, 2] : Fin 3 → Fin S4x64x100000.rank)
  reducesTo_S4x64x100000_S64_d0_2 : S4x64x100000.ReducesTo [0, 2] S64
  h_S_ : 0 < S_.numel
  bcast_S_S1x64x1 : S_.BroadcastsInDim S1x64x1 (![] : Fin 0 → Fin S1x64x1.rank)
  bcast_S_S4x64x100000 : S_.BroadcastsInDim S4x64x100000 (![] : Fin 0 → Fin S4x64x100000.rank)
  transposes_S4x100000x128_S4x128x100000_0_2_1 : S4x100000x128.Transposes [0, 2, 1] S4x128x100000
  bcast_S128_S1x128x1_1 : S128.BroadcastsInDim S1x128x1 (![1] : Fin 1 → Fin S1x128x1.rank)
  bcast_S1x128x1_S4x128x100000_0_1_2 : S1x128x1.BroadcastsInDim S4x128x100000 (![0, 1, 2] : Fin 3 → Fin S4x128x100000.rank)
  reducesTo_S4x128x100000_S128_d0_2 : S4x128x100000.ReducesTo [0, 2] S128
  bcast_S_S1x128x1 : S_.BroadcastsInDim S1x128x1 (![] : Fin 0 → Fin S1x128x1.rank)
  bcast_S_S4x128x100000 : S_.BroadcastsInDim S4x128x100000 (![] : Fin 0 → Fin S4x128x100000.rank)
  bcast_S128_S1x128_1 : S128.BroadcastsInDim S1x128 (![1] : Fin 1 → Fin S1x128.rank)
  concatenates_S1x128_S1x128_S2x128_d0 : Shape.Concatenates [S1x128, S1x128] S2x128 0
  bcast_S_S4x100000x4 : S_.BroadcastsInDim S4x100000x4 (![] : Fin 0 → Fin S4x100000x4.rank)
  reducesTo_S4x100000x4_S_d0_1_2 : S4x100000x4.ReducesTo [0, 1, 2] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_
  bcast_S64_S1x64_1 : S64.BroadcastsInDim S1x64 (![1] : Fin 1 → Fin S1x64.rank)
  concatenates_S1x64_S1x64_S2x64_d0 : Shape.Concatenates [S1x64, S1x64] S2x64 0
  reducesTo_S2x64_S_d0_1 : S2x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  dot_S4x4x100000_S64x4_S4x100000x64_1_1_02_0_n_n_wf : DotDims.WF S4x4x100000 S64x4 S4x100000x64 [1] [1] [0, 2] [0] [] []
  dot_S4x64x100000_S128x64_S4x100000x128_1_1_02_0_n_n_wf : DotDims.WF S4x64x100000 S128x64 S4x100000x128 [1] [1] [0, 2] [0] [] []
  dot_S4x128x100000_S128x128_S4x100000x128_1_1_02_0_n_n_wf : DotDims.WF S4x128x100000 S128x128 S4x100000x128 [1] [1] [0, 2] [0] [] []

variable [Facts]

def dot_S4x4x100000_S64x4_S4x100000x64_1_1_02_0_n_n : DotDims S4x4x100000 S64x4 S4x100000x64 where
  lhsContracting := [1]
  rhsContracting := [1]
  lhsNonContracting := [0, 2]
  rhsNonContracting := [0]
  lhsBatch := []
  rhsBatch := []
  wf := dot_S4x4x100000_S64x4_S4x100000x64_1_1_02_0_n_n_wf
def dot_S4x64x100000_S128x64_S4x100000x128_1_1_02_0_n_n : DotDims S4x64x100000 S128x64 S4x100000x128 where
  lhsContracting := [1]
  rhsContracting := [1]
  lhsNonContracting := [0, 2]
  rhsNonContracting := [0]
  lhsBatch := []
  rhsBatch := []
  wf := dot_S4x64x100000_S128x64_S4x100000x128_1_1_02_0_n_n_wf
def dot_S4x128x100000_S128x128_S4x100000x128_1_1_02_0_n_n : DotDims S4x128x100000 S128x128 S4x100000x128 where
  lhsContracting := [1]
  rhsContracting := [1]
  lhsNonContracting := [0, 2]
  rhsNonContracting := [0]
  lhsBatch := []
  rhsBatch := []
  wf := dot_S4x128x100000_S128x128_S4x100000x128_1_1_02_0_n_n_wf
def fn_where {F : FTy → Type} [FloatOps F] (arg0 : IVec S_ 1) (arg1 : FVec F S1x64x1 .f32) (arg2 : FVec F S_ .f32) : FVec F S1x64x1 .f32 :=
  let v0 : FVec F S_ .f32 := id arg2
  let v1 : FVec F S1x64x1 .f32 := broadcastInDim S1x64x1 ![] bcast_S_S1x64x1 v0
  let v2 : FVec F S1x64x1 .f32 := (fun p a b => select (broadcastInDim S1x64x1 ![] bcast_S_S1x64x1 p) a b) arg0 arg1 v1
  v2

def fn_var {F : FTy → Type} [FloatOps F] (arg0 : FVec F S4x64x100000 .f32) (arg1 : IVec S_ 32) : FVec F S1x64x1 .f32 :=
  let cst : FVec F S_ .f32 := constant S_ .f32 0x00000000#32
  let v0 : FVec F S64 .f32 := (fun x v => Host.reduceAdd x v reducesTo_S4x64x100000_S64_d0_2 h_S_) arg0 cst
  let v1 : FVec F S1x64x1 .f32 := broadcastInDim S1x64x1 ![1] bcast_S64_S1x64x1_1 v0
  let cst_0 : FVec F S_ .f32 := constant S_ .f32 0x48C35000#32
  let v2 : FVec F S1x64x1 .f32 := broadcastInDim S1x64x1 ![] bcast_S_S1x64x1 cst_0
  let v3 : FVec F S1x64x1 .f32 := Host.divf v1 v2
  let v4 : FVec F S4x64x100000 .f32 := broadcastInDim S4x64x100000 ![0, 1, 2] bcast_S1x64x1_S4x64x100000_0_1_2 v3
  let v5 : FVec F S4x64x100000 .f32 := subf arg0 v4
  let v6 : FVec F S4x64x100000 .f32 := mulf v5 v5
  let v7 : FVec F S_ .f32 := sitofp .f32 arg1
  let cst_1 : FVec F S_ .f32 := constant S_ .f32 0x48C35000#32
  let v8 : FVec F S_ .f32 := subf cst_1 v7
  let cst_2 : FVec F S_ .f32 := constant S_ .f32 0x00000000#32
  let v9 : FVec F S64 .f32 := (fun x v => Host.reduceAdd x v reducesTo_S4x64x100000_S64_d0_2 h_S_) v6 cst_2
  let v10 : FVec F S1x64x1 .f32 := broadcastInDim S1x64x1 ![1] bcast_S64_S1x64x1_1 v9
  let v11 : FVec F S1x64x1 .f32 := broadcastInDim S1x64x1 ![] bcast_S_S1x64x1 v8
  let v12 : FVec F S1x64x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x64x1 .f32 := fn_where (F := F) v13 v12 cst_4
  v14

def fn_relu {F : FTy → Type} [FloatOps F] (arg0 : FVec F S4x64x100000 .f32) : FVec F S4x64x100000 .f32 :=
  let cst : FVec F S_ .f32 := constant S_ .f32 0x00000000#32
  let v0 : FVec F S4x64x100000 .f32 := broadcastInDim S4x64x100000 ![] bcast_S_S4x64x100000 cst
  let v1 : FVec F S4x64x100000 .f32 := maximumf arg0 v0
  v1

def fn_where_1 {F : FTy → Type} [FloatOps F] (arg0 : IVec S_ 1) (arg1 : FVec F S1x128x1 .f32) (arg2 : FVec F S_ .f32) : FVec F S1x128x1 .f32 :=
  let v0 : FVec F S_ .f32 := id arg2
  let v1 : FVec F S1x128x1 .f32 := broadcastInDim S1x128x1 ![] bcast_S_S1x128x1 v0
  let v2 : FVec F S1x128x1 .f32 := (fun p a b => select (broadcastInDim S1x128x1 ![] bcast_S_S1x128x1 p) a b) arg0 arg1 v1
  v2

def fn_var_0 {F : FTy → Type} [FloatOps F] (arg0 : FVec F S4x128x100000 .f32) (arg1 : IVec S_ 32) : FVec F S1x128x1 .f32 :=
  let cst : FVec F S_ .f32 := constant S_ .f32 0x00000000#32
  let v0 : FVec F S128 .f32 := (fun x v => Host.reduceAdd x v reducesTo_S4x128x100000_S128_d0_2 h_S_) arg0 cst
  let v1 : FVec F S1x128x1 .f32 := broadcastInDim S1x128x1 ![1] bcast_S128_S1x128x1_1 v0
  let cst_0 : FVec F S_ .f32 := constant S_ .f32 0x48C35000#32
  let v2 : FVec F S1x128x1 .f32 := broadcastInDim S1x128x1 ![] bcast_S_S1x128x1 cst_0
  let v3 : FVec F S1x128x1 .f32 := Host.divf v1 v2
  let v4 : FVec F S4x128x100000 .f32 := broadcastInDim S4x128x100000 ![0, 1, 2] bcast_S1x128x1_S4x128x100000_0_1_2 v3
  let v5 : FVec F S4x128x100000 .f32 := subf arg0 v4
  let v6 : FVec F S4x128x100000 .f32 := mulf v5 v5
  let v7 : FVec F S_ .f32 := sitofp .f32 arg1
  let cst_1 : FVec F S_ .f32 := constant S_ .f32 0x48C35000#32
  let v8 : FVec F S_ .f32 := subf cst_1 v7
  let cst_2 : FVec F S_ .f32 := constant S_ .f32 0x00000000#32
  let v9 : FVec F S128 .f32 := (fun x v => Host.reduceAdd x v reducesTo_S4x128x100000_S128_d0_2 h_S_) v6 cst_2
  let v10 : FVec F S1x128x1 .f32 := broadcastInDim S1x128x1 ![1] bcast_S128_S1x128x1_1 v9
  let v11 : FVec F S1x128x1 .f32 := broadcastInDim S1x128x1 ![] bcast_S_S1x128x1 v8
  let v12 : FVec F S1x128x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S1x128x1 .f32 := fn_where_1 (F := F) v13 v12 cst_4
  v14

def fn_relu_2 {F : FTy → Type} [FloatOps F] (arg0 : FVec F S4x128x100000 .f32) : FVec F S4x128x100000 .f32 :=
  let cst : FVec F S_ .f32 := constant S_ .f32 0x00000000#32
  let v0 : FVec F S4x128x100000 .f32 := broadcastInDim S4x128x100000 ![] bcast_S_S4x128x100000 cst
  let v1 : FVec F S4x128x100000 .f32 := maximumf arg0 v0
  v1

def fn_part9 {F : FTy → Type} [FloatOps F] (main_arg15 : FVec F S2x128 .f32) (main_v59 : FVec F S2x128 .f32) (main_v152 : IVec S_ 1) (main_v171 : IVec S_ 1) : IVec S_ 1 :=
  let main_v172 : IVec S_ 1 := andi main_v152 main_v171
  let main_v173 : IVec S2x128 1 := cmpf .oeq main_arg15 main_v59
  let main_c_42 : IVec S_ 1 := constantI S_ 1 1#1
  let main_v174 : IVec S_ 1 := (fun x v => Host.reduce IntOp.andi x v reducesTo_S2x128_S_d0_1 h_S_) main_v173 main_c_42
  let main_v175 : IVec S_ 1 := andi main_v172 main_v174
  main_v175

def fn_part8 {F : FTy → Type} [FloatOps F] (main_arg9 : FVec F S128x128 .f32) (main_arg10 : FVec F S128 .f32) (main_arg11 : FVec F S128 .f32) (main_arg15 : FVec F S2x128 .f32) (main_v59 : FVec F S2x128 .f32) (main_v152 : IVec S_ 1) (main_v153 : FVec F S128 .f32) (main_v154 : FVec F S128 .f32) : IVec S_ 1 :=
  let main_v155 : IVec S128 1 := cmpf .olt main_v153 main_v154
  let main_c_35 : IVec S_ 1 := constantI S_ 1 1#1
  let main_v156 : IVec S_ 1 := (fun x v => Host.reduce IntOp.andi x v reducesTo_S128_S_d0 h_S_) main_v155 main_c_35
  let main_v157 : FVec F S128x128 .f32 := Host.absf main_arg9
  let main_cst_36 : FVec F S_ .f32 := constant S_ .f32 0x7F800000#32
  let main_v158 : FVec F S128x128 .f32 := broadcastInDim S128x128 ![] bcast_S_S128x128 main_cst_36
  let main_v159 : IVec S128x128 1 := cmpf .olt main_v157 main_v158
  let main_c_37 : IVec S_ 1 := constantI S_ 1 1#1
  let main_v160 : IVec S_ 1 := (fun x v => Host.reduce IntOp.andi x v reducesTo_S128x128_S_d0_1 h_S_) main_v159 main_c_37
  let main_v161 : IVec S_ 1 := andi main_v156 main_v160
  let main_v162 : FVec F S128 .f32 := Host.absf main_arg10
  let main_cst_38 : FVec F S_ .f32 := constant S_ .f32 0x7F800000#32
  let main_v163 : FVec F S128 .f32 := broadcastInDim S128 ![] bcast_S_S128 main_cst_38
  let main_v164 : IVec S128 1 := cmpf .olt main_v162 main_v163
  let main_c_39 : IVec S_ 1 := constantI S_ 1 1#1
  let main_v165 : IVec S_ 1 := (fun x v => Host.reduce IntOp.andi x v reducesTo_S128_S_d0 h_S_) main_v164 main_c_39
  let main_v166 : IVec S_ 1 := andi main_v161 main_v165
  let main_v167 : FVec F S128 .f32 := Host.absf main_arg11
  let main_cst_40 : FVec F S_ .f32 := constant S_ .f32 0x7F800000#32
  let main_v168 : FVec F S128 .f32 := broadcastInDim S128 ![] bcast_S_S128 main_cst_40
  let main_v169 : IVec S128 1 := cmpf .olt main_v167 main_v168
  let main_c_41 : IVec S_ 1 := constantI S_ 1 1#1
  let main_v170 : IVec S_ 1 := (fun x v => Host.reduce IntOp.andi x v reducesTo_S128_S_d0 h_S_) main_v169 main_c_41
  let main_v171 : IVec S_ 1 := andi main_v166 main_v170
  fn_part9 (F := F) main_arg15 main_v59 main_v152 main_v171

def fn_part7 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg14 : FVec F S2x128 .f32) (main_arg15 : FVec F S2x128 .f32) (main_v59 : FVec F S2x128 .f32) (main_v95 : FVec F S2x128 .f32) (main_v129 : IVec S_ 1) (main_v133 : IVec S_ 1) (main_v136 : IVec S128x64 1) (main_c_28 : IVec S_ 1) : IVec S_ 1 :=
  let main_v137 : IVec S_ 1 := (fun x v => Host.reduce IntOp.andi x v reducesTo_S128x64_S_d0_1 h_S_) main_v136 main_c_28
  let main_v138 : IVec S_ 1 := andi main_v133 main_v137
  let main_v139 : FVec F S128 .f32 := Host.absf main_arg6
  let main_cst_29 : FVec F S_ .f32 := constant S_ .f32 0x7F800000#32
  let main_v140 : FVec F S128 .f32 := broadcastInDim S128 ![] bcast_S_S128 main_cst_29
  let main_v141 : IVec S128 1 := cmpf .olt main_v139 main_v140
  let main_c_30 : IVec S_ 1 := constantI S_ 1 1#1
  let main_v142 : IVec S_ 1 := (fun x v => Host.reduce IntOp.andi x v reducesTo_S128_S_d0 h_S_) main_v141 main_c_30
  let main_v143 : IVec S_ 1 := andi main_v138 main_v142
  let main_v144 : FVec F S128 .f32 := Host.absf main_arg7
  let main_cst_31 : FVec F S_ .f32 := constant S_ .f32 0x7F800000#32
  let main_v145 : FVec F S128 .f32 := broadcastInDim S128 ![] bcast_S_S128 main_cst_31
  let main_v146 : IVec S128 1 := cmpf .olt main_v144 main_v145
  let main_c_32 : IVec S_ 1 := constantI S_ 1 1#1
  let main_v147 : IVec S_ 1 := (fun x v => Host.reduce IntOp.andi x v reducesTo_S128_S_d0 h_S_) main_v146 main_c_32
  let main_v148 : IVec S_ 1 := andi main_v143 main_v147
  let main_v149 : IVec S_ 1 := andi main_v129 main_v148
  let main_v150 : IVec S2x128 1 := cmpf .oeq main_arg14 main_v95
  let main_c_33 : IVec S_ 1 := constantI S_ 1 1#1
  let main_v151 : IVec S_ 1 := (fun x v => Host.reduce IntOp.andi x v reducesTo_S2x128_S_d0_1 h_S_) main_v150 main_c_33
  let main_v152 : IVec S_ 1 := andi main_v149 main_v151
  let main_v153 : FVec F S128 .f32 := Host.absf main_arg8
  let main_cst_34 : FVec F S_ .f32 := constant S_ .f32 0x7F800000#32
  let main_v154 : FVec F S128 .f32 := broadcastInDim S128 ![] bcast_S_S128 main_cst_34
  fn_part8 (F := F) main_arg9 main_arg10 main_arg11 main_arg15 main_v59 main_v152 main_v153 main_v154

def fn_part6 {F : FTy → Type} [FloatOps F] (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg13 : FVec F S2x64 .f32) (main_arg14 : FVec F S2x128 .f32) (main_arg15 : FVec F S2x128 .f32) (main_v59 : FVec F S2x128 .f32) (main_v95 : FVec F S2x128 .f32) (main_v101 : FVec F S4x64x100000 .f32) (main_v115 : IVec S_ 1) (main_v119 : IVec S_ 1) : IVec S_ 1 :=
  let main_v120 : IVec S_ 1 := andi main_v115 main_v119
  let main_cst_22 : FVec F S_ .f32 := constant S_ .f32 0x00000000#32
  let main_v121 : FVec F S64 .f32 := (fun x v => Host.reduceAdd x v reducesTo_S4x64x100000_S64_d0_2 h_S_) main_v101 main_cst_22
  let main_v122 : FVec F S4x64x100000 .f32 := mulf main_v101 main_v101
  let main_cst_23 : FVec F S_ .f32 := constant S_ .f32 0x00000000#32
  let main_v123 : FVec F S64 .f32 := (fun x v => Host.reduceAdd x v reducesTo_S4x64x100000_S64_d0_2 h_S_) main_v122 main_cst_23
  let main_v124 : FVec F S1x64 .f32 := broadcastInDim S1x64 ![1] bcast_S64_S1x64_1 main_v121
  let main_v125 : FVec F S1x64 .f32 := broadcastInDim S1x64 ![1] bcast_S64_S1x64_1 main_v123
  let main_v126 : FVec F S2x64 .f32 := (fun a b => concatenate S2x64 0 [⟨S1x64, a⟩, ⟨S1x64, b⟩] concatenates_S1x64_S1x64_S2x64_d0) main_v124 main_v125
  let main_v127 : IVec S2x64 1 := cmpf .oeq main_arg13 main_v126
  let main_c_24 : IVec S_ 1 := constantI S_ 1 1#1
  let main_v128 : IVec S_ 1 := (fun x v => Host.reduce IntOp.andi x v reducesTo_S2x64_S_d0_1 h_S_) main_v127 main_c_24
  let main_v129 : IVec S_ 1 := andi main_v120 main_v128
  let main_v130 : FVec F S64 .f32 := Host.absf main_arg4
  let main_cst_25 : FVec F S_ .f32 := constant S_ .f32 0x7F800000#32
  let main_v131 : FVec F S64 .f32 := broadcastInDim S64 ![] bcast_S_S64 main_cst_25
  let main_v132 : IVec S64 1 := cmpf .olt main_v130 main_v131
  let main_c_26 : IVec S_ 1 := constantI S_ 1 1#1
  let main_v133 : IVec S_ 1 := (fun x v => Host.reduce IntOp.andi x v reducesTo_S64_S_d0 h_S_) main_v132 main_c_26
  let main_v134 : FVec F S128x64 .f32 := Host.absf main_arg5
  let main_cst_27 : FVec F S_ .f32 := constant S_ .f32 0x7F800000#32
  let main_v135 : FVec F S128x64 .f32 := broadcastInDim S128x64 ![] bcast_S_S128x64 main_cst_27
  let main_v136 : IVec S128x64 1 := cmpf .olt main_v134 main_v135
  let main_c_28 : IVec S_ 1 := constantI S_ 1 1#1
  fn_part7 (F := F) main_arg6 main_arg7 main_arg8 main_arg9 main_arg10 main_arg11 main_arg14 main_arg15 main_v59 main_v95 main_v129 main_v133 main_v136 main_c_28

def fn_part5 {F : FTy → Type} [FloatOps F] (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg13 : FVec F S2x64 .f32) (main_arg14 : FVec F S2x128 .f32) (main_arg15 : FVec F S2x128 .f32) (main_v59 : FVec F S2x128 .f32) (main_v95 : FVec F S2x128 .f32) (main_v101 : FVec F S4x64x100000 .f32) (main_v102 : FVec F S4x100000x4 .f32) (main_cst_14 : FVec F S_ .f32) : IVec S_ 1 :=
  let main_v103 : FVec F S4x100000x4 .f32 := broadcastInDim S4x100000x4 ![] bcast_S_S4x100000x4 main_cst_14
  let main_v104 : IVec S4x100000x4 1 := cmpf .olt main_v102 main_v103
  let main_c_15 : IVec S_ 1 := constantI S_ 1 1#1
  let main_v105 : IVec S_ 1 := (fun x v => Host.reduce IntOp.andi x v reducesTo_S4x100000x4_S_d0_1_2 h_S_) main_v104 main_c_15
  let main_v106 : FVec F S64x4 .f32 := Host.absf main_arg1
  let main_cst_16 : FVec F S_ .f32 := constant S_ .f32 0x7F800000#32
  let main_v107 : FVec F S64x4 .f32 := broadcastInDim S64x4 ![] bcast_S_S64x4 main_cst_16
  let main_v108 : IVec S64x4 1 := cmpf .olt main_v106 main_v107
  let main_c_17 : IVec S_ 1 := constantI S_ 1 1#1
  let main_v109 : IVec S_ 1 := (fun x v => Host.reduce IntOp.andi x v reducesTo_S64x4_S_d0_1 h_S_) main_v108 main_c_17
  let main_v110 : IVec S_ 1 := andi main_v105 main_v109
  let main_v111 : FVec F S64 .f32 := Host.absf main_arg2
  let main_cst_18 : FVec F S_ .f32 := constant S_ .f32 0x7F800000#32
  let main_v112 : FVec F S64 .f32 := broadcastInDim S64 ![] bcast_S_S64 main_cst_18
  let main_v113 : IVec S64 1 := cmpf .olt main_v111 main_v112
  let main_c_19 : IVec S_ 1 := constantI S_ 1 1#1
  let main_v114 : IVec S_ 1 := (fun x v => Host.reduce IntOp.andi x v reducesTo_S64_S_d0 h_S_) main_v113 main_c_19
  let main_v115 : IVec S_ 1 := andi main_v110 main_v114
  let main_v116 : FVec F S64 .f32 := Host.absf main_arg3
  let main_cst_20 : FVec F S_ .f32 := constant S_ .f32 0x7F800000#32
  let main_v117 : FVec F S64 .f32 := broadcastInDim S64 ![] bcast_S_S64 main_cst_20
  let main_v118 : IVec S64 1 := cmpf .olt main_v116 main_v117
  let main_c_21 : IVec S_ 1 := constantI S_ 1 1#1
  let main_v119 : IVec S_ 1 := (fun x v => Host.reduce IntOp.andi x v reducesTo_S64_S_d0 h_S_) main_v118 main_c_21
  fn_part6 (F := F) main_arg4 main_arg5 main_arg6 main_arg7 main_arg8 main_arg9 main_arg10 main_arg11 main_arg13 main_arg14 main_arg15 main_v59 main_v95 main_v101 main_v115 main_v119

def fn_part4 {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg13 : FVec F S2x64 .f32) (main_arg14 : FVec F S2x128 .f32) (main_arg15 : FVec F S2x128 .f32) (main_v59 : FVec F S2x128 .f32) (main_v80 : FVec F S4x64x100000 .f32) (main_v81 : FVec F S1x64x1 .f32) : IVec S_ 1 :=
  let main_v82 : FVec F S4x64x100000 .f32 := broadcastInDim S4x64x100000 ![0, 1, 2] bcast_S1x64x1_S4x64x100000_0_1_2 main_v81
  let main_v83 : FVec F S4x64x100000 .f32 := addf main_v80 main_v82
  let main_v84 : FVec F S4x64x100000 .f32 := fn_relu (F := F) main_v83
  let main_v85 : FVec F S4x100000x128 .f32 := (fun l r => Host.dotGeneral dot_S4x64x100000_S128x64_S4x100000x128_1_1_02_0_n_n none l r) main_v84 main_arg5
  let main_v86 : FVec F S4x128x100000 .f32 := (transpose S4x128x100000 [0, 2, 1] · transposes_S4x100000x128_S4x128x100000_0_2_1) main_v85
  let main_v87 : FVec F S1x128x1 .f32 := broadcastInDim S1x128x1 ![1] bcast_S128_S1x128x1_1 main_arg6
  let main_v88 : FVec F S4x128x100000 .f32 := broadcastInDim S4x128x100000 ![0, 1, 2] bcast_S1x128x1_S4x128x100000_0_1_2 main_v87
  let main_v89 : FVec F S4x128x100000 .f32 := addf main_v86 main_v88
  let main_cst_12 : FVec F S_ .f32 := constant S_ .f32 0x00000000#32
  let main_v90 : FVec F S128 .f32 := (fun x v => Host.reduceAdd x v reducesTo_S4x128x100000_S128_d0_2 h_S_) main_v89 main_cst_12
  let main_v91 : FVec F S4x128x100000 .f32 := mulf main_v89 main_v89
  let main_cst_13 : FVec F S_ .f32 := constant S_ .f32 0x00000000#32
  let main_v92 : FVec F S128 .f32 := (fun x v => Host.reduceAdd x v reducesTo_S4x128x100000_S128_d0_2 h_S_) main_v91 main_cst_13
  let main_v93 : FVec F S1x128 .f32 := broadcastInDim S1x128 ![1] bcast_S128_S1x128_1 main_v90
  let main_v94 : FVec F S1x128 .f32 := broadcastInDim S1x128 ![1] bcast_S128_S1x128_1 main_v92
  let main_v95 : FVec F S2x128 .f32 := (fun a b => concatenate S2x128 0 [⟨S1x128, a⟩, ⟨S1x128, b⟩] concatenates_S1x128_S1x128_S2x128_d0) main_v93 main_v94
  let main_v96 : FVec F S4x4x100000 .f32 := (transpose S4x4x100000 [0, 2, 1] · transposes_S4x100000x4_S4x4x100000_0_2_1) main_arg0
  let main_v97 : FVec F S4x100000x64 .f32 := (fun l r => Host.dotGeneral dot_S4x4x100000_S64x4_S4x100000x64_1_1_02_0_n_n none l r) main_v96 main_arg1
  let main_v98 : FVec F S4x64x100000 .f32 := (transpose S4x64x100000 [0, 2, 1] · transposes_S4x100000x64_S4x64x100000_0_2_1) main_v97
  let main_v99 : FVec F S1x64x1 .f32 := broadcastInDim S1x64x1 ![1] bcast_S64_S1x64x1_1 main_arg2
  let main_v100 : FVec F S4x64x100000 .f32 := broadcastInDim S4x64x100000 ![0, 1, 2] bcast_S1x64x1_S4x64x100000_0_1_2 main_v99
  let main_v101 : FVec F S4x64x100000 .f32 := addf main_v98 main_v100
  let main_v102 : FVec F S4x100000x4 .f32 := Host.absf main_arg0
  let main_cst_14 : FVec F S_ .f32 := constant S_ .f32 0x7F800000#32
  fn_part5 (F := F) main_arg1 main_arg2 main_arg3 main_arg4 main_arg5 main_arg6 main_arg7 main_arg8 main_arg9 main_arg10 main_arg11 main_arg13 main_arg14 main_arg15 main_v59 main_v95 main_v101 main_v102 main_cst_14

def fn_part3 {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg13 : FVec F S2x64 .f32) (main_arg14 : FVec F S2x128 .f32) (main_arg15 : FVec F S2x128 .f32) (main_v59 : FVec F S2x128 .f32) (main_v61 : FVec F S4x100000x64 .f32) : IVec S_ 1 :=
  let main_v62 : FVec F S4x64x100000 .f32 := (transpose S4x64x100000 [0, 2, 1] · transposes_S4x100000x64_S4x64x100000_0_2_1) main_v61
  let main_v63 : FVec F S1x64x1 .f32 := broadcastInDim S1x64x1 ![1] bcast_S64_S1x64x1_1 main_arg2
  let main_v64 : FVec F S4x64x100000 .f32 := broadcastInDim S4x64x100000 ![0, 1, 2] bcast_S1x64x1_S4x64x100000_0_1_2 main_v63
  let main_v65 : FVec F S4x64x100000 .f32 := addf main_v62 main_v64
  let main_cst_8 : FVec F S_ .f32 := constant S_ .f32 0x00000000#32
  let main_v66 : FVec F S64 .f32 := (fun x v => Host.reduceAdd x v reducesTo_S4x64x100000_S64_d0_2 h_S_) main_v65 main_cst_8
  let main_v67 : FVec F S1x64x1 .f32 := broadcastInDim S1x64x1 ![1] bcast_S64_S1x64x1_1 main_v66
  let main_cst_9 : FVec F S_ .f32 := constant S_ .f32 0x48C35000#32
  let main_v68 : FVec F S1x64x1 .f32 := broadcastInDim S1x64x1 ![] bcast_S_S1x64x1 main_cst_9
  let main_v69 : FVec F S1x64x1 .f32 := Host.divf main_v67 main_v68
  let main_c_10 : IVec S_ 32 := constantI S_ 32 0#32
  let main_v70 : FVec F S1x64x1 .f32 := fn_var (F := F) main_v65 main_c_10
  let main_v71 : FVec F S4x64x100000 .f32 := broadcastInDim S4x64x100000 ![0, 1, 2] bcast_S1x64x1_S4x64x100000_0_1_2 main_v69
  let main_v72 : FVec F S4x64x100000 .f32 := subf main_v65 main_v71
  let main_cst_11 : FVec F S_ .f32 := constant S_ .f32 0x3727C5AC#32
  let main_v73 : FVec F S1x64x1 .f32 := broadcastInDim S1x64x1 ![] bcast_S_S1x64x1 main_cst_11
  let main_v74 : FVec F S1x64x1 .f32 := addf main_v70 main_v73
  let main_v75 : FVec F S1x64x1 .f32 := Host.sqrt main_v74
  let main_v76 : FVec F S4x64x100000 .f32 := broadcastInDim S4x64x100000 ![0, 1, 2] bcast_S1x64x1_S4x64x100000_0_1_2 main_v75
  let main_v77 : FVec F S4x64x100000 .f32 := Host.divf main_v72 main_v76
  let main_v78 : FVec F S1x64x1 .f32 := broadcastInDim S1x64x1 ![1] bcast_S64_S1x64x1_1 main_arg3
  let main_v79 : FVec F S4x64x100000 .f32 := broadcastInDim S4x64x100000 ![0, 1, 2] bcast_S1x64x1_S4x64x100000_0_1_2 main_v78
  let main_v80 : FVec F S4x64x100000 .f32 := mulf main_v77 main_v79
  let main_v81 : FVec F S1x64x1 .f32 := broadcastInDim S1x64x1 ![1] bcast_S64_S1x64x1_1 main_arg4
  fn_part4 (F := F) main_arg0 main_arg1 main_arg2 main_arg3 main_arg4 main_arg5 main_arg6 main_arg7 main_arg8 main_arg9 main_arg10 main_arg11 main_arg13 main_arg14 main_arg15 main_v59 main_v80 main_v81

def fn_part2 {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg13 : FVec F S2x64 .f32) (main_arg14 : FVec F S2x128 .f32) (main_arg15 : FVec F S2x128 .f32) (main_v36 : FVec F S4x128x100000 .f32) (main_v39 : FVec F S1x128x1 .f32) : IVec S_ 1 :=
  let main_v40 : FVec F S4x128x100000 .f32 := broadcastInDim S4x128x100000 ![0, 1, 2] bcast_S1x128x1_S4x128x100000_0_1_2 main_v39
  let main_v41 : FVec F S4x128x100000 .f32 := Host.divf main_v36 main_v40
  let main_v42 : FVec F S1x128x1 .f32 := broadcastInDim S1x128x1 ![1] bcast_S128_S1x128x1_1 main_arg7
  let main_v43 : FVec F S4x128x100000 .f32 := broadcastInDim S4x128x100000 ![0, 1, 2] bcast_S1x128x1_S4x128x100000_0_1_2 main_v42
  let main_v44 : FVec F S4x128x100000 .f32 := mulf main_v41 main_v43
  let main_v45 : FVec F S1x128x1 .f32 := broadcastInDim S1x128x1 ![1] bcast_S128_S1x128x1_1 main_arg8
  let main_v46 : FVec F S4x128x100000 .f32 := broadcastInDim S4x128x100000 ![0, 1, 2] bcast_S1x128x1_S4x128x100000_0_1_2 main_v45
  let main_v47 : FVec F S4x128x100000 .f32 := addf main_v44 main_v46
  let main_v48 : FVec F S4x128x100000 .f32 := fn_relu_2 (F := F) main_v47
  let main_v49 : FVec F S4x100000x128 .f32 := (fun l r => Host.dotGeneral dot_S4x128x100000_S128x128_S4x100000x128_1_1_02_0_n_n none l r) main_v48 main_arg9
  let main_v50 : FVec F S4x128x100000 .f32 := (transpose S4x128x100000 [0, 2, 1] · transposes_S4x100000x128_S4x128x100000_0_2_1) main_v49
  let main_v51 : FVec F S1x128x1 .f32 := broadcastInDim S1x128x1 ![1] bcast_S128_S1x128x1_1 main_arg10
  let main_v52 : FVec F S4x128x100000 .f32 := broadcastInDim S4x128x100000 ![0, 1, 2] bcast_S1x128x1_S4x128x100000_0_1_2 main_v51
  let main_v53 : FVec F S4x128x100000 .f32 := addf main_v50 main_v52
  let main_cst_6 : FVec F S_ .f32 := constant S_ .f32 0x00000000#32
  let main_v54 : FVec F S128 .f32 := (fun x v => Host.reduceAdd x v reducesTo_S4x128x100000_S128_d0_2 h_S_) main_v53 main_cst_6
  let main_v55 : FVec F S4x128x100000 .f32 := mulf main_v53 main_v53
  let main_cst_7 : FVec F S_ .f32 := constant S_ .f32 0x00000000#32
  let main_v56 : FVec F S128 .f32 := (fun x v => Host.reduceAdd x v reducesTo_S4x128x100000_S128_d0_2 h_S_) main_v55 main_cst_7
  let main_v57 : FVec F S1x128 .f32 := broadcastInDim S1x128 ![1] bcast_S128_S1x128_1 main_v54
  let main_v58 : FVec F S1x128 .f32 := broadcastInDim S1x128 ![1] bcast_S128_S1x128_1 main_v56
  let main_v59 : FVec F S2x128 .f32 := (fun a b => concatenate S2x128 0 [⟨S1x128, a⟩, ⟨S1x128, b⟩] concatenates_S1x128_S1x128_S2x128_d0) main_v57 main_v58
  let main_v60 : FVec F S4x4x100000 .f32 := (transpose S4x4x100000 [0, 2, 1] · transposes_S4x100000x4_S4x4x100000_0_2_1) main_arg0
  let main_v61 : FVec F S4x100000x64 .f32 := (fun l r => Host.dotGeneral dot_S4x4x100000_S64x4_S4x100000x64_1_1_02_0_n_n none l r) main_v60 main_arg1
  fn_part3 (F := F) main_arg0 main_arg1 main_arg2 main_arg3 main_arg4 main_arg5 main_arg6 main_arg7 main_arg8 main_arg9 main_arg10 main_arg11 main_arg13 main_arg14 main_arg15 main_v59 main_v61

def fn_part1 {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg13 : FVec F S2x64 .f32) (main_arg14 : FVec F S2x128 .f32) (main_arg15 : FVec F S2x128 .f32) (main_v17 : FVec F S4x64x100000 .f32) (main_v19 : FVec F S4x64x100000 .f32) : IVec S_ 1 :=
  let main_v20 : FVec F S4x64x100000 .f32 := mulf main_v17 main_v19
  let main_v21 : FVec F S1x64x1 .f32 := broadcastInDim S1x64x1 ![1] bcast_S64_S1x64x1_1 main_arg4
  let main_v22 : FVec F S4x64x100000 .f32 := broadcastInDim S4x64x100000 ![0, 1, 2] bcast_S1x64x1_S4x64x100000_0_1_2 main_v21
  let main_v23 : FVec F S4x64x100000 .f32 := addf main_v20 main_v22
  let main_v24 : FVec F S4x64x100000 .f32 := fn_relu (F := F) main_v23
  let main_v25 : FVec F S4x100000x128 .f32 := (fun l r => Host.dotGeneral dot_S4x64x100000_S128x64_S4x100000x128_1_1_02_0_n_n none l r) main_v24 main_arg5
  let main_v26 : FVec F S4x128x100000 .f32 := (transpose S4x128x100000 [0, 2, 1] · transposes_S4x100000x128_S4x128x100000_0_2_1) main_v25
  let main_v27 : FVec F S1x128x1 .f32 := broadcastInDim S1x128x1 ![1] bcast_S128_S1x128x1_1 main_arg6
  let main_v28 : FVec F S4x128x100000 .f32 := broadcastInDim S4x128x100000 ![0, 1, 2] bcast_S1x128x1_S4x128x100000_0_1_2 main_v27
  let main_v29 : FVec F S4x128x100000 .f32 := addf main_v26 main_v28
  let main_cst_2 : FVec F S_ .f32 := constant S_ .f32 0x00000000#32
  let main_v30 : FVec F S128 .f32 := (fun x v => Host.reduceAdd x v reducesTo_S4x128x100000_S128_d0_2 h_S_) main_v29 main_cst_2
  let main_v31 : FVec F S1x128x1 .f32 := broadcastInDim S1x128x1 ![1] bcast_S128_S1x128x1_1 main_v30
  let main_cst_3 : FVec F S_ .f32 := constant S_ .f32 0x48C35000#32
  let main_v32 : FVec F S1x128x1 .f32 := broadcastInDim S1x128x1 ![] bcast_S_S1x128x1 main_cst_3
  let main_v33 : FVec F S1x128x1 .f32 := Host.divf main_v31 main_v32
  let main_c_4 : IVec S_ 32 := constantI S_ 32 0#32
  let main_v34 : FVec F S1x128x1 .f32 := fn_var_0 (F := F) main_v29 main_c_4
  let main_v35 : FVec F S4x128x100000 .f32 := broadcastInDim S4x128x100000 ![0, 1, 2] bcast_S1x128x1_S4x128x100000_0_1_2 main_v33
  let main_v36 : FVec F S4x128x100000 .f32 := subf main_v29 main_v35
  let main_cst_5 : FVec F S_ .f32 := constant S_ .f32 0x3727C5AC#32
  let main_v37 : FVec F S1x128x1 .f32 := broadcastInDim S1x128x1 ![] bcast_S_S1x128x1 main_cst_5
  let main_v38 : FVec F S1x128x1 .f32 := addf main_v34 main_v37
  let main_v39 : FVec F S1x128x1 .f32 := Host.sqrt main_v38
  fn_part2 (F := F) main_arg0 main_arg1 main_arg2 main_arg3 main_arg4 main_arg5 main_arg6 main_arg7 main_arg8 main_arg9 main_arg10 main_arg11 main_arg13 main_arg14 main_arg15 main_v36 main_v39

def fn {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S2x64 .f32) (main_arg14 : FVec F S2x128 .f32) (main_arg15 : FVec F S2x128 .f32) : IVec S_ 1 :=
  let main_v0 : FVec F S4x4x100000 .f32 := (transpose S4x4x100000 [0, 2, 1] · transposes_S4x100000x4_S4x4x100000_0_2_1) main_arg0
  let main_v1 : FVec F S4x100000x64 .f32 := (fun l r => Host.dotGeneral dot_S4x4x100000_S64x4_S4x100000x64_1_1_02_0_n_n none l r) main_v0 main_arg1
  let main_v2 : FVec F S4x64x100000 .f32 := (transpose S4x64x100000 [0, 2, 1] · transposes_S4x100000x64_S4x64x100000_0_2_1) main_v1
  let main_v3 : FVec F S1x64x1 .f32 := broadcastInDim S1x64x1 ![1] bcast_S64_S1x64x1_1 main_arg2
  let main_v4 : FVec F S4x64x100000 .f32 := broadcastInDim S4x64x100000 ![0, 1, 2] bcast_S1x64x1_S4x64x100000_0_1_2 main_v3
  let main_v5 : FVec F S4x64x100000 .f32 := addf main_v2 main_v4
  let main_cst : FVec F S_ .f32 := constant S_ .f32 0x00000000#32
  let main_v6 : FVec F S64 .f32 := (fun x v => Host.reduceAdd x v reducesTo_S4x64x100000_S64_d0_2 h_S_) main_v5 main_cst
  let main_v7 : FVec F S1x64x1 .f32 := broadcastInDim S1x64x1 ![1] bcast_S64_S1x64x1_1 main_v6
  let main_cst_0 : FVec F S_ .f32 := constant S_ .f32 0x48C35000#32
  let main_v8 : FVec F S1x64x1 .f32 := broadcastInDim S1x64x1 ![] bcast_S_S1x64x1 main_cst_0
  let main_v9 : FVec F S1x64x1 .f32 := Host.divf main_v7 main_v8
  let main_c : IVec S_ 32 := constantI S_ 32 0#32
  let main_v10 : FVec F S1x64x1 .f32 := fn_var (F := F) main_v5 main_c
  let main_v11 : FVec F S4x64x100000 .f32 := broadcastInDim S4x64x100000 ![0, 1, 2] bcast_S1x64x1_S4x64x100000_0_1_2 main_v9
  let main_v12 : FVec F S4x64x100000 .f32 := subf main_v5 main_v11
  let main_cst_1 : FVec F S_ .f32 := constant S_ .f32 0x3727C5AC#32
  let main_v13 : FVec F S1x64x1 .f32 := broadcastInDim S1x64x1 ![] bcast_S_S1x64x1 main_cst_1
  let main_v14 : FVec F S1x64x1 .f32 := addf main_v10 main_v13
  let main_v15 : FVec F S1x64x1 .f32 := Host.sqrt main_v14
  let main_v16 : FVec F S4x64x100000 .f32 := broadcastInDim S4x64x100000 ![0, 1, 2] bcast_S1x64x1_S4x64x100000_0_1_2 main_v15
  let main_v17 : FVec F S4x64x100000 .f32 := Host.divf main_v12 main_v16
  let main_v18 : FVec F S1x64x1 .f32 := broadcastInDim S1x64x1 ![1] bcast_S64_S1x64x1_1 main_arg3
  let main_v19 : FVec F S4x64x100000 .f32 := broadcastInDim S4x64x100000 ![0, 1, 2] bcast_S1x64x1_S4x64x100000_0_1_2 main_v18
  fn_part1 (F := F) main_arg0 main_arg1 main_arg2 main_arg3 main_arg4 main_arg5 main_arg6 main_arg7 main_arg8 main_arg9 main_arg10 main_arg11 main_arg13 main_arg14 main_arg15 main_v17 main_v19
-- ==== Pre_sound2.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S2x64 : Shape := ⟨2, ![2, 64]⟩
abbrev S_ : Shape := ⟨0, ![]⟩
abbrev S1x64 : Shape := ⟨2, ![1, 64]⟩

class Facts : Prop where
  bcast_S_S64 : S_.BroadcastsInDim S64 (![] : Fin 0 → Fin S64.rank)
  reducesTo_S64_S_d0 : S64.ReducesTo [0] S_
  h_S_ : 0 < S_.numel
  slices_S2x64_S1x64_0_0 : S2x64.Slices ![0, 0] S1x64
  shapeCasts_S1x64_S64 : S1x64.ShapeCasts S64
  slices_S2x64_S1x64_1_0 : S2x64.Slices ![1, 0] S1x64

variable [Facts]

def fn_part1 {F : FTy → Type} [FloatOps F] (main_v3 : IVec S_ 1) (main_v17 : IVec S64 1) : IVec S_ 1 :=
  let main_c_4 : IVec S_ 1 := constantI S_ 1 1#1
  let main_v18 : IVec S_ 1 := (fun x v => Host.reduce IntOp.andi x v reducesTo_S64_S_d0 h_S_) main_v17 main_c_4
  let main_v19 : IVec S_ 1 := andi main_v3 main_v18
  main_v19

def fn {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S2x64 .f32) : IVec S_ 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S1x64 .f32 := (extractStridedSlice S1x64 ![0, 0] · slices_S2x64_S1x64_0_0) main_arg7
  let main_v5 : FVec F S64 .f32 := shapeCast S64 main_v4 shapeCasts_S1x64_S64
  let main_cst_0 : FVec F S_ .f32 := constant S_ .f32 0x48C35000#32
  let main_v6 : FVec F S64 .f32 := broadcastInDim S64 ![] bcast_S_S64 main_cst_0
  let main_v7 : FVec F S64 .f32 := Host.divf main_v5 main_v6
  let main_v8 : FVec F S1x64 .f32 := (extractStridedSlice S1x64 ![1, 0] · slices_S2x64_S1x64_1_0) main_arg7
  let main_v9 : FVec F S64 .f32 := shapeCast S64 main_v8 shapeCasts_S1x64_S64
  let main_cst_1 : FVec F S_ .f32 := constant S_ .f32 0x48C35000#32
  let main_v10 : FVec F S64 .f32 := broadcastInDim S64 ![] bcast_S_S64 main_cst_1
  let main_v11 : FVec F S64 .f32 := Host.divf main_v9 main_v10
  let main_v12 : FVec F S64 .f32 := mulf main_v7 main_v7
  let main_v13 : FVec F S64 .f32 := subf main_v11 main_v12
  let main_cst_2 : FVec F S_ .f32 := constant S_ .f32 0x3727C5AC#32
  let main_v14 : FVec F S64 .f32 := broadcastInDim S64 ![] bcast_S_S64 main_cst_2
  let main_v15 : FVec F S64 .f32 := addf main_v13 main_v14
  let main_cst_3 : FVec F S_ .f32 := constant S_ .f32 0x00000000#32
  let main_v16 : FVec F S64 .f32 := broadcastInDim S64 ![] bcast_S_S64 main_cst_3
  let main_v17 : IVec S64 1 := cmpf .ogt main_v15 main_v16
  fn_part1 (F := F) main_v3 main_v17
-- ==== Pre_sound3.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S_ : Shape := ⟨0, ![]⟩
abbrev S1x64 : Shape := ⟨2, ![1, 64]⟩
abbrev S1x128 : Shape := ⟨2, ![1, 128]⟩

class Facts : Prop where
  bcast_S_S64 : S_.BroadcastsInDim S64 (![] : Fin 0 → Fin S64.rank)
  reducesTo_S64_S_d0 : S64.ReducesTo [0] S_
  h_S_ : 0 < S_.numel
  bcast_S_S128 : S_.BroadcastsInDim S128 (![] : Fin 0 → Fin S128.rank)
  reducesTo_S128_S_d0 : S128.ReducesTo [0] S_
  slices_S2x64_S1x64_0_0 : S2x64.Slices ![0, 0] S1x64
  shapeCasts_S1x64_S64 : S1x64.ShapeCasts S64
  slices_S2x64_S1x64_1_0 : S2x64.Slices ![1, 0] S1x64
  slices_S2x128_S1x128_0_0 : S2x128.Slices ![0, 0] S1x128
  shapeCasts_S1x128_S128 : S1x128.ShapeCasts S128
  slices_S2x128_S1x128_1_0 : S2x128.Slices ![1, 0] S1x128

variable [Facts]

def fn_part2 {F : FTy → Type} [FloatOps F] (main_v24 : IVec S_ 1) (main_v34 : FVec F S128 .f32) (main_v35 : FVec F S128 .f32) : IVec S_ 1 :=
  let main_v36 : FVec F S128 .f32 := addf main_v34 main_v35
  let main_cst_10 : FVec F S_ .f32 := constant S_ .f32 0x00000000#32
  let main_v37 : FVec F S128 .f32 := broadcastInDim S128 ![] bcast_S_S128 main_cst_10
  let main_v38 : IVec S128 1 := cmpf .ogt main_v36 main_v37
  let main_c_11 : IVec S_ 1 := constantI S_ 1 1#1
  let main_v39 : IVec S_ 1 := (fun x v => Host.reduce IntOp.andi x v reducesTo_S128_S_d0 h_S_) main_v38 main_c_11
  let main_v40 : IVec S_ 1 := andi main_v24 main_v39
  main_v40

def fn_part1 {F : FTy → Type} [FloatOps F] (main_arg12 : FVec F S2x128 .f32) (main_v8 : IVec S_ 1) (main_v16 : FVec F S64 .f32) (main_v17 : FVec F S64 .f32) : IVec S_ 1 :=
  let main_v18 : FVec F S64 .f32 := subf main_v16 main_v17
  let main_cst_4 : FVec F S_ .f32 := constant S_ .f32 0x3727C5AC#32
  let main_v19 : FVec F S64 .f32 := broadcastInDim S64 ![] bcast_S_S64 main_cst_4
  let main_v20 : FVec F S64 .f32 := addf main_v18 main_v19
  let main_cst_5 : FVec F S_ .f32 := constant S_ .f32 0x00000000#32
  let main_v21 : FVec F S64 .f32 := broadcastInDim S64 ![] bcast_S_S64 main_cst_5
  let main_v22 : IVec S64 1 := cmpf .ogt main_v20 main_v21
  let main_c_6 : IVec S_ 1 := constantI S_ 1 1#1
  let main_v23 : IVec S_ 1 := (fun x v => Host.reduce IntOp.andi x v reducesTo_S64_S_d0 h_S_) main_v22 main_c_6
  let main_v24 : IVec S_ 1 := andi main_v8 main_v23
  let main_v25 : FVec F S1x128 .f32 := (extractStridedSlice S1x128 ![0, 0] · slices_S2x128_S1x128_0_0) main_arg12
  let main_v26 : FVec F S128 .f32 := shapeCast S128 main_v25 shapeCasts_S1x128_S128
  let main_cst_7 : FVec F S_ .f32 := constant S_ .f32 0x48C35000#32
  let main_v27 : FVec F S128 .f32 := broadcastInDim S128 ![] bcast_S_S128 main_cst_7
  let main_v28 : FVec F S128 .f32 := Host.divf main_v26 main_v27
  let main_v29 : FVec F S1x128 .f32 := (extractStridedSlice S1x128 ![1, 0] · slices_S2x128_S1x128_1_0) main_arg12
  let main_v30 : FVec F S128 .f32 := shapeCast S128 main_v29 shapeCasts_S1x128_S128
  let main_cst_8 : FVec F S_ .f32 := constant S_ .f32 0x48C35000#32
  let main_v31 : FVec F S128 .f32 := broadcastInDim S128 ![] bcast_S_S128 main_cst_8
  let main_v32 : FVec F S128 .f32 := Host.divf main_v30 main_v31
  let main_v33 : FVec F S128 .f32 := mulf main_v28 main_v28
  let main_v34 : FVec F S128 .f32 := subf main_v32 main_v33
  let main_cst_9 : FVec F S_ .f32 := constant S_ .f32 0x3727C5AC#32
  let main_v35 : FVec F S128 .f32 := broadcastInDim S128 ![] bcast_S_S128 main_cst_9
  fn_part2 (F := F) main_v24 main_v34 main_v35

def fn {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S2x64 .f32) (main_arg12 : FVec F S2x128 .f32) : IVec S_ 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S128 .f32 := Host.absf main_arg7
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S1x64 .f32 := (extractStridedSlice S1x64 ![0, 0] · slices_S2x64_S1x64_0_0) main_arg11
  let main_v10 : FVec F S64 .f32 := shapeCast S64 main_v9 shapeCasts_S1x64_S64
  let main_cst_2 : FVec F S_ .f32 := constant S_ .f32 0x48C35000#32
  let main_v11 : FVec F S64 .f32 := broadcastInDim S64 ![] bcast_S_S64 main_cst_2
  let main_v12 : FVec F S64 .f32 := Host.divf main_v10 main_v11
  let main_v13 : FVec F S1x64 .f32 := (extractStridedSlice S1x64 ![1, 0] · slices_S2x64_S1x64_1_0) main_arg11
  let main_v14 : FVec F S64 .f32 := shapeCast S64 main_v13 shapeCasts_S1x64_S64
  let main_cst_3 : FVec F S_ .f32 := constant S_ .f32 0x48C35000#32
  let main_v15 : FVec F S64 .f32 := broadcastInDim S64 ![] bcast_S_S64 main_cst_3
  let main_v16 : FVec F S64 .f32 := Host.divf main_v14 main_v15
  let main_v17 : FVec F S64 .f32 := mulf main_v12 main_v12
  fn_part1 (F := F) main_arg12 main_v8 main_v16 main_v17
-- ==== Pre_sound4.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S_ : Shape := ⟨0, ![]⟩
abbrev S1x64 : Shape := ⟨2, ![1, 64]⟩
abbrev S1x128 : Shape := ⟨2, ![1, 128]⟩

class Facts : Prop where
  bcast_S_S64 : S_.BroadcastsInDim S64 (![] : Fin 0 → Fin S64.rank)
  reducesTo_S64_S_d0 : S64.ReducesTo [0] S_
  h_S_ : 0 < S_.numel
  bcast_S_S128 : S_.BroadcastsInDim S128 (![] : Fin 0 → Fin S128.rank)
  reducesTo_S128_S_d0 : S128.ReducesTo [0] S_
  slices_S2x64_S1x64_0_0 : S2x64.Slices ![0, 0] S1x64
  shapeCasts_S1x64_S64 : S1x64.ShapeCasts S64
  slices_S2x64_S1x64_1_0 : S2x64.Slices ![1, 0] S1x64
  slices_S2x128_S1x128_0_0 : S2x128.Slices ![0, 0] S1x128
  shapeCasts_S1x128_S128 : S1x128.ShapeCasts S128
  slices_S2x128_S1x128_1_0 : S2x128.Slices ![1, 0] S1x128

variable [Facts]

def fn_part3 {F : FTy → Type} [FloatOps F] (main_v45 : IVec S_ 1) (main_v49 : FVec F S128 .f32) (main_v53 : FVec F S128 .f32) : IVec S_ 1 :=
  let main_v54 : FVec F S128 .f32 := mulf main_v49 main_v49
  let main_v55 : FVec F S128 .f32 := subf main_v53 main_v54
  let main_cst_16 : FVec F S_ .f32 := constant S_ .f32 0x3727C5AC#32
  let main_v56 : FVec F S128 .f32 := broadcastInDim S128 ![] bcast_S_S128 main_cst_16
  let main_v57 : FVec F S128 .f32 := addf main_v55 main_v56
  let main_cst_17 : FVec F S_ .f32 := constant S_ .f32 0x00000000#32
  let main_v58 : FVec F S128 .f32 := broadcastInDim S128 ![] bcast_S_S128 main_cst_17
  let main_v59 : IVec S128 1 := cmpf .ogt main_v57 main_v58
  let main_c_18 : IVec S_ 1 := constantI S_ 1 1#1
  let main_v60 : IVec S_ 1 := (fun x v => Host.reduce IntOp.andi x v reducesTo_S128_S_d0 h_S_) main_v59 main_c_18
  let main_v61 : IVec S_ 1 := andi main_v45 main_v60
  main_v61

def fn_part2 {F : FTy → Type} [FloatOps F] (main_arg15 : FVec F S2x128 .f32) (main_v29 : IVec S_ 1) (main_v33 : FVec F S128 .f32) (main_v35 : FVec F S128 .f32) : IVec S_ 1 :=
  let main_cst_10 : FVec F S_ .f32 := constant S_ .f32 0x48C35000#32
  let main_v36 : FVec F S128 .f32 := broadcastInDim S128 ![] bcast_S_S128 main_cst_10
  let main_v37 : FVec F S128 .f32 := Host.divf main_v35 main_v36
  let main_v38 : FVec F S128 .f32 := mulf main_v33 main_v33
  let main_v39 : FVec F S128 .f32 := subf main_v37 main_v38
  let main_cst_11 : FVec F S_ .f32 := constant S_ .f32 0x3727C5AC#32
  let main_v40 : FVec F S128 .f32 := broadcastInDim S128 ![] bcast_S_S128 main_cst_11
  let main_v41 : FVec F S128 .f32 := addf main_v39 main_v40
  let main_cst_12 : FVec F S_ .f32 := constant S_ .f32 0x00000000#32
  let main_v42 : FVec F S128 .f32 := broadcastInDim S128 ![] bcast_S_S128 main_cst_12
  let main_v43 : IVec S128 1 := cmpf .ogt main_v41 main_v42
  let main_c_13 : IVec S_ 1 := constantI S_ 1 1#1
  let main_v44 : IVec S_ 1 := (fun x v => Host.reduce IntOp.andi x v reducesTo_S128_S_d0 h_S_) main_v43 main_c_13
  let main_v45 : IVec S_ 1 := andi main_v29 main_v44
  let main_v46 : FVec F S1x128 .f32 := (extractStridedSlice S1x128 ![0, 0] · slices_S2x128_S1x128_0_0) main_arg15
  let main_v47 : FVec F S128 .f32 := shapeCast S128 main_v46 shapeCasts_S1x128_S128
  let main_cst_14 : FVec F S_ .f32 := constant S_ .f32 0x48C35000#32
  let main_v48 : FVec F S128 .f32 := broadcastInDim S128 ![] bcast_S_S128 main_cst_14
  let main_v49 : FVec F S128 .f32 := Host.divf main_v47 main_v48
  let main_v50 : FVec F S1x128 .f32 := (extractStridedSlice S1x128 ![1, 0] · slices_S2x128_S1x128_1_0) main_arg15
  let main_v51 : FVec F S128 .f32 := shapeCast S128 main_v50 shapeCasts_S1x128_S128
  let main_cst_15 : FVec F S_ .f32 := constant S_ .f32 0x48C35000#32
  let main_v52 : FVec F S128 .f32 := broadcastInDim S128 ![] bcast_S_S128 main_cst_15
  let main_v53 : FVec F S128 .f32 := Host.divf main_v51 main_v52
  fn_part3 (F := F) main_v45 main_v49 main_v53

def fn_part1 {F : FTy → Type} [FloatOps F] (main_arg13 : FVec F S2x64 .f32) (main_arg14 : FVec F S2x128 .f32) (main_arg15 : FVec F S2x128 .f32) (main_v13 : IVec S_ 1) (main_v15 : FVec F S64 .f32) (main_v16 : FVec F S64 .f32) : IVec S_ 1 :=
  let main_v17 : FVec F S64 .f32 := Host.divf main_v15 main_v16
  let main_v18 : FVec F S1x64 .f32 := (extractStridedSlice S1x64 ![1, 0] · slices_S2x64_S1x64_1_0) main_arg13
  let main_v19 : FVec F S64 .f32 := shapeCast S64 main_v18 shapeCasts_S1x64_S64
  let main_cst_5 : FVec F S_ .f32 := constant S_ .f32 0x48C35000#32
  let main_v20 : FVec F S64 .f32 := broadcastInDim S64 ![] bcast_S_S64 main_cst_5
  let main_v21 : FVec F S64 .f32 := Host.divf main_v19 main_v20
  let main_v22 : FVec F S64 .f32 := mulf main_v17 main_v17
  let main_v23 : FVec F S64 .f32 := subf main_v21 main_v22
  let main_cst_6 : FVec F S_ .f32 := constant S_ .f32 0x3727C5AC#32
  let main_v24 : FVec F S64 .f32 := broadcastInDim S64 ![] bcast_S_S64 main_cst_6
  let main_v25 : FVec F S64 .f32 := addf main_v23 main_v24
  let main_cst_7 : FVec F S_ .f32 := constant S_ .f32 0x00000000#32
  let main_v26 : FVec F S64 .f32 := broadcastInDim S64 ![] bcast_S_S64 main_cst_7
  let main_v27 : IVec S64 1 := cmpf .ogt main_v25 main_v26
  let main_c_8 : IVec S_ 1 := constantI S_ 1 1#1
  let main_v28 : IVec S_ 1 := (fun x v => Host.reduce IntOp.andi x v reducesTo_S64_S_d0 h_S_) main_v27 main_c_8
  let main_v29 : IVec S_ 1 := andi main_v13 main_v28
  let main_v30 : FVec F S1x128 .f32 := (extractStridedSlice S1x128 ![0, 0] · slices_S2x128_S1x128_0_0) main_arg14
  let main_v31 : FVec F S128 .f32 := shapeCast S128 main_v30 shapeCasts_S1x128_S128
  let main_cst_9 : FVec F S_ .f32 := constant S_ .f32 0x48C35000#32
  let main_v32 : FVec F S128 .f32 := broadcastInDim S128 ![] bcast_S_S128 main_cst_9
  let main_v33 : FVec F S128 .f32 := Host.divf main_v31 main_v32
  let main_v34 : FVec F S1x128 .f32 := (extractStridedSlice S1x128 ![1, 0] · slices_S2x128_S1x128_1_0) main_arg14
  let main_v35 : FVec F S128 .f32 := shapeCast S128 main_v34 shapeCasts_S1x128_S128
  fn_part2 (F := F) main_arg15 main_v29 main_v33 main_v35

def fn {F : FTy → Type} [FloatOps F] (main_arg0 : FVec F S4x100000x4 .f32) (main_arg1 : FVec F S64x4 .f32) (main_arg2 : FVec F S64 .f32) (main_arg3 : FVec F S64 .f32) (main_arg4 : FVec F S64 .f32) (main_arg5 : FVec F S128x64 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S2x64 .f32) (main_arg14 : FVec F S2x128 .f32) (main_arg15 : FVec F S2x128 .f32) : IVec S_ 1 :=
  let main_v0 : FVec F S64 .f32 := Host.absf main_arg3
  let main_cst : FVec F S_ .f32 := constant S_ .f32 0x7F800000#32
  let main_v1 : FVec F S64 .f32 := broadcastInDim S64 ![] bcast_S_S64 main_cst
  let main_v2 : IVec S64 1 := cmpf .olt main_v0 main_v1
  let main_c : IVec S_ 1 := constantI S_ 1 1#1
  let main_v3 : IVec S_ 1 := (fun x v => Host.reduce IntOp.andi x v reducesTo_S64_S_d0 h_S_) main_v2 main_c
  let main_v4 : FVec F S128 .f32 := Host.absf main_arg7
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg11
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x64 .f32 := (extractStridedSlice S1x64 ![0, 0] · slices_S2x64_S1x64_0_0) main_arg13
  let main_v15 : FVec F S64 .f32 := shapeCast S64 main_v14 shapeCasts_S1x64_S64
  let main_cst_4 : FVec F S_ .f32 := constant S_ .f32 0x48C35000#32
  let main_v16 : FVec F S64 .f32 := broadcastInDim S64 ![] bcast_S_S64 main_cst_4
  fn_part1 (F := F) main_arg13 main_arg14 main_arg15 main_v13 main_v15 main_v16
-- ==== Pre_valid.lean ====
abbrev S400000x1 : Shape := ⟨2, ![400000, 1]⟩
abbrev S400000x128 : Shape := ⟨2, ![400000, 128]⟩
abbrev S4x100000 : Shape := ⟨2, ![4, 100000]⟩
abbrev S_ : Shape := ⟨0, ![]⟩
abbrev S40x10000x1 : Shape := ⟨3, ![40, 10000, 1]⟩
abbrev S1x1x32 : Shape := ⟨3, ![1, 1, 32]⟩
abbrev S40x10000x32 : Shape := ⟨3, ![40, 10000, 32]⟩
abbrev S40x32 : Shape := ⟨2, ![40, 32]⟩

class Facts : Prop where
  shapeCasts_S400000x1_S4x100000 : S400000x1.ShapeCasts S4x100000
  bcast_S_S4x100000 : S_.BroadcastsInDim S4x100000 (![] : Fin 0 → Fin S4x100000.rank)
  shapeCasts_S4x100000_S40x10000x1 : S4x100000.ShapeCasts S40x10000x1
  bcast_S_S40x10000x1 : S_.BroadcastsInDim S40x10000x1 (![] : Fin 0 → Fin S40x10000x1.rank)
  bcast_S40x10000x1_S40x10000x32_0_1_2 : S40x10000x1.BroadcastsInDim S40x10000x32 (![0, 1, 2] : Fin 3 → Fin S40x10000x32.rank)
  bcast_S1x1x32_S40x10000x32_0_1_2 : S1x1x32.BroadcastsInDim S40x10000x32 (![0, 1, 2] : Fin 3 → Fin S40x10000x32.rank)
  bcast_S_S40x10000x32 : S_.BroadcastsInDim S40x10000x32 (![] : Fin 0 → Fin S40x10000x32.rank)
  reducesTo_S40x10000x32_S40x32_d1 : S40x10000x32.ReducesTo [1] S40x32
  h_S_ : 0 < S_.numel
  reducesTo_S4x100000_S_d0_1 : S4x100000.ReducesTo [0, 1] S_
  bcast_S_S40x32 : S_.BroadcastsInDim S40x32 (![] : Fin 0 → Fin S40x32.rank)
  reducesTo_S40x32_S_d0_1 : S40x32.ReducesTo [0, 1] S_

variable [Facts]

def fn_where {F : FTy → Type} [FloatOps F] (arg0 : IVec S40x10000x32 1) (arg1 : IVec S_ 32) (arg2 : IVec S_ 32) : IVec S40x10000x32 32 :=
  let v0 : IVec S40x10000x32 32 := broadcastInDim S40x10000x32 ![] bcast_S_S40x10000x32 arg1
  let v1 : IVec S40x10000x32 32 := broadcastInDim S40x10000x32 ![] bcast_S_S40x10000x32 arg2
  let v2 : IVec S40x10000x32 32 := select arg0 v0 v1
  v2

def fn_part1 {F : FTy → Type} [FloatOps F] (main_v4 : IVec S4x100000 32) (main_v17 : IVec S40x32 32) : IVec S_ 1 :=
  let main_c_5 : IVec S_ 32 := constantI S_ 32 0#32
  let main_v18 : IVec S4x100000 32 := broadcastInDim S4x100000 ![] bcast_S_S4x100000 main_c_5
  let main_v19 : IVec S4x100000 1 := cmpi .sge main_v4 main_v18
  let main_c_6 : IVec S_ 32 := constantI S_ 32 16384#32
  let main_v20 : IVec S4x100000 32 := broadcastInDim S4x100000 ![] bcast_S_S4x100000 main_c_6
  let main_v21 : IVec S4x100000 1 := cmpi .slt main_v4 main_v20
  let main_v22 : IVec S4x100000 1 := andi main_v19 main_v21
  let main_c_7 : IVec S_ 1 := constantI S_ 1 1#1
  let main_v23 : IVec S_ 1 := (fun x v => Host.reduce IntOp.andi x v reducesTo_S4x100000_S_d0_1 h_S_) main_v22 main_c_7
  let main_c_8 : IVec S_ 32 := constantI S_ 32 9984#32
  let main_v24 : IVec S40x32 32 := broadcastInDim S40x32 ![] bcast_S_S40x32 main_c_8
  let main_v25 : IVec S40x32 1 := cmpi .sle main_v17 main_v24
  let main_c_9 : IVec S_ 1 := constantI S_ 1 1#1
  let main_v26 : IVec S_ 1 := (fun x v => Host.reduce IntOp.andi x v reducesTo_S40x32_S_d0_1 h_S_) main_v25 main_c_9
  let main_v27 : IVec S_ 1 := andi main_v23 main_v26
  main_v27

def fn {F : FTy → Type} [FloatOps F] (main_arg0 : IVec S400000x1 32) (main_arg1 : FVec F S400000x128 .f32) : IVec S_ 1 :=
  let main_v0 : IVec S4x100000 32 := shapeCast S4x100000 main_arg0 shapeCasts_S400000x1_S4x100000
  let main_v1 : IVec S4x100000 32 := iotaInDim S4x100000 32 0
  let main_c : IVec S_ 32 := constantI S_ 32 16384#32
  let main_v2 : IVec S4x100000 32 := broadcastInDim S4x100000 ![] bcast_S_S4x100000 main_c
  let main_v3 : IVec S4x100000 32 := muli main_v1 main_v2
  let main_v4 : IVec S4x100000 32 := subi main_v0 main_v3
  let main_v5 : IVec S40x10000x1 32 := shapeCast S40x10000x1 main_v4 shapeCasts_S4x100000_S40x10000x1
  let main_c_0 : IVec S_ 32 := constantI S_ 32 5#32
  let main_v6 : IVec S40x10000x1 32 := broadcastInDim S40x10000x1 ![] bcast_S_S40x10000x1 main_c_0
  let main_v7 : IVec S40x10000x1 32 := Host.shrsi main_v5 main_v6
  let main_v8 : IVec S40x10000x1 32 := xori main_v5 main_v7
  let main_c_1 : IVec S_ 32 := constantI S_ 32 31#32
  let main_v9 : IVec S40x10000x1 32 := broadcastInDim S40x10000x1 ![] bcast_S_S40x10000x1 main_c_1
  let main_v10 : IVec S40x10000x1 32 := andi main_v8 main_v9
  let main_v11 : IVec S1x1x32 32 := iotaInDim S1x1x32 32 2
  let main_v12 : IVec S40x10000x32 32 := broadcastInDim S40x10000x32 ![0, 1, 2] bcast_S40x10000x1_S40x10000x32_0_1_2 main_v10
  let main_v13 : IVec S40x10000x32 32 := broadcastInDim S40x10000x32 ![0, 1, 2] bcast_S1x1x32_S40x10000x32_0_1_2 main_v11
  let main_v14 : IVec S40x10000x32 1 := cmpi .eq main_v12 main_v13
  let main_c_2 : IVec S_ 32 := constantI S_ 32 1#32
  let main_c_3 : IVec S_ 32 := constantI S_ 32 0#32
  let main_v15 : IVec S40x10000x32 32 := fn_where (F := F) main_v14 main_c_2 main_c_3
  let main_v16 : IVec S40x10000x32 32 := id main_v15
  let main_c_4 : IVec S_ 32 := constantI S_ 32 0#32
  let main_v17 : IVec S40x32 32 := (fun x v => Host.reduce IntOp.addi x v reducesTo_S40x10000x32_S40x32_d1 h_S_) main_v16 main_c_4
  fn_part1 (F := F) main_v4 main_v17
-- ==== Kernel.lean ====
abbrev S400000x1 : Shape := ⟨2, ![400000, 1]⟩
abbrev S400000x128 : Shape := ⟨2, ![400000, 128]⟩
abbrev S400000 : Shape := ⟨1, ![400000]⟩
abbrev S65536x128 : Shape := ⟨2, ![65536, 128]⟩
abbrev S10000 : Shape := ⟨1, ![10000]⟩
abbrev S10016 : Shape := ⟨1, ![10016]⟩
abbrev S128 : Shape := ⟨1, ![128]⟩
abbrev S512x128 : Shape := ⟨2, ![512, 128]⟩
abbrev S128x128 : Shape := ⟨2, ![128, 128]⟩
abbrev S_ : Shape := ⟨0, ![]⟩
abbrev S16 : Shape := ⟨1, ![16]⟩
abbrev S1x16 : Shape := ⟨2, ![1, 16]⟩
abbrev S1 : Shape := ⟨1, ![1]⟩
abbrev S4x128x128x128 : Shape := ⟨4, ![4, 128, 128, 128]⟩

abbrev nBuf : Table → Nat
  | .hbm => 6
  | .local .scVector .vmem => 7
  | _ => 0

abbrev bufTy : (tb : Table) → Fin (nBuf tb) → BufTy
  | .hbm, ⟨0, _⟩ => ⟨S400000x1, .i32⟩
  | .hbm, ⟨1, _⟩ => ⟨S400000x128, .f32⟩
  | .hbm, ⟨2, _⟩ => ⟨S400000, .i32⟩
  | .hbm, ⟨3, _⟩ => ⟨S65536x128, .f32⟩
  | .hbm, ⟨4, _⟩ => ⟨S4x128x128x128, .f32⟩
  | .hbm, ⟨5, _⟩ => ⟨S4x128x128x128, .f32⟩
  | .local .scVector .vmem, ⟨0, _⟩ => ⟨S10000, .i32⟩
  | .local .scVector .vmem, ⟨1, _⟩ => ⟨S10016, .i32⟩
  | .local .scVector .vmem, ⟨2, _⟩ => ⟨S128, .i32⟩
  | .local .scVector .vmem, ⟨3, _⟩ => ⟨S128, .i32⟩
  | .local .scVector .vmem, ⟨4, _⟩ => ⟨S128, .i32⟩
  | .local .scVector .vmem, ⟨5, _⟩ => ⟨S512x128, .f32⟩
  | .local .scVector .vmem, ⟨6, _⟩ => ⟨S128x128, .f32⟩
  | _, _ => ⟨S400000x1, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c626_i32 : BitVec 32 := 626#32
  let v4 : BitVec 32 := Scalar.addi c0_i32_0 c626_i32
  let c1_i32 : BitVec 32 := 1#32
  ⟨c0_i32_0, v4, c1_i32⟩
def k0_off1 (k0_t1 : Fin k0_t1_loop.trips) : Fin 1 → Nat :=
  let c0_i32_0 : BitVec 32 := 0#32
  let c1_i32 : BitVec 32 := 1#32
  let arg13 : BitVec 32 := Scf.iv c0_i32_0 c1_i32 k0_t1
  let c16_i32 : BitVec 32 := 16#32
  let v9 : BitVec 32 := Scalar.muli arg13 c16_i32
  let v10 : Index := Scalar.indexCast v9
  ![v10.toNat]
@[reducible] def k0_t2_loop : Scf.Loop 32 :=
  let c0_i32_3 : BitVec 32 := 0#32
  let c4_i32 : BitVec 32 := 4#32
  let v6 : BitVec 32 := Scalar.addi c0_i32_3 c4_i32
  let c1_i32_4 : BitVec 32 := 1#32
  ⟨c0_i32_3, v6, c1_i32_4⟩
@[reducible] def k0_t3_loop : Scf.Loop 32 :=
  let c0_i32_7 : BitVec 32 := 0#32
  let c4096_i32 : BitVec 32 := 4096#32
  let v8 : BitVec 32 := Scalar.addi c0_i32_7 c4096_i32
  let c1_i32_8 : BitVec 32 := 1#32
  ⟨c0_i32_7, v8, c1_i32_8⟩
def k0_off2 (k0_t3 : Fin k0_t3_loop.trips) : Fin 2 → Nat :=
  let c0_i32_7 : BitVec 32 := 0#32
  let c1_i32_8 : BitVec 32 := 1#32
  let arg15 : BitVec 32 := Scf.iv c0_i32_7 c1_i32_8 k0_t3
  let c0_i32_20 : BitVec 32 := 0#32
  let v15 : BitVec 1 := Scalar.cmpi .sgt arg15 c0_i32_20
  let v16 : BitVec 32 := Scalar.extui v15
  let c0_i32_21 : BitVec 32 := 0#32
  let v17 : BitVec 1 := Scalar.cmpi .slt arg15 c0_i32_21
  let v18 : BitVec 32 := Scalar.extui v17
  let v19 : BitVec 32 := Scalar.subi v16 v18
  let c8_i32 : BitVec 32 := 8#32
  let c0_i32_22 : BitVec 32 := 0#32
  let v20 : BitVec 1 := Scalar.cmpi .sgt c8_i32 c0_i32_22
  let v21 : BitVec 32 := Scalar.extui v20
  let c0_i32_23 : BitVec 32 := 0#32
  let v22 : BitVec 1 := Scalar.cmpi .slt c8_i32 c0_i32_23
  let v23 : BitVec 32 := Scalar.extui v22
  let v24 : BitVec 32 := Scalar.subi v21 v23
  let v25 : BitVec 1 := Scalar.cmpi .ne v19 v24
  let v26 : BitVec 32 := Scalar.remsi arg15 c8_i32
  let c0_i32_24 : BitVec 32 := 0#32
  let v27 : BitVec 1 := Scalar.cmpi .ne v26 c0_i32_24
  let v28 : BitVec 1 := Scalar.andi v25 v27
  let v14 : BitVec 32 := Scalar.divsi arg15 c8_i32
  let c1_i32_25 : BitVec 32 := 1#32
  let v29 : BitVec 32 := Scalar.subi v14 c1_i32_25
  let v30 : BitVec 32 := Scalar.select v28 v29 v14
  let v42 : Index := Scalar.indexCast v30
  let c8_i32_26 : BitVec 32 := 8#32
  let c0_i32_27 : BitVec 32 := 0#32
  let v31 : BitVec 1 := Scalar.cmpi .eq c8_i32_26 c0_i32_27
  let c1_i32_28 : BitVec 32 := 1#32
  let v32 : BitVec 32 := Scalar.select v31 c1_i32_28 c8_i32_26
  let v33 : BitVec 32 := Scalar.remsi arg15 v32
  let c0_i32_30 : BitVec 32 := 0#32
  let v35 : BitVec 1 := Scalar.cmpi .slt v33 c0_i32_30
  let c0_i32_31 : BitVec 32 := 0#32
  let v36 : BitVec 1 := Scalar.cmpi .slt v32 c0_i32_31
  let v37 : BitVec 1 := Scalar.xori v35 v36
  let c0_i32_29 : BitVec 32 := 0#32
  let v34 : BitVec 1 := Scalar.cmpi .ne v33 c0_i32_29
  let v38 : BitVec 1 := Scalar.andi v37 v34
  let v39 : BitVec 32 := Scalar.addi v33 v32
  let v40 : BitVec 32 := Scalar.select v38 v39 v33
  let c16_i32 : BitVec 32 := 16#32
  let v41 : BitVec 32 := Scalar.muli v40 c16_i32
  let v43 : Index := Scalar.indexCast v41
  ![v42.toNat, v43.toNat]
@[reducible] def k0_t4_loop : Scf.Loop 32 :=
  let c0_i32_11 : BitVec 32 := 0#32
  let c10_i32 : BitVec 32 := 10#32
  let v10 : BitVec 32 := Scalar.addi c0_i32_11 c10_i32
  let c1_i32_12 : BitVec 32 := 1#32
  ⟨c0_i32_11, v10, c1_i32_12⟩
def k0_off3 (k0_t2 : Fin k0_t2_loop.trips) (k0_t4 : Fin k0_t4_loop.trips) : Fin 1 → Nat :=
  let c0_i32_3 : BitVec 32 := 0#32
  let c1_i32_4 : BitVec 32 := 1#32
  let arg13 : BitVec 32 := Scf.iv c0_i32_3 c1_i32_4 k0_t2
  let c100000_i32 : BitVec 32 := 100000#32
  let v14 : BitVec 32 := Scalar.muli arg13 c100000_i32
  let c0_i32_11 : BitVec 32 := 0#32
  let c1_i32_12 : BitVec 32 := 1#32
  let arg15 : BitVec 32 := Scf.iv c0_i32_11 c1_i32_12 k0_t4
  let c10000_i32 : BitVec 32 := 10000#32
  let v15 : BitVec 32 := Scalar.muli arg15 c10000_i32
  let v16 : BitVec 32 := Scalar.addi v14 v15
  ![v16.toNat]
@[reducible] def k0_t5_loop : Scf.Loop 32 :=
  let c0_i32_21 : BitVec 32 := 0#32
  let c625_i32 : BitVec 32 := 625#32
  let v17 : BitVec 32 := Scalar.addi c0_i32_21 c625_i32
  let c1_i32_22 : BitVec 32 := 1#32
  ⟨c0_i32_21, v17, c1_i32_22⟩
def k0_off4 (k0_t5 : Fin k0_t5_loop.trips) : Fin 1 → Nat :=
  let c0_i32_21 : BitVec 32 := 0#32
  let c1_i32_22 : BitVec 32 := 1#32
  let arg17 : BitVec 32 := Scf.iv c0_i32_21 c1_i32_22 k0_t5
  let c16_i32 : BitVec 32 := 16#32
  let v45 : BitVec 32 := Scalar.muli arg17 c16_i32
  let v46 : Index := Scalar.indexCast v45
  ![v46.toNat]
def k0_cond1 (v64 : BitVec 32) : BitVec 1 :=
  let c0_i32_40 : BitVec 32 := 0#32
  let v65 : BitVec 1 := Scalar.cmpi .sgt v64 c0_i32_40
  let v66 : BitVec 32 := Scalar.extui v65
  let c0_i32_41 : BitVec 32 := 0#32
  let v67 : BitVec 1 := Scalar.cmpi .ne v66 c0_i32_41
  v67

def k0_chk1 (v64 : BitVec 32) (v84 : IVec S16 32) : Prop :=
  (∀ (k0_h1 : k0_cond1 v64 = 1#1), ∀ a x, ((![v84] : Fin 1 → IVec S16 32) a x).toNat < S10016.size a)
theorem k0_idx1_inb : ∀ (v64 : BitVec 32) (v84 : IVec S16 32) (k0_hw1 : k0_chk1 v64 v84), ∀ (k0_h1 : k0_cond1 v64 = 1#1), ∀ a x, ((![v84] : Fin 1 → IVec S16 32) a x).toNat < S10016.size a := fun v64 v84 k0_hw1 k0_h1 => k0_hw1 k0_h1
@[reducible] def k0_t6_loop (v18 : BitVec 32) : Scf.Loop 32 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_35 : BitVec 32 := 1#32
  ⟨c0_i32_32, v42, c1_i32_35⟩

@[reducible] def k0_t7_loop : Scf.Loop 32 :=
  let c0_i32_39 : BitVec 32 := 0#32
  let c8_i32 : BitVec 32 := 8#32
  let v45 : BitVec 32 := Scalar.addi c0_i32_39 c8_i32
  let c1_i32_40 : BitVec 32 := 1#32
  ⟨c0_i32_39, v45, c1_i32_40⟩
def k0_off5 (v18 : BitVec 32) (k0_t6 : Fin (k0_t6_loop v18).trips) (k0_t7 : Fin k0_t7_loop.trips) : Fin 1 → Nat :=
  let c0_i32_32 : BitVec 32 := 0#32
  let c1_i32_35 : BitVec 32 := 1#32
  let arg17 : BitVec 32 := Scf.iv c0_i32_32 c1_i32_35 k0_t6
  let c128_i32_52 : BitVec 32 := 128#32
  let v51 : BitVec 32 := Scalar.muli arg17 c128_i32_52
  let c0_i32_39 : BitVec 32 := 0#32
  let c1_i32_40 : BitVec 32 := 1#32
  let arg19 : BitVec 32 := Scf.iv c0_i32_39 c1_i32_40 k0_t7
  let c16_i32 : BitVec 32 := 16#32
  let v52 : BitVec 32 := Scalar.muli arg19 c16_i32
  let v53 : BitVec 32 := Scalar.addi v51 v52
  let v54 : Index := Scalar.indexCast v53
  ![v54.toNat]
def k0_off6 (k0_t7 : Fin k0_t7_loop.trips) : Fin 1 → Nat :=
  let c0_i32_39 : BitVec 32 := 0#32
  let c1_i32_40 : BitVec 32 := 1#32
  let arg19 : BitVec 32 := Scf.iv c0_i32_39 c1_i32_40 k0_t7
  let c16_i32_54 : BitVec 32 := 16#32
  let v61 : BitVec 32 := Scalar.muli arg19 c16_i32_54
  let v62 : Index := Scalar.indexCast v61
  ![v62.toNat]
@[reducible] def k0_t8_loop : Scf.Loop 32 :=
  let c0_i32_47 : BitVec 32 := 0#32
  let c8_i32_48 : BitVec 32 := 8#32
  let v49 : BitVec 32 := Scalar.addi c0_i32_47 c8_i32_48
  let c1_i32_49 : BitVec 32 := 1#32
  ⟨c0_i32_47, v49, c1_i32_49⟩
def k0_off7 (k0_t8 : Fin k0_t8_loop.trips) : Fin 1 → Nat :=
  let c0_i32_47 : BitVec 32 := 0#32
  let c1_i32_49 : BitVec 32 := 1#32
  let arg19 : BitVec 32 := Scf.iv c0_i32_47 c1_i32_49 k0_t8
  let c16_i32 : BitVec 32 := 16#32
  let v51 : BitVec 32 := Scalar.muli arg19 c16_i32
  let v52 : Index := Scalar.indexCast v51
  ![v52.toNat]
def k0_off8 (v167 : BitVec 32) : Fin 2 → Nat :=
  let v168 : Index := Scalar.indexCast v167
  let c0 : Index := 0#32
  ![v168.toNat, 0]
def k0_cond2 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_52 : BitVec 32 := 128#32
  let v54 : BitVec 32 := Scalar.muli arg17 c128_i32_52
  let c0_i32_47 : BitVec 32 := 0#32
  let c1_i32_49 : BitVec 32 := 1#32
  let arg19 : BitVec 32 := Scf.iv c0_i32_47 c1_i32_49 k0_t8
  let c16_i32_53 : BitVec 32 := 16#32
  let v55 : BitVec 32 := Scalar.muli arg19 c16_i32_53
  let v56 : BitVec 32 := Scalar.addi v54 v55
  let c0_i32_54 : BitVec 32 := 0#32
  let v57 : BitVec 32 := Scalar.addi v56 c0_i32_54
  let v58 : BitVec 1 := Scalar.cmpi .slt v57 v18
  let v59 : BitVec 32 := Scalar.extui v58
  let c0_i32_55 : BitVec 32 := 0#32
  let v60 : BitVec 1 := Scalar.cmpi .ne v59 c0_i32_55
  v60

def k0_off9 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c0_i32_108 : BitVec 32 := 0#32
  let v171 : BitVec 32 := Scalar.addi v170 c0_i32_108
  let v172 : Index := Scalar.indexCast v171
  let c0_109 : Index := 0#32
  ![v172.toNat, 0]
def k0_off10 (v167 : BitVec 32) : Fin 2 → Nat :=
  let v177 : Index := Scalar.indexCast v167
  let c16 : Index := 16#32
  ![v177.toNat, 16]
def k0_off11 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c0_i32_112 : BitVec 32 := 0#32
  let v180 : BitVec 32 := Scalar.addi v179 c0_i32_112
  let v181 : Index := Scalar.indexCast v180
  let c16_113 : Index := 16#32
  ![v181.toNat, 16]
def k0_off12 (v167 : BitVec 32) : Fin 2 → Nat :=
  let v186 : Index := Scalar.indexCast v167
  let c32 : Index := 32#32
  ![v186.toNat, 32]
def k0_off13 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c0_i32_116 : BitVec 32 := 0#32
  let v189 : BitVec 32 := Scalar.addi v188 c0_i32_116
  let v190 : Index := Scalar.indexCast v189
  let c32_117 : Index := 32#32
  ![v190.toNat, 32]
def k0_off14 (v167 : BitVec 32) : Fin 2 → Nat :=
  let v195 : Index := Scalar.indexCast v167
  let c48 : Index := 48#32
  ![v195.toNat, 48]
def k0_off15 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c0_i32_120 : BitVec 32 := 0#32
  let v198 : BitVec 32 := Scalar.addi v197 c0_i32_120
  let v199 : Index := Scalar.indexCast v198
  let c48_121 : Index := 48#32
  ![v199.toNat, 48]
def k0_off16 (v167 : BitVec 32) : Fin 2 → Nat :=
  let v204 : Index := Scalar.indexCast v167
  let c64 : Index := 64#32
  ![v204.toNat, 64]
def k0_off17 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c0_i32_124 : BitVec 32 := 0#32
  let v207 : BitVec 32 := Scalar.addi v206 c0_i32_124
  let v208 : Index := Scalar.indexCast v207
  let c64_125 : Index := 64#32
  ![v208.toNat, 64]
def k0_off18 (v167 : BitVec 32) : Fin 2 → Nat :=
  let v213 : Index := Scalar.indexCast v167
  let c80 : Index := 80#32
  ![v213.toNat, 80]
def k0_off19 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c0_i32_128 : BitVec 32 := 0#32
  let v216 : BitVec 32 := Scalar.addi v215 c0_i32_128
  let v217 : Index := Scalar.indexCast v216
  let c80_129 : Index := 80#32
  ![v217.toNat, 80]
def k0_off20 (v167 : BitVec 32) : Fin 2 → Nat :=
  let v222 : Index := Scalar.indexCast v167
  let c96 : Index := 96#32
  ![v222.toNat, 96]
def k0_off21 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c0_i32_132 : BitVec 32 := 0#32
  let v225 : BitVec 32 := Scalar.addi v224 c0_i32_132
  let v226 : Index := Scalar.indexCast v225
  let c96_133 : Index := 96#32
  ![v226.toNat, 96]
def k0_off22 (v167 : BitVec 32) : Fin 2 → Nat :=
  let v231 : Index := Scalar.indexCast v167
  let c112 : Index := 112#32
  ![v231.toNat, 112]

def k0_chk3 (v18 : BitVec 32) (k0_t6 : Fin (k0_t6_loop v18).trips) (k0_t8 : Fin k0_t8_loop.trips) (v167 : BitVec 32) : Prop :=
  (∀ (k0_h2 : k0_cond2 v18 k0_t6 k0_t8 = 1#1), ∀ a, (k0_off8 v167) a + S1x16.size a ≤ S512x128.size a) ∧
  (∀ (k0_h2 : k0_cond2 v18 k0_t6 k0_t8 = 1#1), ∀ a, (k0_off10 v167) a + S1x16.size a ≤ S512x128.size a) ∧
  (∀ (k0_h2 : k0_cond2 v18 k0_t6 k0_t8 = 1#1), ∀ a, (k0_off12 v167) a + S1x16.size a ≤ S512x128.size a) ∧
  (∀ (k0_h2 : k0_cond2 v18 k0_t6 k0_t8 = 1#1), ∀ a, (k0_off14 v167) a + S1x16.size a ≤ S512x128.size a) ∧
  (∀ (k0_h2 : k0_cond2 v18 k0_t6 k0_t8 = 1#1), ∀ a, (k0_off16 v167) a + S1x16.size a ≤ S512x128.size a) ∧
  (∀ (k0_h2 : k0_cond2 v18 k0_t6 k0_t8 = 1#1), ∀ a, (k0_off18 v167) a + S1x16.size a ≤ S512x128.size a) ∧
  (∀ (k0_h2 : k0_cond2 v18 k0_t6 k0_t8 = 1#1), ∀ a, (k0_off20 v167) a + S1x16.size a ≤ S512x128.size a) ∧
  (∀ (k0_h2 : k0_cond2 v18 k0_t6 k0_t8 = 1#1), ∀ a, (k0_off22 v167) a + S1x16.size a ≤ S512x128.size a)
theorem k0_off8_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off8 v167) a + S1x16.size a ≤ S512x128.size a := fun v18 k0_t6 k0_t8 v167 k0_hw3 k0_h2 => k0_hw3.1 k0_h2
theorem k0_off10_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off10 v167) a + S1x16.size a ≤ S512x128.size a := fun v18 k0_t6 k0_t8 v167 k0_hw3 k0_h2 => k0_hw3.2.1 k0_h2
theorem k0_off12_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off12 v167) a + S1x16.size a ≤ S512x128.size a := fun v18 k0_t6 k0_t8 v167 k0_hw3 k0_h2 => k0_hw3.2.2.1 k0_h2
theorem k0_off14_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off14 v167) a + S1x16.size a ≤ S512x128.size a := fun v18 k0_t6 k0_t8 v167 k0_hw3 k0_h2 => k0_hw3.2.2.2.1 k0_h2
theorem k0_off16_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off16 v167) a + S1x16.size a ≤ S512x128.size a := fun v18 k0_t6 k0_t8 v167 k0_hw3 k0_h2 => k0_hw3.2.2.2.2.1 k0_h2
theorem k0_off18_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off18 v167) a + S1x16.size a ≤ S512x128.size a := fun v18 k0_t6 k0_t8 v167 k0_hw3 k0_h2 => k0_hw3.2.2.2.2.2.1 k0_h2
theorem k0_off20_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off20 v167) a + S1x16.size a ≤ S512x128.size a := fun v18 k0_t6 k0_t8 v167 k0_hw3 k0_h2 => k0_hw3.2.2.2.2.2.2.1 k0_h2
theorem k0_off22_inb : ∀ (v18 : BitVec 32) (k0_t6 : Fin (k0_t6_loop v18).trips) (k0_t8 : Fin k0_t8_loop.trips) (v167 : BitVec 32) (k0_hw3 : k0_chk3 v18 k0_t6 k0_t8 v167), ∀ (k0_h2 : k0_cond2 v18 k0_t6 k0_t8 = 1#1), ∀ a, (k0_off22 v167) a + S1x16.size a ≤ S512x128.size a := fun v18 k0_t6 k0_t8 v167 k0_hw3 k0_h2 => k0_hw3.2.2.2.2.2.2.2 k0_h2

def k0_off23 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c0_i32_136 : BitVec 32 := 0#32
  let v234 : BitVec 32 := Scalar.addi v233 c0_i32_136
  let v235 : Index := Scalar.indexCast v234
  let c112_137 : Index := 112#32
  ![v235.toNat, 112]
def k0_off24 (v167 : BitVec 32) : Fin 2 → Nat :=
  let v168 : Index := Scalar.indexCast v167
  let c0 : Index := 0#32
  ![v168.toNat, 0]
def k0_cond3 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_56 : BitVec 32 := 128#32
  let v61 : BitVec 32 := Scalar.muli arg17 c128_i32_56
  let c0_i32_47 : BitVec 32 := 0#32
  let c1_i32_49 : BitVec 32 := 1#32
  let arg19 : BitVec 32 := Scf.iv c0_i32_47 c1_i32_49 k0_t8
  let c16_i32_57 : BitVec 32 := 16#32
  let v62 : BitVec 32 := Scalar.muli arg19 c16_i32_57
  let v63 : BitVec 32 := Scalar.addi v61 v62
  let c1_i32_58 : BitVec 32 := 1#32
  let v64 : BitVec 32 := Scalar.addi v63 c1_i32_58
  let v65 : BitVec 1 := Scalar.cmpi .slt v64 v18
  let v66 : BitVec 32 := Scalar.extui v65
  let c0_i32_59 : BitVec 32 := 0#32
  let v67 : BitVec 1 := Scalar.cmpi .ne v66 c0_i32_59
  v67

def k0_off25 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c1_i32_108 : BitVec 32 := 1#32
  let v171 : BitVec 32 := Scalar.addi v170 c1_i32_108
  let v172 : Index := Scalar.indexCast v171
  let c0_109 : Index := 0#32
  ![v172.toNat, 0]
def k0_off26 (v167 : BitVec 32) : Fin 2 → Nat :=
  let v177 : Index := Scalar.indexCast v167
  let c16 : Index := 16#32
  ![v177.toNat, 16]
def k0_off27 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c1_i32_112 : BitVec 32 := 1#32
  let v180 : BitVec 32 := Scalar.addi v179 c1_i32_112
  let v181 : Index := Scalar.indexCast v180
  let c16_113 : Index := 16#32
  ![v181.toNat, 16]
def k0_off28 (v167 : BitVec 32) : Fin 2 → Nat :=
  let v186 : Index := Scalar.indexCast v167
  let c32 : Index := 32#32
  ![v186.toNat, 32]
def k0_off29 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c1_i32_116 : BitVec 32 := 1#32
  let v189 : BitVec 32 := Scalar.addi v188 c1_i32_116
  let v190 : Index := Scalar.indexCast v189
  let c32_117 : Index := 32#32
  ![v190.toNat, 32]
def k0_off30 (v167 : BitVec 32) : Fin 2 → Nat :=
  let v195 : Index := Scalar.indexCast v167
  let c48 : Index := 48#32
  ![v195.toNat, 48]
def k0_off31 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c1_i32_120 : BitVec 32 := 1#32
  let v198 : BitVec 32 := Scalar.addi v197 c1_i32_120
  let v199 : Index := Scalar.indexCast v198
  let c48_121 : Index := 48#32
  ![v199.toNat, 48]
def k0_off32 (v167 : BitVec 32) : Fin 2 → Nat :=
  let v204 : Index := Scalar.indexCast v167
  let c64 : Index := 64#32
  ![v204.toNat, 64]
def k0_off33 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c1_i32_124 : BitVec 32 := 1#32
  let v207 : BitVec 32 := Scalar.addi v206 c1_i32_124
  let v208 : Index := Scalar.indexCast v207
  let c64_125 : Index := 64#32
  ![v208.toNat, 64]
def k0_off34 (v167 : BitVec 32) : Fin 2 → Nat :=
  let v213 : Index := Scalar.indexCast v167
  let c80 : Index := 80#32
  ![v213.toNat, 80]
def k0_off35 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c1_i32_128 : BitVec 32 := 1#32
  let v216 : BitVec 32 := Scalar.addi v215 c1_i32_128
  let v217 : Index := Scalar.indexCast v216
  let c80_129 : Index := 80#32
  ![v217.toNat, 80]
def k0_off36 (v167 : BitVec 32) : Fin 2 → Nat :=
  let v222 : Index := Scalar.indexCast v167
  let c96 : Index := 96#32
  ![v222.toNat, 96]
def k0_off37 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c1_i32_132 : BitVec 32 := 1#32
  let v225 : BitVec 32 := Scalar.addi v224 c1_i32_132
  let v226 : Index := Scalar.indexCast v225
  let c96_133 : Index := 96#32
  ![v226.toNat, 96]
def k0_off38 (v167 : BitVec 32) : Fin 2 → Nat :=
  let v231 : Index := Scalar.indexCast v167
  let c112 : Index := 112#32
  ![v231.toNat, 112]

def k0_chk4 (v18 : BitVec 32) (k0_t6 : Fin (k0_t6_loop v18).trips) (k0_t8 : Fin k0_t8_loop.trips) (v167 : BitVec 32) : Prop :=
  (∀ (k0_h3 : k0_cond3 v18 k0_t6 k0_t8 = 1#1), ∀ a, (k0_off24 v167) a + S1x16.size a ≤ S512x128.size a) ∧
  (∀ (k0_h3 : k0_cond3 v18 k0_t6 k0_t8 = 1#1), ∀ a, (k0_off26 v167) a + S1x16.size a ≤ S512x128.size a) ∧
  (∀ (k0_h3 : k0_cond3 v18 k0_t6 k0_t8 = 1#1), ∀ a, (k0_off28 v167) a + S1x16.size a ≤ S512x128.size a) ∧
  (∀ (k0_h3 : k0_cond3 v18 k0_t6 k0_t8 = 1#1), ∀ a, (k0_off30 v167) a + S1x16.size a ≤ S512x128.size a) ∧
  (∀ (k0_h3 : k0_cond3 v18 k0_t6 k0_t8 = 1#1), ∀ a, (k0_off32 v167) a + S1x16.size a ≤ S512x128.size a) ∧
  (∀ (k0_h3 : k0_cond3 v18 k0_t6 k0_t8 = 1#1), ∀ a, (k0_off34 v167) a + S1x16.size a ≤ S512x128.size a) ∧
  (∀ (k0_h3 : k0_cond3 v18 k0_t6 k0_t8 = 1#1), ∀ a, (k0_off36 v167) a + S1x16.size a ≤ S512x128.size a) ∧
  (∀ (k0_h3 : k0_cond3 v18 k0_t6 k0_t8 = 1#1), ∀ a, (k0_off38 v167) a + S1x16.size a ≤ S512x128.size a)
theorem k0_off24_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off24 v167) a + S1x16.size a ≤ S512x128.size a := fun v18 k0_t6 k0_t8 v167 k0_hw4 k0_h3 => k0_hw4.1 k0_h3
theorem k0_off26_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off26 v167) a + S1x16.size a ≤ S512x128.size a := fun v18 k0_t6 k0_t8 v167 k0_hw4 k0_h3 => k0_hw4.2.1 k0_h3
theorem k0_off28_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off28 v167) a + S1x16.size a ≤ S512x128.size a := fun v18 k0_t6 k0_t8 v167 k0_hw4 k0_h3 => k0_hw4.2.2.1 k0_h3
theorem k0_off30_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off30 v167) a + S1x16.size a ≤ S512x128.size a := fun v18 k0_t6 k0_t8 v167 k0_hw4 k0_h3 => k0_hw4.2.2.2.1 k0_h3
theorem k0_off32_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off32 v167) a + S1x16.size a ≤ S512x128.size a := fun v18 k0_t6 k0_t8 v167 k0_hw4 k0_h3 => k0_hw4.2.2.2.2.1 k0_h3
theorem k0_off34_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off34 v167) a + S1x16.size a ≤ S512x128.size a := fun v18 k0_t6 k0_t8 v167 k0_hw4 k0_h3 => k0_hw4.2.2.2.2.2.1 k0_h3
theorem k0_off36_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off36 v167) a + S1x16.size a ≤ S512x128.size a := fun v18 k0_t6 k0_t8 v167 k0_hw4 k0_h3 => k0_hw4.2.2.2.2.2.2.1 k0_h3
theorem k0_off38_inb : ∀ (v18 : BitVec 32) (k0_t6 : Fin (k0_t6_loop v18).trips) (k0_t8 : Fin k0_t8_loop.trips) (v167 : BitVec 32) (k0_hw4 : k0_chk4 v18 k0_t6 k0_t8 v167), ∀ (k0_h3 : k0_cond3 v18 k0_t6 k0_t8 = 1#1), ∀ a, (k0_off38 v167) a + S1x16.size a ≤ S512x128.size a := fun v18 k0_t6 k0_t8 v167 k0_hw4 k0_h3 => k0_hw4.2.2.2.2.2.2.2 k0_h3

def k0_off39 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c1_i32_136 : BitVec 32 := 1#32
  let v234 : BitVec 32 := Scalar.addi v233 c1_i32_136
  let v235 : Index := Scalar.indexCast v234
  let c112_137 : Index := 112#32
  ![v235.toNat, 112]
def k0_off40 (v167 : BitVec 32) : Fin 2 → Nat :=
  let v168 : Index := Scalar.indexCast v167
  let c0 : Index := 0#32
  ![v168.toNat, 0]
def k0_cond4 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_60 : BitVec 32 := 128#32
  let v68 : BitVec 32 := Scalar.muli arg17 c128_i32_60
  let c0_i32_47 : BitVec 32 := 0#32
  let c1_i32_49 : BitVec 32 := 1#32
  let arg19 : BitVec 32 := Scf.iv c0_i32_47 c1_i32_49 k0_t8
  let c16_i32_61 : BitVec 32 := 16#32
  let v69 : BitVec 32 := Scalar.muli arg19 c16_i32_61
  let v70 : BitVec 32 := Scalar.addi v68 v69
  let c2_i32_62 : BitVec 32 := 2#32
  let v71 : BitVec 32 := Scalar.addi v70 c2_i32_62
  let v72 : BitVec 1 := Scalar.cmpi .slt v71 v18
  let v73 : BitVec 32 := Scalar.extui v72
  let c0_i32_63 : BitVec 32 := 0#32
  let v74 : BitVec 1 := Scalar.cmpi .ne v73 c0_i32_63
  v74

def k0_off41 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c2_i32_108 : BitVec 32 := 2#32
  let v171 : BitVec 32 := Scalar.addi v170 c2_i32_108
  let v172 : Index := Scalar.indexCast v171
  let c0_109 : Index := 0#32
  ![v172.toNat, 0]
def k0_off42 (v167 : BitVec 32) : Fin 2 → Nat :=
  let v177 : Index := Scalar.indexCast v167
  let c16 : Index := 16#32
  ![v177.toNat, 16]
def k0_off43 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c2_i32_112 : BitVec 32 := 2#32
  let v180 : BitVec 32 := Scalar.addi v179 c2_i32_112
  let v181 : Index := Scalar.indexCast v180
  let c16_113 : Index := 16#32
  ![v181.toNat, 16]
def k0_off44 (v167 : BitVec 32) : Fin 2 → Nat :=
  let v186 : Index := Scalar.indexCast v167
  let c32 : Index := 32#32
  ![v186.toNat, 32]
def k0_off45 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c2_i32_116 : BitVec 32 := 2#32
  let v189 : BitVec 32 := Scalar.addi v188 c2_i32_116
  let v190 : Index := Scalar.indexCast v189
  let c32_117 : Index := 32#32
  ![v190.toNat, 32]
def k0_off46 (v167 : BitVec 32) : Fin 2 → Nat :=
  let v195 : Index := Scalar.indexCast v167
  let c48 : Index := 48#32
  ![v195.toNat, 48]
def k0_off47 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c2_i32_120 : BitVec 32 := 2#32
  let v198 : BitVec 32 := Scalar.addi v197 c2_i32_120
  let v199 : Index := Scalar.indexCast v198
  let c48_121 : Index := 48#32
  ![v199.toNat, 48]
def k0_off48 (v167 : BitVec 32) : Fin 2 → Nat :=
  let v204 : Index := Scalar.indexCast v167
  let c64 : Index := 64#32
  ![v204.toNat, 64]
def k0_off49 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c2_i32_124 : BitVec 32 := 2#32
  let v207 : BitVec 32 := Scalar.addi v206 c2_i32_124
  let v208 : Index := Scalar.indexCast v207
  let c64_125 : Index := 64#32
  ![v208.toNat, 64]
def k0_off50 (v167 : BitVec 32) : Fin 2 → Nat :=
  let v213 : Index := Scalar.indexCast v167
  let c80 : Index := 80#32
  ![v213.toNat, 80]
def k0_off51 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c2_i32_128 : BitVec 32 := 2#32
  let v216 : BitVec 32 := Scalar.addi v215 c2_i32_128
  let v217 : Index := Scalar.indexCast v216
  let c80_129 : Index := 80#32
  ![v217.toNat, 80]
def k0_off52 (v167 : BitVec 32) : Fin 2 → Nat :=
  let v222 : Index := Scalar.indexCast v167
  let c96 : Index := 96#32
  ![v222.toNat, 96]
def k0_off53 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c2_i32_132 : BitVec 32 := 2#32
  let v225 : BitVec 32 := Scalar.addi v224 c2_i32_132
  let v226 : Index := Scalar.indexCast v225
  let c96_133 : Index := 96#32
  ![v226.toNat, 96]
def k0_off54 (v167 : BitVec 32) : Fin 2 → Nat :=
  let v231 : Index := Scalar.indexCast v167
  let c112 : Index := 112#32
  ![v231.toNat, 112]

def k0_chk5 (v18 : BitVec 32) (k0_t6 : Fin (k0_t6_loop v18).trips) (k0_t8 : Fin k0_t8_loop.trips) (v167 : BitVec 32) : Prop :=
  (∀ (k0_h4 : k0_cond4 v18 k0_t6 k0_t8 = 1#1), ∀ a, (k0_off40 v167) a + S1x16.size a ≤ S512x128.size a) ∧
  (∀ (k0_h4 : k0_cond4 v18 k0_t6 k0_t8 = 1#1), ∀ a, (k0_off42 v167) a + S1x16.size a ≤ S512x128.size a) ∧
  (∀ (k0_h4 : k0_cond4 v18 k0_t6 k0_t8 = 1#1), ∀ a, (k0_off44 v167) a + S1x16.size a ≤ S512x128.size a) ∧
  (∀ (k0_h4 : k0_cond4 v18 k0_t6 k0_t8 = 1#1), ∀ a, (k0_off46 v167) a + S1x16.size a ≤ S512x128.size a) ∧
  (∀ (k0_h4 : k0_cond4 v18 k0_t6 k0_t8 = 1#1), ∀ a, (k0_off48 v167) a + S1x16.size a ≤ S512x128.size a) ∧
  (∀ (k0_h4 : k0_cond4 v18 k0_t6 k0_t8 = 1#1), ∀ a, (k0_off50 v167) a + S1x16.size a ≤ S512x128.size a) ∧
  (∀ (k0_h4 : k0_cond4 v18 k0_t6 k0_t8 = 1#1), ∀ a, (k0_off52 v167) a + S1x16.size a ≤ S512x128.size a) ∧
  (∀ (k0_h4 : k0_cond4 v18 k0_t6 k0_t8 = 1#1), ∀ a, (k0_off54 v167) a + S1x16.size a ≤ S512x128.size a)
theorem k0_off40_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off40 v167) a + S1x16.size a ≤ S512x128.size a := fun v18 k0_t6 k0_t8 v167 k0_hw5 k0_h4 => k0_hw5.1 k0_h4
theorem k0_off42_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off42 v167) a + S1x16.size a ≤ S512x128.size a := fun v18 k0_t6 k0_t8 v167 k0_hw5 k0_h4 => k0_hw5.2.1 k0_h4
theorem k0_off44_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off44 v167) a + S1x16.size a ≤ S512x128.size a := fun v18 k0_t6 k0_t8 v167 k0_hw5 k0_h4 => k0_hw5.2.2.1 k0_h4
theorem k0_off46_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off46 v167) a + S1x16.size a ≤ S512x128.size a := fun v18 k0_t6 k0_t8 v167 k0_hw5 k0_h4 => k0_hw5.2.2.2.1 k0_h4
theorem k0_off48_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off48 v167) a + S1x16.size a ≤ S512x128.size a := fun v18 k0_t6 k0_t8 v167 k0_hw5 k0_h4 => k0_hw5.2.2.2.2.1 k0_h4
theorem k0_off50_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off50 v167) a + S1x16.size a ≤ S512x128.size a := fun v18 k0_t6 k0_t8 v167 k0_hw5 k0_h4 => k0_hw5.2.2.2.2.2.1 k0_h4
theorem k0_off52_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off52 v167) a + S1x16.size a ≤ S512x128.size a := fun v18 k0_t6 k0_t8 v167 k0_hw5 k0_h4 => k0_hw5.2.2.2.2.2.2.1 k0_h4
theorem k0_off54_inb : ∀ (v18 : BitVec 32) (k0_t6 : Fin (k0_t6_loop v18).trips) (k0_t8 : Fin k0_t8_loop.trips) (v167 : BitVec 32) (k0_hw5 : k0_chk5 v18 k0_t6 k0_t8 v167), ∀ (k0_h4 : k0_cond4 v18 k0_t6 k0_t8 = 1#1), ∀ a, (k0_off54 v167) a + S1x16.size a ≤ S512x128.size a := fun v18 k0_t6 k0_t8 v167 k0_hw5 k0_h4 => k0_hw5.2.2.2.2.2.2.2 k0_h4

def k0_off55 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c2_i32_136 : BitVec 32 := 2#32
  let v234 : BitVec 32 := Scalar.addi v233 c2_i32_136
  let v235 : Index := Scalar.indexCast v234
  let c112_137 : Index := 112#32
  ![v235.toNat, 112]
def k0_off56 (v167 : BitVec 32) : Fin 2 → Nat :=
  let v168 : Index := Scalar.indexCast v167
  let c0 : Index := 0#32
  ![v168.toNat, 0]
def k0_cond5 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_64 : BitVec 32 := 128#32
  let v75 : BitVec 32 := Scalar.muli arg17 c128_i32_64
  let c0_i32_47 : BitVec 32 := 0#32
  let c1_i32_49 : BitVec 32 := 1#32
  let arg19 : BitVec 32 := Scf.iv c0_i32_47 c1_i32_49 k0_t8
  let c16_i32_65 : BitVec 32 := 16#32
  let v76 : BitVec 32 := Scalar.muli arg19 c16_i32_65
  let v77 : BitVec 32 := Scalar.addi v75 v76
  let c3_i32 : BitVec 32 := 3#32
  let v78 : BitVec 32 := Scalar.addi v77 c3_i32
  let v79 : BitVec 1 := Scalar.cmpi .slt v78 v18
  let v80 : BitVec 32 := Scalar.extui v79
  let c0_i32_66 : BitVec 32 := 0#32
  let v81 : BitVec 1 := Scalar.cmpi .ne v80 c0_i32_66
  v81

def k0_off57 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c3_i32_108 : BitVec 32 := 3#32
  let v171 : BitVec 32 := Scalar.addi v170 c3_i32_108
  let v172 : Index := Scalar.indexCast v171
  let c0_109 : Index := 0#32
  ![v172.toNat, 0]
def k0_off58 (v167 : BitVec 32) : Fin 2 → Nat :=
  let v177 : Index := Scalar.indexCast v167
  let c16 : Index := 16#32
  ![v177.toNat, 16]
def k0_off59 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c3_i32_112 : BitVec 32 := 3#32
  let v180 : BitVec 32 := Scalar.addi v179 c3_i32_112
  let v181 : Index := Scalar.indexCast v180
  let c16_113 : Index := 16#32
  ![v181.toNat, 16]
def k0_off60 (v167 : BitVec 32) : Fin 2 → Nat :=
  let v186 : Index := Scalar.indexCast v167
  let c32 : Index := 32#32
  ![v186.toNat, 32]
def k0_off61 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c3_i32_116 : BitVec 32 := 3#32
  let v189 : BitVec 32 := Scalar.addi v188 c3_i32_116
  let v190 : Index := Scalar.indexCast v189
  let c32_117 : Index := 32#32
  ![v190.toNat, 32]
def k0_off62 (v167 : BitVec 32) : Fin 2 → Nat :=
  let v195 : Index := Scalar.indexCast v167
  let c48 : Index := 48#32
  ![v195.toNat, 48]
def k0_off63 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c3_i32_120 : BitVec 32 := 3#32
  let v198 : BitVec 32 := Scalar.addi v197 c3_i32_120
  let v199 : Index := Scalar.indexCast v198
  let c48_121 : Index := 48#32
  ![v199.toNat, 48]
def k0_off64 (v167 : BitVec 32) : Fin 2 → Nat :=
  let v204 : Index := Scalar.indexCast v167
  let c64 : Index := 64#32
  ![v204.toNat, 64]
def k0_off65 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c3_i32_124 : BitVec 32 := 3#32
  let v207 : BitVec 32 := Scalar.addi v206 c3_i32_124
  let v208 : Index := Scalar.indexCast v207
  let c64_125 : Index := 64#32
  ![v208.toNat, 64]
def k0_off66 (v167 : BitVec 32) : Fin 2 → Nat :=
  let v213 : Index := Scalar.indexCast v167
  let c80 : Index := 80#32
  ![v213.toNat, 80]
def k0_off67 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c3_i32_128 : BitVec 32 := 3#32
  let v216 : BitVec 32 := Scalar.addi v215 c3_i32_128
  let v217 : Index := Scalar.indexCast v216
  let c80_129 : Index := 80#32
  ![v217.toNat, 80]
def k0_off68 (v167 : BitVec 32) : Fin 2 → Nat :=
  let v222 : Index := Scalar.indexCast v167
  let c96 : Index := 96#32
  ![v222.toNat, 96]
def k0_off69 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c3_i32_132 : BitVec 32 := 3#32
  let v225 : BitVec 32 := Scalar.addi v224 c3_i32_132
  let v226 : Index := Scalar.indexCast v225
  let c96_133 : Index := 96#32
  ![v226.toNat, 96]
def k0_off70 (v167 : BitVec 32) : Fin 2 → Nat :=
  let v231 : Index := Scalar.indexCast v167
  let c112 : Index := 112#32
  ![v231.toNat, 112]

def k0_chk6 (v18 : BitVec 32) (k0_t6 : Fin (k0_t6_loop v18).trips) (k0_t8 : Fin k0_t8_loop.trips) (v167 : BitVec 32) : Prop :=
  (∀ (k0_h5 : k0_cond5 v18 k0_t6 k0_t8 = 1#1), ∀ a, (k0_off56 v167) a + S1x16.size a ≤ S512x128.size a) ∧
  (∀ (k0_h5 : k0_cond5 v18 k0_t6 k0_t8 = 1#1), ∀ a, (k0_off58 v167) a + S1x16.size a ≤ S512x128.size a) ∧
  (∀ (k0_h5 : k0_cond5 v18 k0_t6 k0_t8 = 1#1), ∀ a, (k0_off60 v167) a + S1x16.size a ≤ S512x128.size a) ∧
  (∀ (k0_h5 : k0_cond5 v18 k0_t6 k0_t8 = 1#1), ∀ a, (k0_off62 v167) a + S1x16.size a ≤ S512x128.size a) ∧
  (∀ (k0_h5 : k0_cond5 v18 k0_t6 k0_t8 = 1#1), ∀ a, (k0_off64 v167) a + S1x16.size a ≤ S512x128.size a) ∧
  (∀ (k0_h5 : k0_cond5 v18 k0_t6 k0_t8 = 1#1), ∀ a, (k0_off66 v167) a + S1x16.size a ≤ S512x128.size a) ∧
  (∀ (k0_h5 : k0_cond5 v18 k0_t6 k0_t8 = 1#1), ∀ a, (k0_off68 v167) a + S1x16.size a ≤ S512x128.size a) ∧
  (∀ (k0_h5 : k0_cond5 v18 k0_t6 k0_t8 = 1#1), ∀ a, (k0_off70 v167) a + S1x16.size a ≤ S512x128.size a)
theorem k0_off56_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off56 v167) a + S1x16.size a ≤ S512x128.size a := fun v18 k0_t6 k0_t8 v167 k0_hw6 k0_h5 => k0_hw6.1 k0_h5
theorem k0_off58_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off58 v167) a + S1x16.size a ≤ S512x128.size a := fun v18 k0_t6 k0_t8 v167 k0_hw6 k0_h5 => k0_hw6.2.1 k0_h5
theorem k0_off60_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off60 v167) a + S1x16.size a ≤ S512x128.size a := fun v18 k0_t6 k0_t8 v167 k0_hw6 k0_h5 => k0_hw6.2.2.1 k0_h5
theorem k0_off62_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off62 v167) a + S1x16.size a ≤ S512x128.size a := fun v18 k0_t6 k0_t8 v167 k0_hw6 k0_h5 => k0_hw6.2.2.2.1 k0_h5
theorem k0_off64_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off64 v167) a + S1x16.size a ≤ S512x128.size a := fun v18 k0_t6 k0_t8 v167 k0_hw6 k0_h5 => k0_hw6.2.2.2.2.1 k0_h5
theorem k0_off66_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off66 v167) a + S1x16.size a ≤ S512x128.size a := fun v18 k0_t6 k0_t8 v167 k0_hw6 k0_h5 => k0_hw6.2.2.2.2.2.1 k0_h5
theorem k0_off68_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off68 v167) a + S1x16.size a ≤ S512x128.size a := fun v18 k0_t6 k0_t8 v167 k0_hw6 k0_h5 => k0_hw6.2.2.2.2.2.2.1 k0_h5
theorem k0_off70_inb : ∀ (v18 : BitVec 32) (k0_t6 : Fin (k0_t6_loop v18).trips) (k0_t8 : Fin k0_t8_loop.trips) (v167 : BitVec 32) (k0_hw6 : k0_chk6 v18 k0_t6 k0_t8 v167), ∀ (k0_h5 : k0_cond5 v18 k0_t6 k0_t8 = 1#1), ∀ a, (k0_off70 v167) a + S1x16.size a ≤ S512x128.size a := fun v18 k0_t6 k0_t8 v167 k0_hw6 k0_h5 => k0_hw6.2.2.2.2.2.2.2 k0_h5

def k0_off71 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c3_i32_136 : BitVec 32 := 3#32
  let v234 : BitVec 32 := Scalar.addi v233 c3_i32_136
  let v235 : Index := Scalar.indexCast v234
  let c112_137 : Index := 112#32
  ![v235.toNat, 112]
def k0_off72 (v167 : BitVec 32) : Fin 2 → Nat :=
  let v168 : Index := Scalar.indexCast v167
  let c0 : Index := 0#32
  ![v168.toNat, 0]
def k0_cond6 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_67 : BitVec 32 := 128#32
  let v82 : BitVec 32 := Scalar.muli arg17 c128_i32_67
  let c0_i32_47 : BitVec 32 := 0#32
  let c1_i32_49 : BitVec 32 := 1#32
  let arg19 : BitVec 32 := Scf.iv c0_i32_47 c1_i32_49 k0_t8
  let c16_i32_68 : BitVec 32 := 16#32
  let v83 : BitVec 32 := Scalar.muli arg19 c16_i32_68
  let v84 : BitVec 32 := Scalar.addi v82 v83
  let c4_i32_69 : BitVec 32 := 4#32
  let v85 : BitVec 32 := Scalar.addi v84 c4_i32_69
  let v86 : BitVec 1 := Scalar.cmpi .slt v85 v18
  let v87 : BitVec 32 := Scalar.extui v86
  let c0_i32_70 : BitVec 32 := 0#32
  let v88 : BitVec 1 := Scalar.cmpi .ne v87 c0_i32_70
  v88

def k0_off73 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c4_i32_108 : BitVec 32 := 4#32
  let v171 : BitVec 32 := Scalar.addi v170 c4_i32_108
  let v172 : Index := Scalar.indexCast v171
  let c0_109 : Index := 0#32
  ![v172.toNat, 0]
def k0_off74 (v167 : BitVec 32) : Fin 2 → Nat :=
  let v177 : Index := Scalar.indexCast v167
  let c16 : Index := 16#32
  ![v177.toNat, 16]
def k0_off75 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c4_i32_112 : BitVec 32 := 4#32
  let v180 : BitVec 32 := Scalar.addi v179 c4_i32_112
  let v181 : Index := Scalar.indexCast v180
  let c16_113 : Index := 16#32
  ![v181.toNat, 16]
def k0_off76 (v167 : BitVec 32) : Fin 2 → Nat :=
  let v186 : Index := Scalar.indexCast v167
  let c32 : Index := 32#32
  ![v186.toNat, 32]
def k0_off77 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c4_i32_116 : BitVec 32 := 4#32
  let v189 : BitVec 32 := Scalar.addi v188 c4_i32_116
  let v190 : Index := Scalar.indexCast v189
  let c32_117 : Index := 32#32
  ![v190.toNat, 32]
def k0_off78 (v167 : BitVec 32) : Fin 2 → Nat :=
  let v195 : Index := Scalar.indexCast v167
  let c48 : Index := 48#32
  ![v195.toNat, 48]
def k0_off79 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c4_i32_120 : BitVec 32 := 4#32
  let v198 : BitVec 32 := Scalar.addi v197 c4_i32_120
  let v199 : Index := Scalar.indexCast v198
  let c48_121 : Index := 48#32
  ![v199.toNat, 48]
def k0_off80 (v167 : BitVec 32) : Fin 2 → Nat :=
  let v204 : Index := Scalar.indexCast v167
  let c64 : Index := 64#32
  ![v204.toNat, 64]
def k0_off81 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c4_i32_124 : BitVec 32 := 4#32
  let v207 : BitVec 32 := Scalar.addi v206 c4_i32_124
  let v208 : Index := Scalar.indexCast v207
  let c64_125 : Index := 64#32
  ![v208.toNat, 64]
def k0_off82 (v167 : BitVec 32) : Fin 2 → Nat :=
  let v213 : Index := Scalar.indexCast v167
  let c80 : Index := 80#32
  ![v213.toNat, 80]
def k0_off83 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c4_i32_128 : BitVec 32 := 4#32
  let v216 : BitVec 32 := Scalar.addi v215 c4_i32_128
  let v217 : Index := Scalar.indexCast v216
  let c80_129 : Index := 80#32
  ![v217.toNat, 80]
def k0_off84 (v167 : BitVec 32) : Fin 2 → Nat :=
  let v222 : Index := Scalar.indexCast v167
  let c96 : Index := 96#32
  ![v222.toNat, 96]
def k0_off85 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c4_i32_132 : BitVec 32 := 4#32
  let v225 : BitVec 32 := Scalar.addi v224 c4_i32_132
  let v226 : Index := Scalar.indexCast v225
  let c96_133 : Index := 96#32
  ![v226.toNat, 96]
def k0_off86 (v167 : BitVec 32) : Fin 2 → Nat :=
  let v231 : Index := Scalar.indexCast v167
  let c112 : Index := 112#32
  ![v231.toNat, 112]

def k0_chk7 (v18 : BitVec 32) (k0_t6 : Fin (k0_t6_loop v18).trips) (k0_t8 : Fin k0_t8_loop.trips) (v167 : BitVec 32) : Prop :=
  (∀ (k0_h6 : k0_cond6 v18 k0_t6 k0_t8 = 1#1), ∀ a, (k0_off72 v167) a + S1x16.size a ≤ S512x128.size a) ∧
  (∀ (k0_h6 : k0_cond6 v18 k0_t6 k0_t8 = 1#1), ∀ a, (k0_off74 v167) a + S1x16.size a ≤ S512x128.size a) ∧
  (∀ (k0_h6 : k0_cond6 v18 k0_t6 k0_t8 = 1#1), ∀ a, (k0_off76 v167) a + S1x16.size a ≤ S512x128.size a) ∧
  (∀ (k0_h6 : k0_cond6 v18 k0_t6 k0_t8 = 1#1), ∀ a, (k0_off78 v167) a + S1x16.size a ≤ S512x128.size a) ∧
  (∀ (k0_h6 : k0_cond6 v18 k0_t6 k0_t8 = 1#1), ∀ a, (k0_off80 v167) a + S1x16.size a ≤ S512x128.size a) ∧
  (∀ (k0_h6 : k0_cond6 v18 k0_t6 k0_t8 = 1#1), ∀ a, (k0_off82 v167) a + S1x16.size a ≤ S512x128.size a) ∧
  (∀ (k0_h6 : k0_cond6 v18 k0_t6 k0_t8 = 1#1), ∀ a, (k0_off84 v167) a + S1x16.size a ≤ S512x128.size a) ∧
  (∀ (k0_h6 : k0_cond6 v18 k0_t6 k0_t8 = 1#1), ∀ a, (k0_off86 v167) a + S1x16.size a ≤ S512x128.size a)
theorem k0_off72_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off72 v167) a + S1x16.size a ≤ S512x128.size a := fun v18 k0_t6 k0_t8 v167 k0_hw7 k0_h6 => k0_hw7.1 k0_h6
theorem k0_off74_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off74 v167) a + S1x16.size a ≤ S512x128.size a := fun v18 k0_t6 k0_t8 v167 k0_hw7 k0_h6 => k0_hw7.2.1 k0_h6
theorem k0_off76_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off76 v167) a + S1x16.size a ≤ S512x128.size a := fun v18 k0_t6 k0_t8 v167 k0_hw7 k0_h6 => k0_hw7.2.2.1 k0_h6
theorem k0_off78_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off78 v167) a + S1x16.size a ≤ S512x128.size a := fun v18 k0_t6 k0_t8 v167 k0_hw7 k0_h6 => k0_hw7.2.2.2.1 k0_h6
theorem k0_off80_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off80 v167) a + S1x16.size a ≤ S512x128.size a := fun v18 k0_t6 k0_t8 v167 k0_hw7 k0_h6 => k0_hw7.2.2.2.2.1 k0_h6
theorem k0_off82_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off82 v167) a + S1x16.size a ≤ S512x128.size a := fun v18 k0_t6 k0_t8 v167 k0_hw7 k0_h6 => k0_hw7.2.2.2.2.2.1 k0_h6
theorem k0_off84_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off84 v167) a + S1x16.size a ≤ S512x128.size a := fun v18 k0_t6 k0_t8 v167 k0_hw7 k0_h6 => k0_hw7.2.2.2.2.2.2.1 k0_h6
theorem k0_off86_inb : ∀ (v18 : BitVec 32) (k0_t6 : Fin (k0_t6_loop v18).trips) (k0_t8 : Fin k0_t8_loop.trips) (v167 : BitVec 32) (k0_hw7 : k0_chk7 v18 k0_t6 k0_t8 v167), ∀ (k0_h6 : k0_cond6 v18 k0_t6 k0_t8 = 1#1), ∀ a, (k0_off86 v167) a + S1x16.size a ≤ S512x128.size a := fun v18 k0_t6 k0_t8 v167 k0_hw7 k0_h6 => k0_hw7.2.2.2.2.2.2.2 k0_h6

def k0_off87 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c4_i32_136 : BitVec 32 := 4#32
  let v234 : BitVec 32 := Scalar.addi v233 c4_i32_136
  let v235 : Index := Scalar.indexCast v234
  let c112_137 : Index := 112#32
  ![v235.toNat, 112]
def k0_off88 (v167 : BitVec 32) : Fin 2 → Nat :=
  let v168 : Index := Scalar.indexCast v167
  let c0 : Index := 0#32
  ![v168.toNat, 0]
def k0_cond7 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_71 : BitVec 32 := 128#32
  let v89 : BitVec 32 := Scalar.muli arg17 c128_i32_71
  let c0_i32_47 : BitVec 32 := 0#32
  let c1_i32_49 : BitVec 32 := 1#32
  let arg19 : BitVec 32 := Scf.iv c0_i32_47 c1_i32_49 k0_t8
  let c16_i32_72 : BitVec 32 := 16#32
  let v90 : BitVec 32 := Scalar.muli arg19 c16_i32_72
  let v91 : BitVec 32 := Scalar.addi v89 v90
  let c5_i32 : BitVec 32 := 5#32
  let v92 : BitVec 32 := Scalar.addi v91 c5_i32
  let v93 : BitVec 1 := Scalar.cmpi .slt v92 v18
  let v94 : BitVec 32 := Scalar.extui v93
  let c0_i32_73 : BitVec 32 := 0#32
  let v95 : BitVec 1 := Scalar.cmpi .ne v94 c0_i32_73
  v95

def k0_off89 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c5_i32_108 : BitVec 32 := 5#32
  let v171 : BitVec 32 := Scalar.addi v170 c5_i32_108
  let v172 : Index := Scalar.indexCast v171
  let c0_109 : Index := 0#32
  ![v172.toNat, 0]
def k0_off90 (v167 : BitVec 32) : Fin 2 → Nat :=
  let v177 : Index := Scalar.indexCast v167
  let c16 : Index := 16#32
  ![v177.toNat, 16]
def k0_off91 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c5_i32_112 : BitVec 32 := 5#32
  let v180 : BitVec 32 := Scalar.addi v179 c5_i32_112
  let v181 : Index := Scalar.indexCast v180
  let c16_113 : Index := 16#32
  ![v181.toNat, 16]
def k0_off92 (v167 : BitVec 32) : Fin 2 → Nat :=
  let v186 : Index := Scalar.indexCast v167
  let c32 : Index := 32#32
  ![v186.toNat, 32]
def k0_off93 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c5_i32_116 : BitVec 32 := 5#32
  let v189 : BitVec 32 := Scalar.addi v188 c5_i32_116
  let v190 : Index := Scalar.indexCast v189
  let c32_117 : Index := 32#32
  ![v190.toNat, 32]
def k0_off94 (v167 : BitVec 32) : Fin 2 → Nat :=
  let v195 : Index := Scalar.indexCast v167
  let c48 : Index := 48#32
  ![v195.toNat, 48]
def k0_off95 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c5_i32_120 : BitVec 32 := 5#32
  let v198 : BitVec 32 := Scalar.addi v197 c5_i32_120
  let v199 : Index := Scalar.indexCast v198
  let c48_121 : Index := 48#32
  ![v199.toNat, 48]
def k0_off96 (v167 : BitVec 32) : Fin 2 → Nat :=
  let v204 : Index := Scalar.indexCast v167
  let c64 : Index := 64#32
  ![v204.toNat, 64]
def k0_off97 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c5_i32_124 : BitVec 32 := 5#32
  let v207 : BitVec 32 := Scalar.addi v206 c5_i32_124
  let v208 : Index := Scalar.indexCast v207
  let c64_125 : Index := 64#32
  ![v208.toNat, 64]
def k0_off98 (v167 : BitVec 32) : Fin 2 → Nat :=
  let v213 : Index := Scalar.indexCast v167
  let c80 : Index := 80#32
  ![v213.toNat, 80]
def k0_off99 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c5_i32_128 : BitVec 32 := 5#32
  let v216 : BitVec 32 := Scalar.addi v215 c5_i32_128
  let v217 : Index := Scalar.indexCast v216
  let c80_129 : Index := 80#32
  ![v217.toNat, 80]
def k0_off100 (v167 : BitVec 32) : Fin 2 → Nat :=
  let v222 : Index := Scalar.indexCast v167
  let c96 : Index := 96#32
  ![v222.toNat, 96]
def k0_off101 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c5_i32_132 : BitVec 32 := 5#32
  let v225 : BitVec 32 := Scalar.addi v224 c5_i32_132
  let v226 : Index := Scalar.indexCast v225
  let c96_133 : Index := 96#32
  ![v226.toNat, 96]
def k0_off102 (v167 : BitVec 32) : Fin 2 → Nat :=
  let v231 : Index := Scalar.indexCast v167
  let c112 : Index := 112#32
  ![v231.toNat, 112]

def k0_chk8 (v18 : BitVec 32) (k0_t6 : Fin (k0_t6_loop v18).trips) (k0_t8 : Fin k0_t8_loop.trips) (v167 : BitVec 32) : Prop :=
  (∀ (k0_h7 : k0_cond7 v18 k0_t6 k0_t8 = 1#1), ∀ a, (k0_off88 v167) a + S1x16.size a ≤ S512x128.size a) ∧
  (∀ (k0_h7 : k0_cond7 v18 k0_t6 k0_t8 = 1#1), ∀ a, (k0_off90 v167) a + S1x16.size a ≤ S512x128.size a) ∧
  (∀ (k0_h7 : k0_cond7 v18 k0_t6 k0_t8 = 1#1), ∀ a, (k0_off92 v167) a + S1x16.size a ≤ S512x128.size a) ∧
  (∀ (k0_h7 : k0_cond7 v18 k0_t6 k0_t8 = 1#1), ∀ a, (k0_off94 v167) a + S1x16.size a ≤ S512x128.size a) ∧
  (∀ (k0_h7 : k0_cond7 v18 k0_t6 k0_t8 = 1#1), ∀ a, (k0_off96 v167) a + S1x16.size a ≤ S512x128.size a) ∧
  (∀ (k0_h7 : k0_cond7 v18 k0_t6 k0_t8 = 1#1), ∀ a, (k0_off98 v167) a + S1x16.size a ≤ S512x128.size a) ∧
  (∀ (k0_h7 : k0_cond7 v18 k0_t6 k0_t8 = 1#1), ∀ a, (k0_off100 v167) a + S1x16.size a ≤ S512x128.size a) ∧
  (∀ (k0_h7 : k0_cond7 v18 k0_t6 k0_t8 = 1#1), ∀ a, (k0_off102 v167) a + S1x16.size a ≤ S512x128.size a)
theorem k0_off88_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off88 v167) a + S1x16.size a ≤ S512x128.size a := fun v18 k0_t6 k0_t8 v167 k0_hw8 k0_h7 => k0_hw8.1 k0_h7
theorem k0_off90_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off90 v167) a + S1x16.size a ≤ S512x128.size a := fun v18 k0_t6 k0_t8 v167 k0_hw8 k0_h7 => k0_hw8.2.1 k0_h7
theorem k0_off92_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off92 v167) a + S1x16.size a ≤ S512x128.size a := fun v18 k0_t6 k0_t8 v167 k0_hw8 k0_h7 => k0_hw8.2.2.1 k0_h7
theorem k0_off94_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off94 v167) a + S1x16.size a ≤ S512x128.size a := fun v18 k0_t6 k0_t8 v167 k0_hw8 k0_h7 => k0_hw8.2.2.2.1 k0_h7
theorem k0_off96_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off96 v167) a + S1x16.size a ≤ S512x128.size a := fun v18 k0_t6 k0_t8 v167 k0_hw8 k0_h7 => k0_hw8.2.2.2.2.1 k0_h7
theorem k0_off98_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off98 v167) a + S1x16.size a ≤ S512x128.size a := fun v18 k0_t6 k0_t8 v167 k0_hw8 k0_h7 => k0_hw8.2.2.2.2.2.1 k0_h7
theorem k0_off100_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off100 v167) a + S1x16.size a ≤ S512x128.size a := fun v18 k0_t6 k0_t8 v167 k0_hw8 k0_h7 => k0_hw8.2.2.2.2.2.2.1 k0_h7
theorem k0_off102_inb : ∀ (v18 : BitVec 32) (k0_t6 : Fin (k0_t6_loop v18).trips) (k0_t8 : Fin k0_t8_loop.trips) (v167 : BitVec 32) (k0_hw8 : k0_chk8 v18 k0_t6 k0_t8 v167), ∀ (k0_h7 : k0_cond7 v18 k0_t6 k0_t8 = 1#1), ∀ a, (k0_off102 v167) a + S1x16.size a ≤ S512x128.size a := fun v18 k0_t6 k0_t8 v167 k0_hw8 k0_h7 => k0_hw8.2.2.2.2.2.2.2 k0_h7

def k0_off103 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c5_i32_136 : BitVec 32 := 5#32
  let v234 : BitVec 32 := Scalar.addi v233 c5_i32_136
  let v235 : Index := Scalar.indexCast v234
  let c112_137 : Index := 112#32
  ![v235.toNat, 112]
def k0_off104 (v167 : BitVec 32) : Fin 2 → Nat :=
  let v168 : Index := Scalar.indexCast v167
  let c0 : Index := 0#32
  ![v168.toNat, 0]
def k0_cond8 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_74 : BitVec 32 := 128#32
  let v96 : BitVec 32 := Scalar.muli arg17 c128_i32_74
  let c0_i32_47 : BitVec 32 := 0#32
  let c1_i32_49 : BitVec 32 := 1#32
  let arg19 : BitVec 32 := Scf.iv c0_i32_47 c1_i32_49 k0_t8
  let c16_i32_75 : BitVec 32 := 16#32
  let v97 : BitVec 32 := Scalar.muli arg19 c16_i32_75
  let v98 : BitVec 32 := Scalar.addi v96 v97
  let c6_i32 : BitVec 32 := 6#32
  let v99 : BitVec 32 := Scalar.addi v98 c6_i32
  let v100 : BitVec 1 := Scalar.cmpi .slt v99 v18
  let v101 : BitVec 32 := Scalar.extui v100
  let c0_i32_76 : BitVec 32 := 0#32
  let v102 : BitVec 1 := Scalar.cmpi .ne v101 c0_i32_76
  v102

def k0_off105 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c6_i32_108 : BitVec 32 := 6#32
  let v171 : BitVec 32 := Scalar.addi v170 c6_i32_108
  let v172 : Index := Scalar.indexCast v171
  let c0_109 : Index := 0#32
  ![v172.toNat, 0]
def k0_off106 (v167 : BitVec 32) : Fin 2 → Nat :=
  let v177 : Index := Scalar.indexCast v167
  let c16 : Index := 16#32
  ![v177.toNat, 16]
def k0_off107 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c6_i32_112 : BitVec 32 := 6#32
  let v180 : BitVec 32 := Scalar.addi v179 c6_i32_112
  let v181 : Index := Scalar.indexCast v180
  let c16_113 : Index := 16#32
  ![v181.toNat, 16]
def k0_off108 (v167 : BitVec 32) : Fin 2 → Nat :=
  let v186 : Index := Scalar.indexCast v167
  let c32 : Index := 32#32
  ![v186.toNat, 32]
def k0_off109 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c6_i32_116 : BitVec 32 := 6#32
  let v189 : BitVec 32 := Scalar.addi v188 c6_i32_116
  let v190 : Index := Scalar.indexCast v189
  let c32_117 : Index := 32#32
  ![v190.toNat, 32]
def k0_off110 (v167 : BitVec 32) : Fin 2 → Nat :=
  let v195 : Index := Scalar.indexCast v167
  let c48 : Index := 48#32
  ![v195.toNat, 48]
def k0_off111 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c6_i32_120 : BitVec 32 := 6#32
  let v198 : BitVec 32 := Scalar.addi v197 c6_i32_120
  let v199 : Index := Scalar.indexCast v198
  let c48_121 : Index := 48#32
  ![v199.toNat, 48]
def k0_off112 (v167 : BitVec 32) : Fin 2 → Nat :=
  let v204 : Index := Scalar.indexCast v167
  let c64 : Index := 64#32
  ![v204.toNat, 64]
def k0_off113 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c6_i32_124 : BitVec 32 := 6#32
  let v207 : BitVec 32 := Scalar.addi v206 c6_i32_124
  let v208 : Index := Scalar.indexCast v207
  let c64_125 : Index := 64#32
  ![v208.toNat, 64]
def k0_off114 (v167 : BitVec 32) : Fin 2 → Nat :=
  let v213 : Index := Scalar.indexCast v167
  let c80 : Index := 80#32
  ![v213.toNat, 80]
def k0_off115 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c6_i32_128 : BitVec 32 := 6#32
  let v216 : BitVec 32 := Scalar.addi v215 c6_i32_128
  let v217 : Index := Scalar.indexCast v216
  let c80_129 : Index := 80#32
  ![v217.toNat, 80]
def k0_off116 (v167 : BitVec 32) : Fin 2 → Nat :=
  let v222 : Index := Scalar.indexCast v167
  let c96 : Index := 96#32
  ![v222.toNat, 96]
def k0_off117 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c6_i32_132 : BitVec 32 := 6#32
  let v225 : BitVec 32 := Scalar.addi v224 c6_i32_132
  let v226 : Index := Scalar.indexCast v225
  let c96_133 : Index := 96#32
  ![v226.toNat, 96]
def k0_off118 (v167 : BitVec 32) : Fin 2 → Nat :=
  let v231 : Index := Scalar.indexCast v167
  let c112 : Index := 112#32
  ![v231.toNat, 112]

def k0_chk9 (v18 : BitVec 32) (k0_t6 : Fin (k0_t6_loop v18).trips) (k0_t8 : Fin k0_t8_loop.trips) (v167 : BitVec 32) : Prop :=
  (∀ (k0_h8 : k0_cond8 v18 k0_t6 k0_t8 = 1#1), ∀ a, (k0_off104 v167) a + S1x16.size a ≤ S512x128.size a) ∧
  (∀ (k0_h8 : k0_cond8 v18 k0_t6 k0_t8 = 1#1), ∀ a, (k0_off106 v167) a + S1x16.size a ≤ S512x128.size a) ∧
  (∀ (k0_h8 : k0_cond8 v18 k0_t6 k0_t8 = 1#1), ∀ a, (k0_off108 v167) a + S1x16.size a ≤ S512x128.size a) ∧
  (∀ (k0_h8 : k0_cond8 v18 k0_t6 k0_t8 = 1#1), ∀ a, (k0_off110 v167) a + S1x16.size a ≤ S512x128.size a) ∧
  (∀ (k0_h8 : k0_cond8 v18 k0_t6 k0_t8 = 1#1), ∀ a, (k0_off112 v167) a + S1x16.size a ≤ S512x128.size a) ∧
  (∀ (k0_h8 : k0_cond8 v18 k0_t6 k0_t8 = 1#1), ∀ a, (k0_off114 v167) a + S1x16.size a ≤ S512x128.size a) ∧
  (∀ (k0_h8 : k0_cond8 v18 k0_t6 k0_t8 = 1#1), ∀ a, (k0_off116 v167) a + S1x16.size a ≤ S512x128.size a) ∧
  (∀ (k0_h8 : k0_cond8 v18 k0_t6 k0_t8 = 1#1), ∀ a, (k0_off118 v167) a + S1x16.size a ≤ S512x128.size a)
theorem k0_off104_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off104 v167) a + S1x16.size a ≤ S512x128.size a := fun v18 k0_t6 k0_t8 v167 k0_hw9 k0_h8 => k0_hw9.1 k0_h8
theorem k0_off106_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off106 v167) a + S1x16.size a ≤ S512x128.size a := fun v18 k0_t6 k0_t8 v167 k0_hw9 k0_h8 => k0_hw9.2.1 k0_h8
theorem k0_off108_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off108 v167) a + S1x16.size a ≤ S512x128.size a := fun v18 k0_t6 k0_t8 v167 k0_hw9 k0_h8 => k0_hw9.2.2.1 k0_h8
theorem k0_off110_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off110 v167) a + S1x16.size a ≤ S512x128.size a := fun v18 k0_t6 k0_t8 v167 k0_hw9 k0_h8 => k0_hw9.2.2.2.1 k0_h8
theorem k0_off112_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off112 v167) a + S1x16.size a ≤ S512x128.size a := fun v18 k0_t6 k0_t8 v167 k0_hw9 k0_h8 => k0_hw9.2.2.2.2.1 k0_h8
theorem k0_off114_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off114 v167) a + S1x16.size a ≤ S512x128.size a := fun v18 k0_t6 k0_t8 v167 k0_hw9 k0_h8 => k0_hw9.2.2.2.2.2.1 k0_h8
theorem k0_off116_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off116 v167) a + S1x16.size a ≤ S512x128.size a := fun v18 k0_t6 k0_t8 v167 k0_hw9 k0_h8 => k0_hw9.2.2.2.2.2.2.1 k0_h8
theorem k0_off118_inb : ∀ (v18 : BitVec 32) (k0_t6 : Fin (k0_t6_loop v18).trips) (k0_t8 : Fin k0_t8_loop.trips) (v167 : BitVec 32) (k0_hw9 : k0_chk9 v18 k0_t6 k0_t8 v167), ∀ (k0_h8 : k0_cond8 v18 k0_t6 k0_t8 = 1#1), ∀ a, (k0_off118 v167) a + S1x16.size a ≤ S512x128.size a := fun v18 k0_t6 k0_t8 v167 k0_hw9 k0_h8 => k0_hw9.2.2.2.2.2.2.2 k0_h8

def k0_off119 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c6_i32_136 : BitVec 32 := 6#32
  let v234 : BitVec 32 := Scalar.addi v233 c6_i32_136
  let v235 : Index := Scalar.indexCast v234
  let c112_137 : Index := 112#32
  ![v235.toNat, 112]
def k0_off120 (v167 : BitVec 32) : Fin 2 → Nat :=
  let v168 : Index := Scalar.indexCast v167
  let c0 : Index := 0#32
  ![v168.toNat, 0]
def k0_cond9 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_77 : BitVec 32 := 128#32
  let v103 : BitVec 32 := Scalar.muli arg17 c128_i32_77
  let c0_i32_47 : BitVec 32 := 0#32
  let c1_i32_49 : BitVec 32 := 1#32
  let arg19 : BitVec 32 := Scf.iv c0_i32_47 c1_i32_49 k0_t8
  let c16_i32_78 : BitVec 32 := 16#32
  let v104 : BitVec 32 := Scalar.muli arg19 c16_i32_78
  let v105 : BitVec 32 := Scalar.addi v103 v104
  let c7_i32 : BitVec 32 := 7#32
  let v106 : BitVec 32 := Scalar.addi v105 c7_i32
  let v107 : BitVec 1 := Scalar.cmpi .slt v106 v18
  let v108 : BitVec 32 := Scalar.extui v107
  let c0_i32_79 : BitVec 32 := 0#32
  let v109 : BitVec 1 := Scalar.cmpi .ne v108 c0_i32_79
  v109

def k0_off121 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c7_i32_108 : BitVec 32 := 7#32
  let v171 : BitVec 32 := Scalar.addi v170 c7_i32_108
  let v172 : Index := Scalar.indexCast v171
  let c0_109 : Index := 0#32
  ![v172.toNat, 0]
def k0_off122 (v167 : BitVec 32) : Fin 2 → Nat :=
  let v177 : Index := Scalar.indexCast v167
  let c16 : Index := 16#32
  ![v177.toNat, 16]
def k0_off123 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c7_i32_112 : BitVec 32 := 7#32
  let v180 : BitVec 32 := Scalar.addi v179 c7_i32_112
  let v181 : Index := Scalar.indexCast v180
  let c16_113 : Index := 16#32
  ![v181.toNat, 16]
def k0_off124 (v167 : BitVec 32) : Fin 2 → Nat :=
  let v186 : Index := Scalar.indexCast v167
  let c32 : Index := 32#32
  ![v186.toNat, 32]
def k0_off125 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c7_i32_116 : BitVec 32 := 7#32
  let v189 : BitVec 32 := Scalar.addi v188 c7_i32_116
  let v190 : Index := Scalar.indexCast v189
  let c32_117 : Index := 32#32
  ![v190.toNat, 32]
def k0_off126 (v167 : BitVec 32) : Fin 2 → Nat :=
  let v195 : Index := Scalar.indexCast v167
  let c48 : Index := 48#32
  ![v195.toNat, 48]
def k0_off127 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c7_i32_120 : BitVec 32 := 7#32
  let v198 : BitVec 32 := Scalar.addi v197 c7_i32_120
  let v199 : Index := Scalar.indexCast v198
  let c48_121 : Index := 48#32
  ![v199.toNat, 48]
def k0_off128 (v167 : BitVec 32) : Fin 2 → Nat :=
  let v204 : Index := Scalar.indexCast v167
  let c64 : Index := 64#32
  ![v204.toNat, 64]
def k0_off129 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c7_i32_124 : BitVec 32 := 7#32
  let v207 : BitVec 32 := Scalar.addi v206 c7_i32_124
  let v208 : Index := Scalar.indexCast v207
  let c64_125 : Index := 64#32
  ![v208.toNat, 64]
def k0_off130 (v167 : BitVec 32) : Fin 2 → Nat :=
  let v213 : Index := Scalar.indexCast v167
  let c80 : Index := 80#32
  ![v213.toNat, 80]
def k0_off131 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c7_i32_128 : BitVec 32 := 7#32
  let v216 : BitVec 32 := Scalar.addi v215 c7_i32_128
  let v217 : Index := Scalar.indexCast v216
  let c80_129 : Index := 80#32
  ![v217.toNat, 80]
def k0_off132 (v167 : BitVec 32) : Fin 2 → Nat :=
  let v222 : Index := Scalar.indexCast v167
  let c96 : Index := 96#32
  ![v222.toNat, 96]
def k0_off133 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c7_i32_132 : BitVec 32 := 7#32
  let v225 : BitVec 32 := Scalar.addi v224 c7_i32_132
  let v226 : Index := Scalar.indexCast v225
  let c96_133 : Index := 96#32
  ![v226.toNat, 96]
def k0_off134 (v167 : BitVec 32) : Fin 2 → Nat :=
  let v231 : Index := Scalar.indexCast v167
  let c112 : Index := 112#32
  ![v231.toNat, 112]

def k0_chk10 (v18 : BitVec 32) (k0_t6 : Fin (k0_t6_loop v18).trips) (k0_t8 : Fin k0_t8_loop.trips) (v167 : BitVec 32) : Prop :=
  (∀ (k0_h9 : k0_cond9 v18 k0_t6 k0_t8 = 1#1), ∀ a, (k0_off120 v167) a + S1x16.size a ≤ S512x128.size a) ∧
  (∀ (k0_h9 : k0_cond9 v18 k0_t6 k0_t8 = 1#1), ∀ a, (k0_off122 v167) a + S1x16.size a ≤ S512x128.size a) ∧
  (∀ (k0_h9 : k0_cond9 v18 k0_t6 k0_t8 = 1#1), ∀ a, (k0_off124 v167) a + S1x16.size a ≤ S512x128.size a) ∧
  (∀ (k0_h9 : k0_cond9 v18 k0_t6 k0_t8 = 1#1), ∀ a, (k0_off126 v167) a + S1x16.size a ≤ S512x128.size a) ∧
  (∀ (k0_h9 : k0_cond9 v18 k0_t6 k0_t8 = 1#1), ∀ a, (k0_off128 v167) a + S1x16.size a ≤ S512x128.size a) ∧
  (∀ (k0_h9 : k0_cond9 v18 k0_t6 k0_t8 = 1#1), ∀ a, (k0_off130 v167) a + S1x16.size a ≤ S512x128.size a) ∧
  (∀ (k0_h9 : k0_cond9 v18 k0_t6 k0_t8 = 1#1), ∀ a, (k0_off132 v167) a + S1x16.size a ≤ S512x128.size a) ∧
  (∀ (k0_h9 : k0_cond9 v18 k0_t6 k0_t8 = 1#1), ∀ a, (k0_off134 v167) a + S1x16.size a ≤ S512x128.size a)
theorem k0_off120_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off120 v167) a + S1x16.size a ≤ S512x128.size a := fun v18 k0_t6 k0_t8 v167 k0_hw10 k0_h9 => k0_hw10.1 k0_h9
theorem k0_off122_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off122 v167) a + S1x16.size a ≤ S512x128.size a := fun v18 k0_t6 k0_t8 v167 k0_hw10 k0_h9 => k0_hw10.2.1 k0_h9
theorem k0_off124_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off124 v167) a + S1x16.size a ≤ S512x128.size a := fun v18 k0_t6 k0_t8 v167 k0_hw10 k0_h9 => k0_hw10.2.2.1 k0_h9
theorem k0_off126_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off126 v167) a + S1x16.size a ≤ S512x128.size a := fun v18 k0_t6 k0_t8 v167 k0_hw10 k0_h9 => k0_hw10.2.2.2.1 k0_h9
theorem k0_off128_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off128 v167) a + S1x16.size a ≤ S512x128.size a := fun v18 k0_t6 k0_t8 v167 k0_hw10 k0_h9 => k0_hw10.2.2.2.2.1 k0_h9
theorem k0_off130_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off130 v167) a + S1x16.size a ≤ S512x128.size a := fun v18 k0_t6 k0_t8 v167 k0_hw10 k0_h9 => k0_hw10.2.2.2.2.2.1 k0_h9
theorem k0_off132_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off132 v167) a + S1x16.size a ≤ S512x128.size a := fun v18 k0_t6 k0_t8 v167 k0_hw10 k0_h9 => k0_hw10.2.2.2.2.2.2.1 k0_h9
theorem k0_off134_inb : ∀ (v18 : BitVec 32) (k0_t6 : Fin (k0_t6_loop v18).trips) (k0_t8 : Fin k0_t8_loop.trips) (v167 : BitVec 32) (k0_hw10 : k0_chk10 v18 k0_t6 k0_t8 v167), ∀ (k0_h9 : k0_cond9 v18 k0_t6 k0_t8 = 1#1), ∀ a, (k0_off134 v167) a + S1x16.size a ≤ S512x128.size a := fun v18 k0_t6 k0_t8 v167 k0_hw10 k0_h9 => k0_hw10.2.2.2.2.2.2.2 k0_h9

def k0_off135 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c7_i32_136 : BitVec 32 := 7#32
  let v234 : BitVec 32 := Scalar.addi v233 c7_i32_136
  let v235 : Index := Scalar.indexCast v234
  let c112_137 : Index := 112#32
  ![v235.toNat, 112]
def k0_off136 (v167 : BitVec 32) : Fin 2 → Nat :=
  let v168 : Index := Scalar.indexCast v167
  let c0 : Index := 0#32
  ![v168.toNat, 0]
def k0_cond10 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_80 : BitVec 32 := 128#32
  let v110 : BitVec 32 := Scalar.muli arg17 c128_i32_80
  let c0_i32_47 : BitVec 32 := 0#32
  let c1_i32_49 : BitVec 32 := 1#32
  let arg19 : BitVec 32 := Scf.iv c0_i32_47 c1_i32_49 k0_t8
  let c16_i32_81 : BitVec 32 := 16#32
  let v111 : BitVec 32 := Scalar.muli arg19 c16_i32_81
  let v112 : BitVec 32 := Scalar.addi v110 v111
  let c8_i32_82 : BitVec 32 := 8#32
  let v113 : BitVec 32 := Scalar.addi v112 c8_i32_82
  let v114 : BitVec 1 := Scalar.cmpi .slt v113 v18
  let v115 : BitVec 32 := Scalar.extui v114
  let c0_i32_83 : BitVec 32 := 0#32
  let v116 : BitVec 1 := Scalar.cmpi .ne v115 c0_i32_83
  v116

def k0_off137 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c8_i32_108 : BitVec 32 := 8#32
  let v171 : BitVec 32 := Scalar.addi v170 c8_i32_108
  let v172 : Index := Scalar.indexCast v171
  let c0_109 : Index := 0#32
  ![v172.toNat, 0]
def k0_off138 (v167 : BitVec 32) : Fin 2 → Nat :=
  let v177 : Index := Scalar.indexCast v167
  let c16 : Index := 16#32
  ![v177.toNat, 16]
def k0_off139 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c8_i32_112 : BitVec 32 := 8#32
  let v180 : BitVec 32 := Scalar.addi v179 c8_i32_112
  let v181 : Index := Scalar.indexCast v180
  let c16_113 : Index := 16#32
  ![v181.toNat, 16]
def k0_off140 (v167 : BitVec 32) : Fin 2 → Nat :=
  let v186 : Index := Scalar.indexCast v167
  let c32 : Index := 32#32
  ![v186.toNat, 32]
def k0_off141 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c8_i32_116 : BitVec 32 := 8#32
  let v189 : BitVec 32 := Scalar.addi v188 c8_i32_116
  let v190 : Index := Scalar.indexCast v189
  let c32_117 : Index := 32#32
  ![v190.toNat, 32]
def k0_off142 (v167 : BitVec 32) : Fin 2 → Nat :=
  let v195 : Index := Scalar.indexCast v167
  let c48 : Index := 48#32
  ![v195.toNat, 48]
def k0_off143 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c8_i32_120 : BitVec 32 := 8#32
  let v198 : BitVec 32 := Scalar.addi v197 c8_i32_120
  let v199 : Index := Scalar.indexCast v198
  let c48_121 : Index := 48#32
  ![v199.toNat, 48]
def k0_off144 (v167 : BitVec 32) : Fin 2 → Nat :=
  let v204 : Index := Scalar.indexCast v167
  let c64 : Index := 64#32
  ![v204.toNat, 64]
def k0_off145 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c8_i32_124 : BitVec 32 := 8#32
  let v207 : BitVec 32 := Scalar.addi v206 c8_i32_124
  let v208 : Index := Scalar.indexCast v207
  let c64_125 : Index := 64#32
  ![v208.toNat, 64]
def k0_off146 (v167 : BitVec 32) : Fin 2 → Nat :=
  let v213 : Index := Scalar.indexCast v167
  let c80 : Index := 80#32
  ![v213.toNat, 80]
def k0_off147 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c8_i32_128 : BitVec 32 := 8#32
  let v216 : BitVec 32 := Scalar.addi v215 c8_i32_128
  let v217 : Index := Scalar.indexCast v216
  let c80_129 : Index := 80#32
  ![v217.toNat, 80]
def k0_off148 (v167 : BitVec 32) : Fin 2 → Nat :=
  let v222 : Index := Scalar.indexCast v167
  let c96 : Index := 96#32
  ![v222.toNat, 96]
def k0_off149 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c8_i32_132 : BitVec 32 := 8#32
  let v225 : BitVec 32 := Scalar.addi v224 c8_i32_132
  let v226 : Index := Scalar.indexCast v225
  let c96_133 : Index := 96#32
  ![v226.toNat, 96]
def k0_off150 (v167 : BitVec 32) : Fin 2 → Nat :=
  let v231 : Index := Scalar.indexCast v167
  let c112 : Index := 112#32
  ![v231.toNat, 112]

def k0_chk11 (v18 : BitVec 32) (k0_t6 : Fin (k0_t6_loop v18).trips) (k0_t8 : Fin k0_t8_loop.trips) (v167 : BitVec 32) : Prop :=
  (∀ (k0_h10 : k0_cond10 v18 k0_t6 k0_t8 = 1#1), ∀ a, (k0_off136 v167) a + S1x16.size a ≤ S512x128.size a) ∧
  (∀ (k0_h10 : k0_cond10 v18 k0_t6 k0_t8 = 1#1), ∀ a, (k0_off138 v167) a + S1x16.size a ≤ S512x128.size a) ∧
  (∀ (k0_h10 : k0_cond10 v18 k0_t6 k0_t8 = 1#1), ∀ a, (k0_off140 v167) a + S1x16.size a ≤ S512x128.size a) ∧
  (∀ (k0_h10 : k0_cond10 v18 k0_t6 k0_t8 = 1#1), ∀ a, (k0_off142 v167) a + S1x16.size a ≤ S512x128.size a) ∧
  (∀ (k0_h10 : k0_cond10 v18 k0_t6 k0_t8 = 1#1), ∀ a, (k0_off144 v167) a + S1x16.size a ≤ S512x128.size a) ∧
  (∀ (k0_h10 : k0_cond10 v18 k0_t6 k0_t8 = 1#1), ∀ a, (k0_off146 v167) a + S1x16.size a ≤ S512x128.size a) ∧
  (∀ (k0_h10 : k0_cond10 v18 k0_t6 k0_t8 = 1#1), ∀ a, (k0_off148 v167) a + S1x16.size a ≤ S512x128.size a) ∧
  (∀ (k0_h10 : k0_cond10 v18 k0_t6 k0_t8 = 1#1), ∀ a, (k0_off150 v167) a + S1x16.size a ≤ S512x128.size a)
theorem k0_off136_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off136 v167) a + S1x16.size a ≤ S512x128.size a := fun v18 k0_t6 k0_t8 v167 k0_hw11 k0_h10 => k0_hw11.1 k0_h10
theorem k0_off138_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off138 v167) a + S1x16.size a ≤ S512x128.size a := fun v18 k0_t6 k0_t8 v167 k0_hw11 k0_h10 => k0_hw11.2.1 k0_h10
theorem k0_off140_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off140 v167) a + S1x16.size a ≤ S512x128.size a := fun v18 k0_t6 k0_t8 v167 k0_hw11 k0_h10 => k0_hw11.2.2.1 k0_h10
theorem k0_off142_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off142 v167) a + S1x16.size a ≤ S512x128.size a := fun v18 k0_t6 k0_t8 v167 k0_hw11 k0_h10 => k0_hw11.2.2.2.1 k0_h10
theorem k0_off144_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off144 v167) a + S1x16.size a ≤ S512x128.size a := fun v18 k0_t6 k0_t8 v167 k0_hw11 k0_h10 => k0_hw11.2.2.2.2.1 k0_h10
theorem k0_off146_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off146 v167) a + S1x16.size a ≤ S512x128.size a := fun v18 k0_t6 k0_t8 v167 k0_hw11 k0_h10 => k0_hw11.2.2.2.2.2.1 k0_h10
theorem k0_off148_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off148 v167) a + S1x16.size a ≤ S512x128.size a := fun v18 k0_t6 k0_t8 v167 k0_hw11 k0_h10 => k0_hw11.2.2.2.2.2.2.1 k0_h10
theorem k0_off150_inb : ∀ (v18 : BitVec 32) (k0_t6 : Fin (k0_t6_loop v18).trips) (k0_t8 : Fin k0_t8_loop.trips) (v167 : BitVec 32) (k0_hw11 : k0_chk11 v18 k0_t6 k0_t8 v167), ∀ (k0_h10 : k0_cond10 v18 k0_t6 k0_t8 = 1#1), ∀ a, (k0_off150 v167) a + S1x16.size a ≤ S512x128.size a := fun v18 k0_t6 k0_t8 v167 k0_hw11 k0_h10 => k0_hw11.2.2.2.2.2.2.2 k0_h10

def k0_off151 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c8_i32_136 : BitVec 32 := 8#32
  let v234 : BitVec 32 := Scalar.addi v233 c8_i32_136
  let v235 : Index := Scalar.indexCast v234
  let c112_137 : Index := 112#32
  ![v235.toNat, 112]
def k0_off152 (v167 : BitVec 32) : Fin 2 → Nat :=
  let v168 : Index := Scalar.indexCast v167
  let c0 : Index := 0#32
  ![v168.toNat, 0]
def k0_cond11 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_84 : BitVec 32 := 128#32
  let v117 : BitVec 32 := Scalar.muli arg17 c128_i32_84
  let c0_i32_47 : BitVec 32 := 0#32
  let c1_i32_49 : BitVec 32 := 1#32
  let arg19 : BitVec 32 := Scf.iv c0_i32_47 c1_i32_49 k0_t8
  let c16_i32_85 : BitVec 32 := 16#32
  let v118 : BitVec 32 := Scalar.muli arg19 c16_i32_85
  let v119 : BitVec 32 := Scalar.addi v117 v118
  let c9_i32 : BitVec 32 := 9#32
  let v120 : BitVec 32 := Scalar.addi v119 c9_i32
  let v121 : BitVec 1 := Scalar.cmpi .slt v120 v18
  let v122 : BitVec 32 := Scalar.extui v121
  let c0_i32_86 : BitVec 32 := 0#32
  let v123 : BitVec 1 := Scalar.cmpi .ne v122 c0_i32_86
  v123

def k0_off153 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c9_i32_108 : BitVec 32 := 9#32
  let v171 : BitVec 32 := Scalar.addi v170 c9_i32_108
  let v172 : Index := Scalar.indexCast v171
  let c0_109 : Index := 0#32
  ![v172.toNat, 0]
def k0_off154 (v167 : BitVec 32) : Fin 2 → Nat :=
  let v177 : Index := Scalar.indexCast v167
  let c16 : Index := 16#32
  ![v177.toNat, 16]
def k0_off155 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c9_i32_112 : BitVec 32 := 9#32
  let v180 : BitVec 32 := Scalar.addi v179 c9_i32_112
  let v181 : Index := Scalar.indexCast v180
  let c16_113 : Index := 16#32
  ![v181.toNat, 16]
def k0_off156 (v167 : BitVec 32) : Fin 2 → Nat :=
  let v186 : Index := Scalar.indexCast v167
  let c32 : Index := 32#32
  ![v186.toNat, 32]
def k0_off157 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c9_i32_116 : BitVec 32 := 9#32
  let v189 : BitVec 32 := Scalar.addi v188 c9_i32_116
  let v190 : Index := Scalar.indexCast v189
  let c32_117 : Index := 32#32
  ![v190.toNat, 32]
def k0_off158 (v167 : BitVec 32) : Fin 2 → Nat :=
  let v195 : Index := Scalar.indexCast v167
  let c48 : Index := 48#32
  ![v195.toNat, 48]
def k0_off159 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c9_i32_120 : BitVec 32 := 9#32
  let v198 : BitVec 32 := Scalar.addi v197 c9_i32_120
  let v199 : Index := Scalar.indexCast v198
  let c48_121 : Index := 48#32
  ![v199.toNat, 48]
def k0_off160 (v167 : BitVec 32) : Fin 2 → Nat :=
  let v204 : Index := Scalar.indexCast v167
  let c64 : Index := 64#32
  ![v204.toNat, 64]
def k0_off161 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c9_i32_124 : BitVec 32 := 9#32
  let v207 : BitVec 32 := Scalar.addi v206 c9_i32_124
  let v208 : Index := Scalar.indexCast v207
  let c64_125 : Index := 64#32
  ![v208.toNat, 64]
def k0_off162 (v167 : BitVec 32) : Fin 2 → Nat :=
  let v213 : Index := Scalar.indexCast v167
  let c80 : Index := 80#32
  ![v213.toNat, 80]
def k0_off163 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c9_i32_128 : BitVec 32 := 9#32
  let v216 : BitVec 32 := Scalar.addi v215 c9_i32_128
  let v217 : Index := Scalar.indexCast v216
  let c80_129 : Index := 80#32
  ![v217.toNat, 80]
def k0_off164 (v167 : BitVec 32) : Fin 2 → Nat :=
  let v222 : Index := Scalar.indexCast v167
  let c96 : Index := 96#32
  ![v222.toNat, 96]
def k0_off165 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c9_i32_132 : BitVec 32 := 9#32
  let v225 : BitVec 32 := Scalar.addi v224 c9_i32_132
  let v226 : Index := Scalar.indexCast v225
  let c96_133 : Index := 96#32
  ![v226.toNat, 96]
def k0_off166 (v167 : BitVec 32) : Fin 2 → Nat :=
  let v231 : Index := Scalar.indexCast v167
  let c112 : Index := 112#32
  ![v231.toNat, 112]

def k0_chk12 (v18 : BitVec 32) (k0_t6 : Fin (k0_t6_loop v18).trips) (k0_t8 : Fin k0_t8_loop.trips) (v167 : BitVec 32) : Prop :=
  (∀ (k0_h11 : k0_cond11 v18 k0_t6 k0_t8 = 1#1), ∀ a, (k0_off152 v167) a + S1x16.size a ≤ S512x128.size a) ∧
  (∀ (k0_h11 : k0_cond11 v18 k0_t6 k0_t8 = 1#1), ∀ a, (k0_off154 v167) a + S1x16.size a ≤ S512x128.size a) ∧
  (∀ (k0_h11 : k0_cond11 v18 k0_t6 k0_t8 = 1#1), ∀ a, (k0_off156 v167) a + S1x16.size a ≤ S512x128.size a) ∧
  (∀ (k0_h11 : k0_cond11 v18 k0_t6 k0_t8 = 1#1), ∀ a, (k0_off158 v167) a + S1x16.size a ≤ S512x128.size a) ∧
  (∀ (k0_h11 : k0_cond11 v18 k0_t6 k0_t8 = 1#1), ∀ a, (k0_off160 v167) a + S1x16.size a ≤ S512x128.size a) ∧
  (∀ (k0_h11 : k0_cond11 v18 k0_t6 k0_t8 = 1#1), ∀ a, (k0_off162 v167) a + S1x16.size a ≤ S512x128.size a) ∧
  (∀ (k0_h11 : k0_cond11 v18 k0_t6 k0_t8 = 1#1), ∀ a, (k0_off164 v167) a + S1x16.size a ≤ S512x128.size a) ∧
  (∀ (k0_h11 : k0_cond11 v18 k0_t6 k0_t8 = 1#1), ∀ a, (k0_off166 v167) a + S1x16.size a ≤ S512x128.size a)
theorem k0_off152_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off152 v167) a + S1x16.size a ≤ S512x128.size a := fun v18 k0_t6 k0_t8 v167 k0_hw12 k0_h11 => k0_hw12.1 k0_h11
theorem k0_off154_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off154 v167) a + S1x16.size a ≤ S512x128.size a := fun v18 k0_t6 k0_t8 v167 k0_hw12 k0_h11 => k0_hw12.2.1 k0_h11
theorem k0_off156_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off156 v167) a + S1x16.size a ≤ S512x128.size a := fun v18 k0_t6 k0_t8 v167 k0_hw12 k0_h11 => k0_hw12.2.2.1 k0_h11
theorem k0_off158_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off158 v167) a + S1x16.size a ≤ S512x128.size a := fun v18 k0_t6 k0_t8 v167 k0_hw12 k0_h11 => k0_hw12.2.2.2.1 k0_h11
theorem k0_off160_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off160 v167) a + S1x16.size a ≤ S512x128.size a := fun v18 k0_t6 k0_t8 v167 k0_hw12 k0_h11 => k0_hw12.2.2.2.2.1 k0_h11
theorem k0_off162_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off162 v167) a + S1x16.size a ≤ S512x128.size a := fun v18 k0_t6 k0_t8 v167 k0_hw12 k0_h11 => k0_hw12.2.2.2.2.2.1 k0_h11
theorem k0_off164_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off164 v167) a + S1x16.size a ≤ S512x128.size a := fun v18 k0_t6 k0_t8 v167 k0_hw12 k0_h11 => k0_hw12.2.2.2.2.2.2.1 k0_h11
theorem k0_off166_inb : ∀ (v18 : BitVec 32) (k0_t6 : Fin (k0_t6_loop v18).trips) (k0_t8 : Fin k0_t8_loop.trips) (v167 : BitVec 32) (k0_hw12 : k0_chk12 v18 k0_t6 k0_t8 v167), ∀ (k0_h11 : k0_cond11 v18 k0_t6 k0_t8 = 1#1), ∀ a, (k0_off166 v167) a + S1x16.size a ≤ S512x128.size a := fun v18 k0_t6 k0_t8 v167 k0_hw12 k0_h11 => k0_hw12.2.2.2.2.2.2.2 k0_h11

def k0_off167 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c9_i32_136 : BitVec 32 := 9#32
  let v234 : BitVec 32 := Scalar.addi v233 c9_i32_136
  let v235 : Index := Scalar.indexCast v234
  let c112_137 : Index := 112#32
  ![v235.toNat, 112]
def k0_off168 (v167 : BitVec 32) : Fin 2 → Nat :=
  let v168 : Index := Scalar.indexCast v167
  let c0 : Index := 0#32
  ![v168.toNat, 0]
def k0_cond12 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_87 : BitVec 32 := 128#32
  let v124 : BitVec 32 := Scalar.muli arg17 c128_i32_87
  let c0_i32_47 : BitVec 32 := 0#32
  let c1_i32_49 : BitVec 32 := 1#32
  let arg19 : BitVec 32 := Scf.iv c0_i32_47 c1_i32_49 k0_t8
  let c16_i32_88 : BitVec 32 := 16#32
  let v125 : BitVec 32 := Scalar.muli arg19 c16_i32_88
  let v126 : BitVec 32 := Scalar.addi v124 v125
  let c10_i32_89 : BitVec 32 := 10#32
  let v127 : BitVec 32 := Scalar.addi v126 c10_i32_89
  let v128 : BitVec 1 := Scalar.cmpi .slt v127 v18
  let v129 : BitVec 32 := Scalar.extui v128
  let c0_i32_90 : BitVec 32 := 0#32
  let v130 : BitVec 1 := Scalar.cmpi .ne v129 c0_i32_90
  v130

def k0_off169 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c10_i32_108 : BitVec 32 := 10#32
  let v171 : BitVec 32 := Scalar.addi v170 c10_i32_108
  let v172 : Index := Scalar.indexCast v171
  let c0_109 : Index := 0#32
  ![v172.toNat, 0]
def k0_off170 (v167 : BitVec 32) : Fin 2 → Nat :=
  let v177 : Index := Scalar.indexCast v167
  let c16 : Index := 16#32
  ![v177.toNat, 16]
def k0_off171 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c10_i32_112 : BitVec 32 := 10#32
  let v180 : BitVec 32 := Scalar.addi v179 c10_i32_112
  let v181 : Index := Scalar.indexCast v180
  let c16_113 : Index := 16#32
  ![v181.toNat, 16]
def k0_off172 (v167 : BitVec 32) : Fin 2 → Nat :=
  let v186 : Index := Scalar.indexCast v167
  let c32 : Index := 32#32
  ![v186.toNat, 32]
def k0_off173 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c10_i32_116 : BitVec 32 := 10#32
  let v189 : BitVec 32 := Scalar.addi v188 c10_i32_116
  let v190 : Index := Scalar.indexCast v189
  let c32_117 : Index := 32#32
  ![v190.toNat, 32]
def k0_off174 (v167 : BitVec 32) : Fin 2 → Nat :=
  let v195 : Index := Scalar.indexCast v167
  let c48 : Index := 48#32
  ![v195.toNat, 48]
def k0_off175 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c10_i32_120 : BitVec 32 := 10#32
  let v198 : BitVec 32 := Scalar.addi v197 c10_i32_120
  let v199 : Index := Scalar.indexCast v198
  let c48_121 : Index := 48#32
  ![v199.toNat, 48]
def k0_off176 (v167 : BitVec 32) : Fin 2 → Nat :=
  let v204 : Index := Scalar.indexCast v167
  let c64 : Index := 64#32
  ![v204.toNat, 64]
def k0_off177 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c10_i32_124 : BitVec 32 := 10#32
  let v207 : BitVec 32 := Scalar.addi v206 c10_i32_124
  let v208 : Index := Scalar.indexCast v207
  let c64_125 : Index := 64#32
  ![v208.toNat, 64]
def k0_off178 (v167 : BitVec 32) : Fin 2 → Nat :=
  let v213 : Index := Scalar.indexCast v167
  let c80 : Index := 80#32
  ![v213.toNat, 80]
def k0_off179 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c10_i32_128 : BitVec 32 := 10#32
  let v216 : BitVec 32 := Scalar.addi v215 c10_i32_128
  let v217 : Index := Scalar.indexCast v216
  let c80_129 : Index := 80#32
  ![v217.toNat, 80]
def k0_off180 (v167 : BitVec 32) : Fin 2 → Nat :=
  let v222 : Index := Scalar.indexCast v167
  let c96 : Index := 96#32
  ![v222.toNat, 96]
def k0_off181 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c10_i32_132 : BitVec 32 := 10#32
  let v225 : BitVec 32 := Scalar.addi v224 c10_i32_132
  let v226 : Index := Scalar.indexCast v225
  let c96_133 : Index := 96#32
  ![v226.toNat, 96]
def k0_off182 (v167 : BitVec 32) : Fin 2 → Nat :=
  let v231 : Index := Scalar.indexCast v167
  let c112 : Index := 112#32
  ![v231.toNat, 112]

def k0_chk13 (v18 : BitVec 32) (k0_t6 : Fin (k0_t6_loop v18).trips) (k0_t8 : Fin k0_t8_loop.trips) (v167 : BitVec 32) : Prop :=
  (∀ (k0_h12 : k0_cond12 v18 k0_t6 k0_t8 = 1#1), ∀ a, (k0_off168 v167) a + S1x16.size a ≤ S512x128.size a) ∧
  (∀ (k0_h12 : k0_cond12 v18 k0_t6 k0_t8 = 1#1), ∀ a, (k0_off170 v167) a + S1x16.size a ≤ S512x128.size a) ∧
  (∀ (k0_h12 : k0_cond12 v18 k0_t6 k0_t8 = 1#1), ∀ a, (k0_off172 v167) a + S1x16.size a ≤ S512x128.size a) ∧
  (∀ (k0_h12 : k0_cond12 v18 k0_t6 k0_t8 = 1#1), ∀ a, (k0_off174 v167) a + S1x16.size a ≤ S512x128.size a) ∧
  (∀ (k0_h12 : k0_cond12 v18 k0_t6 k0_t8 = 1#1), ∀ a, (k0_off176 v167) a + S1x16.size a ≤ S512x128.size a) ∧
  (∀ (k0_h12 : k0_cond12 v18 k0_t6 k0_t8 = 1#1), ∀ a, (k0_off178 v167) a + S1x16.size a ≤ S512x128.size a) ∧
  (∀ (k0_h12 : k0_cond12 v18 k0_t6 k0_t8 = 1#1), ∀ a, (k0_off180 v167) a + S1x16.size a ≤ S512x128.size a) ∧
  (∀ (k0_h12 : k0_cond12 v18 k0_t6 k0_t8 = 1#1), ∀ a, (k0_off182 v167) a + S1x16.size a ≤ S512x128.size a)
theorem k0_off168_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off168 v167) a + S1x16.size a ≤ S512x128.size a := fun v18 k0_t6 k0_t8 v167 k0_hw13 k0_h12 => k0_hw13.1 k0_h12
theorem k0_off170_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off170 v167) a + S1x16.size a ≤ S512x128.size a := fun v18 k0_t6 k0_t8 v167 k0_hw13 k0_h12 => k0_hw13.2.1 k0_h12
theorem k0_off172_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off172 v167) a + S1x16.size a ≤ S512x128.size a := fun v18 k0_t6 k0_t8 v167 k0_hw13 k0_h12 => k0_hw13.2.2.1 k0_h12
theorem k0_off174_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off174 v167) a + S1x16.size a ≤ S512x128.size a := fun v18 k0_t6 k0_t8 v167 k0_hw13 k0_h12 => k0_hw13.2.2.2.1 k0_h12
theorem k0_off176_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off176 v167) a + S1x16.size a ≤ S512x128.size a := fun v18 k0_t6 k0_t8 v167 k0_hw13 k0_h12 => k0_hw13.2.2.2.2.1 k0_h12
theorem k0_off178_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off178 v167) a + S1x16.size a ≤ S512x128.size a := fun v18 k0_t6 k0_t8 v167 k0_hw13 k0_h12 => k0_hw13.2.2.2.2.2.1 k0_h12
theorem k0_off180_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off180 v167) a + S1x16.size a ≤ S512x128.size a := fun v18 k0_t6 k0_t8 v167 k0_hw13 k0_h12 => k0_hw13.2.2.2.2.2.2.1 k0_h12
theorem k0_off182_inb : ∀ (v18 : BitVec 32) (k0_t6 : Fin (k0_t6_loop v18).trips) (k0_t8 : Fin k0_t8_loop.trips) (v167 : BitVec 32) (k0_hw13 : k0_chk13 v18 k0_t6 k0_t8 v167), ∀ (k0_h12 : k0_cond12 v18 k0_t6 k0_t8 = 1#1), ∀ a, (k0_off182 v167) a + S1x16.size a ≤ S512x128.size a := fun v18 k0_t6 k0_t8 v167 k0_hw13 k0_h12 => k0_hw13.2.2.2.2.2.2.2 k0_h12

def k0_off183 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c10_i32_136 : BitVec 32 := 10#32
  let v234 : BitVec 32 := Scalar.addi v233 c10_i32_136
  let v235 : Index := Scalar.indexCast v234
  let c112_137 : Index := 112#32
  ![v235.toNat, 112]
def k0_off184 (v167 : BitVec 32) : Fin 2 → Nat :=
  let v168 : Index := Scalar.indexCast v167
  let c0 : Index := 0#32
  ![v168.toNat, 0]
def k0_cond13 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_91 : BitVec 32 := 128#32
  let v131 : BitVec 32 := Scalar.muli arg17 c128_i32_91
  let c0_i32_47 : BitVec 32 := 0#32
  let c1_i32_49 : BitVec 32 := 1#32
  let arg19 : BitVec 32 := Scf.iv c0_i32_47 c1_i32_49 k0_t8
  let c16_i32_92 : BitVec 32 := 16#32
  let v132 : BitVec 32 := Scalar.muli arg19 c16_i32_92
  let v133 : BitVec 32 := Scalar.addi v131 v132
  let c11_i32 : BitVec 32 := 11#32
  let v134 : BitVec 32 := Scalar.addi v133 c11_i32
  let v135 : BitVec 1 := Scalar.cmpi .slt v134 v18
  let v136 : BitVec 32 := Scalar.extui v135
  let c0_i32_93 : BitVec 32 := 0#32
  let v137 : BitVec 1 := Scalar.cmpi .ne v136 c0_i32_93
  v137

def k0_off185 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c11_i32_108 : BitVec 32 := 11#32
  let v171 : BitVec 32 := Scalar.addi v170 c11_i32_108
  let v172 : Index := Scalar.indexCast v171
  let c0_109 : Index := 0#32
  ![v172.toNat, 0]
def k0_off186 (v167 : BitVec 32) : Fin 2 → Nat :=
  let v177 : Index := Scalar.indexCast v167
  let c16 : Index := 16#32
  ![v177.toNat, 16]
def k0_off187 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c11_i32_112 : BitVec 32 := 11#32
  let v180 : BitVec 32 := Scalar.addi v179 c11_i32_112
  let v181 : Index := Scalar.indexCast v180
  let c16_113 : Index := 16#32
  ![v181.toNat, 16]
def k0_off188 (v167 : BitVec 32) : Fin 2 → Nat :=
  let v186 : Index := Scalar.indexCast v167
  let c32 : Index := 32#32
  ![v186.toNat, 32]
def k0_off189 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c11_i32_116 : BitVec 32 := 11#32
  let v189 : BitVec 32 := Scalar.addi v188 c11_i32_116
  let v190 : Index := Scalar.indexCast v189
  let c32_117 : Index := 32#32
  ![v190.toNat, 32]
def k0_off190 (v167 : BitVec 32) : Fin 2 → Nat :=
  let v195 : Index := Scalar.indexCast v167
  let c48 : Index := 48#32
  ![v195.toNat, 48]
def k0_off191 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c11_i32_120 : BitVec 32 := 11#32
  let v198 : BitVec 32 := Scalar.addi v197 c11_i32_120
  let v199 : Index := Scalar.indexCast v198
  let c48_121 : Index := 48#32
  ![v199.toNat, 48]
def k0_off192 (v167 : BitVec 32) : Fin 2 → Nat :=
  let v204 : Index := Scalar.indexCast v167
  let c64 : Index := 64#32
  ![v204.toNat, 64]
def k0_off193 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c11_i32_124 : BitVec 32 := 11#32
  let v207 : BitVec 32 := Scalar.addi v206 c11_i32_124
  let v208 : Index := Scalar.indexCast v207
  let c64_125 : Index := 64#32
  ![v208.toNat, 64]
def k0_off194 (v167 : BitVec 32) : Fin 2 → Nat :=
  let v213 : Index := Scalar.indexCast v167
  let c80 : Index := 80#32
  ![v213.toNat, 80]
def k0_off195 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c11_i32_128 : BitVec 32 := 11#32
  let v216 : BitVec 32 := Scalar.addi v215 c11_i32_128
  let v217 : Index := Scalar.indexCast v216
  let c80_129 : Index := 80#32
  ![v217.toNat, 80]
def k0_off196 (v167 : BitVec 32) : Fin 2 → Nat :=
  let v222 : Index := Scalar.indexCast v167
  let c96 : Index := 96#32
  ![v222.toNat, 96]
def k0_off197 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c11_i32_132 : BitVec 32 := 11#32
  let v225 : BitVec 32 := Scalar.addi v224 c11_i32_132
  let v226 : Index := Scalar.indexCast v225
  let c96_133 : Index := 96#32
  ![v226.toNat, 96]
def k0_off198 (v167 : BitVec 32) : Fin 2 → Nat :=
  let v231 : Index := Scalar.indexCast v167
  let c112 : Index := 112#32
  ![v231.toNat, 112]

def k0_chk14 (v18 : BitVec 32) (k0_t6 : Fin (k0_t6_loop v18).trips) (k0_t8 : Fin k0_t8_loop.trips) (v167 : BitVec 32) : Prop :=
  (∀ (k0_h13 : k0_cond13 v18 k0_t6 k0_t8 = 1#1), ∀ a, (k0_off184 v167) a + S1x16.size a ≤ S512x128.size a) ∧
  (∀ (k0_h13 : k0_cond13 v18 k0_t6 k0_t8 = 1#1), ∀ a, (k0_off186 v167) a + S1x16.size a ≤ S512x128.size a) ∧
  (∀ (k0_h13 : k0_cond13 v18 k0_t6 k0_t8 = 1#1), ∀ a, (k0_off188 v167) a + S1x16.size a ≤ S512x128.size a) ∧
  (∀ (k0_h13 : k0_cond13 v18 k0_t6 k0_t8 = 1#1), ∀ a, (k0_off190 v167) a + S1x16.size a ≤ S512x128.size a) ∧
  (∀ (k0_h13 : k0_cond13 v18 k0_t6 k0_t8 = 1#1), ∀ a, (k0_off192 v167) a + S1x16.size a ≤ S512x128.size a) ∧
  (∀ (k0_h13 : k0_cond13 v18 k0_t6 k0_t8 = 1#1), ∀ a, (k0_off194 v167) a + S1x16.size a ≤ S512x128.size a) ∧
  (∀ (k0_h13 : k0_cond13 v18 k0_t6 k0_t8 = 1#1), ∀ a, (k0_off196 v167) a + S1x16.size a ≤ S512x128.size a) ∧
  (∀ (k0_h13 : k0_cond13 v18 k0_t6 k0_t8 = 1#1), ∀ a, (k0_off198 v167) a + S1x16.size a ≤ S512x128.size a)
theorem k0_off184_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off184 v167) a + S1x16.size a ≤ S512x128.size a := fun v18 k0_t6 k0_t8 v167 k0_hw14 k0_h13 => k0_hw14.1 k0_h13
theorem k0_off186_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off186 v167) a + S1x16.size a ≤ S512x128.size a := fun v18 k0_t6 k0_t8 v167 k0_hw14 k0_h13 => k0_hw14.2.1 k0_h13
theorem k0_off188_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off188 v167) a + S1x16.size a ≤ S512x128.size a := fun v18 k0_t6 k0_t8 v167 k0_hw14 k0_h13 => k0_hw14.2.2.1 k0_h13
theorem k0_off190_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off190 v167) a + S1x16.size a ≤ S512x128.size a := fun v18 k0_t6 k0_t8 v167 k0_hw14 k0_h13 => k0_hw14.2.2.2.1 k0_h13
theorem k0_off192_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off192 v167) a + S1x16.size a ≤ S512x128.size a := fun v18 k0_t6 k0_t8 v167 k0_hw14 k0_h13 => k0_hw14.2.2.2.2.1 k0_h13
theorem k0_off194_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off194 v167) a + S1x16.size a ≤ S512x128.size a := fun v18 k0_t6 k0_t8 v167 k0_hw14 k0_h13 => k0_hw14.2.2.2.2.2.1 k0_h13
theorem k0_off196_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off196 v167) a + S1x16.size a ≤ S512x128.size a := fun v18 k0_t6 k0_t8 v167 k0_hw14 k0_h13 => k0_hw14.2.2.2.2.2.2.1 k0_h13
theorem k0_off198_inb : ∀ (v18 : BitVec 32) (k0_t6 : Fin (k0_t6_loop v18).trips) (k0_t8 : Fin k0_t8_loop.trips) (v167 : BitVec 32) (k0_hw14 : k0_chk14 v18 k0_t6 k0_t8 v167), ∀ (k0_h13 : k0_cond13 v18 k0_t6 k0_t8 = 1#1), ∀ a, (k0_off198 v167) a + S1x16.size a ≤ S512x128.size a := fun v18 k0_t6 k0_t8 v167 k0_hw14 k0_h13 => k0_hw14.2.2.2.2.2.2.2 k0_h13

def k0_off199 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c11_i32_136 : BitVec 32 := 11#32
  let v234 : BitVec 32 := Scalar.addi v233 c11_i32_136
  let v235 : Index := Scalar.indexCast v234
  let c112_137 : Index := 112#32
  ![v235.toNat, 112]
def k0_off200 (v167 : BitVec 32) : Fin 2 → Nat :=
  let v168 : Index := Scalar.indexCast v167
  let c0 : Index := 0#32
  ![v168.toNat, 0]
def k0_cond14 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_94 : BitVec 32 := 128#32
  let v138 : BitVec 32 := Scalar.muli arg17 c128_i32_94
  let c0_i32_47 : BitVec 32 := 0#32
  let c1_i32_49 : BitVec 32 := 1#32
  let arg19 : BitVec 32 := Scf.iv c0_i32_47 c1_i32_49 k0_t8
  let c16_i32_95 : BitVec 32 := 16#32
  let v139 : BitVec 32 := Scalar.muli arg19 c16_i32_95
  let v140 : BitVec 32 := Scalar.addi v138 v139
  let c12_i32 : BitVec 32 := 12#32
  let v141 : BitVec 32 := Scalar.addi v140 c12_i32
  let v142 : BitVec 1 := Scalar.cmpi .slt v141 v18
  let v143 : BitVec 32 := Scalar.extui v142
  let c0_i32_96 : BitVec 32 := 0#32
  let v144 : BitVec 1 := Scalar.cmpi .ne v143 c0_i32_96
  v144

def k0_off201 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c12_i32_108 : BitVec 32 := 12#32
  let v171 : BitVec 32 := Scalar.addi v170 c12_i32_108
  let v172 : Index := Scalar.indexCast v171
  let c0_109 : Index := 0#32
  ![v172.toNat, 0]
def k0_off202 (v167 : BitVec 32) : Fin 2 → Nat :=
  let v177 : Index := Scalar.indexCast v167
  let c16 : Index := 16#32
  ![v177.toNat, 16]
def k0_off203 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c12_i32_112 : BitVec 32 := 12#32
  let v180 : BitVec 32 := Scalar.addi v179 c12_i32_112
  let v181 : Index := Scalar.indexCast v180
  let c16_113 : Index := 16#32
  ![v181.toNat, 16]
def k0_off204 (v167 : BitVec 32) : Fin 2 → Nat :=
  let v186 : Index := Scalar.indexCast v167
  let c32 : Index := 32#32
  ![v186.toNat, 32]
def k0_off205 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c12_i32_116 : BitVec 32 := 12#32
  let v189 : BitVec 32 := Scalar.addi v188 c12_i32_116
  let v190 : Index := Scalar.indexCast v189
  let c32_117 : Index := 32#32
  ![v190.toNat, 32]
def k0_off206 (v167 : BitVec 32) : Fin 2 → Nat :=
  let v195 : Index := Scalar.indexCast v167
  let c48 : Index := 48#32
  ![v195.toNat, 48]
def k0_off207 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c12_i32_120 : BitVec 32 := 12#32
  let v198 : BitVec 32 := Scalar.addi v197 c12_i32_120
  let v199 : Index := Scalar.indexCast v198
  let c48_121 : Index := 48#32
  ![v199.toNat, 48]
def k0_off208 (v167 : BitVec 32) : Fin 2 → Nat :=
  let v204 : Index := Scalar.indexCast v167
  let c64 : Index := 64#32
  ![v204.toNat, 64]
def k0_off209 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c12_i32_124 : BitVec 32 := 12#32
  let v207 : BitVec 32 := Scalar.addi v206 c12_i32_124
  let v208 : Index := Scalar.indexCast v207
  let c64_125 : Index := 64#32
  ![v208.toNat, 64]
def k0_off210 (v167 : BitVec 32) : Fin 2 → Nat :=
  let v213 : Index := Scalar.indexCast v167
  let c80 : Index := 80#32
  ![v213.toNat, 80]
def k0_off211 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c12_i32_128 : BitVec 32 := 12#32
  let v216 : BitVec 32 := Scalar.addi v215 c12_i32_128
  let v217 : Index := Scalar.indexCast v216
  let c80_129 : Index := 80#32
  ![v217.toNat, 80]
def k0_off212 (v167 : BitVec 32) : Fin 2 → Nat :=
  let v222 : Index := Scalar.indexCast v167
  let c96 : Index := 96#32
  ![v222.toNat, 96]
def k0_off213 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c12_i32_132 : BitVec 32 := 12#32
  let v225 : BitVec 32 := Scalar.addi v224 c12_i32_132
  let v226 : Index := Scalar.indexCast v225
  let c96_133 : Index := 96#32
  ![v226.toNat, 96]
def k0_off214 (v167 : BitVec 32) : Fin 2 → Nat :=
  let v231 : Index := Scalar.indexCast v167
  let c112 : Index := 112#32
  ![v231.toNat, 112]

def k0_chk15 (v18 : BitVec 32) (k0_t6 : Fin (k0_t6_loop v18).trips) (k0_t8 : Fin k0_t8_loop.trips) (v167 : BitVec 32) : Prop :=
  (∀ (k0_h14 : k0_cond14 v18 k0_t6 k0_t8 = 1#1), ∀ a, (k0_off200 v167) a + S1x16.size a ≤ S512x128.size a) ∧
  (∀ (k0_h14 : k0_cond14 v18 k0_t6 k0_t8 = 1#1), ∀ a, (k0_off202 v167) a + S1x16.size a ≤ S512x128.size a) ∧
  (∀ (k0_h14 : k0_cond14 v18 k0_t6 k0_t8 = 1#1), ∀ a, (k0_off204 v167) a + S1x16.size a ≤ S512x128.size a) ∧
  (∀ (k0_h14 : k0_cond14 v18 k0_t6 k0_t8 = 1#1), ∀ a, (k0_off206 v167) a + S1x16.size a ≤ S512x128.size a) ∧
  (∀ (k0_h14 : k0_cond14 v18 k0_t6 k0_t8 = 1#1), ∀ a, (k0_off208 v167) a + S1x16.size a ≤ S512x128.size a) ∧
  (∀ (k0_h14 : k0_cond14 v18 k0_t6 k0_t8 = 1#1), ∀ a, (k0_off210 v167) a + S1x16.size a ≤ S512x128.size a) ∧
  (∀ (k0_h14 : k0_cond14 v18 k0_t6 k0_t8 = 1#1), ∀ a, (k0_off212 v167) a + S1x16.size a ≤ S512x128.size a) ∧
  (∀ (k0_h14 : k0_cond14 v18 k0_t6 k0_t8 = 1#1), ∀ a, (k0_off214 v167) a + S1x16.size a ≤ S512x128.size a)
theorem k0_off200_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off200 v167) a + S1x16.size a ≤ S512x128.size a := fun v18 k0_t6 k0_t8 v167 k0_hw15 k0_h14 => k0_hw15.1 k0_h14
theorem k0_off202_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off202 v167) a + S1x16.size a ≤ S512x128.size a := fun v18 k0_t6 k0_t8 v167 k0_hw15 k0_h14 => k0_hw15.2.1 k0_h14
theorem k0_off204_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off204 v167) a + S1x16.size a ≤ S512x128.size a := fun v18 k0_t6 k0_t8 v167 k0_hw15 k0_h14 => k0_hw15.2.2.1 k0_h14
theorem k0_off206_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off206 v167) a + S1x16.size a ≤ S512x128.size a := fun v18 k0_t6 k0_t8 v167 k0_hw15 k0_h14 => k0_hw15.2.2.2.1 k0_h14
theorem k0_off208_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off208 v167) a + S1x16.size a ≤ S512x128.size a := fun v18 k0_t6 k0_t8 v167 k0_hw15 k0_h14 => k0_hw15.2.2.2.2.1 k0_h14
theorem k0_off210_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off210 v167) a + S1x16.size a ≤ S512x128.size a := fun v18 k0_t6 k0_t8 v167 k0_hw15 k0_h14 => k0_hw15.2.2.2.2.2.1 k0_h14
theorem k0_off212_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off212 v167) a + S1x16.size a ≤ S512x128.size a := fun v18 k0_t6 k0_t8 v167 k0_hw15 k0_h14 => k0_hw15.2.2.2.2.2.2.1 k0_h14
theorem k0_off214_inb : ∀ (v18 : BitVec 32) (k0_t6 : Fin (k0_t6_loop v18).trips) (k0_t8 : Fin k0_t8_loop.trips) (v167 : BitVec 32) (k0_hw15 : k0_chk15 v18 k0_t6 k0_t8 v167), ∀ (k0_h14 : k0_cond14 v18 k0_t6 k0_t8 = 1#1), ∀ a, (k0_off214 v167) a + S1x16.size a ≤ S512x128.size a := fun v18 k0_t6 k0_t8 v167 k0_hw15 k0_h14 => k0_hw15.2.2.2.2.2.2.2 k0_h14

def k0_off215 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c12_i32_136 : BitVec 32 := 12#32
  let v234 : BitVec 32 := Scalar.addi v233 c12_i32_136
  let v235 : Index := Scalar.indexCast v234
  let c112_137 : Index := 112#32
  ![v235.toNat, 112]
def k0_off216 (v167 : BitVec 32) : Fin 2 → Nat :=
  let v168 : Index := Scalar.indexCast v167
  let c0 : Index := 0#32
  ![v168.toNat, 0]
def k0_cond15 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_97 : BitVec 32 := 128#32
  let v145 : BitVec 32 := Scalar.muli arg17 c128_i32_97
  let c0_i32_47 : BitVec 32 := 0#32
  let c1_i32_49 : BitVec 32 := 1#32
  let arg19 : BitVec 32 := Scf.iv c0_i32_47 c1_i32_49 k0_t8
  let c16_i32_98 : BitVec 32 := 16#32
  let v146 : BitVec 32 := Scalar.muli arg19 c16_i32_98
  let v147 : BitVec 32 := Scalar.addi v145 v146
  let c13_i32 : BitVec 32 := 13#32
  let v148 : BitVec 32 := Scalar.addi v147 c13_i32
  let v149 : BitVec 1 := Scalar.cmpi .slt v148 v18
  let v150 : BitVec 32 := Scalar.extui v149
  let c0_i32_99 : BitVec 32 := 0#32
  let v151 : BitVec 1 := Scalar.cmpi .ne v150 c0_i32_99
  v151

def k0_off217 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c13_i32_108 : BitVec 32 := 13#32
  let v171 : BitVec 32 := Scalar.addi v170 c13_i32_108
  let v172 : Index := Scalar.indexCast v171
  let c0_109 : Index := 0#32
  ![v172.toNat, 0]
def k0_off218 (v167 : BitVec 32) : Fin 2 → Nat :=
  let v177 : Index := Scalar.indexCast v167
  let c16 : Index := 16#32
  ![v177.toNat, 16]
def k0_off219 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c13_i32_112 : BitVec 32 := 13#32
  let v180 : BitVec 32 := Scalar.addi v179 c13_i32_112
  let v181 : Index := Scalar.indexCast v180
  let c16_113 : Index := 16#32
  ![v181.toNat, 16]
def k0_off220 (v167 : BitVec 32) : Fin 2 → Nat :=
  let v186 : Index := Scalar.indexCast v167
  let c32 : Index := 32#32
  ![v186.toNat, 32]
def k0_off221 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c13_i32_116 : BitVec 32 := 13#32
  let v189 : BitVec 32 := Scalar.addi v188 c13_i32_116
  let v190 : Index := Scalar.indexCast v189
  let c32_117 : Index := 32#32
  ![v190.toNat, 32]
def k0_off222 (v167 : BitVec 32) : Fin 2 → Nat :=
  let v195 : Index := Scalar.indexCast v167
  let c48 : Index := 48#32
  ![v195.toNat, 48]
def k0_off223 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c13_i32_120 : BitVec 32 := 13#32
  let v198 : BitVec 32 := Scalar.addi v197 c13_i32_120
  let v199 : Index := Scalar.indexCast v198
  let c48_121 : Index := 48#32
  ![v199.toNat, 48]
def k0_off224 (v167 : BitVec 32) : Fin 2 → Nat :=
  let v204 : Index := Scalar.indexCast v167
  let c64 : Index := 64#32
  ![v204.toNat, 64]
def k0_off225 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c13_i32_124 : BitVec 32 := 13#32
  let v207 : BitVec 32 := Scalar.addi v206 c13_i32_124
  let v208 : Index := Scalar.indexCast v207
  let c64_125 : Index := 64#32
  ![v208.toNat, 64]
def k0_off226 (v167 : BitVec 32) : Fin 2 → Nat :=
  let v213 : Index := Scalar.indexCast v167
  let c80 : Index := 80#32
  ![v213.toNat, 80]
def k0_off227 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c13_i32_128 : BitVec 32 := 13#32
  let v216 : BitVec 32 := Scalar.addi v215 c13_i32_128
  let v217 : Index := Scalar.indexCast v216
  let c80_129 : Index := 80#32
  ![v217.toNat, 80]
def k0_off228 (v167 : BitVec 32) : Fin 2 → Nat :=
  let v222 : Index := Scalar.indexCast v167
  let c96 : Index := 96#32
  ![v222.toNat, 96]
def k0_off229 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c13_i32_132 : BitVec 32 := 13#32
  let v225 : BitVec 32 := Scalar.addi v224 c13_i32_132
  let v226 : Index := Scalar.indexCast v225
  let c96_133 : Index := 96#32
  ![v226.toNat, 96]
def k0_off230 (v167 : BitVec 32) : Fin 2 → Nat :=
  let v231 : Index := Scalar.indexCast v167
  let c112 : Index := 112#32
  ![v231.toNat, 112]

def k0_chk16 (v18 : BitVec 32) (k0_t6 : Fin (k0_t6_loop v18).trips) (k0_t8 : Fin k0_t8_loop.trips) (v167 : BitVec 32) : Prop :=
  (∀ (k0_h15 : k0_cond15 v18 k0_t6 k0_t8 = 1#1), ∀ a, (k0_off216 v167) a + S1x16.size a ≤ S512x128.size a) ∧
  (∀ (k0_h15 : k0_cond15 v18 k0_t6 k0_t8 = 1#1), ∀ a, (k0_off218 v167) a + S1x16.size a ≤ S512x128.size a) ∧
  (∀ (k0_h15 : k0_cond15 v18 k0_t6 k0_t8 = 1#1), ∀ a, (k0_off220 v167) a + S1x16.size a ≤ S512x128.size a) ∧
  (∀ (k0_h15 : k0_cond15 v18 k0_t6 k0_t8 = 1#1), ∀ a, (k0_off222 v167) a + S1x16.size a ≤ S512x128.size a) ∧
  (∀ (k0_h15 : k0_cond15 v18 k0_t6 k0_t8 = 1#1), ∀ a, (k0_off224 v167) a + S1x16.size a ≤ S512x128.size a) ∧
  (∀ (k0_h15 : k0_cond15 v18 k0_t6 k0_t8 = 1#1), ∀ a, (k0_off226 v167) a + S1x16.size a ≤ S512x128.size a) ∧
  (∀ (k0_h15 : k0_cond15 v18 k0_t6 k0_t8 = 1#1), ∀ a, (k0_off228 v167) a + S1x16.size a ≤ S512x128.size a) ∧
  (∀ (k0_h15 : k0_cond15 v18 k0_t6 k0_t8 = 1#1), ∀ a, (k0_off230 v167) a + S1x16.size a ≤ S512x128.size a)
theorem k0_off216_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off216 v167) a + S1x16.size a ≤ S512x128.size a := fun v18 k0_t6 k0_t8 v167 k0_hw16 k0_h15 => k0_hw16.1 k0_h15
theorem k0_off218_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off218 v167) a + S1x16.size a ≤ S512x128.size a := fun v18 k0_t6 k0_t8 v167 k0_hw16 k0_h15 => k0_hw16.2.1 k0_h15
theorem k0_off220_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off220 v167) a + S1x16.size a ≤ S512x128.size a := fun v18 k0_t6 k0_t8 v167 k0_hw16 k0_h15 => k0_hw16.2.2.1 k0_h15
theorem k0_off222_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off222 v167) a + S1x16.size a ≤ S512x128.size a := fun v18 k0_t6 k0_t8 v167 k0_hw16 k0_h15 => k0_hw16.2.2.2.1 k0_h15
theorem k0_off224_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off224 v167) a + S1x16.size a ≤ S512x128.size a := fun v18 k0_t6 k0_t8 v167 k0_hw16 k0_h15 => k0_hw16.2.2.2.2.1 k0_h15
theorem k0_off226_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off226 v167) a + S1x16.size a ≤ S512x128.size a := fun v18 k0_t6 k0_t8 v167 k0_hw16 k0_h15 => k0_hw16.2.2.2.2.2.1 k0_h15
theorem k0_off228_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off228 v167) a + S1x16.size a ≤ S512x128.size a := fun v18 k0_t6 k0_t8 v167 k0_hw16 k0_h15 => k0_hw16.2.2.2.2.2.2.1 k0_h15
theorem k0_off230_inb : ∀ (v18 : BitVec 32) (k0_t6 : Fin (k0_t6_loop v18).trips) (k0_t8 : Fin k0_t8_loop.trips) (v167 : BitVec 32) (k0_hw16 : k0_chk16 v18 k0_t6 k0_t8 v167), ∀ (k0_h15 : k0_cond15 v18 k0_t6 k0_t8 = 1#1), ∀ a, (k0_off230 v167) a + S1x16.size a ≤ S512x128.size a := fun v18 k0_t6 k0_t8 v167 k0_hw16 k0_h15 => k0_hw16.2.2.2.2.2.2.2 k0_h15

def k0_off231 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c13_i32_136 : BitVec 32 := 13#32
  let v234 : BitVec 32 := Scalar.addi v233 c13_i32_136
  let v235 : Index := Scalar.indexCast v234
  let c112_137 : Index := 112#32
  ![v235.toNat, 112]
def k0_off232 (v167 : BitVec 32) : Fin 2 → Nat :=
  let v168 : Index := Scalar.indexCast v167
  let c0 : Index := 0#32
  ![v168.toNat, 0]
def k0_cond16 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_100 : BitVec 32 := 128#32
  let v152 : BitVec 32 := Scalar.muli arg17 c128_i32_100
  let c0_i32_47 : BitVec 32 := 0#32
  let c1_i32_49 : BitVec 32 := 1#32
  let arg19 : BitVec 32 := Scf.iv c0_i32_47 c1_i32_49 k0_t8
  let c16_i32_101 : BitVec 32 := 16#32
  let v153 : BitVec 32 := Scalar.muli arg19 c16_i32_101
  let v154 : BitVec 32 := Scalar.addi v152 v153
  let c14_i32 : BitVec 32 := 14#32
  let v155 : BitVec 32 := Scalar.addi v154 c14_i32
  let v156 : BitVec 1 := Scalar.cmpi .slt v155 v18
  let v157 : BitVec 32 := Scalar.extui v156
  let c0_i32_102 : BitVec 32 := 0#32
  let v158 : BitVec 1 := Scalar.cmpi .ne v157 c0_i32_102
  v158

def k0_off233 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c14_i32_108 : BitVec 32 := 14#32
  let v171 : BitVec 32 := Scalar.addi v170 c14_i32_108
  let v172 : Index := Scalar.indexCast v171
  let c0_109 : Index := 0#32
  ![v172.toNat, 0]
def k0_off234 (v167 : BitVec 32) : Fin 2 → Nat :=
  let v177 : Index := Scalar.indexCast v167
  let c16 : Index := 16#32
  ![v177.toNat, 16]
def k0_off235 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c14_i32_112 : BitVec 32 := 14#32
  let v180 : BitVec 32 := Scalar.addi v179 c14_i32_112
  let v181 : Index := Scalar.indexCast v180
  let c16_113 : Index := 16#32
  ![v181.toNat, 16]
def k0_off236 (v167 : BitVec 32) : Fin 2 → Nat :=
  let v186 : Index := Scalar.indexCast v167
  let c32 : Index := 32#32
  ![v186.toNat, 32]
def k0_off237 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c14_i32_116 : BitVec 32 := 14#32
  let v189 : BitVec 32 := Scalar.addi v188 c14_i32_116
  let v190 : Index := Scalar.indexCast v189
  let c32_117 : Index := 32#32
  ![v190.toNat, 32]
def k0_off238 (v167 : BitVec 32) : Fin 2 → Nat :=
  let v195 : Index := Scalar.indexCast v167
  let c48 : Index := 48#32
  ![v195.toNat, 48]
def k0_off239 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c14_i32_120 : BitVec 32 := 14#32
  let v198 : BitVec 32 := Scalar.addi v197 c14_i32_120
  let v199 : Index := Scalar.indexCast v198
  let c48_121 : Index := 48#32
  ![v199.toNat, 48]
def k0_off240 (v167 : BitVec 32) : Fin 2 → Nat :=
  let v204 : Index := Scalar.indexCast v167
  let c64 : Index := 64#32
  ![v204.toNat, 64]
def k0_off241 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c14_i32_124 : BitVec 32 := 14#32
  let v207 : BitVec 32 := Scalar.addi v206 c14_i32_124
  let v208 : Index := Scalar.indexCast v207
  let c64_125 : Index := 64#32
  ![v208.toNat, 64]
def k0_off242 (v167 : BitVec 32) : Fin 2 → Nat :=
  let v213 : Index := Scalar.indexCast v167
  let c80 : Index := 80#32
  ![v213.toNat, 80]
def k0_off243 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c14_i32_128 : BitVec 32 := 14#32
  let v216 : BitVec 32 := Scalar.addi v215 c14_i32_128
  let v217 : Index := Scalar.indexCast v216
  let c80_129 : Index := 80#32
  ![v217.toNat, 80]
def k0_off244 (v167 : BitVec 32) : Fin 2 → Nat :=
  let v222 : Index := Scalar.indexCast v167
  let c96 : Index := 96#32
  ![v222.toNat, 96]
def k0_off245 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c14_i32_132 : BitVec 32 := 14#32
  let v225 : BitVec 32 := Scalar.addi v224 c14_i32_132
  let v226 : Index := Scalar.indexCast v225
  let c96_133 : Index := 96#32
  ![v226.toNat, 96]
def k0_off246 (v167 : BitVec 32) : Fin 2 → Nat :=
  let v231 : Index := Scalar.indexCast v167
  let c112 : Index := 112#32
  ![v231.toNat, 112]

def k0_chk17 (v18 : BitVec 32) (k0_t6 : Fin (k0_t6_loop v18).trips) (k0_t8 : Fin k0_t8_loop.trips) (v167 : BitVec 32) : Prop :=
  (∀ (k0_h16 : k0_cond16 v18 k0_t6 k0_t8 = 1#1), ∀ a, (k0_off232 v167) a + S1x16.size a ≤ S512x128.size a) ∧
  (∀ (k0_h16 : k0_cond16 v18 k0_t6 k0_t8 = 1#1), ∀ a, (k0_off234 v167) a + S1x16.size a ≤ S512x128.size a) ∧
  (∀ (k0_h16 : k0_cond16 v18 k0_t6 k0_t8 = 1#1), ∀ a, (k0_off236 v167) a + S1x16.size a ≤ S512x128.size a) ∧
  (∀ (k0_h16 : k0_cond16 v18 k0_t6 k0_t8 = 1#1), ∀ a, (k0_off238 v167) a + S1x16.size a ≤ S512x128.size a) ∧
  (∀ (k0_h16 : k0_cond16 v18 k0_t6 k0_t8 = 1#1), ∀ a, (k0_off240 v167) a + S1x16.size a ≤ S512x128.size a) ∧
  (∀ (k0_h16 : k0_cond16 v18 k0_t6 k0_t8 = 1#1), ∀ a, (k0_off242 v167) a + S1x16.size a ≤ S512x128.size a) ∧
  (∀ (k0_h16 : k0_cond16 v18 k0_t6 k0_t8 = 1#1), ∀ a, (k0_off244 v167) a + S1x16.size a ≤ S512x128.size a) ∧
  (∀ (k0_h16 : k0_cond16 v18 k0_t6 k0_t8 = 1#1), ∀ a, (k0_off246 v167) a + S1x16.size a ≤ S512x128.size a)
theorem k0_off232_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off232 v167) a + S1x16.size a ≤ S512x128.size a := fun v18 k0_t6 k0_t8 v167 k0_hw17 k0_h16 => k0_hw17.1 k0_h16
theorem k0_off234_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off234 v167) a + S1x16.size a ≤ S512x128.size a := fun v18 k0_t6 k0_t8 v167 k0_hw17 k0_h16 => k0_hw17.2.1 k0_h16
theorem k0_off236_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off236 v167) a + S1x16.size a ≤ S512x128.size a := fun v18 k0_t6 k0_t8 v167 k0_hw17 k0_h16 => k0_hw17.2.2.1 k0_h16
theorem k0_off238_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off238 v167) a + S1x16.size a ≤ S512x128.size a := fun v18 k0_t6 k0_t8 v167 k0_hw17 k0_h16 => k0_hw17.2.2.2.1 k0_h16
theorem k0_off240_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off240 v167) a + S1x16.size a ≤ S512x128.size a := fun v18 k0_t6 k0_t8 v167 k0_hw17 k0_h16 => k0_hw17.2.2.2.2.1 k0_h16
theorem k0_off242_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off242 v167) a + S1x16.size a ≤ S512x128.size a := fun v18 k0_t6 k0_t8 v167 k0_hw17 k0_h16 => k0_hw17.2.2.2.2.2.1 k0_h16
theorem k0_off244_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off244 v167) a + S1x16.size a ≤ S512x128.size a := fun v18 k0_t6 k0_t8 v167 k0_hw17 k0_h16 => k0_hw17.2.2.2.2.2.2.1 k0_h16
theorem k0_off246_inb : ∀ (v18 : BitVec 32) (k0_t6 : Fin (k0_t6_loop v18).trips) (k0_t8 : Fin k0_t8_loop.trips) (v167 : BitVec 32) (k0_hw17 : k0_chk17 v18 k0_t6 k0_t8 v167), ∀ (k0_h16 : k0_cond16 v18 k0_t6 k0_t8 = 1#1), ∀ a, (k0_off246 v167) a + S1x16.size a ≤ S512x128.size a := fun v18 k0_t6 k0_t8 v167 k0_hw17 k0_h16 => k0_hw17.2.2.2.2.2.2.2 k0_h16

def k0_off247 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c14_i32_136 : BitVec 32 := 14#32
  let v234 : BitVec 32 := Scalar.addi v233 c14_i32_136
  let v235 : Index := Scalar.indexCast v234
  let c112_137 : Index := 112#32
  ![v235.toNat, 112]
def k0_off248 (v167 : BitVec 32) : Fin 2 → Nat :=
  let v168 : Index := Scalar.indexCast v167
  let c0 : Index := 0#32
  ![v168.toNat, 0]
def k0_cond17 (v18 : BitVec 32) (k0_t6 : Fin (k0_t6_loop v18).trips) (k0_t8 : Fin k0_t8_loop.trips) : BitVec 1 :=
  let c0_i32_32 : BitVec 32 := 0#32
  let c1_i32_35 : BitVec 32 := 1#32
  let arg17 : BitVec 32 := Scf.iv c0_i32_32 c1_i32_35 k0_t6
  let c128_i32_103 : BitVec 32 := 128#32
  let v159 : BitVec 32 := Scalar.muli arg17 c128_i32_103
  let c0_i32_47 : BitVec 32 := 0#32
  let c1_i32_49 : BitVec 32 := 1#32
  let arg19 : BitVec 32 := Scf.iv c0_i32_47 c1_i32_49 k0_t8
  let c16_i32_104 : BitVec 32 := 16#32
  let v160 : BitVec 32 := Scalar.muli arg19 c16_i32_104
  let v161 : BitVec 32 := Scalar.addi v159 v160
  let c15_i32 : BitVec 32 := 15#32
  let v162 : BitVec 32 := Scalar.addi v161 c15_i32
  let v163 : BitVec 1 := Scalar.cmpi .slt v162 v18
  let v164 : BitVec 32 := Scalar.extui v163
  let c0_i32_105 : BitVec 32 := 0#32
  let v165 : BitVec 1 := Scalar.cmpi .ne v164 c0_i32_105
  v165

def k0_off249 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_107 : BitVec 32 := 16#32
  let v170 : BitVec 32 := Scalar.muli arg19 c16_i32_107
  let c15_i32_108 : BitVec 32 := 15#32
  let v171 : BitVec 32 := Scalar.addi v170 c15_i32_108
  let v172 : Index := Scalar.indexCast v171
  let c0_109 : Index := 0#32
  ![v172.toNat, 0]
def k0_off250 (v167 : BitVec 32) : Fin 2 → Nat :=
  let v177 : Index := Scalar.indexCast v167
  let c16 : Index := 16#32
  ![v177.toNat, 16]
def k0_off251 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_111 : BitVec 32 := 16#32
  let v179 : BitVec 32 := Scalar.muli arg19 c16_i32_111
  let c15_i32_112 : BitVec 32 := 15#32
  let v180 : BitVec 32 := Scalar.addi v179 c15_i32_112
  let v181 : Index := Scalar.indexCast v180
  let c16_113 : Index := 16#32
  ![v181.toNat, 16]
def k0_off252 (v167 : BitVec 32) : Fin 2 → Nat :=
  let v186 : Index := Scalar.indexCast v167
  let c32 : Index := 32#32
  ![v186.toNat, 32]
def k0_off253 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_115 : BitVec 32 := 16#32
  let v188 : BitVec 32 := Scalar.muli arg19 c16_i32_115
  let c15_i32_116 : BitVec 32 := 15#32
  let v189 : BitVec 32 := Scalar.addi v188 c15_i32_116
  let v190 : Index := Scalar.indexCast v189
  let c32_117 : Index := 32#32
  ![v190.toNat, 32]
def k0_off254 (v167 : BitVec 32) : Fin 2 → Nat :=
  let v195 : Index := Scalar.indexCast v167
  let c48 : Index := 48#32
  ![v195.toNat, 48]
def k0_off255 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_119 : BitVec 32 := 16#32
  let v197 : BitVec 32 := Scalar.muli arg19 c16_i32_119
  let c15_i32_120 : BitVec 32 := 15#32
  let v198 : BitVec 32 := Scalar.addi v197 c15_i32_120
  let v199 : Index := Scalar.indexCast v198
  let c48_121 : Index := 48#32
  ![v199.toNat, 48]
def k0_off256 (v167 : BitVec 32) : Fin 2 → Nat :=
  let v204 : Index := Scalar.indexCast v167
  let c64 : Index := 64#32
  ![v204.toNat, 64]
def k0_off257 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_123 : BitVec 32 := 16#32
  let v206 : BitVec 32 := Scalar.muli arg19 c16_i32_123
  let c15_i32_124 : BitVec 32 := 15#32
  let v207 : BitVec 32 := Scalar.addi v206 c15_i32_124
  let v208 : Index := Scalar.indexCast v207
  let c64_125 : Index := 64#32
  ![v208.toNat, 64]
def k0_off258 (v167 : BitVec 32) : Fin 2 → Nat :=
  let v213 : Index := Scalar.indexCast v167
  let c80 : Index := 80#32
  ![v213.toNat, 80]
def k0_off259 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_127 : BitVec 32 := 16#32
  let v215 : BitVec 32 := Scalar.muli arg19 c16_i32_127
  let c15_i32_128 : BitVec 32 := 15#32
  let v216 : BitVec 32 := Scalar.addi v215 c15_i32_128
  let v217 : Index := Scalar.indexCast v216
  let c80_129 : Index := 80#32
  ![v217.toNat, 80]
def k0_off260 (v167 : BitVec 32) : Fin 2 → Nat :=
  let v222 : Index := Scalar.indexCast v167
  let c96 : Index := 96#32
  ![v222.toNat, 96]
def k0_off261 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_131 : BitVec 32 := 16#32
  let v224 : BitVec 32 := Scalar.muli arg19 c16_i32_131
  let c15_i32_132 : BitVec 32 := 15#32
  let v225 : BitVec 32 := Scalar.addi v224 c15_i32_132
  let v226 : Index := Scalar.indexCast v225
  let c96_133 : Index := 96#32
  ![v226.toNat, 96]
def k0_off262 (v167 : BitVec 32) : Fin 2 → Nat :=
  let v231 : Index := Scalar.indexCast v167
  let c112 : Index := 112#32
  ![v231.toNat, 112]

def k0_chk18 (v18 : BitVec 32) (k0_t6 : Fin (k0_t6_loop v18).trips) (k0_t8 : Fin k0_t8_loop.trips) (v167 : BitVec 32) : Prop :=
  (∀ (k0_h17 : k0_cond17 v18 k0_t6 k0_t8 = 1#1), ∀ a, (k0_off248 v167) a + S1x16.size a ≤ S512x128.size a) ∧
  (∀ (k0_h17 : k0_cond17 v18 k0_t6 k0_t8 = 1#1), ∀ a, (k0_off250 v167) a + S1x16.size a ≤ S512x128.size a) ∧
  (∀ (k0_h17 : k0_cond17 v18 k0_t6 k0_t8 = 1#1), ∀ a, (k0_off252 v167) a + S1x16.size a ≤ S512x128.size a) ∧
  (∀ (k0_h17 : k0_cond17 v18 k0_t6 k0_t8 = 1#1), ∀ a, (k0_off254 v167) a + S1x16.size a ≤ S512x128.size a) ∧
  (∀ (k0_h17 : k0_cond17 v18 k0_t6 k0_t8 = 1#1), ∀ a, (k0_off256 v167) a + S1x16.size a ≤ S512x128.size a) ∧
  (∀ (k0_h17 : k0_cond17 v18 k0_t6 k0_t8 = 1#1), ∀ a, (k0_off258 v167) a + S1x16.size a ≤ S512x128.size a) ∧
  (∀ (k0_h17 : k0_cond17 v18 k0_t6 k0_t8 = 1#1), ∀ a, (k0_off260 v167) a + S1x16.size a ≤ S512x128.size a) ∧
  (∀ (k0_h17 : k0_cond17 v18 k0_t6 k0_t8 = 1#1), ∀ a, (k0_off262 v167) a + S1x16.size a ≤ S512x128.size a)
theorem k0_off248_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off248 v167) a + S1x16.size a ≤ S512x128.size a := fun v18 k0_t6 k0_t8 v167 k0_hw18 k0_h17 => k0_hw18.1 k0_h17
theorem k0_off250_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off250 v167) a + S1x16.size a ≤ S512x128.size a := fun v18 k0_t6 k0_t8 v167 k0_hw18 k0_h17 => k0_hw18.2.1 k0_h17
theorem k0_off252_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off252 v167) a + S1x16.size a ≤ S512x128.size a := fun v18 k0_t6 k0_t8 v167 k0_hw18 k0_h17 => k0_hw18.2.2.1 k0_h17
theorem k0_off254_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off254 v167) a + S1x16.size a ≤ S512x128.size a := fun v18 k0_t6 k0_t8 v167 k0_hw18 k0_h17 => k0_hw18.2.2.2.1 k0_h17
theorem k0_off256_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off256 v167) a + S1x16.size a ≤ S512x128.size a := fun v18 k0_t6 k0_t8 v167 k0_hw18 k0_h17 => k0_hw18.2.2.2.2.1 k0_h17
theorem k0_off258_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off258 v167) a + S1x16.size a ≤ S512x128.size a := fun v18 k0_t6 k0_t8 v167 k0_hw18 k0_h17 => k0_hw18.2.2.2.2.2.1 k0_h17
theorem k0_off260_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off260 v167) a + S1x16.size a ≤ S512x128.size a := fun v18 k0_t6 k0_t8 v167 k0_hw18 k0_h17 => k0_hw18.2.2.2.2.2.2.1 k0_h17
theorem k0_off262_inb : ∀ (v18 : BitVec 32) (k0_t6 : Fin (k0_t6_loop v18).trips) (k0_t8 : Fin k0_t8_loop.trips) (v167 : BitVec 32) (k0_hw18 : k0_chk18 v18 k0_t6 k0_t8 v167), ∀ (k0_h17 : k0_cond17 v18 k0_t6 k0_t8 = 1#1), ∀ a, (k0_off262 v167) a + S1x16.size a ≤ S512x128.size a := fun v18 k0_t6 k0_t8 v167 k0_hw18 k0_h17 => k0_hw18.2.2.2.2.2.2.2 k0_h17

def k0_off263 (k0_t8 : Fin k0_t8_loop.trips) : Fin 2 → Nat :=
  let c0_i32_47 : BitVec 32 := 0#32
  let c1_i32_49 : BitVec 32 := 1#32
  let arg19 : BitVec 32 := Scf.iv c0_i32_47 c1_i32_49 k0_t8
  let c16_i32_135 : BitVec 32 := 16#32
  let v233 : BitVec 32 := Scalar.muli arg19 c16_i32_135
  let c15_i32_136 : BitVec 32 := 15#32
  let v234 : BitVec 32 := Scalar.addi v233 c15_i32_136
  let v235 : Index := Scalar.indexCast v234
  let c112_137 : Index := 112#32
  ![v235.toNat, 112]
@[reducible] def k0_t9_loop (v18 : BitVec 32) : Scf.Loop 32 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let v39 : BitVec 32 := Scalar.addi c0_i32_32 v38
  let c1_i32_36 : BitVec 32 := 1#32
  ⟨v42, v39, c1_i32_36⟩
@[reducible] def k0_t10_loop : Scf.Loop 32 :=
  let c0_i32_39 : BitVec 32 := 0#32
  let c8_i32 : BitVec 32 := 8#32
  let v45 : BitVec 32 := Scalar.addi c0_i32_39 c8_i32
  let c1_i32_40 : BitVec 32 := 1#32
  ⟨c0_i32_39, v45, c1_i32_40⟩
def k0_off264 (v18 : BitVec 32) (k0_t9 : Fin (k0_t9_loop v18).trips) (k0_t10 : Fin k0_t10_loop.trips) : Fin 1 → Nat :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_52 : BitVec 32 := 128#32
  let v51 : BitVec 32 := Scalar.muli arg17 c128_i32_52
  let c0_i32_39 : BitVec 32 := 0#32
  let c1_i32_40 : BitVec 32 := 1#32
  let arg19 : BitVec 32 := Scf.iv c0_i32_39 c1_i32_40 k0_t10
  let c16_i32 : BitVec 32 := 16#32
  let v52 : BitVec 32 := Scalar.muli arg19 c16_i32
  let v53 : BitVec 32 := Scalar.addi v51 v52
  let v54 : Index := Scalar.indexCast v53
  ![v54.toNat]

def k0_chk2 (v18 : BitVec 32) : Prop :=
  ((k0_t6_loop v18).OK) ∧
  (∀ (k0_t6 : Fin (k0_t6_loop v18).trips) (k0_t7 : Fin k0_t7_loop.trips), ∀ a, (k0_off5 v18 k0_t6 k0_t7) a + S16.size a ≤ S10016.size a) ∧
  ((k0_t9_loop v18).OK) ∧
  (∀ (k0_t9 : Fin (k0_t9_loop v18).trips) (k0_t10 : Fin k0_t10_loop.trips), ∀ a, (k0_off264 v18 k0_t9 k0_t10) a + S16.size a ≤ S10016.size a)
theorem k0_t6_ok : ∀ (v18 : BitVec 32) (k0_hw2 : k0_chk2 v18), (k0_t6_loop v18).OK := fun v18 k0_hw2 => k0_hw2.1
theorem k0_off5_inb : ∀ (v18 : BitVec 32) (k0_hw2 : k0_chk2 v18) (k0_t6 : Fin (k0_t6_loop v18).trips) (k0_t7 : Fin k0_t7_loop.trips), ∀ a, (k0_off5 v18 k0_t6 k0_t7) a + S16.size a ≤ S10016.size a := fun v18 k0_hw2 k0_t6 k0_t7 => k0_hw2.2.1 k0_t6 k0_t7
theorem k0_t9_ok : ∀ (v18 : BitVec 32) (k0_hw2 : k0_chk2 v18), (k0_t9_loop v18).OK := fun v18 k0_hw2 => k0_hw2.2.2.1
theorem k0_off264_inb : ∀ (v18 : BitVec 32) (k0_hw2 : k0_chk2 v18) (k0_t9 : Fin (k0_t9_loop v18).trips) (k0_t10 : Fin k0_t10_loop.trips), ∀ a, (k0_off264 v18 k0_t9 k0_t10) a + S16.size a ≤ S10016.size a := fun v18 k0_hw2 k0_t9 k0_t10 => k0_hw2.2.2.2 k0_t9 k0_t10

def k0_off265 (k0_t10 : Fin k0_t10_loop.trips) : Fin 1 → Nat :=
  let c0_i32_39 : BitVec 32 := 0#32
  let c1_i32_40 : BitVec 32 := 1#32
  let arg19 : BitVec 32 := Scf.iv c0_i32_39 c1_i32_40 k0_t10
  let c16_i32_54 : BitVec 32 := 16#32
  let v61 : BitVec 32 := Scalar.muli arg19 c16_i32_54
  let v62 : Index := Scalar.indexCast v61
  ![v62.toNat]
@[reducible] def k0_t11_loop : Scf.Loop 32 :=
  let c0_i32_47 : BitVec 32 := 0#32
  let c8_i32_48 : BitVec 32 := 8#32
  let v49 : BitVec 32 := Scalar.addi c0_i32_47 c8_i32_48
  let c1_i32_49 : BitVec 32 := 1#32
  ⟨c0_i32_47, v49, c1_i32_49⟩
def k0_off266 (k0_t11 : Fin k0_t11_loop.trips) : Fin 1 → Nat :=
  let c0_i32_47 : BitVec 32 := 0#32
  let c1_i32_49 : BitVec 32 := 1#32
  let arg19 : BitVec 32 := Scf.iv c0_i32_47 c1_i32_49 k0_t11
  let c16_i32 : BitVec 32 := 16#32
  let v51 : BitVec 32 := Scalar.muli arg19 c16_i32
  let v52 : Index := Scalar.indexCast v51
  ![v52.toNat]
def k0_off267 (v167 : BitVec 32) : Fin 2 → Nat :=
  let v168 : Index := Scalar.indexCast v167
  let c0 : Index := 0#32
  ![v168.toNat, 0]
def k0_cond18 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_52 : BitVec 32 := 128#32
  let v54 : BitVec 32 := Scalar.muli arg17 c128_i32_52
  let c0_i32_47 : BitVec 32 := 0#32
  let c1_i32_49 : BitVec 32 := 1#32
  let arg19 : BitVec 32 := Scf.iv c0_i32_47 c1_i32_49 k0_t11
  let c16_i32_53 : BitVec 32 := 16#32
  let v55 : BitVec 32 := Scalar.muli arg19 c16_i32_53
  let v56 : BitVec 32 := Scalar.addi v54 v55
  let c0_i32_54 : BitVec 32 := 0#32
  let v57 : BitVec 32 := Scalar.addi v56 c0_i32_54
  let v58 : BitVec 1 := Scalar.cmpi .slt v57 v18
  let v59 : BitVec 32 := Scalar.extui v58
  let c0_i32_55 : BitVec 32 := 0#32
  let v60 : BitVec 1 := Scalar.cmpi .ne v59 c0_i32_55
  v60

def k0_off268 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c0_i32_108 : BitVec 32 := 0#32
  let v171 : BitVec 32 := Scalar.addi v170 c0_i32_108
  let v172 : Index := Scalar.indexCast v171
  let c0_109 : Index := 0#32
  ![v172.toNat, 0]
def k0_off269 (v167 : BitVec 32) : Fin 2 → Nat :=
  let v177 : Index := Scalar.indexCast v167
  let c16 : Index := 16#32
  ![v177.toNat, 16]
def k0_off270 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c0_i32_112 : BitVec 32 := 0#32
  let v180 : BitVec 32 := Scalar.addi v179 c0_i32_112
  let v181 : Index := Scalar.indexCast v180
  let c16_113 : Index := 16#32
  ![v181.toNat, 16]
def k0_off271 (v167 : BitVec 32) : Fin 2 → Nat :=
  let v186 : Index := Scalar.indexCast v167
  let c32 : Index := 32#32
  ![v186.toNat, 32]
def k0_off272 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c0_i32_116 : BitVec 32 := 0#32
  let v189 : BitVec 32 := Scalar.addi v188 c0_i32_116
  let v190 : Index := Scalar.indexCast v189
  let c32_117 : Index := 32#32
  ![v190.toNat, 32]
def k0_off273 (v167 : BitVec 32) : Fin 2 → Nat :=
  let v195 : Index := Scalar.indexCast v167
  let c48 : Index := 48#32
  ![v195.toNat, 48]
def k0_off274 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c0_i32_120 : BitVec 32 := 0#32
  let v198 : BitVec 32 := Scalar.addi v197 c0_i32_120
  let v199 : Index := Scalar.indexCast v198
  let c48_121 : Index := 48#32
  ![v199.toNat, 48]
def k0_off275 (v167 : BitVec 32) : Fin 2 → Nat :=
  let v204 : Index := Scalar.indexCast v167
  let c64 : Index := 64#32
  ![v204.toNat, 64]
def k0_off276 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c0_i32_124 : BitVec 32 := 0#32
  let v207 : BitVec 32 := Scalar.addi v206 c0_i32_124
  let v208 : Index := Scalar.indexCast v207
  let c64_125 : Index := 64#32
  ![v208.toNat, 64]
def k0_off277 (v167 : BitVec 32) : Fin 2 → Nat :=
  let v213 : Index := Scalar.indexCast v167
  let c80 : Index := 80#32
  ![v213.toNat, 80]
def k0_off278 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c0_i32_128 : BitVec 32 := 0#32
  let v216 : BitVec 32 := Scalar.addi v215 c0_i32_128
  let v217 : Index := Scalar.indexCast v216
  let c80_129 : Index := 80#32
  ![v217.toNat, 80]
def k0_off279 (v167 : BitVec 32) : Fin 2 → Nat :=
  let v222 : Index := Scalar.indexCast v167
  let c96 : Index := 96#32
  ![v222.toNat, 96]
def k0_off280 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c0_i32_132 : BitVec 32 := 0#32
  let v225 : BitVec 32 := Scalar.addi v224 c0_i32_132
  let v226 : Index := Scalar.indexCast v225
  let c96_133 : Index := 96#32
  ![v226.toNat, 96]
def k0_off281 (v167 : BitVec 32) : Fin 2 → Nat :=
  let v231 : Index := Scalar.indexCast v167
  let c112 : Index := 112#32
  ![v231.toNat, 112]

def k0_chk19 (v18 : BitVec 32) (k0_t9 : Fin (k0_t9_loop v18).trips) (k0_t11 : Fin k0_t11_loop.trips) (v167 : BitVec 32) : Prop :=
  (∀ (k0_h18 : k0_cond18 v18 k0_t9 k0_t11 = 1#1), ∀ a, (k0_off267 v167) a + S1x16.size a ≤ S512x128.size a) ∧
  (∀ (k0_h18 : k0_cond18 v18 k0_t9 k0_t11 = 1#1), ∀ a, (k0_off269 v167) a + S1x16.size a ≤ S512x128.size a) ∧
  (∀ (k0_h18 : k0_cond18 v18 k0_t9 k0_t11 = 1#1), ∀ a, (k0_off271 v167) a + S1x16.size a ≤ S512x128.size a) ∧
  (∀ (k0_h18 : k0_cond18 v18 k0_t9 k0_t11 = 1#1), ∀ a, (k0_off273 v167) a + S1x16.size a ≤ S512x128.size a) ∧
  (∀ (k0_h18 : k0_cond18 v18 k0_t9 k0_t11 = 1#1), ∀ a, (k0_off275 v167) a + S1x16.size a ≤ S512x128.size a) ∧
  (∀ (k0_h18 : k0_cond18 v18 k0_t9 k0_t11 = 1#1), ∀ a, (k0_off277 v167) a + S1x16.size a ≤ S512x128.size a) ∧
  (∀ (k0_h18 : k0_cond18 v18 k0_t9 k0_t11 = 1#1), ∀ a, (k0_off279 v167) a + S1x16.size a ≤ S512x128.size a) ∧
  (∀ (k0_h18 : k0_cond18 v18 k0_t9 k0_t11 = 1#1), ∀ a, (k0_off281 v167) a + S1x16.size a ≤ S512x128.size a)
theorem k0_off267_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off267 v167) a + S1x16.size a ≤ S512x128.size a := fun v18 k0_t9 k0_t11 v167 k0_hw19 k0_h18 => k0_hw19.1 k0_h18
theorem k0_off269_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off269 v167) a + S1x16.size a ≤ S512x128.size a := fun v18 k0_t9 k0_t11 v167 k0_hw19 k0_h18 => k0_hw19.2.1 k0_h18
theorem k0_off271_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off271 v167) a + S1x16.size a ≤ S512x128.size a := fun v18 k0_t9 k0_t11 v167 k0_hw19 k0_h18 => k0_hw19.2.2.1 k0_h18
theorem k0_off273_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off273 v167) a + S1x16.size a ≤ S512x128.size a := fun v18 k0_t9 k0_t11 v167 k0_hw19 k0_h18 => k0_hw19.2.2.2.1 k0_h18
theorem k0_off275_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off275 v167) a + S1x16.size a ≤ S512x128.size a := fun v18 k0_t9 k0_t11 v167 k0_hw19 k0_h18 => k0_hw19.2.2.2.2.1 k0_h18
theorem k0_off277_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off277 v167) a + S1x16.size a ≤ S512x128.size a := fun v18 k0_t9 k0_t11 v167 k0_hw19 k0_h18 => k0_hw19.2.2.2.2.2.1 k0_h18
theorem k0_off279_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off279 v167) a + S1x16.size a ≤ S512x128.size a := fun v18 k0_t9 k0_t11 v167 k0_hw19 k0_h18 => k0_hw19.2.2.2.2.2.2.1 k0_h18
theorem k0_off281_inb : ∀ (v18 : BitVec 32) (k0_t9 : Fin (k0_t9_loop v18).trips) (k0_t11 : Fin k0_t11_loop.trips) (v167 : BitVec 32) (k0_hw19 : k0_chk19 v18 k0_t9 k0_t11 v167), ∀ (k0_h18 : k0_cond18 v18 k0_t9 k0_t11 = 1#1), ∀ a, (k0_off281 v167) a + S1x16.size a ≤ S512x128.size a := fun v18 k0_t9 k0_t11 v167 k0_hw19 k0_h18 => k0_hw19.2.2.2.2.2.2.2 k0_h18

def k0_off282 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c0_i32_136 : BitVec 32 := 0#32
  let v234 : BitVec 32 := Scalar.addi v233 c0_i32_136
  let v235 : Index := Scalar.indexCast v234
  let c112_137 : Index := 112#32
  ![v235.toNat, 112]
def k0_off283 (v167 : BitVec 32) : Fin 2 → Nat :=
  let v168 : Index := Scalar.indexCast v167
  let c0 : Index := 0#32
  ![v168.toNat, 0]
def k0_cond19 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_56 : BitVec 32 := 128#32
  let v61 : BitVec 32 := Scalar.muli arg17 c128_i32_56
  let c0_i32_47 : BitVec 32 := 0#32
  let c1_i32_49 : BitVec 32 := 1#32
  let arg19 : BitVec 32 := Scf.iv c0_i32_47 c1_i32_49 k0_t11
  let c16_i32_57 : BitVec 32 := 16#32
  let v62 : BitVec 32 := Scalar.muli arg19 c16_i32_57
  let v63 : BitVec 32 := Scalar.addi v61 v62
  let c1_i32_58 : BitVec 32 := 1#32
  let v64 : BitVec 32 := Scalar.addi v63 c1_i32_58
  let v65 : BitVec 1 := Scalar.cmpi .slt v64 v18
  let v66 : BitVec 32 := Scalar.extui v65
  let c0_i32_59 : BitVec 32 := 0#32
  let v67 : BitVec 1 := Scalar.cmpi .ne v66 c0_i32_59
  v67

def k0_off284 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c1_i32_108 : BitVec 32 := 1#32
  let v171 : BitVec 32 := Scalar.addi v170 c1_i32_108
  let v172 : Index := Scalar.indexCast v171
  let c0_109 : Index := 0#32
  ![v172.toNat, 0]
def k0_off285 (v167 : BitVec 32) : Fin 2 → Nat :=
  let v177 : Index := Scalar.indexCast v167
  let c16 : Index := 16#32
  ![v177.toNat, 16]
def k0_off286 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c1_i32_112 : BitVec 32 := 1#32
  let v180 : BitVec 32 := Scalar.addi v179 c1_i32_112
  let v181 : Index := Scalar.indexCast v180
  let c16_113 : Index := 16#32
  ![v181.toNat, 16]
def k0_off287 (v167 : BitVec 32) : Fin 2 → Nat :=
  let v186 : Index := Scalar.indexCast v167
  let c32 : Index := 32#32
  ![v186.toNat, 32]
def k0_off288 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c1_i32_116 : BitVec 32 := 1#32
  let v189 : BitVec 32 := Scalar.addi v188 c1_i32_116
  let v190 : Index := Scalar.indexCast v189
  let c32_117 : Index := 32#32
  ![v190.toNat, 32]
def k0_off289 (v167 : BitVec 32) : Fin 2 → Nat :=
  let v195 : Index := Scalar.indexCast v167
  let c48 : Index := 48#32
  ![v195.toNat, 48]
def k0_off290 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c1_i32_120 : BitVec 32 := 1#32
  let v198 : BitVec 32 := Scalar.addi v197 c1_i32_120
  let v199 : Index := Scalar.indexCast v198
  let c48_121 : Index := 48#32
  ![v199.toNat, 48]
def k0_off291 (v167 : BitVec 32) : Fin 2 → Nat :=
  let v204 : Index := Scalar.indexCast v167
  let c64 : Index := 64#32
  ![v204.toNat, 64]
def k0_off292 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c1_i32_124 : BitVec 32 := 1#32
  let v207 : BitVec 32 := Scalar.addi v206 c1_i32_124
  let v208 : Index := Scalar.indexCast v207
  let c64_125 : Index := 64#32
  ![v208.toNat, 64]
def k0_off293 (v167 : BitVec 32) : Fin 2 → Nat :=
  let v213 : Index := Scalar.indexCast v167
  let c80 : Index := 80#32
  ![v213.toNat, 80]
def k0_off294 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c1_i32_128 : BitVec 32 := 1#32
  let v216 : BitVec 32 := Scalar.addi v215 c1_i32_128
  let v217 : Index := Scalar.indexCast v216
  let c80_129 : Index := 80#32
  ![v217.toNat, 80]
def k0_off295 (v167 : BitVec 32) : Fin 2 → Nat :=
  let v222 : Index := Scalar.indexCast v167
  let c96 : Index := 96#32
  ![v222.toNat, 96]
def k0_off296 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c1_i32_132 : BitVec 32 := 1#32
  let v225 : BitVec 32 := Scalar.addi v224 c1_i32_132
  let v226 : Index := Scalar.indexCast v225
  let c96_133 : Index := 96#32
  ![v226.toNat, 96]
def k0_off297 (v167 : BitVec 32) : Fin 2 → Nat :=
  let v231 : Index := Scalar.indexCast v167
  let c112 : Index := 112#32
  ![v231.toNat, 112]

def k0_chk20 (v18 : BitVec 32) (k0_t9 : Fin (k0_t9_loop v18).trips) (k0_t11 : Fin k0_t11_loop.trips) (v167 : BitVec 32) : Prop :=
  (∀ (k0_h19 : k0_cond19 v18 k0_t9 k0_t11 = 1#1), ∀ a, (k0_off283 v167) a + S1x16.size a ≤ S512x128.size a) ∧
  (∀ (k0_h19 : k0_cond19 v18 k0_t9 k0_t11 = 1#1), ∀ a, (k0_off285 v167) a + S1x16.size a ≤ S512x128.size a) ∧
  (∀ (k0_h19 : k0_cond19 v18 k0_t9 k0_t11 = 1#1), ∀ a, (k0_off287 v167) a + S1x16.size a ≤ S512x128.size a) ∧
  (∀ (k0_h19 : k0_cond19 v18 k0_t9 k0_t11 = 1#1), ∀ a, (k0_off289 v167) a + S1x16.size a ≤ S512x128.size a) ∧
  (∀ (k0_h19 : k0_cond19 v18 k0_t9 k0_t11 = 1#1), ∀ a, (k0_off291 v167) a + S1x16.size a ≤ S512x128.size a) ∧
  (∀ (k0_h19 : k0_cond19 v18 k0_t9 k0_t11 = 1#1), ∀ a, (k0_off293 v167) a + S1x16.size a ≤ S512x128.size a) ∧
  (∀ (k0_h19 : k0_cond19 v18 k0_t9 k0_t11 = 1#1), ∀ a, (k0_off295 v167) a + S1x16.size a ≤ S512x128.size a) ∧
  (∀ (k0_h19 : k0_cond19 v18 k0_t9 k0_t11 = 1#1), ∀ a, (k0_off297 v167) a + S1x16.size a ≤ S512x128.size a)
theorem k0_off283_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off283 v167) a + S1x16.size a ≤ S512x128.size a := fun v18 k0_t9 k0_t11 v167 k0_hw20 k0_h19 => k0_hw20.1 k0_h19
theorem k0_off285_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off285 v167) a + S1x16.size a ≤ S512x128.size a := fun v18 k0_t9 k0_t11 v167 k0_hw20 k0_h19 => k0_hw20.2.1 k0_h19
theorem k0_off287_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off287 v167) a + S1x16.size a ≤ S512x128.size a := fun v18 k0_t9 k0_t11 v167 k0_hw20 k0_h19 => k0_hw20.2.2.1 k0_h19
theorem k0_off289_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off289 v167) a + S1x16.size a ≤ S512x128.size a := fun v18 k0_t9 k0_t11 v167 k0_hw20 k0_h19 => k0_hw20.2.2.2.1 k0_h19
theorem k0_off291_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off291 v167) a + S1x16.size a ≤ S512x128.size a := fun v18 k0_t9 k0_t11 v167 k0_hw20 k0_h19 => k0_hw20.2.2.2.2.1 k0_h19
theorem k0_off293_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off293 v167) a + S1x16.size a ≤ S512x128.size a := fun v18 k0_t9 k0_t11 v167 k0_hw20 k0_h19 => k0_hw20.2.2.2.2.2.1 k0_h19
theorem k0_off295_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off295 v167) a + S1x16.size a ≤ S512x128.size a := fun v18 k0_t9 k0_t11 v167 k0_hw20 k0_h19 => k0_hw20.2.2.2.2.2.2.1 k0_h19
theorem k0_off297_inb : ∀ (v18 : BitVec 32) (k0_t9 : Fin (k0_t9_loop v18).trips) (k0_t11 : Fin k0_t11_loop.trips) (v167 : BitVec 32) (k0_hw20 : k0_chk20 v18 k0_t9 k0_t11 v167), ∀ (k0_h19 : k0_cond19 v18 k0_t9 k0_t11 = 1#1), ∀ a, (k0_off297 v167) a + S1x16.size a ≤ S512x128.size a := fun v18 k0_t9 k0_t11 v167 k0_hw20 k0_h19 => k0_hw20.2.2.2.2.2.2.2 k0_h19

def k0_off298 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c1_i32_136 : BitVec 32 := 1#32
  let v234 : BitVec 32 := Scalar.addi v233 c1_i32_136
  let v235 : Index := Scalar.indexCast v234
  let c112_137 : Index := 112#32
  ![v235.toNat, 112]
def k0_off299 (v167 : BitVec 32) : Fin 2 → Nat :=
  let v168 : Index := Scalar.indexCast v167
  let c0 : Index := 0#32
  ![v168.toNat, 0]
def k0_cond20 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_60 : BitVec 32 := 128#32
  let v68 : BitVec 32 := Scalar.muli arg17 c128_i32_60
  let c0_i32_47 : BitVec 32 := 0#32
  let c1_i32_49 : BitVec 32 := 1#32
  let arg19 : BitVec 32 := Scf.iv c0_i32_47 c1_i32_49 k0_t11
  let c16_i32_61 : BitVec 32 := 16#32
  let v69 : BitVec 32 := Scalar.muli arg19 c16_i32_61
  let v70 : BitVec 32 := Scalar.addi v68 v69
  let c2_i32_62 : BitVec 32 := 2#32
  let v71 : BitVec 32 := Scalar.addi v70 c2_i32_62
  let v72 : BitVec 1 := Scalar.cmpi .slt v71 v18
  let v73 : BitVec 32 := Scalar.extui v72
  let c0_i32_63 : BitVec 32 := 0#32
  let v74 : BitVec 1 := Scalar.cmpi .ne v73 c0_i32_63
  v74

def k0_off300 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c2_i32_108 : BitVec 32 := 2#32
  let v171 : BitVec 32 := Scalar.addi v170 c2_i32_108
  let v172 : Index := Scalar.indexCast v171
  let c0_109 : Index := 0#32
  ![v172.toNat, 0]
def k0_off301 (v167 : BitVec 32) : Fin 2 → Nat :=
  let v177 : Index := Scalar.indexCast v167
  let c16 : Index := 16#32
  ![v177.toNat, 16]
def k0_off302 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c2_i32_112 : BitVec 32 := 2#32
  let v180 : BitVec 32 := Scalar.addi v179 c2_i32_112
  let v181 : Index := Scalar.indexCast v180
  let c16_113 : Index := 16#32
  ![v181.toNat, 16]
def k0_off303 (v167 : BitVec 32) : Fin 2 → Nat :=
  let v186 : Index := Scalar.indexCast v167
  let c32 : Index := 32#32
  ![v186.toNat, 32]
def k0_off304 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c2_i32_116 : BitVec 32 := 2#32
  let v189 : BitVec 32 := Scalar.addi v188 c2_i32_116
  let v190 : Index := Scalar.indexCast v189
  let c32_117 : Index := 32#32
  ![v190.toNat, 32]
def k0_off305 (v167 : BitVec 32) : Fin 2 → Nat :=
  let v195 : Index := Scalar.indexCast v167
  let c48 : Index := 48#32
  ![v195.toNat, 48]
def k0_off306 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c2_i32_120 : BitVec 32 := 2#32
  let v198 : BitVec 32 := Scalar.addi v197 c2_i32_120
  let v199 : Index := Scalar.indexCast v198
  let c48_121 : Index := 48#32
  ![v199.toNat, 48]
def k0_off307 (v167 : BitVec 32) : Fin 2 → Nat :=
  let v204 : Index := Scalar.indexCast v167
  let c64 : Index := 64#32
  ![v204.toNat, 64]
def k0_off308 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c2_i32_124 : BitVec 32 := 2#32
  let v207 : BitVec 32 := Scalar.addi v206 c2_i32_124
  let v208 : Index := Scalar.indexCast v207
  let c64_125 : Index := 64#32
  ![v208.toNat, 64]
def k0_off309 (v167 : BitVec 32) : Fin 2 → Nat :=
  let v213 : Index := Scalar.indexCast v167
  let c80 : Index := 80#32
  ![v213.toNat, 80]
def k0_off310 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c2_i32_128 : BitVec 32 := 2#32
  let v216 : BitVec 32 := Scalar.addi v215 c2_i32_128
  let v217 : Index := Scalar.indexCast v216
  let c80_129 : Index := 80#32
  ![v217.toNat, 80]
def k0_off311 (v167 : BitVec 32) : Fin 2 → Nat :=
  let v222 : Index := Scalar.indexCast v167
  let c96 : Index := 96#32
  ![v222.toNat, 96]
def k0_off312 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c2_i32_132 : BitVec 32 := 2#32
  let v225 : BitVec 32 := Scalar.addi v224 c2_i32_132
  let v226 : Index := Scalar.indexCast v225
  let c96_133 : Index := 96#32
  ![v226.toNat, 96]
def k0_off313 (v167 : BitVec 32) : Fin 2 → Nat :=
  let v231 : Index := Scalar.indexCast v167
  let c112 : Index := 112#32
  ![v231.toNat, 112]

def k0_chk21 (v18 : BitVec 32) (k0_t9 : Fin (k0_t9_loop v18).trips) (k0_t11 : Fin k0_t11_loop.trips) (v167 : BitVec 32) : Prop :=
  (∀ (k0_h20 : k0_cond20 v18 k0_t9 k0_t11 = 1#1), ∀ a, (k0_off299 v167) a + S1x16.size a ≤ S512x128.size a) ∧
  (∀ (k0_h20 : k0_cond20 v18 k0_t9 k0_t11 = 1#1), ∀ a, (k0_off301 v167) a + S1x16.size a ≤ S512x128.size a) ∧
  (∀ (k0_h20 : k0_cond20 v18 k0_t9 k0_t11 = 1#1), ∀ a, (k0_off303 v167) a + S1x16.size a ≤ S512x128.size a) ∧
  (∀ (k0_h20 : k0_cond20 v18 k0_t9 k0_t11 = 1#1), ∀ a, (k0_off305 v167) a + S1x16.size a ≤ S512x128.size a) ∧
  (∀ (k0_h20 : k0_cond20 v18 k0_t9 k0_t11 = 1#1), ∀ a, (k0_off307 v167) a + S1x16.size a ≤ S512x128.size a) ∧
  (∀ (k0_h20 : k0_cond20 v18 k0_t9 k0_t11 = 1#1), ∀ a, (k0_off309 v167) a + S1x16.size a ≤ S512x128.size a) ∧
  (∀ (k0_h20 : k0_cond20 v18 k0_t9 k0_t11 = 1#1), ∀ a, (k0_off311 v167) a + S1x16.size a ≤ S512x128.size a) ∧
  (∀ (k0_h20 : k0_cond20 v18 k0_t9 k0_t11 = 1#1), ∀ a, (k0_off313 v167) a + S1x16.size a ≤ S512x128.size a)
theorem k0_off299_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off299 v167) a + S1x16.size a ≤ S512x128.size a := fun v18 k0_t9 k0_t11 v167 k0_hw21 k0_h20 => k0_hw21.1 k0_h20
theorem k0_off301_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off301 v167) a + S1x16.size a ≤ S512x128.size a := fun v18 k0_t9 k0_t11 v167 k0_hw21 k0_h20 => k0_hw21.2.1 k0_h20
theorem k0_off303_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off303 v167) a + S1x16.size a ≤ S512x128.size a := fun v18 k0_t9 k0_t11 v167 k0_hw21 k0_h20 => k0_hw21.2.2.1 k0_h20
theorem k0_off305_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off305 v167) a + S1x16.size a ≤ S512x128.size a := fun v18 k0_t9 k0_t11 v167 k0_hw21 k0_h20 => k0_hw21.2.2.2.1 k0_h20
theorem k0_off307_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off307 v167) a + S1x16.size a ≤ S512x128.size a := fun v18 k0_t9 k0_t11 v167 k0_hw21 k0_h20 => k0_hw21.2.2.2.2.1 k0_h20
theorem k0_off309_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off309 v167) a + S1x16.size a ≤ S512x128.size a := fun v18 k0_t9 k0_t11 v167 k0_hw21 k0_h20 => k0_hw21.2.2.2.2.2.1 k0_h20
theorem k0_off311_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off311 v167) a + S1x16.size a ≤ S512x128.size a := fun v18 k0_t9 k0_t11 v167 k0_hw21 k0_h20 => k0_hw21.2.2.2.2.2.2.1 k0_h20
theorem k0_off313_inb : ∀ (v18 : BitVec 32) (k0_t9 : Fin (k0_t9_loop v18).trips) (k0_t11 : Fin k0_t11_loop.trips) (v167 : BitVec 32) (k0_hw21 : k0_chk21 v18 k0_t9 k0_t11 v167), ∀ (k0_h20 : k0_cond20 v18 k0_t9 k0_t11 = 1#1), ∀ a, (k0_off313 v167) a + S1x16.size a ≤ S512x128.size a := fun v18 k0_t9 k0_t11 v167 k0_hw21 k0_h20 => k0_hw21.2.2.2.2.2.2.2 k0_h20

def k0_off314 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c2_i32_136 : BitVec 32 := 2#32
  let v234 : BitVec 32 := Scalar.addi v233 c2_i32_136
  let v235 : Index := Scalar.indexCast v234
  let c112_137 : Index := 112#32
  ![v235.toNat, 112]
def k0_off315 (v167 : BitVec 32) : Fin 2 → Nat :=
  let v168 : Index := Scalar.indexCast v167
  let c0 : Index := 0#32
  ![v168.toNat, 0]
def k0_cond21 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_64 : BitVec 32 := 128#32
  let v75 : BitVec 32 := Scalar.muli arg17 c128_i32_64
  let c0_i32_47 : BitVec 32 := 0#32
  let c1_i32_49 : BitVec 32 := 1#32
  let arg19 : BitVec 32 := Scf.iv c0_i32_47 c1_i32_49 k0_t11
  let c16_i32_65 : BitVec 32 := 16#32
  let v76 : BitVec 32 := Scalar.muli arg19 c16_i32_65
  let v77 : BitVec 32 := Scalar.addi v75 v76
  let c3_i32 : BitVec 32 := 3#32
  let v78 : BitVec 32 := Scalar.addi v77 c3_i32
  let v79 : BitVec 1 := Scalar.cmpi .slt v78 v18
  let v80 : BitVec 32 := Scalar.extui v79
  let c0_i32_66 : BitVec 32 := 0#32
  let v81 : BitVec 1 := Scalar.cmpi .ne v80 c0_i32_66
  v81

def k0_off316 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c3_i32_108 : BitVec 32 := 3#32
  let v171 : BitVec 32 := Scalar.addi v170 c3_i32_108
  let v172 : Index := Scalar.indexCast v171
  let c0_109 : Index := 0#32
  ![v172.toNat, 0]
def k0_off317 (v167 : BitVec 32) : Fin 2 → Nat :=
  let v177 : Index := Scalar.indexCast v167
  let c16 : Index := 16#32
  ![v177.toNat, 16]
def k0_off318 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c3_i32_112 : BitVec 32 := 3#32
  let v180 : BitVec 32 := Scalar.addi v179 c3_i32_112
  let v181 : Index := Scalar.indexCast v180
  let c16_113 : Index := 16#32
  ![v181.toNat, 16]
def k0_off319 (v167 : BitVec 32) : Fin 2 → Nat :=
  let v186 : Index := Scalar.indexCast v167
  let c32 : Index := 32#32
  ![v186.toNat, 32]
def k0_off320 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c3_i32_116 : BitVec 32 := 3#32
  let v189 : BitVec 32 := Scalar.addi v188 c3_i32_116
  let v190 : Index := Scalar.indexCast v189
  let c32_117 : Index := 32#32
  ![v190.toNat, 32]
def k0_off321 (v167 : BitVec 32) : Fin 2 → Nat :=
  let v195 : Index := Scalar.indexCast v167
  let c48 : Index := 48#32
  ![v195.toNat, 48]
def k0_off322 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c3_i32_120 : BitVec 32 := 3#32
  let v198 : BitVec 32 := Scalar.addi v197 c3_i32_120
  let v199 : Index := Scalar.indexCast v198
  let c48_121 : Index := 48#32
  ![v199.toNat, 48]
def k0_off323 (v167 : BitVec 32) : Fin 2 → Nat :=
  let v204 : Index := Scalar.indexCast v167
  let c64 : Index := 64#32
  ![v204.toNat, 64]
def k0_off324 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c3_i32_124 : BitVec 32 := 3#32
  let v207 : BitVec 32 := Scalar.addi v206 c3_i32_124
  let v208 : Index := Scalar.indexCast v207
  let c64_125 : Index := 64#32
  ![v208.toNat, 64]
def k0_off325 (v167 : BitVec 32) : Fin 2 → Nat :=
  let v213 : Index := Scalar.indexCast v167
  let c80 : Index := 80#32
  ![v213.toNat, 80]
def k0_off326 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c3_i32_128 : BitVec 32 := 3#32
  let v216 : BitVec 32 := Scalar.addi v215 c3_i32_128
  let v217 : Index := Scalar.indexCast v216
  let c80_129 : Index := 80#32
  ![v217.toNat, 80]
def k0_off327 (v167 : BitVec 32) : Fin 2 → Nat :=
  let v222 : Index := Scalar.indexCast v167
  let c96 : Index := 96#32
  ![v222.toNat, 96]
def k0_off328 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c3_i32_132 : BitVec 32 := 3#32
  let v225 : BitVec 32 := Scalar.addi v224 c3_i32_132
  let v226 : Index := Scalar.indexCast v225
  let c96_133 : Index := 96#32
  ![v226.toNat, 96]
def k0_off329 (v167 : BitVec 32) : Fin 2 → Nat :=
  let v231 : Index := Scalar.indexCast v167
  let c112 : Index := 112#32
  ![v231.toNat, 112]

def k0_chk22 (v18 : BitVec 32) (k0_t9 : Fin (k0_t9_loop v18).trips) (k0_t11 : Fin k0_t11_loop.trips) (v167 : BitVec 32) : Prop :=
  (∀ (k0_h21 : k0_cond21 v18 k0_t9 k0_t11 = 1#1), ∀ a, (k0_off315 v167) a + S1x16.size a ≤ S512x128.size a) ∧
  (∀ (k0_h21 : k0_cond21 v18 k0_t9 k0_t11 = 1#1), ∀ a, (k0_off317 v167) a + S1x16.size a ≤ S512x128.size a) ∧
  (∀ (k0_h21 : k0_cond21 v18 k0_t9 k0_t11 = 1#1), ∀ a, (k0_off319 v167) a + S1x16.size a ≤ S512x128.size a) ∧
  (∀ (k0_h21 : k0_cond21 v18 k0_t9 k0_t11 = 1#1), ∀ a, (k0_off321 v167) a + S1x16.size a ≤ S512x128.size a) ∧
  (∀ (k0_h21 : k0_cond21 v18 k0_t9 k0_t11 = 1#1), ∀ a, (k0_off323 v167) a + S1x16.size a ≤ S512x128.size a) ∧
  (∀ (k0_h21 : k0_cond21 v18 k0_t9 k0_t11 = 1#1), ∀ a, (k0_off325 v167) a + S1x16.size a ≤ S512x128.size a) ∧
  (∀ (k0_h21 : k0_cond21 v18 k0_t9 k0_t11 = 1#1), ∀ a, (k0_off327 v167) a + S1x16.size a ≤ S512x128.size a) ∧
  (∀ (k0_h21 : k0_cond21 v18 k0_t9 k0_t11 = 1#1), ∀ a, (k0_off329 v167) a + S1x16.size a ≤ S512x128.size a)
theorem k0_off315_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off315 v167) a + S1x16.size a ≤ S512x128.size a := fun v18 k0_t9 k0_t11 v167 k0_hw22 k0_h21 => k0_hw22.1 k0_h21
theorem k0_off317_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off317 v167) a + S1x16.size a ≤ S512x128.size a := fun v18 k0_t9 k0_t11 v167 k0_hw22 k0_h21 => k0_hw22.2.1 k0_h21
theorem k0_off319_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off319 v167) a + S1x16.size a ≤ S512x128.size a := fun v18 k0_t9 k0_t11 v167 k0_hw22 k0_h21 => k0_hw22.2.2.1 k0_h21
theorem k0_off321_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off321 v167) a + S1x16.size a ≤ S512x128.size a := fun v18 k0_t9 k0_t11 v167 k0_hw22 k0_h21 => k0_hw22.2.2.2.1 k0_h21
theorem k0_off323_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off323 v167) a + S1x16.size a ≤ S512x128.size a := fun v18 k0_t9 k0_t11 v167 k0_hw22 k0_h21 => k0_hw22.2.2.2.2.1 k0_h21
theorem k0_off325_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off325 v167) a + S1x16.size a ≤ S512x128.size a := fun v18 k0_t9 k0_t11 v167 k0_hw22 k0_h21 => k0_hw22.2.2.2.2.2.1 k0_h21
theorem k0_off327_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off327 v167) a + S1x16.size a ≤ S512x128.size a := fun v18 k0_t9 k0_t11 v167 k0_hw22 k0_h21 => k0_hw22.2.2.2.2.2.2.1 k0_h21
theorem k0_off329_inb : ∀ (v18 : BitVec 32) (k0_t9 : Fin (k0_t9_loop v18).trips) (k0_t11 : Fin k0_t11_loop.trips) (v167 : BitVec 32) (k0_hw22 : k0_chk22 v18 k0_t9 k0_t11 v167), ∀ (k0_h21 : k0_cond21 v18 k0_t9 k0_t11 = 1#1), ∀ a, (k0_off329 v167) a + S1x16.size a ≤ S512x128.size a := fun v18 k0_t9 k0_t11 v167 k0_hw22 k0_h21 => k0_hw22.2.2.2.2.2.2.2 k0_h21

def k0_off330 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c3_i32_136 : BitVec 32 := 3#32
  let v234 : BitVec 32 := Scalar.addi v233 c3_i32_136
  let v235 : Index := Scalar.indexCast v234
  let c112_137 : Index := 112#32
  ![v235.toNat, 112]
def k0_off331 (v167 : BitVec 32) : Fin 2 → Nat :=
  let v168 : Index := Scalar.indexCast v167
  let c0 : Index := 0#32
  ![v168.toNat, 0]
def k0_cond22 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_67 : BitVec 32 := 128#32
  let v82 : BitVec 32 := Scalar.muli arg17 c128_i32_67
  let c0_i32_47 : BitVec 32 := 0#32
  let c1_i32_49 : BitVec 32 := 1#32
  let arg19 : BitVec 32 := Scf.iv c0_i32_47 c1_i32_49 k0_t11
  let c16_i32_68 : BitVec 32 := 16#32
  let v83 : BitVec 32 := Scalar.muli arg19 c16_i32_68
  let v84 : BitVec 32 := Scalar.addi v82 v83
  let c4_i32_69 : BitVec 32 := 4#32
  let v85 : BitVec 32 := Scalar.addi v84 c4_i32_69
  let v86 : BitVec 1 := Scalar.cmpi .slt v85 v18
  let v87 : BitVec 32 := Scalar.extui v86
  let c0_i32_70 : BitVec 32 := 0#32
  let v88 : BitVec 1 := Scalar.cmpi .ne v87 c0_i32_70
  v88

def k0_off332 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c4_i32_108 : BitVec 32 := 4#32
  let v171 : BitVec 32 := Scalar.addi v170 c4_i32_108
  let v172 : Index := Scalar.indexCast v171
  let c0_109 : Index := 0#32
  ![v172.toNat, 0]
def k0_off333 (v167 : BitVec 32) : Fin 2 → Nat :=
  let v177 : Index := Scalar.indexCast v167
  let c16 : Index := 16#32
  ![v177.toNat, 16]
def k0_off334 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c4_i32_112 : BitVec 32 := 4#32
  let v180 : BitVec 32 := Scalar.addi v179 c4_i32_112
  let v181 : Index := Scalar.indexCast v180
  let c16_113 : Index := 16#32
  ![v181.toNat, 16]
def k0_off335 (v167 : BitVec 32) : Fin 2 → Nat :=
  let v186 : Index := Scalar.indexCast v167
  let c32 : Index := 32#32
  ![v186.toNat, 32]
def k0_off336 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c4_i32_116 : BitVec 32 := 4#32
  let v189 : BitVec 32 := Scalar.addi v188 c4_i32_116
  let v190 : Index := Scalar.indexCast v189
  let c32_117 : Index := 32#32
  ![v190.toNat, 32]
def k0_off337 (v167 : BitVec 32) : Fin 2 → Nat :=
  let v195 : Index := Scalar.indexCast v167
  let c48 : Index := 48#32
  ![v195.toNat, 48]
def k0_off338 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c4_i32_120 : BitVec 32 := 4#32
  let v198 : BitVec 32 := Scalar.addi v197 c4_i32_120
  let v199 : Index := Scalar.indexCast v198
  let c48_121 : Index := 48#32
  ![v199.toNat, 48]
def k0_off339 (v167 : BitVec 32) : Fin 2 → Nat :=
  let v204 : Index := Scalar.indexCast v167
  let c64 : Index := 64#32
  ![v204.toNat, 64]
def k0_off340 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c4_i32_124 : BitVec 32 := 4#32
  let v207 : BitVec 32 := Scalar.addi v206 c4_i32_124
  let v208 : Index := Scalar.indexCast v207
  let c64_125 : Index := 64#32
  ![v208.toNat, 64]
def k0_off341 (v167 : BitVec 32) : Fin 2 → Nat :=
  let v213 : Index := Scalar.indexCast v167
  let c80 : Index := 80#32
  ![v213.toNat, 80]
def k0_off342 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c4_i32_128 : BitVec 32 := 4#32
  let v216 : BitVec 32 := Scalar.addi v215 c4_i32_128
  let v217 : Index := Scalar.indexCast v216
  let c80_129 : Index := 80#32
  ![v217.toNat, 80]
def k0_off343 (v167 : BitVec 32) : Fin 2 → Nat :=
  let v222 : Index := Scalar.indexCast v167
  let c96 : Index := 96#32
  ![v222.toNat, 96]
def k0_off344 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c4_i32_132 : BitVec 32 := 4#32
  let v225 : BitVec 32 := Scalar.addi v224 c4_i32_132
  let v226 : Index := Scalar.indexCast v225
  let c96_133 : Index := 96#32
  ![v226.toNat, 96]
def k0_off345 (v167 : BitVec 32) : Fin 2 → Nat :=
  let v231 : Index := Scalar.indexCast v167
  let c112 : Index := 112#32
  ![v231.toNat, 112]

def k0_chk23 (v18 : BitVec 32) (k0_t9 : Fin (k0_t9_loop v18).trips) (k0_t11 : Fin k0_t11_loop.trips) (v167 : BitVec 32) : Prop :=
  (∀ (k0_h22 : k0_cond22 v18 k0_t9 k0_t11 = 1#1), ∀ a, (k0_off331 v167) a + S1x16.size a ≤ S512x128.size a) ∧
  (∀ (k0_h22 : k0_cond22 v18 k0_t9 k0_t11 = 1#1), ∀ a, (k0_off333 v167) a + S1x16.size a ≤ S512x128.size a) ∧
  (∀ (k0_h22 : k0_cond22 v18 k0_t9 k0_t11 = 1#1), ∀ a, (k0_off335 v167) a + S1x16.size a ≤ S512x128.size a) ∧
  (∀ (k0_h22 : k0_cond22 v18 k0_t9 k0_t11 = 1#1), ∀ a, (k0_off337 v167) a + S1x16.size a ≤ S512x128.size a) ∧
  (∀ (k0_h22 : k0_cond22 v18 k0_t9 k0_t11 = 1#1), ∀ a, (k0_off339 v167) a + S1x16.size a ≤ S512x128.size a) ∧
  (∀ (k0_h22 : k0_cond22 v18 k0_t9 k0_t11 = 1#1), ∀ a, (k0_off341 v167) a + S1x16.size a ≤ S512x128.size a) ∧
  (∀ (k0_h22 : k0_cond22 v18 k0_t9 k0_t11 = 1#1), ∀ a, (k0_off343 v167) a + S1x16.size a ≤ S512x128.size a) ∧
  (∀ (k0_h22 : k0_cond22 v18 k0_t9 k0_t11 = 1#1), ∀ a, (k0_off345 v167) a + S1x16.size a ≤ S512x128.size a)
theorem k0_off331_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off331 v167) a + S1x16.size a ≤ S512x128.size a := fun v18 k0_t9 k0_t11 v167 k0_hw23 k0_h22 => k0_hw23.1 k0_h22
theorem k0_off333_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off333 v167) a + S1x16.size a ≤ S512x128.size a := fun v18 k0_t9 k0_t11 v167 k0_hw23 k0_h22 => k0_hw23.2.1 k0_h22
theorem k0_off335_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off335 v167) a + S1x16.size a ≤ S512x128.size a := fun v18 k0_t9 k0_t11 v167 k0_hw23 k0_h22 => k0_hw23.2.2.1 k0_h22
theorem k0_off337_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off337 v167) a + S1x16.size a ≤ S512x128.size a := fun v18 k0_t9 k0_t11 v167 k0_hw23 k0_h22 => k0_hw23.2.2.2.1 k0_h22
theorem k0_off339_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off339 v167) a + S1x16.size a ≤ S512x128.size a := fun v18 k0_t9 k0_t11 v167 k0_hw23 k0_h22 => k0_hw23.2.2.2.2.1 k0_h22
theorem k0_off341_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off341 v167) a + S1x16.size a ≤ S512x128.size a := fun v18 k0_t9 k0_t11 v167 k0_hw23 k0_h22 => k0_hw23.2.2.2.2.2.1 k0_h22
theorem k0_off343_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off343 v167) a + S1x16.size a ≤ S512x128.size a := fun v18 k0_t9 k0_t11 v167 k0_hw23 k0_h22 => k0_hw23.2.2.2.2.2.2.1 k0_h22
theorem k0_off345_inb : ∀ (v18 : BitVec 32) (k0_t9 : Fin (k0_t9_loop v18).trips) (k0_t11 : Fin k0_t11_loop.trips) (v167 : BitVec 32) (k0_hw23 : k0_chk23 v18 k0_t9 k0_t11 v167), ∀ (k0_h22 : k0_cond22 v18 k0_t9 k0_t11 = 1#1), ∀ a, (k0_off345 v167) a + S1x16.size a ≤ S512x128.size a := fun v18 k0_t9 k0_t11 v167 k0_hw23 k0_h22 => k0_hw23.2.2.2.2.2.2.2 k0_h22

def k0_off346 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c4_i32_136 : BitVec 32 := 4#32
  let v234 : BitVec 32 := Scalar.addi v233 c4_i32_136
  let v235 : Index := Scalar.indexCast v234
  let c112_137 : Index := 112#32
  ![v235.toNat, 112]
def k0_off347 (v167 : BitVec 32) : Fin 2 → Nat :=
  let v168 : Index := Scalar.indexCast v167
  let c0 : Index := 0#32
  ![v168.toNat, 0]
def k0_cond23 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_71 : BitVec 32 := 128#32
  let v89 : BitVec 32 := Scalar.muli arg17 c128_i32_71
  let c0_i32_47 : BitVec 32 := 0#32
  let c1_i32_49 : BitVec 32 := 1#32
  let arg19 : BitVec 32 := Scf.iv c0_i32_47 c1_i32_49 k0_t11
  let c16_i32_72 : BitVec 32 := 16#32
  let v90 : BitVec 32 := Scalar.muli arg19 c16_i32_72
  let v91 : BitVec 32 := Scalar.addi v89 v90
  let c5_i32 : BitVec 32 := 5#32
  let v92 : BitVec 32 := Scalar.addi v91 c5_i32
  let v93 : BitVec 1 := Scalar.cmpi .slt v92 v18
  let v94 : BitVec 32 := Scalar.extui v93
  let c0_i32_73 : BitVec 32 := 0#32
  let v95 : BitVec 1 := Scalar.cmpi .ne v94 c0_i32_73
  v95

def k0_off348 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c5_i32_108 : BitVec 32 := 5#32
  let v171 : BitVec 32 := Scalar.addi v170 c5_i32_108
  let v172 : Index := Scalar.indexCast v171
  let c0_109 : Index := 0#32
  ![v172.toNat, 0]
def k0_off349 (v167 : BitVec 32) : Fin 2 → Nat :=
  let v177 : Index := Scalar.indexCast v167
  let c16 : Index := 16#32
  ![v177.toNat, 16]
def k0_off350 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c5_i32_112 : BitVec 32 := 5#32
  let v180 : BitVec 32 := Scalar.addi v179 c5_i32_112
  let v181 : Index := Scalar.indexCast v180
  let c16_113 : Index := 16#32
  ![v181.toNat, 16]
def k0_off351 (v167 : BitVec 32) : Fin 2 → Nat :=
  let v186 : Index := Scalar.indexCast v167
  let c32 : Index := 32#32
  ![v186.toNat, 32]
def k0_off352 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c5_i32_116 : BitVec 32 := 5#32
  let v189 : BitVec 32 := Scalar.addi v188 c5_i32_116
  let v190 : Index := Scalar.indexCast v189
  let c32_117 : Index := 32#32
  ![v190.toNat, 32]
def k0_off353 (v167 : BitVec 32) : Fin 2 → Nat :=
  let v195 : Index := Scalar.indexCast v167
  let c48 : Index := 48#32
  ![v195.toNat, 48]
def k0_off354 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c5_i32_120 : BitVec 32 := 5#32
  let v198 : BitVec 32 := Scalar.addi v197 c5_i32_120
  let v199 : Index := Scalar.indexCast v198
  let c48_121 : Index := 48#32
  ![v199.toNat, 48]
def k0_off355 (v167 : BitVec 32) : Fin 2 → Nat :=
  let v204 : Index := Scalar.indexCast v167
  let c64 : Index := 64#32
  ![v204.toNat, 64]
def k0_off356 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c5_i32_124 : BitVec 32 := 5#32
  let v207 : BitVec 32 := Scalar.addi v206 c5_i32_124
  let v208 : Index := Scalar.indexCast v207
  let c64_125 : Index := 64#32
  ![v208.toNat, 64]
def k0_off357 (v167 : BitVec 32) : Fin 2 → Nat :=
  let v213 : Index := Scalar.indexCast v167
  let c80 : Index := 80#32
  ![v213.toNat, 80]
def k0_off358 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c5_i32_128 : BitVec 32 := 5#32
  let v216 : BitVec 32 := Scalar.addi v215 c5_i32_128
  let v217 : Index := Scalar.indexCast v216
  let c80_129 : Index := 80#32
  ![v217.toNat, 80]
def k0_off359 (v167 : BitVec 32) : Fin 2 → Nat :=
  let v222 : Index := Scalar.indexCast v167
  let c96 : Index := 96#32
  ![v222.toNat, 96]
def k0_off360 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c5_i32_132 : BitVec 32 := 5#32
  let v225 : BitVec 32 := Scalar.addi v224 c5_i32_132
  let v226 : Index := Scalar.indexCast v225
  let c96_133 : Index := 96#32
  ![v226.toNat, 96]
def k0_off361 (v167 : BitVec 32) : Fin 2 → Nat :=
  let v231 : Index := Scalar.indexCast v167
  let c112 : Index := 112#32
  ![v231.toNat, 112]

def k0_chk24 (v18 : BitVec 32) (k0_t9 : Fin (k0_t9_loop v18).trips) (k0_t11 : Fin k0_t11_loop.trips) (v167 : BitVec 32) : Prop :=
  (∀ (k0_h23 : k0_cond23 v18 k0_t9 k0_t11 = 1#1), ∀ a, (k0_off347 v167) a + S1x16.size a ≤ S512x128.size a) ∧
  (∀ (k0_h23 : k0_cond23 v18 k0_t9 k0_t11 = 1#1), ∀ a, (k0_off349 v167) a + S1x16.size a ≤ S512x128.size a) ∧
  (∀ (k0_h23 : k0_cond23 v18 k0_t9 k0_t11 = 1#1), ∀ a, (k0_off351 v167) a + S1x16.size a ≤ S512x128.size a) ∧
  (∀ (k0_h23 : k0_cond23 v18 k0_t9 k0_t11 = 1#1), ∀ a, (k0_off353 v167) a + S1x16.size a ≤ S512x128.size a) ∧
  (∀ (k0_h23 : k0_cond23 v18 k0_t9 k0_t11 = 1#1), ∀ a, (k0_off355 v167) a + S1x16.size a ≤ S512x128.size a) ∧
  (∀ (k0_h23 : k0_cond23 v18 k0_t9 k0_t11 = 1#1), ∀ a, (k0_off357 v167) a + S1x16.size a ≤ S512x128.size a) ∧
  (∀ (k0_h23 : k0_cond23 v18 k0_t9 k0_t11 = 1#1), ∀ a, (k0_off359 v167) a + S1x16.size a ≤ S512x128.size a) ∧
  (∀ (k0_h23 : k0_cond23 v18 k0_t9 k0_t11 = 1#1), ∀ a, (k0_off361 v167) a + S1x16.size a ≤ S512x128.size a)
theorem k0_off347_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off347 v167) a + S1x16.size a ≤ S512x128.size a := fun v18 k0_t9 k0_t11 v167 k0_hw24 k0_h23 => k0_hw24.1 k0_h23
theorem k0_off349_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off349 v167) a + S1x16.size a ≤ S512x128.size a := fun v18 k0_t9 k0_t11 v167 k0_hw24 k0_h23 => k0_hw24.2.1 k0_h23
theorem k0_off351_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off351 v167) a + S1x16.size a ≤ S512x128.size a := fun v18 k0_t9 k0_t11 v167 k0_hw24 k0_h23 => k0_hw24.2.2.1 k0_h23
theorem k0_off353_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off353 v167) a + S1x16.size a ≤ S512x128.size a := fun v18 k0_t9 k0_t11 v167 k0_hw24 k0_h23 => k0_hw24.2.2.2.1 k0_h23
theorem k0_off355_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off355 v167) a + S1x16.size a ≤ S512x128.size a := fun v18 k0_t9 k0_t11 v167 k0_hw24 k0_h23 => k0_hw24.2.2.2.2.1 k0_h23
theorem k0_off357_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off357 v167) a + S1x16.size a ≤ S512x128.size a := fun v18 k0_t9 k0_t11 v167 k0_hw24 k0_h23 => k0_hw24.2.2.2.2.2.1 k0_h23
theorem k0_off359_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off359 v167) a + S1x16.size a ≤ S512x128.size a := fun v18 k0_t9 k0_t11 v167 k0_hw24 k0_h23 => k0_hw24.2.2.2.2.2.2.1 k0_h23
theorem k0_off361_inb : ∀ (v18 : BitVec 32) (k0_t9 : Fin (k0_t9_loop v18).trips) (k0_t11 : Fin k0_t11_loop.trips) (v167 : BitVec 32) (k0_hw24 : k0_chk24 v18 k0_t9 k0_t11 v167), ∀ (k0_h23 : k0_cond23 v18 k0_t9 k0_t11 = 1#1), ∀ a, (k0_off361 v167) a + S1x16.size a ≤ S512x128.size a := fun v18 k0_t9 k0_t11 v167 k0_hw24 k0_h23 => k0_hw24.2.2.2.2.2.2.2 k0_h23

def k0_off362 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c5_i32_136 : BitVec 32 := 5#32
  let v234 : BitVec 32 := Scalar.addi v233 c5_i32_136
  let v235 : Index := Scalar.indexCast v234
  let c112_137 : Index := 112#32
  ![v235.toNat, 112]
def k0_off363 (v167 : BitVec 32) : Fin 2 → Nat :=
  let v168 : Index := Scalar.indexCast v167
  let c0 : Index := 0#32
  ![v168.toNat, 0]
def k0_cond24 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_74 : BitVec 32 := 128#32
  let v96 : BitVec 32 := Scalar.muli arg17 c128_i32_74
  let c0_i32_47 : BitVec 32 := 0#32
  let c1_i32_49 : BitVec 32 := 1#32
  let arg19 : BitVec 32 := Scf.iv c0_i32_47 c1_i32_49 k0_t11
  let c16_i32_75 : BitVec 32 := 16#32
  let v97 : BitVec 32 := Scalar.muli arg19 c16_i32_75
  let v98 : BitVec 32 := Scalar.addi v96 v97
  let c6_i32 : BitVec 32 := 6#32
  let v99 : BitVec 32 := Scalar.addi v98 c6_i32
  let v100 : BitVec 1 := Scalar.cmpi .slt v99 v18
  let v101 : BitVec 32 := Scalar.extui v100
  let c0_i32_76 : BitVec 32 := 0#32
  let v102 : BitVec 1 := Scalar.cmpi .ne v101 c0_i32_76
  v102

def k0_off364 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c6_i32_108 : BitVec 32 := 6#32
  let v171 : BitVec 32 := Scalar.addi v170 c6_i32_108
  let v172 : Index := Scalar.indexCast v171
  let c0_109 : Index := 0#32
  ![v172.toNat, 0]
def k0_off365 (v167 : BitVec 32) : Fin 2 → Nat :=
  let v177 : Index := Scalar.indexCast v167
  let c16 : Index := 16#32
  ![v177.toNat, 16]
def k0_off366 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c6_i32_112 : BitVec 32 := 6#32
  let v180 : BitVec 32 := Scalar.addi v179 c6_i32_112
  let v181 : Index := Scalar.indexCast v180
  let c16_113 : Index := 16#32
  ![v181.toNat, 16]
def k0_off367 (v167 : BitVec 32) : Fin 2 → Nat :=
  let v186 : Index := Scalar.indexCast v167
  let c32 : Index := 32#32
  ![v186.toNat, 32]
def k0_off368 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c6_i32_116 : BitVec 32 := 6#32
  let v189 : BitVec 32 := Scalar.addi v188 c6_i32_116
  let v190 : Index := Scalar.indexCast v189
  let c32_117 : Index := 32#32
  ![v190.toNat, 32]
def k0_off369 (v167 : BitVec 32) : Fin 2 → Nat :=
  let v195 : Index := Scalar.indexCast v167
  let c48 : Index := 48#32
  ![v195.toNat, 48]
def k0_off370 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c6_i32_120 : BitVec 32 := 6#32
  let v198 : BitVec 32 := Scalar.addi v197 c6_i32_120
  let v199 : Index := Scalar.indexCast v198
  let c48_121 : Index := 48#32
  ![v199.toNat, 48]
def k0_off371 (v167 : BitVec 32) : Fin 2 → Nat :=
  let v204 : Index := Scalar.indexCast v167
  let c64 : Index := 64#32
  ![v204.toNat, 64]
def k0_off372 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c6_i32_124 : BitVec 32 := 6#32
  let v207 : BitVec 32 := Scalar.addi v206 c6_i32_124
  let v208 : Index := Scalar.indexCast v207
  let c64_125 : Index := 64#32
  ![v208.toNat, 64]
def k0_off373 (v167 : BitVec 32) : Fin 2 → Nat :=
  let v213 : Index := Scalar.indexCast v167
  let c80 : Index := 80#32
  ![v213.toNat, 80]
def k0_off374 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c6_i32_128 : BitVec 32 := 6#32
  let v216 : BitVec 32 := Scalar.addi v215 c6_i32_128
  let v217 : Index := Scalar.indexCast v216
  let c80_129 : Index := 80#32
  ![v217.toNat, 80]
def k0_off375 (v167 : BitVec 32) : Fin 2 → Nat :=
  let v222 : Index := Scalar.indexCast v167
  let c96 : Index := 96#32
  ![v222.toNat, 96]
def k0_off376 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c6_i32_132 : BitVec 32 := 6#32
  let v225 : BitVec 32 := Scalar.addi v224 c6_i32_132
  let v226 : Index := Scalar.indexCast v225
  let c96_133 : Index := 96#32
  ![v226.toNat, 96]
def k0_off377 (v167 : BitVec 32) : Fin 2 → Nat :=
  let v231 : Index := Scalar.indexCast v167
  let c112 : Index := 112#32
  ![v231.toNat, 112]

def k0_chk25 (v18 : BitVec 32) (k0_t9 : Fin (k0_t9_loop v18).trips) (k0_t11 : Fin k0_t11_loop.trips) (v167 : BitVec 32) : Prop :=
  (∀ (k0_h24 : k0_cond24 v18 k0_t9 k0_t11 = 1#1), ∀ a, (k0_off363 v167) a + S1x16.size a ≤ S512x128.size a) ∧
  (∀ (k0_h24 : k0_cond24 v18 k0_t9 k0_t11 = 1#1), ∀ a, (k0_off365 v167) a + S1x16.size a ≤ S512x128.size a) ∧
  (∀ (k0_h24 : k0_cond24 v18 k0_t9 k0_t11 = 1#1), ∀ a, (k0_off367 v167) a + S1x16.size a ≤ S512x128.size a) ∧
  (∀ (k0_h24 : k0_cond24 v18 k0_t9 k0_t11 = 1#1), ∀ a, (k0_off369 v167) a + S1x16.size a ≤ S512x128.size a) ∧
  (∀ (k0_h24 : k0_cond24 v18 k0_t9 k0_t11 = 1#1), ∀ a, (k0_off371 v167) a + S1x16.size a ≤ S512x128.size a) ∧
  (∀ (k0_h24 : k0_cond24 v18 k0_t9 k0_t11 = 1#1), ∀ a, (k0_off373 v167) a + S1x16.size a ≤ S512x128.size a) ∧
  (∀ (k0_h24 : k0_cond24 v18 k0_t9 k0_t11 = 1#1), ∀ a, (k0_off375 v167) a + S1x16.size a ≤ S512x128.size a) ∧
  (∀ (k0_h24 : k0_cond24 v18 k0_t9 k0_t11 = 1#1), ∀ a, (k0_off377 v167) a + S1x16.size a ≤ S512x128.size a)
theorem k0_off363_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off363 v167) a + S1x16.size a ≤ S512x128.size a := fun v18 k0_t9 k0_t11 v167 k0_hw25 k0_h24 => k0_hw25.1 k0_h24
theorem k0_off365_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off365 v167) a + S1x16.size a ≤ S512x128.size a := fun v18 k0_t9 k0_t11 v167 k0_hw25 k0_h24 => k0_hw25.2.1 k0_h24
theorem k0_off367_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off367 v167) a + S1x16.size a ≤ S512x128.size a := fun v18 k0_t9 k0_t11 v167 k0_hw25 k0_h24 => k0_hw25.2.2.1 k0_h24
theorem k0_off369_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off369 v167) a + S1x16.size a ≤ S512x128.size a := fun v18 k0_t9 k0_t11 v167 k0_hw25 k0_h24 => k0_hw25.2.2.2.1 k0_h24
theorem k0_off371_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off371 v167) a + S1x16.size a ≤ S512x128.size a := fun v18 k0_t9 k0_t11 v167 k0_hw25 k0_h24 => k0_hw25.2.2.2.2.1 k0_h24
theorem k0_off373_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off373 v167) a + S1x16.size a ≤ S512x128.size a := fun v18 k0_t9 k0_t11 v167 k0_hw25 k0_h24 => k0_hw25.2.2.2.2.2.1 k0_h24
theorem k0_off375_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off375 v167) a + S1x16.size a ≤ S512x128.size a := fun v18 k0_t9 k0_t11 v167 k0_hw25 k0_h24 => k0_hw25.2.2.2.2.2.2.1 k0_h24
theorem k0_off377_inb : ∀ (v18 : BitVec 32) (k0_t9 : Fin (k0_t9_loop v18).trips) (k0_t11 : Fin k0_t11_loop.trips) (v167 : BitVec 32) (k0_hw25 : k0_chk25 v18 k0_t9 k0_t11 v167), ∀ (k0_h24 : k0_cond24 v18 k0_t9 k0_t11 = 1#1), ∀ a, (k0_off377 v167) a + S1x16.size a ≤ S512x128.size a := fun v18 k0_t9 k0_t11 v167 k0_hw25 k0_h24 => k0_hw25.2.2.2.2.2.2.2 k0_h24

def k0_off378 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c6_i32_136 : BitVec 32 := 6#32
  let v234 : BitVec 32 := Scalar.addi v233 c6_i32_136
  let v235 : Index := Scalar.indexCast v234
  let c112_137 : Index := 112#32
  ![v235.toNat, 112]
def k0_off379 (v167 : BitVec 32) : Fin 2 → Nat :=
  let v168 : Index := Scalar.indexCast v167
  let c0 : Index := 0#32
  ![v168.toNat, 0]
def k0_cond25 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_77 : BitVec 32 := 128#32
  let v103 : BitVec 32 := Scalar.muli arg17 c128_i32_77
  let c0_i32_47 : BitVec 32 := 0#32
  let c1_i32_49 : BitVec 32 := 1#32
  let arg19 : BitVec 32 := Scf.iv c0_i32_47 c1_i32_49 k0_t11
  let c16_i32_78 : BitVec 32 := 16#32
  let v104 : BitVec 32 := Scalar.muli arg19 c16_i32_78
  let v105 : BitVec 32 := Scalar.addi v103 v104
  let c7_i32 : BitVec 32 := 7#32
  let v106 : BitVec 32 := Scalar.addi v105 c7_i32
  let v107 : BitVec 1 := Scalar.cmpi .slt v106 v18
  let v108 : BitVec 32 := Scalar.extui v107
  let c0_i32_79 : BitVec 32 := 0#32
  let v109 : BitVec 1 := Scalar.cmpi .ne v108 c0_i32_79
  v109

def k0_off380 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c7_i32_108 : BitVec 32 := 7#32
  let v171 : BitVec 32 := Scalar.addi v170 c7_i32_108
  let v172 : Index := Scalar.indexCast v171
  let c0_109 : Index := 0#32
  ![v172.toNat, 0]
def k0_off381 (v167 : BitVec 32) : Fin 2 → Nat :=
  let v177 : Index := Scalar.indexCast v167
  let c16 : Index := 16#32
  ![v177.toNat, 16]
def k0_off382 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c7_i32_112 : BitVec 32 := 7#32
  let v180 : BitVec 32 := Scalar.addi v179 c7_i32_112
  let v181 : Index := Scalar.indexCast v180
  let c16_113 : Index := 16#32
  ![v181.toNat, 16]
def k0_off383 (v167 : BitVec 32) : Fin 2 → Nat :=
  let v186 : Index := Scalar.indexCast v167
  let c32 : Index := 32#32
  ![v186.toNat, 32]
def k0_off384 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c7_i32_116 : BitVec 32 := 7#32
  let v189 : BitVec 32 := Scalar.addi v188 c7_i32_116
  let v190 : Index := Scalar.indexCast v189
  let c32_117 : Index := 32#32
  ![v190.toNat, 32]
def k0_off385 (v167 : BitVec 32) : Fin 2 → Nat :=
  let v195 : Index := Scalar.indexCast v167
  let c48 : Index := 48#32
  ![v195.toNat, 48]
def k0_off386 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c7_i32_120 : BitVec 32 := 7#32
  let v198 : BitVec 32 := Scalar.addi v197 c7_i32_120
  let v199 : Index := Scalar.indexCast v198
  let c48_121 : Index := 48#32
  ![v199.toNat, 48]
def k0_off387 (v167 : BitVec 32) : Fin 2 → Nat :=
  let v204 : Index := Scalar.indexCast v167
  let c64 : Index := 64#32
  ![v204.toNat, 64]
def k0_off388 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c7_i32_124 : BitVec 32 := 7#32
  let v207 : BitVec 32 := Scalar.addi v206 c7_i32_124
  let v208 : Index := Scalar.indexCast v207
  let c64_125 : Index := 64#32
  ![v208.toNat, 64]
def k0_off389 (v167 : BitVec 32) : Fin 2 → Nat :=
  let v213 : Index := Scalar.indexCast v167
  let c80 : Index := 80#32
  ![v213.toNat, 80]
def k0_off390 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c7_i32_128 : BitVec 32 := 7#32
  let v216 : BitVec 32 := Scalar.addi v215 c7_i32_128
  let v217 : Index := Scalar.indexCast v216
  let c80_129 : Index := 80#32
  ![v217.toNat, 80]
def k0_off391 (v167 : BitVec 32) : Fin 2 → Nat :=
  let v222 : Index := Scalar.indexCast v167
  let c96 : Index := 96#32
  ![v222.toNat, 96]
def k0_off392 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c7_i32_132 : BitVec 32 := 7#32
  let v225 : BitVec 32 := Scalar.addi v224 c7_i32_132
  let v226 : Index := Scalar.indexCast v225
  let c96_133 : Index := 96#32
  ![v226.toNat, 96]
def k0_off393 (v167 : BitVec 32) : Fin 2 → Nat :=
  let v231 : Index := Scalar.indexCast v167
  let c112 : Index := 112#32
  ![v231.toNat, 112]

def k0_chk26 (v18 : BitVec 32) (k0_t9 : Fin (k0_t9_loop v18).trips) (k0_t11 : Fin k0_t11_loop.trips) (v167 : BitVec 32) : Prop :=
  (∀ (k0_h25 : k0_cond25 v18 k0_t9 k0_t11 = 1#1), ∀ a, (k0_off379 v167) a + S1x16.size a ≤ S512x128.size a) ∧
  (∀ (k0_h25 : k0_cond25 v18 k0_t9 k0_t11 = 1#1), ∀ a, (k0_off381 v167) a + S1x16.size a ≤ S512x128.size a) ∧
  (∀ (k0_h25 : k0_cond25 v18 k0_t9 k0_t11 = 1#1), ∀ a, (k0_off383 v167) a + S1x16.size a ≤ S512x128.size a) ∧
  (∀ (k0_h25 : k0_cond25 v18 k0_t9 k0_t11 = 1#1), ∀ a, (k0_off385 v167) a + S1x16.size a ≤ S512x128.size a) ∧
  (∀ (k0_h25 : k0_cond25 v18 k0_t9 k0_t11 = 1#1), ∀ a, (k0_off387 v167) a + S1x16.size a ≤ S512x128.size a) ∧
  (∀ (k0_h25 : k0_cond25 v18 k0_t9 k0_t11 = 1#1), ∀ a, (k0_off389 v167) a + S1x16.size a ≤ S512x128.size a) ∧
  (∀ (k0_h25 : k0_cond25 v18 k0_t9 k0_t11 = 1#1), ∀ a, (k0_off391 v167) a + S1x16.size a ≤ S512x128.size a) ∧
  (∀ (k0_h25 : k0_cond25 v18 k0_t9 k0_t11 = 1#1), ∀ a, (k0_off393 v167) a + S1x16.size a ≤ S512x128.size a)
theorem k0_off379_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off379 v167) a + S1x16.size a ≤ S512x128.size a := fun v18 k0_t9 k0_t11 v167 k0_hw26 k0_h25 => k0_hw26.1 k0_h25
theorem k0_off381_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off381 v167) a + S1x16.size a ≤ S512x128.size a := fun v18 k0_t9 k0_t11 v167 k0_hw26 k0_h25 => k0_hw26.2.1 k0_h25
theorem k0_off383_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off383 v167) a + S1x16.size a ≤ S512x128.size a := fun v18 k0_t9 k0_t11 v167 k0_hw26 k0_h25 => k0_hw26.2.2.1 k0_h25
theorem k0_off385_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off385 v167) a + S1x16.size a ≤ S512x128.size a := fun v18 k0_t9 k0_t11 v167 k0_hw26 k0_h25 => k0_hw26.2.2.2.1 k0_h25
theorem k0_off387_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off387 v167) a + S1x16.size a ≤ S512x128.size a := fun v18 k0_t9 k0_t11 v167 k0_hw26 k0_h25 => k0_hw26.2.2.2.2.1 k0_h25
theorem k0_off389_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off389 v167) a + S1x16.size a ≤ S512x128.size a := fun v18 k0_t9 k0_t11 v167 k0_hw26 k0_h25 => k0_hw26.2.2.2.2.2.1 k0_h25
theorem k0_off391_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off391 v167) a + S1x16.size a ≤ S512x128.size a := fun v18 k0_t9 k0_t11 v167 k0_hw26 k0_h25 => k0_hw26.2.2.2.2.2.2.1 k0_h25
theorem k0_off393_inb : ∀ (v18 : BitVec 32) (k0_t9 : Fin (k0_t9_loop v18).trips) (k0_t11 : Fin k0_t11_loop.trips) (v167 : BitVec 32) (k0_hw26 : k0_chk26 v18 k0_t9 k0_t11 v167), ∀ (k0_h25 : k0_cond25 v18 k0_t9 k0_t11 = 1#1), ∀ a, (k0_off393 v167) a + S1x16.size a ≤ S512x128.size a := fun v18 k0_t9 k0_t11 v167 k0_hw26 k0_h25 => k0_hw26.2.2.2.2.2.2.2 k0_h25

def k0_off394 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c7_i32_136 : BitVec 32 := 7#32
  let v234 : BitVec 32 := Scalar.addi v233 c7_i32_136
  let v235 : Index := Scalar.indexCast v234
  let c112_137 : Index := 112#32
  ![v235.toNat, 112]
def k0_off395 (v167 : BitVec 32) : Fin 2 → Nat :=
  let v168 : Index := Scalar.indexCast v167
  let c0 : Index := 0#32
  ![v168.toNat, 0]
def k0_cond26 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_80 : BitVec 32 := 128#32
  let v110 : BitVec 32 := Scalar.muli arg17 c128_i32_80
  let c0_i32_47 : BitVec 32 := 0#32
  let c1_i32_49 : BitVec 32 := 1#32
  let arg19 : BitVec 32 := Scf.iv c0_i32_47 c1_i32_49 k0_t11
  let c16_i32_81 : BitVec 32 := 16#32
  let v111 : BitVec 32 := Scalar.muli arg19 c16_i32_81
  let v112 : BitVec 32 := Scalar.addi v110 v111
  let c8_i32_82 : BitVec 32 := 8#32
  let v113 : BitVec 32 := Scalar.addi v112 c8_i32_82
  let v114 : BitVec 1 := Scalar.cmpi .slt v113 v18
  let v115 : BitVec 32 := Scalar.extui v114
  let c0_i32_83 : BitVec 32 := 0#32
  let v116 : BitVec 1 := Scalar.cmpi .ne v115 c0_i32_83
  v116

def k0_off396 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c8_i32_108 : BitVec 32 := 8#32
  let v171 : BitVec 32 := Scalar.addi v170 c8_i32_108
  let v172 : Index := Scalar.indexCast v171
  let c0_109 : Index := 0#32
  ![v172.toNat, 0]
def k0_off397 (v167 : BitVec 32) : Fin 2 → Nat :=
  let v177 : Index := Scalar.indexCast v167
  let c16 : Index := 16#32
  ![v177.toNat, 16]
def k0_off398 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c8_i32_112 : BitVec 32 := 8#32
  let v180 : BitVec 32 := Scalar.addi v179 c8_i32_112
  let v181 : Index := Scalar.indexCast v180
  let c16_113 : Index := 16#32
  ![v181.toNat, 16]
def k0_off399 (v167 : BitVec 32) : Fin 2 → Nat :=
  let v186 : Index := Scalar.indexCast v167
  let c32 : Index := 32#32
  ![v186.toNat, 32]
def k0_off400 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c8_i32_116 : BitVec 32 := 8#32
  let v189 : BitVec 32 := Scalar.addi v188 c8_i32_116
  let v190 : Index := Scalar.indexCast v189
  let c32_117 : Index := 32#32
  ![v190.toNat, 32]
def k0_off401 (v167 : BitVec 32) : Fin 2 → Nat :=
  let v195 : Index := Scalar.indexCast v167
  let c48 : Index := 48#32
  ![v195.toNat, 48]
def k0_off402 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c8_i32_120 : BitVec 32 := 8#32
  let v198 : BitVec 32 := Scalar.addi v197 c8_i32_120
  let v199 : Index := Scalar.indexCast v198
  let c48_121 : Index := 48#32
  ![v199.toNat, 48]
def k0_off403 (v167 : BitVec 32) : Fin 2 → Nat :=
  let v204 : Index := Scalar.indexCast v167
  let c64 : Index := 64#32
  ![v204.toNat, 64]
def k0_off404 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c8_i32_124 : BitVec 32 := 8#32
  let v207 : BitVec 32 := Scalar.addi v206 c8_i32_124
  let v208 : Index := Scalar.indexCast v207
  let c64_125 : Index := 64#32
  ![v208.toNat, 64]
def k0_off405 (v167 : BitVec 32) : Fin 2 → Nat :=
  let v213 : Index := Scalar.indexCast v167
  let c80 : Index := 80#32
  ![v213.toNat, 80]
def k0_off406 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c8_i32_128 : BitVec 32 := 8#32
  let v216 : BitVec 32 := Scalar.addi v215 c8_i32_128
  let v217 : Index := Scalar.indexCast v216
  let c80_129 : Index := 80#32
  ![v217.toNat, 80]
def k0_off407 (v167 : BitVec 32) : Fin 2 → Nat :=
  let v222 : Index := Scalar.indexCast v167
  let c96 : Index := 96#32
  ![v222.toNat, 96]
def k0_off408 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c8_i32_132 : BitVec 32 := 8#32
  let v225 : BitVec 32 := Scalar.addi v224 c8_i32_132
  let v226 : Index := Scalar.indexCast v225
  let c96_133 : Index := 96#32
  ![v226.toNat, 96]
def k0_off409 (v167 : BitVec 32) : Fin 2 → Nat :=
  let v231 : Index := Scalar.indexCast v167
  let c112 : Index := 112#32
  ![v231.toNat, 112]

def k0_chk27 (v18 : BitVec 32) (k0_t9 : Fin (k0_t9_loop v18).trips) (k0_t11 : Fin k0_t11_loop.trips) (v167 : BitVec 32) : Prop :=
  (∀ (k0_h26 : k0_cond26 v18 k0_t9 k0_t11 = 1#1), ∀ a, (k0_off395 v167) a + S1x16.size a ≤ S512x128.size a) ∧
  (∀ (k0_h26 : k0_cond26 v18 k0_t9 k0_t11 = 1#1), ∀ a, (k0_off397 v167) a + S1x16.size a ≤ S512x128.size a) ∧
  (∀ (k0_h26 : k0_cond26 v18 k0_t9 k0_t11 = 1#1), ∀ a, (k0_off399 v167) a + S1x16.size a ≤ S512x128.size a) ∧
  (∀ (k0_h26 : k0_cond26 v18 k0_t9 k0_t11 = 1#1), ∀ a, (k0_off401 v167) a + S1x16.size a ≤ S512x128.size a) ∧
  (∀ (k0_h26 : k0_cond26 v18 k0_t9 k0_t11 = 1#1), ∀ a, (k0_off403 v167) a + S1x16.size a ≤ S512x128.size a) ∧
  (∀ (k0_h26 : k0_cond26 v18 k0_t9 k0_t11 = 1#1), ∀ a, (k0_off405 v167) a + S1x16.size a ≤ S512x128.size a) ∧
  (∀ (k0_h26 : k0_cond26 v18 k0_t9 k0_t11 = 1#1), ∀ a, (k0_off407 v167) a + S1x16.size a ≤ S512x128.size a) ∧
  (∀ (k0_h26 : k0_cond26 v18 k0_t9 k0_t11 = 1#1), ∀ a, (k0_off409 v167) a + S1x16.size a ≤ S512x128.size a)
theorem k0_off395_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off395 v167) a + S1x16.size a ≤ S512x128.size a := fun v18 k0_t9 k0_t11 v167 k0_hw27 k0_h26 => k0_hw27.1 k0_h26
theorem k0_off397_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off397 v167) a + S1x16.size a ≤ S512x128.size a := fun v18 k0_t9 k0_t11 v167 k0_hw27 k0_h26 => k0_hw27.2.1 k0_h26
theorem k0_off399_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off399 v167) a + S1x16.size a ≤ S512x128.size a := fun v18 k0_t9 k0_t11 v167 k0_hw27 k0_h26 => k0_hw27.2.2.1 k0_h26
theorem k0_off401_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off401 v167) a + S1x16.size a ≤ S512x128.size a := fun v18 k0_t9 k0_t11 v167 k0_hw27 k0_h26 => k0_hw27.2.2.2.1 k0_h26
theorem k0_off403_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off403 v167) a + S1x16.size a ≤ S512x128.size a := fun v18 k0_t9 k0_t11 v167 k0_hw27 k0_h26 => k0_hw27.2.2.2.2.1 k0_h26
theorem k0_off405_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off405 v167) a + S1x16.size a ≤ S512x128.size a := fun v18 k0_t9 k0_t11 v167 k0_hw27 k0_h26 => k0_hw27.2.2.2.2.2.1 k0_h26
theorem k0_off407_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off407 v167) a + S1x16.size a ≤ S512x128.size a := fun v18 k0_t9 k0_t11 v167 k0_hw27 k0_h26 => k0_hw27.2.2.2.2.2.2.1 k0_h26
theorem k0_off409_inb : ∀ (v18 : BitVec 32) (k0_t9 : Fin (k0_t9_loop v18).trips) (k0_t11 : Fin k0_t11_loop.trips) (v167 : BitVec 32) (k0_hw27 : k0_chk27 v18 k0_t9 k0_t11 v167), ∀ (k0_h26 : k0_cond26 v18 k0_t9 k0_t11 = 1#1), ∀ a, (k0_off409 v167) a + S1x16.size a ≤ S512x128.size a := fun v18 k0_t9 k0_t11 v167 k0_hw27 k0_h26 => k0_hw27.2.2.2.2.2.2.2 k0_h26

def k0_off410 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c8_i32_136 : BitVec 32 := 8#32
  let v234 : BitVec 32 := Scalar.addi v233 c8_i32_136
  let v235 : Index := Scalar.indexCast v234
  let c112_137 : Index := 112#32
  ![v235.toNat, 112]
def k0_off411 (v167 : BitVec 32) : Fin 2 → Nat :=
  let v168 : Index := Scalar.indexCast v167
  let c0 : Index := 0#32
  ![v168.toNat, 0]
def k0_cond27 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_84 : BitVec 32 := 128#32
  let v117 : BitVec 32 := Scalar.muli arg17 c128_i32_84
  let c0_i32_47 : BitVec 32 := 0#32
  let c1_i32_49 : BitVec 32 := 1#32
  let arg19 : BitVec 32 := Scf.iv c0_i32_47 c1_i32_49 k0_t11
  let c16_i32_85 : BitVec 32 := 16#32
  let v118 : BitVec 32 := Scalar.muli arg19 c16_i32_85
  let v119 : BitVec 32 := Scalar.addi v117 v118
  let c9_i32 : BitVec 32 := 9#32
  let v120 : BitVec 32 := Scalar.addi v119 c9_i32
  let v121 : BitVec 1 := Scalar.cmpi .slt v120 v18
  let v122 : BitVec 32 := Scalar.extui v121
  let c0_i32_86 : BitVec 32 := 0#32
  let v123 : BitVec 1 := Scalar.cmpi .ne v122 c0_i32_86
  v123

def k0_off412 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c9_i32_108 : BitVec 32 := 9#32
  let v171 : BitVec 32 := Scalar.addi v170 c9_i32_108
  let v172 : Index := Scalar.indexCast v171
  let c0_109 : Index := 0#32
  ![v172.toNat, 0]
def k0_off413 (v167 : BitVec 32) : Fin 2 → Nat :=
  let v177 : Index := Scalar.indexCast v167
  let c16 : Index := 16#32
  ![v177.toNat, 16]
def k0_off414 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c9_i32_112 : BitVec 32 := 9#32
  let v180 : BitVec 32 := Scalar.addi v179 c9_i32_112
  let v181 : Index := Scalar.indexCast v180
  let c16_113 : Index := 16#32
  ![v181.toNat, 16]
def k0_off415 (v167 : BitVec 32) : Fin 2 → Nat :=
  let v186 : Index := Scalar.indexCast v167
  let c32 : Index := 32#32
  ![v186.toNat, 32]
def k0_off416 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c9_i32_116 : BitVec 32 := 9#32
  let v189 : BitVec 32 := Scalar.addi v188 c9_i32_116
  let v190 : Index := Scalar.indexCast v189
  let c32_117 : Index := 32#32
  ![v190.toNat, 32]
def k0_off417 (v167 : BitVec 32) : Fin 2 → Nat :=
  let v195 : Index := Scalar.indexCast v167
  let c48 : Index := 48#32
  ![v195.toNat, 48]
def k0_off418 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c9_i32_120 : BitVec 32 := 9#32
  let v198 : BitVec 32 := Scalar.addi v197 c9_i32_120
  let v199 : Index := Scalar.indexCast v198
  let c48_121 : Index := 48#32
  ![v199.toNat, 48]
def k0_off419 (v167 : BitVec 32) : Fin 2 → Nat :=
  let v204 : Index := Scalar.indexCast v167
  let c64 : Index := 64#32
  ![v204.toNat, 64]
def k0_off420 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c9_i32_124 : BitVec 32 := 9#32
  let v207 : BitVec 32 := Scalar.addi v206 c9_i32_124
  let v208 : Index := Scalar.indexCast v207
  let c64_125 : Index := 64#32
  ![v208.toNat, 64]
def k0_off421 (v167 : BitVec 32) : Fin 2 → Nat :=
  let v213 : Index := Scalar.indexCast v167
  let c80 : Index := 80#32
  ![v213.toNat, 80]
def k0_off422 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c9_i32_128 : BitVec 32 := 9#32
  let v216 : BitVec 32 := Scalar.addi v215 c9_i32_128
  let v217 : Index := Scalar.indexCast v216
  let c80_129 : Index := 80#32
  ![v217.toNat, 80]
def k0_off423 (v167 : BitVec 32) : Fin 2 → Nat :=
  let v222 : Index := Scalar.indexCast v167
  let c96 : Index := 96#32
  ![v222.toNat, 96]
def k0_off424 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c9_i32_132 : BitVec 32 := 9#32
  let v225 : BitVec 32 := Scalar.addi v224 c9_i32_132
  let v226 : Index := Scalar.indexCast v225
  let c96_133 : Index := 96#32
  ![v226.toNat, 96]
def k0_off425 (v167 : BitVec 32) : Fin 2 → Nat :=
  let v231 : Index := Scalar.indexCast v167
  let c112 : Index := 112#32
  ![v231.toNat, 112]

def k0_chk28 (v18 : BitVec 32) (k0_t9 : Fin (k0_t9_loop v18).trips) (k0_t11 : Fin k0_t11_loop.trips) (v167 : BitVec 32) : Prop :=
  (∀ (k0_h27 : k0_cond27 v18 k0_t9 k0_t11 = 1#1), ∀ a, (k0_off411 v167) a + S1x16.size a ≤ S512x128.size a) ∧
  (∀ (k0_h27 : k0_cond27 v18 k0_t9 k0_t11 = 1#1), ∀ a, (k0_off413 v167) a + S1x16.size a ≤ S512x128.size a) ∧
  (∀ (k0_h27 : k0_cond27 v18 k0_t9 k0_t11 = 1#1), ∀ a, (k0_off415 v167) a + S1x16.size a ≤ S512x128.size a) ∧
  (∀ (k0_h27 : k0_cond27 v18 k0_t9 k0_t11 = 1#1), ∀ a, (k0_off417 v167) a + S1x16.size a ≤ S512x128.size a) ∧
  (∀ (k0_h27 : k0_cond27 v18 k0_t9 k0_t11 = 1#1), ∀ a, (k0_off419 v167) a + S1x16.size a ≤ S512x128.size a) ∧
  (∀ (k0_h27 : k0_cond27 v18 k0_t9 k0_t11 = 1#1), ∀ a, (k0_off421 v167) a + S1x16.size a ≤ S512x128.size a) ∧
  (∀ (k0_h27 : k0_cond27 v18 k0_t9 k0_t11 = 1#1), ∀ a, (k0_off423 v167) a + S1x16.size a ≤ S512x128.size a) ∧
  (∀ (k0_h27 : k0_cond27 v18 k0_t9 k0_t11 = 1#1), ∀ a, (k0_off425 v167) a + S1x16.size a ≤ S512x128.size a)
theorem k0_off411_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off411 v167) a + S1x16.size a ≤ S512x128.size a := fun v18 k0_t9 k0_t11 v167 k0_hw28 k0_h27 => k0_hw28.1 k0_h27
theorem k0_off413_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off413 v167) a + S1x16.size a ≤ S512x128.size a := fun v18 k0_t9 k0_t11 v167 k0_hw28 k0_h27 => k0_hw28.2.1 k0_h27
theorem k0_off415_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off415 v167) a + S1x16.size a ≤ S512x128.size a := fun v18 k0_t9 k0_t11 v167 k0_hw28 k0_h27 => k0_hw28.2.2.1 k0_h27
theorem k0_off417_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off417 v167) a + S1x16.size a ≤ S512x128.size a := fun v18 k0_t9 k0_t11 v167 k0_hw28 k0_h27 => k0_hw28.2.2.2.1 k0_h27
theorem k0_off419_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off419 v167) a + S1x16.size a ≤ S512x128.size a := fun v18 k0_t9 k0_t11 v167 k0_hw28 k0_h27 => k0_hw28.2.2.2.2.1 k0_h27
theorem k0_off421_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off421 v167) a + S1x16.size a ≤ S512x128.size a := fun v18 k0_t9 k0_t11 v167 k0_hw28 k0_h27 => k0_hw28.2.2.2.2.2.1 k0_h27
theorem k0_off423_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off423 v167) a + S1x16.size a ≤ S512x128.size a := fun v18 k0_t9 k0_t11 v167 k0_hw28 k0_h27 => k0_hw28.2.2.2.2.2.2.1 k0_h27
theorem k0_off425_inb : ∀ (v18 : BitVec 32) (k0_t9 : Fin (k0_t9_loop v18).trips) (k0_t11 : Fin k0_t11_loop.trips) (v167 : BitVec 32) (k0_hw28 : k0_chk28 v18 k0_t9 k0_t11 v167), ∀ (k0_h27 : k0_cond27 v18 k0_t9 k0_t11 = 1#1), ∀ a, (k0_off425 v167) a + S1x16.size a ≤ S512x128.size a := fun v18 k0_t9 k0_t11 v167 k0_hw28 k0_h27 => k0_hw28.2.2.2.2.2.2.2 k0_h27

def k0_off426 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c9_i32_136 : BitVec 32 := 9#32
  let v234 : BitVec 32 := Scalar.addi v233 c9_i32_136
  let v235 : Index := Scalar.indexCast v234
  let c112_137 : Index := 112#32
  ![v235.toNat, 112]
def k0_off427 (v167 : BitVec 32) : Fin 2 → Nat :=
  let v168 : Index := Scalar.indexCast v167
  let c0 : Index := 0#32
  ![v168.toNat, 0]
def k0_cond28 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_87 : BitVec 32 := 128#32
  let v124 : BitVec 32 := Scalar.muli arg17 c128_i32_87
  let c0_i32_47 : BitVec 32 := 0#32
  let c1_i32_49 : BitVec 32 := 1#32
  let arg19 : BitVec 32 := Scf.iv c0_i32_47 c1_i32_49 k0_t11
  let c16_i32_88 : BitVec 32 := 16#32
  let v125 : BitVec 32 := Scalar.muli arg19 c16_i32_88
  let v126 : BitVec 32 := Scalar.addi v124 v125
  let c10_i32_89 : BitVec 32 := 10#32
  let v127 : BitVec 32 := Scalar.addi v126 c10_i32_89
  let v128 : BitVec 1 := Scalar.cmpi .slt v127 v18
  let v129 : BitVec 32 := Scalar.extui v128
  let c0_i32_90 : BitVec 32 := 0#32
  let v130 : BitVec 1 := Scalar.cmpi .ne v129 c0_i32_90
  v130

def k0_off428 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c10_i32_108 : BitVec 32 := 10#32
  let v171 : BitVec 32 := Scalar.addi v170 c10_i32_108
  let v172 : Index := Scalar.indexCast v171
  let c0_109 : Index := 0#32
  ![v172.toNat, 0]
def k0_off429 (v167 : BitVec 32) : Fin 2 → Nat :=
  let v177 : Index := Scalar.indexCast v167
  let c16 : Index := 16#32
  ![v177.toNat, 16]
def k0_off430 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c10_i32_112 : BitVec 32 := 10#32
  let v180 : BitVec 32 := Scalar.addi v179 c10_i32_112
  let v181 : Index := Scalar.indexCast v180
  let c16_113 : Index := 16#32
  ![v181.toNat, 16]
def k0_off431 (v167 : BitVec 32) : Fin 2 → Nat :=
  let v186 : Index := Scalar.indexCast v167
  let c32 : Index := 32#32
  ![v186.toNat, 32]
def k0_off432 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c10_i32_116 : BitVec 32 := 10#32
  let v189 : BitVec 32 := Scalar.addi v188 c10_i32_116
  let v190 : Index := Scalar.indexCast v189
  let c32_117 : Index := 32#32
  ![v190.toNat, 32]
def k0_off433 (v167 : BitVec 32) : Fin 2 → Nat :=
  let v195 : Index := Scalar.indexCast v167
  let c48 : Index := 48#32
  ![v195.toNat, 48]
def k0_off434 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c10_i32_120 : BitVec 32 := 10#32
  let v198 : BitVec 32 := Scalar.addi v197 c10_i32_120
  let v199 : Index := Scalar.indexCast v198
  let c48_121 : Index := 48#32
  ![v199.toNat, 48]
def k0_off435 (v167 : BitVec 32) : Fin 2 → Nat :=
  let v204 : Index := Scalar.indexCast v167
  let c64 : Index := 64#32
  ![v204.toNat, 64]
def k0_off436 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c10_i32_124 : BitVec 32 := 10#32
  let v207 : BitVec 32 := Scalar.addi v206 c10_i32_124
  let v208 : Index := Scalar.indexCast v207
  let c64_125 : Index := 64#32
  ![v208.toNat, 64]
def k0_off437 (v167 : BitVec 32) : Fin 2 → Nat :=
  let v213 : Index := Scalar.indexCast v167
  let c80 : Index := 80#32
  ![v213.toNat, 80]
def k0_off438 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c10_i32_128 : BitVec 32 := 10#32
  let v216 : BitVec 32 := Scalar.addi v215 c10_i32_128
  let v217 : Index := Scalar.indexCast v216
  let c80_129 : Index := 80#32
  ![v217.toNat, 80]
def k0_off439 (v167 : BitVec 32) : Fin 2 → Nat :=
  let v222 : Index := Scalar.indexCast v167
  let c96 : Index := 96#32
  ![v222.toNat, 96]
def k0_off440 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c10_i32_132 : BitVec 32 := 10#32
  let v225 : BitVec 32 := Scalar.addi v224 c10_i32_132
  let v226 : Index := Scalar.indexCast v225
  let c96_133 : Index := 96#32
  ![v226.toNat, 96]
def k0_off441 (v167 : BitVec 32) : Fin 2 → Nat :=
  let v231 : Index := Scalar.indexCast v167
  let c112 : Index := 112#32
  ![v231.toNat, 112]

def k0_chk29 (v18 : BitVec 32) (k0_t9 : Fin (k0_t9_loop v18).trips) (k0_t11 : Fin k0_t11_loop.trips) (v167 : BitVec 32) : Prop :=
  (∀ (k0_h28 : k0_cond28 v18 k0_t9 k0_t11 = 1#1), ∀ a, (k0_off427 v167) a + S1x16.size a ≤ S512x128.size a) ∧
  (∀ (k0_h28 : k0_cond28 v18 k0_t9 k0_t11 = 1#1), ∀ a, (k0_off429 v167) a + S1x16.size a ≤ S512x128.size a) ∧
  (∀ (k0_h28 : k0_cond28 v18 k0_t9 k0_t11 = 1#1), ∀ a, (k0_off431 v167) a + S1x16.size a ≤ S512x128.size a) ∧
  (∀ (k0_h28 : k0_cond28 v18 k0_t9 k0_t11 = 1#1), ∀ a, (k0_off433 v167) a + S1x16.size a ≤ S512x128.size a) ∧
  (∀ (k0_h28 : k0_cond28 v18 k0_t9 k0_t11 = 1#1), ∀ a, (k0_off435 v167) a + S1x16.size a ≤ S512x128.size a) ∧
  (∀ (k0_h28 : k0_cond28 v18 k0_t9 k0_t11 = 1#1), ∀ a, (k0_off437 v167) a + S1x16.size a ≤ S512x128.size a) ∧
  (∀ (k0_h28 : k0_cond28 v18 k0_t9 k0_t11 = 1#1), ∀ a, (k0_off439 v167) a + S1x16.size a ≤ S512x128.size a) ∧
  (∀ (k0_h28 : k0_cond28 v18 k0_t9 k0_t11 = 1#1), ∀ a, (k0_off441 v167) a + S1x16.size a ≤ S512x128.size a)
theorem k0_off427_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off427 v167) a + S1x16.size a ≤ S512x128.size a := fun v18 k0_t9 k0_t11 v167 k0_hw29 k0_h28 => k0_hw29.1 k0_h28
theorem k0_off429_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off429 v167) a + S1x16.size a ≤ S512x128.size a := fun v18 k0_t9 k0_t11 v167 k0_hw29 k0_h28 => k0_hw29.2.1 k0_h28
theorem k0_off431_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off431 v167) a + S1x16.size a ≤ S512x128.size a := fun v18 k0_t9 k0_t11 v167 k0_hw29 k0_h28 => k0_hw29.2.2.1 k0_h28
theorem k0_off433_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off433 v167) a + S1x16.size a ≤ S512x128.size a := fun v18 k0_t9 k0_t11 v167 k0_hw29 k0_h28 => k0_hw29.2.2.2.1 k0_h28
theorem k0_off435_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off435 v167) a + S1x16.size a ≤ S512x128.size a := fun v18 k0_t9 k0_t11 v167 k0_hw29 k0_h28 => k0_hw29.2.2.2.2.1 k0_h28
theorem k0_off437_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off437 v167) a + S1x16.size a ≤ S512x128.size a := fun v18 k0_t9 k0_t11 v167 k0_hw29 k0_h28 => k0_hw29.2.2.2.2.2.1 k0_h28
theorem k0_off439_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off439 v167) a + S1x16.size a ≤ S512x128.size a := fun v18 k0_t9 k0_t11 v167 k0_hw29 k0_h28 => k0_hw29.2.2.2.2.2.2.1 k0_h28
theorem k0_off441_inb : ∀ (v18 : BitVec 32) (k0_t9 : Fin (k0_t9_loop v18).trips) (k0_t11 : Fin k0_t11_loop.trips) (v167 : BitVec 32) (k0_hw29 : k0_chk29 v18 k0_t9 k0_t11 v167), ∀ (k0_h28 : k0_cond28 v18 k0_t9 k0_t11 = 1#1), ∀ a, (k0_off441 v167) a + S1x16.size a ≤ S512x128.size a := fun v18 k0_t9 k0_t11 v167 k0_hw29 k0_h28 => k0_hw29.2.2.2.2.2.2.2 k0_h28

def k0_off442 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c10_i32_136 : BitVec 32 := 10#32
  let v234 : BitVec 32 := Scalar.addi v233 c10_i32_136
  let v235 : Index := Scalar.indexCast v234
  let c112_137 : Index := 112#32
  ![v235.toNat, 112]
def k0_off443 (v167 : BitVec 32) : Fin 2 → Nat :=
  let v168 : Index := Scalar.indexCast v167
  let c0 : Index := 0#32
  ![v168.toNat, 0]
def k0_cond29 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_91 : BitVec 32 := 128#32
  let v131 : BitVec 32 := Scalar.muli arg17 c128_i32_91
  let c0_i32_47 : BitVec 32 := 0#32
  let c1_i32_49 : BitVec 32 := 1#32
  let arg19 : BitVec 32 := Scf.iv c0_i32_47 c1_i32_49 k0_t11
  let c16_i32_92 : BitVec 32 := 16#32
  let v132 : BitVec 32 := Scalar.muli arg19 c16_i32_92
  let v133 : BitVec 32 := Scalar.addi v131 v132
  let c11_i32 : BitVec 32 := 11#32
  let v134 : BitVec 32 := Scalar.addi v133 c11_i32
  let v135 : BitVec 1 := Scalar.cmpi .slt v134 v18
  let v136 : BitVec 32 := Scalar.extui v135
  let c0_i32_93 : BitVec 32 := 0#32
  let v137 : BitVec 1 := Scalar.cmpi .ne v136 c0_i32_93
  v137

def k0_off444 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c11_i32_108 : BitVec 32 := 11#32
  let v171 : BitVec 32 := Scalar.addi v170 c11_i32_108
  let v172 : Index := Scalar.indexCast v171
  let c0_109 : Index := 0#32
  ![v172.toNat, 0]
def k0_off445 (v167 : BitVec 32) : Fin 2 → Nat :=
  let v177 : Index := Scalar.indexCast v167
  let c16 : Index := 16#32
  ![v177.toNat, 16]
def k0_off446 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c11_i32_112 : BitVec 32 := 11#32
  let v180 : BitVec 32 := Scalar.addi v179 c11_i32_112
  let v181 : Index := Scalar.indexCast v180
  let c16_113 : Index := 16#32
  ![v181.toNat, 16]
def k0_off447 (v167 : BitVec 32) : Fin 2 → Nat :=
  let v186 : Index := Scalar.indexCast v167
  let c32 : Index := 32#32
  ![v186.toNat, 32]
def k0_off448 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c11_i32_116 : BitVec 32 := 11#32
  let v189 : BitVec 32 := Scalar.addi v188 c11_i32_116
  let v190 : Index := Scalar.indexCast v189
  let c32_117 : Index := 32#32
  ![v190.toNat, 32]
def k0_off449 (v167 : BitVec 32) : Fin 2 → Nat :=
  let v195 : Index := Scalar.indexCast v167
  let c48 : Index := 48#32
  ![v195.toNat, 48]
def k0_off450 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c11_i32_120 : BitVec 32 := 11#32
  let v198 : BitVec 32 := Scalar.addi v197 c11_i32_120
  let v199 : Index := Scalar.indexCast v198
  let c48_121 : Index := 48#32
  ![v199.toNat, 48]
def k0_off451 (v167 : BitVec 32) : Fin 2 → Nat :=
  let v204 : Index := Scalar.indexCast v167
  let c64 : Index := 64#32
  ![v204.toNat, 64]
def k0_off452 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c11_i32_124 : BitVec 32 := 11#32
  let v207 : BitVec 32 := Scalar.addi v206 c11_i32_124
  let v208 : Index := Scalar.indexCast v207
  let c64_125 : Index := 64#32
  ![v208.toNat, 64]
def k0_off453 (v167 : BitVec 32) : Fin 2 → Nat :=
  let v213 : Index := Scalar.indexCast v167
  let c80 : Index := 80#32
  ![v213.toNat, 80]
def k0_off454 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c11_i32_128 : BitVec 32 := 11#32
  let v216 : BitVec 32 := Scalar.addi v215 c11_i32_128
  let v217 : Index := Scalar.indexCast v216
  let c80_129 : Index := 80#32
  ![v217.toNat, 80]
def k0_off455 (v167 : BitVec 32) : Fin 2 → Nat :=
  let v222 : Index := Scalar.indexCast v167
  let c96 : Index := 96#32
  ![v222.toNat, 96]
def k0_off456 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c11_i32_132 : BitVec 32 := 11#32
  let v225 : BitVec 32 := Scalar.addi v224 c11_i32_132
  let v226 : Index := Scalar.indexCast v225
  let c96_133 : Index := 96#32
  ![v226.toNat, 96]
def k0_off457 (v167 : BitVec 32) : Fin 2 → Nat :=
  let v231 : Index := Scalar.indexCast v167
  let c112 : Index := 112#32
  ![v231.toNat, 112]

def k0_chk30 (v18 : BitVec 32) (k0_t9 : Fin (k0_t9_loop v18).trips) (k0_t11 : Fin k0_t11_loop.trips) (v167 : BitVec 32) : Prop :=
  (∀ (k0_h29 : k0_cond29 v18 k0_t9 k0_t11 = 1#1), ∀ a, (k0_off443 v167) a + S1x16.size a ≤ S512x128.size a) ∧
  (∀ (k0_h29 : k0_cond29 v18 k0_t9 k0_t11 = 1#1), ∀ a, (k0_off445 v167) a + S1x16.size a ≤ S512x128.size a) ∧
  (∀ (k0_h29 : k0_cond29 v18 k0_t9 k0_t11 = 1#1), ∀ a, (k0_off447 v167) a + S1x16.size a ≤ S512x128.size a) ∧
  (∀ (k0_h29 : k0_cond29 v18 k0_t9 k0_t11 = 1#1), ∀ a, (k0_off449 v167) a + S1x16.size a ≤ S512x128.size a) ∧
  (∀ (k0_h29 : k0_cond29 v18 k0_t9 k0_t11 = 1#1), ∀ a, (k0_off451 v167) a + S1x16.size a ≤ S512x128.size a) ∧
  (∀ (k0_h29 : k0_cond29 v18 k0_t9 k0_t11 = 1#1), ∀ a, (k0_off453 v167) a + S1x16.size a ≤ S512x128.size a) ∧
  (∀ (k0_h29 : k0_cond29 v18 k0_t9 k0_t11 = 1#1), ∀ a, (k0_off455 v167) a + S1x16.size a ≤ S512x128.size a) ∧
  (∀ (k0_h29 : k0_cond29 v18 k0_t9 k0_t11 = 1#1), ∀ a, (k0_off457 v167) a + S1x16.size a ≤ S512x128.size a)
theorem k0_off443_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off443 v167) a + S1x16.size a ≤ S512x128.size a := fun v18 k0_t9 k0_t11 v167 k0_hw30 k0_h29 => k0_hw30.1 k0_h29
theorem k0_off445_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off445 v167) a + S1x16.size a ≤ S512x128.size a := fun v18 k0_t9 k0_t11 v167 k0_hw30 k0_h29 => k0_hw30.2.1 k0_h29
theorem k0_off447_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off447 v167) a + S1x16.size a ≤ S512x128.size a := fun v18 k0_t9 k0_t11 v167 k0_hw30 k0_h29 => k0_hw30.2.2.1 k0_h29
theorem k0_off449_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off449 v167) a + S1x16.size a ≤ S512x128.size a := fun v18 k0_t9 k0_t11 v167 k0_hw30 k0_h29 => k0_hw30.2.2.2.1 k0_h29
theorem k0_off451_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off451 v167) a + S1x16.size a ≤ S512x128.size a := fun v18 k0_t9 k0_t11 v167 k0_hw30 k0_h29 => k0_hw30.2.2.2.2.1 k0_h29
theorem k0_off453_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off453 v167) a + S1x16.size a ≤ S512x128.size a := fun v18 k0_t9 k0_t11 v167 k0_hw30 k0_h29 => k0_hw30.2.2.2.2.2.1 k0_h29
theorem k0_off455_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off455 v167) a + S1x16.size a ≤ S512x128.size a := fun v18 k0_t9 k0_t11 v167 k0_hw30 k0_h29 => k0_hw30.2.2.2.2.2.2.1 k0_h29
theorem k0_off457_inb : ∀ (v18 : BitVec 32) (k0_t9 : Fin (k0_t9_loop v18).trips) (k0_t11 : Fin k0_t11_loop.trips) (v167 : BitVec 32) (k0_hw30 : k0_chk30 v18 k0_t9 k0_t11 v167), ∀ (k0_h29 : k0_cond29 v18 k0_t9 k0_t11 = 1#1), ∀ a, (k0_off457 v167) a + S1x16.size a ≤ S512x128.size a := fun v18 k0_t9 k0_t11 v167 k0_hw30 k0_h29 => k0_hw30.2.2.2.2.2.2.2 k0_h29

def k0_off458 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c11_i32_136 : BitVec 32 := 11#32
  let v234 : BitVec 32 := Scalar.addi v233 c11_i32_136
  let v235 : Index := Scalar.indexCast v234
  let c112_137 : Index := 112#32
  ![v235.toNat, 112]
def k0_off459 (v167 : BitVec 32) : Fin 2 → Nat :=
  let v168 : Index := Scalar.indexCast v167
  let c0 : Index := 0#32
  ![v168.toNat, 0]
def k0_cond30 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_94 : BitVec 32 := 128#32
  let v138 : BitVec 32 := Scalar.muli arg17 c128_i32_94
  let c0_i32_47 : BitVec 32 := 0#32
  let c1_i32_49 : BitVec 32 := 1#32
  let arg19 : BitVec 32 := Scf.iv c0_i32_47 c1_i32_49 k0_t11
  let c16_i32_95 : BitVec 32 := 16#32
  let v139 : BitVec 32 := Scalar.muli arg19 c16_i32_95
  let v140 : BitVec 32 := Scalar.addi v138 v139
  let c12_i32 : BitVec 32 := 12#32
  let v141 : BitVec 32 := Scalar.addi v140 c12_i32
  let v142 : BitVec 1 := Scalar.cmpi .slt v141 v18
  let v143 : BitVec 32 := Scalar.extui v142
  let c0_i32_96 : BitVec 32 := 0#32
  let v144 : BitVec 1 := Scalar.cmpi .ne v143 c0_i32_96
  v144

def k0_off460 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c12_i32_108 : BitVec 32 := 12#32
  let v171 : BitVec 32 := Scalar.addi v170 c12_i32_108
  let v172 : Index := Scalar.indexCast v171
  let c0_109 : Index := 0#32
  ![v172.toNat, 0]
def k0_off461 (v167 : BitVec 32) : Fin 2 → Nat :=
  let v177 : Index := Scalar.indexCast v167
  let c16 : Index := 16#32
  ![v177.toNat, 16]
def k0_off462 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c12_i32_112 : BitVec 32 := 12#32
  let v180 : BitVec 32 := Scalar.addi v179 c12_i32_112
  let v181 : Index := Scalar.indexCast v180
  let c16_113 : Index := 16#32
  ![v181.toNat, 16]
def k0_off463 (v167 : BitVec 32) : Fin 2 → Nat :=
  let v186 : Index := Scalar.indexCast v167
  let c32 : Index := 32#32
  ![v186.toNat, 32]
def k0_off464 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c12_i32_116 : BitVec 32 := 12#32
  let v189 : BitVec 32 := Scalar.addi v188 c12_i32_116
  let v190 : Index := Scalar.indexCast v189
  let c32_117 : Index := 32#32
  ![v190.toNat, 32]
def k0_off465 (v167 : BitVec 32) : Fin 2 → Nat :=
  let v195 : Index := Scalar.indexCast v167
  let c48 : Index := 48#32
  ![v195.toNat, 48]
def k0_off466 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c12_i32_120 : BitVec 32 := 12#32
  let v198 : BitVec 32 := Scalar.addi v197 c12_i32_120
  let v199 : Index := Scalar.indexCast v198
  let c48_121 : Index := 48#32
  ![v199.toNat, 48]
def k0_off467 (v167 : BitVec 32) : Fin 2 → Nat :=
  let v204 : Index := Scalar.indexCast v167
  let c64 : Index := 64#32
  ![v204.toNat, 64]
def k0_off468 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c12_i32_124 : BitVec 32 := 12#32
  let v207 : BitVec 32 := Scalar.addi v206 c12_i32_124
  let v208 : Index := Scalar.indexCast v207
  let c64_125 : Index := 64#32
  ![v208.toNat, 64]
def k0_off469 (v167 : BitVec 32) : Fin 2 → Nat :=
  let v213 : Index := Scalar.indexCast v167
  let c80 : Index := 80#32
  ![v213.toNat, 80]
def k0_off470 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c12_i32_128 : BitVec 32 := 12#32
  let v216 : BitVec 32 := Scalar.addi v215 c12_i32_128
  let v217 : Index := Scalar.indexCast v216
  let c80_129 : Index := 80#32
  ![v217.toNat, 80]
def k0_off471 (v167 : BitVec 32) : Fin 2 → Nat :=
  let v222 : Index := Scalar.indexCast v167
  let c96 : Index := 96#32
  ![v222.toNat, 96]
def k0_off472 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c12_i32_132 : BitVec 32 := 12#32
  let v225 : BitVec 32 := Scalar.addi v224 c12_i32_132
  let v226 : Index := Scalar.indexCast v225
  let c96_133 : Index := 96#32
  ![v226.toNat, 96]
def k0_off473 (v167 : BitVec 32) : Fin 2 → Nat :=
  let v231 : Index := Scalar.indexCast v167
  let c112 : Index := 112#32
  ![v231.toNat, 112]

def k0_chk31 (v18 : BitVec 32) (k0_t9 : Fin (k0_t9_loop v18).trips) (k0_t11 : Fin k0_t11_loop.trips) (v167 : BitVec 32) : Prop :=
  (∀ (k0_h30 : k0_cond30 v18 k0_t9 k0_t11 = 1#1), ∀ a, (k0_off459 v167) a + S1x16.size a ≤ S512x128.size a) ∧
  (∀ (k0_h30 : k0_cond30 v18 k0_t9 k0_t11 = 1#1), ∀ a, (k0_off461 v167) a + S1x16.size a ≤ S512x128.size a) ∧
  (∀ (k0_h30 : k0_cond30 v18 k0_t9 k0_t11 = 1#1), ∀ a, (k0_off463 v167) a + S1x16.size a ≤ S512x128.size a) ∧
  (∀ (k0_h30 : k0_cond30 v18 k0_t9 k0_t11 = 1#1), ∀ a, (k0_off465 v167) a + S1x16.size a ≤ S512x128.size a) ∧
  (∀ (k0_h30 : k0_cond30 v18 k0_t9 k0_t11 = 1#1), ∀ a, (k0_off467 v167) a + S1x16.size a ≤ S512x128.size a) ∧
  (∀ (k0_h30 : k0_cond30 v18 k0_t9 k0_t11 = 1#1), ∀ a, (k0_off469 v167) a + S1x16.size a ≤ S512x128.size a) ∧
  (∀ (k0_h30 : k0_cond30 v18 k0_t9 k0_t11 = 1#1), ∀ a, (k0_off471 v167) a + S1x16.size a ≤ S512x128.size a) ∧
  (∀ (k0_h30 : k0_cond30 v18 k0_t9 k0_t11 = 1#1), ∀ a, (k0_off473 v167) a + S1x16.size a ≤ S512x128.size a)
theorem k0_off459_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off459 v167) a + S1x16.size a ≤ S512x128.size a := fun v18 k0_t9 k0_t11 v167 k0_hw31 k0_h30 => k0_hw31.1 k0_h30
theorem k0_off461_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off461 v167) a + S1x16.size a ≤ S512x128.size a := fun v18 k0_t9 k0_t11 v167 k0_hw31 k0_h30 => k0_hw31.2.1 k0_h30
theorem k0_off463_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off463 v167) a + S1x16.size a ≤ S512x128.size a := fun v18 k0_t9 k0_t11 v167 k0_hw31 k0_h30 => k0_hw31.2.2.1 k0_h30
theorem k0_off465_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off465 v167) a + S1x16.size a ≤ S512x128.size a := fun v18 k0_t9 k0_t11 v167 k0_hw31 k0_h30 => k0_hw31.2.2.2.1 k0_h30
theorem k0_off467_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off467 v167) a + S1x16.size a ≤ S512x128.size a := fun v18 k0_t9 k0_t11 v167 k0_hw31 k0_h30 => k0_hw31.2.2.2.2.1 k0_h30
theorem k0_off469_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off469 v167) a + S1x16.size a ≤ S512x128.size a := fun v18 k0_t9 k0_t11 v167 k0_hw31 k0_h30 => k0_hw31.2.2.2.2.2.1 k0_h30
theorem k0_off471_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off471 v167) a + S1x16.size a ≤ S512x128.size a := fun v18 k0_t9 k0_t11 v167 k0_hw31 k0_h30 => k0_hw31.2.2.2.2.2.2.1 k0_h30
theorem k0_off473_inb : ∀ (v18 : BitVec 32) (k0_t9 : Fin (k0_t9_loop v18).trips) (k0_t11 : Fin k0_t11_loop.trips) (v167 : BitVec 32) (k0_hw31 : k0_chk31 v18 k0_t9 k0_t11 v167), ∀ (k0_h30 : k0_cond30 v18 k0_t9 k0_t11 = 1#1), ∀ a, (k0_off473 v167) a + S1x16.size a ≤ S512x128.size a := fun v18 k0_t9 k0_t11 v167 k0_hw31 k0_h30 => k0_hw31.2.2.2.2.2.2.2 k0_h30

def k0_off474 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c12_i32_136 : BitVec 32 := 12#32
  let v234 : BitVec 32 := Scalar.addi v233 c12_i32_136
  let v235 : Index := Scalar.indexCast v234
  let c112_137 : Index := 112#32
  ![v235.toNat, 112]
def k0_off475 (v167 : BitVec 32) : Fin 2 → Nat :=
  let v168 : Index := Scalar.indexCast v167
  let c0 : Index := 0#32
  ![v168.toNat, 0]
def k0_cond31 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_97 : BitVec 32 := 128#32
  let v145 : BitVec 32 := Scalar.muli arg17 c128_i32_97
  let c0_i32_47 : BitVec 32 := 0#32
  let c1_i32_49 : BitVec 32 := 1#32
  let arg19 : BitVec 32 := Scf.iv c0_i32_47 c1_i32_49 k0_t11
  let c16_i32_98 : BitVec 32 := 16#32
  let v146 : BitVec 32 := Scalar.muli arg19 c16_i32_98
  let v147 : BitVec 32 := Scalar.addi v145 v146
  let c13_i32 : BitVec 32 := 13#32
  let v148 : BitVec 32 := Scalar.addi v147 c13_i32
  let v149 : BitVec 1 := Scalar.cmpi .slt v148 v18
  let v150 : BitVec 32 := Scalar.extui v149
  let c0_i32_99 : BitVec 32 := 0#32
  let v151 : BitVec 1 := Scalar.cmpi .ne v150 c0_i32_99
  v151

def k0_off476 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c13_i32_108 : BitVec 32 := 13#32
  let v171 : BitVec 32 := Scalar.addi v170 c13_i32_108
  let v172 : Index := Scalar.indexCast v171
  let c0_109 : Index := 0#32
  ![v172.toNat, 0]
def k0_off477 (v167 : BitVec 32) : Fin 2 → Nat :=
  let v177 : Index := Scalar.indexCast v167
  let c16 : Index := 16#32
  ![v177.toNat, 16]
def k0_off478 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c13_i32_112 : BitVec 32 := 13#32
  let v180 : BitVec 32 := Scalar.addi v179 c13_i32_112
  let v181 : Index := Scalar.indexCast v180
  let c16_113 : Index := 16#32
  ![v181.toNat, 16]
def k0_off479 (v167 : BitVec 32) : Fin 2 → Nat :=
  let v186 : Index := Scalar.indexCast v167
  let c32 : Index := 32#32
  ![v186.toNat, 32]
def k0_off480 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c13_i32_116 : BitVec 32 := 13#32
  let v189 : BitVec 32 := Scalar.addi v188 c13_i32_116
  let v190 : Index := Scalar.indexCast v189
  let c32_117 : Index := 32#32
  ![v190.toNat, 32]
def k0_off481 (v167 : BitVec 32) : Fin 2 → Nat :=
  let v195 : Index := Scalar.indexCast v167
  let c48 : Index := 48#32
  ![v195.toNat, 48]
def k0_off482 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c13_i32_120 : BitVec 32 := 13#32
  let v198 : BitVec 32 := Scalar.addi v197 c13_i32_120
  let v199 : Index := Scalar.indexCast v198
  let c48_121 : Index := 48#32
  ![v199.toNat, 48]
def k0_off483 (v167 : BitVec 32) : Fin 2 → Nat :=
  let v204 : Index := Scalar.indexCast v167
  let c64 : Index := 64#32
  ![v204.toNat, 64]
def k0_off484 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c13_i32_124 : BitVec 32 := 13#32
  let v207 : BitVec 32 := Scalar.addi v206 c13_i32_124
  let v208 : Index := Scalar.indexCast v207
  let c64_125 : Index := 64#32
  ![v208.toNat, 64]
def k0_off485 (v167 : BitVec 32) : Fin 2 → Nat :=
  let v213 : Index := Scalar.indexCast v167
  let c80 : Index := 80#32
  ![v213.toNat, 80]
def k0_off486 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c13_i32_128 : BitVec 32 := 13#32
  let v216 : BitVec 32 := Scalar.addi v215 c13_i32_128
  let v217 : Index := Scalar.indexCast v216
  let c80_129 : Index := 80#32
  ![v217.toNat, 80]
def k0_off487 (v167 : BitVec 32) : Fin 2 → Nat :=
  let v222 : Index := Scalar.indexCast v167
  let c96 : Index := 96#32
  ![v222.toNat, 96]
def k0_off488 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c13_i32_132 : BitVec 32 := 13#32
  let v225 : BitVec 32 := Scalar.addi v224 c13_i32_132
  let v226 : Index := Scalar.indexCast v225
  let c96_133 : Index := 96#32
  ![v226.toNat, 96]
def k0_off489 (v167 : BitVec 32) : Fin 2 → Nat :=
  let v231 : Index := Scalar.indexCast v167
  let c112 : Index := 112#32
  ![v231.toNat, 112]

def k0_chk32 (v18 : BitVec 32) (k0_t9 : Fin (k0_t9_loop v18).trips) (k0_t11 : Fin k0_t11_loop.trips) (v167 : BitVec 32) : Prop :=
  (∀ (k0_h31 : k0_cond31 v18 k0_t9 k0_t11 = 1#1), ∀ a, (k0_off475 v167) a + S1x16.size a ≤ S512x128.size a) ∧
  (∀ (k0_h31 : k0_cond31 v18 k0_t9 k0_t11 = 1#1), ∀ a, (k0_off477 v167) a + S1x16.size a ≤ S512x128.size a) ∧
  (∀ (k0_h31 : k0_cond31 v18 k0_t9 k0_t11 = 1#1), ∀ a, (k0_off479 v167) a + S1x16.size a ≤ S512x128.size a) ∧
  (∀ (k0_h31 : k0_cond31 v18 k0_t9 k0_t11 = 1#1), ∀ a, (k0_off481 v167) a + S1x16.size a ≤ S512x128.size a) ∧
  (∀ (k0_h31 : k0_cond31 v18 k0_t9 k0_t11 = 1#1), ∀ a, (k0_off483 v167) a + S1x16.size a ≤ S512x128.size a) ∧
  (∀ (k0_h31 : k0_cond31 v18 k0_t9 k0_t11 = 1#1), ∀ a, (k0_off485 v167) a + S1x16.size a ≤ S512x128.size a) ∧
  (∀ (k0_h31 : k0_cond31 v18 k0_t9 k0_t11 = 1#1), ∀ a, (k0_off487 v167) a + S1x16.size a ≤ S512x128.size a) ∧
  (∀ (k0_h31 : k0_cond31 v18 k0_t9 k0_t11 = 1#1), ∀ a, (k0_off489 v167) a + S1x16.size a ≤ S512x128.size a)
theorem k0_off475_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off475 v167) a + S1x16.size a ≤ S512x128.size a := fun v18 k0_t9 k0_t11 v167 k0_hw32 k0_h31 => k0_hw32.1 k0_h31
theorem k0_off477_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off477 v167) a + S1x16.size a ≤ S512x128.size a := fun v18 k0_t9 k0_t11 v167 k0_hw32 k0_h31 => k0_hw32.2.1 k0_h31
theorem k0_off479_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off479 v167) a + S1x16.size a ≤ S512x128.size a := fun v18 k0_t9 k0_t11 v167 k0_hw32 k0_h31 => k0_hw32.2.2.1 k0_h31
theorem k0_off481_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off481 v167) a + S1x16.size a ≤ S512x128.size a := fun v18 k0_t9 k0_t11 v167 k0_hw32 k0_h31 => k0_hw32.2.2.2.1 k0_h31
theorem k0_off483_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off483 v167) a + S1x16.size a ≤ S512x128.size a := fun v18 k0_t9 k0_t11 v167 k0_hw32 k0_h31 => k0_hw32.2.2.2.2.1 k0_h31
theorem k0_off485_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off485 v167) a + S1x16.size a ≤ S512x128.size a := fun v18 k0_t9 k0_t11 v167 k0_hw32 k0_h31 => k0_hw32.2.2.2.2.2.1 k0_h31
theorem k0_off487_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off487 v167) a + S1x16.size a ≤ S512x128.size a := fun v18 k0_t9 k0_t11 v167 k0_hw32 k0_h31 => k0_hw32.2.2.2.2.2.2.1 k0_h31
theorem k0_off489_inb : ∀ (v18 : BitVec 32) (k0_t9 : Fin (k0_t9_loop v18).trips) (k0_t11 : Fin k0_t11_loop.trips) (v167 : BitVec 32) (k0_hw32 : k0_chk32 v18 k0_t9 k0_t11 v167), ∀ (k0_h31 : k0_cond31 v18 k0_t9 k0_t11 = 1#1), ∀ a, (k0_off489 v167) a + S1x16.size a ≤ S512x128.size a := fun v18 k0_t9 k0_t11 v167 k0_hw32 k0_h31 => k0_hw32.2.2.2.2.2.2.2 k0_h31

def k0_off490 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c13_i32_136 : BitVec 32 := 13#32
  let v234 : BitVec 32 := Scalar.addi v233 c13_i32_136
  let v235 : Index := Scalar.indexCast v234
  let c112_137 : Index := 112#32
  ![v235.toNat, 112]
def k0_off491 (v167 : BitVec 32) : Fin 2 → Nat :=
  let v168 : Index := Scalar.indexCast v167
  let c0 : Index := 0#32
  ![v168.toNat, 0]
def k0_cond32 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_100 : BitVec 32 := 128#32
  let v152 : BitVec 32 := Scalar.muli arg17 c128_i32_100
  let c0_i32_47 : BitVec 32 := 0#32
  let c1_i32_49 : BitVec 32 := 1#32
  let arg19 : BitVec 32 := Scf.iv c0_i32_47 c1_i32_49 k0_t11
  let c16_i32_101 : BitVec 32 := 16#32
  let v153 : BitVec 32 := Scalar.muli arg19 c16_i32_101
  let v154 : BitVec 32 := Scalar.addi v152 v153
  let c14_i32 : BitVec 32 := 14#32
  let v155 : BitVec 32 := Scalar.addi v154 c14_i32
  let v156 : BitVec 1 := Scalar.cmpi .slt v155 v18
  let v157 : BitVec 32 := Scalar.extui v156
  let c0_i32_102 : BitVec 32 := 0#32
  let v158 : BitVec 1 := Scalar.cmpi .ne v157 c0_i32_102
  v158

def k0_off492 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c14_i32_108 : BitVec 32 := 14#32
  let v171 : BitVec 32 := Scalar.addi v170 c14_i32_108
  let v172 : Index := Scalar.indexCast v171
  let c0_109 : Index := 0#32
  ![v172.toNat, 0]
def k0_off493 (v167 : BitVec 32) : Fin 2 → Nat :=
  let v177 : Index := Scalar.indexCast v167
  let c16 : Index := 16#32
  ![v177.toNat, 16]
def k0_off494 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c14_i32_112 : BitVec 32 := 14#32
  let v180 : BitVec 32 := Scalar.addi v179 c14_i32_112
  let v181 : Index := Scalar.indexCast v180
  let c16_113 : Index := 16#32
  ![v181.toNat, 16]
def k0_off495 (v167 : BitVec 32) : Fin 2 → Nat :=
  let v186 : Index := Scalar.indexCast v167
  let c32 : Index := 32#32
  ![v186.toNat, 32]
def k0_off496 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c14_i32_116 : BitVec 32 := 14#32
  let v189 : BitVec 32 := Scalar.addi v188 c14_i32_116
  let v190 : Index := Scalar.indexCast v189
  let c32_117 : Index := 32#32
  ![v190.toNat, 32]
def k0_off497 (v167 : BitVec 32) : Fin 2 → Nat :=
  let v195 : Index := Scalar.indexCast v167
  let c48 : Index := 48#32
  ![v195.toNat, 48]
def k0_off498 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c14_i32_120 : BitVec 32 := 14#32
  let v198 : BitVec 32 := Scalar.addi v197 c14_i32_120
  let v199 : Index := Scalar.indexCast v198
  let c48_121 : Index := 48#32
  ![v199.toNat, 48]
def k0_off499 (v167 : BitVec 32) : Fin 2 → Nat :=
  let v204 : Index := Scalar.indexCast v167
  let c64 : Index := 64#32
  ![v204.toNat, 64]
def k0_off500 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c14_i32_124 : BitVec 32 := 14#32
  let v207 : BitVec 32 := Scalar.addi v206 c14_i32_124
  let v208 : Index := Scalar.indexCast v207
  let c64_125 : Index := 64#32
  ![v208.toNat, 64]
def k0_off501 (v167 : BitVec 32) : Fin 2 → Nat :=
  let v213 : Index := Scalar.indexCast v167
  let c80 : Index := 80#32
  ![v213.toNat, 80]
def k0_off502 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c14_i32_128 : BitVec 32 := 14#32
  let v216 : BitVec 32 := Scalar.addi v215 c14_i32_128
  let v217 : Index := Scalar.indexCast v216
  let c80_129 : Index := 80#32
  ![v217.toNat, 80]
def k0_off503 (v167 : BitVec 32) : Fin 2 → Nat :=
  let v222 : Index := Scalar.indexCast v167
  let c96 : Index := 96#32
  ![v222.toNat, 96]
def k0_off504 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c14_i32_132 : BitVec 32 := 14#32
  let v225 : BitVec 32 := Scalar.addi v224 c14_i32_132
  let v226 : Index := Scalar.indexCast v225
  let c96_133 : Index := 96#32
  ![v226.toNat, 96]
def k0_off505 (v167 : BitVec 32) : Fin 2 → Nat :=
  let v231 : Index := Scalar.indexCast v167
  let c112 : Index := 112#32
  ![v231.toNat, 112]

def k0_chk33 (v18 : BitVec 32) (k0_t9 : Fin (k0_t9_loop v18).trips) (k0_t11 : Fin k0_t11_loop.trips) (v167 : BitVec 32) : Prop :=
  (∀ (k0_h32 : k0_cond32 v18 k0_t9 k0_t11 = 1#1), ∀ a, (k0_off491 v167) a + S1x16.size a ≤ S512x128.size a) ∧
  (∀ (k0_h32 : k0_cond32 v18 k0_t9 k0_t11 = 1#1), ∀ a, (k0_off493 v167) a + S1x16.size a ≤ S512x128.size a) ∧
  (∀ (k0_h32 : k0_cond32 v18 k0_t9 k0_t11 = 1#1), ∀ a, (k0_off495 v167) a + S1x16.size a ≤ S512x128.size a) ∧
  (∀ (k0_h32 : k0_cond32 v18 k0_t9 k0_t11 = 1#1), ∀ a, (k0_off497 v167) a + S1x16.size a ≤ S512x128.size a) ∧
  (∀ (k0_h32 : k0_cond32 v18 k0_t9 k0_t11 = 1#1), ∀ a, (k0_off499 v167) a + S1x16.size a ≤ S512x128.size a) ∧
  (∀ (k0_h32 : k0_cond32 v18 k0_t9 k0_t11 = 1#1), ∀ a, (k0_off501 v167) a + S1x16.size a ≤ S512x128.size a) ∧
  (∀ (k0_h32 : k0_cond32 v18 k0_t9 k0_t11 = 1#1), ∀ a, (k0_off503 v167) a + S1x16.size a ≤ S512x128.size a) ∧
  (∀ (k0_h32 : k0_cond32 v18 k0_t9 k0_t11 = 1#1), ∀ a, (k0_off505 v167) a + S1x16.size a ≤ S512x128.size a)
theorem k0_off491_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off491 v167) a + S1x16.size a ≤ S512x128.size a := fun v18 k0_t9 k0_t11 v167 k0_hw33 k0_h32 => k0_hw33.1 k0_h32
theorem k0_off493_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off493 v167) a + S1x16.size a ≤ S512x128.size a := fun v18 k0_t9 k0_t11 v167 k0_hw33 k0_h32 => k0_hw33.2.1 k0_h32
theorem k0_off495_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off495 v167) a + S1x16.size a ≤ S512x128.size a := fun v18 k0_t9 k0_t11 v167 k0_hw33 k0_h32 => k0_hw33.2.2.1 k0_h32
theorem k0_off497_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off497 v167) a + S1x16.size a ≤ S512x128.size a := fun v18 k0_t9 k0_t11 v167 k0_hw33 k0_h32 => k0_hw33.2.2.2.1 k0_h32
theorem k0_off499_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off499 v167) a + S1x16.size a ≤ S512x128.size a := fun v18 k0_t9 k0_t11 v167 k0_hw33 k0_h32 => k0_hw33.2.2.2.2.1 k0_h32
theorem k0_off501_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off501 v167) a + S1x16.size a ≤ S512x128.size a := fun v18 k0_t9 k0_t11 v167 k0_hw33 k0_h32 => k0_hw33.2.2.2.2.2.1 k0_h32
theorem k0_off503_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off503 v167) a + S1x16.size a ≤ S512x128.size a := fun v18 k0_t9 k0_t11 v167 k0_hw33 k0_h32 => k0_hw33.2.2.2.2.2.2.1 k0_h32
theorem k0_off505_inb : ∀ (v18 : BitVec 32) (k0_t9 : Fin (k0_t9_loop v18).trips) (k0_t11 : Fin k0_t11_loop.trips) (v167 : BitVec 32) (k0_hw33 : k0_chk33 v18 k0_t9 k0_t11 v167), ∀ (k0_h32 : k0_cond32 v18 k0_t9 k0_t11 = 1#1), ∀ a, (k0_off505 v167) a + S1x16.size a ≤ S512x128.size a := fun v18 k0_t9 k0_t11 v167 k0_hw33 k0_h32 => k0_hw33.2.2.2.2.2.2.2 k0_h32

def k0_off506 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c14_i32_136 : BitVec 32 := 14#32
  let v234 : BitVec 32 := Scalar.addi v233 c14_i32_136
  let v235 : Index := Scalar.indexCast v234
  let c112_137 : Index := 112#32
  ![v235.toNat, 112]
def k0_off507 (v167 : BitVec 32) : Fin 2 → Nat :=
  let v168 : Index := Scalar.indexCast v167
  let c0 : Index := 0#32
  ![v168.toNat, 0]
def k0_cond33 (v18 : BitVec 32) (k0_t9 : Fin (k0_t9_loop v18).trips) (k0_t11 : Fin k0_t11_loop.trips) : BitVec 1 :=
  let c0_i32_32 : BitVec 32 := 0#32
  let c128_i32 : BitVec 32 := 128#32
  let v19 : BitVec 32 := Scalar.addi v18 c128_i32
  let c1_i32_24 : BitVec 32 := 1#32
  let v20 : BitVec 32 := Scalar.subi v19 c1_i32_24
  let c0_i32_26 : BitVec 32 := 0#32
  let v22 : BitVec 1 := Scalar.cmpi .sgt v20 c0_i32_26
  let v23 : BitVec 32 := Scalar.extui v22
  let c0_i32_27 : BitVec 32 := 0#32
  let v24 : BitVec 1 := Scalar.cmpi .slt v20 c0_i32_27
  let v25 : BitVec 32 := Scalar.extui v24
  let v26 : BitVec 32 := Scalar.subi v23 v25
  let c128_i32_25 : BitVec 32 := 128#32
  let c0_i32_28 : BitVec 32 := 0#32
  let v27 : BitVec 1 := Scalar.cmpi .sgt c128_i32_25 c0_i32_28
  let v28 : BitVec 32 := Scalar.extui v27
  let c0_i32_29 : BitVec 32 := 0#32
  let v29 : BitVec 1 := Scalar.cmpi .slt c128_i32_25 c0_i32_29
  let v30 : BitVec 32 := Scalar.extui v29
  let v31 : BitVec 32 := Scalar.subi v28 v30
  let v32 : BitVec 1 := Scalar.cmpi .ne v26 v31
  let v33 : BitVec 32 := Scalar.remsi v20 c128_i32_25
  let c0_i32_30 : BitVec 32 := 0#32
  let v34 : BitVec 1 := Scalar.cmpi .ne v33 c0_i32_30
  let v35 : BitVec 1 := Scalar.andi v32 v34
  let v21 : BitVec 32 := Scalar.divsi v20 c128_i32_25
  let c1_i32_31 : BitVec 32 := 1#32
  let v36 : BitVec 32 := Scalar.subi v21 c1_i32_31
  let v37 : BitVec 32 := Scalar.select v35 v36 v21
  let v38 : BitVec 32 := Scalar.subi v37 c0_i32_32
  let c1_i32_34 : BitVec 32 := 1#32
  let v40 : BitVec 32 := Scalar.divsi v38 c1_i32_34
  let v41 : BitVec 32 := Scalar.muli v40 c1_i32_34
  let v42 : BitVec 32 := Scalar.addi c0_i32_32 v41
  let c1_i32_36 : BitVec 32 := 1#32
  let arg17 : BitVec 32 := Scf.iv v42 c1_i32_36 k0_t9
  let c128_i32_103 : BitVec 32 := 128#32
  let v159 : BitVec 32 := Scalar.muli arg17 c128_i32_103
  let c0_i32_47 : BitVec 32 := 0#32
  let c1_i32_49 : BitVec 32 := 1#32
  let arg19 : BitVec 32 := Scf.iv c0_i32_47 c1_i32_49 k0_t11
  let c16_i32_104 : BitVec 32 := 16#32
  let v160 : BitVec 32 := Scalar.muli arg19 c16_i32_104
  let v161 : BitVec 32 := Scalar.addi v159 v160
  let c15_i32 : BitVec 32 := 15#32
  let v162 : BitVec 32 := Scalar.addi v161 c15_i32
  let v163 : BitVec 1 := Scalar.cmpi .slt v162 v18
  let v164 : BitVec 32 := Scalar.extui v163
  let c0_i32_105 : BitVec 32 := 0#32
  let v165 : BitVec 1 := Scalar.cmpi .ne v164 c0_i32_105
  v165

def k0_off508 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_107 : BitVec 32 := 16#32
  let v170 : BitVec 32 := Scalar.muli arg19 c16_i32_107
  let c15_i32_108 : BitVec 32 := 15#32
  let v171 : BitVec 32 := Scalar.addi v170 c15_i32_108
  let v172 : Index := Scalar.indexCast v171
  let c0_109 : Index := 0#32
  ![v172.toNat, 0]
def k0_off509 (v167 : BitVec 32) : Fin 2 → Nat :=
  let v177 : Index := Scalar.indexCast v167
  let c16 : Index := 16#32
  ![v177.toNat, 16]
def k0_off510 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_111 : BitVec 32 := 16#32
  let v179 : BitVec 32 := Scalar.muli arg19 c16_i32_111
  let c15_i32_112 : BitVec 32 := 15#32
  let v180 : BitVec 32 := Scalar.addi v179 c15_i32_112
  let v181 : Index := Scalar.indexCast v180
  let c16_113 : Index := 16#32
  ![v181.toNat, 16]
def k0_off511 (v167 : BitVec 32) : Fin 2 → Nat :=
  let v186 : Index := Scalar.indexCast v167
  let c32 : Index := 32#32
  ![v186.toNat, 32]
def k0_off512 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_115 : BitVec 32 := 16#32
  let v188 : BitVec 32 := Scalar.muli arg19 c16_i32_115
  let c15_i32_116 : BitVec 32 := 15#32
  let v189 : BitVec 32 := Scalar.addi v188 c15_i32_116
  let v190 : Index := Scalar.indexCast v189
  let c32_117 : Index := 32#32
  ![v190.toNat, 32]
def k0_off513 (v167 : BitVec 32) : Fin 2 → Nat :=
  let v195 : Index := Scalar.indexCast v167
  let c48 : Index := 48#32
  ![v195.toNat, 48]
def k0_off514 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_119 : BitVec 32 := 16#32
  let v197 : BitVec 32 := Scalar.muli arg19 c16_i32_119
  let c15_i32_120 : BitVec 32 := 15#32
  let v198 : BitVec 32 := Scalar.addi v197 c15_i32_120
  let v199 : Index := Scalar.indexCast v198
  let c48_121 : Index := 48#32
  ![v199.toNat, 48]
def k0_off515 (v167 : BitVec 32) : Fin 2 → Nat :=
  let v204 : Index := Scalar.indexCast v167
  let c64 : Index := 64#32
  ![v204.toNat, 64]
def k0_off516 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_123 : BitVec 32 := 16#32
  let v206 : BitVec 32 := Scalar.muli arg19 c16_i32_123
  let c15_i32_124 : BitVec 32 := 15#32
  let v207 : BitVec 32 := Scalar.addi v206 c15_i32_124
  let v208 : Index := Scalar.indexCast v207
  let c64_125 : Index := 64#32
  ![v208.toNat, 64]
def k0_off517 (v167 : BitVec 32) : Fin 2 → Nat :=
  let v213 : Index := Scalar.indexCast v167
  let c80 : Index := 80#32
  ![v213.toNat, 80]
def k0_off518 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_127 : BitVec 32 := 16#32
  let v215 : BitVec 32 := Scalar.muli arg19 c16_i32_127
  let c15_i32_128 : BitVec 32 := 15#32
  let v216 : BitVec 32 := Scalar.addi v215 c15_i32_128
  let v217 : Index := Scalar.indexCast v216
  let c80_129 : Index := 80#32
  ![v217.toNat, 80]
def k0_off519 (v167 : BitVec 32) : Fin 2 → Nat :=
  let v222 : Index := Scalar.indexCast v167
  let c96 : Index := 96#32
  ![v222.toNat, 96]
def k0_off520 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_131 : BitVec 32 := 16#32
  let v224 : BitVec 32 := Scalar.muli arg19 c16_i32_131
  let c15_i32_132 : BitVec 32 := 15#32
  let v225 : BitVec 32 := Scalar.addi v224 c15_i32_132
  let v226 : Index := Scalar.indexCast v225
  let c96_133 : Index := 96#32
  ![v226.toNat, 96]
def k0_off521 (v167 : BitVec 32) : Fin 2 → Nat :=
  let v231 : Index := Scalar.indexCast v167
  let c112 : Index := 112#32
  ![v231.toNat, 112]

def k0_chk34 (v18 : BitVec 32) (k0_t9 : Fin (k0_t9_loop v18).trips) (k0_t11 : Fin k0_t11_loop.trips) (v167 : BitVec 32) : Prop :=
  (∀ (k0_h33 : k0_cond33 v18 k0_t9 k0_t11 = 1#1), ∀ a, (k0_off507 v167) a + S1x16.size a ≤ S512x128.size a) ∧
  (∀ (k0_h33 : k0_cond33 v18 k0_t9 k0_t11 = 1#1), ∀ a, (k0_off509 v167) a + S1x16.size a ≤ S512x128.size a) ∧
  (∀ (k0_h33 : k0_cond33 v18 k0_t9 k0_t11 = 1#1), ∀ a, (k0_off511 v167) a + S1x16.size a ≤ S512x128.size a) ∧
  (∀ (k0_h33 : k0_cond33 v18 k0_t9 k0_t11 = 1#1), ∀ a, (k0_off513 v167) a + S1x16.size a ≤ S512x128.size a) ∧
  (∀ (k0_h33 : k0_cond33 v18 k0_t9 k0_t11 = 1#1), ∀ a, (k0_off515 v167) a + S1x16.size a ≤ S512x128.size a) ∧
  (∀ (k0_h33 : k0_cond33 v18 k0_t9 k0_t11 = 1#1), ∀ a, (k0_off517 v167) a + S1x16.size a ≤ S512x128.size a) ∧
  (∀ (k0_h33 : k0_cond33 v18 k0_t9 k0_t11 = 1#1), ∀ a, (k0_off519 v167) a + S1x16.size a ≤ S512x128.size a) ∧
  (∀ (k0_h33 : k0_cond33 v18 k0_t9 k0_t11 = 1#1), ∀ a, (k0_off521 v167) a + S1x16.size a ≤ S512x128.size a)
theorem k0_off507_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off507 v167) a + S1x16.size a ≤ S512x128.size a := fun v18 k0_t9 k0_t11 v167 k0_hw34 k0_h33 => k0_hw34.1 k0_h33
theorem k0_off509_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off509 v167) a + S1x16.size a ≤ S512x128.size a := fun v18 k0_t9 k0_t11 v167 k0_hw34 k0_h33 => k0_hw34.2.1 k0_h33
theorem k0_off511_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off511 v167) a + S1x16.size a ≤ S512x128.size a := fun v18 k0_t9 k0_t11 v167 k0_hw34 k0_h33 => k0_hw34.2.2.1 k0_h33
theorem k0_off513_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off513 v167) a + S1x16.size a ≤ S512x128.size a := fun v18 k0_t9 k0_t11 v167 k0_hw34 k0_h33 => k0_hw34.2.2.2.1 k0_h33
theorem k0_off515_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off515 v167) a + S1x16.size a ≤ S512x128.size a := fun v18 k0_t9 k0_t11 v167 k0_hw34 k0_h33 => k0_hw34.2.2.2.2.1 k0_h33
theorem k0_off517_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off517 v167) a + S1x16.size a ≤ S512x128.size a := fun v18 k0_t9 k0_t11 v167 k0_hw34 k0_h33 => k0_hw34.2.2.2.2.2.1 k0_h33
theorem k0_off519_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off519 v167) a + S1x16.size a ≤ S512x128.size a := fun v18 k0_t9 k0_t11 v167 k0_hw34 k0_h33 => k0_hw34.2.2.2.2.2.2.1 k0_h33
theorem k0_off521_inb : ∀ (v18 : BitVec 32) (k0_t9 : Fin (k0_t9_loop v18).trips) (k0_t11 : Fin k0_t11_loop.trips) (v167 : BitVec 32) (k0_hw34 : k0_chk34 v18 k0_t9 k0_t11 v167), ∀ (k0_h33 : k0_cond33 v18 k0_t9 k0_t11 = 1#1), ∀ a, (k0_off521 v167) a + S1x16.size a ≤ S512x128.size a := fun v18 k0_t9 k0_t11 v167 k0_hw34 k0_h33 => k0_hw34.2.2.2.2.2.2.2 k0_h33

def k0_off522 (k0_t11 : Fin k0_t11_loop.trips) : Fin 2 → Nat :=
  let c0_i32_47 : BitVec 32 := 0#32
  let c1_i32_49 : BitVec 32 := 1#32
  let arg19 : BitVec 32 := Scf.iv c0_i32_47 c1_i32_49 k0_t11
  let c16_i32_135 : BitVec 32 := 16#32
  let v233 : BitVec 32 := Scalar.muli arg19 c16_i32_135
  let c15_i32_136 : BitVec 32 := 15#32
  let v234 : BitVec 32 := Scalar.addi v233 c15_i32_136
  let v235 : Index := Scalar.indexCast v234
  let c112_137 : Index := 112#32
  ![v235.toNat, 112]
@[reducible] def k0_t12_loop : Scf.Loop 32 :=
  let c0_i32_15 : BitVec 32 := 0#32
  let c4_i32_16 : BitVec 32 := 4#32
  let v12 : BitVec 32 := Scalar.addi c0_i32_15 c4_i32_16
  let c1_i32_17 : BitVec 32 := 1#32
  ⟨c0_i32_15, v12, c1_i32_17⟩
@[reducible] def k0_t13_loop : Scf.Loop 32 :=
  let c0_i32_21 : BitVec 32 := 0#32
  let c8_i32 : BitVec 32 := 8#32
  let v14 : BitVec 32 := Scalar.addi c0_i32_21 c8_i32
  let c1_i32_22 : BitVec 32 := 1#32
  ⟨c0_i32_21, v14, c1_i32_22⟩
def k0_off523 (k0_t13 : Fin k0_t13_loop.trips) : Fin 1 → Nat :=
  let c0_i32_21 : BitVec 32 := 0#32
  let c1_i32_22 : BitVec 32 := 1#32
  let arg17 : BitVec 32 := Scf.iv c0_i32_21 c1_i32_22 k0_t13
  let c16_i32_32 : BitVec 32 := 16#32
  let v36 : BitVec 32 := Scalar.muli arg17 c16_i32_32
  let v37 : Index := Scalar.indexCast v36
  ![v37.toNat]
def k0_off524 (k0_t12 : Fin k0_t12_loop.trips) : Fin 2 → Nat :=
  let c0_i32_15 : BitVec 32 := 0#32
  let c1_i32_17 : BitVec 32 := 1#32
  let arg15 : BitVec 32 := Scf.iv c0_i32_15 c1_i32_17 k0_t12
  let c128_i32 : BitVec 32 := 128#32
  let v16 : BitVec 32 := Scalar.muli arg15 c128_i32
  let c0_i32_24 : BitVec 32 := 0#32
  ![v16.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S400000x1 : Shape := ⟨2, ![400000, 1]⟩
abbrev S400000x128 : Shape := ⟨2, ![400000, 128]⟩
abbrev S400000 : Shape := ⟨1, ![400000]⟩
abbrev S_ : Shape := ⟨0, ![]⟩
abbrev S65536x128 : Shape := ⟨2, ![65536, 128]⟩
abbrev S1 : Shape := ⟨1, ![1]⟩
abbrev S1x128 : Shape := ⟨2, ![1, 128]⟩
abbrev S4x128x128x128 : Shape := ⟨4, ![4, 128, 128, 128]⟩

abbrev nBuf : Space → Nat
  | .hbm => 59
  | .vmem => 0
  | .smem => 0
  | _ => 0

abbrev bufTy : (tb : Table) → Fin (tcTables nBuf tb) → BufTy
  | .hbm, ⟨0, _⟩ => ⟨S400000x1, .i32⟩
  | .hbm, ⟨1, _⟩ => ⟨S400000x128, .f32⟩
  | .hbm, ⟨2, _⟩ => ⟨S400000, .i32⟩
  | .hbm, ⟨3, _⟩ => ⟨S_, .f32⟩
  | .hbm, ⟨4, _⟩ => ⟨S65536x128, .f32⟩
  | .hbm, ⟨5, _⟩ => ⟨S_, .i32⟩
  | .hbm, ⟨6, _⟩ => ⟨S_, .i32⟩
  | .hbm, ⟨7, _⟩ => ⟨S400000, .i32⟩
  | .hbm, ⟨8, _⟩ => ⟨S400000x128, .f32⟩
  | .hbm, ⟨9, _⟩ => ⟨S_, .i32⟩
  | .hbm, ⟨10, _⟩ => ⟨S_, .i32⟩
  | .hbm, ⟨11, _⟩ => ⟨S65536x128, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x128, .f32⟩
  | .hbm, ⟨39, _⟩ => ⟨S1x128, .f32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S65536x128, .f32⟩
  | .hbm, ⟨55, _⟩ => ⟨S_, .i32⟩
  | .hbm, ⟨56, _⟩ => ⟨S_, .i32⟩
  | .hbm, ⟨57, _⟩ => ⟨S4x128x128x128, .f32⟩
  | .hbm, ⟨58, _⟩ => ⟨S4x128x128x128, .f32⟩
  | _, _ => ⟨S400000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v5 : Ref sig .tc := ⟨.hbm, 13, rfl⟩
abbrev main_while0b_c_5 : Ref sig .tc := ⟨.hbm, 14, rfl⟩
abbrev main_while0b_v5 : Ref sig .tc := ⟨.hbm, 15, rfl⟩
abbrev main_while0b_c_6 : Ref sig .tc := ⟨.hbm, 16, rfl⟩
abbrev main_while0b_v6 : Ref sig .tc := ⟨.hbm, 17, rfl⟩
abbrev main_while0b_v7 : Ref sig .tc := ⟨.hbm, 18, rfl⟩
abbrev main_while0b_c_7 : Ref sig .tc := ⟨.hbm, 19, rfl⟩
abbrev main_while0b_v8 : Ref sig .tc := ⟨.hbm, 20, rfl⟩
abbrev main_while0b_v9 : Ref sig .tc := ⟨.hbm, 21, rfl⟩
abbrev main_while0b_v10 : Ref sig .tc := ⟨.hbm, 22, rfl⟩
abbrev main_while0b_v11 : Ref sig .tc := ⟨.hbm, 23, rfl⟩
abbrev main_while0b_c_8 : Ref sig .tc := ⟨.hbm, 24, rfl⟩
abbrev main_while0b_v12 : Ref sig .tc := ⟨.hbm, 25, rfl⟩
abbrev main_while0b_c_9 : Ref sig .tc := ⟨.hbm, 26, rfl⟩
abbrev main_while0b_v13 : Ref sig .tc := ⟨.hbm, 27, rfl⟩
abbrev main_while0b_v14 : Ref sig .tc := ⟨.hbm, 28, rfl⟩
abbrev main_while0b_c_10 : Ref sig .tc := ⟨.hbm, 29, rfl⟩
abbrev main_while0b_v15 : Ref sig .tc := ⟨.hbm, 30, rfl⟩
abbrev main_while0b_c_11 : Ref sig .tc := ⟨.hbm, 31, rfl⟩
abbrev main_while0b_v16 : Ref sig .tc := ⟨.hbm, 32, rfl⟩
abbrev main_while0b_v17 : Ref sig .tc := ⟨.hbm, 33, rfl⟩
abbrev main_while0b_c_12 : Ref sig .tc := ⟨.hbm, 34, rfl⟩
abbrev main_while0b_v18 : Ref sig .tc := ⟨.hbm, 35, rfl⟩
abbrev main_while0b_v19 : Ref sig .tc := ⟨.hbm, 36, rfl⟩
abbrev main_while0b_c_13 : Ref sig .tc := ⟨.hbm, 37, rfl⟩
abbrev main_while0b_v20 : Ref sig .tc := ⟨.hbm, 38, rfl⟩
abbrev main_while0b_v21 : Ref sig .tc := ⟨.hbm, 39, rfl⟩
abbrev main_while0b_c_14 : Ref sig .tc := ⟨.hbm, 40, rfl⟩
abbrev main_while0b_v22 : Ref sig .tc := ⟨.hbm, 41, rfl⟩
abbrev main_while0b_v23 : Ref sig .tc := ⟨.hbm, 42, rfl⟩
abbrev main_while0b_c_15 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_c_16 : Ref sig .tc := ⟨.hbm, 48, rfl⟩
abbrev main_while0b_v28 : Ref sig .tc := ⟨.hbm, 49, rfl⟩
abbrev main_while0b_c_17 : Ref sig .tc := ⟨.hbm, 50, rfl⟩
abbrev main_while0b_v29 : Ref sig .tc := ⟨.hbm, 51, rfl⟩
abbrev main_while0b_v30 : Ref sig .tc := ⟨.hbm, 52, rfl⟩
abbrev main_while0b_c_18 : Ref sig .tc := ⟨.hbm, 53, rfl⟩
abbrev main_while0b_v31 : Ref sig .tc := ⟨.hbm, 54, rfl⟩
abbrev main_while0b_c_19 : Ref sig .tc := ⟨.hbm, 55, rfl⟩
abbrev main_while0b_v32 : Ref sig .tc := ⟨.hbm, 56, rfl⟩
abbrev main_v3 : Ref sig .tc := ⟨.hbm, 57, rfl⟩
abbrev main_v4 : Ref sig .tc := ⟨.hbm, 58, rfl⟩

abbrev nD : Nat := 1
abbrev τ : Topo := Topo.v7x

variable {F : FTy → Type} [FloatOps F]

abbrev main_while0_count : Scf.Loop 32 := ⟨0#32, 400000#32, 1#32⟩
-- ==== Cells.lean ====
abbrev S4x100000x4 : Shape := ⟨3, ![4, 100000, 4]⟩
abbrev S64x4 : Shape := ⟨2, ![64, 4]⟩
abbrev S64 : Shape := ⟨1, ![64]⟩
abbrev S400000x4 : Shape := ⟨2, ![400000, 4]⟩
abbrev S4x64 : Shape := ⟨2, ![4, 64]⟩
abbrev S2x64 : Shape := ⟨2, ![2, 64]⟩
abbrev S400000x1 : Shape := ⟨2, ![400000, 1]⟩
abbrev S3200x4 : Shape := ⟨2, ![3200, 4]⟩
abbrev S3200x1 : Shape := ⟨2, ![3200, 1]⟩
abbrev S1x64 : Shape := ⟨2, ![1, 64]⟩
abbrev S3200x64 : Shape := ⟨2, ![3200, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S400000x4, .f32⟩
  | .hbm, ⟨4, _⟩ => ⟨S4x64, .f32⟩
  | .hbm, ⟨5, _⟩ => ⟨S2x64, .f32⟩
  | .hbm, ⟨6, _⟩ => ⟨S400000x1, .i32⟩
  | .local _ .vmem, ⟨0, _⟩ => ⟨S3200x4, .f32⟩
  | .local _ .vmem, ⟨1, _⟩ => ⟨S3200x4, .f32⟩
  | .local _ .vmem, ⟨2, _⟩ => ⟨S4x64, .f32⟩
  | .local _ .vmem, ⟨3, _⟩ => ⟨S64, .f32⟩
  | .local _ .vmem, ⟨4, _⟩ => ⟨S2x64, .f32⟩
  | .local _ .vmem, ⟨5, _⟩ => ⟨S3200x1, .i32⟩
  | .local _ .vmem, ⟨6, _⟩ => ⟨S3200x1, .i32⟩
  | _, _ => ⟨S4x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_8 : BitVec 32 := 0#32
  let v41 : BitVec 1 := Scalar.cmpi .ne v40 c0_i32_8
  v41

def k0_cond2 (i : grid0.Coords) : BitVec 1 :=
  let arg0 : BitVec 32 := BitVec.ofNat 32 (i 0).val
  let c0_i32_9 : BitVec 32 := 0#32
  let v42 : BitVec 1 := Scalar.cmpi .ne arg0 c0_i32_9
  let v43 : BitVec 32 := Scalar.extui v42
  let c0_i32_10 : BitVec 32 := 0#32
  let v44 : BitVec 1 := Scalar.cmpi .ne v43 c0_i32_10
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CellsReferenceIdeal.lean ====
abbrev S4x100000x4 : Shape := ⟨3, ![4, 100000, 4]⟩
abbrev S64x4 : Shape := ⟨2, ![64, 4]⟩
abbrev S64 : Shape := ⟨1, ![64]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S_ : Shape := ⟨0, ![]⟩
abbrev S1x64 : Shape := ⟨2, ![1, 64]⟩
abbrev S2x64 : Shape := ⟨2, ![2, 64]⟩
abbrev S4x100000x1 : Shape := ⟨3, ![4, 100000, 1]⟩
abbrev S4x100000 : Shape := ⟨2, ![4, 100000]⟩
abbrev S4 : Shape := ⟨1, ![4]⟩
abbrev S4x1 : Shape := ⟨2, ![4, 1]⟩
abbrev S400000x1 : Shape := ⟨2, ![400000, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S4x4x100000, .f32⟩
  | .hbm, ⟨4, _⟩ => ⟨S4x100000x64, .f32⟩
  | .hbm, ⟨5, _⟩ => ⟨S4x64x100000, .f32⟩
  | .hbm, ⟨6, _⟩ => ⟨S1x64x1, .f32⟩
  | .hbm, ⟨7, _⟩ => ⟨S4x64x100000, .f32⟩
  | .hbm, ⟨8, _⟩ => ⟨S4x64x100000, .f32⟩
  | .hbm, ⟨9, _⟩ => ⟨S_, .f32⟩
  | .hbm, ⟨10, _⟩ => ⟨S64, .f32⟩
  | .hbm, ⟨11, _⟩ => ⟨S4x64x100000, .f32⟩
  | .hbm, ⟨12, _⟩ => ⟨S_, .f32⟩
  | .hbm, ⟨13, _⟩ => ⟨S64, .f32⟩
  | .hbm, ⟨14, _⟩ => ⟨S1x64, .f32⟩
  | .hbm, ⟨15, _⟩ => ⟨S1x64, .f32⟩
  | .hbm, ⟨16, _⟩ => ⟨S2x64, .f32⟩
  | .hbm, ⟨17, _⟩ => ⟨S4x100000x1, .f32⟩
  | .hbm, ⟨18, _⟩ => ⟨S4x100000, .f32⟩
  | .hbm, ⟨19, _⟩ => ⟨S4x100000x1, .f32⟩
  | .hbm, ⟨20, _⟩ => ⟨S4x100000, .f32⟩
  | .hbm, ⟨21, _⟩ => ⟨S_, .f32⟩
  | .hbm, ⟨22, _⟩ => ⟨S4x100000, .f32⟩
  | .hbm, ⟨23, _⟩ => ⟨S4x100000, .f32⟩
  | .hbm, ⟨24, _⟩ => ⟨S_, .f32⟩
  | .hbm, ⟨25, _⟩ => ⟨S4x100000, .f32⟩
  | .hbm, ⟨26, _⟩ => ⟨S4x100000, .f32⟩
  | .hbm, ⟨27, _⟩ => ⟨S_, .f32⟩
  | .hbm, ⟨28, _⟩ => ⟨S4x100000, .f32⟩
  | .hbm, ⟨29, _⟩ => ⟨S4x100000, .f32⟩
  | .hbm, ⟨30, _⟩ => ⟨S_, .f32⟩
  | .hbm, ⟨31, _⟩ => ⟨S4x100000, .f32⟩
  | .hbm, ⟨32, _⟩ => ⟨S4x100000, .f32⟩
  | .hbm, ⟨33, _⟩ => ⟨S_, .f32⟩
  | .hbm, ⟨34, _⟩ => ⟨S4x100000, .f32⟩
  | .hbm, ⟨35, _⟩ => ⟨S4x100000, .f32⟩
  | .hbm, ⟨36, _⟩ => ⟨S4x100000, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S4x100000, .i32⟩
  | .hbm, ⟨41, _⟩ => ⟨S4x100000, .i32⟩
  | .hbm, ⟨42, _⟩ => ⟨S_, .i32⟩
  | .hbm, ⟨43, _⟩ => ⟨S4x100000, .i32⟩
  | .hbm, ⟨44, _⟩ => ⟨S4x100000, .i32⟩
  | .hbm, ⟨45, _⟩ => ⟨S_, .f32⟩
  | .hbm, ⟨46, _⟩ => ⟨S4x100000, .f32⟩
  | .hbm, ⟨47, _⟩ => ⟨S4x100000, .f32⟩
  | .hbm, ⟨48, _⟩ => ⟨S4x100000, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S4x100000, .i32⟩
  | .hbm, ⟨53, _⟩ => ⟨S4x100000, .i32⟩
  | .hbm, ⟨54, _⟩ => ⟨S_, .i32⟩
  | .hbm, ⟨55, _⟩ => ⟨S4x100000, .i32⟩
  | .hbm, ⟨56, _⟩ => ⟨S4x100000, .i32⟩
  | .hbm, ⟨57, _⟩ => ⟨S4, .i32⟩
  | .hbm, ⟨58, _⟩ => ⟨S4x1, .i32⟩
  | .hbm, ⟨59, _⟩ => ⟨S_, .i32⟩
  | .hbm, ⟨60, _⟩ => ⟨S4x1, .i32⟩
  | .hbm, ⟨61, _⟩ => ⟨S4x1, .i32⟩
  | .hbm, ⟨62, _⟩ => ⟨S_, .i32⟩
  | .hbm, ⟨63, _⟩ => ⟨S4x100000, .i32⟩
  | .hbm, ⟨64, _⟩ => ⟨S4x100000, .i32⟩
  | .hbm, ⟨65, _⟩ => ⟨S4x100000, .i32⟩
  | .hbm, ⟨66, _⟩ => ⟨S4x100000, .i32⟩
  | .hbm, ⟨67, _⟩ => ⟨S4x100000, .i32⟩
  | .hbm, ⟨68, _⟩ => ⟨S400000x1, .i32⟩
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_c_6 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_c_9 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_c_11 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Second.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S2x64 : Shape := ⟨2, ![2, 64]⟩
abbrev S400000x4 : Shape := ⟨2, ![400000, 4]⟩
abbrev S4x64 : Shape := ⟨2, ![4, 64]⟩
abbrev S64x128 : Shape := ⟨2, ![64, 128]⟩
abbrev S2x128 : Shape := ⟨2, ![2, 128]⟩
abbrev S3200x4 : Shape := ⟨2, ![3200, 4]⟩
abbrev S1x64 : Shape := ⟨2, ![1, 64]⟩
abbrev S3200x1 : Shape := ⟨2, ![3200, 1]⟩
abbrev S3200x64 : Shape := ⟨2, ![3200, 64]⟩
abbrev S3200x128 : Shape := ⟨2, ![3200, 128]⟩
abbrev S1x128 : Shape := ⟨2, ![1, 128]⟩

abbrev nBuf : Space → Nat
  | .hbm => 12
  | .vmem => 10
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S2x64, .f32⟩
  | .hbm, ⟨8, _⟩ => ⟨S400000x4, .f32⟩
  | .hbm, ⟨9, _⟩ => ⟨S4x64, .f32⟩
  | .hbm, ⟨10, _⟩ => ⟨S64x128, .f32⟩
  | .hbm, ⟨11, _⟩ => ⟨S2x128, .f32⟩
  | .local _ .vmem, ⟨0, _⟩ => ⟨S3200x4, .f32⟩
  | .local _ .vmem, ⟨1, _⟩ => ⟨S3200x4, .f32⟩
  | .local _ .vmem, ⟨2, _⟩ => ⟨S4x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64x128, .f32⟩
  | .local _ .vmem, ⟨7, _⟩ => ⟨S128, .f32⟩
  | .local _ .vmem, ⟨8, _⟩ => ⟨S2x64, .f32⟩
  | .local _ .vmem, ⟨9, _⟩ => ⟨S2x128, .f32⟩
  | _, _ => ⟨S4x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v70 : BitVec 1 := Scalar.cmpi .eq arg0 c0_i32
  let v71 : BitVec 32 := Scalar.extui v70
  let c0_i32_22 : BitVec 32 := 0#32
  let v72 : BitVec 1 := Scalar.cmpi .ne v71 c0_i32_22
  v72

def k0_cond2 (i : grid0.Coords) : BitVec 1 :=
  let arg0 : BitVec 32 := BitVec.ofNat 32 (i 0).val
  let c0_i32_23 : BitVec 32 := 0#32
  let v73 : BitVec 1 := Scalar.cmpi .ne arg0 c0_i32_23
  let v74 : BitVec 32 := Scalar.extui v73
  let c0_i32_24 : BitVec 32 := 0#32
  let v75 : BitVec 1 := Scalar.cmpi .ne v74 c0_i32_24
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== SecondReferenceIdeal.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S2x64 : Shape := ⟨2, ![2, 64]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S1x64 : Shape := ⟨2, ![1, 64]⟩
abbrev S_ : Shape := ⟨0, ![]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩
abbrev S2x128 : Shape := ⟨2, ![2, 128]⟩

abbrev nBuf : Space → Nat
  | .hbm => 58
  | .vmem => 0
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S2x64, .f32⟩
  | .hbm, ⟨8, _⟩ => ⟨S4x4x100000, .f32⟩
  | .hbm, ⟨9, _⟩ => ⟨S4x100000x64, .f32⟩
  | .hbm, ⟨10, _⟩ => ⟨S4x64x100000, .f32⟩
  | .hbm, ⟨11, _⟩ => ⟨S1x64x1, .f32⟩
  | .hbm, ⟨12, _⟩ => ⟨S4x64x100000, .f32⟩
  | .hbm, ⟨13, _⟩ => ⟨S4x64x100000, .f32⟩
  | .hbm, ⟨14, _⟩ => ⟨S1x64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S1x64x1, .f32⟩
  | .hbm, ⟨27, _⟩ => ⟨S4x64x100000, .f32⟩
  | .hbm, ⟨28, _⟩ => ⟨S4x64x100000, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S1x64x1, .f32⟩
  | .hbm, ⟨34, _⟩ => ⟨S4x64x100000, .f32⟩
  | .hbm, ⟨35, _⟩ => ⟨S4x64x100000, .f32⟩
  | .hbm, ⟨36, _⟩ => ⟨S1x64x1, .f32⟩
  | .hbm, ⟨37, _⟩ => ⟨S4x64x100000, .f32⟩
  | .hbm, ⟨38, _⟩ => ⟨S4x64x100000, .f32⟩
  | .hbm, ⟨39, _⟩ => ⟨S1x64x1, .f32⟩
  | .hbm, ⟨40, _⟩ => ⟨S4x64x100000, .f32⟩
  | .hbm, ⟨41, _⟩ => ⟨S4x64x100000, .f32⟩
  | .hbm, ⟨42, _⟩ => ⟨S_, .f32⟩
  | .hbm, ⟨43, _⟩ => ⟨S4x64x100000, .f32⟩
  | .hbm, ⟨44, _⟩ => ⟨S4x64x100000, .f32⟩
  | .hbm, ⟨45, _⟩ => ⟨S4x100000x128, .f32⟩
  | .hbm, ⟨46, _⟩ => ⟨S4x128x100000, .f32⟩
  | .hbm, ⟨47, _⟩ => ⟨S1x128x1, .f32⟩
  | .hbm, ⟨48, _⟩ => ⟨S4x128x100000, .f32⟩
  | .hbm, ⟨49, _⟩ => ⟨S4x128x100000, .f32⟩
  | .hbm, ⟨50, _⟩ => ⟨S_, .f32⟩
  | .hbm, ⟨51, _⟩ => ⟨S128, .f32⟩
  | .hbm, ⟨52, _⟩ => ⟨S4x128x100000, .f32⟩
  | .hbm, ⟨53, _⟩ => ⟨S_, .f32⟩
  | .hbm, ⟨54, _⟩ => ⟨S128, .f32⟩
  | .hbm, ⟨55, _⟩ => ⟨S1x128, .f32⟩
  | .hbm, ⟨56, _⟩ => ⟨S1x128, .f32⟩
  | .hbm, ⟨57, _⟩ => ⟨S2x128, .f32⟩
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_2 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Third.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S400000x4 : Shape := ⟨2, ![400000, 4]⟩
abbrev S4x64 : Shape := ⟨2, ![4, 64]⟩
abbrev S64x128 : Shape := ⟨2, ![64, 128]⟩
abbrev S3200x4 : Shape := ⟨2, ![3200, 4]⟩
abbrev S1x64 : Shape := ⟨2, ![1, 64]⟩
abbrev S3200x1 : Shape := ⟨2, ![3200, 1]⟩
abbrev S3200x64 : Shape := ⟨2, ![3200, 64]⟩
abbrev S3200x128 : Shape := ⟨2, ![3200, 128]⟩
abbrev S1x128 : Shape := ⟨2, ![1, 128]⟩

abbrev nBuf : Space → Nat
  | .hbm => 18
  | .vmem => 15
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x64, .f32⟩
  | .hbm, ⟨12, _⟩ => ⟨S2x128, .f32⟩
  | .hbm, ⟨13, _⟩ => ⟨S400000x4, .f32⟩
  | .hbm, ⟨14, _⟩ => ⟨S4x64, .f32⟩
  | .hbm, ⟨15, _⟩ => ⟨S64x128, .f32⟩
  | .hbm, ⟨16, _⟩ => ⟨S128x128, .f32⟩
  | .hbm, ⟨17, _⟩ => ⟨S2x128, .f32⟩
  | .local _ .vmem, ⟨0, _⟩ => ⟨S3200x4, .f32⟩
  | .local _ .vmem, ⟨1, _⟩ => ⟨S3200x4, .f32⟩
  | .local _ .vmem, ⟨2, _⟩ => ⟨S4x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S2x64, .f32⟩
  | .local _ .vmem, ⟨13, _⟩ => ⟨S2x128, .f32⟩
  | .local _ .vmem, ⟨14, _⟩ => ⟨S2x128, .f32⟩
  | _, _ => ⟨S4x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v101 : BitVec 1 := Scalar.cmpi .eq arg0 c0_i32
  let v102 : BitVec 32 := Scalar.extui v101
  let c0_i32_36 : BitVec 32 := 0#32
  let v103 : BitVec 1 := Scalar.cmpi .ne v102 c0_i32_36
  v103

def k0_cond2 (i : grid0.Coords) : BitVec 1 :=
  let arg0 : BitVec 32 := BitVec.ofNat 32 (i 0).val
  let c0_i32_37 : BitVec 32 := 0#32
  let v104 : BitVec 1 := Scalar.cmpi .ne arg0 c0_i32_37
  let v105 : BitVec 32 := Scalar.extui v104
  let c0_i32_38 : BitVec 32 := 0#32
  let v106 : BitVec 1 := Scalar.cmpi .ne v105 c0_i32_38
  v106

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ThirdReferenceIdeal.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S1x64 : Shape := ⟨2, ![1, 64]⟩
abbrev S_ : Shape := ⟨0, ![]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩

abbrev nBuf : Space → Nat
  | .hbm => 99
  | .vmem => 0
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x64, .f32⟩
  | .hbm, ⟨12, _⟩ => ⟨S2x128, .f32⟩
  | .hbm, ⟨13, _⟩ => ⟨S4x4x100000, .f32⟩
  | .hbm, ⟨14, _⟩ => ⟨S4x100000x64, .f32⟩
  | .hbm, ⟨15, _⟩ => ⟨S4x64x100000, .f32⟩
  | .hbm, ⟨16, _⟩ => ⟨S1x64x1, .f32⟩
  | .hbm, ⟨17, _⟩ => ⟨S4x64x100000, .f32⟩
  | .hbm, ⟨18, _⟩ => ⟨S4x64x100000, .f32⟩
  | .hbm, ⟨19, _⟩ => ⟨S1x64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S64, .f32⟩
  | .hbm, ⟨31, _⟩ => ⟨S1x64x1, .f32⟩
  | .hbm, ⟨32, _⟩ => ⟨S4x64x100000, .f32⟩
  | .hbm, ⟨33, _⟩ => ⟨S4x64x100000, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64, .f32⟩
  | .hbm, ⟨38, _⟩ => ⟨S1x64x1, .f32⟩
  | .hbm, ⟨39, _⟩ => ⟨S4x64x100000, .f32⟩
  | .hbm, ⟨40, _⟩ => ⟨S4x64x100000, .f32⟩
  | .hbm, ⟨41, _⟩ => ⟨S1x64x1, .f32⟩
  | .hbm, ⟨42, _⟩ => ⟨S4x64x100000, .f32⟩
  | .hbm, ⟨43, _⟩ => ⟨S4x64x100000, .f32⟩
  | .hbm, ⟨44, _⟩ => ⟨S1x64x1, .f32⟩
  | .hbm, ⟨45, _⟩ => ⟨S4x64x100000, .f32⟩
  | .hbm, ⟨46, _⟩ => ⟨S4x64x100000, .f32⟩
  | .hbm, ⟨47, _⟩ => ⟨S_, .f32⟩
  | .hbm, ⟨48, _⟩ => ⟨S4x64x100000, .f32⟩
  | .hbm, ⟨49, _⟩ => ⟨S4x64x100000, .f32⟩
  | .hbm, ⟨50, _⟩ => ⟨S4x100000x128, .f32⟩
  | .hbm, ⟨51, _⟩ => ⟨S4x128x100000, .f32⟩
  | .hbm, ⟨52, _⟩ => ⟨S1x128x1, .f32⟩
  | .hbm, ⟨53, _⟩ => ⟨S4x128x100000, .f32⟩
  | .hbm, ⟨54, _⟩ => ⟨S4x128x100000, .f32⟩
  | .hbm, ⟨55, _⟩ => ⟨S1x128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128x1, .f32⟩
  | .hbm, ⟨68, _⟩ => ⟨S4x128x100000, .f32⟩
  | .hbm, ⟨69, _⟩ => ⟨S4x128x100000, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x128x1, .f32⟩
  | .hbm, ⟨75, _⟩ => ⟨S4x128x100000, .f32⟩
  | .hbm, ⟨76, _⟩ => ⟨S4x128x100000, .f32⟩
  | .hbm, ⟨77, _⟩ => ⟨S1x128x1, .f32⟩
  | .hbm, ⟨78, _⟩ => ⟨S4x128x100000, .f32⟩
  | .hbm, ⟨79, _⟩ => ⟨S4x128x100000, .f32⟩
  | .hbm, ⟨80, _⟩ => ⟨S1x128x1, .f32⟩
  | .hbm, ⟨81, _⟩ => ⟨S4x128x100000, .f32⟩
  | .hbm, ⟨82, _⟩ => ⟨S4x128x100000, .f32⟩
  | .hbm, ⟨83, _⟩ => ⟨S_, .f32⟩
  | .hbm, ⟨84, _⟩ => ⟨S4x128x100000, .f32⟩
  | .hbm, ⟨85, _⟩ => ⟨S4x128x100000, .f32⟩
  | .hbm, ⟨86, _⟩ => ⟨S4x100000x128, .f32⟩
  | .hbm, ⟨87, _⟩ => ⟨S4x128x100000, .f32⟩
  | .hbm, ⟨88, _⟩ => ⟨S1x128x1, .f32⟩
  | .hbm, ⟨89, _⟩ => ⟨S4x128x100000, .f32⟩
  | .hbm, ⟨90, _⟩ => ⟨S4x128x100000, .f32⟩
  | .hbm, ⟨91, _⟩ => ⟨S_, .f32⟩
  | .hbm, ⟨92, _⟩ => ⟨S128, .f32⟩
  | .hbm, ⟨93, _⟩ => ⟨S4x128x100000, .f32⟩
  | .hbm, ⟨94, _⟩ => ⟨S_, .f32⟩
  | .hbm, ⟨95, _⟩ => ⟨S128, .f32⟩
  | .hbm, ⟨96, _⟩ => ⟨S1x128, .f32⟩
  | .hbm, ⟨97, _⟩ => ⟨S1x128, .f32⟩
  | .hbm, ⟨98, _⟩ => ⟨S2x128, .f32⟩
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_3 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_cst : Ref sig .tc := ⟨.hbm, 83, rfl⟩
abbrev main_call1_v0 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_cst_6 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Features.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S400000x4 : Shape := ⟨2, ![400000, 4]⟩
abbrev S4x64 : Shape := ⟨2, ![4, 64]⟩
abbrev S64x128 : Shape := ⟨2, ![64, 128]⟩
abbrev S400000x128 : Shape := ⟨2, ![400000, 128]⟩
abbrev S3200x4 : Shape := ⟨2, ![3200, 4]⟩
abbrev S3200x128 : Shape := ⟨2, ![3200, 128]⟩
abbrev S1x64 : Shape := ⟨2, ![1, 64]⟩
abbrev S3200x1 : Shape := ⟨2, ![3200, 1]⟩
abbrev S3200x64 : Shape := ⟨2, ![3200, 64]⟩
abbrev S1x128 : Shape := ⟨2, ![1, 128]⟩

abbrev nBuf : Space → Nat
  | .hbm => 21
  | .vmem => 19
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S2x64, .f32⟩
  | .hbm, ⟨14, _⟩ => ⟨S2x128, .f32⟩
  | .hbm, ⟨15, _⟩ => ⟨S2x128, .f32⟩
  | .hbm, ⟨16, _⟩ => ⟨S400000x4, .f32⟩
  | .hbm, ⟨17, _⟩ => ⟨S4x64, .f32⟩
  | .hbm, ⟨18, _⟩ => ⟨S64x128, .f32⟩
  | .hbm, ⟨19, _⟩ => ⟨S128x128, .f32⟩
  | .hbm, ⟨20, _⟩ => ⟨S400000x128, .f32⟩
  | .local _ .vmem, ⟨0, _⟩ => ⟨S3200x4, .f32⟩
  | .local _ .vmem, ⟨1, _⟩ => ⟨S3200x4, .f32⟩
  | .local _ .vmem, ⟨2, _⟩ => ⟨S4x64, .f32⟩
  | .local _ .vmem, ⟨3, _⟩ => ⟨S64, .f32⟩
  | .local _ .vmem, ⟨4, _⟩ => ⟨S64, .f32⟩
  | .local _ .vmem, ⟨5, _⟩ => ⟨S64, .f32⟩
  | .local _ .vmem, ⟨6, _⟩ => ⟨S64x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S2x64, .f32⟩
  | .local _ .vmem, ⟨15, _⟩ => ⟨S2x128, .f32⟩
  | .local _ .vmem, ⟨16, _⟩ => ⟨S2x128, .f32⟩
  | .local _ .vmem, ⟨17, _⟩ => ⟨S3200x128, .f32⟩
  | .local _ .vmem, ⟨18, _⟩ => ⟨S3200x128, .f32⟩
  | _, _ => ⟨S4x100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S3200x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== FeaturesReferenceIdeal.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S4x100000x1 : Shape := ⟨3, ![4, 100000, 1]⟩
abbrev S4x100000 : Shape := ⟨2, ![4, 100000]⟩
abbrev S_ : Shape := ⟨0, ![]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S1x64 : Shape := ⟨2, ![1, 64]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩
abbrev S400000x128 : Shape := ⟨2, ![400000, 128]⟩

abbrev nBuf : Space → Nat
  | .hbm => 164
  | .vmem => 0
  | .smem => 0
  | _ => 0

abbrev hbmTy0_0 (i : Nat) : BufTy := match i % 128 with
  | 0 => ⟨S4x100000x4, .f32⟩
  | 1 => ⟨S64x4, .f32⟩
  | 2 => ⟨S64, .f32⟩
  | 3 => ⟨S64, .f32⟩
  | 4 => ⟨S64, .f32⟩
  | 5 => ⟨S128x64, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S2x64, .f32⟩
  | 14 => ⟨S2x128, .f32⟩
  | 15 => ⟨S2x128, .f32⟩
  | 16 => ⟨S4x100000x1, .f32⟩
  | 17 => ⟨S4x100000, .f32⟩
  | 18 => ⟨S_, .f32⟩
  | 19 => ⟨S4x100000, .f32⟩
  | 20 => ⟨S4x100000, .f32⟩
  | 21 => ⟨S_, .f32⟩
  | 22 => ⟨S4x100000, .f32⟩
  | 23 => ⟨S4x100000, .f32⟩
  | 24 => ⟨S4x100000x1, .f32⟩
  | 25 => ⟨S4x100000, .f32⟩
  | 26 => ⟨S_, .f32⟩
  | 27 => ⟨S4x100000, .f32⟩
  | 28 => ⟨S4x100000, .f32⟩
  | 29 => ⟨S_, .f32⟩
  | 30 => ⟨S4x100000, .f32⟩
  | 31 => ⟨S4x100000, .f32⟩
  | 32 => ⟨S_, .f32⟩
  | 33 => ⟨S4x100000, .f32⟩
  | 34 => ⟨S4x100000, .i1⟩
  | 35 => ⟨S_, .f32⟩
  | 36 => ⟨S4x100000, .f32⟩
  | 37 => ⟨S4x100000, .i1⟩
  | 38 => ⟨S4x100000, .i1⟩
  | 39 => ⟨S_, .f32⟩
  | 40 => ⟨S4x100000, .f32⟩
  | 41 => ⟨S4x100000, .i1⟩
  | 42 => ⟨S4x100000, .i1⟩
  | 43 => ⟨S_, .f32⟩
  | 44 => ⟨S4x100000, .f32⟩
  | 45 => ⟨S4x100000, .i1⟩
  | 46 => ⟨S4x100000, .i1⟩
  | 47 => ⟨S4x4x100000, .f32⟩
  | 48 => ⟨S4x100000x64, .f32⟩
  | 49 => ⟨S4x64x100000, .f32⟩
  | 50 => ⟨S1x64x1, .f32⟩
  | 51 => ⟨S4x64x100000, .f32⟩
  | 52 => ⟨S4x64x100000, .f32⟩
  | 53 => ⟨S1x64, .f32⟩
  | 54 => ⟨S64, .f32⟩
  | 55 => ⟨S_, .f32⟩
  | 56 => ⟨S64, .f32⟩
  | 57 => ⟨S64, .f32⟩
  | 58 => ⟨S1x64, .f32⟩
  | 59 => ⟨S64, .f32⟩
  | 60 => ⟨S_, .f32⟩
  | 61 => ⟨S64, .f32⟩
  | 62 => ⟨S64, .f32⟩
  | 63 => ⟨S64, .f32⟩
  | 64 => ⟨S64, .f32⟩
  | 65 => ⟨S1x64x1, .f32⟩
  | 66 => ⟨S4x64x100000, .f32⟩
  | 67 => ⟨S4x64x100000, .f32⟩
  | 68 => ⟨S_, .f32⟩
  | 69 => ⟨S64, .f32⟩
  | 70 => ⟨S64, .f32⟩
  | 71 => ⟨S64, .f32⟩
  | 72 => ⟨S1x64x1, .f32⟩
  | 73 => ⟨S4x64x100000, .f32⟩
  | 74 => ⟨S4x64x100000, .f32⟩
  | 75 => ⟨S1x64x1, .f32⟩
  | 76 => ⟨S4x64x100000, .f32⟩
  | 77 => ⟨S4x64x100000, .f32⟩
  | 78 => ⟨S1x64x1, .f32⟩
  | 79 => ⟨S4x64x100000, .f32⟩
  | 80 => ⟨S4x64x100000, .f32⟩
  | 81 => ⟨S_, .f32⟩
  | 82 => ⟨S4x64x100000, .f32⟩
  | 83 => ⟨S4x64x100000, .f32⟩
  | 84 => ⟨S4x100000x128, .f32⟩
  | 85 => ⟨S4x128x100000, .f32⟩
  | 86 => ⟨S1x128x1, .f32⟩
  | 87 => ⟨S4x128x100000, .f32⟩
  | 88 => ⟨S4x128x100000, .f32⟩
  | 89 => ⟨S1x128, .f32⟩
  | 90 => ⟨S128, .f32⟩
  | 91 => ⟨S_, .f32⟩
  | 92 => ⟨S128, .f32⟩
  | 93 => ⟨S128, .f32⟩
  | 94 => ⟨S1x128, .f32⟩
  | 95 => ⟨S128, .f32⟩
  | 96 => ⟨S_, .f32⟩
  | 97 => ⟨S128, .f32⟩
  | 98 => ⟨S128, .f32⟩
  | 99 => ⟨S128, .f32⟩
  | 100 => ⟨S128, .f32⟩
  | 101 => ⟨S1x128x1, .f32⟩
  | 102 => ⟨S4x128x100000, .f32⟩
  | 103 => ⟨S4x128x100000, .f32⟩
  | 104 => ⟨S_, .f32⟩
  | 105 => ⟨S128, .f32⟩
  | 106 => ⟨S128, .f32⟩
  | 107 => ⟨S128, .f32⟩
  | 108 => ⟨S1x128x1, .f32⟩
  | 109 => ⟨S4x128x100000, .f32⟩
  | 110 => ⟨S4x128x100000, .f32⟩
  | 111 => ⟨S1x128x1, .f32⟩
  | 112 => ⟨S4x128x100000, .f32⟩
  | 113 => ⟨S4x128x100000, .f32⟩
  | 114 => ⟨S1x128x1, .f32⟩
  | 115 => ⟨S4x128x100000, .f32⟩
  | 116 => ⟨S4x128x100000, .f32⟩
  | 117 => ⟨S_, .f32⟩
  | 118 => ⟨S4x128x100000, .f32⟩
  | 119 => ⟨S4x128x100000, .f32⟩
  | 120 => ⟨S4x100000x128, .f32⟩
  | 121 => ⟨S4x128x100000, .f32⟩
  | 122 => ⟨S1x128x1, .f32⟩
  | 123 => ⟨S4x128x100000, .f32⟩
  | 124 => ⟨S4x128x100000, .f32⟩
  | 125 => ⟨S1x128, .f32⟩
  | 126 => ⟨S128, .f32⟩
  | 127 => ⟨S_, .f32⟩
  | _ => ⟨S4x100000x4, .f32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S_, .f32⟩
  | 5 => ⟨S128, .f32⟩
  | 6 => ⟨S128, .f32⟩
  | 7 => ⟨S128, .f32⟩
  | 8 => ⟨S128, .f32⟩
  | 9 => ⟨S1x128x1, .f32⟩
  | 10 => ⟨S4x128x100000, .f32⟩
  | 11 => ⟨S4x128x100000, .f32⟩
  | 12 => ⟨S_, .f32⟩
  | 13 => ⟨S128, .f32⟩
  | 14 => ⟨S128, .f32⟩
  | 15 => ⟨S128, .f32⟩
  | 16 => ⟨S1x128x1, .f32⟩
  | 17 => ⟨S4x128x100000, .f32⟩
  | 18 => ⟨S4x128x100000, .f32⟩
  | 19 => ⟨S1x128x1, .f32⟩
  | 20 => ⟨S4x128x100000, .f32⟩
  | 21 => ⟨S4x128x100000, .f32⟩
  | 22 => ⟨S1x128x1, .f32⟩
  | 23 => ⟨S4x128x100000, .f32⟩
  | 24 => ⟨S4x128x100000, .f32⟩
  | 25 => ⟨S_, .f32⟩
  | 26 => ⟨S4x128x100000, .f32⟩
  | 27 => ⟨S4x128x100000, .f32⟩
  | 28 => ⟨S4x100000x1, .i1⟩
  | 29 => ⟨S4x100000x128, .f32⟩
  | 30 => ⟨S_, .f32⟩
  | 31 => ⟨S_, .f32⟩
  | 32 => ⟨S4x100000x128, .i1⟩
  | 33 => ⟨S4x100000x128, .f32⟩
  | 34 => ⟨S4x100000x128, .f32⟩
  | 35 => ⟨S400000x128, .f32⟩
  | _ => ⟨S4x100000x4, .f32⟩

abbrev hbmTy (i : Nat) : BufTy := match i / 128 with
  | 0 => hbmTy0_0 i
  | 1 => hbmTy0_1 i
  | _ => ⟨S4x100000x4, .f32⟩

abbrev bufTy : (tb : Table) → Fin (tcTables nBuf tb) → BufTy
  | .hbm, ⟨i, _⟩ => hbmTy i
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call0_cst : Ref sig .tc := ⟨.hbm, 81, rfl⟩
abbrev main_call0_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_12 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call1_cst : Ref sig .tc := ⟨.hbm, 117, rfl⟩
abbrev main_call1_v0 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_13 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_14 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_15 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_call2_cst : Ref sig .tc := ⟨.hbm, 153, rfl⟩
abbrev main_call2_v0 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_cst_16 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_v119 : Ref sig .tc := ⟨.hbm, 162, rfl⟩
abbrev main_v120 : Ref sig .tc := ⟨.hbm, 163, rfl⟩

abbrev nD : Nat := 1
abbrev τ : Topo := Topo.v7x

variable {F : FTy → Type} [FloatOps F]
-- ==== SecondPlainIdeal.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S2x64 : Shape := ⟨2, ![2, 64]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S_ : Shape := ⟨0, ![]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩
abbrev S2x128 : Shape := ⟨2, ![2, 128]⟩

abbrev nBuf : Space → Nat
  | .hbm => 74
  | .vmem => 0
  | .smem => 0
  | _ => 0

abbrev bufTy : (tb : Table) → Fin (tcTables nBuf tb) → BufTy
  | .hbm, ⟨0, _⟩ => ⟨S4x100000x4, .f32⟩
  | .hbm, ⟨1, _⟩ => ⟨S64x4, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S128, .f32⟩
  | .hbm, ⟨7, _⟩ => ⟨S2x64, .f32⟩
  | .hbm, ⟨8, _⟩ => ⟨S4x4x100000, .f32⟩
  | .hbm, ⟨9, _⟩ => ⟨S4x100000x64, .f32⟩
  | .hbm, ⟨10, _⟩ => ⟨S4x64x100000, .f32⟩
  | .hbm, ⟨11, _⟩ => ⟨S1x64x1, .f32⟩
  | .hbm, ⟨12, _⟩ => ⟨S4x64x100000, .f32⟩
  | .hbm, ⟨13, _⟩ => ⟨S4x64x100000, .f32⟩
  | .hbm, ⟨14, _⟩ => ⟨S_, .f32⟩
  | .hbm, ⟨15, _⟩ => ⟨S64, .f32⟩
  | .hbm, ⟨16, _⟩ => ⟨S1x64x1, .f32⟩
  | .hbm, ⟨17, _⟩ => ⟨S_, .f32⟩
  | .hbm, ⟨18, _⟩ => ⟨S1x64x1, .f32⟩
  | .hbm, ⟨19, _⟩ => ⟨S1x64x1, .f32⟩
  | .hbm, ⟨20, _⟩ => ⟨S_, .i32⟩
  | .hbm, ⟨21, _⟩ => ⟨S_, .f32⟩
  | .hbm, ⟨22, _⟩ => ⟨S64, .f32⟩
  | .hbm, ⟨23, _⟩ => ⟨S1x64x1, .f32⟩
  | .hbm, ⟨24, _⟩ => ⟨S_, .f32⟩
  | .hbm, ⟨25, _⟩ => ⟨S1x64x1, .f32⟩
  | .hbm, ⟨26, _⟩ => ⟨S1x64x1, .f32⟩
  | .hbm, ⟨27, _⟩ => ⟨S4x64x100000, .f32⟩
  | .hbm, ⟨28, _⟩ => ⟨S4x64x100000, .f32⟩
  | .hbm, ⟨29, _⟩ => ⟨S4x64x100000, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S1x64x1, .f32⟩
  | .hbm, ⟨36, _⟩ => ⟨S1x64x1, .f32⟩
  | .hbm, ⟨37, _⟩ => ⟨S1x64x1, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S1x64x1, .f32⟩
  | .hbm, ⟨43, _⟩ => ⟨S1x64x1, .f32⟩
  | .hbm, ⟨44, _⟩ => ⟨S4x64x100000, .f32⟩
  | .hbm, ⟨45, _⟩ => ⟨S4x64x100000, .f32⟩
  | .hbm, ⟨46, _⟩ => ⟨S_, .f32⟩
  | .hbm, ⟨47, _⟩ => ⟨S1x64x1, .f32⟩
  | .hbm, ⟨48, _⟩ => ⟨S1x64x1, .f32⟩
  | .hbm, ⟨49, _⟩ => ⟨S1x64x1, .f32⟩
  | .hbm, ⟨50, _⟩ => ⟨S4x64x100000, .f32⟩
  | .hbm, ⟨51, _⟩ => ⟨S4x64x100000, .f32⟩
  | .hbm, ⟨52, _⟩ => ⟨S1x64x1, .f32⟩
  | .hbm, ⟨53, _⟩ => ⟨S4x64x100000, .f32⟩
  | .hbm, ⟨54, _⟩ => ⟨S4x64x100000, .f32⟩
  | .hbm, ⟨55, _⟩ => ⟨S1x64x1, .f32⟩
  | .hbm, ⟨56, _⟩ => ⟨S4x64x100000, .f32⟩
  | .hbm, ⟨57, _⟩ => ⟨S4x64x100000, .f32⟩
  | .hbm, ⟨58, _⟩ => ⟨S_, .f32⟩
  | .hbm, ⟨59, _⟩ => ⟨S4x64x100000, .f32⟩
  | .hbm, ⟨60, _⟩ => ⟨S4x64x100000, .f32⟩
  | .hbm, ⟨61, _⟩ => ⟨S4x100000x128, .f32⟩
  | .hbm, ⟨62, _⟩ => ⟨S4x128x100000, .f32⟩
  | .hbm, ⟨63, _⟩ => ⟨S1x128x1, .f32⟩
  | .hbm, ⟨64, _⟩ => ⟨S4x128x100000, .f32⟩
  | .hbm, ⟨65, _⟩ => ⟨S4x128x100000, .f32⟩
  | .hbm, ⟨66, _⟩ => ⟨S_, .f32⟩
  | .hbm, ⟨67, _⟩ => ⟨S128, .f32⟩
  | .hbm, ⟨68, _⟩ => ⟨S4x128x100000, .f32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S1x128, .f32⟩
  | .hbm, ⟨73, _⟩ => ⟨S2x128, .f32⟩
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call1_cst : Ref sig .tc := ⟨.hbm, 58, rfl⟩
abbrev main_call1_v0 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_2 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩

abbrev nD : Nat := 1
abbrev τ : Topo := Topo.v7x

variable {F : FTy → Type} [FloatOps F]
-- ==== ThirdPlainIdeal.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S_ : Shape := ⟨0, ![]⟩
abbrev S4x100000x128 : Shape := ⟨3, ![4, 100000, 128]⟩
abbrev S4x128x100000 : Shape := ⟨3, ![4, 128, 100000]⟩
abbrev S1x128x1 : Shape := ⟨3, ![1, 128, 1]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S4x100000x4, .f32⟩
  | 1 => ⟨S64x4, .f32⟩
  | 2 => ⟨S64, .f32⟩
  | 3 => ⟨S64, .f32⟩
  | 4 => ⟨S64, .f32⟩
  | 5 => ⟨S128x64, .f32⟩
  | 6 => ⟨S128, .f32⟩
  | 7 => ⟨S128, .f32⟩
  | 8 => ⟨S128, .f32⟩
  | 9 => ⟨S128x128, .f32⟩
  | 10 => ⟨S128, .f32⟩
  | 11 => ⟨S2x64, .f32⟩
  | 12 => ⟨S2x128, .f32⟩
  | 13 => ⟨S4x4x100000, .f32⟩
  | 14 => ⟨S4x100000x64, .f32⟩
  | 15 => ⟨S4x64x100000, .f32⟩
  | 16 => ⟨S1x64x1, .f32⟩
  | 17 => ⟨S4x64x100000, .f32⟩
  | 18 => ⟨S4x64x100000, .f32⟩
  | 19 => ⟨S_, .f32⟩
  | 20 => ⟨S64, .f32⟩
  | 21 => ⟨S1x64x1, .f32⟩
  | 22 => ⟨S_, .f32⟩
  | 23 => ⟨S1x64x1, .f32⟩
  | 24 => ⟨S1x64x1, .f32⟩
  | 25 => ⟨S_, .i32⟩
  | 26 => ⟨S_, .f32⟩
  | 27 => ⟨S64, .f32⟩
  | 28 => ⟨S1x64x1, .f32⟩
  | 29 => ⟨S_, .f32⟩
  | 30 => ⟨S1x64x1, .f32⟩
  | 31 => ⟨S1x64x1, .f32⟩
  | 32 => ⟨S4x64x100000, .f32⟩
  | 33 => ⟨S4x64x100000, .f32⟩
  | 34 => ⟨S4x64x100000, .f32⟩
  | 35 => ⟨S_, .f32⟩
  | 36 => ⟨S_, .f32⟩
  | 37 => ⟨S_, .f32⟩
  | 38 => ⟨S_, .f32⟩
  | 39 => ⟨S64, .f32⟩
  | 40 => ⟨S1x64x1, .f32⟩
  | 41 => ⟨S1x64x1, .f32⟩
  | 42 => ⟨S1x64x1, .f32⟩
  | 43 => ⟨S_, .f32⟩
  | 44 => ⟨S_, .i1⟩
  | 45 => ⟨S_, .f32⟩
  | 46 => ⟨S_, .f32⟩
  | 47 => ⟨S1x64x1, .f32⟩
  | 48 => ⟨S1x64x1, .f32⟩
  | 49 => ⟨S4x64x100000, .f32⟩
  | 50 => ⟨S4x64x100000, .f32⟩
  | 51 => ⟨S_, .f32⟩
  | 52 => ⟨S1x64x1, .f32⟩
  | 53 => ⟨S1x64x1, .f32⟩
  | 54 => ⟨S1x64x1, .f32⟩
  | 55 => ⟨S4x64x100000, .f32⟩
  | 56 => ⟨S4x64x100000, .f32⟩
  | 57 => ⟨S1x64x1, .f32⟩
  | 58 => ⟨S4x64x100000, .f32⟩
  | 59 => ⟨S4x64x100000, .f32⟩
  | 60 => ⟨S1x64x1, .f32⟩
  | 61 => ⟨S4x64x100000, .f32⟩
  | 62 => ⟨S4x64x100000, .f32⟩
  | 63 => ⟨S_, .f32⟩
  | 64 => ⟨S4x64x100000, .f32⟩
  | 65 => ⟨S4x64x100000, .f32⟩
  | 66 => ⟨S4x100000x128, .f32⟩
  | 67 => ⟨S4x128x100000, .f32⟩
  | 68 => ⟨S1x128x1, .f32⟩
  | 69 => ⟨S4x128x100000, .f32⟩
  | 70 => ⟨S4x128x100000, .f32⟩
  | 71 => ⟨S_, .f32⟩
  | 72 => ⟨S128, .f32⟩
  | 73 => ⟨S1x128x1, .f32⟩
  | 74 => ⟨S_, .f32⟩
  | 75 => ⟨S1x128x1, .f32⟩
  | 76 => ⟨S1x128x1, .f32⟩
  | 77 => ⟨S_, .i32⟩
  | 78 => ⟨S_, .f32⟩
  | 79 => ⟨S128, .f32⟩
  | 80 => ⟨S1x128x1, .f32⟩
  | 81 => ⟨S_, .f32⟩
  | 82 => ⟨S1x128x1, .f32⟩
  | 83 => ⟨S1x128x1, .f32⟩
  | 84 => ⟨S4x128x100000, .f32⟩
  | 85 => ⟨S4x128x100000, .f32⟩
  | 86 => ⟨S4x128x100000, .f32⟩
  | 87 => ⟨S_, .f32⟩
  | 88 => ⟨S_, .f32⟩
  | 89 => ⟨S_, .f32⟩
  | 90 => ⟨S_, .f32⟩
  | 91 => ⟨S128, .f32⟩
  | 92 => ⟨S1x128x1, .f32⟩
  | 93 => ⟨S1x128x1, .f32⟩
  | 94 => ⟨S1x128x1, .f32⟩
  | 95 => ⟨S_, .f32⟩
  | 96 => ⟨S_, .i1⟩
  | 97 => ⟨S_, .f32⟩
  | 98 => ⟨S_, .f32⟩
  | 99 => ⟨S1x128x1, .f32⟩
  | 100 => ⟨S1x128x1, .f32⟩
  | 101 => ⟨S4x128x100000, .f32⟩
  | 102 => ⟨S4x128x100000, .f32⟩
  | 103 => ⟨S_, .f32⟩
  | 104 => ⟨S1x128x1, .f32⟩
  | 105 => ⟨S1x128x1, .f32⟩
  | 106 => ⟨S1x128x1, .f32⟩
  | 107 => ⟨S4x128x100000, .f32⟩
  | 108 => ⟨S4x128x100000, .f32⟩
  | 109 => ⟨S1x128x1, .f32⟩
  | 110 => ⟨S4x128x100000, .f32⟩
  | 111 => ⟨S4x128x100000, .f32⟩
  | 112 => ⟨S1x128x1, .f32⟩
  | 113 => ⟨S4x128x100000, .f32⟩
  | 114 => ⟨S4x128x100000, .f32⟩
  | 115 => ⟨S_, .f32⟩
  | 116 => ⟨S4x128x100000, .f32⟩
  | 117 => ⟨S4x128x100000, .f32⟩
  | 118 => ⟨S4x100000x128, .f32⟩
  | 119 => ⟨S4x128x100000, .f32⟩
  | 120 => ⟨S1x128x1, .f32⟩
  | 121 => ⟨S4x128x100000, .f32⟩
  | 122 => ⟨S4x128x100000, .f32⟩
  | 123 => ⟨S_, .f32⟩
  | 124 => ⟨S128, .f32⟩
  | 125 => ⟨S4x128x100000, .f32⟩
  | 126 => ⟨S_, .f32⟩
  | 127 => ⟨S128, .f32⟩
  | _ => ⟨S4x100000x4, .f32⟩

abbrev hbmTy0_1 (i : Nat) : BufTy := match i % 128 with
  | 0 => ⟨S1x128, .f32⟩
  | 1 => ⟨S1x128, .f32⟩
  | 2 => ⟨S2x128, .f32⟩
  | _ => ⟨S4x100000x4, .f32⟩

abbrev hbmTy (i : Nat) : BufTy := match i / 128 with
  | 0 => hbmTy0_0 i
  | 1 => hbmTy0_1 i
  | _ => ⟨S4x100000x4, .f32⟩

abbrev bufTy : (tb : Table) → Fin (tcTables nBuf tb) → BufTy
  | .hbm, ⟨i, _⟩ => hbmTy i
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_cst_1 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_call1_cst : Ref sig .tc := ⟨.hbm, 63, rfl⟩
abbrev main_call1_v0 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_v31 : Ref sig .tc := ⟨.hbm, 73, rfl⟩
abbrev main_cst_3 : Ref sig .tc := ⟨.hbm, 74, rfl⟩
abbrev main_v32 : Ref sig .tc := ⟨.hbm, 75, rfl⟩
abbrev main_v33 : Ref sig .tc := ⟨.hbm, 76, rfl⟩
abbrev main_c_4 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_cst_3 : Ref sig .tc := ⟨.hbm, 95, rfl⟩
abbrev main_call2_v13 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_5 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_call3_cst : Ref sig .tc := ⟨.hbm, 115, rfl⟩
abbrev main_call3_v0 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_cst_6 : Ref sig .tc := ⟨.hbm, 123, rfl⟩
abbrev main_v54 : Ref sig .tc := ⟨.hbm, 124, rfl⟩
abbrev main_v55 : Ref sig .tc := ⟨.hbm, 125, rfl⟩
abbrev main_cst_7 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩

abbrev nD : Nat := 1
abbrev τ : Topo := Topo.v7x

variable {F : FTy → Type} [FloatOps F]
-- ==== FeaturesPlainIdeal.lean ====
abbrev S4x100000x4 : Shape := ⟨3, ![4, 100000, 4]⟩
abbrev S64x4 : Shape := ⟨2, ![64, 4]⟩
abbrev S64 : Shape := ⟨1, ![64]⟩
abbrev S128x64 : Shape := ⟨2, ![128, 64]⟩
abbrev S128 : Shape := ⟨1, ![128]⟩
abbrev S128x128 : Shape := ⟨2, ![128, 128]⟩
abbrev S2x64 : Shape := ⟨2, ![2, 64]⟩
abbrev S2x128 : Shape := ⟨2, ![2, 128]⟩
abbrev S4x100000x1 : Shape := ⟨3, ![4, 100000, 1]⟩
abbrev S4x100000 : Shape := ⟨2, ![4, 100000]⟩
abbrev S_ : Shape := ⟨0, ![]⟩
abbrev S4x4x100000 : Shape := ⟨3, ![4, 4, 100000]⟩
abbrev S4x100000x64 : Shape := ⟨3, ![4, 100000, 64]⟩
abbrev S4x64x100000 : Shape := ⟨3, ![4, 64, 100000]⟩
abbrev S1x64x1 : Shape := ⟨3, ![1, 64, 1]⟩
abbrev S4x100000x128 : Shape := ⟨3, ![4, 100000, 128]⟩
abbrev S4x128x100000 : Shape := ⟨3, ![4, 128, 100000]⟩
abbrev S1x128x1 : Shape := ⟨3, ![1, 128, 1]⟩
abbrev S400000x128 : Shape := ⟨2, ![400000, 128]⟩

abbrev nBuf : Space → Nat
  | .hbm => 212
  | .vmem => 0
  | .smem => 0
  | _ => 0

abbrev hbmTy0_0 (i : Nat) : BufTy := match i % 128 with
  | 0 => ⟨S4x100000x4, .f32⟩
  | 1 => ⟨S64x4, .f32⟩
  | 2 => ⟨S64, .f32⟩
  | 3 => ⟨S64, .f32⟩
  | 4 => ⟨S64, .f32⟩
  | 5 => ⟨S128x64, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S2x64, .f32⟩
  | 14 => ⟨S2x128, .f32⟩
  | 15 => ⟨S2x128, .f32⟩
  | 16 => ⟨S4x100000x1, .f32⟩
  | 17 => ⟨S4x100000, .f32⟩
  | 18 => ⟨S4x100000x1, .f32⟩
  | 19 => ⟨S4x100000, .f32⟩
  | 20 => ⟨S_, .f32⟩
  | 21 => ⟨S4x100000, .f32⟩
  | 22 => ⟨S4x100000, .f32⟩
  | 23 => ⟨S_, .f32⟩
  | 24 => ⟨S4x100000, .f32⟩
  | 25 => ⟨S4x100000, .f32⟩
  | 26 => ⟨S_, .f32⟩
  | 27 => ⟨S4x100000, .f32⟩
  | 28 => ⟨S4x100000, .f32⟩
  | 29 => ⟨S_, .f32⟩
  | 30 => ⟨S4x100000, .f32⟩
  | 31 => ⟨S4x100000, .f32⟩
  | 32 => ⟨S_, .f32⟩
  | 33 => ⟨S4x100000, .f32⟩
  | 34 => ⟨S4x100000, .i1⟩
  | 35 => ⟨S_, .f32⟩
  | 36 => ⟨S4x100000, .f32⟩
  | 37 => ⟨S4x100000, .i1⟩
  | 38 => ⟨S4x100000, .i1⟩
  | 39 => ⟨S_, .f32⟩
  | 40 => ⟨S4x100000, .f32⟩
  | 41 => ⟨S4x100000, .i1⟩
  | 42 => ⟨S4x100000, .i1⟩
  | 43 => ⟨S_, .f32⟩
  | 44 => ⟨S4x100000, .f32⟩
  | 45 => ⟨S4x100000, .i1⟩
  | 46 => ⟨S4x100000, .i1⟩
  | 47 => ⟨S4x4x100000, .f32⟩
  | 48 => ⟨S4x100000x64, .f32⟩
  | 49 => ⟨S4x64x100000, .f32⟩
  | 50 => ⟨S1x64x1, .f32⟩
  | 51 => ⟨S4x64x100000, .f32⟩
  | 52 => ⟨S4x64x100000, .f32⟩
  | 53 => ⟨S_, .f32⟩
  | 54 => ⟨S64, .f32⟩
  | 55 => ⟨S1x64x1, .f32⟩
  | 56 => ⟨S_, .f32⟩
  | 57 => ⟨S1x64x1, .f32⟩
  | 58 => ⟨S1x64x1, .f32⟩
  | 59 => ⟨S_, .i32⟩
  | 60 => ⟨S_, .f32⟩
  | 61 => ⟨S64, .f32⟩
  | 62 => ⟨S1x64x1, .f32⟩
  | 63 => ⟨S_, .f32⟩
  | 64 => ⟨S1x64x1, .f32⟩
  | 65 => ⟨S1x64x1, .f32⟩
  | 66 => ⟨S4x64x100000, .f32⟩
  | 67 => ⟨S4x64x100000, .f32⟩
  | 68 => ⟨S4x64x100000, .f32⟩
  | 69 => ⟨S_, .f32⟩
  | 70 => ⟨S_, .f32⟩
  | 71 => ⟨S_, .f32⟩
  | 72 => ⟨S_, .f32⟩
  | 73 => ⟨S64, .f32⟩
  | 74 => ⟨S1x64x1, .f32⟩
  | 75 => ⟨S1x64x1, .f32⟩
  | 76 => ⟨S1x64x1, .f32⟩
  | 77 => ⟨S_, .f32⟩
  | 78 => ⟨S_, .i1⟩
  | 79 => ⟨S_, .f32⟩
  | 80 => ⟨S_, .f32⟩
  | 81 => ⟨S1x64x1, .f32⟩
  | 82 => ⟨S1x64x1, .f32⟩
  | 83 => ⟨S4x64x100000, .f32⟩
  | 84 => ⟨S4x64x100000, .f32⟩
  | 85 => ⟨S_, .f32⟩
  | 86 => ⟨S1x64x1, .f32⟩
  | 87 => ⟨S1x64x1, .f32⟩
  | 88 => ⟨S1x64x1, .f32⟩
  | 89 => ⟨S4x64x100000, .f32⟩
  | 90 => ⟨S4x64x100000, .f32⟩
  | 91 => ⟨S1x64x1, .f32⟩
  | 92 => ⟨S4x64x100000, .f32⟩
  | 93 => ⟨S4x64x100000, .f32⟩
  | 94 => ⟨S1x64x1, .f32⟩
  | 95 => ⟨S4x64x100000, .f32⟩
  | 96 => ⟨S4x64x100000, .f32⟩
  | 97 => ⟨S_, .f32⟩
  | 98 => ⟨S4x64x100000, .f32⟩
  | 99 => ⟨S4x64x100000, .f32⟩
  | 100 => ⟨S4x100000x128, .f32⟩
  | 101 => ⟨S4x128x100000, .f32⟩
  | 102 => ⟨S1x128x1, .f32⟩
  | 103 => ⟨S4x128x100000, .f32⟩
  | 104 => ⟨S4x128x100000, .f32⟩
  | 105 => ⟨S_, .f32⟩
  | 106 => ⟨S128, .f32⟩
  | 107 => ⟨S1x128x1, .f32⟩
  | 108 => ⟨S_, .f32⟩
  | 109 => ⟨S1x128x1, .f32⟩
  | 110 => ⟨S1x128x1, .f32⟩
  | 111 => ⟨S_, .i32⟩
  | 112 => ⟨S_, .f32⟩
  | 113 => ⟨S128, .f32⟩
  | 114 => ⟨S1x128x1, .f32⟩
  | 115 => ⟨S_, .f32⟩
  | 116 => ⟨S1x128x1, .f32⟩
  | 117 => ⟨S1x128x1, .f32⟩
  | 118 => ⟨S4x128x100000, .f32⟩
  | 119 => ⟨S4x128x100000, .f32⟩
  | 120 => ⟨S4x128x100000, .f32⟩
  | 121 => ⟨S_, .f32⟩
  | 122 => ⟨S_, .f32⟩
  | 123 => ⟨S_, .f32⟩
  | 124 => ⟨S_, .f32⟩
  | 125 => ⟨S128, .f32⟩
  | 126 => ⟨S1x128x1, .f32⟩
  | 127 => ⟨S1x128x1, .f32⟩
  | _ => ⟨S4x100000x4, .f32⟩

abbrev hbmTy0_1 (i : Nat) : BufTy := match i % 128 with
  | 0 => ⟨S1x128x1, .f32⟩
  | 1 => ⟨S_, .f32⟩
  | 2 => ⟨S_, .i1⟩
  | 3 => ⟨S_, .f32⟩
  | 4 => ⟨S_, .f32⟩
  | 5 => ⟨S1x128x1, .f32⟩
  | 6 => ⟨S1x128x1, .f32⟩
  | 7 => ⟨S4x128x100000, .f32⟩
  | 8 => ⟨S4x128x100000, .f32⟩
  | 9 => ⟨S_, .f32⟩
  | 10 => ⟨S1x128x1, .f32⟩
  | 11 => ⟨S1x128x1, .f32⟩
  | 12 => ⟨S1x128x1, .f32⟩
  | 13 => ⟨S4x128x100000, .f32⟩
  | 14 => ⟨S4x128x100000, .f32⟩
  | 15 => ⟨S1x128x1, .f32⟩
  | 16 => ⟨S4x128x100000, .f32⟩
  | 17 => ⟨S4x128x100000, .f32⟩
  | 18 => ⟨S1x128x1, .f32⟩
  | 19 => ⟨S4x128x100000, .f32⟩
  | 20 => ⟨S4x128x100000, .f32⟩
  | 21 => ⟨S_, .f32⟩
  | 22 => ⟨S4x128x100000, .f32⟩
  | 23 => ⟨S4x128x100000, .f32⟩
  | 24 => ⟨S4x100000x128, .f32⟩
  | 25 => ⟨S4x128x100000, .f32⟩
  | 26 => ⟨S1x128x1, .f32⟩
  | 27 => ⟨S4x128x100000, .f32⟩
  | 28 => ⟨S4x128x100000, .f32⟩
  | 29 => ⟨S_, .f32⟩
  | 30 => ⟨S128, .f32⟩
  | 31 => ⟨S1x128x1, .f32⟩
  | 32 => ⟨S_, .f32⟩
  | 33 => ⟨S1x128x1, .f32⟩
  | 34 => ⟨S1x128x1, .f32⟩
  | 35 => ⟨S_, .i32⟩
  | 36 => ⟨S_, .f32⟩
  | 37 => ⟨S128, .f32⟩
  | 38 => ⟨S1x128x1, .f32⟩
  | 39 => ⟨S_, .f32⟩
  | 40 => ⟨S1x128x1, .f32⟩
  | 41 => ⟨S1x128x1, .f32⟩
  | 42 => ⟨S4x128x100000, .f32⟩
  | 43 => ⟨S4x128x100000, .f32⟩
  | 44 => ⟨S4x128x100000, .f32⟩
  | 45 => ⟨S_, .f32⟩
  | 46 => ⟨S_, .f32⟩
  | 47 => ⟨S_, .f32⟩
  | 48 => ⟨S_, .f32⟩
  | 49 => ⟨S128, .f32⟩
  | 50 => ⟨S1x128x1, .f32⟩
  | 51 => ⟨S1x128x1, .f32⟩
  | 52 => ⟨S1x128x1, .f32⟩
  | 53 => ⟨S_, .f32⟩
  | 54 => ⟨S_, .i1⟩
  | 55 => ⟨S_, .f32⟩
  | 56 => ⟨S_, .f32⟩
  | 57 => ⟨S1x128x1, .f32⟩
  | 58 => ⟨S1x128x1, .f32⟩
  | 59 => ⟨S4x128x100000, .f32⟩
  | 60 => ⟨S4x128x100000, .f32⟩
  | 61 => ⟨S_, .f32⟩
  | 62 => ⟨S1x128x1, .f32⟩
  | 63 => ⟨S1x128x1, .f32⟩
  | 64 => ⟨S1x128x1, .f32⟩
  | 65 => ⟨S4x128x100000, .f32⟩
  | 66 => ⟨S4x128x100000, .f32⟩
  | 67 => ⟨S1x128x1, .f32⟩
  | 68 => ⟨S4x128x100000, .f32⟩
  | 69 => ⟨S4x128x100000, .f32⟩
  | 70 => ⟨S1x128x1, .f32⟩
  | 71 => ⟨S4x128x100000, .f32⟩
  | 72 => ⟨S4x128x100000, .f32⟩
  | 73 => ⟨S_, .f32⟩
  | 74 => ⟨S4x128x100000, .f32⟩
  | 75 => ⟨S4x128x100000, .f32⟩
  | 76 => ⟨S4x100000x1, .i1⟩
  | 77 => ⟨S4x100000x128, .f32⟩
  | 78 => ⟨S_, .f32⟩
  | 79 => ⟨S_, .f32⟩
  | 80 => ⟨S4x100000x128, .i1⟩
  | 81 => ⟨S4x100000x128, .f32⟩
  | 82 => ⟨S4x100000x128, .f32⟩
  | 83 => ⟨S400000x128, .f32⟩
  | _ => ⟨S4x100000x4, .f32⟩

abbrev hbmTy (i : Nat) : BufTy := match i / 128 with
  | 0 => hbmTy0_0 i
  | 1 => hbmTy0_1 i
  | _ => ⟨S4x100000x4, .f32⟩

abbrev bufTy : (tb : Table) → Fin (tcTables nBuf tb) → BufTy
  | .hbm, ⟨i, _⟩ => hbmTy i
  | _, _ => ⟨S4x100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_5 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_7 : Ref sig .tc := ⟨.hbm, 53, rfl⟩
abbrev main_v29 : Ref sig .tc := ⟨.hbm, 54, rfl⟩
abbrev main_v30 : Ref sig .tc := ⟨.hbm, 55, rfl⟩
abbrev main_cst_8 : Ref sig .tc := ⟨.hbm, 56, rfl⟩
abbrev main_v31 : Ref sig .tc := ⟨.hbm, 57, rfl⟩
abbrev main_v32 : Ref sig .tc := ⟨.hbm, 58, rfl⟩
abbrev main_c : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_cst_3 : Ref sig .tc := ⟨.hbm, 77, rfl⟩
abbrev main_call0_v13 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_9 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_call1_cst : Ref sig .tc := ⟨.hbm, 97, rfl⟩
abbrev main_call1_v0 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_10 : Ref sig .tc := ⟨.hbm, 105, rfl⟩
abbrev main_v53 : Ref sig .tc := ⟨.hbm, 106, rfl⟩
abbrev main_v54 : Ref sig .tc := ⟨.hbm, 107, rfl⟩
abbrev main_cst_11 : Ref sig .tc := ⟨.hbm, 108, rfl⟩
abbrev main_v55 : Ref sig .tc := ⟨.hbm, 109, rfl⟩
abbrev main_v56 : Ref sig .tc := ⟨.hbm, 110, rfl⟩
abbrev main_c_12 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_v12 : Ref sig .tc := ⟨.hbm, 128, rfl⟩
abbrev main_call2_cst_3 : Ref sig .tc := ⟨.hbm, 129, rfl⟩
abbrev main_call2_v13 : Ref sig .tc := ⟨.hbm, 130, rfl⟩
abbrev main_call2_cst_4 : Ref sig .tc := ⟨.hbm, 131, rfl⟩
abbrev main_call2_call0_v0 : Ref sig .tc := ⟨.hbm, 132, rfl⟩
abbrev main_call2_call0_v1 : Ref sig .tc := ⟨.hbm, 133, rfl⟩
abbrev main_v57 : Ref sig .tc := ⟨.hbm, 134, rfl⟩
abbrev main_v58 : Ref sig .tc := ⟨.hbm, 135, rfl⟩
abbrev main_v59 : Ref sig .tc := ⟨.hbm, 136, rfl⟩
abbrev main_cst_13 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_call3_cst : Ref sig .tc := ⟨.hbm, 149, rfl⟩
abbrev main_call3_v0 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_cst_14 : Ref sig .tc := ⟨.hbm, 157, rfl⟩
abbrev main_v77 : Ref sig .tc := ⟨.hbm, 158, rfl⟩
abbrev main_v78 : Ref sig .tc := ⟨.hbm, 159, rfl⟩
abbrev main_cst_15 : Ref sig .tc := ⟨.hbm, 160, rfl⟩
abbrev main_v79 : Ref sig .tc := ⟨.hbm, 161, rfl⟩
abbrev main_v80 : Ref sig .tc := ⟨.hbm, 162, rfl⟩
abbrev main_c_16 : Ref sig .tc := ⟨.hbm, 163, rfl⟩
abbrev main_call4_cst : Ref sig .tc := ⟨.hbm, 164, rfl⟩
abbrev main_call4_v0 : Ref sig .tc := ⟨.hbm, 165, rfl⟩
abbrev main_call4_v1 : Ref sig .tc := ⟨.hbm, 166, rfl⟩
abbrev main_call4_cst_0 : Ref sig .tc := ⟨.hbm, 167, rfl⟩
abbrev main_call4_v2 : Ref sig .tc := ⟨.hbm, 168, rfl⟩
abbrev main_call4_v3 : Ref sig .tc := ⟨.hbm, 169, rfl⟩
abbrev main_call4_v4 : Ref sig .tc := ⟨.hbm, 170, rfl⟩
abbrev main_call4_v5 : Ref sig .tc := ⟨.hbm, 171, rfl⟩
abbrev main_call4_v6 : Ref sig .tc := ⟨.hbm, 172, rfl⟩
abbrev main_call4_v7 : Ref sig .tc := ⟨.hbm, 173, rfl⟩
abbrev main_call4_cst_1 : Ref sig .tc := ⟨.hbm, 174, rfl⟩
abbrev main_call4_v8 : Ref sig .tc := ⟨.hbm, 175, rfl⟩
abbrev main_call4_cst_2 : Ref sig .tc := ⟨.hbm, 176, rfl⟩
abbrev main_call4_v9 : Ref sig .tc := ⟨.hbm, 177, rfl⟩
abbrev main_call4_v10 : Ref sig .tc := ⟨.hbm, 178, rfl⟩
abbrev main_call4_v11 : Ref sig .tc := ⟨.hbm, 179, rfl⟩
abbrev main_call4_v12 : Ref sig .tc := ⟨.hbm, 180, rfl⟩
abbrev main_call4_cst_3 : Ref sig .tc := ⟨.hbm, 181, rfl⟩
abbrev main_call4_v13 : Ref sig .tc := ⟨.hbm, 182, rfl⟩
abbrev main_call4_cst_4 : Ref sig .tc := ⟨.hbm, 183, rfl⟩
abbrev main_call4_call0_v0 : Ref sig .tc := ⟨.hbm, 184, rfl⟩
abbrev main_call4_call0_v1 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_cst_17 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_v94 : Ref sig .tc := ⟨.hbm, 200, rfl⟩
abbrev main_call5_cst : Ref sig .tc := ⟨.hbm, 201, rfl⟩
abbrev main_call5_v0 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_cst_18 : Ref sig .tc := ⟨.hbm, 206, rfl⟩
abbrev main_call6_v0 : Ref sig .tc := ⟨.hbm, 207, rfl⟩
abbrev main_call6_v1 : Ref sig .tc := ⟨.hbm, 208, rfl⟩
abbrev main_call6_v2 : Ref sig .tc := ⟨.hbm, 209, rfl⟩
abbrev main_v98 : Ref sig .tc := ⟨.hbm, 210, rfl⟩
abbrev main_v99 : Ref sig .tc := ⟨.hbm, 211, rfl⟩

abbrev nD : Nat := 1
abbrev τ : Topo := Topo.v7x

variable {F : FTy → Type} [FloatOps F]
-- ==== Proof.Lane.lean ====
/- One lane of the drain's read-modify-write: the slab row a record names takes the maximum with the staged row, in
   eight pieces of sixteen columns. The sixteen lanes of a trip are this one program at sixteen lane numbers. -/
module

public import proofs.«01_k».proof.Proof.Gen.KernelIdeal
public import proofs.«01_k».proof.Proof.Gen.KernelIdeal.Skeleton

@[expose] public section

noncomputable section

namespace Cert.Proof

open Idealize.ShloMosaic Idealize.SL.Sem
open Cert.KernelIdeal Cert.KernelIdeal.Gen

variable {F : FTy → Type} [FloatOps F]

/-- The corner of piece `q` of slab row `v`. -/
def offS (v : BitVec 32) (q : ℕ) : Fin 2 → ℕ := ![v.toNat, 16 * q]

/-- The corner of piece `q` of the staged row of lane `l` in group `t`. -/
def offR (t : ℕ) (l : BitVec 32) (q : ℕ) : Fin 2 → ℕ :=
  ![(Scalar.indexCast (Scalar.addi (Scalar.muli (Scf.iv 0#32 1#32 t) 16#32) l)).toNat, 16 * q]

/-- Whether lane `l` of group `t` of block `u` holds a record: its number is below the count `n`. -/
def laneCond (n : BitVec 32) (u t : ℕ) (l : BitVec 32) : BitVec 1 :=
  Scalar.cmpi .ne (Scalar.extui (Scalar.cmpi .slt
    (Scalar.addi (Scalar.addi (Scalar.muli (Scf.iv 0#32 1#32 u) 128#32) (Scalar.muli (Scf.iv 0#32 1#32 t) 16#32)) l) n)) 0#32

/-- The eight pieces of slab row `v` lie in the slab, if the lane holds a record. -/
def laneChk (c : BitVec 1) (v : BitVec 32) : Prop :=
  (∀ _ : c = 1#1, ∀ a, offS v 0 a + S1x16.size a ≤ S512x128.size a) ∧
  (∀ _ : c = 1#1, ∀ a, offS v 1 a + S1x16.size a ≤ S512x128.size a) ∧
  (∀ _ : c = 1#1, ∀ a, offS v 2 a + S1x16.size a ≤ S512x128.size a) ∧
  (∀ _ : c = 1#1, ∀ a, offS v 3 a + S1x16.size a ≤ S512x128.size a) ∧
  (∀ _ : c = 1#1, ∀ a, offS v 4 a + S1x16.size a ≤ S512x128.size a) ∧
  (∀ _ : c = 1#1, ∀ a, offS v 5 a + S1x16.size a ≤ S512x128.size a) ∧
  (∀ _ : c = 1#1, ∀ a, offS v 6 a + S1x16.size a ≤ S512x128.size a) ∧
  (∀ _ : c = 1#1, ∀ a, offS v 7 a + S1x16.size a ≤ S512x128.size a)

/-- The staged row's pieces lie in the staging buffer. -/
theorem offR_inb (t : Fin k0_t8_loop.trips) (l : Fin 16) (q : Fin 8) :
    ∀ a, offR t.val (BitVec.ofNat 32 l.val) q.val a + S1x16.size a ≤ S128x128.size a := by
  have ht : t.val < 8 := lt_of_lt_of_le t.isLt k0_t8_abs.2.1
  have hl := l.isLt
  have hq := q.isLt
  intro a
  match a with
  | 0 =>
    show (Scalar.indexCast (Scalar.addi (Scalar.muli (Scf.iv 0#32 1#32 t.val) 16#32) (BitVec.ofNat 32 l.val))).toNat + 1 ≤ 128
    simp only [Scalar.indexCast, Scalar.addi, Scalar.muli, Scf.iv, IntOp.addi, IntOp.muli]
    simp [BitVec.toNat_add, BitVec.toNat_mul]
    omega
  | 1 => show 16 * q.val + 16 ≤ 128; omega

/-- The maximum of two pieces. -/
def pieceMax (x y : Vec F S1x16 .f32) : Vec F S1x16 .f32 :=
  shapeCast S1x16 (maximumf (shapeCast S16 x shapeCasts_S1x16_S16 : FVec F S16 .f32) (shapeCast S16 y shapeCasts_S1x16_S16)) shapeCasts_S16_S1x16

section
variable (i : grid0.Coords) (arg10 : Memref sig .scVector .vmem S512x128 .f32) (arg11 : Memref sig .scVector .vmem S128x128 .f32)

/-- One piece: the slab's piece takes the maximum with the staged row's. -/
def piece (o : Fin 2 → ℕ) (ho : ∀ a, o a + S1x16.size a ≤ S512x128.size a) (p : Fin 2 → ℕ) (hp : ∀ a, p a + S1x16.size a ≤ S128x128.size a) :
    Prog (TpuEff nD τ sig (Elt F) Λ₀ (.scVector ((i 0).castLE hcore0) ((i 1).castLE hsub0))) PUnit := do
  let x : Vec F S1x16 .f32 ← Prog.lift (.load arg10 (Rect.unit (s := S512x128) o S1x16.size ho).toLoadRect (View.loadsAt_vmem h_S1x16))
  let y : Vec F S1x16 .f32 ← Prog.lift (.load arg11 (Rect.unit (s := S128x128) p S1x16.size hp).toLoadRect (View.loadsAt_vmem h_S1x16))
  let _ : Vec F S1x16 .f32 ← Prog.lift (.load arg10 (Rect.unit (s := S512x128) o S1x16.size ho).toLoadRect (View.loadsAt_vmem h_S1x16))
  Prog.lift (.store arg10 (Rect.unit (s := S512x128) o S1x16.size ho) (pieceMax x y) Finset.univ (View.stores_vmem_bits_univ h_S1x16 rfl) (.inl rfl))

/-- The lane, before `k`: its record's slab row is read off the group's sixteen, checked, and its eight pieces updated. -/
def lane {α : Type} (t : Fin k0_t8_loop.trips) (c : BitVec 1) (l : Fin 16) (hl : S16.Slices ![l.val] S1) (dec : ∀ v, Decidable (laneChk c v)) (w : Vec F S16 .i32)
    (k : Prog (TpuEff nD τ sig (Elt F) Λ₀ (.scVector ((i 0).castLE hcore0) ((i 1).castLE hsub0))) α) :
    Prog (TpuEff nD τ sig (Elt F) Λ₀ (.scVector ((i 0).castLE hcore0) ((i 1).castLE hsub0))) α :=
  if h : c = 1#1 then do
    let v : BitVec 32 := extractAt ![0] (extractStridedSlice S1 ![l.val] w hl : IVec S1 32) inpos_S1_p0
    have hw : laneChk c v := (← Prog.lift (TpuEff.assume (laneChk c v) (dec v))).down
    piece i arg10 arg11 (offS v 0) (hw.1 h) (offR t.val (BitVec.ofNat 32 l.val) 0) (offR_inb t l 0)
    piece i arg10 arg11 (offS v 1) (hw.2.1 h) (offR t.val (BitVec.ofNat 32 l.val) 1) (offR_inb t l 1)
    piece i arg10 arg11 (offS v 2) (hw.2.2.1 h) (offR t.val (BitVec.ofNat 32 l.val) 2) (offR_inb t l 2)
    piece i arg10 arg11 (offS v 3) (hw.2.2.2.1 h) (offR t.val (BitVec.ofNat 32 l.val) 3) (offR_inb t l 3)
    piece i arg10 arg11 (offS v 4) (hw.2.2.2.2.1 h) (offR t.val (BitVec.ofNat 32 l.val) 4) (offR_inb t l 4)
    piece i arg10 arg11 (offS v 5) (hw.2.2.2.2.2.1 h) (offR t.val (BitVec.ofNat 32 l.val) 5) (offR_inb t l 5)
    piece i arg10 arg11 (offS v 6) (hw.2.2.2.2.2.2.1 h) (offR t.val (BitVec.ofNat 32 l.val) 6) (offR_inb t l 6)
    piece i arg10 arg11 (offS v 7) (hw.2.2.2.2.2.2.2 h) (offR t.val (BitVec.ofNat 32 l.val) 7) (offR_inb t l 7)
    k
  else k

end

section
variable (i : grid0.Coords)
  (arg2 : Memref sig .scVector .hbm S400000 .i32) (harg2 : arg2.IsWhole) (arg3 : Memref sig .scVector .hbm S400000x128 .f32) (harg3 : arg3.IsWhole)
  (arg4 : Memref sig .scVector .hbm S65536x128 .f32) (harg4 : arg4.IsWhole) (arg5 : Memref sig .scVector .vmem S10000 .i32) (harg5 : arg5.IsWhole)
  (arg6 : Memref sig .scVector .vmem S10016 .i32) (harg6 : arg6.IsWhole) (arg7 : Memref sig .scVector .vmem S128 .i32) (harg7 : arg7.IsWhole)
  (arg8 : Memref sig .scVector .vmem S128 .i32) (harg8 : arg8.IsWhole) (arg9 : Memref sig .scVector .vmem S128 .i32) (harg9 : arg9.IsWhole)
  (arg10 : Memref sig .scVector .vmem S512x128 .f32) (harg10 : arg10.IsWhole) (arg11 : Memref sig .scVector .vmem S128x128 .f32) (harg11 : arg11.IsWhole)
  (arg12 : DmaSems sig S_) (v45_r0 : DmaSems sig S_)

theorem part33_eq (v18 : BitVec 32) (t6 : Fin (k0_t6_loop v18).trips) (b : BitVec 32) (t8 : Fin k0_t8_loop.trips) :
    ∃ r s, k0_part33 (F := F) i arg2 harg2 arg3 harg3 arg4 harg4 arg5 harg5 arg6 harg6 arg7 harg7 arg8 harg8 arg9 harg9 arg10 harg10 arg11 harg11 arg12 v45_r0 v18 t6 b 0#32 1#32 t8 = (do
      let w : Vec F S16 .i32 ← Prog.lift (.load arg8 (Rect.unit (s := S128) (k0_off7 t8) S16.size (k0_off7_inb t8)).toLoadRect (View.loadsAt_vmem h_S16))
      lane i arg10 arg11 t8 (laneCond v18 t6 t8 0#32) 0 slices_S16_o0_S1 (fun v => k0_chk3.dec v18 t6 t8 v) w <|
      lane i arg10 arg11 t8 (laneCond v18 t6 t8 1#32) 1 slices_S16_o1_S1 (fun v => k0_chk4.dec v18 t6 t8 v) w <|
      lane i arg10 arg11 t8 (laneCond v18 t6 t8 2#32) 2 slices_S16_o2_S1 (fun v => k0_chk5.dec v18 t6 t8 v) w <|
      lane i arg10 arg11 t8 (laneCond v18 t6 t8 3#32) 3 slices_S16_o3_S1 (fun v => k0_chk6.dec v18 t6 t8 v) w <|
      pure ⟨r, w, s⟩) :=
  ⟨_, _, rfl⟩

theorem part34_eq (v18 : BitVec 32) (t6 : Fin (k0_t6_loop v18).trips) (b : BitVec 32) (t8 : Fin k0_t8_loop.trips) (r : BitVec 32) (w : Vec F S16 .i32) (s : BitVec 32) :
    ∃ s', k0_part34 (F := F) i arg2 harg2 arg3 harg3 arg4 harg4 arg5 harg5 arg6 harg6 arg7 harg7 arg8 harg8 arg9 harg9 arg10 harg10 arg11 harg11 arg12 v45_r0 v18 t6 b t8 r w s = (
      lane i arg10 arg11 t8 (laneCond v18 t6 t8 4#32) 4 slices_S16_o4_S1 (fun v => k0_chk7.dec v18 t6 t8 v) w <|
      lane i arg10 arg11 t8 (laneCond v18 t6 t8 5#32) 5 slices_S16_o5_S1 (fun v => k0_chk8.dec v18 t6 t8 v) w <|
      lane i arg10 arg11 t8 (laneCond v18 t6 t8 6#32) 6 slices_S16_o6_S1 (fun v => k0_chk9.dec v18 t6 t8 v) w <|
      lane i arg10 arg11 t8 (laneCond v18 t6 t8 7#32) 7 slices_S16_o7_S1 (fun v => k0_chk10.dec v18 t6 t8 v) w <|
      lane i arg10 arg11 t8 (laneCond v18 t6 t8 8#32) 8 slices_S16_o8_S1 (fun v => k0_chk11.dec v18 t6 t8 v) w <|
      pure s') :=
  ⟨_, rfl⟩

theorem part35_eq (v18 : BitVec 32) (t6 : Fin (k0_t6_loop v18).trips) (b : BitVec 32) (t8 : Fin k0_t8_loop.trips) (r : BitVec 32) (w : Vec F S16 .i32) (s : BitVec 32) :
    ∃ s', k0_part35 (F := F) i arg2 harg2 arg3 harg3 arg4 harg4 arg5 harg5 arg6 harg6 arg7 harg7 arg8 harg8 arg9 harg9 arg10 harg10 arg11 harg11 arg12 v45_r0 v18 t6 b t8 r w s = (
      lane i arg10 arg11 t8 (laneCond v18 t6 t8 9#32) 9 slices_S16_o9_S1 (fun v => k0_chk12.dec v18 t6 t8 v) w <|
      lane i arg10 arg11 t8 (laneCond v18 t6 t8 10#32) 10 slices_S16_o10_S1 (fun v => k0_chk13.dec v18 t6 t8 v) w <|
      lane i arg10 arg11 t8 (laneCond v18 t6 t8 11#32) 11 slices_S16_o11_S1 (fun v => k0_chk14.dec v18 t6 t8 v) w <|
      lane i arg10 arg11 t8 (laneCond v18 t6 t8 12#32) 12 slices_S16_o12_S1 (fun v => k0_chk15.dec v18 t6 t8 v) w <|
      lane i arg10 arg11 t8 (laneCond v18 t6 t8 13#32) 13 slices_S16_o13_S1 (fun v => k0_chk16.dec v18 t6 t8 v) w <|
      pure s') :=
  ⟨_, rfl⟩

/-- A trip's region: the first fourteen lanes in three parts, then the last two. -/
theorem t8_body_eq (v1 : BitVec 32) (v2 : IVec S16 32) (t2 : Fin k0_t2_loop.trips) (a13 c0 c1 : BitVec 32) (t4 : Fin k0_t4_loop.trips)
    (v18 : BitVec 32) (t6 : Fin (k0_t6_loop v18).trips) (b : BitVec 32) (t8 : Fin k0_t8_loop.trips) (a : BitVec 32) :
    k0_t8_body (F := F) i arg2 harg2 arg3 harg3 arg4 harg4 arg5 harg5 arg6 harg6 arg7 harg7 arg8 harg8 arg9 harg9 arg10 harg10 arg11 harg11 arg12 v45_r0 v1 v2 t2 a13 c0 c1 t4 v18 t6 b t8 a = (do
      let ⟨r, w, s⟩ : Σ' (_ : BitVec 32) (_ : Vec F S16 .i32), BitVec 32 ← k0_part33 i arg2 harg2 arg3 harg3 arg4 harg4 arg5 harg5 arg6 harg6 arg7 harg7 arg8 harg8 arg9 harg9 arg10 harg10 arg11 harg11 arg12 v45_r0 v18 t6 b 0#32 1#32 t8
      let s' ← k0_part34 i arg2 harg2 arg3 harg3 arg4 harg4 arg5 harg5 arg6 harg6 arg7 harg7 arg8 harg8 arg9 harg9 arg10 harg10 arg11 harg11 arg12 v45_r0 v18 t6 b t8 r w s
      let _ ← k0_part35 i arg2 harg2 arg3 harg3 arg4 harg4 arg5 harg5 arg6 harg6 arg7 harg7 arg8 harg8 arg9 harg9 arg10 harg10 arg11 harg11 arg12 v45_r0 v18 t6 b t8 r w s'
      lane i arg10 arg11 t8 (laneCond v18 t6 t8 14#32) 14 slices_S16_o14_S1 (fun v => k0_chk17.dec v18 t6 t8 v) w <|
      lane i arg10 arg11 t8 (laneCond v18 t6 t8 15#32) 15 slices_S16_o15_S1 (fun v => k0_chk18.dec v18 t6 t8 v) w <|
      pure 0#32) := by
  rfl
end

end Cert.Proof

end
-- ==== Proof.Setup.lean ====
/- The program as the launch theorem sees it, the tile's thread and buffers, and arrays as functions of numbers. -/
module

public import proofs.«01_k».proof.Proof.Lane
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type}

/-! ## Arrays as functions of numbers -/

/-- Coordinate `n` of an index (zero past the rank). -/
def co {s : Shape} (i : s.Idx) (n : ℕ) : ℕ := if h : n < s.rank then (i ⟨n, h⟩).val else 0

/-- The one-axis array that a function of numbers is. -/
def tab1 {α : Type} (s : Shape) (A : ℕ → α) : s.Idx → α := fun i => A (co i 0)
/-- The two-axis array that a function of two numbers is. -/
def tab2 {α : Type} (s : Shape) (A : ℕ → ℕ → α) : s.Idx → α := fun i => A (co i 0) (co i 1)

theorem co_emb {s : Shape} (off size : Fin s.rank → ℕ) (h : ∀ a, off a + size a ≤ s.size a) (x : (Rect.unit off size h).shape.Idx) (n : ℕ) (hn : n < s.rank) :
    co ((Rect.unit off size h).emb x) n = off ⟨n, hn⟩ + co x n := by
  have hx : co x n = (x ⟨n, hn⟩).val := dif_pos hn
  rw [hx]; unfold co; rw [dif_pos hn]
  show off ⟨n, hn⟩ + 1 * (x ⟨n, hn⟩).val = _
  omega

theorem tab2_emb {α : Type} {d : Fin 2 → ℕ} (A : ℕ → ℕ → α) (off size : Fin 2 → ℕ) (h : ∀ a, off a + size a ≤ d a) (x : (Rect.unit (s := ⟨2, d⟩) off size h).shape.Idx) :
    tab2 ⟨2, d⟩ A ((Rect.unit (s := ⟨2, d⟩) off size h).emb x) = A (off 0 + co x 0) (off 1 + co x 1) := by
  show A (co _ 0) (co _ 1) = _
  rw [co_emb _ _ _ _ 0 Nat.two_pos, co_emb _ _ _ _ 1 Nat.one_lt_two]; rfl

theorem tab1_emb {α : Type} {d : Fin 1 → ℕ} (A : ℕ → α) (off size : Fin 1 → ℕ) (h : ∀ a, off a + size a ≤ d a) (x : (Rect.unit (s := ⟨1, d⟩) off size h).shape.Idx) :
    tab1 ⟨1, d⟩ A ((Rect.unit (s := ⟨1, d⟩) off size h).emb x) = A (off 0 + co x 0) := by
  show A (co _ 0) = _
  rw [co_emb _ _ _ _ 0 Nat.one_pos]; rfl

theorem co_lt {s : Shape} (i : s.Idx) (n : ℕ) (hn : n < s.rank) : co i n < s.size ⟨n, hn⟩ := by
  unfold co; rw [dif_pos hn]; exact (i ⟨n, hn⟩).isLt

/-- Arrays agree when their functions do at every index's numbers. -/
theorem tab2_congr {α : Type} {d : Fin 2 → ℕ} {A B : ℕ → ℕ → α} (h : ∀ a b, a < d 0 → b < d 1 → A a b = B a b) : tab2 ⟨2, d⟩ A = tab2 ⟨2, d⟩ B :=
  funext fun i => h _ _ (co_lt i 0 Nat.two_pos) (co_lt i 1 Nat.one_lt_two)
theorem tab1_congr {α : Type} {d : Fin 1 → ℕ} {A B : ℕ → α} (h : ∀ a, a < d 0 → A a = B a) : tab1 ⟨1, d⟩ A = tab1 ⟨1, d⟩ B :=
  funext fun i => h _ (co_lt i 0 Nat.one_pos)

/-- An index lies in a unit rectangle when each coordinate does, and is then the image of the local one. -/
theorem exists_emb {s : Shape} (off size : Fin s.rank → ℕ) (h : ∀ a, off a + size a ≤ s.size a) (j : s.Idx)
    (hj : ∀ a, off a ≤ (j a).val ∧ (j a).val < off a + size a) : ∃ x : (Rect.unit off size h).shape.Idx, (Rect.unit off size h).emb x = j :=
  ⟨fun a => ⟨(j a).val - off a, by have := hj a; show _ < size a; omega⟩, funext fun a => Fin.ext (by
    show off a + 1 * ((j a).val - off a) = (j a).val
    have := hj a; omega)⟩

theorem emb_bounds {s : Shape} (off size : Fin s.rank → ℕ) (h : ∀ a, off a + size a ≤ s.size a) (x : (Rect.unit off size h).shape.Idx) (a : Fin s.rank) :
    off a ≤ ((Rect.unit off size h).emb x a).val ∧ ((Rect.unit off size h).emb x a).val < off a + size a := by
  have e : ((Rect.unit off size h).emb x a).val = off a + 1 * (x a).val := rfl
  have := (x a).isLt
  have e' : (x a).val < size a := this
  omega

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library beside the transfers' counters. -/
abbrev UH : Type := URounds (GSem nD τ sig) ℕ
abbrev UU : Type := UH × Counters
abbrev EH : Emb UH (MT nD τ sig (HIx 1) (Elt F) ℕ UU ℕ) := embL

/-- The tile's SparseCore, subcore and thread. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

end Cert.Proof

end
-- ==== Proof.Mem.lean ====
/- Loads, stores and the lane in terms of arrays as functions of numbers. -/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ

/-- A load of a unit rectangle of a buffer reads its elements there. -/
theorem wp_ld {β : Type} {cs : CoreSpace} {s : Shape} {e : EltTy} (m : Memref sig .scVector cs s e) (off size : Fin s.rank → ℕ)
    (h : ∀ a, off a + size a ≤ s.size a)
    (hl : m.view.LoadsAt (Rect.unit off size h).toLoadRect) (q : PosShare TreeShare) (f : m.view.ty.Contents (Elt F))
    (k : ((Rect.unit off size h).shape.Idx → Elt F e) → Prog (TpuEff nD τ sig (Elt F) Λ₀ (thr d L).2) β) (Q : β → sProp 𝕄) :
    (m.view.loc (thr d L) ↦{q} f : sProp 𝕄)
      ⊢ iprop(((m.view.loc (thr d L) ↦{q} f) -∗ WP (k fun x => m.view.read (Elt F) f ((Rect.unit off size h).emb x)) Q)
        -∗ WP (.op (.load m (Rect.unit off size h).toLoadRect hl) k) Q) :=
  wp_load_rect 𝒱₀ (thr d L) none Set.univ (m := m) (r := Rect.unit off size h) (S := Finset.univ) (Finset.subset_univ _)

/-- A store to a unit rectangle of a buffer: `f'` holds the stored values there and the old contents elsewhere. -/
theorem wp_st {β : Type} {cs : CoreSpace} {s : Shape} {e : EltTy} (m : Memref sig .scVector cs s e) (hi : Function.Injective (m.view.read (Elt F)))
    (off size : Fin s.rank → ℕ) (h : ∀ a, off a + size a ≤ s.size a)
    (w : (Rect.unit off size h).shape.Idx → Elt F e)
    (hx : (m.access (Rect.unit off size h)).Stores Finset.univ) (hm : (Finset.univ : Finset (Rect.unit off size h).shape.Idx) = Finset.univ ∨ ∀ a, (Rect.unit off size h).stride a = 1)
    (f f' : m.view.ty.Contents (Elt F)) (k : PUnit → Prog (TpuEff nD τ sig (Elt F) Λ₀ (thr d L).2) β) (Q : β → sProp 𝕄)
    (hin : ∀ x, m.view.read (Elt F) f' ((Rect.unit off size h).emb x) = w x)
    (hout : ∀ j : s.Idx, (¬ ∀ a, off a ≤ (j a).val ∧ (j a).val < off a + size a) → m.view.read (Elt F) f' j = m.view.read (Elt F) f j) :
    (m.view.loc (thr d L) ↦{fullShare} f : sProp 𝕄)
      ⊢ iprop(((m.view.loc (thr d L) ↦{fullShare} f') -∗ WP (k ⟨⟩) Q)
        -∗ WP (.op (.store m (Rect.unit off size h) w Finset.univ hx hm) k) Q) := by
  have e : (m.access (Rect.unit off size h)).write (Elt F) f w Finset.univ = f' := by
    refine hi (funext fun j => ?_)
    by_cases hj : ∀ a, off a ≤ (j a).val ∧ (j a).val < off a + size a
    · obtain ⟨x, rfl⟩ := exists_emb off size h j hj
      exact (View.read_slice_write_emb (v := m.view) _ f w (Finset.mem_univ x)).trans (hin x).symm
    · refine (View.read_slice_write_of_not_mem (v := m.view) _ f w _ fun hm => hj ?_).trans (hout j hj).symm
      obtain ⟨x, -, rfl⟩ := Finset.mem_map.mp hm
      exact emb_bounds off size h x
  rw [← e]
  exact wp_store 𝒱₀ (thr d L) none Set.univ (m := m) (r := Rect.unit off size h) (S := Finset.univ) (Finset.subset_univ _)

/-- A counted loop carrying a word, with what follows it. -/
theorem wp_loop {β : Type} (l : Scf.Loop 32) (hok : l.OK) (init : BitVec 32)
    (body : Fin l.trips → BitVec 32 → Prog (TpuEff nD τ sig (Elt F) Λ₀ (thr d L).2) (BitVec 32)) (I : ℕ → BitVec 32 → sProp 𝕄)
    (hbody : ∀ (k : Fin l.trips) (a : BitVec 32), I k.val a ⊢ WP (body k a) (I (k.val + 1)))
    (k : BitVec 32 → Prog (TpuEff nD τ sig (Elt F) Λ₀ (thr d L).2) β) (Q : β → sProp 𝕄) :
    I 0 init ⊢ iprop((∀ a, I l.trips a -∗ WP (k a) Q) -∗ WP (Scf.Loop.for l hok init body >>= k) Q) :=
  Scf.wp_for_bind _ _ _ _ _ _ hok init body I hbody

/-- A load from a one-axis buffer at the array `A`, from number `o` on. -/
theorem wp_ld1 {β : Type} {cs : CoreSpace} {n : Fin 1 → ℕ} {e : EltTy} (m : Memref sig .scVector cs ⟨1, n⟩ e) (off size : Fin 1 → ℕ)
    (h : ∀ a, off a + size a ≤ n a) (hl : m.view.LoadsAt (Rect.unit (s := ⟨1, n⟩) off size h).toLoadRect) (q : PosShare TreeShare) (f : m.view.ty.Contents (Elt F))
    (A : ℕ → Elt F e) (hr : m.view.read (Elt F) f = tab1 ⟨1, n⟩ A) (o : ℕ) (ho : off 0 = o)
    (k : ((Rect.unit (s := ⟨1, n⟩) off size h).shape.Idx → Elt F e) → Prog (TpuEff nD τ sig (Elt F) Λ₀ (thr d L).2) β) (Q : β → sProp 𝕄) :
    (m.view.loc (thr d L) ↦{q} f : sProp 𝕄)
      ⊢ iprop(((m.view.loc (thr d L) ↦{q} f) -∗ WP (k (tab1 ⟨1, size⟩ fun x => A (o + x))) Q)
        -∗ WP (.op (.load m (Rect.unit (s := ⟨1, n⟩) off size h).toLoadRect hl) k) Q) := by
  have e' : (fun x => m.view.read (Elt F) f ((Rect.unit (s := ⟨1, n⟩) off size h).emb x)) = tab1 ⟨1, size⟩ (fun x => A (o + x)) := by
    funext x; rw [hr, tab1_emb, ho]; rfl
  rw [← e']
  exact wp_ld d L m off size h hl q f k Q

/-- A store to a one-axis buffer at the array `A`, from number `o` on, leaving it at `A'`. -/
theorem wp_st1 {β : Type} {cs : CoreSpace} {n : Fin 1 → ℕ} {e : EltTy} (m : Memref sig .scVector cs ⟨1, n⟩ e) (hi : Function.Injective (m.view.read (Elt F)))
    (off size : Fin 1 → ℕ) (h : ∀ a, off a + size a ≤ n a)
    (w : (Rect.unit (s := ⟨1, n⟩) off size h).shape.Idx → Elt F e)
    (hx : (m.access (Rect.unit (s := ⟨1, n⟩) off size h)).Stores Finset.univ)
    (hm : (Finset.univ : Finset (Rect.unit (s := ⟨1, n⟩) off size h).shape.Idx) = Finset.univ ∨ ∀ a, (Rect.unit (s := ⟨1, n⟩) off size h).stride a = 1)
    (f f' : m.view.ty.Contents (Elt F)) (A A' : ℕ → Elt F e) (hr : m.view.read (Elt F) f = tab1 ⟨1, n⟩ A) (hr' : m.view.read (Elt F) f' = tab1 ⟨1, n⟩ A')
    (o : ℕ) (ho : off 0 = o) (hw : w = tab1 ⟨1, size⟩ fun x => A' (o + x)) (hA : ∀ j, ¬ (o ≤ j ∧ j < o + size 0) → A' j = A j)
    (k : PUnit → Prog (TpuEff nD τ sig (Elt F) Λ₀ (thr d L).2) β) (Q : β → sProp 𝕄) :
    (m.view.loc (thr d L) ↦{fullShare} f : sProp 𝕄)
      ⊢ iprop(((m.view.loc (thr d L) ↦{fullShare} f') -∗ WP (k ⟨⟩) Q)
        -∗ WP (.op (.store m (Rect.unit (s := ⟨1, n⟩) off size h) w Finset.univ hx hm) k) Q) := by
  refine wp_st d L m hi off size h w hx hm f f' k Q (fun x => ?_) (fun j hj => ?_)
  · rw [hr', tab1_emb, ho, hw]; rfl
  · rw [hr, hr']
    refine hA _ fun hc => hj fun a => ?_
    match a with
    | 0 => rw [ho]; exact hc

/-! ## The lane -/

/-- The maximum of two floats. -/
abbrev mx (x y : F .f32) : F .f32 := FloatOps.maximumf x y

theorem pieceMax_apply (x y : Vec F S1x16 .f32) (j : S1x16.Idx) : pieceMax x y j = mx (x j) (y j) := by
  have e : Shape.reshapeEquiv shapeCasts_S1x16_S16 (Shape.reshapeEquiv shapeCasts_S16_S1x16 j) = j := by
    simp [Shape.reshapeEquiv]
  show FloatOps.maximumf (x _) (y _) = _
  rw [e]

local notation "slabW" => (Memref.whole Cert.KernelIdeal.cc0_scratch5 : Memref Cert.KernelIdeal.sig Kind.scVector Space.vmem Cert.KernelIdeal.S512x128 EltTy.f32)
local notation "stagW" => (Memref.whole Cert.KernelIdeal.cc0_scratch6 : Memref Cert.KernelIdeal.sig Kind.scVector Space.vmem Cert.KernelIdeal.S128x128 EltTy.f32)

/-- The slab and the staging buffer at the arrays `A` and `R`. -/
abbrev slabP (A : ℕ → ℕ → F .f32) : sProp 𝕄 := (slabW).view.loc (thr d L) ↦{fullShare} (tab2 S512x128 A : S512x128.Idx → F .f32)
abbrev stagP (R : ℕ → ℕ → F .f32) : sProp 𝕄 := (stagW).view.loc (thr d L) ↦{fullShare} (tab2 S128x128 R : S128x128.Idx → F .f32)

/-- Columns `16 q …` of row `v` of `A` at the maximum with row `p` of `R`. -/
def upd (A R : ℕ → ℕ → F .f32) (v p q : ℕ) : ℕ → ℕ → F .f32 := fun a b => if a = v ∧ 16 * q ≤ b ∧ b < 16 * q + 16 then mx (A v b) (R p b) else A a b

theorem wp_piece (A R : ℕ → ℕ → F .f32) (v p q : ℕ) (o : Fin 2 → ℕ) (ho : ∀ a, o a + S1x16.size a ≤ S512x128.size a) (p' : Fin 2 → ℕ)
    (hp : ∀ a, p' a + S1x16.size a ≤ S128x128.size a) (eo : o = ![v, 16 * q]) (ep : p' = ![p, 16 * q]) :
    iprop(slabP d L A ∗ stagP d L R) ⊢ WP (piece L slabW stagW o ho p' hp) fun _ => iprop(slabP d L (upd A R v p q) ∗ stagP d L R) := by
  subst eo ep
  iintro ⟨HA, HR⟩
  unfold piece; simp only [bind, Prog.bind, Prog.lift]
  iapply (wp_ld d L slabW _ _ ho) $$ HA; iintro HA
  iapply (wp_ld d L stagW _ _ hp) $$ HR; iintro HR
  iapply (wp_ld d L slabW _ _ ho) $$ HA; iintro HA
  iapply (wp_st d L slabW (fun (f g : S512x128.Idx → F .f32) (h : f = g) => h) _ _ ho (f' := (tab2 S512x128 (upd A R v p q) : S512x128.Idx → F .f32)) (hin := ?_) (hout := ?_)) $$ HA
  · intro x
    refine Eq.trans ?_ (pieceMax_apply _ _ x).symm
    show tab2 S512x128 (upd A R v p q) ((Rect.unit (s := S512x128) ![v, 16 * q] S1x16.size ho).emb x)
      = mx (tab2 S512x128 A ((Rect.unit (s := S512x128) ![v, 16 * q] S1x16.size ho).emb x)) (tab2 S128x128 R ((Rect.unit (s := S128x128) ![p, 16 * q] S1x16.size hp).emb x))
    rw [tab2_emb, tab2_emb, tab2_emb]
    have h0 : co (s := S1x16) x 0 = 0 := Nat.lt_one_iff.mp (co_lt (s := S1x16) x 0 Nat.two_pos)
    have h1 : co (s := S1x16) x 1 < 16 := co_lt (s := S1x16) x 1 Nat.one_lt_two
    show upd A R v p q (v + co x 0) (16 * q + co x 1) = mx (A (v + co x 0) (16 * q + co x 1)) (R (p + co x 0) (16 * q + co x 1))
    change co x 0 = 0 at h0; change co x 1 < 16 at h1
    rw [h0]; unfold upd; rw [if_pos ⟨by omega, by omega, by omega⟩]; simp
  · intro j hj
    show upd A R v p q (co j 0) (co j 1) = A (co j 0) (co j 1)
    unfold upd; rw [if_neg]
    rintro ⟨h0, h1, h2⟩
    refine hj fun a => ?_
    match a with
    | 0 => exact ⟨le_of_eq h0.symm, by show co j 0 < v + 1; omega⟩
    | 1 => exact ⟨h1, h2⟩
  iintro HA
  rw [wp_ret]; imodintro
  isplitl [HA] <;> iassumption

theorem wp_piece_bind {β : Type} (A R : ℕ → ℕ → F .f32) (v p q : ℕ) (o : Fin 2 → ℕ) (ho : ∀ a, o a + S1x16.size a ≤ S512x128.size a) (p' : Fin 2 → ℕ)
    (hp : ∀ a, p' a + S1x16.size a ≤ S128x128.size a) (eo : o = ![v, 16 * q]) (ep : p' = ![p, 16 * q])
    (k : PUnit → Prog (TpuEff nD τ sig (Elt F) Λ₀ (thr d L).2) β) (Q : β → sProp 𝕄) :
    iprop(slabP d L A ∗ stagP d L R) ⊢ iprop((slabP d L (upd A R v p q) ∗ stagP d L R -∗ WP (k ⟨⟩) Q) -∗ WP (piece L slabW stagW o ho p' hp >>= k) Q) := by
  rw [wp_bind]
  iintro H HK
  iapply (wp_wand_r (M := 𝕄) frame (wpE (defs₀ (F := F)) 𝒱₀ (thr d L) none) Set.univ)
  isplitl [H]
  · iapply (wp_piece d L A R v p q o ho p' hp eo ep); iexact H
  · iintro %_ H; iapply HK; iexact H

/-- Row `v` of `A` at the maximum with row `p` of `R`: the first `n` pieces of it, and all. -/
def updN (A R : ℕ → ℕ → F .f32) (v p n : ℕ) : ℕ → ℕ → F .f32 := fun a b => if a = v ∧ b < 16 * n then mx (A v b) (R p b) else A a b
def updRow (A R : ℕ → ℕ → F .f32) (v p : ℕ) : ℕ → ℕ → F .f32 := fun a b => if a = v then mx (A v b) (R p b) else A a b

theorem updN_zero (A R : ℕ → ℕ → F .f32) (v p : ℕ) : updN A R v p 0 = A := by
  funext a b; unfold updN; rw [if_neg (by omega)]

theorem upd_updN (A R : ℕ → ℕ → F .f32) (v p n : ℕ) : upd (updN A R v p n) R v p n = updN A R v p (n + 1) := by
  funext a b; unfold upd updN
  by_cases ha : a = v
  · subst ha
    by_cases h1 : b < 16 * n
    · rw [if_neg (by omega), if_pos ⟨rfl, h1⟩, if_pos ⟨rfl, by omega⟩]
    · by_cases h2 : b < 16 * n + 16
      · rw [if_pos ⟨rfl, by omega, h2⟩, if_neg (by omega), if_pos ⟨rfl, by omega⟩]
      · rw [if_neg (by omega), if_neg (by omega), if_neg (by omega)]
  · rw [if_neg (by tauto), if_neg (by tauto), if_neg (by tauto)]

theorem tab2_updN (A R : ℕ → ℕ → F .f32) (v p : ℕ) : tab2 S512x128 (updN A R v p 8) = tab2 S512x128 (updRow A R v p) :=
  tab2_congr fun a b _ hb => by
    have hb' : b < 128 := hb
    unfold updN updRow
    by_cases ha : a = v
    · rw [if_pos ⟨ha, by omega⟩, if_pos ha]
    · rw [if_neg (by tauto), if_neg ha]

theorem offR_eq (t : Fin k0_t8_loop.trips) (l : Fin 16) (q : ℕ) : offR t.val (BitVec.ofNat 32 l.val) q = ![16 * t.val + l.val, 16 * q] := by
  have ht : t.val < 8 := lt_of_lt_of_le t.isLt k0_t8_abs.2.1
  have hl := l.isLt
  unfold offR
  congr 1
  simp only [Scalar.indexCast, Scalar.addi, Scalar.muli, Scf.iv, IntOp.addi, IntOp.muli]
  simp [BitVec.toNat_add, BitVec.toNat_mul]
  omega

theorem laneChk_of (c : BitVec 1) (v : BitVec 32) (h : c = 1#1 → v.toNat < 512) : laneChk c v := by
  have key : ∀ q, q < 8 → ∀ _ : c = 1#1, ∀ a, offS v q a + S1x16.size a ≤ S512x128.size a := fun q hq hc a => by
    have hv := h hc
    match a with
    | 0 => show v.toNat + 1 ≤ 512; omega
    | 1 => show 16 * q + 16 ≤ 128; omega
  exact ⟨key 0 (by decide), key 1 (by decide), key 2 (by decide), key 3 (by decide), key 4 (by decide), key 5 (by decide), key 6 (by decide), key 7 (by decide)⟩

theorem wp_piece_n {β : Type} (A R : ℕ → ℕ → F .f32) (v p n : ℕ) (o : Fin 2 → ℕ) (ho : ∀ a, o a + S1x16.size a ≤ S512x128.size a) (p' : Fin 2 → ℕ)
    (hp : ∀ a, p' a + S1x16.size a ≤ S128x128.size a) (eo : o = ![v, 16 * n]) (ep : p' = ![p, 16 * n])
    (k : PUnit → Prog (TpuEff nD τ sig (Elt F) Λ₀ (thr d L).2) β) (Q : β → sProp 𝕄) :
    iprop(slabP d L (updN A R v p n) ∗ stagP d L R)
      ⊢ iprop((slabP d L (updN A R v p (n + 1)) ∗ stagP d L R -∗ WP (k ⟨⟩) Q) -∗ WP (piece L slabW stagW o ho p' hp >>= k) Q) := by
  rw [← upd_updN]; exact wp_piece_bind d L _ R v p n o ho p' hp eo ep k Q

/-- A lane: where it holds a record, the slab's row that the record names takes the maximum with the lane's staged row. -/
theorem wp_lane {α : Type} (A R : ℕ → ℕ → F .f32) (t : Fin k0_t8_loop.trips) (c : BitVec 1) (l : Fin 16) (hl : S16.Slices ![l.val] S1)
    (dec : ∀ v, Decidable (laneChk c v)) (w : ℕ → BitVec 32)
    (hv : c = 1#1 → (w l).toNat < 512)
    (k : Prog (TpuEff nD τ sig (Elt F) Λ₀ (thr d L).2) α) (Q : α → sProp 𝕄) :
    iprop(slabP d L A ∗ stagP d L R)
      ⊢ iprop((slabP d L (if c = 1#1 then updRow A R (w l).toNat (16 * t.val + l.val) else A) ∗ stagP d L R -∗ WP k Q)
        -∗ WP (lane L slabW stagW t c l hl dec (tab1 S16 w : S16.Idx → BitVec 32) k) Q) := by
  iintro H HK
  unfold lane
  by_cases hc : c = 1#1
  · rw [dif_pos hc, if_pos hc]
    have ev : extractAt ![0] (extractStridedSlice S1 ![l.val] (tab1 S16 w : S16.Idx → BitVec 32) hl : IVec S1 32) inpos_S1_p0 = w l := by
      show w _ = _
      congr 1
    have hk : laneChk c (extractAt ![0] (extractStridedSlice S1 ![l.val] (tab1 S16 w : S16.Idx → BitVec 32) hl : IVec S1 32) inpos_S1_p0) := by
      rw [ev]; exact laneChk_of c _ hv
    have eo : ∀ q, offS (extractAt ![0] (extractStridedSlice S1 ![l.val] (tab1 S16 w : S16.Idx → BitVec 32) hl : IVec S1 32) inpos_S1_p0) q
        = ![(w l).toNat, 16 * q] := fun q => by rw [ev]; rfl
    rw [Prog.bind_lift]
    iapply (wp_assume 𝒱₀ (thr d L) none Set.univ hk)
    rw [← updN_zero A R (w l).toNat (16 * t.val + l.val)]
    iapply (wp_piece_n d L A R _ _ 0 _ _ _ _ (eo 0) (offR_eq t l 0)) $$ H; iintro H
    iapply (wp_piece_n d L A R _ _ 1 _ _ _ _ (eo 1) (offR_eq t l 1)) $$ H; iintro H
    iapply (wp_piece_n d L A R _ _ 2 _ _ _ _ (eo 2) (offR_eq t l 2)) $$ H; iintro H
    iapply (wp_piece_n d L A R _ _ 3 _ _ _ _ (eo 3) (offR_eq t l 3)) $$ H; iintro H
    iapply (wp_piece_n d L A R _ _ 4 _ _ _ _ (eo 4) (offR_eq t l 4)) $$ H; iintro H
    iapply (wp_piece_n d L A R _ _ 5 _ _ _ _ (eo 5) (offR_eq t l 5)) $$ H; iintro H
    iapply (wp_piece_n d L A R _ _ 6 _ _ _ _ (eo 6) (offR_eq t l 6)) $$ H; iintro H
    iapply (wp_piece_n d L A R _ _ 7 _ _ _ _ (eo 7) (offR_eq t l 7)) $$ H; iintro H
    iapply HK
    rw [updN_zero]
    unfold slabP
    rw [tab2_updN]
    iexact H
  · rw [dif_neg hc, if_neg hc]
    iapply HK; iexact H

end Cert.Proof

end
-- ==== Proof.Words.lean ====
/- Facts about the kernel's words: the drain's trip count, the lanes' conditions, the records. -/
module

public import proofs.«01_k».proof.Proof.Lane

@[expose] public section

noncomputable section

namespace Cert.Proof

open Cert.KernelIdeal Cert.KernelIdeal.Gen
open Idealize.ShloMosaic

theorem toInt_small (x : BitVec 32) (h : x.toNat < 2 ^ 31) : x.toInt = x.toNat := by
  rw [BitVec.toInt_eq_toNat_cond]; split <;> omega

theorem slt_small (x y : BitVec 32) (hx : x.toNat < 2 ^ 31) (hy : y.toNat < 2 ^ 31) : x.slt y = decide (x.toNat < y.toNat) := by
  rw [BitVec.slt_eq_decide, toInt_small x hx, toInt_small y hy]; simp

theorem sdiv_small (x y : BitVec 32) (hx : x.toNat < 2 ^ 31) (hy : y.toNat < 2 ^ 31) : (x.sdiv y).toNat = x.toNat / y.toNat := by
  have h1 : x.msb = false := BitVec.msb_eq_false_iff_two_mul_lt.mpr (by omega)
  have h2 : y.msb = false := BitVec.msb_eq_false_iff_two_mul_lt.mpr (by omega)
  rw [BitVec.sdiv_eq, h1, h2]; simp

theorem divsi_small (x y : BitVec 32) (hx : x.toNat < 2 ^ 31) (hy : y.toNat < 2 ^ 31) (h0 : y ≠ 0) : (Scalar.divsi x y).toNat = x.toNat / y.toNat := by
  have hc : ¬ IntOp.SDivCorner x y := by
    rintro (h | ⟨-, h⟩)
    · exact h0 h
    · rw [h] at hy; revert hy; decide
  unfold Scalar.divsi IntOp.divsi
  rw [if_neg hc, sdiv_small x y hx hy]

theorem ceil_word (v : BitVec 32) (hv : v.toNat ≤ 10000) : (k0_t6_loop v).ub = BitVec.ofNat 32 ((v.toNat + 127) / 128) ∧
    Scalar.addi 0#32 (Scalar.subi (k0_t6_loop v).ub 0#32) = (k0_t9_loop v).ub ∧ (k0_t9_loop v).lb = (k0_t6_loop v).ub := by
  have hx : (Scalar.subi (Scalar.addi v 128#32) 1#32).toNat = v.toNat + 127 := by
    show (v + 128#32 - 1#32).toNat = _
    rw [BitVec.toNat_sub, BitVec.toNat_add]; simp; omega
  have h22 : Scalar.cmpi .sgt (Scalar.subi (Scalar.addi v 128#32) 1#32) 0#32 = 1#1 := by
    show BitVec.ofBool (BitVec.slt 0#32 _) = _
    rw [slt_small _ _ (by decide) (by omega), hx]; simp
  have h24 : Scalar.cmpi .slt (Scalar.subi (Scalar.addi v 128#32) 1#32) 0#32 = 0#1 := by
    show BitVec.ofBool (BitVec.slt _ 0#32) = _
    rw [slt_small _ _ (by omega) (by decide), hx]; simp
  have h21 : (Scalar.divsi (Scalar.subi (Scalar.addi v 128#32) 1#32) 128#32) = BitVec.ofNat 32 ((v.toNat + 127) / 128) := by
    apply BitVec.eq_of_toNat_eq
    rw [divsi_small _ _ (by omega) (by decide) (by decide), hx]
    show (v.toNat + 127) / 128 = (BitVec.ofNat 32 ((v.toNat + 127) / 128)).toNat
    rw [BitVec.toNat_ofNat]
    omega
  have h35 : ∀ y : BitVec 1, Scalar.andi (Scalar.cmpi .ne (Scalar.subi (Scalar.extui 1#1) (Scalar.extui 0#1)) (Scalar.subi (Scalar.extui (Scalar.cmpi .sgt 128#32 0#32)) (Scalar.extui (Scalar.cmpi .slt 128#32 0#32)))) y = 0#1 := by
    decide
  have h37 : ∀ y z : BitVec 32, Scalar.select (0#1) y z = z := fun y z => rfl
  have h40 : ∀ m : ℕ, m ≤ 100 → Scalar.addi 0#32 (Scalar.muli (Scalar.divsi (Scalar.subi (BitVec.ofNat 32 m) 0#32) 1#32) 1#32) = BitVec.ofNat 32 m := fun m hm => by
    have e : Scalar.subi (BitVec.ofNat 32 m) 0#32 = BitVec.ofNat 32 m := by simp [Scalar.subi, IntOp.subi]
    apply BitVec.eq_of_toNat_eq
    show (0#32 + (Scalar.divsi _ 1#32) * 1#32).toNat = _
    rw [e]
    simp only [BitVec.zero_add, BitVec.mul_one]
    rw [divsi_small _ _ (by simp; omega) (by decide) (by decide)]
    simp
  have hub : (k0_t6_loop v).ub = BitVec.ofNat 32 ((v.toNat + 127) / 128) := by
    unfold k0_t6_loop
    simp only [h22, h24, h35, h37, h21]
    exact h40 _ (by omega)
  refine ⟨hub, ?_, ?_⟩
  · rw [hub]
    unfold k0_t9_loop
    simp only [h22, h24, h35, h37, h21]
  · rfl

theorem t6_trips (v : BitVec 32) (hv : v.toNat ≤ 10000) : (k0_t6_loop v).trips = (v.toNat + 127) / 128 := by
  show Scf.trips 0#32 (k0_t6_loop v).ub 1#32 = _
  rw [(ceil_word v hv).1]
  unfold Scf.trips
  rw [toInt_small (BitVec.ofNat 32 _) (by simp; omega)]
  simp
  omega

theorem t9_trips (v : BitVec 32) (hv : v.toNat ≤ 10000) : (k0_t9_loop v).trips = 0 := by
  show Scf.trips (k0_t9_loop v).lb (k0_t9_loop v).ub 1#32 = _
  rw [(ceil_word v hv).2.2, ← (ceil_word v hv).2.1]
  have : Scalar.addi 0#32 (Scalar.subi (k0_t6_loop v).ub 0#32) = (k0_t6_loop v).ub := by simp [Scalar.subi, IntOp.subi, Scalar.addi, IntOp.addi]
  rw [this]
  unfold Scf.trips
  simp

theorem off5_val (v : BitVec 32) (t6 : Fin (k0_t6_loop v).trips) (h6 : t6.val < 80) (t7 : Fin k0_t7_loop.trips) : k0_off5 v t6 t7 = ![128 * t6.val + 16 * t7.val] := by
  have ht : t7.val < 8 := lt_of_lt_of_le t7.isLt k0_t7_abs.2.1
  unfold k0_off5
  simp only [Scalar.indexCast, Scalar.addi, Scalar.muli, Scf.iv, IntOp.addi, IntOp.muli]
  congr 1
  simp [BitVec.toNat_add, BitVec.toNat_mul]
  omega

theorem chk2_of (v : BitVec 32) (hv : v.toNat ≤ 9984) : k0_chk2 v := by
  have h6 := t6_trips v (by omega)
  have h9 := t9_trips v (by omega)
  refine ⟨⟨(by decide : 0 < (1#32).toInt), ?_⟩, ?_, ⟨(by decide : 0 < (1#32).toInt), ?_⟩, ?_⟩
  · show (0:ℤ) + ((k0_t6_loop v).trips : ℤ) * 1 < _
    rw [h6]; simp; omega
  · intro t6 t7 a
    have h := t6.isLt
    have ht : t7.val < 8 := lt_of_lt_of_le t7.isLt k0_t7_abs.2.1
    rw [off5_val v t6 (by omega) t7]
    match a with
    | 0 => show 128 * t6.val + 16 * t7.val + 16 ≤ 10016; omega
  · show (k0_t9_loop v).lb.toInt + ((k0_t9_loop v).trips : ℤ) * 1 < _
    rw [h9, (ceil_word v (by omega)).2.2, (ceil_word v (by omega)).1, toInt_small _ (by simp; omega)]
    simp; omega
  · intro t9; exact absurd t9.isLt (by omega)

theorem laneCond_iff (n : BitVec 32) (hn : n.toNat ≤ 10000) (u t l : ℕ) (hu : u < 80) (ht : t < 8) (hl : l < 16) :
    laneCond n u t (BitVec.ofNat 32 l) = 1#1 ↔ 128 * u + (16 * t + l) < n.toNat := by
  have e : (Scalar.addi (Scalar.addi (Scalar.muli (Scf.iv 0#32 1#32 u) 128#32) (Scalar.muli (Scf.iv 0#32 1#32 t) 16#32)) (BitVec.ofNat 32 l)).toNat = 128 * u + (16 * t + l) := by
    simp only [Scalar.addi, Scalar.muli, Scf.iv, IntOp.addi, IntOp.muli]
    simp [BitVec.toNat_add, BitVec.toNat_mul]
    omega
  unfold laneCond
  have h : ∀ b : Bool, Scalar.cmpi .ne (Scalar.extui (BitVec.ofBool b)) 0#32 = 1#1 ↔ b = true := by decide
  show Scalar.cmpi .ne (Scalar.extui (BitVec.ofBool (BitVec.slt _ n))) 0#32 = 1#1 ↔ _
  rw [h, slt_small _ _ (by omega) (by omega), e, decide_eq_true_iff]

end Cert.Proof

end
-- ==== Proof.Drain.lean ====
/- A block of the drain: the sixteen lanes of each of its eight groups, over the staged rows. -/
module

public import proofs.«01_k».proof.Proof.Mem
public import proofs.«01_k».proof.Proof.Words

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "slabW" => (Memref.whole Cert.KernelIdeal.cc0_scratch5 : Memref Cert.KernelIdeal.sig Kind.scVector Space.vmem Cert.KernelIdeal.S512x128 EltTy.f32)
local notation "stagW" => (Memref.whole Cert.KernelIdeal.cc0_scratch6 : Memref Cert.KernelIdeal.sig Kind.scVector Space.vmem Cert.KernelIdeal.S128x128 EltTy.f32)
local notation "locW" => (Memref.whole Cert.KernelIdeal.cc0_scratch3 : Memref Cert.KernelIdeal.sig Kind.scVector Space.vmem Cert.KernelIdeal.S128 EltTy.i32)

/-- The list of slab rows at the numbers `loc`. -/
abbrev locP (loc : ℕ → BitVec 32) : sProp 𝕄 := (locW).view.loc (thr d L) ↦{fullShare} (tab1 S128 loc : S128.Idx → BitVec 32)

/-- Lane `l` of group `t` takes the slab from the state at record number `b + (16 t + l)` to the next. -/
theorem wp_lane_n {α : Type} (T : ℕ → ℕ → ℕ → F .f32) (R : ℕ → ℕ → F .f32) (loc : ℕ → BitVec 32) (K b : ℕ)
    (hT : ∀ p, p < 128 → b + p < K → (loc p).toNat < 512 ∧ updRow (T (b + p)) R (loc p).toNat p = T (b + p + 1))
    (t : Fin k0_t8_loop.trips) (c : BitVec 1) (l : Fin 16) (hl : S16.Slices ![l.val] S1)
    (dec : ∀ v, Decidable (laneChk c v)) (hc : c = 1#1 ↔ b + (16 * t.val + l.val) < K)
    (w : S16.Idx → BitVec 32) (hw : w = tab1 S16 (fun x => loc (16 * t.val + x))) (k : Prog (TpuEff nD τ sig (Elt F) Λ₀ (thr d L).2) α) (Q : α → sProp 𝕄) :
    iprop(slabP d L (T (min K (b + (16 * t.val + l.val)))) ∗ stagP d L R)
      ⊢ iprop((slabP d L (T (min K (b + (16 * t.val + (l.val + 1))))) ∗ stagP d L R -∗ WP k Q)
        -∗ WP (lane L slabW stagW t c l hl dec w k) Q) := by
  subst hw
  have ht : t.val < 8 := lt_of_lt_of_le t.isLt k0_t8_abs.2.1
  have hl' := l.isLt
  have h1 := wp_lane d L (T (min K (b + (16 * t.val + l.val)))) R t c l hl dec (fun x => loc (16 * t.val + x))
    (fun h => (hT (16 * t.val + l.val) (by omega) (hc.mp h)).1) k Q
  have e : (if c = 1#1 then updRow (T (min K (b + (16 * t.val + l.val)))) R (loc (16 * t.val + l.val)).toNat (16 * t.val + l.val)
      else T (min K (b + (16 * t.val + l.val)))) = T (min K (b + (16 * t.val + (l.val + 1)))) := by
    by_cases h : c = 1#1
    · have h' := hc.mp h
      rw [if_pos h, Nat.min_eq_right h'.le, Nat.min_eq_right (by omega), (hT _ (by omega) h').2]; rfl
    · have h' := Nat.not_lt.mp fun x => h (hc.mpr x)
      rw [if_neg h, Nat.min_eq_left (by omega), Nat.min_eq_left (by omega)]
  rw [← e]; exact h1

abbrev bP33 (v18 : BitVec 32) (t6 : Fin (k0_t6_loop v18).trips) (b : BitVec 32) (t8 : Fin k0_t8_loop.trips) :=
  k0_part33 (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v18 t6 b 0#32 1#32 t8
abbrev bP34 (v18 : BitVec 32) (t6 : Fin (k0_t6_loop v18).trips) (b : BitVec 32) (t8 : Fin k0_t8_loop.trips) (r : BitVec 32) (w : Vec F S16 .i32) (s : BitVec 32) :=
  k0_part34 (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v18 t6 b t8 r w s
abbrev bP35 (v18 : BitVec 32) (t6 : Fin (k0_t6_loop v18).trips) (b : BitVec 32) (t8 : Fin k0_t8_loop.trips) (r : BitVec 32) (w : Vec F S16 .i32) (s : BitVec 32) :=
  k0_part35 (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v18 t6 b t8 r w s
abbrev bT8 (v1 : BitVec 32) (v2 : IVec S16 32) (t2 : Fin k0_t2_loop.trips) (a13 c0 c1 : BitVec 32) (t4 : Fin k0_t4_loop.trips)
    (v18 : BitVec 32) (t6 : Fin (k0_t6_loop v18).trips) (b : BitVec 32) (t8 : Fin k0_t8_loop.trips) (a : BitVec 32) :=
  k0_t8_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v1 v2 t2 a13 c0 c1 t4 v18 t6 b t8 a

section group
variable (T : ℕ → ℕ → ℕ → F .f32) (R : ℕ → ℕ → F .f32) (loc : ℕ → BitVec 32) (v18 : BitVec 32) (hK : v18.toNat ≤ 10000) (t6 : Fin (k0_t6_loop v18).trips) (h6 : t6.val < 80)
    (hT : ∀ p, p < 128 → 128 * t6.val + p < v18.toNat → (loc p).toNat < 512 ∧ updRow (T (128 * t6.val + p)) R (loc p).toNat p = T (128 * t6.val + p + 1))
    (t8 : Fin k0_t8_loop.trips)
include hK h6 hT

theorem wp_step (w : S16.Idx → BitVec 32) (ew : w = tab1 S16 (fun x => loc (16 * t8.val + x))) (l : Fin 16) (hl : S16.Slices ![l.val] S1)
    (dec : ∀ v, Decidable (laneChk (laneCond v18 t6 t8 (BitVec.ofNat 32 l.val)) v)) (α : Type)
    (k : Prog (TpuEff nD τ sig (Elt F) Λ₀ (thr d L).2) α) (Q : α → sProp 𝕄) :
    iprop(slabP d L (T (min v18.toNat (128 * t6.val + (16 * t8.val + l.val)))) ∗ stagP d L R)
      ⊢ iprop((slabP d L (T (min v18.toNat (128 * t6.val + (16 * t8.val + (l.val + 1))))) ∗ stagP d L R -∗ WP k Q)
        -∗ WP (lane L slabW stagW t8 (laneCond v18 t6 t8 (BitVec.ofNat 32 l.val)) l hl dec w k) Q) :=
  wp_lane_n d L T R loc v18.toNat (128 * t6.val) hT t8 _ l hl dec
    (laneCond_iff v18 hK _ _ _ h6 (lt_of_lt_of_le t8.isLt k0_t8_abs.2.1) l.isLt) w ew k Q

theorem wp_p33 (b : BitVec 32) :
    iprop((slabP d L (T (min v18.toNat (128 * t6.val + (16 * t8.val + 0)))) ∗ stagP d L R) ∗ locP (F := F) d L loc)
      ⊢ WP (bP33 (F := F) L v18 t6 b t8) fun x => iprop(⌜x.2.1 = tab1 S16 (fun x => loc (16 * t8.val + x))⌝ ∗
          (slabP d L (T (min v18.toNat (128 * t6.val + (16 * t8.val + 4)))) ∗ stagP d L R) ∗ locP (F := F) d L loc) := by
  have ew : (fun x => (locW).view.read (Elt F) (tab1 S128 loc : S128.Idx → BitVec 32) ((Rect.unit (s := S128) (k0_off7 t8) S16.size (k0_off7_inb t8)).emb x))
      = (tab1 S16 (fun x => loc (16 * t8.val + x)) : S16.Idx → BitVec 32) := by
    funext x
    show tab1 S128 loc ((Rect.unit (s := S128) (k0_off7 t8) S16.size (k0_off7_inb t8)).emb x) = _
    rw [tab1_emb]
    exact congrArg (fun o : ℕ => loc (o + co x 0)) (congrFun (k0_off7_eq t8) 0)
  have step := wp_step d L T R loc v18 hK t6 h6 hT t8 _ ew
  unfold bP33
  obtain ⟨r, s, e⟩ := part33_eq (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v18 t6 b t8
  rw [e]
  iintro ⟨H, HL⟩
  rw [Prog.bind_lift]
  iapply (wp_ld d L locW _ _ (k0_off7_inb t8)) $$ HL; iintro HL
  iapply (step 0 _ _ _ _ _) $$ H; iintro H
  iapply (step 1 _ _ _ _ _) $$ H; iintro H
  iapply (step 2 _ _ _ _ _) $$ H; iintro H
  iapply (step 3 _ _ _ _ _) $$ H; iintro H
  rw [Prog.pure_eq_ret, wp_ret]; imodintro
  isplitr
  · ipureintro; exact ew
  isplitl [H]
  · iexact H
  · iexact HL

theorem wp_p34 (b r : BitVec 32) (w : Vec F S16 .i32) (s : BitVec 32) (ew : w = tab1 S16 (fun x => loc (16 * t8.val + x))) :
    iprop(slabP d L (T (min v18.toNat (128 * t6.val + (16 * t8.val + 4)))) ∗ stagP d L R)
      ⊢ WP (bP34 (F := F) L v18 t6 b t8 r w s) fun _ => iprop(slabP d L (T (min v18.toNat (128 * t6.val + (16 * t8.val + 9)))) ∗ stagP d L R) := by
  have step := wp_step d L T R loc v18 hK t6 h6 hT t8 w ew
  unfold bP34
  obtain ⟨s', e⟩ := part34_eq (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v18 t6 b t8 r w s
  rw [e]
  iintro H
  iapply (step 4 _ _ _ _ _) $$ H; iintro H
  iapply (step 5 _ _ _ _ _) $$ H; iintro H
  iapply (step 6 _ _ _ _ _) $$ H; iintro H
  iapply (step 7 _ _ _ _ _) $$ H; iintro H
  iapply (step 8 _ _ _ _ _) $$ H; iintro H
  rw [Prog.pure_eq_ret, wp_ret]; imodintro
  iexact H

theorem wp_p35 (b r : BitVec 32) (w : Vec F S16 .i32) (s : BitVec 32) (ew : w = tab1 S16 (fun x => loc (16 * t8.val + x))) :
    iprop(slabP d L (T (min v18.toNat (128 * t6.val + (16 * t8.val + 9)))) ∗ stagP d L R)
      ⊢ WP (bP35 (F := F) L v18 t6 b t8 r w s) fun _ => iprop(slabP d L (T (min v18.toNat (128 * t6.val + (16 * t8.val + 14)))) ∗ stagP d L R) := by
  have step := wp_step d L T R loc v18 hK t6 h6 hT t8 w ew
  unfold bP35
  obtain ⟨s', e⟩ := part35_eq (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v18 t6 b t8 r w s
  rw [e]
  iintro H
  iapply (step 9 _ _ _ _ _) $$ H; iintro H
  iapply (step 10 _ _ _ _ _) $$ H; iintro H
  iapply (step 11 _ _ _ _ _) $$ H; iintro H
  iapply (step 12 _ _ _ _ _) $$ H; iintro H
  iapply (step 13 _ _ _ _ _) $$ H; iintro H
  rw [Prog.pure_eq_ret, wp_ret]; imodintro
  iexact H

/-- A group of sixteen lanes. -/
theorem wp_t8 (v1 : BitVec 32) (v2 : IVec S16 32) (t2 : Fin k0_t2_loop.trips) (a13 c0 c1 : BitVec 32) (t4 : Fin k0_t4_loop.trips) (b : BitVec 32) (a : BitVec 32) :
    iprop((slabP d L (T (min v18.toNat (128 * t6.val + (16 * t8.val + 0)))) ∗ stagP d L R) ∗ locP (F := F) d L loc)
      ⊢ WP (bT8 (F := F) L v1 v2 t2 a13 c0 c1 t4 v18 t6 b t8 a)
          fun _ => iprop((slabP d L (T (min v18.toNat (128 * t6.val + (16 * t8.val + 16)))) ∗ stagP d L R) ∗ locP (F := F) d L loc) := by
  unfold bT8
  rw [t8_body_eq, wp_bind]
  iintro H
  iapply (wp_wand_r (M := 𝕄) frame (wpE (defs₀ (F := F)) 𝒱₀ (thr d L) none) Set.univ)
  isplitl [H]
  · iapply (wp_p33 d L T R loc v18 hK t6 h6 hT t8 b); iexact H
  iintro %x ⟨%ew, H, HL⟩
  rw [wp_bind]
  iapply (wp_wand_r (M := 𝕄) frame (wpE (defs₀ (F := F)) 𝒱₀ (thr d L) none) Set.univ)
  isplitl [H]
  · iapply (wp_p34 d L T R loc v18 hK t6 h6 hT t8 b x.1 x.2.1 x.2.2 ew); iexact H
  iintro %y H
  rw [wp_bind]
  iapply (wp_wand_r (M := 𝕄) frame (wpE (defs₀ (F := F)) 𝒱₀ (thr d L) none) Set.univ)
  isplitl [H]
  · iapply (wp_p35 d L T R loc v18 hK t6 h6 hT t8 b x.1 x.2.1 y ew); iexact H
  iintro %z H
  have step := wp_step d L T R loc v18 hK t6 h6 hT t8 x.2.1 ew
  iapply (step 14 _ _ _ _ _) $$ H; iintro H
  iapply (step 15 _ _ _ _ _) $$ H; iintro H
  rw [Prog.pure_eq_ret, wp_ret]; imodintro
  isplitl [H]
  · iexact H
  · iexact HL

end group

end Cert.Proof

end
-- ==== Proof.Block.lean ====
/- A block of the drain: unpack a block of records, gather the rows they name, update the slab by them. -/
module

public import proofs.«01_k».proof.Proof.Drain

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "featW" => (Memref.whole Cert.KernelIdeal.main_arg1_scv : Memref Cert.KernelIdeal.sig Kind.scVector Space.hbm Cert.KernelIdeal.S400000x128 EltTy.f32)
local notation "stagW" => (Memref.whole Cert.KernelIdeal.cc0_scratch6 : Memref Cert.KernelIdeal.sig Kind.scVector Space.vmem Cert.KernelIdeal.S128x128 EltTy.f32)
local notation "wlW" => (Memref.whole Cert.KernelIdeal.cc0_scratch1 : Memref Cert.KernelIdeal.sig Kind.scVector Space.vmem Cert.KernelIdeal.S10016 EltTy.i32)
local notation "pidW" => (Memref.whole Cert.KernelIdeal.cc0_scratch2 : Memref Cert.KernelIdeal.sig Kind.scVector Space.vmem Cert.KernelIdeal.S128 EltTy.i32)
local notation "locW" => (Memref.whole Cert.KernelIdeal.cc0_scratch3 : Memref Cert.KernelIdeal.sig Kind.scVector Space.vmem Cert.KernelIdeal.S128 EltTy.i32)

/-- The feature table at a read share, the record list and the list of points. -/
abbrev featP (q : PosShare TreeShare) (X : ℕ → ℕ → F .f32) : sProp 𝕄 := (featW).view.loc (thr d L) ↦{q} (tab2 S400000x128 X : S400000x128.Idx → F .f32)
abbrev wlP (W : ℕ → BitVec 32) : sProp 𝕄 := (wlW).view.loc (thr d L) ↦{fullShare} (tab1 S10016 W : S10016.Idx → BitVec 32)
abbrev pidP (P : ℕ → BitVec 32) : sProp 𝕄 := (pidW).view.loc (thr d L) ↦{fullShare} (tab1 S128 P : S128.Idx → BitVec 32)

theorem rows_one {n o z : ℕ} (idx : (⟨1, ![n]⟩ : Shape).Idx → BitVec 32) (hn : (⟨1, ![n]⟩ : Shape).numel = o) (h : ∀ x, (idx x).toNat < z) (P : ℕ → BitVec 32)
    (hP : ∀ x, idx x = P (co x 0)) (k : Fin o) :
    (SparseCore.rows (F := F) idx hn h k).val = (P k.val).toNat := by
  show (idx _).toNat = _
  rw [hP]
  congr 2
  have := Shape.rowMajor_val_one ((⟨1, ![n]⟩ : Shape).rowMajor.symm (k.cast hn.symm))
  rw [Equiv.apply_symm_apply] at this
  exact this.symm

theorem gather_val (X : ℕ → ℕ → F .f32) (P : ℕ → BitVec 32)
    (hin : ∀ x, ((pidW).view.read (Elt F) (tab1 S128 P : S128.Idx → BitVec 32) x).toNat < S400000x128.size gathers_S400000x128_S128x128.axis) :
    SparseCore.gatherPayload gathers_S400000x128_S128x128
      (((featW).slice (Rect.unit (s := S400000x128) ![0, 0] S400000x128.size inb_S400000x128_S400000x128_0_0) (fun _ => rfl)).view.read (Elt F) (tab2 S400000x128 X : S400000x128.Idx → F .f32))
      (SparseCore.rows ((pidW).view.read (Elt F) (tab1 S128 P : S128.Idx → BitVec 32)) rfl hin) = (tab2 S128x128 (fun p b => X (P p).toNat b) : S128x128.Idx → F .f32) := by
  funext x
  unfold SparseCore.gatherPayload
  show tab2 S400000x128 X ((Rect.unit (s := S400000x128) ![0, 0] S400000x128.size inb_S400000x128_S400000x128_0_0).emb _) = _
  rw [tab2_emb]
  have h0 := Shape.Gathers.idx_axis gathers_S400000x128_S128x128 (SparseCore.rows ((pidW).view.read (Elt F) (tab1 S128 P : S128.Idx → BitVec 32)) rfl hin) x
  have h1 := Shape.Gathers.idx_of_ne gathers_S400000x128_S128x128 (SparseCore.rows ((pidW).view.read (Elt F) (tab1 S128 P : S128.Idx → BitVec 32)) rfl hin) x 1 (by decide)
  have e0 := (congrArg Fin.val h0).trans (rows_one (F := F) (n := 128) _ rfl hin P (fun _ => rfl) (x gathers_S400000x128_S128x128.axis'))
  show X (0 + _) (0 + _) = X _ _
  rw [Nat.zero_add, Nat.zero_add]
  exact congrArg₂ X e0 h1

/-- What the tile owes, its waits so far all local. -/
def owed (O : CellTallies nD τ sig (HIx 1)) (W : Waits sig (HIx 1)) : sProp 𝕄 :=
  iprop(∃ W', ⌜∀ p ∈ W', p ∈ W ∨ p.2 = none⌝ ∗ owes (thr d L) O W')

/-- The gather of the listed rows and its wait: the staging buffer holds row `P p` of the table at row `p`. -/
theorem wp_gather {β : Type} (O : CellTallies nD τ sig (HIx 1)) (W : Waits sig (HIx 1)) (q : PosShare TreeShare) (X R : ℕ → ℕ → F .f32) (P : ℕ → BitVec 32)
    (hP : ∀ p, p < 128 → (P p).toNat < 400000)
    (k : PUnit → Prog (TpuEff nD τ sig (Elt F) Λ₀ (thr d L).2) β) (Q : β → sProp 𝕄)
    (h1 h2 h3 h4 h5 h6) :
    iprop(Transfers.MayWaits (thr d L) (default : HIx 1) O ∗ featP d L q X ∗ stagP d L R ∗ pidP (F := F) d L P ∗ semVal (thr d L, SemLoc.dma cc0_scratch7.sem) 0 ∗ owed (F := F) d L O W)
      ⊢ iprop((featP d L q X ∗ stagP d L (fun p b => X (P p).toNat b) ∗ pidP (F := F) d L P ∗ semVal (thr d L, SemLoc.dma cc0_scratch7.sem) 0 ∗ owed (F := F) d L O W
            -∗ WP (k ⟨⟩) Q)
        -∗ WP (SparseCore.enqueueIndirectGather h1 ((featW).slice (Rect.unit (s := S400000x128) ![0, 0] S400000x128.size inb_S400000x128_S400000x128_0_0) (fun _ => rfl)) stagW
              gathers_S400000x128_S128x128 pidW rfl cc0_scratch7.sem h2 h3 h4 >>= fun _ =>
            SparseCore.waitIndirectGather cc0_scratch7.sem ((featW).slice (Rect.unit (s := S400000x128) ![0, 0] S400000x128.size inb_S400000x128_S400000x128_0_0) (fun _ => rfl)) stagW h5 h6 >>= k) Q) := by
  unfold owed
  iintro ⟨#Hmw, Hx, Hr, Hp, Hsem, ⟨%W', %hW, HO⟩⟩ HK
  have hsplit := (pointsTo_split_subset (Ix := HIx 1) (Lvl := ℕ) (Name := ℕ) (U := UU) (Val := Elt F) (ℓ := (featW).view.loc (thr d L)) (I := ((featW).slice (Rect.unit (s := S400000x128) ![0, 0] S400000x128.size inb_S400000x128_S400000x128_0_0) (fun _ => rfl)).view.set) (q := q) (f := (tab2 S400000x128 X : S400000x128.Idx → F .f32)) (S := Finset.univ)
    (fun x _ => Finset.mem_univ x))
  ihave Hxs := hsplit.1 $$ Hx
  icases Hxs with ⟨Hxs, Hxr⟩
  have hrs : (stagW).view.set = Finset.univ := View.set_whole _
  have hps : (pidW).view.set = Finset.univ := View.set_whole _
  have hN : ∀ h : S400000x128.Gathers 0 S128x128, ∑ j, ((stagW).slice (S128x128.rowRect h.axis' j) (S128x128.stride_rowRect h.axis' j)).view.dmaCredit
      = (stagW).view.dmaCredit := by decide
  have hin : ∀ x, ((pidW).view.read (Elt F) (tab1 S128 P : S128.Idx → BitVec 32) x).toNat < S400000x128.size gathers_S400000x128_S128x128.axis :=
    fun x => hP _ (co_lt (s := S128) x 0 Nat.one_pos)
  iapply (SparseCore.wp_indirectGatherLocal countersEmb 𝒱₀ (thr d L) none (hg := gathers_S400000x128_S128x128) (default : HIx 1)
      (fs := (tab2 S400000x128 X : S400000x128.Idx → F .f32)) (fd := (tab2 S128x128 R : S128x128.Idx → F .f32)) (fo := (tab1 S128 P : S128.Idx → BitVec 32))
      (stagW).view.dmaCredit (hN _) (by decide) hin) $$ [Hxs Hr Hp Hsem]
  · isplitl [Hxs]; · iexact Hxs
    rw [hrs, hps]
    isplitl [Hr]; · iexact Hr
    isplitl [Hp]; · iexact Hp
    iexact Hsem
  iintro Hfl
  unfold SparseCore.waitIndirectGather
  rw [Prog.bind_op]
  iapply (Transfers.wp_waitLocalO countersEmb 𝒱₀ (thr d L) none (default : HIx 1) (rfl : (stagW).view.dmaCredit = _)) $$ [Hfl HO]
  · isplitl [Hfl]; · iexact Hfl
    isplitl [HO]; · iexact HO
    iapply (Transfers.MayWaits.elim (SemLoc.dma cc0_scratch7.sem)) $$ Hmw
  iintro ⟨⟨Hr, Hxs, Hp⟩, Hsem, HO⟩
  ihave Hx := hsplit.2 $$ [Hxs Hxr]
  · isplitl [Hxs] <;> iassumption
  rw [hrs, hps]
  have ev := (View.write_whole_univ (Val := Elt F) cc0_scratch6 (tab2 S128x128 R : S128x128.Idx → F .f32) (SparseCore.gatherPayload gathers_S400000x128_S128x128
      (((featW).slice (Rect.unit (s := S400000x128) ![0, 0] S400000x128.size inb_S400000x128_S400000x128_0_0) (fun _ => rfl)).view.read (Elt F) (tab2 S400000x128 X : S400000x128.Idx → F .f32))
      (SparseCore.rows ((pidW).view.read (Elt F) (tab1 S128 P : S128.Idx → BitVec 32)) rfl hin))).trans (gather_val X P hin)
  ihave Hr := (Entails.of_eq (congrArg (fun f => ((stagW).view.loc (thr d L) ↦{fullShare} f : sProp 𝕄)) ev)) $$ Hr
  iapply HK
  isplitl [Hx]; · iexact Hx
  isplitl [Hr]; · iexact Hr
  isplitl [Hp]; · iexact Hp
  isplitl [Hsem]; · iexact Hsem
  iexists _; isplitr
  swap; · iexact HO
  ipureintro; intro p hp
  rcases Finset.mem_insert.mp hp with hp | hp
  · exact .inr (hp ▸ rfl)
  · exact hW p hp

/-! ## The unpacking -/

/-- A record's point among all, in the round whose word is `b`; and its slab row. -/
def pidOf (b w : BitVec 32) : BitVec 32 := (w &&& 131071#32) + b * 100000#32
def locOf (w : BitVec 32) : BitVec 32 := w.sshiftRight 17

theorem pay322_tab (b : BitVec 32) (A : ℕ → BitVec 32) : k0_pay322 (F := F) b (tab1 S16 A : S16.Idx → BitVec 32) = tab1 S16 (fun x => pidOf b (A x)) := rfl
theorem pay323_tab (A : ℕ → BitVec 32) : k0_pay323 (F := F) (tab1 S16 A : S16.Idx → BitVec 32) = tab1 S16 (fun x => locOf (A x)) := rfl

/-- The list `P` with its first `n` entries replaced by `Q`'s. -/
def upTo (n : ℕ) (Q P : ℕ → BitVec 32) : ℕ → BitVec 32 := fun j => if j < n then Q j else P j

theorem upTo_step (n : ℕ) (Q P : ℕ → BitVec 32) (x : ℕ) (hx : x < 16) : upTo (16 * (n + 1)) Q P (16 * n + x) = Q (16 * n + x) := by
  unfold upTo; rw [if_pos (by omega)]
theorem upTo_pid (n m : ℕ) (b : BitVec 32) (W P : ℕ → BitVec 32) :
    k0_pay322 (F := F) b (tab1 S16 (fun x => W (m + 16 * n + x)) : S16.Idx → BitVec 32)
      = tab1 S16 (fun x => upTo (16 * (n + 1)) (fun p => pidOf b (W (m + p))) P (16 * n + x)) := by
  funext x
  show pidOf b (W (m + 16 * n + co x 0)) = upTo (16 * (n + 1)) (fun p => pidOf b (W (m + p))) P (16 * n + co x 0)
  have hx : co x 0 < 16 := (x 0).isLt
  rw [upTo_step _ _ _ _ hx, Nat.add_assoc]
theorem upTo_loc (n m : ℕ) (W M : ℕ → BitVec 32) :
    k0_pay323 (F := F) (tab1 S16 (fun x => W (m + 16 * n + x)) : S16.Idx → BitVec 32)
      = tab1 S16 (fun x => upTo (16 * (n + 1)) (fun p => locOf (W (m + p))) M (16 * n + x)) := by
  funext x
  show locOf (W (m + 16 * n + co x 0)) = upTo (16 * (n + 1)) (fun p => locOf (W (m + p))) M (16 * n + co x 0)
  have hx : co x 0 < 16 := (x 0).isLt
  rw [upTo_step _ _ _ _ hx, Nat.add_assoc]
theorem upTo_off (n : ℕ) (Q P : ℕ → BitVec 32) (j : ℕ) (h : ¬ (16 * n ≤ j ∧ j < 16 * n + 16)) : upTo (16 * (n + 1)) Q P j = upTo (16 * n) Q P j := by
  unfold upTo
  by_cases h1 : j < 16 * n
  · rw [if_pos (by omega), if_pos h1]
  · rw [if_neg (by omega), if_neg h1]

abbrev bT7 (v1 : BitVec 32) (v2 : IVec S16 32) (t2 : Fin k0_t2_loop.trips) (a13 c0 c1 : BitVec 32) (t4 : Fin k0_t4_loop.trips)
    (v18 : BitVec 32) (hw2 : k0_chk2 v18) (t6 : Fin (k0_t6_loop v18).trips) (t7 : Fin k0_t7_loop.trips) (a : BitVec 32) :=
  k0_t7_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v1 v2 t2 a13 c0 c1 t4 v18 hw2 t6 t7 a

abbrev bT6 (v1 : BitVec 32) (v2 : IVec S16 32) (t2 : Fin k0_t2_loop.trips) (a13 c0 c1 : BitVec 32) (t4 : Fin k0_t4_loop.trips)
    (v18 : BitVec 32) (hw2 : k0_chk2 v18) (t6 : Fin (k0_t6_loop v18).trips) (a : BitVec 32) :=
  k0_t6_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v1 v2 t2 a13 c0 c1 t4 v18 hw2 t6 a

theorem wp_t7 (W P M : ℕ → BitVec 32) (v1 : BitVec 32) (v2 : IVec S16 32) (t2 : Fin k0_t2_loop.trips) (a13 c0 c1 : BitVec 32) (t4 : Fin k0_t4_loop.trips)
    (v18 : BitVec 32) (hw2 : k0_chk2 v18) (t6 : Fin (k0_t6_loop v18).trips) (h6 : t6.val < 80) (t7 : Fin k0_t7_loop.trips) (a : BitVec 32) :
    iprop(wlP (F := F) d L W ∗ pidP (F := F) d L (upTo (16 * t7.val) (fun p => pidOf a13 (W (128 * t6.val + p))) P)
        ∗ locP (F := F) d L (upTo (16 * t7.val) (fun p => locOf (W (128 * t6.val + p))) M))
      ⊢ WP (bT7 (F := F) L v1 v2 t2 a13 c0 c1 t4 v18 hw2 t6 t7 a)
          fun _ => iprop(wlP (F := F) d L W ∗ pidP (F := F) d L (upTo (16 * (t7.val + 1)) (fun p => pidOf a13 (W (128 * t6.val + p))) P)
            ∗ locP (F := F) d L (upTo (16 * (t7.val + 1)) (fun p => locOf (W (128 * t6.val + p))) M)) := by
  have hiP : Function.Injective ((pidW).view.read (Elt F)) := fun _ _ h => h
  have hiM : Function.Injective ((locW).view.read (Elt F)) := fun _ _ h => h
  unfold bT7 k0_t7_body
  simp only [Prog.bind_lift]
  iintro ⟨HW, HP, HM⟩
  iapply (wp_ld1 d L wlW _ _ (k0_off5_inb v18 hw2 t6 t7) (A := W) (hr := rfl) (ho := congrFun (off5_val v18 t6 h6 t7) 0)) $$ HW; iintro HW
  iapply (wp_ld1 d L pidW _ _ (k0_off6_inb t7) (A := upTo (16 * t7.val) (fun p => pidOf a13 (W (128 * t6.val + p))) P) (hr := rfl) (ho := congrFun (k0_off6_eq t7) 0)) $$ HP; iintro HP
  iapply (wp_st1 d L pidW hiP _ _ (k0_off6_inb t7) (f' := (tab1 S128 (upTo (16 * (t7.val + 1)) (fun p => pidOf a13 (W (128 * t6.val + p))) P) : S128.Idx → BitVec 32))
    (hr := rfl) (hr' := rfl) (ho := congrFun (k0_off6_eq t7) 0) (A := upTo (16 * t7.val) (fun p => pidOf a13 (W (128 * t6.val + p))) P) (A' := upTo (16 * (t7.val + 1)) (fun p => pidOf a13 (W (128 * t6.val + p))) P)
    (hw := upTo_pid t7.val (128 * t6.val) a13 W P) (hA := upTo_off t7.val _ _)) $$ HP
  iintro HP
  iapply (wp_ld1 d L locW _ _ (k0_off6_inb t7) (A := upTo (16 * t7.val) (fun p => locOf (W (128 * t6.val + p))) M) (hr := rfl) (ho := congrFun (k0_off6_eq t7) 0)) $$ HM; iintro HM
  iapply (wp_st1 d L locW hiM _ _ (k0_off6_inb t7) (f' := (tab1 S128 (upTo (16 * (t7.val + 1)) (fun p => locOf (W (128 * t6.val + p))) M) : S128.Idx → BitVec 32))
    (hr := rfl) (hr' := rfl) (ho := congrFun (k0_off6_eq t7) 0) (A := upTo (16 * t7.val) (fun p => locOf (W (128 * t6.val + p))) M) (A' := upTo (16 * (t7.val + 1)) (fun p => locOf (W (128 * t6.val + p))) M)
    (hw := upTo_loc t7.val (128 * t6.val) W M) (hA := upTo_off t7.val _ _)) $$ HM
  iintro HM
  rw [Prog.pure_eq_ret, wp_ret]; imodintro
  isplitl [HW]; · iexact HW
  isplitl [HP]; · iexact HP
  iexact HM

/-! ## The block -/

theorem trips7 : k0_t7_loop.trips = 8 := by decide
theorem trips8 : k0_t8_loop.trips = 8 := by decide

/-- What a drain works with beside the list and the slab: the features, the buffers whose contents do
not matter from one block to the next, the semaphore and what the thread owes. -/
def workP (O : CellTallies nD τ sig (HIx 1)) (Ws : Waits sig (HIx 1)) (q : PosShare TreeShare) (X : ℕ → ℕ → F .f32) : sProp 𝕄 :=
  iprop(Transfers.MayWaits (thr d L) (default : HIx 1) O ∗ featP d L q X ∗ (∃ P, pidP (F := F) d L P) ∗ (∃ M, locP (F := F) d L M) ∗ (∃ R, stagP d L R)
    ∗ semVal (thr d L, SemLoc.dma cc0_scratch7.sem) 0 ∗ owed (F := F) d L O Ws)

theorem pidP_upTo (Q P : ℕ → BitVec 32) : pidP (F := F) d L (upTo (16 * k0_t7_loop.trips) Q P) ⊢ pidP d L Q := by
  unfold pidP
  rw [trips7, tab1_congr (d := S128.size) (A := upTo (16 * 8) Q P) (B := Q)]
  intro j hj
  exact if_pos hj
theorem locP_upTo (Q P : ℕ → BitVec 32) : locP (F := F) d L (upTo (16 * k0_t7_loop.trips) Q P) ⊢ locP d L Q := by
  unfold locP
  rw [trips7, tab1_congr (d := S128.size) (A := upTo (16 * 8) Q P) (B := Q)]
  intro j hj
  exact if_pos hj

/-- One block of the drain takes the slab from the state after `128 * t6` records to the state after
`128 * (t6 + 1)`, or after all `v18`. -/
theorem wp_t6 (O : CellTallies nD τ sig (HIx 1)) (Ws : Waits sig (HIx 1)) (q : PosShare TreeShare) (X : ℕ → ℕ → F .f32) (T : ℕ → ℕ → ℕ → F .f32)
    (W : ℕ → BitVec 32) (v1 : BitVec 32) (v2 : IVec S16 32) (t2 : Fin k0_t2_loop.trips) (a13 c0 c1 : BitVec 32) (t4 : Fin k0_t4_loop.trips)
    (v18 : BitVec 32) (hK : v18.toNat ≤ 10000) (hw2 : k0_chk2 v18) (t6 : Fin (k0_t6_loop v18).trips) (h6 : t6.val < 80)
    (hP : ∀ p, p < 128 → (pidOf a13 (W (128 * t6.val + p))).toNat < 400000)
    (hT : ∀ p, p < 128 → 128 * t6.val + p < v18.toNat → (locOf (W (128 * t6.val + p))).toNat < 512 ∧
      updRow (T (128 * t6.val + p)) (fun p b => X (pidOf a13 (W (128 * t6.val + p))).toNat b) (locOf (W (128 * t6.val + p))).toNat p = T (128 * t6.val + p + 1))
    (a : BitVec 32) :
    iprop(slabP d L (T (min v18.toNat (128 * t6.val))) ∗ wlP (F := F) d L W ∗ workP d L O Ws q X)
      ⊢ WP (bT6 (F := F) L v1 v2 t2 a13 c0 c1 t4 v18 hw2 t6 a)
          fun _ => iprop(slabP d L (T (min v18.toNat (128 * (t6.val + 1)))) ∗ wlP (F := F) d L W ∗ workP d L O Ws q X) := by
  unfold workP bT6 k0_t6_body
  conv => zeta
  iintro ⟨HS, HW, #Hmw, HX, ⟨%P, HP⟩, ⟨%M, HM⟩, ⟨%R, HR⟩, Hsem, HO⟩
  iapply (wp_loop d L k0_t7_loop k0_t7_ok 0#32 _
    (fun k _ => iprop(wlP (F := F) d L W ∗ pidP (F := F) d L (upTo (16 * k) (fun p => pidOf a13 (W (128 * t6.val + p))) P)
        ∗ locP (F := F) d L (upTo (16 * k) (fun p => locOf (W (128 * t6.val + p))) M)))
    (fun t7 a => wp_t7 d L W P M v1 v2 t2 a13 c0 c1 t4 v18 hw2 t6 h6 t7 a)) $$ [HW HP HM]
  · isplitl [HW]; · iexact HW
    isplitl [HP]; · iexact HP
    iexact HM
  iintro %a' ⟨HW, HP, HM⟩
  ihave HP := (pidP_upTo d L _ P) $$ HP
  ihave HM := (locP_upTo d L _ M) $$ HM
  iapply (wp_gather d L O Ws q X R (fun p => pidOf a13 (W (128 * t6.val + p))) hP _ _ _ _ _ _ _ _) $$ [HX HR HP Hsem HO]
  · isplitr; · iexact Hmw
    isplitl [HX]; · iexact HX
    isplitl [HR]; · iexact HR
    isplitl [HP]; · iexact HP
    isplitl [Hsem]; · iexact Hsem
    iexact HO
  iintro ⟨HX, HR, HP, Hsem, HO⟩
  iapply (wp_loop d L k0_t8_loop k0_t8_ok 0#32 _
    (fun k _ => iprop((slabP d L (T (min v18.toNat (128 * t6.val + (16 * k + 0)))) ∗ stagP d L (fun p b => X (pidOf a13 (W (128 * t6.val + p))).toNat b))
        ∗ locP (F := F) d L (fun p => locOf (W (128 * t6.val + p)))))
    (fun t8 a => wp_t8 d L T (fun p b => X (pidOf a13 (W (128 * t6.val + p))).toNat b) (fun p => locOf (W (128 * t6.val + p))) v18 hK t6 h6 hT t8 v1 v2 t2 a13 c0 c1 t4 _ a)) $$ [HS HR HM]
  · isplitr [HM]
    · isplitl [HS]; · iexact HS
      iexact HR
    iexact HM
  rw [trips8]
  iintro %a'' ⟨⟨HS, HR⟩, HM⟩
  rw [Prog.pure_eq_ret, wp_ret]; imodintro
  isplitl [HS]; · iexact HS
  isplitl [HW]; · iexact HW
  isplitr; · iexact Hmw
  isplitl [HX]; · iexact HX
  isplitl [HP]; · iexists _; iexact HP
  isplitl [HM]; · iexists _; iexact HM
  isplitl [HR]; · iexists _; iexact HR
  isplitl [Hsem]; · iexact Hsem
  iexact HO

end Cert.Proof

end
-- ==== Proof.Count.lean ====
/- Counting the numbers below a bound that satisfy a predicate, as a prefix sum and a compacting store of sixteen lanes do. -/
module

public import proofs.«01_k».proof.Proof.Setup
public import Mathlib.Data.Nat.Count

@[expose] public section

noncomputable section

namespace Cert.Proof

open Cert.KernelIdeal Cert.KernelIdeal.Gen
open Idealize.ShloMosaic

theorem foldl_finRange {β : Type} {n : ℕ} (f : β → Fin n → β) (b : β) (P : ℕ → β → Prop) (h0 : P 0 b)
    (step : ∀ (k : Fin n) (b : β), P k.val b → P (k.val + 1) (f b k)) : P n ((List.finRange n).foldl f b) := by
  suffices h : ∀ m (hm : m ≤ n), P m (((List.finRange n).take m).foldl f b) by
    have := h n le_rfl
    rwa [List.take_of_length_le (by rw [List.length_finRange])] at this
  intro m
  induction m with
  | zero => intro _; simpa using h0
  | succ m ih =>
      intro hm
      rw [← List.take_concat_get' (List.finRange n) m (by rw [List.length_finRange]; omega), List.foldl_append]
      have := step ⟨m, by omega⟩ _ (ih (by omega))
      simpa using this

variable (p : ℕ → Prop) [DecidablePred p]

/-- The number that satisfies the predicate and has `k` such numbers below it. -/
def nth (k : ℕ) : ℕ := @dite _ (∃ n, p n ∧ Nat.count p n = k) (Classical.propDecidable _) (fun h => Classical.choose h) fun _ => 0

theorem nth_count {n : ℕ} (hn : p n) : nth p (Nat.count p n) = n := by
  have h : ∃ m, p m ∧ Nat.count p m = Nat.count p n := ⟨n, hn, rfl⟩
  have e : nth p (Nat.count p n) = Classical.choose h := dif_pos h
  rw [e]
  obtain ⟨hm, hc⟩ := Classical.choose_spec h
  generalize Classical.choose h = m at hm hc
  rcases Nat.lt_trichotomy m n with hlt | heq | hlt
  · have := Nat.count_monotone p (Nat.succ_le_of_lt hlt)
    rw [Nat.succ_eq_add_one, Nat.count_succ, if_pos hm] at this; omega
  · exact heq
  · have := Nat.count_monotone p (Nat.succ_le_of_lt hlt)
    rw [Nat.succ_eq_add_one, Nat.count_succ, if_pos hn] at this; omega

/-- The prefix sum of a mask's ones is a difference of counts. -/
theorem scan_count (a : ℕ) (v : IVec S16 32) (hv : ∀ x : S16.Idx, v x = if p (a + co x 0) then 1#32 else 0#32) (i : S16.Idx) :
    BitVec.ofNat 32 (Nat.count p a) + scan .sum v i = BitVec.ofNat 32 (Nat.count p (a + co i 0 + 1)) := by
  have hi : co i 0 < 16 := (i 0).isLt
  unfold scan
  rw [List.foldl_filter]
  have key := foldl_finRange (n := 16) (f := fun r k => if decide (0 < k.val ∧ k.val ≤ (i 0).val) = true then ScanKind.step .sum r (v (Shape.ofLane k)) else r)
    (v (Shape.ofLane ⟨0, by decide⟩))
    (fun k r => BitVec.ofNat 32 (Nat.count p a) + r = BitVec.ofNat 32 (Nat.count p (a + max 1 (min k (co i 0 + 1))))) ?_ ?_
  · rw [show max 1 (min 16 (co i 0 + 1)) = co i 0 + 1 by omega] at key
    exact key
  · rw [hv]
    show _ + (if p (a + 0) then _ else _) = BitVec.ofNat 32 (Nat.count p (a + max 1 (min 0 (co i 0 + 1))))
    rw [show max 1 (min 0 (co i 0 + 1)) = 1 by omega, Nat.count_succ, Nat.add_zero, BitVec.ofNat_add]
    split <;> rfl
  · intro k r h
    have ei : (i 0).val = co i 0 := rfl
    by_cases hk : 0 < k.val ∧ k.val ≤ (i 0).val
    · rw [if_pos (by simpa using hk)]
      rw [show max 1 (min k.val (co i 0 + 1)) = k.val by omega] at h
      rw [show max 1 (min (k.val + 1) (co i 0 + 1)) = k.val + 1 by omega, ← Nat.add_assoc, Nat.count_succ, BitVec.ofNat_add, ← h, hv]
      show _ + (r + (if p (a + k.val) then _ else _)) = _
      rw [BitVec.add_assoc]
      split <;> rfl
    · rw [if_neg (by simpa using hk), h]
      congr 3
      omega

/-- The list `W` with the entries that the numbers from `a` up to `b` satisfying `p` have in their enumeration set to `rec` of them. -/
def listTo (a b : ℕ) (rec W : ℕ → BitVec 32) : ℕ → BitVec 32 :=
  fun k => if Nat.count p a ≤ k ∧ k < Nat.count p b then rec (nth p k) else W k

/-- A masked store at the enumeration's places is that list. -/
theorem storeIdx_list {F : FTy → Type} [FloatOps F] (a : ℕ) (rec W : ℕ → BitVec 32) (idx v : IVec S16 32) (mask : IVec S16 1)
    (h : ∀ (b : Fin S10016.rank) x, ((![idx] : Fin 1 → IVec S16 32) b x).toNat < S10016.size b)
    (hm : ∀ x, mask x = 1 ↔ p (a + co x 0)) (hi : ∀ x, p (a + co x 0) → (idx x).toNat = Nat.count p (a + co x 0)) (hv : ∀ x, v x = rec (a + co x 0)) :
    storeIdx (F := F) (s := S10016) (e := .i32) (tab1 S10016 W) ![idx] v mask false h = tab1 S10016 (listTo p a (a + 16) rec W) := by
  unfold storeIdx
  refine foldl_finRange (n := 16) _ _ (fun k (g : S10016.Idx → BitVec 32) => g = tab1 S10016 (listTo p a (a + k) rec W)) ?_ ?_
  · funext x
    show W _ = listTo p a (a + 0) rec W _
    unfold listTo
    rw [if_neg (by rw [Nat.add_zero]; omega)]
  · intro k g hg
    have ex : co (Shape.ofLane k : S16.Idx) 0 = k.val := rfl
    have hmk := hm (Shape.ofLane k)
    have hik := hi (Shape.ofLane k)
    rw [ex] at hmk hik
    by_cases hp : p (a + k.val)
    · dsimp only
      rw [if_pos (hmk.2 hp), hv, ex, hg]
      funext z
      have hc : Nat.count p (a + (k.val + 1)) = Nat.count p (a + k.val) + 1 := by
        rw [← Nat.add_assoc, Nat.count_succ, if_pos hp]
      have hmono : Nat.count p a ≤ Nat.count p (a + k.val) := Nat.count_monotone p (Nat.le_add_right _ _)
      have hz : (∀ b, (z b).val = (idxAt ![idx] h (Shape.ofLane k) b).val) ↔ co z 0 = Nat.count p (a + k.val) := by
        rw [← hik hp]
        constructor
        · intro h'; exact h' 0
        · intro h' b
          match b with
          | 0 => exact h'
      by_cases hz' : co z 0 = Nat.count p (a + k.val)
      · refine (if_pos (hz.2 hz')).trans ?_
        show rec (a + k.val) = if _ then _ else _
        rw [if_pos (by omega), hz', nth_count p hp]
      · refine (if_neg (fun h' => hz' (hz.1 h'))).trans ?_
        show (if _ then _ else _) = if _ then _ else _
        have hz' := hz'
        by_cases hl : Nat.count p a ≤ co z 0 ∧ co z 0 < Nat.count p (a + k.val)
        · rw [if_pos hl, if_pos (by omega)]
        · rw [if_neg hl, if_neg (by omega)]
    · dsimp only
      rw [if_neg (fun h' => hp (hmk.1 h')), hg]
      have hc : Nat.count p (a + (k.val + 1)) = Nat.count p (a + k.val) := by
        rw [← Nat.add_assoc, Nat.count_succ, if_neg hp, Nat.add_zero]
      unfold listTo
      rw [hc]

/-- Below the count, the enumeration is of numbers that satisfy the predicate. -/
theorem nth_spec (m j : ℕ) (h : j < Nat.count p m) : p (nth p j) ∧ nth p j < m ∧ Nat.count p (nth p j) = j := by
  induction m with
  | zero => simp at h
  | succ m ih =>
      by_cases h' : j < Nat.count p m
      · have := ih h'; exact ⟨this.1, by omega, this.2.2⟩
      · rw [Nat.count_succ] at h
        by_cases hp : p m
        · rw [if_pos hp] at h
          have e : j = Nat.count p m := by omega
          rw [e, nth_count p hp]
          exact ⟨hp, by omega, rfl⟩
        · rw [if_neg hp] at h; omega

/-- The states of a process that steps at the numbers satisfying `p`, as a sequence over those numbers alone. -/
def compact {α : Type} (M : ℕ) (S : ℕ → α) : ℕ → α := fun j => if j < Nat.count p M then S (nth p j) else S M

theorem still {α : Type} (S : ℕ → α) (hS : ∀ n, ¬ p n → S (n + 1) = S n) (a b : ℕ) (hab : a ≤ b) (h : Nat.count p a = Nat.count p b) : S a = S b := by
  induction b, hab using Nat.le_induction with
  | base => rfl
  | succ b hb ih =>
      have h1 : Nat.count p a ≤ Nat.count p b := Nat.count_monotone p hb
      rw [Nat.count_succ] at h
      have hp : ¬ p b := fun hp => by rw [if_pos hp] at h; omega
      rw [if_neg hp, Nat.add_zero] at h
      rw [ih h, hS b hp]

theorem compact_zero {α : Type} (M : ℕ) (S : ℕ → α) (hS : ∀ n, ¬ p n → S (n + 1) = S n) : compact p M S 0 = S 0 := by
  unfold compact
  split
  · rename_i h
    exact (still p S hS _ _ (Nat.zero_le _) (by rw [(nth_spec p M 0 h).2.2, Nat.count_zero])).symm
  · exact (still p S hS _ _ (Nat.zero_le _) (by rw [Nat.count_zero]; omega)).symm

theorem compact_end {α : Type} (M : ℕ) (S : ℕ → α) (j : ℕ) (h : Nat.count p M ≤ j) : compact p M S j = S M := if_neg (by omega)

theorem compact_step {α : Type} (M : ℕ) (S : ℕ → α) (hS : ∀ n, ¬ p n → S (n + 1) = S n) (j : ℕ) (h : j < Nat.count p M) :
    compact p M S j = S (nth p j) ∧ compact p M S (j + 1) = S (nth p j + 1) := by
  have hn := nth_spec p M j h
  have hc : Nat.count p (nth p j + 1) = j + 1 := by rw [Nat.count_succ, if_pos hn.1, hn.2.2]
  refine ⟨if_pos h, ?_⟩
  unfold compact
  split
  · rename_i h'
    have hn' := nth_spec p M (j + 1) h'
    refine (still p S hS _ _ ?_ (by rw [hc, hn'.2.2])).symm
    by_contra hlt
    have := Nat.count_monotone p (show nth p (j + 1) ≤ nth p j by omega)
    omega
  · exact (still p S hS _ _ hn.2.1 (by rw [hc]; omega)).symm

end Cert.Proof

end
-- ==== Proof.Scan.lean ====
/- The scan: a chunk of cells read, the tile's own ones listed by a prefix sum and a masked store. -/
module

public import proofs.«01_k».proof.Proof.Block
public import proofs.«01_k».proof.Proof.Count

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "idxW" => (Memref.whole Cert.KernelIdeal.cc0_scratch0 : Memref Cert.KernelIdeal.sig Kind.scVector Space.vmem Cert.KernelIdeal.S10000 EltTy.i32)
local notation "wlW" => (Memref.whole Cert.KernelIdeal.cc0_scratch1 : Memref Cert.KernelIdeal.sig Kind.scVector Space.vmem Cert.KernelIdeal.S10016 EltTy.i32)

/-! ## A point -/

/-- A point's cell in its round, whether the tile `v` owns that cell, and the point's record. -/
def cbW (b x : BitVec 32) : BitVec 32 := x - b * 16384#32
def mineW (v b x : BitVec 32) : Prop := (cbW b x ^^^ (cbW b x).sshiftRight' 5#32) &&& 31#32 = v
instance (v b x : BitVec 32) : Decidable (mineW v b x) := inferInstanceAs (Decidable (_ = _))
def recW (b x n : BitVec 32) : BitVec 32 := ((cbW b x).sshiftRight' 5#32 <<< 17#32) ||| n

/-- Among a chunk's points. -/
def mineC (v b : BitVec 32) (C : ℕ → BitVec 32) (j : ℕ) : Prop := mineW v b (C j)
instance (v b : BitVec 32) (C : ℕ → BitVec 32) : DecidablePred (mineC v b C) := fun _ => inferInstanceAs (Decidable (_ = _))
def recC (b : BitVec 32) (c : ℕ) (C : ℕ → BitVec 32) (j : ℕ) : BitVec 32 := recW b (C j) (BitVec.ofNat 32 (10000 * c + j))

theorem pay317_iff (v b : BitVec 32) (w : S16.Idx → BitVec 32) (x : S16.Idx) : k0_pay317 (F := F) v b w x = 1 ↔ mineW v b (w x) := by
  show BitVec.ofBool (((cbW b (w x) ^^^ (cbW b (w x)).sshiftRight' 5#32) &&& 31#32) == v) = 1#1 ↔ _
  by_cases h : ((cbW b (w x) ^^^ (cbW b (w x)).sshiftRight' 5#32) &&& 31#32) = v
  · rw [beq_iff_eq.mpr h]; exact ⟨fun _ => h, fun _ => rfl⟩
  · rw [beq_eq_false_iff_ne.mpr h]; exact ⟨fun h' => absurd h' (by decide), fun h' => absurd h' h⟩

variable (v b : BitVec 32) (C : ℕ → BitVec 32)

theorem pay318_count (m : ℕ) (x : S16.Idx) :
    BitVec.ofNat 32 (Nat.count (mineC v b C) m) + k0_pay318 (F := F) v b (tab1 S16 (fun x => C (m + x)) : S16.Idx → BitVec 32) x
      = BitVec.ofNat 32 (Nat.count (mineC v b C) (m + co x 0 + 1)) := by
  refine scan_count (mineC v b C) m _ (fun y => ?_) x
  show Scalar.select (k0_pay317 (F := F) v b _ y) 1#32 0#32 = _
  unfold Scalar.select
  have hi : k0_pay317 (F := F) v b (tab1 S16 (fun x => C (m + x)) : S16.Idx → BitVec 32) y = 1 ↔ mineC v b C (m + co y 0) :=
    pay317_iff v b (tab1 S16 (fun x => C (m + x))) y
  by_cases h : mineC v b C (m + co y 0)
  · rw [if_pos h, if_pos (hi.2 h)]
  · rw [if_neg h, if_neg (fun h' => h (hi.1 h'))]

theorem pay320_rec (t4 : Fin k0_t4_loop.trips) (t5 : Fin k0_t5_loop.trips) (x : S16.Idx) :
    k0_pay320 (F := F) (iota .scVector S16 32 [0] iota_S16_d0_w32_scVector) b 0#32 1#32 t4 t5 (tab1 S16 (fun x => C (16 * t5.val + x)) : S16.Idx → BitVec 32) x
      = recC b t4.val C (16 * t5.val + co x 0) := by
  have e : (0#32 + BitVec.ofNat 32 t4.val * 1#32) * 10000#32 + (0#32 + BitVec.ofNat 32 t5.val * 1#32) * 16#32 + BitVec.ofNat 32 (0 * 16 + co x 0)
      = BitVec.ofNat 32 (10000 * t4.val + (16 * t5.val + co x 0)) := by
    apply BitVec.eq_of_toNat_eq
    simp only [BitVec.toNat_add, BitVec.toNat_mul, BitVec.toNat_ofNat]
    omega
  exact congrArg (recW b (C (16 * t5.val + co x 0))) e

/-- The place a lane's record is stored at. -/
theorem pay321_place (m : ℕ) (hm : m ≤ 9984) (x : S16.Idx) :
    (k0_pay321 (F := F) v b (BitVec.ofNat 32 (Nat.count (mineC v b C) m)) (tab1 S16 (fun x => C (m + x)) : S16.Idx → BitVec 32) x).toNat
      = Nat.count (mineC v b C) (m + co x 0 + 1) - 1 := by
  have hx : co x 0 < 16 := (x 0).isLt
  have hc : Nat.count (mineC v b C) (m + co x 0 + 1) ≤ m + co x 0 + 1 := Nat.count_le _
  have e := pay318_count (F := F) v b C m x
  show (IntOp.maxsi (BitVec.ofNat 32 (Nat.count (mineC v b C) m) + k0_pay318 (F := F) v b (tab1 S16 (fun x => C (m + x)) : S16.Idx → BitVec 32) x - 1#32) 0#32).toNat = _
  rw [e]
  generalize Nat.count (mineC v b C) (m + co x 0 + 1) = n at hc ⊢
  unfold IntOp.maxsi
  cases n with
  | zero => decide
  | succ n =>
      have e1 : (BitVec.ofNat 32 (n + 1) - 1#32).toNat = n := by
        rw [BitVec.toNat_sub]; simp only [BitVec.toNat_ofNat]; omega
      have hs : (0#32).slt (BitVec.ofNat 32 (n + 1) - 1#32) = decide (0 < n) := by
        rw [slt_small _ _ (by decide) (by omega), e1]; rfl
      rw [hs]
      by_cases hn : 0 < n
      · rw [if_pos (decide_eq_true hn), e1]; rfl
      · rw [if_neg (by simpa using hn)]; show 0 = n; omega

theorem last_lane (V : IVec S16 32) :
    extractAt ![0] (extractStridedSlice S1 ![15] V slices_S16_o15_S1) inpos_S1_p0 = V (fun a => ⟨15, by rw [Fin.eq_zero a]; decide⟩) := by
  unfold extractAt extractStridedSlice
  refine congrArg V (funext fun a => ?_)
  rw [Fin.eq_zero a]; rfl

theorem cond1_iff (n : ℕ) (hn : n ≤ 16) : k0_cond1 (BitVec.ofNat 32 n) = 1#1 ↔ 0 < n := by
  have : ∀ n : Fin 17, k0_cond1 (BitVec.ofNat 32 n.val) = 1#1 ↔ 0 < n.val := by decide
  exact this ⟨n, by omega⟩

theorem listTo_trans (p : ℕ → Prop) [DecidablePred p] (r W : ℕ → BitVec 32) (a c : ℕ) (h : a ≤ c) :
    listTo p a c r (listTo p 0 a r W) = listTo p 0 c r W := by
  have := Nat.count_monotone p h
  funext k
  unfold listTo
  rw [Nat.count_zero]
  by_cases h1 : Nat.count p a ≤ k ∧ k < Nat.count p c
  · rw [if_pos h1, if_pos (by omega)]
  · rw [if_neg h1]
    by_cases h2 : k < Nat.count p a
    · rw [if_pos ⟨Nat.zero_le _, h2⟩, if_pos (by omega)]
    · rw [if_neg (by omega), if_neg (by omega)]

/-! ## The program -/

abbrev idxP (C : ℕ → BitVec 32) : sProp 𝕄 := (idxW).view.loc (thr d L) ↦{fullShare} (tab1 S10000 C : S10000.Idx → BitVec 32)

theorem read_whole {cs : CoreSpace} {s : Shape} {e : EltTy} (m : Memref sig .scVector cs s e) (f : m.view.ty.Contents (Elt F)) :
    (m.access (.whole s)).read (Elt F) f = m.view.read (Elt F) f := by
  funext x
  show m.view.read (Elt F) f ((Rect.whole s).emb x) = _
  congr 1
  exact funext fun a => Fin.ext (by show 0 + 1 * (x a).val = (x a).val; omega)

theorem write_whole {cs : CoreSpace} {s : Shape} {e : EltTy} (m : Memref sig .scVector cs s e) (hi : Function.Injective (m.view.read (Elt F)))
    (f f' : m.view.ty.Contents (Elt F)) (w : s.Idx → Elt F e) (hw : m.view.read (Elt F) f' = w) :
    (m.access (.whole s)).write (Elt F) f w Finset.univ = f' := by
  refine hi (funext fun j => ?_)
  have ej : (Rect.whole s).emb j = j := funext fun a => Fin.ext (by show 0 + 1 * (j a).val = (j a).val; omega)
  have := View.read_slice_write_emb (v := m.view) (Rect.whole s) f w (Finset.mem_univ j)
  rw [ej] at this
  rw [hw]; exact this

/-- A masked store of a vector's lanes to a buffer. -/
theorem wp_put {β : Type} {s : Shape} {e : EltTy} {n : Fin 1 → ℕ} (m : Memref sig .scVector .vmem s e) (hi : Function.Injective (m.view.read (Elt F)))
    (f f' : m.view.ty.Contents (Elt F)) (idx : Fin s.rank → IVec ⟨1, n⟩ 32) (v : Vec F ⟨1, n⟩ e) (mask : IVec ⟨1, n⟩ 1)
    (h : ∀ (b : Fin s.rank) x, (idx b x).toNat < s.size b) (hs : (m.access (.whole s)).Stores Finset.univ)
    (hf : storeIdx (F := F) (s := s) (e := e) (m.view.read (Elt F) f) idx v mask false h = m.view.read (Elt F) f')
    (k : PUnit → Prog (TpuEff nD τ sig (Elt F) Λ₀ (thr d L).2) β) (Q : β → sProp 𝕄) :
    (m.view.loc (thr d L) ↦{fullShare} f : sProp 𝕄)
      ⊢ iprop(((m.view.loc (thr d L) ↦{fullShare} f') -∗ WP (k ⟨⟩) Q) -∗ WP (SparseCore.vectorStoreIdx m idx v mask false h hs >>= k) Q) := by
  have hb : (SparseCore.vectorStoreIdx m idx v mask false h hs >>= k : Prog (TpuEff nD τ sig (Elt F) Λ₀ (thr d L).2) β)
      = .op (.load m (.whole s) (View.loadsAt_rect hs.loads)) fun f =>
        .op (.store m (.whole s) (storeIdx (F := F) (s := s) (e := e) f idx v mask false h) Finset.univ hs (.inl rfl)) k := rfl
  rw [hb, ← write_whole m hi f f' _ hf.symm, ← read_whole m f]
  iintro H Hk
  iapply (wp_load_rect (defs := defs₀) 𝒱₀ (thr d L) none Set.univ (Q := Q) (m := m) (r := Rect.whole s) (q := fullShare) (f := f) (S := Finset.univ) (Finset.subset_univ _)) $$ H
  iintro H
  iapply (wp_store 𝒱₀ (thr d L) none Set.univ (m := m) (r := Rect.whole s) (S := Finset.univ) (Finset.subset_univ _)) $$ H
  iexact Hk

abbrev bT5 (t2 : Fin k0_t2_loop.trips) (t4 : Fin k0_t4_loop.trips) (t5 : Fin k0_t5_loop.trips) (a : BitVec 32) :=
  k0_t5_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v (iota .scVector S16 32 [0] iota_S16_d0_w32_scVector) t2 b 0#32 1#32 t4 t5 a

theorem wp_t5 (W : ℕ → BitVec 32) (t2 : Fin k0_t2_loop.trips) (t4 : Fin k0_t4_loop.trips) (t5 : Fin k0_t5_loop.trips) (a : BitVec 32) :
    iprop(⌜a = BitVec.ofNat 32 (Nat.count (mineC v b C) (16 * t5.val))⌝ ∗ idxP (F := F) d L C ∗ wlP (F := F) d L (listTo (mineC v b C) 0 (16 * t5.val) (recC b t4.val C) W))
      ⊢ WP (bT5 (F := F) L v b t2 t4 t5 a)
          fun r => iprop(⌜r = BitVec.ofNat 32 (Nat.count (mineC v b C) (16 * (t5.val + 1)))⌝ ∗ idxP (F := F) d L C
            ∗ wlP (F := F) d L (listTo (mineC v b C) 0 (16 * (t5.val + 1)) (recC b t4.val C) W)) := by
  have h5 : t5.val < 625 := lt_of_lt_of_le t5.isLt k0_t5_abs.2.1
  have hc16 : Nat.count (mineC v b C) (16 * t5.val + 16) ≤ Nat.count (mineC v b C) (16 * t5.val) + 16 := by
    rw [Nat.count_add]; exact Nat.add_le_add_left (Nat.count_le _) _
  have hmono : Nat.count (mineC v b C) (16 * t5.val) ≤ Nat.count (mineC v b C) (16 * t5.val + 16) := Nat.count_monotone _ (Nat.le_add_right _ _)
  have hn : 16 * (t5.val + 1) = 16 * t5.val + 16 := by omega
  have e64 : extractAt ![0] (k0_pay319 (F := F) v b (tab1 S16 (fun x => C (16 * t5.val + x)) : S16.Idx → BitVec 32)) inpos_S1_p0
      = BitVec.ofNat 32 (Nat.count (mineC v b C) (16 * t5.val + 16) - Nat.count (mineC v b C) (16 * t5.val)) := by
    have e := pay318_count (F := F) v b C (16 * t5.val) (fun a => ⟨15, by rw [Fin.eq_zero a]; decide⟩)
    have e' : extractAt ![0] (k0_pay319 (F := F) v b (tab1 S16 (fun x => C (16 * t5.val + x)) : S16.Idx → BitVec 32)) inpos_S1_p0
      = k0_pay318 (F := F) v b (tab1 S16 (fun x => C (16 * t5.val + x)) : S16.Idx → BitVec 32) (fun a => ⟨15, by rw [Fin.eq_zero a]; decide⟩) := by
      exact last_lane _
    rw [e', ← BitVec.add_right_inj (BitVec.ofNat 32 (Nat.count (mineC v b C) (16 * t5.val))), e, ← BitVec.ofNat_add]
    congr 1
    show Nat.count (mineC v b C) (16 * t5.val + 16) = _
    omega
  rw [hn]
  unfold bT5 k0_t5_body
  conv => zeta
  simp only [Prog.bind_lift]
  iintro ⟨%ha, HC, HW⟩
  iapply (wp_ld1 d L idxW _ _ (k0_off4_inb t5) (A := C) (o := 16 * t5.val) (hr := rfl) (ho := congrFun (k0_off4_eq t5) 0)) $$ HC; iintro HC
  have fin : ∀ (v64 : BitVec 32) (_ : v64 = BitVec.ofNat 32 (Nat.count (mineC v b C) (16 * t5.val + 16) - Nat.count (mineC v b C) (16 * t5.val))) (W' : ℕ → BitVec 32), W' = listTo (mineC v b C) 0 (16 * t5.val + 16) (recC b t4.val C) W →
      iprop(idxP (F := F) d L C ∗ wlP (F := F) d L W')
        ⊢ WP (pure (Scalar.addi a v64) : Prog (TpuEff nD τ sig (Elt F) Λ₀ (thr d L).2) (BitVec 32))
          fun r => iprop(⌜r = BitVec.ofNat 32 (Nat.count (mineC v b C) (16 * t5.val + 16))⌝ ∗ idxP (F := F) d L C
            ∗ wlP (F := F) d L (listTo (mineC v b C) 0 (16 * t5.val + 16) (recC b t4.val C) W)) := by
    intro v64 h64 W' hW'
    subst hW' ha h64
    iintro ⟨HC, HW⟩
    rw [Prog.pure_eq_ret, wp_ret]; imodintro
    isplitr
    · ipureintro
      show BitVec.ofNat 32 _ + BitVec.ofNat 32 _ = _
      rw [← BitVec.ofNat_add]; congr 1; omega
    isplitl [HC]; · iexact HC
    iexact HW
  have hm : ∀ x, k0_pay317 (F := F) v b (tab1 S16 (fun x => C (16 * t5.val + x)) : S16.Idx → BitVec 32) x = 1 ↔ mineC v b C (16 * t5.val + co x 0) :=
    fun x => pay317_iff v b (tab1 S16 (fun x => C (16 * t5.val + x))) x
  have hr := pay320_rec (F := F) b C t4 t5
  have hi := pay321_place (F := F) v b C (16 * t5.val) (by omega)
  rw [← ha] at hi
  change _ ⊢ _
  generalize hV : (tab1 S16 (fun x => C (16 * t5.val + x)) : S16.Idx → BitVec 32) = V at e64 hm hr hi
  have hcn : k0_cond1 (extractAt ![0] (k0_pay319 (F := F) v b V) inpos_S1_p0) = 1#1 ↔ 0 < Nat.count (mineC v b C) (16 * t5.val + 16) - Nat.count (mineC v b C) (16 * t5.val) := by
    rw [e64]; exact cond1_iff _ (by omega)
  iintro ⟨HW, HC⟩
  by_cases hc : k0_cond1 (extractAt ![0] (k0_pay319 (F := F) v b V) inpos_S1_p0) = 1#1
  · rw [dif_pos hc]
    have hchk : k0_chk1 (extractAt ![0] (k0_pay319 (F := F) v b V) inpos_S1_p0) (k0_pay321 (F := F) v b a V) := by
      intro _ ax x
      match ax with
      | 0 =>
        show (k0_pay321 (F := F) v b _ V x).toNat < 10016
        have hx : co x 0 < 16 := (x 0).isLt
        have := Nat.count_le (mineC v b C) (n := 16 * t5.val + co x 0 + 1)
        rw [hi x]; omega
    have hf := storeIdx_list (F := F) (mineC v b C) (16 * t5.val) (recC b t4.val C) (listTo (mineC v b C) 0 (16 * t5.val) (recC b t4.val C) W)
      (k0_pay321 (F := F) v b a V) (k0_pay320 (F := F) (iota .scVector S16 32 [0] iota_S16_d0_w32_scVector) b 0#32 1#32 t4 t5 V) (k0_pay317 (F := F) v b V) (hchk hc) hm
      (fun x hx => by rw [hi x, Nat.count_succ, if_pos hx]; rfl) hr
    have hiW : Function.Injective ((wlW).view.read (Elt F)) := fun _ _ h => h
    iapply (wp_assume 𝒱₀ (thr d L) none Set.univ hchk)
    iapply (wp_put d L wlW hiW (tab1 S10016 (listTo (mineC v b C) 0 (16 * t5.val) (recC b t4.val C) W) : S10016.Idx → BitVec 32)
      (tab1 S10016 (listTo (mineC v b C) (16 * t5.val) (16 * t5.val + 16) (recC b t4.val C)
        (listTo (mineC v b C) 0 (16 * t5.val) (recC b t4.val C) W)) : S10016.Idx → BitVec 32) _ _ _ (hchk hc) _ hf) $$ HW
    iintro HW
    iapply (fin _ e64 _ (listTo_trans (mineC v b C) (recC b t4.val C) W (16 * t5.val) (16 * t5.val + 16) (Nat.le_add_right _ _))) $$ [HC HW]
    isplitl [HC]; · iexact HC
    iexact HW
  · rw [dif_neg hc]
    rw [hcn] at hc
    iapply (fin _ e64 _ ?_) $$ [HC HW]
    · funext k
      unfold listTo
      rw [show Nat.count (mineC v b C) (16 * t5.val + 16) = Nat.count (mineC v b C) (16 * t5.val) by omega]
    isplitl [HC]; · iexact HC
    iexact HW

end Cert.Proof

end
-- ==== Proof.Chunk.lean ====
/- A chunk: its cells fetched, scanned and drained. -/
module

public import proofs.«01_k».proof.Proof.Scan

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "flatW" => (Memref.whole Cert.KernelIdeal.main_v0_scv : Memref Cert.KernelIdeal.sig Kind.scVector Space.hbm Cert.KernelIdeal.S400000 EltTy.i32)
local notation "idxW" => (Memref.whole Cert.KernelIdeal.cc0_scratch0 : Memref Cert.KernelIdeal.sig Kind.scVector Space.vmem Cert.KernelIdeal.S10000 EltTy.i32)

abbrev flatP (q : PosShare TreeShare) (fl : ℕ → BitVec 32) : sProp 𝕄 := (flatW).view.loc (thr d L) ↦{q} (tab1 S400000 fl : S400000.Idx → BitVec 32)

/-- The copy of a chunk of the cells and its wait. -/
theorem wp_fetch {β : Type} (O : CellTallies nD τ sig (HIx 1)) (W : Waits sig (HIx 1)) (q : PosShare TreeShare) (fl C : ℕ → BitVec 32)
    (off : Fin 1 → ℕ) (h : ∀ a, off a + S10000.size a ≤ S400000.size a) (o : ℕ) (ho : off 0 = o)
    (k : PUnit → Prog (TpuEff nD τ sig (Elt F) Λ₀ (thr d L).2) β) (Q : β → sProp 𝕄) (h1 h2 h3 h4 h5) :
    iprop(Transfers.MayWaits (thr d L) (default : HIx 1) O ∗ flatP (F := F) d L q fl ∗ idxP (F := F) d L C ∗ semVal (thr d L, SemLoc.dma cc0_scoped0.sem) 0 ∗ owed (F := F) d L O W)
      ⊢ iprop((flatP (F := F) d L q fl ∗ idxP (F := F) d L (fun j => fl (o + j)) ∗ semVal (thr d L, SemLoc.dma cc0_scoped0.sem) 0 ∗ owed (F := F) d L O W -∗ WP (k ⟨⟩) Q)
        -∗ WP (.op (.enqueueDma ((flatW).slice (Rect.unit (s := S400000) off S10000.size h) (fun _ => rfl)) (.here (idxW)) (.dma cc0_scoped0.sem) h1 h2 h3) fun _ =>
            .op (.waitDma2 cc0_scoped0.sem ((flatW).slice (Rect.unit (s := S400000) off S10000.size h) (fun _ => rfl)) (idxW) h4 h5) k) Q) := by
  unfold owed
  iintro ⟨#Hmw, Hx, Hr, Hsem, ⟨%W', %hW, HO⟩⟩ HK
  have hsplit := (pointsTo_split_subset (Ix := HIx 1) (Lvl := ℕ) (Name := ℕ) (U := UU) (Val := Elt F) (ℓ := (flatW).view.loc (thr d L)) (I := ((flatW).slice (Rect.unit (s := S400000) off S10000.size h) (fun _ => rfl)).view.set) (q := q) (f := (tab1 S400000 fl : S400000.Idx → BitVec 32)) (S := Finset.univ)
    (fun x _ => Finset.mem_univ x))
  ihave Hxs := hsplit.1 $$ Hx
  icases Hxs with ⟨Hxs, Hxr⟩
  have hrs : (idxW).view.set = Finset.univ := View.set_whole _
  iapply (Transfers.wp_dmaLocal countersEmb 𝒱₀ (thr d L) none (fs := (tab1 S400000 fl : S400000.Idx → BitVec 32)) (fd := (tab1 S10000 C : S10000.Idx → BitVec 32)) (q := q) (default : HIx 1)
      (idxW).view.dmaCredit rfl (by decide) (Sd := Finset.univ) (Finset.subset_univ _)) $$ [Hxs Hr Hsem]
  · isplitl [Hxs]; · iexact Hxs
    isplitl [Hr]; · iexact Hr
    iexact Hsem
  iintro Hfl
  iapply (Transfers.wp_waitLocalO countersEmb 𝒱₀ (thr d L) none (default : HIx 1) (rfl : (idxW).view.dmaCredit = _)) $$ [Hfl HO]
  · isplitl [Hfl]; · iexact Hfl
    isplitl [HO]; · iexact HO
    iapply (Transfers.MayWaits.elim (SemLoc.dma cc0_scoped0.sem)) $$ Hmw
  iintro ⟨⟨Hr, Hxs⟩, Hsem, HO⟩
  ihave Hx := hsplit.2 $$ [Hxs Hxr]
  · isplitl [Hxs] <;> iassumption
  have ep : ((flatW).slice (Rect.unit (s := S400000) off S10000.size h) (fun _ => rfl)).view.read (Elt F) (tab1 S400000 fl : S400000.Idx → BitVec 32)
      = (tab1 S10000 (fun j => fl (o + j)) : S10000.Idx → BitVec 32) := by
    funext x
    show tab1 S400000 fl ((Rect.unit (s := S400000) off S10000.size h).emb x) = _
    rw [tab1_emb, ho]; rfl
  have ev := (View.write_whole_univ (Val := Elt F) cc0_scratch0 (tab1 S10000 C : S10000.Idx → BitVec 32)
      (((flatW).slice (Rect.unit (s := S400000) off S10000.size h) (fun _ => rfl)).view.read (Elt F) (tab1 S400000 fl : S400000.Idx → BitVec 32))).trans ep
  ihave Hr := (Entails.of_eq (congrArg (fun f => ((idxW).view.loc (thr d L) ↦{fullShare} f : sProp 𝕄)) ev)) $$ Hr
  iapply HK
  isplitl [Hx]; · iexact Hx
  isplitl [Hr]; · iexact Hr
  isplitl [Hsem]; · iexact Hsem
  iexists _; isplitr
  swap; · iexact HO
  ipureintro; intro p hp
  rcases Finset.mem_insert.mp hp with hp | hp
  · exact .inr (hp ▸ rfl)
  · exact hW p hp

end Cert.Proof

end
-- ==== Proof.Records.lean ====
/- A record's two fields, and the states a slab goes through over a round. -/
module

public import proofs.«01_k».proof.Proof.Scan

@[expose] public section

noncomputable section

namespace Cert.Proof

open Cert.KernelIdeal Cert.KernelIdeal.Gen
open Idealize.ShloMosaic

/-! ## A record's fields -/

theorem sshr_small (x : BitVec 32) (hx : x.toNat < 2 ^ 31) (s : BitVec 32) : (x.sshiftRight' s).toNat = x.toNat / 2 ^ s.toNat := by
  unfold BitVec.sshiftRight'
  rw [BitVec.sshiftRight_eq_of_msb_false, BitVec.toNat_ushiftRight, Nat.shiftRight_eq_div_pow]
  rw [BitVec.msb_eq_false_iff_two_mul_lt]; omega

theorem pack_toNat (y m : BitVec 32) (hy : y.toNat < 512) (hm : m.toNat < 131072) : ((y <<< 17#32) ||| m).toNat = y.toNat * 131072 + m.toNat := by
  have e1 : (y <<< 17#32).toNat = y.toNat <<< 17 := by
    show (y <<< (17 : ℕ)).toNat = _
    rw [BitVec.toNat_shiftLeft, Nat.shiftLeft_eq, Nat.mod_eq_of_lt (by omega)]
  rw [BitVec.toNat_or, e1, ← Nat.shiftLeft_add_eq_or_of_lt (by omega), Nat.shiftLeft_eq]

theorem low_toNat (w : BitVec 32) : (w &&& 131071#32).toNat = w.toNat % 131072 := by
  rw [BitVec.toNat_and]
  exact Nat.and_two_pow_sub_one_eq_mod w.toNat 17

/-- A list entry that names a point of a round, whatever the round. -/
def Good (w : BitVec 32) : Prop := (w &&& 131071#32).toNat < 100000

theorem good_zero : Good 0#32 := by show (0#32 &&& 131071#32).toNat < 100000; decide

theorem pid_good (w : BitVec 32) (h : Good w) (bb : ℕ) (hb : bb < 4) : (pidOf (BitVec.ofNat 32 bb) w).toNat = 100000 * bb + (w &&& 131071#32).toNat := by
  unfold Good at h
  unfold pidOf
  rw [BitVec.toNat_add, BitVec.toNat_mul]
  simp only [BitVec.toNat_ofNat]
  omega

variable (b x : BitVec 32) (hx : (cbW b x).toNat < 16384) (n : ℕ) (hn : n < 100000)
include hx

theorem row_toNat : ((cbW b x).sshiftRight' 5#32).toNat = (cbW b x).toNat / 32 := sshr_small _ (by omega) _

include hn
theorem rec_toNat : (recW b x (BitVec.ofNat 32 n)).toNat = (cbW b x).toNat / 32 * 131072 + n := by
  have h1 := row_toNat b x hx
  unfold recW
  rw [pack_toNat _ _ (by omega) (by simp only [BitVec.toNat_ofNat]; omega), h1]
  simp only [BitVec.toNat_ofNat]; omega

theorem rec_low : (recW b x (BitVec.ofNat 32 n) &&& 131071#32).toNat = n := by
  rw [low_toNat, rec_toNat b x hx n hn]; omega

theorem rec_loc : (locOf (recW b x (BitVec.ofNat 32 n))).toNat = (cbW b x).toNat / 32 := by
  have h := rec_toNat b x hx n hn
  unfold locOf
  rw [show (recW b x (BitVec.ofNat 32 n)).sshiftRight 17 = (recW b x (BitVec.ofNat 32 n)).sshiftRight' 17#32 from rfl, sshr_small _ (by omega)]
  rw [h]
  show (_ / 2 ^ 17 : ℕ) = _
  omega

theorem rec_good : Good (recW b x (BitVec.ofNat 32 n)) := by
  unfold Good; rw [rec_low b x hx n hn]; exact hn

omit hx hn

/-! ## The slab over a round -/

variable {F : FTy → Type} [FloatOps F]

def zeroF : F .f32 := Scalar.ofBits .f32 0x00000000#32

/-- The tile `v`'s slab after the first `n` points of round `bb`: each point the tile owns has raised its
cell's row to the maximum with the point's features. -/
def slabN (X : ℕ → ℕ → F .f32) (fl : ℕ → BitVec 32) (bb : ℕ) (v : BitVec 32) : ℕ → ℕ → ℕ → F .f32
  | 0 => fun _ _ => zeroF
  | n + 1 => if mineW v (BitVec.ofNat 32 bb) (fl (100000 * bb + n)) then
      updRow (slabN X fl bb v n) (fun _ c => X (100000 * bb + n) c) ((cbW (BitVec.ofNat 32 bb) (fl (100000 * bb + n))).toNat / 32) 0
    else slabN X fl bb v n

/-- Every cell of the round is one of its round's. -/
def InRound (fl : ℕ → BitVec 32) (bb : ℕ) : Prop := ∀ n, n < 100000 → (cbW (BitVec.ofNat 32 bb) (fl (100000 * bb + n))).toNat < 16384

variable (X : ℕ → ℕ → F .f32) (fl : ℕ → BitVec 32) (bb : ℕ) (v : BitVec 32)

/-- Chunk `c` of the round, the points of it that are the tile's, and the slab after its first `m` points. -/
def chunkC (c : ℕ) : ℕ → BitVec 32 := fun j => fl (100000 * bb + 10000 * c + j)
abbrev mineN (c : ℕ) : ℕ → Prop := mineC v (BitVec.ofNat 32 bb) (chunkC fl bb c)
def chunkS (c : ℕ) : ℕ → ℕ → ℕ → F .f32 := fun m => slabN X fl bb v (10000 * c + m)

theorem chunkS_still (c n : ℕ) (h : ¬ mineN fl bb v c n) : chunkS X fl bb v c (n + 1) = chunkS X fl bb v c n := by
  show (if mineW v (BitVec.ofNat 32 bb) (fl (100000 * bb + (10000 * c + n))) then _ else _) = _
  rw [if_neg]
  · rfl
  · rw [← Nat.add_assoc]; exact h

theorem chunkS_step (c n : ℕ) (h : mineN fl bb v c n) :
    chunkS X fl bb v c (n + 1) = updRow (chunkS X fl bb v c n) (fun _ b => X (100000 * bb + (10000 * c + n)) b) ((cbW (BitVec.ofNat 32 bb) (chunkC fl bb c n)).toNat / 32) 0 := by
  have e : fl (100000 * bb + (10000 * c + n)) = chunkC fl bb c n := by unfold chunkC; rw [Nat.add_assoc]
  show (if mineW v (BitVec.ofNat 32 bb) (fl (100000 * bb + (10000 * c + n))) then _ else _) = _
  rw [e]
  refine (if_pos h).trans ?_
  rw [← e]; rfl

/-- The drain's record `j` takes the slab from its state before record `j` to the one after. -/
theorem drain_step (hb : bb < 4) (hin : InRound fl bb) (c : ℕ) (hc : c < 10) (W W' : ℕ → BitVec 32)
    (hW : W = listTo (mineN fl bb v c) 0 10000 (recC (BitVec.ofNat 32 bb) c (chunkC fl bb c)) W') (j p : ℕ) (hj : j < Nat.count (mineN fl bb v c) 10000) :
    (locOf (W j)).toNat < 512 ∧
      updRow (compact (mineN fl bb v c) 10000 (chunkS X fl bb v c) j) (fun _ b => X (pidOf (BitVec.ofNat 32 bb) (W j)).toNat b) (locOf (W j)).toNat p
        = compact (mineN fl bb v c) 10000 (chunkS X fl bb v c) (j + 1) := by
  obtain ⟨hm, hlt, hcount⟩ := nth_spec (mineN fl bb v c) 10000 j hj
  obtain ⟨e1, e2⟩ := compact_step (mineN fl bb v c) 10000 (chunkS X fl bb v c) (chunkS_still X fl bb v c) j hj
  have eW : W j = recC (BitVec.ofNat 32 bb) c (chunkC fl bb c) (nth (mineN fl bb v c) j) := by
    rw [hW]; unfold listTo; rw [Nat.count_zero, if_pos ⟨Nat.zero_le _, hj⟩]
  rw [e1, e2, eW, chunkS_step X fl bb v c _ hm]
  generalize nth (mineN fl bb v c) j = n at hm hlt hcount
  have hcell : (cbW (BitVec.ofNat 32 bb) (chunkC fl bb c n)).toNat < 16384 := by
    unfold chunkC; rw [Nat.add_assoc]; exact hin _ (by omega)
  have hl := rec_loc (BitVec.ofNat 32 bb) (chunkC fl bb c n) hcell (10000 * c + n) (by omega)
  have hg := rec_good (BitVec.ofNat 32 bb) (chunkC fl bb c n) hcell (10000 * c + n) (by omega)
  have hp := pid_good _ hg bb hb
  rw [rec_low (BitVec.ofNat 32 bb) (chunkC fl bb c n) hcell (10000 * c + n) (by omega)] at hp
  unfold recC
  rw [hl, hp]
  exact ⟨by omega, rfl⟩

theorem list_good (hb : bb < 4) (hin : InRound fl bb) (c : ℕ) (hc : c < 10) (m : ℕ) (hm : m ≤ 10000) (W : ℕ → BitVec 32) (hW : ∀ j, Good (W j)) :
    ∀ j, Good (listTo (mineN fl bb v c) 0 m (recC (BitVec.ofNat 32 bb) c (chunkC fl bb c)) W j) := by
  intro j
  unfold listTo
  rw [Nat.count_zero]
  by_cases h : 0 ≤ j ∧ j < Nat.count (mineN fl bb v c) m
  · rw [if_pos h]
    have hlt := (nth_spec (mineN fl bb v c) m j h.2).2.1
    generalize hn : nth (mineN fl bb v c) j = n at hlt ⊢
    refine rec_good _ _ ?_ _ (by omega)
    unfold chunkC; rw [Nat.add_assoc]; exact hin _ (by omega)
  · rw [if_neg h]; exact hW j

theorem compact_first (c : ℕ) : compact (mineN fl bb v c) 10000 (chunkS X fl bb v c) 0 = slabN X fl bb v (10000 * c) :=
  compact_zero _ _ _ (chunkS_still X fl bb v c)

theorem compact_last (c j : ℕ) (h : Nat.count (mineN fl bb v c) 10000 ≤ j) :
    compact (mineN fl bb v c) 10000 (chunkS X fl bb v c) j = slabN X fl bb v (10000 * (c + 1)) := by
  rw [compact_end _ _ _ _ h]; unfold chunkS; congr 1

/-- The records of a chunk: the parts of each are in range, and draining them one by one takes the slab
from before the chunk to after it. -/
theorem chunk_facts (hb : bb < 4) (hin : InRound fl bb) (c : ℕ) (hc : c < 10) (W : ℕ → BitVec 32) (hW : ∀ j, Good (W j)) :
    (∀ j, Good (listTo (mineN fl bb v c) 0 (16 * 625) (recC (BitVec.ofNat 32 bb) c (chunkC fl bb c)) W j)) ∧
      ∃ T : ℕ → ℕ → ℕ → F .f32, T 0 = slabN X fl bb v (10000 * c) ∧ (∀ j, Nat.count (mineN fl bb v c) 10000 ≤ j → T j = slabN X fl bb v (10000 * (c + 1))) ∧
        ∀ j p, j < Nat.count (mineN fl bb v c) 10000 →
          (locOf (listTo (mineN fl bb v c) 0 (16 * 625) (recC (BitVec.ofNat 32 bb) c (chunkC fl bb c)) W j)).toNat < 512 ∧
            updRow (T j) (fun _ b => X (pidOf (BitVec.ofNat 32 bb) (listTo (mineN fl bb v c) 0 (16 * 625) (recC (BitVec.ofNat 32 bb) c (chunkC fl bb c)) W j)).toNat b)
              (locOf (listTo (mineN fl bb v c) 0 (16 * 625) (recC (BitVec.ofNat 32 bb) c (chunkC fl bb c)) W j)).toNat p = T (j + 1) :=
  ⟨list_good fl bb v hb hin c hc (16 * 625) (by omega) W hW, compact (mineN fl bb v c) 10000 (chunkS X fl bb v c), compact_first X fl bb v c,
    compact_last X fl bb v c, fun j p => drain_step X fl bb v hb hin c hc _ W rfl j p⟩

end Cert.Proof

end
-- ==== Proof.Trip.lean ====
/- A trip of the chunk loop: the chunk's cells fetched, scanned and drained. -/
module

public import proofs.«01_k».proof.Proof.Chunk
public import proofs.«01_k».proof.Proof.Block
public import proofs.«01_k».proof.Proof.Records

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "flatW" => (Memref.whole Cert.KernelIdeal.main_v0_scv : Memref Cert.KernelIdeal.sig Kind.scVector Space.hbm Cert.KernelIdeal.S400000 EltTy.i32)
local notation "idxW" => (Memref.whole Cert.KernelIdeal.cc0_scratch0 : Memref Cert.KernelIdeal.sig Kind.scVector Space.vmem Cert.KernelIdeal.S10000 EltTy.i32)

abbrev bT4 (v1 b : BitVec 32) (t2 : Fin k0_t2_loop.trips) (t4 : Fin k0_t4_loop.trips) (a : BitVec 32) :=
  k0_t4_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v1 (iota .scVector S16 32 [0] iota_S16_d0_w32_scVector) t2 b t4 a

theorem listTo_nil (p : ℕ → Prop) [DecidablePred p] (rec W : ℕ → BitVec 32) : listTo p 0 (16 * 0) rec W = W := by
  funext k
  unfold listTo
  exact if_neg fun h => Nat.lt_irrefl _ (lt_of_le_of_lt h.1 h.2)

theorem trips5 : k0_t5_loop.trips = 625 := by decide

abbrev bT9 (v1 b : BitVec 32) (t2 : Fin k0_t2_loop.trips) (t4 : Fin k0_t4_loop.trips) (v18 : BitVec 32) (hw2 : k0_chk2 v18) (v42 : BitVec 32) :=
  k0_t9_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 v1 (iota .scVector S16 32 [0] iota_S16_d0_w32_scVector) t2 b 0#32 1#32 t4 v18 hw2 v42

/-- The drain: `v18` records, in blocks of 128. -/
theorem wp_drain {β : Type} (O : CellTallies nD τ sig (HIx 1)) (Ws : Waits sig (HIx 1)) (q : PosShare TreeShare) (X : ℕ → ℕ → F .f32) (T : ℕ → ℕ → ℕ → F .f32)
    (W : ℕ → BitVec 32) (v1 : BitVec 32) (t2 : Fin k0_t2_loop.trips) (b : BitVec 32) (t4 : Fin k0_t4_loop.trips) (v18 : BitVec 32) (hK : v18.toNat ≤ 9984)
    (hw2 : k0_chk2 v18) (hP : ∀ j, (pidOf b (W j)).toNat < 400000)
    (hT : ∀ j p, j < v18.toNat → (locOf (W j)).toNat < 512 ∧ updRow (T j) (fun _ b' => X (pidOf b (W j)).toNat b') (locOf (W j)).toNat p = T (j + 1))
    (v42 : BitVec 32) (k : BitVec 32 → Prog (TpuEff nD τ sig (Elt F) Λ₀ (thr d L).2) β) (Q : β → sProp 𝕄) :
    iprop(slabP d L (T 0) ∗ wlP (F := F) d L W ∗ workP d L O Ws q X)
      ⊢ iprop((∀ a, slabP d L (T v18.toNat) ∗ wlP (F := F) d L W ∗ workP d L O Ws q X -∗ WP (k a) Q)
        -∗ WP (Scf.Loop.for (k0_t6_loop v18) (k0_t6_ok v18 hw2) 0#32 (bT6 (F := F) L v1 (iota .scVector S16 32 [0] iota_S16_d0_w32_scVector) t2 b 0#32 1#32 t4 v18 hw2)
          >>= fun v43 => Scf.Loop.for (k0_t9_loop v18) (k0_t9_ok v18 hw2) v43 (bT9 (F := F) L v1 b t2 t4 v18 hw2 v42) >>= k) Q) := by
  have htr := t6_trips v18 (by omega)
  iintro ⟨Hs, HW, Hwork⟩ HK
  iapply (wp_loop d L (k0_t6_loop v18) (k0_t6_ok v18 hw2) 0#32 (bT6 (F := F) L v1 (iota .scVector S16 32 [0] iota_S16_d0_w32_scVector) t2 b 0#32 1#32 t4 v18 hw2)
    (fun m _ => iprop(slabP d L (T (min v18.toNat (128 * m))) ∗ wlP (F := F) d L W ∗ workP d L O Ws q X))
    (fun m a => wp_t6 d L O Ws q X T W v1 (iota .scVector S16 32 [0] iota_S16_d0_w32_scVector) t2 b 0#32 1#32 t4 v18 (by omega) hw2 m
      (by have := m.isLt; omega) (fun p _ => hP _) (fun p _ h => hT _ p h) a)) $$ [Hs HW Hwork]
  · rw [Nat.mul_zero, Nat.min_zero]
    isplitl [Hs]; · iexact Hs
    isplitl [HW]; · iexact HW
    iexact Hwork
  iintro %v43 ⟨Hs, HW, Hwork⟩
  rw [htr, Nat.min_eq_left (by omega)]
  iapply (wp_loop d L (k0_t9_loop v18) (k0_t9_ok v18 hw2) v43 (bT9 (F := F) L v1 b t2 t4 v18 hw2 v42)
    (fun _ _ => iprop(slabP d L (T v18.toNat) ∗ wlP (F := F) d L W ∗ workP d L O Ws q X))
    (fun m _ => False.elim (by have := m.isLt; have h9 := t9_trips v18 (by omega); omega))) $$ [Hs HW Hwork]
  · isplitl [Hs]; · iexact Hs
    isplitl [HW]; · iexact HW
    iexact Hwork
  iintro %v44 H
  iapply HK $$ H

/-- What the chunk loop holds before chunk `k`: the slab is that of the points before it. -/
def chunkI (O : CellTallies nD τ sig (HIx 1)) (Ws : Waits sig (HIx 1)) (q q' : PosShare TreeShare) (X : ℕ → ℕ → F .f32) (fl : ℕ → BitVec 32)
    (bb : ℕ) (v : BitVec 32) (k : ℕ) : sProp 𝕄 :=
  iprop((∃ W, ⌜∀ j, Good (W j)⌝ ∗ wlP (F := F) d L W) ∗ (∃ C, idxP (F := F) d L C) ∗ slabP d L (slabN X fl bb v (10000 * k))
    ∗ workP d L O Ws q X ∗ flatP (F := F) d L q' fl ∗ semVal (thr d L, SemLoc.dma cc0_scoped0.sem) 0)

set_option maxHeartbeats 2000000 in
theorem wp_chunk (O : CellTallies nD τ sig (HIx 1)) (Ws : Waits sig (HIx 1)) (q q' : PosShare TreeShare) (X : ℕ → ℕ → F .f32) (fl : ℕ → BitVec 32)
    (v : BitVec 32) (t2 : Fin k0_t2_loop.trips) (t4 : Fin k0_t4_loop.trips) (h2 : t2.val < 4) (h4 : t4.val < 10) (hin : InRound fl t2.val)
    (hcnt : Nat.count (mineN fl t2.val v t4.val) 10000 ≤ 9984) :
    chunkI d L O Ws q q' X fl t2.val v t4.val ⊢ WP (k0_part71 (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0
      v (iota .scVector S16 32 [0] iota_S16_d0_w32_scVector) t2 (BitVec.ofNat 32 t2.val) 0#32 1#32 t4) fun _ => chunkI d L O Ws q q' X fl t2.val v (t4.val + 1) := by
  rw [k0_part71_eq_skeleton]
  unfold k0_part71_skel
  conv => zeta
  simp only [Prog.bind_lift]
  unfold chunkI workP
  iintro ⟨⟨%W, %hW, HW⟩, ⟨%C, HC⟩, Hs, ⟨#Hmw, HX, HP, HM, HR, Hs7, HO⟩, Hfl, Hs0⟩
  iapply (wp_fetch d L O Ws q' fl C (k0_off3 t2 t4) (k0_off3_inb t2 t4) (100000 * t2.val + 10000 * t4.val) (congrFun (k0_off3_eq t2 t4) 0)) $$ [Hfl HC Hs0 HO]
  · isplitr; · iexact Hmw
    isplitl [Hfl]; · iexact Hfl
    isplitl [HC]; · iexact HC
    isplitl [Hs0]; · iexact Hs0
    iexact HO
  iintro ⟨Hfl, HC, Hs0, HO⟩
  iapply (wp_loop d L k0_t5_loop k0_t5_ok 0#32 (bT5 (F := F) L v (BitVec.ofNat 32 t2.val) t2 t4)
    (fun m a => iprop(⌜a = BitVec.ofNat 32 (Nat.count (mineN fl t2.val v t4.val) (16 * m))⌝ ∗ idxP (F := F) d L (chunkC fl t2.val t4.val)
      ∗ wlP (F := F) d L (listTo (mineN fl t2.val v t4.val) 0 (16 * m) (recC (BitVec.ofNat 32 t2.val) t4.val (chunkC fl t2.val t4.val)) W)))
    (fun m a => wp_t5 d L v (BitVec.ofNat 32 t2.val) (chunkC fl t2.val t4.val) W t2 t4 m a)) $$ [HC HW]
  · isplitr
    · ipureintro; rfl
    isplitl [HC]; · iexact HC
    rw [listTo_nil]; iexact HW
  iintro %v18 ⟨%hv, HC, HW⟩
  rw [trips5] at hv
  rw [trips5]
  obtain ⟨hW', T, hT0, hTe, hT⟩ := chunk_facts X fl t2.val v h2 hin t4.val h4 W hW
  generalize listTo (mineN fl t2.val v t4.val) 0 (16 * 625) (recC (BitVec.ofNat 32 t2.val) t4.val (chunkC fl t2.val t4.val)) W = W' at hW' hT
  have hvn : v18.toNat = Nat.count (mineN fl t2.val v t4.val) 10000 := by
    rw [hv]; exact Nat.mod_eq_of_lt (lt_of_le_of_lt hcnt (by decide))
  rw [← hvn] at hT hTe hcnt
  iapply (wp_assume 𝒱₀ (thr d L) none Set.univ (chk2_of v18 hcnt))
  iapply (wp_drain d L O Ws q X T W' v t2 (BitVec.ofNat 32 t2.val) t4 v18 hcnt (chk2_of v18 hcnt) (fun j => by
      rw [pid_good _ (hW' j) _ h2]; have := hW' j; unfold Good at this; omega) hT) $$ [Hs HW HX HP HM HR Hs7 HO]
  · rw [hT0]
    isplitl [Hs]; · iexact Hs
    isplitl [HW]; · iexact HW
    unfold workP
    isplitr; · iexact Hmw
    isplitl [HX]; · iexact HX
    isplitl [HP]; · iexact HP
    isplitl [HM]; · iexact HM
    isplitl [HR]; · iexact HR
    isplitl [Hs7]; · iexact Hs7
    iexact HO
  iintro %a' ⟨Hs, HW, Hwork⟩
  rw [Prog.pure_eq_ret, wp_ret]; imodintro
  rw [hTe v18.toNat (Nat.le_refl _)]
  isplitl [HW]
  · iexists W'
    isplitr; · ipureintro; exact hW'
    iexact HW
  isplitl [HC]; · iexists _; iexact HC
  isplitl [Hs]; · iexact Hs
  isplitl [Hwork]
  · unfold workP; iexact Hwork
  isplitl [Hfl]; · iexact Hfl
  iexact Hs0

theorem wp_t4 (O : CellTallies nD τ sig (HIx 1)) (Ws : Waits sig (HIx 1)) (q q' : PosShare TreeShare) (X : ℕ → ℕ → F .f32) (fl : ℕ → BitVec 32)
    (v : BitVec 32) (t2 : Fin k0_t2_loop.trips) (t4 : Fin k0_t4_loop.trips) (h2 : t2.val < 4) (h4 : t4.val < 10) (hin : InRound fl t2.val)
    (hcnt : Nat.count (mineN fl t2.val v t4.val) 10000 ≤ 9984) (a : BitVec 32) :
    chunkI d L O Ws q q' X fl t2.val v t4.val ⊢ WP (bT4 (F := F) L v (BitVec.ofNat 32 t2.val) t2 t4 a) fun _ => chunkI d L O Ws q q' X fl t2.val v (t4.val + 1) := by
  unfold bT4 k0_t4_body
  rw [wp_bind]
  iintro H
  iapply (wp_wand_r (M := 𝕄) frame (wpE (defs₀ (F := F)) 𝒱₀ (thr d L) none) Set.univ)
  isplitl [H]
  · iapply (wp_chunk d L O Ws q q' X fl v t2 t4 h2 h4 hin hcnt) $$ H
  iintro %_ H
  rw [Prog.pure_eq_ret, wp_ret]; imodintro
  iexact H

end Cert.Proof

end
-- ==== Proof.Back.lean ====
/- The write-back: a block of the slab's rows scattered to the cells they belong to. -/
module

public import proofs.«01_k».proof.Proof.Block

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "outW" => (Memref.whole Cert.KernelIdeal.main_v1_scv : Memref Cert.KernelIdeal.sig Kind.scVector Space.hbm Cert.KernelIdeal.S65536x128 EltTy.f32)
local notation "slabW" => (Memref.whole Cert.KernelIdeal.cc0_scratch5 : Memref Cert.KernelIdeal.sig Kind.scVector Space.vmem Cert.KernelIdeal.S512x128 EltTy.f32)
local notation "cellW" => (Memref.whole Cert.KernelIdeal.cc0_scratch4 : Memref Cert.KernelIdeal.sig Kind.scVector Space.vmem Cert.KernelIdeal.S128 EltTy.i32)
local notation "outS" => Memref.slice (Memref.whole Cert.KernelIdeal.main_v1_scv : Memref Cert.KernelIdeal.sig Kind.scVector Space.hbm Cert.KernelIdeal.S65536x128 EltTy.f32) (Rect.unit (s := S65536x128) ![0, 0] S65536x128.size inb_S65536x128_S65536x128_0_0) (fun _ => rfl)
local notation "HG" => gathers_S65536x128_S128x128

abbrev cellP (P : ℕ → BitVec 32) : sProp 𝕄 := (cellW).view.loc (thr d L) ↦{fullShare} (tab1 S128 P : S128.Idx → BitVec 32)
/-- Part of the output, at the array `Y`. -/
abbrev outP (I : Finset S65536x128.Idx) (Y : ℕ → ℕ → F .f32) : sProp 𝕄 := (outW).view.loc (thr d L) ↦[I]{fullShare} (tab2 S65536x128 Y : S65536x128.Idx → F .f32)

theorem co_carried {s s' : Shape} (h : s = s') (x : s'.Idx) (n : ℕ) : co ((Shape.idxEquiv h).symm x) n = co x n := by
  subst h; rfl

/-- Where an element of a row sits: at the row's number on its axis, and at the element's own on the others. -/
theorem co_row {s : Shape} (ax : Fin s.rank) (r : Fin (s.size ax)) (x : (s.rowShape ax).Idx) (n : ℕ) (hn : n < s.rank) :
    co ((s.rowRect ax r).emb x) n = (if (⟨n, hn⟩ : Fin s.rank) = ax then r.val else 0) + co x n := by
  have hx : co x n = (x ⟨n, hn⟩).val := dif_pos hn
  rw [hx]; unfold co; rw [dif_pos hn]
  show _ + 1 * (x ⟨n, hn⟩).val = _
  rw [Nat.one_mul]; rfl

/-- Where element `x` of the output's row `r` sits. -/
theorem row_place (r : Fin (S65536x128.size (HG).axis)) (x : (S65536x128.rowShape (HG).axis).Idx) :
    co (((outS).view.slice (S65536x128.rowRect (HG).axis r)).emb x) 0 = r.val ∧ co (((outS).view.slice (S65536x128.rowRect (HG).axis r)).emb x) 1 = co x 1 := by
  have h0 : co x 0 = 0 := by
    have : co x 0 < 1 := co_lt x 0 Nat.two_pos
    omega
  constructor
  · show co ((Rect.unit (s := S65536x128) ![0, 0] S65536x128.size inb_S65536x128_S65536x128_0_0).emb ((S65536x128.rowRect (HG).axis r).emb x)) 0 = _
    rw [co_emb _ _ _ _ 0 Nat.two_pos]
    refine (Nat.zero_add _).trans ((co_row (HG).axis r x 0 Nat.two_pos).trans ?_)
    rw [h0, if_pos (by decide)]; rfl
  · show co ((Rect.unit (s := S65536x128) ![0, 0] S65536x128.size inb_S65536x128_S65536x128_0_0).emb ((S65536x128.rowRect (HG).axis r).emb x)) 1 = _
    rw [co_emb _ _ _ _ 1 Nat.one_lt_two]
    refine (Nat.zero_add _).trans ((co_row (HG).axis r x 1 Nat.one_lt_two).trans ?_)
    rw [if_neg (by decide), Nat.zero_add]

theorem idx_eq {i j : S65536x128.Idx} (h0 : co i 0 = co j 0) (h1 : co i 1 = co j 1) : i = j := by
  funext a
  apply Fin.ext
  match a with
  | 0 => exact h0
  | 1 => exact h1

/-- The output's row `r` is the elements whose first coordinate is `r`. -/
theorem mem_row (r : Fin (S65536x128.size (HG).axis)) (i : S65536x128.Idx) :
    (i ∈ ((outS).view.slice (S65536x128.rowRect (HG).axis r)).set) = (co i 0 = r.val) := by
  apply propext; constructor
  · intro h
    obtain ⟨x, -, rfl⟩ := Finset.mem_map.mp h
    exact (row_place r x).1
  · intro h
    have hx : ∀ b : Fin S65536x128.rank, (if b = (HG).axis then 0 else (i b).val) < (if b = (HG).axis then 1 else S65536x128.size b) := by
      intro b
      by_cases hb : b = (HG).axis
      · rw [if_pos hb, if_pos hb]; exact Nat.one_pos
      · rw [if_neg hb, if_neg hb]; exact (i b).isLt
    let x : (S65536x128.rowShape (HG).axis).Idx := (fun b : Fin S65536x128.rank => (⟨if b = (HG).axis then 0 else (i b).val, hx b⟩ : Fin (if b = (HG).axis then 1 else S65536x128.size b)))
    have e : ((outS).view.slice (S65536x128.rowRect (HG).axis r)).emb x = i :=
      idx_eq ((row_place r x).1.trans h.symm) ((row_place r x).2.trans rfl)
    exact Finset.mem_map.mpr ⟨x, Finset.mem_univ _, e⟩

variable (A Y Y' : ℕ → ℕ → F .f32) (P : ℕ → BitVec 32) (o : ℕ) (off : Fin 2 → ℕ) (hoff : ∀ a, off a + S128x128.size a ≤ S512x128.size a)

local notation "slabS" => Memref.slice (Memref.whole Cert.KernelIdeal.cc0_scratch5 : Memref Cert.KernelIdeal.sig Kind.scVector Space.vmem Cert.KernelIdeal.S512x128 EltTy.f32)
  (Rect.unit (s := S512x128) off S128x128.size hoff) (fun _ => rfl)

theorem src_place (h0 : off 0 = o) (h1 : off 1 = 0) (k : Fin (S128x128.size (HG).axis')) (x : (S65536x128.rowShape (HG).axis).Idx) :
    tab2 S512x128 A ((Rect.unit (s := S512x128) off S128x128.size hoff).emb ((S128x128.rowRect (HG).axis' k).emb ((Shape.idxEquiv (HG).rowShape_eq).symm x)))
      = A (o + k.val) (co x 1) := by
  have hx0 : co x 0 = 0 := by
    have : co x 0 < 1 := co_lt x 0 Nat.two_pos
    omega
  rw [tab2_emb, h0, h1]
  refine congrArg₂ A ?_ ?_
  · refine congrArg (o + ·) ((co_row (HG).axis' k ((Shape.idxEquiv (HG).rowShape_eq).symm x) 0 Nat.two_pos).trans ?_)
    rw [co_carried, hx0, if_pos (by decide)]; rfl
  · refine (Nat.zero_add _).trans ((co_row (HG).axis' k ((Shape.idxEquiv (HG).rowShape_eq).symm x) 1 Nat.one_lt_two).trans ?_)
    rw [co_carried, if_neg (by decide), Nat.zero_add]

theorem scatter_val (h0 : off 0 = o) (h1 : off 1 = 0)
    (hin : ∀ x, ((cellW).view.read (Elt F) (tab1 S128 P : S128.Idx → BitVec 32) x).toNat < S65536x128.size (HG).axis)
    (hinj : Function.Injective (SparseCore.rows ((cellW).view.read (Elt F) (tab1 S128 P : S128.Idx → BitVec 32)) rfl hin))
    (hY : ∀ p b, p < 128 → Y' (P p).toNat b = A (o + p) b) (hY' : ∀ a b, (∀ p, p < 128 → a ≠ (P p).toNat) → Y' a b = Y a b) (i : S65536x128.Idx) :
    SparseCore.scatterBuf (F := F) (thr d L) (outS).view (HG).axis (SparseCore.rows ((cellW).view.read (Elt F) (tab1 S128 P : S128.Idx → BitVec 32)) rfl hin)
      (SparseCore.scatterRowPayload (F := F) (thr d L) slabS HG (tab2 S512x128 A : S512x128.Idx → F .f32)) (tab2 S65536x128 Y : S65536x128.Idx → F .f32) i
      = tab2 S65536x128 Y' i := by
  have hrow := rows_one (F := F) (n := 128) ((cellW).view.read (Elt F) (tab1 S128 P : S128.Idx → BitVec 32)) rfl hin P (fun _ => rfl)
  by_cases hi : i ∈ SparseCore.namedRows (thr d L) (outS).view (HG).axis (SparseCore.rows ((cellW).view.read (Elt F) (tab1 S128 P : S128.Idx → BitVec 32)) rfl hin)
  · obtain ⟨k, -, hk⟩ := Finset.mem_biUnion.mp hi
    refine (SparseCore.scatterBuf_of_mem (F := F) (thr d L) (outS).view (HG).axis _ hinj _ _ hk).trans ?_
    obtain ⟨x, -, rfl⟩ := Finset.mem_map.mp hk
    refine (View.write_emb_of_mem (v := (outS).view.slice (S65536x128.rowRect (HG).axis _)) (Val := Elt F) _ _ (Finset.mem_univ x)).trans ?_
    have hp := row_place (SparseCore.rows ((cellW).view.read (Elt F) (tab1 S128 P : S128.Idx → BitVec 32)) rfl hin k) x
    show tab2 S512x128 A ((Rect.unit (s := S512x128) off S128x128.size hoff).emb ((S128x128.rowRect (HG).axis' k).emb ((Shape.idxEquiv (HG).rowShape_eq).symm x)))
      = Y' (co _ 0) (co _ 1)
    rw [hp.1, hp.2, hrow k, hY k.val _ k.isLt]
    exact src_place A o off hoff h0 h1 k x
  · refine (SparseCore.scatterBuf_of_not_mem (F := F) (thr d L) (outS).view (HG).axis _ _ _ hi).trans ?_
    refine (hY' _ _ fun p hp e => hi ?_).symm
    refine Finset.mem_biUnion.mpr ⟨⟨p, hp⟩, Finset.mem_univ _, ?_⟩
    rw [mem_row, hrow]; exact e

/-- The scatter of 128 rows of the slab to the listed rows of the output, and its wait. -/
theorem wp_scatter {β : Type} (O : CellTallies nD τ sig (HIx 1)) (W : Waits sig (HIx 1)) (I : Finset S65536x128.Idx) (h0 : off 0 = o) (h1 : off 1 = 0)
    (hP : ∀ p, p < 128 → (P p).toNat < 65536) (hPi : ∀ p p', p < 128 → p' < 128 → (P p).toNat = (P p').toNat → p = p')
    (hI : ∀ p, p < 128 → ∀ i : S65536x128.Idx, co i 0 = (P p).toNat → i ∈ I)
    (hY : ∀ p b, p < 128 → Y' (P p).toNat b = A (o + p) b) (hY' : ∀ a b, (∀ p, p < 128 → a ≠ (P p).toNat) → Y' a b = Y a b)
    (k : PUnit → Prog (TpuEff nD τ sig (Elt F) Λ₀ (thr d L).2) β) (Q : β → sProp 𝕄) (t1 t2 t3 t4 t5 t6) :
    iprop(Transfers.MayWaits (thr d L) (default : HIx 1) O ∗ slabP d L A ∗ outP d L I Y ∗ cellP (F := F) d L P ∗ semVal (thr d L, SemLoc.dma cc0_scratch7.sem) 0 ∗ owed (F := F) d L O W)
      ⊢ iprop((slabP d L A ∗ outP d L I Y' ∗ cellP (F := F) d L P ∗ semVal (thr d L, SemLoc.dma cc0_scratch7.sem) 0 ∗ owed (F := F) d L O W -∗ WP (k ⟨⟩) Q)
        -∗ WP (SparseCore.enqueueIndirectScatter t1 slabS outS HG cellW rfl cc0_scratch7.sem t2 t3 t4 >>= fun _ =>
            SparseCore.waitIndirectScatter cc0_scratch7.sem slabS outS t5 t6 >>= k) Q) := by
  unfold owed
  iintro ⟨#Hmw, Hs, Hy, Hp, Hsem, ⟨%W', %hW, HO⟩⟩ HK
  have hsplit := (pointsTo_split_subset (Ix := HIx 1) (Lvl := ℕ) (Name := ℕ) (U := UU) (Val := Elt F) (ℓ := (slabW).view.loc (thr d L)) (I := (slabS).view.set) (q := fullShare) (f := (tab2 S512x128 A : S512x128.Idx → F .f32)) (S := Finset.univ)
    (fun x _ => Finset.mem_univ x))
  ihave Hss := hsplit.1 $$ Hs
  icases Hss with ⟨Hss, Hsr⟩
  have hps : (cellW).view.set = Finset.univ := View.set_whole _
  have hin : ∀ x, ((cellW).view.read (Elt F) (tab1 S128 P : S128.Idx → BitVec 32) x).toNat < S65536x128.size (HG).axis :=
    fun x => hP _ (co_lt (s := S128) x 0 Nat.one_pos)
  have hinj : Function.Injective (SparseCore.rows ((cellW).view.read (Elt F) (tab1 S128 P : S128.Idx → BitVec 32)) (rfl : S128.numel = S128x128.size (HG).axis') hin) := by
    intro k k' e
    have hrow := rows_one (F := F) (n := 128) ((cellW).view.read (Elt F) (tab1 S128 P : S128.Idx → BitVec 32)) (rfl : S128.numel = S128x128.size (HG).axis') hin P (fun _ => rfl)
    exact Fin.ext (hPi k.val k'.val k.isLt k'.isLt ((hrow k).symm.trans ((congrArg Fin.val e).trans (hrow k'))))
  have hsub : SparseCore.namedRows (thr d L) (outS).view (HG).axis (SparseCore.rows ((cellW).view.read (Elt F) (tab1 S128 P : S128.Idx → BitVec 32)) (rfl : S128.numel = S128x128.size (HG).axis') hin) ⊆ I := by
    intro i hi
    obtain ⟨k, -, hk⟩ := Finset.mem_biUnion.mp hi
    have hrow := rows_one (F := F) (n := 128) ((cellW).view.read (Elt F) (tab1 S128 P : S128.Idx → BitVec 32)) (rfl : S128.numel = S128x128.size (HG).axis') hin P (fun _ => rfl)
    exact hI k.val k.isLt i (((mem_row _ i).mp hk).trans (hrow k))
  have hN := SparseCore.sum_scatterCredit_eq_srcCredit (c := thr d L) slabS outS HG rfl (SparseCore.rows ((cellW).view.read (Elt F) (tab1 S128 P : S128.Idx → BitVec 32)) (rfl : S128.numel = S128x128.size (HG).axis') hin)
    (fun _ => rfl) (fun _ => rfl)
  have hys := SparseCore.pointsTo_namedRows_split (Ix := HIx 1) (Lvl := ℕ) (Name := ℕ) (U := UU) (F := F) (thr d L) (outS).view (HG).axis _ hsub (tab2 S65536x128 Y : S65536x128.Idx → F .f32)
  ihave Hys := hys.1 $$ Hy
  icases Hys with ⟨Hyn, Hyr⟩
  have hnum : 0 < S128x128.numel := by decide
  have hrule := fun kk => SparseCore.wp_indirectScatterLocal (Q := Q) (k := kk) (Ix := HIx 1) (Lvl := ℕ) (Name := ℕ) (U := UU) (defs := defs₀ (F := F)) countersEmb 𝒱₀ (thr d L) none (src := slabS) (dst := outS) (offs := cellW) (hg := HG) (hn := rfl) (sem := cc0_scratch7.sem)
      (hp := t1) (he := t2) (hsp := t3) (hr := t4) (q := fullShare) (qo := fullShare) (default : HIx 1)
      (fs := (tab2 S512x128 A : S512x128.Idx → F .f32)) (fd := (tab2 S65536x128 Y : S65536x128.Idx → F .f32)) (fo := (tab1 S128 P : S128.Idx → BitVec 32))
      (slabS).view.dmaCredit hnum hin hinj hN
  iapply (hrule _) $$ [Hss Hyn Hp Hsem]
  · isplitl [Hss]; · iexact Hss
    isplitl [Hyn]; · iexact Hyn
    rw [hps]
    isplitl [Hp]; · iexact Hp
    iexact Hsem
  iintro Hfl
  unfold SparseCore.waitIndirectScatter
  rw [Prog.bind_op]
  iapply (Transfers.wp_waitLocalO countersEmb 𝒱₀ (thr d L) none (default : HIx 1) (rfl : (slabS).view.dmaCredit = _)) $$ [Hfl HO]
  · isplitl [Hfl]; · iexact Hfl
    isplitl [HO]; · iexact HO
    iapply (Transfers.MayWaits.elim (SemLoc.dma cc0_scratch7.sem)) $$ Hmw
  iintro ⟨⟨Hyn, Hss, Hp⟩, Hsem, HO⟩
  ihave Hs := hsplit.2 $$ [Hss Hsr]
  · isplitl [Hss] <;> iassumption
  rw [hps]
  ihave Hyr := (Entails.of_eq (SparseCore.pointsTo_rest_scatterBuf (Ix := HIx 1) (Lvl := ℕ) (Name := ℕ) (U := UU) (F := F) (thr d L) (outS).view (HG).axis
    (SparseCore.rows ((cellW).view.read (Elt F) (tab1 S128 P : S128.Idx → BitVec 32)) (rfl : S128.numel = S128x128.size (HG).axis') hin)
    (SparseCore.scatterRowPayload (F := F) (thr d L) slabS HG (tab2 S512x128 A : S512x128.Idx → F .f32)) (tab2 S65536x128 Y : S65536x128.Idx → F .f32) I)) $$ Hyr
  have hys' := SparseCore.pointsTo_namedRows_split (Ix := HIx 1) (Lvl := ℕ) (Name := ℕ) (U := UU) (F := F) (thr d L) (outS).view (HG).axis _ hsub
    (SparseCore.scatterBuf (F := F) (thr d L) (outS).view (HG).axis (SparseCore.rows ((cellW).view.read (Elt F) (tab1 S128 P : S128.Idx → BitVec 32)) (rfl : S128.numel = S128x128.size (HG).axis') hin)
      (SparseCore.scatterRowPayload (F := F) (thr d L) slabS HG (tab2 S512x128 A : S512x128.Idx → F .f32)) (tab2 S65536x128 Y : S65536x128.Idx → F .f32))
  ihave Hy := hys'.2 $$ [Hyn Hyr]
  · isplitl [Hyn]; · iexact Hyn
    iexact Hyr
  have hval : ((outW).view.loc (thr d L) ↦[I]{fullShare} (SparseCore.scatterBuf (F := F) (thr d L) (outS).view (HG).axis (SparseCore.rows ((cellW).view.read (Elt F) (tab1 S128 P : S128.Idx → BitVec 32)) (rfl : S128.numel = S128x128.size (HG).axis') hin)
      (SparseCore.scatterRowPayload (F := F) (thr d L) slabS HG (tab2 S512x128 A : S512x128.Idx → F .f32)) (tab2 S65536x128 Y : S65536x128.Idx → F .f32)) : sProp 𝕄)
      = outP d L I Y' := pointsTo_congr fun i _ => scatter_val d L A Y Y' P o off hoff h0 h1 hin hinj hY hY' i
  ihave Hy := (Entails.of_eq hval) $$ Hy
  iapply HK
  isplitl [Hs]; · iexact Hs
  isplitl [Hy]; · iexact Hy
  isplitl [Hp]; · iexact Hp
  isplitl [Hsem]; · iexact Hsem
  iexists _; isplitr
  swap; · iexact HO
  ipureintro; intro p hp
  rcases Finset.mem_insert.mp hp with hp | hp
  · exact .inr (hp ▸ rfl)
  · exact hW p hp

end Cert.Proof

end
-- ==== Proof.Fill.lean ====
/- The loops that fill a buffer: the list and the slab with zeros, and a block's cells. -/
module

public import proofs.«01_k».proof.Proof.Back
public import proofs.«01_k».proof.Proof.Records

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
local notation "slabW" => (Memref.whole Cert.KernelIdeal.cc0_scratch5 : Memref Cert.KernelIdeal.sig Kind.scVector Space.vmem Cert.KernelIdeal.S512x128 EltTy.f32)
local notation "cellW" => (Memref.whole Cert.KernelIdeal.cc0_scratch4 : Memref Cert.KernelIdeal.sig Kind.scVector Space.vmem Cert.KernelIdeal.S128 EltTy.i32)
local notation "wlW" => (Memref.whole Cert.KernelIdeal.cc0_scratch1 : Memref Cert.KernelIdeal.sig Kind.scVector Space.vmem Cert.KernelIdeal.S10016 EltTy.i32)

/-! ## The list -/

abbrev bT1 (t1 : Fin k0_t1_loop.trips) (a : BitVec 32) :=
  k0_t1_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 t1 a

theorem wp_t1 (W : ℕ → BitVec 32) (t1 : Fin k0_t1_loop.trips) (a : BitVec 32) :
    wlP (F := F) d L (upTo (16 * t1.val) (fun _ => 0#32) W) ⊢ WP (bT1 (F := F) L t1 a) fun _ => wlP (F := F) d L (upTo (16 * (t1.val + 1)) (fun _ => 0#32) W) := by
  have hi : Function.Injective ((wlW).view.read (Elt F)) := fun _ _ h => h
  unfold bT1 k0_t1_body
  simp only [Prog.bind_lift]
  iintro HW
  iapply (wp_ld1 d L wlW _ _ (k0_off1_inb t1) (A := upTo (16 * t1.val) (fun _ => 0#32) W) (hr := rfl) (ho := congrFun (k0_off1_eq t1) 0)) $$ HW; iintro HW
  iapply (wp_st1 d L wlW hi _ _ (k0_off1_inb t1) (f' := (tab1 S10016 (upTo (16 * (t1.val + 1)) (fun _ => 0#32) W) : S10016.Idx → BitVec 32))
    (hr := rfl) (hr' := rfl) (ho := congrFun (k0_off1_eq t1) 0) (A := upTo (16 * t1.val) (fun _ => 0#32) W) (A' := upTo (16 * (t1.val + 1)) (fun _ => 0#32) W)
    (hw := funext fun x => (upTo_step t1.val (fun _ => 0#32) W _ (co_lt (s := S16) x 0 Nat.one_pos)).symm) (hA := upTo_off t1.val _ _)) $$ HW
  iintro HW
  rw [Prog.pure_eq_ret, wp_ret]; imodintro
  iexact HW

theorem trips1 : k0_t1_loop.trips = 626 := by decide

theorem wlP_zero (W : ℕ → BitVec 32) : wlP (F := F) d L (upTo (16 * k0_t1_loop.trips) (fun _ => 0#32) W) ⊢ wlP d L (fun _ => 0#32) := by
  unfold wlP
  rw [trips1, tab1_congr (d := S10016.size) (A := upTo (16 * 626) (fun _ => 0#32) W) (B := fun _ => 0#32)]
  intro j hj
  exact if_pos hj

/-! ## The slab -/

/-- The slab `A` with its first `n` sixteens of elements zero. -/
def zeroed (n : ℕ) (A : ℕ → ℕ → F .f32) : ℕ → ℕ → F .f32 := fun a b => if 8 * a + b / 16 < n then zeroF else A a b

abbrev bT3 (t3 : Fin k0_t3_loop.trips) (a : BitVec 32) :=
  k0_t3_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 t3 a

theorem off2_eq : ∀ t3 : Fin k0_t3_loop.trips, k0_off2 t3 = ![t3.val / 8, 16 * (t3.val % 8)] := by decide +kernel

theorem wp_t3 (A : ℕ → ℕ → F .f32) (t3 : Fin k0_t3_loop.trips) (a : BitVec 32) :
    slabP d L (zeroed t3.val A) ⊢ WP (bT3 (F := F) L t3 a) fun _ => slabP d L (zeroed (t3.val + 1) A) := by
  have hi : Function.Injective ((slabW).view.read (Elt F)) := fun _ _ h => h
  have o0 : k0_off2 t3 0 = t3.val / 8 := congrFun (off2_eq t3) 0
  have o1 : k0_off2 t3 1 = 16 * (t3.val % 8) := congrFun (off2_eq t3) 1
  unfold bT3 k0_t3_body
  conv => zeta
  simp only [Prog.bind_lift]
  iintro HA
  iapply (wp_ld d L slabW _ _ (k0_off2_inb t3)) $$ HA; iintro HA
  iapply (wp_st d L slabW hi _ _ (k0_off2_inb t3) (f' := (tab2 S512x128 (zeroed (t3.val + 1) A) : S512x128.Idx → F .f32)) (hin := ?_) (hout := ?_)) $$ HA
  · intro x
    show tab2 S512x128 (zeroed (t3.val + 1) A) ((Rect.unit (s := S512x128) (k0_off2 t3) S1x16.size (k0_off2_inb t3)).emb x) = zeroF
    have h0 : co x 0 < 1 := co_lt (s := S1x16) x 0 Nat.two_pos
    have h1 : co x 1 < 16 := co_lt (s := S1x16) x 1 Nat.one_lt_two
    rw [tab2_emb, o0, o1]
    unfold zeroed
    rw [if_pos (by omega)]
  · intro j hj
    show zeroed (t3.val + 1) A (co j 0) (co j 1) = zeroed t3.val A (co j 0) (co j 1)
    have h1 : co j 1 < 128 := co_lt (s := S512x128) j 1 Nat.one_lt_two
    unfold zeroed
    by_cases h : 8 * co j 0 + co j 1 / 16 < t3.val
    · rw [if_pos h, if_pos (by omega)]
    · rw [if_neg h, if_neg]
      intro h'
      refine hj fun a => ?_
      match a with
      | 0 =>
        show k0_off2 t3 0 ≤ co j 0 ∧ co j 0 < k0_off2 t3 0 + 1
        omega
      | 1 =>
        show k0_off2 t3 1 ≤ co j 1 ∧ co j 1 < k0_off2 t3 1 + 16
        omega
  iintro HA
  rw [Prog.pure_eq_ret, wp_ret]; imodintro
  iexact HA

theorem trips3 : k0_t3_loop.trips = 4096 := by decide +kernel

theorem slabP_zero (A : ℕ → ℕ → F .f32) : slabP d L (zeroed k0_t3_loop.trips A) ⊢ slabP d L (fun _ _ => zeroF) := by
  unfold slabP
  rw [trips3, tab2_congr (d := S512x128.size) (A := zeroed 4096 A) (B := fun _ _ => zeroF)]
  intro a b ha hb
  have ha : a < 512 := ha
  have hb : b < 128 := hb
  exact if_pos (by omega)

/-! ## The cells of a block -/

/-- The tile's number as a word. -/
def vW : BitVec 32 := Scalar.addi (Scalar.muli (BitVec.ofNat 32 (L 1).val) 2#32) (BitVec.ofNat 32 (L 0).val)

/-- The cell, in round `bb`, of row `l` of the tile `v`'s slab. -/
def cellOf (v : BitVec 32) (bb l : ℕ) : BitVec 32 := BitVec.ofNat 32 (16384 * bb + 32 * l) + ((v ^^^ BitVec.ofNat 32 l) &&& 31#32)

theorem pay3_tab (t2 : Fin k0_t2_loop.trips) (t12 : Fin k0_t12_loop.trips) (t13 : Fin k0_t13_loop.trips) (x : S16.Idx) :
    k0_pay3 L t2 t12 t13 x = cellOf (vW L) t2.val (128 * t12.val + (16 * t13.val + co x 0)) := by
  have e : (0#32 + BitVec.ofNat 32 t12.val * 1#32) * 128#32 + (0#32 + BitVec.ofNat 32 t13.val * 1#32) * 16#32 + BitVec.ofNat 32 (0 * 16 + co x 0)
      = BitVec.ofNat 32 (128 * t12.val + (16 * t13.val + co x 0)) := by
    apply BitVec.eq_of_toNat_eq
    simp only [BitVec.toNat_add, BitVec.toNat_mul, BitVec.toNat_ofNat]
    omega
  have e2 : ∀ l : ℕ, (0#32 + BitVec.ofNat 32 t2.val * 1#32) * 16384#32 + BitVec.ofNat 32 l * 32#32 = BitVec.ofNat 32 (16384 * t2.val + 32 * l) := by
    intro l
    apply BitVec.eq_of_toNat_eq
    simp only [BitVec.toNat_add, BitVec.toNat_mul, BitVec.toNat_ofNat]
    omega
  have h : ∀ w : BitVec 32, w = BitVec.ofNat 32 (128 * t12.val + (16 * t13.val + co x 0)) →
      (0#32 + BitVec.ofNat 32 t2.val * 1#32) * 16384#32 + w * 32#32 + ((vW L ^^^ w) &&& 31#32) = cellOf (vW L) t2.val (128 * t12.val + (16 * t13.val + co x 0)) := by
    intro w hw
    subst hw
    rw [e2]; rfl
  exact h _ e

abbrev bT13 (t2 : Fin k0_t2_loop.trips) (t12 : Fin k0_t12_loop.trips) (t13 : Fin k0_t13_loop.trips) (a : BitVec 32) :=
  k0_t13_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 t2 t12 t13 a

theorem wp_t13 (P : ℕ → BitVec 32) (t2 : Fin k0_t2_loop.trips) (t12 : Fin k0_t12_loop.trips) (t13 : Fin k0_t13_loop.trips) (a : BitVec 32) :
    cellP (F := F) d L (upTo (16 * t13.val) (fun p => cellOf (vW L) t2.val (128 * t12.val + p)) P)
      ⊢ WP (bT13 (F := F) L t2 t12 t13 a) fun _ => cellP (F := F) d L (upTo (16 * (t13.val + 1)) (fun p => cellOf (vW L) t2.val (128 * t12.val + p)) P) := by
  have hi : Function.Injective ((cellW).view.read (Elt F)) := fun _ _ h => h
  unfold bT13 k0_t13_body
  conv => zeta
  simp only [Prog.bind_lift]
  iintro HP
  iapply (wp_ld1 d L cellW _ _ (k0_off523_inb t13) (A := upTo (16 * t13.val) (fun p => cellOf (vW L) t2.val (128 * t12.val + p)) P) (hr := rfl) (ho := congrFun (k0_off523_eq t13) 0)) $$ HP; iintro HP
  iapply (wp_st1 d L cellW hi _ _ (k0_off523_inb t13) (f' := (tab1 S128 (upTo (16 * (t13.val + 1)) (fun p => cellOf (vW L) t2.val (128 * t12.val + p)) P) : S128.Idx → BitVec 32))
    (hr := rfl) (hr' := rfl) (ho := congrFun (k0_off523_eq t13) 0) (A := upTo (16 * t13.val) (fun p => cellOf (vW L) t2.val (128 * t12.val + p)) P)
    (A' := upTo (16 * (t13.val + 1)) (fun p => cellOf (vW L) t2.val (128 * t12.val + p)) P)
    (hw := funext fun x => (pay3_tab L t2 t12 t13 x).trans (upTo_step t13.val (fun p => cellOf (vW L) t2.val (128 * t12.val + p)) _ _ (co_lt (s := S16) x 0 Nat.one_pos)).symm) (hA := upTo_off t13.val _ _)) $$ HP
  iintro HP
  rw [Prog.pure_eq_ret, wp_ret]; imodintro
  iexact HP

theorem trips13 : k0_t13_loop.trips = 8 := by decide

theorem cellP_all (Q P : ℕ → BitVec 32) : cellP (F := F) d L (upTo (16 * k0_t13_loop.trips) Q P) ⊢ cellP d L Q := by
  unfold cellP
  rw [trips13, tab1_congr (d := S128.size) (A := upTo (16 * 8) Q P) (B := Q)]
  intro j hj
  exact if_pos hj

end Cert.Proof

end
-- ==== Proof.Cells.lean ====
/- Which cells a tile's slab rows belong to, and the write-back of a block of them. -/
module

public import proofs.«01_k».proof.Proof.Fill

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
/-! ## Cells and their owners -/

/-- The number of the tile that owns cell `a`. -/
def ownN (a : ℕ) : ℕ := (a % 16384 ^^^ a % 16384 / 32) % 32

theorem xor_mod32 (a b : ℕ) : (a ^^^ b) % 32 = (a % 32) ^^^ (b % 32) := Nat.xor_mod_two_pow (n := 5)

theorem cellOf_toNat (w bb l : ℕ) (hb : bb < 4) (hl : l < 512) :
    (cellOf (BitVec.ofNat 32 w) bb l).toNat = 16384 * bb + 32 * l + (w ^^^ l) % 32 := by
  have e : ((BitVec.ofNat 32 w ^^^ BitVec.ofNat 32 l) &&& 31#32).toNat = (w ^^^ l) % 32 := by
    rw [BitVec.toNat_and, BitVec.toNat_xor, BitVec.toNat_ofNat, BitVec.toNat_ofNat, ← Nat.xor_mod_two_pow]
    show (w ^^^ l) % 2 ^ 32 &&& (2 ^ 5 - 1) = _
    rw [Nat.and_two_pow_sub_one_eq_mod]
    omega
  unfold cellOf
  rw [BitVec.toNat_add, e, BitVec.toNat_ofNat]
  omega

theorem own_cell (w bb l e : ℕ) (hw : w < 32) (hl : l < 512) (he : e = (w ^^^ l) % 32) : ownN (16384 * bb + 32 * l + e) = w := by
  have h32 : e < 32 := by omega
  unfold ownN
  rw [show (16384 * bb + 32 * l + e) % 16384 = 32 * l + e by omega, show (32 * l + e) / 32 = l by omega, xor_mod32, show (32 * l + e) % 32 = e by omega, he, xor_mod32,
    Nat.xor_assoc, Nat.xor_self, Nat.xor_zero]
  omega

theorem cell_of_own (w bb l a : ℕ) (hl : l < 512) (h : ownN a = w) (ha : a / 32 = 512 * bb + l) : a = 16384 * bb + 32 * l + (w ^^^ l) % 32 := by
  unfold ownN at h
  rw [show a % 16384 / 32 = l by omega, xor_mod32, show a % 16384 % 32 = a % 32 by omega] at h
  have : (w ^^^ l) % 32 = a % 32 := by
    rw [← h, xor_mod32, ← xor_mod32 a l, Nat.mod_mod, xor_mod32 a l, Nat.xor_assoc, Nat.xor_self, Nat.xor_zero]
  omega

/-- The tile's number. -/
def wid : ℕ := 2 * (L 1).val + (L 0).val

theorem wid_lt : wid L < 32 := by
  have h0 : (L 0).val < 2 := (L 0).isLt
  have h1 : (L 1).val < 16 := (L 1).isLt
  unfold wid; omega

theorem vW_eq : vW L = BitVec.ofNat 32 (wid L) := by
  have h0 : (L 0).val < 2 := (L 0).isLt
  have h1 : (L 1).val < 16 := (L 1).isLt
  show BitVec.ofNat 32 (L 1).val * 2#32 + BitVec.ofNat 32 (L 0).val = _
  apply BitVec.eq_of_toNat_eq
  unfold wid
  simp only [BitVec.toNat_add, BitVec.toNat_mul, BitVec.toNat_ofNat]
  omega

/-- The output's elements that lie in the tile `w`'s cells. -/
def tileSet (w : ℕ) : Finset S65536x128.Idx := Finset.univ.filter fun i => ownN (co i 0) = w

/-! ## The write-back -/

/-- The output, where the tile's cells whose numbers are below `32 * m` hold `G`. -/
def outI (G : ℕ → ℕ → F .f32) (m : ℕ) : sProp 𝕄 :=
  iprop(∃ Y, ⌜∀ a b, ownN a = wid L → a / 32 < m → Y a b = G a b⌝ ∗ outP d L (tileSet (wid L)) Y)

/-- What the output takes at cell `a`: the row for it in the slab that its round leaves. -/
def finalG (X : ℕ → ℕ → F .f32) (fl : ℕ → BitVec 32) (w : ℕ) : ℕ → ℕ → F .f32 := fun a b => slabN X fl (a / 16384) (BitVec.ofNat 32 w) 100000 (a % 16384 / 32) b

abbrev bT12 (t2 : Fin k0_t2_loop.trips) (t12 : Fin k0_t12_loop.trips) (a : BitVec 32) :=
  k0_t12_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 t2 t12 a

theorem wp_t12 (O : CellTallies nD τ sig (HIx 1)) (Ws : Waits sig (HIx 1)) (q : PosShare TreeShare) (X : ℕ → ℕ → F .f32) (A G : ℕ → ℕ → F .f32)
    (t2 : Fin k0_t2_loop.trips) (t12 : Fin k0_t12_loop.trips) (h2 : t2.val < 4) (h12 : t12.val < 4)
    (hA : ∀ a b, ownN a = wid L → a / 16384 = t2.val → G a b = A (a % 16384 / 32) b) (a : BitVec 32) :
    iprop(slabP d L A ∗ outI d L G (512 * t2.val + 128 * t12.val) ∗ (∃ P, cellP (F := F) d L P) ∗ workP d L O Ws q X)
      ⊢ WP (bT12 (F := F) L t2 t12 a) fun _ =>
        iprop(slabP d L A ∗ outI d L G (512 * t2.val + 128 * (t12.val + 1)) ∗ (∃ P, cellP (F := F) d L P) ∗ workP d L O Ws q X) := by
  unfold bT12 k0_t12_body outI workP
  conv => zeta
  iintro ⟨HA, ⟨%Y, %hYG, Hy⟩, ⟨%P, HP⟩, ⟨#Hmw, HX, Hp, HM, HR, Hs7, HO⟩⟩
  iapply (wp_loop d L k0_t13_loop k0_t13_ok 0#32 (bT13 (F := F) L t2 t12)
    (fun m _ => cellP (F := F) d L (upTo (16 * m) (fun p => cellOf (vW L) t2.val (128 * t12.val + p)) P)) (fun m a => wp_t13 d L P t2 t12 m a)) $$ [HP]
  · iexact HP
  iintro %_ HP
  ihave HP := (cellP_all d L _ P) $$ HP
  have hw := wid_lt L
  have hc : ∀ p, p < 128 → (cellOf (vW L) t2.val (128 * t12.val + p)).toNat = 16384 * t2.val + 32 * (128 * t12.val + p) + (wid L ^^^ (128 * t12.val + p)) % 32 := by
    intro p hp
    rw [vW_eq]; exact cellOf_toNat _ _ _ h2 (by omega)
  let Y' : ℕ → ℕ → F .f32 := fun a b => if ownN a = wid L ∧ 512 * t2.val + 128 * t12.val ≤ a / 32 ∧ a / 32 < 512 * t2.val + 128 * (t12.val + 1) then A (a / 32 - 512 * t2.val) b else Y a b
  iapply (wp_scatter d L A Y Y' (fun p => cellOf (vW L) t2.val (128 * t12.val + p)) (128 * t12.val) (k0_off524 t12) (k0_off524_inb t12) O Ws (tileSet (wid L))
    (congrFun (k0_off524_eq t12) 0) (congrFun (k0_off524_eq t12) 1) ?_ ?_ ?_ ?_ ?_ _ _ _ _ _ _ _ _) $$ [HA Hy HP Hs7 HO]
  · intro p hp; show (cellOf _ _ _).toNat < _; rw [hc p hp]; omega
  · intro p p' hp hp' e
    have e : (cellOf (vW L) t2.val (128 * t12.val + p)).toNat = (cellOf (vW L) t2.val (128 * t12.val + p')).toNat := e
    rw [hc p hp, hc p' hp'] at e; omega
  · intro p hp i hi
    have hi : co i 0 = (cellOf (vW L) t2.val (128 * t12.val + p)).toNat := hi
    refine Finset.mem_filter.mpr ⟨Finset.mem_univ _, ?_⟩
    rw [hi, hc p hp]
    exact own_cell _ _ _ _ hw (by omega) rfl
  · intro p b hp
    show (if _ then _ else _) = _
    rw [if_pos]
    · rw [hc p hp]; congr 1; omega
    · rw [hc p hp]
      exact ⟨own_cell _ _ _ _ hw (by omega) rfl, by omega, by omega⟩
  · intro a b h
    refine if_neg ?_
    rintro ⟨h1, h2', h3⟩
    refine h (a / 32 - 512 * t2.val - 128 * t12.val) (by omega) ?_
    show a = (cellOf _ _ _).toNat
    rw [hc _ (by omega)]
    exact cell_of_own _ _ _ _ (by omega) h1 (by omega)
  · isplitr; · iexact Hmw
    isplitl [HA]; · iexact HA
    isplitl [Hy]; · iexact Hy
    isplitl [HP]; · iexact HP
    isplitl [Hs7]; · iexact Hs7
    iexact HO
  iintro ⟨HA, Hy, HP, Hs7, HO⟩
  rw [Prog.pure_eq_ret, wp_ret]; imodintro
  isplitl [HA]; · iexact HA
  isplitl [Hy]
  · iexists Y'
    isplitr
    · ipureintro
      intro a b h1 h3
      show (if _ then _ else _) = _
      by_cases h : 512 * t2.val + 128 * t12.val ≤ a / 32
      · rw [if_pos ⟨h1, h, h3⟩, hA a b h1 (by omega)]; congr 1; omega
      · rw [if_neg (fun hh => h hh.2.1)]; exact hYG a b h1 (by omega)
    iexact Hy
  isplitl [HP]; · iexists _; iexact HP
  isplitr; · iexact Hmw
  isplitl [HX]; · iexact HX
  isplitl [Hp]; · iexact Hp
  isplitl [HM]; · iexact HM
  isplitl [HR]; · iexact HR
  isplitl [Hs7]; · iexact Hs7
  iexact HO

end Cert.Proof

end
-- ==== Proof.Round.lean ====
/- A round: the slab zeroed, the chunks scanned and drained into it, and its rows written back. -/
module

public import proofs.«01_k».proof.Proof.Trip
public import proofs.«01_k».proof.Proof.Cells

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
/-- What the indices are asked: each is in its round, and no chunk gives a tile more records than the list's whole blocks hold. -/
structure Fits (fl : ℕ → BitVec 32) : Prop where
  inRound : ∀ bb, bb < 4 → InRound fl bb
  fewer : ∀ bb, bb < 4 → ∀ c, c < 10 → ∀ w, w < 32 → Nat.count (mineN fl bb (BitVec.ofNat 32 w) c) 10000 ≤ 9984

abbrev bT2 (t2 : Fin k0_t2_loop.trips) (a : BitVec 32) :=
  k0_t2_body (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0 (vW L) (iota .scVector S16 32 [0] iota_S16_d0_w32_scVector) t2 a

theorem iv_word (t : ℕ) : Scf.iv 0#32 1#32 t = BitVec.ofNat 32 t := by
  show 0#32 + BitVec.ofNat 32 t * 1#32 = _
  rw [BitVec.mul_one, BitVec.zero_add]

theorem trips2 : k0_t2_loop.trips = 4 := by decide
theorem trips4 : k0_t4_loop.trips = 10 := by decide
theorem trips12 : k0_t12_loop.trips = 4 := by decide

/-- What the rounds hold before round `m`: the output's cells of the rounds before it are final. -/
def roundI (O : CellTallies nD τ sig (HIx 1)) (Ws : Waits sig (HIx 1)) (q q' : PosShare TreeShare) (X : ℕ → ℕ → F .f32) (fl : ℕ → BitVec 32) (m : ℕ) : sProp 𝕄 :=
  iprop((∃ A, slabP (F := F) d L A) ∗ (∃ P, cellP (F := F) d L P) ∗ outI d L (finalG X fl (wid L)) (512 * m) ∗ (∃ W, ⌜∀ j, Good (W j)⌝ ∗ wlP (F := F) d L W) ∗ (∃ C, idxP (F := F) d L C)
    ∗ workP d L O Ws q X ∗ flatP (F := F) d L q' fl ∗ semVal (thr d L, SemLoc.dma cc0_scoped0.sem) 0)

theorem wp_t2 (O : CellTallies nD τ sig (HIx 1)) (Ws : Waits sig (HIx 1)) (q q' : PosShare TreeShare) (X : ℕ → ℕ → F .f32) (fl : ℕ → BitVec 32) (hf : Fits fl)
    (t2 : Fin k0_t2_loop.trips) (a : BitVec 32) :
    roundI d L O Ws q q' X fl t2.val ⊢ WP (bT2 (F := F) L t2 a) fun _ => roundI d L O Ws q q' X fl (t2.val + 1) := by
  have h2 : t2.val < 4 := lt_of_lt_of_eq t2.isLt trips2
  have hv := vW_eq L
  unfold bT2 k0_t2_body
  conv => zeta
  rw [iv_word]
  unfold roundI
  iintro ⟨⟨%A, HA⟩, HP, Hy, HW, HC, Hwork, Hfl, Hs0⟩
  iapply (wp_loop d L k0_t3_loop k0_t3_ok 0#32 (bT3 (F := F) L) (fun m _ => slabP d L (zeroed m A)) (fun m a => wp_t3 d L A m a)) $$ [HA]
  · iexact HA
  iintro %_ HA
  ihave HA := (slabP_zero d L A) $$ HA
  iapply (wp_loop d L k0_t4_loop k0_t4_ok 0#32 (bT4 (F := F) L (vW L) (BitVec.ofNat 32 t2.val) t2) (fun m _ => chunkI d L O Ws q q' X fl t2.val (vW L) m)
    (fun m a => wp_t4 d L O Ws q q' X fl (vW L) t2 m h2 (lt_of_lt_of_eq m.isLt trips4) (hf.inRound _ h2)
      (by rw [hv]; exact hf.fewer _ h2 _ (lt_of_lt_of_eq m.isLt trips4) _ (wid_lt L)) a)) $$ [HA HW HC Hwork Hfl Hs0]
  · unfold chunkI
    isplitl [HW]; · iexact HW
    isplitl [HC]; · iexact HC
    isplitl [HA]; · iexact HA
    isplitl [Hwork]; · iexact Hwork
    isplitl [Hfl]; · iexact Hfl
    iexact Hs0
  iintro %_ H
  ihave H := (Entails.of_eq (congrArg (chunkI d L O Ws q q' X fl t2.val (vW L)) trips4)) $$ H
  unfold chunkI
  icases H with ⟨HW, HC, HA, Hwork, Hfl, Hs0⟩
  iapply (wp_loop d L k0_t12_loop k0_t12_ok 0#32 (bT12 (F := F) L t2)
    (fun m _ => iprop(slabP d L (slabN X fl t2.val (vW L) (10000 * 10)) ∗ outI d L (finalG X fl (wid L)) (512 * t2.val + 128 * m) ∗ (∃ P, cellP (F := F) d L P) ∗ workP d L O Ws q X))
    (fun m a => wp_t12 d L O Ws q X _ (finalG X fl (wid L)) t2 m h2 (lt_of_lt_of_eq m.isLt trips12)
      (fun a b _ hab => by unfold finalG; rw [hab, hv]) a)) $$ [HA Hy HP Hwork]
  · isplitl [HA]; · iexact HA
    isplitl [Hy]; · iexact Hy
    isplitl [HP]; · iexact HP
    iexact Hwork
  iintro %_ ⟨HA, Hy, HP, Hwork⟩
  ihave Hy := (Entails.of_eq (show outI d L (finalG X fl (wid L)) (512 * t2.val + 128 * k0_t12_loop.trips) = outI d L (finalG X fl (wid L)) (512 * (t2.val + 1)) from
    congrArg (outI d L (finalG X fl (wid L))) (by have := trips12; omega))) $$ Hy
  rw [Prog.pure_eq_ret, wp_ret]; imodintro
  isplitl [HA]; · iexists _; iexact HA
  isplitl [HP]; · iexact HP
  isplitl [Hy]; · iexact Hy
  isplitl [HW]; · iexact HW
  isplitl [HC]; · iexact HC
  isplitl [Hwork]; · iexact Hwork
  isplitl [Hfl]; · iexact Hfl
  iexact Hs0

end Cert.Proof

end
-- ==== Proof.Tile.lean ====
/- The task of a tile: its list zeroed, then the four rounds. -/
module

public import proofs.«01_k».proof.Proof.Round

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx ownBufs ownSems0 ownCells ownRefs mem_ownCells mem_ownRefs)
open Idealize.ShloMosaic.Rounds
open Idealize.ShloMosaic.Tactic

variable {F : FTy → Type} [FloatOps F] (d : Dev nD) (L : grid0.Coords)

local notation "𝕄" => MT nD τ sig (HIx 1) (Elt F) ℕ UU ℕ
local notation "WP" => wp (M := 𝕄) frame (wpE (defs₀ (F := F)) 𝒱₀ (thr d L) none) Set.univ
/-! ## Any contents are an array of numbers' -/

theorem exists_tab1 {α : Type} {n : Fin 1 → ℕ} (z : α) (f : (⟨1, n⟩ : Shape).Idx → α) : ∃ A, tab1 ⟨1, n⟩ A = f := by
  refine ⟨fun a => if h : a < n 0 then f (fun | ⟨0, _⟩ => ⟨a, h⟩) else z, funext fun i => ?_⟩
  have hlt : co i 0 < n 0 := co_lt i 0 Nat.one_pos
  show dite (co i 0 < n 0) _ _ = _
  rw [dif_pos hlt]
  congr 1
  funext x
  match x with
  | ⟨0, _⟩ => exact Fin.ext (show co i 0 = _ from dif_pos Nat.one_pos)

theorem exists_tab2 {α : Type} {n : Fin 2 → ℕ} (z : α) (f : (⟨2, n⟩ : Shape).Idx → α) : ∃ A, tab2 ⟨2, n⟩ A = f := by
  refine ⟨fun a b => if h : a < n 0 ∧ b < n 1 then f (fun | ⟨0, _⟩ => ⟨a, h.1⟩ | ⟨1, _⟩ => ⟨b, h.2⟩) else z, funext fun i => ?_⟩
  have hlt : co i 0 < n 0 ∧ co i 1 < n 1 := ⟨co_lt i 0 Nat.two_pos, co_lt i 1 Nat.one_lt_two⟩
  show dite (co i 0 < n 0 ∧ co i 1 < n 1) _ _ = _
  rw [dif_pos hlt]
  congr 1
  funext x
  match x with
  | ⟨0, _⟩ => exact Fin.ext (show co i 0 = _ from dif_pos Nat.two_pos)
  | ⟨1, _⟩ => exact Fin.ext (show co i 1 = _ from dif_pos Nat.one_lt_two)

/-! ## The tile's own buffers and cells -/

omit [FloatOps F] in
theorem ownSems0_V :
    (ownSems0 (thr d L) : sProp 𝕄)
      = iprop(semVal (thr d L, SemLoc.dma cc0_scratch7.sem) 0 ∗ semVal (thr d L, SemLoc.dma cc0_scoped0.sem) 0
          ∗ bigSep (((ownCells (thr d L)).erase (thr d L, SemLoc.dma cc0_scratch7.sem)).erase (thr d L, SemLoc.dma cc0_scoped0.sem)) fun g => semVal g 0) := by
  unfold SparseCore.Cfg.ownSems0
  rw [SparseCore.bigSep_erase' ((mem_ownCells (g := ((thr d L, SemLoc.dma cc0_scratch7.sem) : GSem nD τ sig))).mpr ⟨rfl, by
      show (SemLoc.dma cc0_scratch7.sem : SemLoc sig).isScoped .scVector = true; decide⟩),
    SparseCore.bigSep_erase' (Finset.mem_erase.mpr ⟨fun e => absurd (congrArg Prod.snd e) (show ¬ (SemLoc.dma cc0_scoped0.sem : SemLoc sig) = SemLoc.dma cc0_scratch7.sem by decide),
      (mem_ownCells (g := ((thr d L, SemLoc.dma cc0_scoped0.sem) : GSem nD τ sig))).mpr ⟨rfl, by
        show (SemLoc.dma cc0_scoped0.sem : SemLoc sig).isScoped .scVector = true; decide⟩⟩)]

/-- The seven scratch buffers. -/
abbrev scratches : Finset (Ref sig .scVector) := {cc0_scratch0, cc0_scratch1, cc0_scratch2, cc0_scratch3, cc0_scratch4, cc0_scratch5, cc0_scratch6}
abbrev scratchRefs : Finset (DevRef τ sig) := scratches.map ⟨(thr d L).2.devRef, Proc.devRef_injective _⟩

omit [FloatOps F] in
theorem scratch_sub : scratchRefs d L ⊆ ownRefs (τ := τ) (.scVector (cV L) (jV L)) := by
  intro b hb
  obtain ⟨r, hr, rfl⟩ := Finset.mem_map.mp hb
  refine SparseCore.Cfg.mem_ownRefs_of_owner (p := Proc.scVector (cV L) (jV L)) ?_
  simp only [scratches, Finset.mem_insert, Finset.mem_singleton] at hr
  rcases hr with rfl | rfl | rfl | rfl | rfl | rfl | rfl <;> rfl

omit [FloatOps F] in
theorem scratches_sep (Φ : Ref sig .scVector → sProp 𝕄) :
    bigSep scratches Φ = iprop(Φ cc0_scratch0 ∗ Φ cc0_scratch1 ∗ Φ cc0_scratch2 ∗ Φ cc0_scratch3 ∗ Φ cc0_scratch4 ∗ Φ cc0_scratch5 ∗ Φ cc0_scratch6) := by
  unfold scratches
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem ownBufs_V :
    (ownBufs (thr d L) : sProp 𝕄)
      = iprop(((∃ f, (thr d L).loc cc0_scratch0 ↦{fullShare} f) ∗ (∃ f, (thr d L).loc cc0_scratch1 ↦{fullShare} f) ∗ (∃ f, (thr d L).loc cc0_scratch2 ↦{fullShare} f)
            ∗ (∃ f, (thr d L).loc cc0_scratch3 ↦{fullShare} f) ∗ (∃ f, (thr d L).loc cc0_scratch4 ↦{fullShare} f) ∗ (∃ f, (thr d L).loc cc0_scratch5 ↦{fullShare} f)
            ∗ (∃ f, (thr d L).loc cc0_scratch6 ↦{fullShare} f))
          ∗ bigSep (ownRefs (τ := τ) (.scVector (cV L) (jV L)) \ scratchRefs d L) fun b => iprop(∃ f, ((d, b) : Loc nD τ sig) ↦{fullShare} f)) := by
  unfold SparseCore.Cfg.ownBufs
  refine (SparseCore.bigSep_sdiff_split' (scratch_sub d L)).trans ?_
  congr 1
  exact (SparseCore.bigSep_map _ _ _).trans (scratches_sep _)

set_option maxRecDepth 16384 in
/-- The task, from the cells and the rows at a share and the tile's cells of the output: those hold, at the end, the last of each round. -/
theorem tile_body (hF : (K (F := F)).Facts) (O : CellTallies nD τ sig (HIx 1)) (Ws : Waits sig (HIx 1)) (hO : ∀ g, O g none = 0) (q q' : PosShare TreeShare)
    (X : ℕ → ℕ → F .f32) (fl : ℕ → BitVec 32) (hf : Fits fl) (Y : ℕ → ℕ → F .f32) :
    iprop(levAts (K (F := F)).L (K (F := F)).lev ∗ emp
        ∗ (flatP (F := F) d L q' fl ∗ featP d L q X ∗ outP d L (tileSet (wid L)) Y)
        ∗ scopedBufs (thr d L) ∗ scopedSems0 (thr d L) ∗ owes (thr d L) O Ws)
      ⊢ WP (cc0_k (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0)
          fun _ => iprop((flatP (F := F) d L q' fl ∗ featP d L q X ∗ outP d L (tileSet (wid L)) (finalG X fl (wid L)))
            ∗ scopedBufs (thr d L) ∗ scopedSems0 (thr d L)
            ∗ ∃ W', ⌜∀ p ∈ W', p ∈ Ws ∨ p.2 = none⌝ ∗ owes (thr d L) O W') := by
  simp only [cc0_k_eq_skeleton]; unfold cc0_k_skel
  conv => zeta
  rw [(K (F := F)).scopedBufs_V hF d (cV L) (jV L), SparseCore.Cfg.scopedSems0_V (Val := Elt F) d (cV L) (jV L), ownSems0_V, ownBufs_V]
  iintro ⟨#Hlv, -, ⟨Hfl, Hx, Hy⟩, ⟨⟨⟨%f0, H0⟩, ⟨%f1, H1⟩, ⟨%f2, H2⟩, ⟨%f3, H3⟩, ⟨%f4, H4⟩, ⟨%f5, H5⟩, ⟨%f6, H6⟩⟩, Hbufs⟩, ⟨Hs7, Hs0, Hsems⟩, HO⟩
  ihave Hmw := (show levAts (K (F := F)).L (K (F := F)).lev ⊢ Transfers.MayWaits (thr d L) (default : HIx 1) O from
    (K (F := F)).mayWaits_none (thr := thr d L) hO) $$ Hlv
  obtain ⟨C, rfl⟩ := exists_tab1 (n := S10000.size) (0#32) f0
  obtain ⟨W, rfl⟩ := exists_tab1 (n := S10016.size) (0#32) f1
  obtain ⟨Pi, rfl⟩ := exists_tab1 (n := S128.size) (0#32) f2
  obtain ⟨M, rfl⟩ := exists_tab1 (n := S128.size) (0#32) f3
  obtain ⟨P, rfl⟩ := exists_tab1 (n := S128.size) (0#32) f4
  obtain ⟨A, rfl⟩ := exists_tab2 (n := S512x128.size) (zeroF (F := F)) f5
  obtain ⟨R, rfl⟩ := exists_tab2 (n := S128x128.size) (zeroF (F := F)) f6
  iapply (wp_loop d L k0_t1_loop k0_t1_ok 0#32 (bT1 (F := F) L) (fun m _ => wlP (F := F) d L (upTo (16 * m) (fun _ => 0#32) W)) (fun m a => wp_t1 d L W m a)) $$ [H1]
  · have e : upTo (16 * 0) (fun _ => 0#32) W = W := funext fun j => if_neg (Nat.not_lt_zero _)
    rw [e]
    iexact H1
  iintro %_ H1
  ihave H1 := (wlP_zero d L W) $$ H1
  iapply (wp_loop d L k0_t2_loop k0_t2_ok 0#32 (bT2 (F := F) L) (fun m _ => roundI d L O Ws q q' X fl m) (fun m a => wp_t2 d L O Ws q q' X fl hf m a))
      $$ [Hfl Hx Hy H0 H1 H2 H3 H4 H5 H6 Hs7 Hs0 HO]
  · unfold roundI
    isplitl [H5]; · iexists A; iexact H5
    isplitl [H4]; · iexists P; iexact H4
    isplitl [Hy]
    · unfold outI
      iexists Y
      isplitr [Hy]; · ipureintro; exact fun a b _ h => absurd h (Nat.not_lt_zero _)
      iexact Hy
    isplitl [H1]
    · iexists (fun _ => 0#32)
      isplitr [H1]; · ipureintro; exact fun _ => good_zero
      iexact H1
    isplitl [H0]; · iexists C; iexact H0
    isplitl [Hx H2 H3 H6 Hs7 HO]
    · unfold workP owed
      isplitr [Hx H2 H3 H6 Hs7 HO]; · iexact Hmw
      isplitl [Hx]; · iexact Hx
      isplitl [H2]; · iexists Pi; iexact H2
      isplitl [H3]; · iexists M; iexact H3
      isplitl [H6]; · iexists R; iexact H6
      isplitl [Hs7]; · iexact Hs7
      iexists Ws
      isplitr [HO]; · ipureintro; exact fun p hp => .inl hp
      iexact HO
    isplitl [Hfl]; · iexact Hfl
    iexact Hs0
  iintro %_ H
  ihave H := (Entails.of_eq (congrArg (roundI d L O Ws q q' X fl) trips2)) $$ H
  unfold roundI workP owed outI
  icases H with ⟨⟨%A', H5⟩, ⟨%P', H4⟩, ⟨%Y', %hY, Hy⟩, ⟨%W', -, H1⟩, ⟨%C', H0⟩, ⟨-, Hx, ⟨%Pi', H2⟩, ⟨%M', H3⟩, ⟨%R', H6⟩, Hs7, HO⟩, Hfl, Hs0⟩
  rw [Prog.pure_eq_ret, wp_ret]; imodintro
  isplitl [Hfl Hx Hy]
  · isplitl [Hfl]; · iexact Hfl
    isplitl [Hx]; · iexact Hx
    iapply (Entails.of_eq (pointsTo_congr (fun i hi => by
      have h := (Finset.mem_filter.mp hi).2
      have hlt : co i 0 < 65536 := co_lt (s := S65536x128) i 0 Nat.two_pos
      exact hY (co i 0) (co i 1) h (by omega))))
    iexact Hy
  isplitl [H0 H1 H2 H3 H4 H5 H6 Hbufs]
  · isplitr [Hbufs]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    iexact Hbufs
  isplitl [Hs7 Hs0 Hsems]
  · isplitl [Hs7]; · iexact Hs7
    isplitl [Hs0]; · iexact Hs0
    iexact Hsems
  iexact HO

end Cert.Proof

end
-- ==== Proof.Deal.lean ====
/- What the call deals the tiles, and what they bring back. -/
module

public import proofs.«01_k».proof.Proof.Tile
public import Idealize.ShloMosaic.Lib.ShareLeaves

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ
variable (fl : Dev nD → ℕ → BitVec 32) (X Y : Dev nD → ℕ → ℕ → F .f32)

abbrev aLoc (d : Dev nD) : Loc nD τ sig := (SparseCore.T d).loc main_arg0
abbrev xLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2
abbrev zLoc (d : Dev nD) : Loc nD τ sig := (SparseCore.T d).loc main_v3

theorem nCore_zero : (K (F := F)).nCore 0 = 2 := rfl
theorem nSub_zero : (K (F := F)).nSub 0 = 16 := rfl

/-- Tile `(c, i)`'s share of the operands: the full share halved once for the cores, four times for the tiles. -/
abbrev tq (c : Fin 2) (i : Fin 16) : PosShare TreeShare := leaf 4 (leaf 1 fullShare c) i
/-- Tile `(c, i)`'s number. -/
abbrev tw (c : Fin 2) (i : Fin 16) : ℕ := 2 * i.val + c.val

/-- The whole output: every cell by its owner. -/
def wholeG (X : ℕ → ℕ → F .f32) (fl : ℕ → BitVec 32) : ℕ → ℕ → F .f32 := fun a b => finalG X fl (ownN a) a b

abbrev vP (d : Dev nD) (q : PosShare TreeShare) : sProp 𝕄 := vLoc d ↦{q} (tab1 S400000 (fl d) : S400000.Idx → BitVec 32)
abbrev xP (d : Dev nD) (q : PosShare TreeShare) : sProp 𝕄 := xLoc d ↦{q} (tab2 S400000x128 (X d) : S400000x128.Idx → F .f32)
abbrev oP (d : Dev nD) (I : Finset S65536x128.Idx) (Z : ℕ → ℕ → F .f32) : sProp 𝕄 := oLoc d ↦[I]{fullShare} (tab2 S65536x128 Z : S65536x128.Idx → F .f32)

abbrev taskP (Z : ℕ → ℕ → F .f32) (d : Dev nD) (c : Fin 2) (i : Fin 16) : sProp 𝕄 :=
  iprop(vP fl d (tq c i) ∗ xP X d (tq c i) ∗ oP d (tileSet (tw c i)) Z)

/-- The call takes each core's tasks' parts, and each task its own; the output's cells come back final. -/
def P : (K (F := F)).Pay (nD := nD) (Val := Elt F) (Name := ℕ) (U := UU) where
  st := fun q d c => match q with | 0 => bigSep Finset.univ fun i : Fin 16 => taskP fl X (Y d) d (Fin.cast nCore_zero c) i
  dn := fun q d c => match q with | 0 => bigSep Finset.univ fun i : Fin 16 => taskP fl X (wholeG (X d) (fl d)) d (Fin.cast nCore_zero c) i
  go := fun q d c i => match q with | 0 => taskP fl X (Y d) d (Fin.cast nCore_zero c) (Fin.cast nSub_zero i)
  td := fun q d c i => match q with | 0 => taskP fl X (wholeG (X d) (fl d)) d (Fin.cast nCore_zero c) (Fin.cast nSub_zero i)
  x := fun _ _ => iprop(emp)

instance P_storable : (P fl X Y).IsStorable where
  st q d c := match q with
    | 0 => (inferInstance : BI.Storable (upEmb : UEmb _ 𝕄) (bigSep Finset.univ fun i : Fin 16 => taskP fl X (Y d) d (Fin.cast nCore_zero c) i))
  dn q d c := match q with
    | 0 => (inferInstance : BI.Storable (upEmb : UEmb _ 𝕄) (bigSep Finset.univ fun i : Fin 16 => taskP fl X (wholeG (X d) (fl d)) d (Fin.cast nCore_zero c) i))
  go q d c i := match q with
    | 0 => (inferInstance : BI.Storable (upEmb : UEmb _ 𝕄) (taskP fl X (Y d) d (Fin.cast nCore_zero c) (Fin.cast nSub_zero i)))
  td q d c i := match q with
    | 0 => (inferInstance : BI.Storable (upEmb : UEmb _ 𝕄) (taskP fl X (wholeG (X d) (fl d)) d (Fin.cast nCore_zero c) (Fin.cast nSub_zero i)))

/-! ## A task meets its obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0_k (coordsV c s) (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- A tile's cells at its own final values are at the whole output's. -/
theorem oP_final (d : Dev nD) (w : ℕ) (X : ℕ → ℕ → F .f32) (fl : ℕ → BitVec 32) : oP d (tileSet w) (finalG X fl w) = oP d (tileSet w) (wholeG X fl) :=
  pointsTo_congr fun i hi => by
    have h := (Finset.mem_filter.mp hi).2
    show finalG X fl w (co i 0) (co i 1) = finalG X fl (ownN (co i 0)) (co i 0) (co i 1)
    rw [h]

set_option maxRecDepth 16384 in
theorem task_body (d : Dev nD) (L : grid0.Coords) (c : Fin 2) (i : Fin 16) (hw : wid L = tw c i) (hF : (K (F := F)).Facts) (O : CellTallies nD τ sig (HIx 1)) (Ws : Waits sig (HIx 1))
    (hO : ∀ g, O g none = 0) (hf : Fits (fl d)) :
    iprop(levAts (K (F := F)).L (K (F := F)).lev ∗ emp ∗ taskP fl X (Y d) d c i ∗ scopedBufs (thr d L) ∗ scopedSems0 (thr d L) ∗ owes (thr d L) O Ws)
      ⊢ wp frame (wpE (defs₀ (F := F)) 𝒱₀ (thr d L) none) Set.univ (cc0_k (F := F) L (Memref.whole main_v0_scv) (Memref.isWhole_whole _) (Memref.whole main_arg1_scv) (Memref.isWhole_whole _) (Memref.whole main_v1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) cc0_scratch7 cc0_scoped0)
          fun _ => iprop(taskP fl X (wholeG (X d) (fl d)) d c i ∗ scopedBufs (thr d L) ∗ scopedSems0 (thr d L)
            ∗ ∃ W', ⌜∀ p ∈ W', p ∈ Ws ∨ p.2 = none⌝ ∗ owes (thr d L) O W') := by
  have h := tile_body d L hF O Ws hO (tq c i) (tq c i) (X d) (fl d) hf (Y d)
  rw [hw] at h
  have e := oP_final d (tw c i) (X d) (fl d)
  unfold taskP
  rw [← e]
  exact h

set_option maxRecDepth 16384 in
theorem tileObl (hF : (K (F := F)).Facts) (hf : ∀ d, Fits (fl d)) : (K (F := F)).TileObl (D (F := F)) 𝒱 (P fl X Y) v₀ 0 := by
  intro d c i O W hO _ _
  simp only [show (P fl X Y).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task_body fl X Y d (coordsV ⟨_, hci.1⟩ ⟨_, hci.2⟩) (Fin.cast nCore_zero c) (Fin.cast nSub_zero i) rfl hF O W hO (hf d)).trans (wp_mono frame _ _ fun _ => obl_post)

/-! ## A core's tasks are its part of the call -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P fl X Y) 0 := by
  intro d c
  show (bigSep Finset.univ fun i : Fin 16 => taskP fl X (Y d) d (Fin.cast nCore_zero c) i) ⊢ |={Set.univ}=> iprop(
      (bigSep Finset.univ fun i : Fin ((K (F := F)).nSub 0) => taskP fl X (Y d) d (Fin.cast nCore_zero c) (Fin.cast nSub_zero i))
      ∗ ((bigSep Finset.univ fun i : Fin ((K (F := F)).nSub 0) => taskP fl X (wholeG (X d) (fl d)) d (Fin.cast nCore_zero c) (Fin.cast nSub_zero i))
          -∗ bigSep Finset.univ fun i : Fin 16 => taskP fl X (wholeG (X d) (fl d)) d (Fin.cast nCore_zero c) i))
  rw [bigSep_tasks (F := F) (fun i => taskP fl X (Y d) d (Fin.cast nCore_zero c) i),
    bigSep_tasks (F := F) (fun i => taskP fl X (wholeG (X d) (fl d)) d (Fin.cast nCore_zero c) i)]
  iintro H; imodintro
  isplitl [H]; · iexact H
  iintro H
  iexact H

/-! ## The operands whole are the tasks' parts -/

/-- A points-to at the full share is the tiles' shares of it. -/
theorem pts_tiles {ℓ : Loc nD τ sig} (f : Buf (Elt F) ℓ) :
    (ℓ ↦{fullShare} f : sProp 𝕄) = bigSep Finset.univ fun c : Fin 2 => bigSep Finset.univ fun i : Fin 16 => ℓ ↦{tq c i} f :=
  (pointsTo_leaves Finset.univ f 1 fullShare).trans (bigSep_congr fun _ _ => pointsTo_leaves Finset.univ f 4 _)

theorem tileSets_disjoint : ∀ p ∈ (Finset.univ : Finset (Fin 2 × Fin 16)), ∀ p' ∈ (Finset.univ : Finset (Fin 2 × Fin 16)), p ≠ p' →
    Disjoint (tileSet (tw p.1 p.2)) (tileSet (tw p'.1 p'.2)) := fun p _ p' _ hne =>
  Finset.disjoint_left.mpr fun i hi hi' => hne (by
    have e := (Finset.mem_filter.mp hi).2
    have e' := (Finset.mem_filter.mp hi').2
    have h1 := p.1.isLt; have h1' := p'.1.isLt
    unfold tw at e e'
    refine Prod.ext (Fin.ext ?_) (Fin.ext ?_) <;> omega)

theorem tileSets_cover : (Finset.univ : Finset (Fin 2 × Fin 16)).biUnion (fun p => tileSet (tw p.1 p.2)) = Finset.univ := by
  ext i
  simp only [Finset.mem_biUnion, Finset.mem_univ, true_and, iff_true]
  have h : ownN (co i 0) < 32 := Nat.mod_lt _ (by omega)
  refine ⟨(⟨ownN (co i 0) % 2, by omega⟩, ⟨ownN (co i 0) / 2, by omega⟩), Finset.mem_filter.mpr ⟨Finset.mem_univ _, ?_⟩⟩
  show ownN (co i 0) = 2 * (ownN (co i 0) / 2) + ownN (co i 0) % 2
  omega

theorem out_tiles (d : Dev nD) (Z : ℕ → ℕ → F .f32) :
    oP d Finset.univ Z = bigSep Finset.univ fun c : Fin 2 => bigSep Finset.univ fun i : Fin 16 => oP d (tileSet (tw c i)) Z := by
  have h := pointsTo_biUnion (Ix := HIx 1) (Lvl := ℕ) (Name := ℕ) (U := UU) (Val := Elt F) (ℓ := oLoc d) (q := fullShare) (f := (tab2 S65536x128 Z : S65536x128.Idx → F .f32))
    (Finset.univ : Finset (Fin 2 × Fin 16)) (fun p => tileSet (tw p.1 p.2)) tileSets_disjoint
  rw [tileSets_cover] at h
  exact h.trans (bigSep_univ_prod _)

theorem whole_tasks (d : Dev nD) (Z : ℕ → ℕ → F .f32) :
    iprop(vP fl d fullShare ∗ xP X d fullShare ∗ oP d Finset.univ Z) = bigSep Finset.univ fun c : Fin 2 => bigSep Finset.univ fun i : Fin 16 => taskP fl X Z d c i := by
  rw [out_tiles]
  unfold vP xP
  rw [pts_tiles, pts_tiles, ← bigSep_sep', ← bigSep_sep']
  refine bigSep_congr fun c _ => ?_
  rw [← bigSep_sep', ← bigSep_sep']

theorem st0_eq (d : Dev nD) :
    (bigSep Finset.univ fun c : Fin ((K (F := F)).nCore 0) => (P fl X Y).st 0 d c) = iprop(vP fl d fullShare ∗ xP X d fullShare ∗ oP d Finset.univ (Y d)) :=
  (bigSep_cores (F := F) fun c => bigSep Finset.univ fun i : Fin 16 => taskP fl X (Y d) d c i).trans (whole_tasks fl X d (Y d)).symm
theorem dn0_eq (d : Dev nD) :
    (bigSep Finset.univ fun c : Fin ((K (F := F)).nCore 0) => (P fl X Y).dn 0 d c) = iprop(vP fl d fullShare ∗ xP X d fullShare ∗ oP d Finset.univ (wholeG (X d) (fl d))) :=
  (bigSep_cores (F := F) fun c => bigSep Finset.univ fun i : Fin 16 => taskP fl X (wholeG (X d) (fl d)) d c i).trans (whole_tasks fl X d _).symm

end Cert.Proof

end
-- ==== Proof.Launch.lean ====
/- The whole program: the cells flattened, the call, its output reshaped and transposed. -/
module

public import proofs.«01_k».proof.Proof.Deal

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay ownBufs ownSems0 ownCells ownRefs mem_ownCells mem_ownRefs)
open Idealize.ShloMosaic.Rounds
open Idealize.ShloMosaic.Tactic
open Idealize.ShloMosaic.StableHlo (held wp_hlo_within)

variable {F : FTy → Type} [FloatOps F]

local notation "𝕄" => MT nD τ sig (HIx 1) (Elt F) ℕ UU ℕ
variable (m : (ℓ : Loc nD τ sig) → Buf (Elt F) ℓ) (ρ : Dev nD → PrngReg) (fl : Dev nD → ℕ → BitVec 32) (X Y : Dev nD → ℕ → ℕ → F .f32)

/-- The arrays as functions of numbers: the cells flattened, the rows, what the output's array holds before the call. -/
structure Reads : Prop where
  cells : ∀ d, (tab1 S400000 (fl d) : S400000.Idx → BitVec 32) = shapeCast S400000 (m (aLoc d)) shapeCasts_S400000x1_S400000
  rows : ∀ d, (tab2 S400000x128 (X d) : S400000x128.Idx → F .f32) = m (xLoc d)
  old : ∀ d, (tab2 S65536x128 (Y d) : S65536x128.Idx → F .f32) = m (oLoc d)

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fl X Y).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [show (bigSep Finset.univ fun _ : Dev nD => (iprop(emp) : sProp 𝕄)) = iprop(emp) from bigSep_emp_const _]; iempintro
  rw [show (bigSep Finset.univ fun thr : Thread nD τ => bigSep Finset.univ fun q : Fin 1 => (P fl X Y).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## The TensorCore's program -/

abbrev a' : DevRef τ sig := Proc.devRef .tc (main_arg0 : Ref sig .tc)
abbrev x' : DevRef τ sig := Proc.devRef .tc (main_arg1 : Ref sig .tc)
abbrev v' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev z' : DevRef τ sig := Proc.devRef .tc (main_v3 : Ref sig .tc)

abbrev opA : HloOp τ sig (Elt F) := StableHlo.reshape main_arg0 main_v0 (rfl : (.i32 : EltTy) = .i32) shapeCasts_S400000x1_S400000
abbrev opR : HloOp τ sig (Elt F) := StableHlo.reshape main_v1 main_v2 (rfl : (.f32 : EltTy) = .f32) shapeCasts_S65536x128_S4x128x128x128
abbrev opT : HloOp τ sig (Elt F) := StableHlo.unary main_v2 main_v3 ((transpose S4x128x128x128 [0, 3, 1, 2] · transposes_S4x128x128x128_S4x128x128x128_0_3_1_2) : (⟨S4x128x128x128, .f32⟩ : BufTy).Contents (Elt F) → (⟨S4x128x128x128, .f32⟩ : BufTy).Contents (Elt F))

/-- The TensorCore's six arrays. -/
abbrev S6 : Finset (DevRef τ sig) := {a', x', v', o', r', z'}

theorem held_S6 (d : Dev nD) (W : Valuation τ sig (Elt F)) :
    (held (T d) S6 W : sProp 𝕄) = iprop((aLoc d ↦{fullShare} W a') ∗ (xLoc d ↦{fullShare} W x') ∗ (vLoc d ↦{fullShare} W v')
      ∗ (oLoc d ↦{fullShare} W o') ∗ (rLoc d ↦{fullShare} W r') ∗ zLoc d ↦{fullShare} W z') := by
  unfold held S6
  rw [SparseCore.bigSep_insert' (by decide), SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (vLoc d ↦{fullShare} W main_v0)
      ∗ (oLoc d ↦{fullShare} W main_v1) ∗ (rLoc d ↦{fullShare} W main_v2) ∗ zLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The arrays at the launch, with the cells flattened, with the call's output, with its reshape, with the result. -/
def V0 (d : Dev nD) : Valuation τ sig (Elt F) := fun b => m (d, b)
def V1 (d : Dev nD) : Valuation τ sig (Elt F) := (opA (F := F)).result (V0 m d)
def V2 (d : Dev nD) : Valuation τ sig (Elt F) := Function.update (V1 m d) o' (tab2 S65536x128 (wholeG (X d) (fl d)) : S65536x128.Idx → F .f32)
def V3 (d : Dev nD) : Valuation τ sig (Elt F) := (opR (F := F)).result (V2 m fl X d)
def V4 (d : Dev nD) : Valuation τ sig (Elt F) := (opT (F := F)).result (V3 m fl X d)

/-- What the program returns. -/
def resZ (X : ℕ → ℕ → F .f32) (fl : ℕ → BitVec 32) : S4x128x128x128.Idx → F .f32 :=
  transpose S4x128x128x128 [0, 3, 1, 2] (shapeCast S4x128x128x128 (tab2 S65536x128 (wholeG X fl) : S65536x128.Idx → F .f32) shapeCasts_S65536x128_S4x128x128x128)
    transposes_S4x128x128x128_S4x128x128x128_0_3_1_2

theorem V1_v (d : Dev nD) : V1 m d v' = shapeCast S400000 (m (aLoc d)) shapeCasts_S400000x1_S400000 :=
  StableHlo.reshape_result' _ _ _ _ _
theorem V1_ne (d : Dev nD) {r : Ref sig .tc} (h : r ≠ main_v0) : V1 m d (Proc.devRef .tc r) = m (d, Proc.devRef .tc r) :=
  StableHlo.reshape_result_ne _ _ _ _ _ _ _ h
theorem V2_o (d : Dev nD) : V2 m fl X d o' = (tab2 S65536x128 (wholeG (X d) (fl d)) : S65536x128.Idx → F .f32) := Function.update_self _ _ _
theorem V2_ne (d : Dev nD) {b : DevRef τ sig} (h : b ≠ o') : V2 m fl X d b = V1 m d b := Function.update_of_ne h _ _
theorem V4_ne (d : Dev nD) {r : Ref sig .tc} (h0 : r ≠ main_v0) (h1 : r ≠ main_v1) (h2 : r ≠ main_v2) (h3 : r ≠ main_v3) :
    V4 m fl X d (Proc.devRef .tc r) = m (d, Proc.devRef .tc r) :=
  (StableHlo.unary_result_ne _ _ _ _ _ _ h3).trans ((StableHlo.reshape_result_ne _ _ _ _ _ _ _ h2).trans
    ((V2_ne m fl X d (fun e => h1 (Proc.devRef_injective _ e))).trans (V1_ne m d h0)))
theorem V4_z (d : Dev nD) : V4 m fl X d z' = resZ (X d) (fl d) := by
  refine (StableHlo.unary_result' _ _ _ _).trans ?_
  unfold resZ
  refine congrArg (fun f => transpose S4x128x128x128 [0, 3, 1, 2] f transposes_S4x128x128x128_S4x128x128x128_0_3_1_2) ?_
  refine (StableHlo.reshape_result' _ _ _ _ _).trans ?_
  rw [V2_o]
  rfl

theorem hA : (opA (F := F)).bufs ⊆ S6 := show ({a', v'} : Finset (DevRef τ sig)) ⊆ S6 by decide
theorem hR : (opR (F := F)).bufs ⊆ S6 := show ({o', r'} : Finset (DevRef τ sig)) ⊆ S6 by decide
theorem hT : (opT (F := F)).bufs ⊆ S6 := show ({r', z'} : Finset (DevRef τ sig)) ⊆ S6 by decide

/-- The arguments at their launch contents, and the result. -/
abbrev FIN (d : Dev nD) : sProp 𝕄 :=
  iprop((aLoc d ↦{fullShare} m (aLoc d)) ∗ (xLoc d ↦{fullShare} m (xLoc d)) ∗ zLoc d ↦{fullShare} (resZ (X d) (fl d) : Buf (Elt F) (zLoc d)))

theorem held_V0 (d : Dev nD) : (unscopedBufs d (fun b => m ((SparseCore.T d).loc b)) : sProp 𝕄) = held (T d) S6 (V0 m d) := by
  rw [unscopedBufs_eq, held_S6]; rfl

variable {m fl X Y} (hr : Reads m fl X Y)
include hr

theorem held_V1 (d : Dev nD) : (held (T d) S6 (V1 m d) : sProp 𝕄) = iprop((aLoc d ↦{fullShare} m (aLoc d)) ∗ xP X d fullShare ∗ vP fl d fullShare
      ∗ oP d Finset.univ (Y d) ∗ (rLoc d ↦{fullShare} m (rLoc d)) ∗ zLoc d ↦{fullShare} m (zLoc d)) := by
  rw [held_S6, V1_v, V1_ne m d (r := main_arg0) (by decide), V1_ne m d (r := main_arg1) (by decide), V1_ne m d (r := main_v1) (by decide),
    V1_ne m d (r := main_v2) (by decide), V1_ne m d (r := main_v3) (by decide), ← hr.cells d]
  unfold xP oP
  rw [hr.rows d, hr.old d]

theorem held_V2 (d : Dev nD) : (held (T d) S6 (V2 m fl X d) : sProp 𝕄) = iprop((aLoc d ↦{fullShare} m (aLoc d)) ∗ xP X d fullShare ∗ vP fl d fullShare
      ∗ oP d Finset.univ (wholeG (X d) (fl d)) ∗ (rLoc d ↦{fullShare} m (rLoc d)) ∗ zLoc d ↦{fullShare} m (zLoc d)) := by
  rw [held_S6, V2_o, V2_ne m fl X d (b := a') (by decide), V2_ne m fl X d (b := x') (by decide), V2_ne m fl X d (b := v') (by decide), V2_ne m fl X d (b := r') (by decide),
    V2_ne m fl X d (b := z') (by decide), V1_v, V1_ne m d (r := main_arg0) (by decide), V1_ne m d (r := main_arg1) (by decide),
    V1_ne m d (r := main_v2) (by decide), V1_ne m d (r := main_v3) (by decide), ← hr.cells d]
  unfold xP oP
  rw [hr.rows d]

omit hr in
theorem held_V4 (d : Dev nD) : (held (T d) S6 (V4 m fl X d) : sProp 𝕄) ⊢ FIN m fl X d := by
  rw [held_S6, V4_z, V4_ne m fl X d (r := main_arg0) (by decide) (by decide) (by decide) (by decide), V4_ne m fl X d (r := main_arg1) (by decide) (by decide) (by decide) (by decide)]
  iintro ⟨Ha, Hx, -, -, -, Hz⟩
  isplitl [Ha]; · iexact Ha
  isplitl [Hx]; · iexact Hx
  iexact Hz

theorem hmain (κ : GSem nD τ sig → ℕ) (d : Dev nD) :
    iprop((K (F := F)).ctx EH (P fl X Y) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m fl X d ∗ (K (F := F)).tcEnd d) := by
  unfold SparseCore.Cfg.tcRes SparseCore.Cfg.tcEnd
  rw [held_V0]
  simp only [main, wp_bind, wp_pure]
  iintro ⟨#Hctx, Hst, ⟨Hb, Hh, Hts, -⟩, -⟩
  iapply (wp_hlo_within 𝒱 (SparseCore.T d) none Set.univ (op := opA) (S := S6) hA (V := V0 m d)) $$ [Hb Hh]
  · isplitl [Hb]; · iexact Hb
    iexact Hh
  iintro ⟨Hb, Hh⟩
  rw [wp_ret]; imodintro
  ihave Hh := (Entails.of_eq (show held (T d) S6 ((opA (F := F)).result (V0 m d)) = _ from held_V1 hr d)) $$ Hh
  icases Hh with ⟨Ha, Hx, Hv, Ho, Hr, Hz⟩
  iapply ((K (F := F)).wp_run (D (F := F)) 𝒱 (EH := EH) (P := P fl X Y) κ d 0) $$ [Hst Ha Hx Hv Ho Hr Hz Hb Hts]
  isplitr; · iexact Hctx
  isplitl [Hst]; · iexact Hst
  isplitl [Hx Hv Ho]
  · rw [st0_eq]
    isplitl [Hv]; · iexact Hv
    isplitl [Hx]; · iexact Hx
    iexact Ho
  iintro ⟨Hst, Hdn⟩
  ihave Hdn := (Entails.of_eq (dn0_eq fl X Y d)) $$ Hdn
  icases Hdn with ⟨Hv, Hx, Ho⟩
  ihave Hh := (Entails.of_eq (held_V2 hr d).symm) $$ [Ha Hx Hv Ho Hr Hz]
  · isplitl [Ha]; · iexact Ha
    isplitl [Hx]; · iexact Hx
    isplitl [Hv]; · iexact Hv
    isplitl [Ho]; · iexact Ho
    isplitl [Hr]; · iexact Hr
    iexact Hz
  iapply (wp_hlo_within 𝒱 (SparseCore.T d) none Set.univ (op := opR) (S := S6) hR (V := V2 m fl X d)) $$ [Hb Hh]
  · isplitl [Hb]; · iexact Hb
    iexact Hh
  iintro ⟨Hb, Hh⟩
  rw [wp_ret]; imodintro
  iapply (wp_hlo_within 𝒱 (SparseCore.T d) none Set.univ (op := opT) (S := S6) hT (V := (opR (F := F)).result (V2 m fl X d))) $$ [Hb Hh]
  · isplitl [Hb]; · iexact Hb
    iexact Hh
  iintro ⟨Hb, Hh⟩
  rw [wp_ret]; imodintro
  ihave Hh := (show held (T d) S6 ((opT (F := F)).result ((opR (F := F)).result (V2 m fl X d))) ⊢ _ from held_V4 d) $$ Hh
  imodintro
  isplitl [Hst]; · iexact Hst
  isplitl [Hh]; · iexact Hh
  isplitl [Hb] <;> iassumption

omit hr in
def fq (m : (ℓ : Loc nD τ sig) → Buf (Elt F) ℓ) (fl : Dev nD → ℕ → BitVec 32) (X : Dev nD → ℕ → ℕ → F .f32) (d : Dev nD) (s' : Phys nD τ sig (Elt F)) : Prop :=
  s'.mem.mem (aLoc d) = m (aLoc d) ∧ s'.mem.mem (xLoc d) = m (xLoc d) ∧ s'.mem.mem (zLoc d) = (resZ (X d) (fl d) : Buf (Elt F) (zLoc d))

omit hr in
set_option maxRecDepth 16384 in
theorem hfin (d : Dev nD) (s' : Phys nD τ sig (Elt F)) : iprop(FIN m fl X d ∗ SI s') ⊢ (⌜fq m fl X d s'⌝ : sProp 𝕄) := by
  iintro ⟨⟨Ha, Hx, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := zLoc d) (I := Finset.univ) (q := fullShare) (f := (resZ (X d) (fl d) : Buf (Elt F) (zLoc d)))) $$ [HSI Hz]
  · isplitl [HSI] <;> iassumption
  icases H with %h3
  ipureintro
  exact ⟨funext fun i => h1 i (Finset.mem_univ i), funext fun i => h2 i (Finset.mem_univ i), funext fun i => h3 i (Finset.mem_univ i)⟩

omit hr in
def QC (m : (ℓ : Loc nD τ sig) → Buf (Elt F) ℓ) (fl : Dev nD → ℕ → BitVec 32) (X : Dev nD → ℕ → ℕ → F .f32) : PUnit × MemSt nD τ sig (Elt F) → Prop := fun r =>
  (∀ c : Dev nD, r.2.mem (aLoc c) = m (aLoc c) ∧ r.2.mem (xLoc c) = m (xLoc c) ∧ r.2.mem (zLoc c) = (resZ (X c) (fl c) : Buf (Elt F) (zLoc c))) ∧ r.2.sem = fun _ => 0

/-- The program's run: the arguments kept, the result as stated, every counter at zero. -/
theorem run_main [∀ e, Nonempty (Elt F e)] (hf : ∀ d, Fits (fl d)) :
    θ_run (Cert.KernelIdeal.defs (F := F)) (Cert.KernelIdeal.threads (F := F)) ⟨m, fun _ => 0, ρ⟩ (QC m fl X) :=
  SparseCore.Cfg.θ_run_sc_quiescent (K := K (F := F)) (D := D (F := F)) (𝒱 := 𝒱) (EH := EH) (P := P fl X Y) (A := ∅) facts v₀
    (fun q hq => match q with | 0 => nomatch hq)
    (fun q _ => match q with | 0 => tileObl fl X Y facts hf)
    (fun q _ => match q with | 0 => SparseCore.Cfg.VecSplit.of_plain (vecSplit fl X Y))
    m ρ main (fun _ => iprop(emp)) (FIN m fl X) (u₀ (F := F)) (sep_elim_left.trans (hu₀ fl X Y)) (hmain ρ hr) (fq m fl X) (hfin) (QC m fl X) (fun _ h hz => ⟨h, hz⟩)

end Cert.Proof

end
-- ==== Proof.Pre.lean ====
/- What the precondition says of the points' cells. -/
module

public import proofs.«01_k».proof.Proof.Round
public import proofs.«01_k».proof.Proof.Gen.Pre_valid
public import Idealize.ShloMosaic.Lib.ReduceAll
public import Idealize.ShloMosaic.Lib.Pipeline.Value

@[expose] public section

noncomputable section

namespace Cert.Proof

open Cert.Pre_valid Cert.Pre_valid.Gen
open Idealize.ShloMosaic

/-- Ones summed where a condition holds count it. -/
theorem count_fold (P : ℕ → Prop) [DecidablePred P] :
    ∀ (n : ℕ) (f : Fin n → BitVec 32), (∀ i : Fin n, f i = if P i.val then 1#32 else 0#32) →
      (Finset.univ : Finset (Fin n)).fold IntOp.addi 0#32 f = BitVec.ofNat 32 (Nat.count P n)
  | 0, _, _ => rfl
  | n + 1, f, hf => by
    rw [Fin.univ_castSuccEmb n, Finset.fold_cons, Finset.fold_map, count_fold P n (f ∘ Fin.castSuccEmb) (fun i => hf i.castSucc), hf (Fin.last n), Nat.count_succ]
    show (if P n then 1#32 else 0#32) + BitVec.ofNat 32 (Nat.count P n) = _
    split
    · rw [BitVec.add_comm, ← BitVec.ofNat_add]
    · rw [BitVec.zero_add]; rfl

variable (A : S400000x1.Idx → BitVec 32)

/-- The cells less their round's first, as the precondition reads them. -/
def cbs : S4x100000.Idx → BitVec 32 :=
  subi (shapeCast S4x100000 A shapeCasts_S400000x1_S4x100000) (muli (iotaInDim S4x100000 32 0) (broadcastInDim S4x100000 ![] bcast_S_S4x100000 (constantI S_ 32 16384#32)))

/-- The owners' numbers. -/
def owners : S40x10000x1.Idx → BitVec 32 :=
  andi (xori (shapeCast S40x10000x1 (cbs A) shapeCasts_S4x100000_S40x10000x1)
    (Host.shrsi (shapeCast S40x10000x1 (cbs A) shapeCasts_S4x100000_S40x10000x1) (broadcastInDim S40x10000x1 ![] bcast_S_S40x10000x1 (constantI S_ 32 5#32))))
    (broadcastInDim S40x10000x1 ![] bcast_S_S40x10000x1 (constantI S_ 32 31#32))

/-- One where a point is a tile's. -/
def hits : S40x10000x32.Idx → BitVec 32 := fun i =>
  Scalar.select (IntOp.cmpi .eq (broadcastInDim S40x10000x32 ![0, 1, 2] bcast_S40x10000x1_S40x10000x32_0_1_2 (owners A) i)
    (broadcastInDim S40x10000x32 ![0, 1, 2] bcast_S1x1x32_S40x10000x32_0_1_2 (iotaInDim S1x1x32 32 2) i)) 1#32 0#32

/-- The precondition, point by point and count by count. -/
theorem pre_parts {F : FTy → Type} [FloatOps F] (X : S400000x128.Idx → F .f32) (h : Cert.Pre_valid.fn (F := F) A X = fun _ => 1#1) :
    (∀ i, IntOp.andi (IntOp.cmpi .sge (cbs A i) 0#32) (IntOp.cmpi .slt (cbs A i) 16384#32) = 1#1)
    ∧ ∀ i, IntOp.cmpi .sle (Host.reduce IntOp.addi (hits A) (constantI S_ 32 0#32) reducesTo_S40x10000x32_S40x32_d1 h_S_ i) 9984#32 = 1#1 := by
  have hs : Subsingleton S_.Idx := ⟨fun a b => funext fun i => i.elim0⟩
  have e : IntOp.andi
      (Host.reduce IntOp.andi (andi (cmpi .sge (cbs A) (broadcastInDim S4x100000 ![] bcast_S_S4x100000 (constantI S_ 32 0#32)))
        (cmpi .slt (cbs A) (broadcastInDim S4x100000 ![] bcast_S_S4x100000 (constantI S_ 32 16384#32)))) (constantI S_ 1 1#1) reducesTo_S4x100000_S_d0_1 h_S_ (Shape.Idx.first h_S_))
      (Host.reduce IntOp.andi (cmpi .sle (Host.reduce IntOp.addi (hits A) (constantI S_ 32 0#32) reducesTo_S40x10000x32_S40x32_d1 h_S_)
        (broadcastInDim S40x32 ![] bcast_S_S40x32 (constantI S_ 32 9984#32))) (constantI S_ 1 1#1) reducesTo_S40x32_S_d0_1 h_S_ (Shape.Idx.first h_S_)) = 1#1 :=
    congrFun h (Shape.Idx.first h_S_)
  obtain ⟨e1, e2⟩ := IntOp.andi_eq_one.1 e
  exact ⟨fun i => Host.reduce_andi_all _ _ _ _ _ e1 i, fun i => Host.reduce_andi_all _ _ _ _ _ e2 i⟩

variable {A} {fl : ℕ → BitVec 32} (hfl : tab1 Cert.KernelIdeal.S400000 fl = shapeCast Cert.KernelIdeal.S400000 A Cert.KernelIdeal.Gen.shapeCasts_S400000x1_S400000)

/-- The index of point `p`. -/
def pt (p : ℕ) (hp : p < 400000) : S400000x1.Idx := fun | ⟨0, _⟩ => ⟨p, hp⟩ | ⟨1, _⟩ => ⟨0, Nat.one_pos⟩

include hfl in
theorem pt_cell (p : ℕ) (hp : p < 400000) : A (pt p hp) = fl p := by
  have e := congrFun hfl (fun | ⟨0, _⟩ => ⟨p, hp⟩ : Cert.KernelIdeal.S400000.Idx)
  rw [shapeCast_apply A _ _ (pt p hp) (by
    rw [Shape.rowMajor_val_one, Shape.rowMajor_val_two]
    show p * 1 + 0 = p
    omega)] at e
  rw [← e]
  exact congrArg fl (dif_pos Nat.one_pos)

include hfl in
/-- A cell less its round's first. -/
theorem cbs_val (bb n : ℕ) (hb : bb < 4) (hn : n < 100000) (i : S4x100000.Idx) (h0 : (i 0).val = bb) (h1 : (i 1).val = n) :
    cbs A i = cbW (BitVec.ofNat 32 bb) (fl (100000 * bb + n)) := by
  have e : shapeCast S4x100000 A shapeCasts_S400000x1_S4x100000 i = fl (100000 * bb + n) := by
    rw [shapeCast_apply A _ _ (pt (100000 * bb + n) (by omega)) (by
      rw [Shape.rowMajor_val_two, Shape.rowMajor_val_two]
      show (100000 * bb + n) * 1 + 0 = (i 0).val * 100000 + (i 1).val
      omega)]
    exact pt_cell hfl _ _
  show shapeCast S4x100000 A shapeCasts_S400000x1_S4x100000 i - BitVec.ofNat 32 (i 0).val * 16384#32 = _
  rw [e, h0]
  rfl

include hfl in
theorem owners_val (bb c j : ℕ) (hb : bb < 4) (hc : c < 10) (hj : j < 10000) (i : S40x10000x1.Idx) (h0 : (i 0).val = 10 * bb + c) (h1 : (i 1).val = j) :
    owners A i = (cbW (BitVec.ofNat 32 bb) (chunkC fl bb c j) ^^^ (cbW (BitVec.ofNat 32 bb) (chunkC fl bb c j)).sshiftRight' 5#32) &&& 31#32 := by
  have h2 : (i 2).val < 1 := (i 2).isLt
  have e : shapeCast S40x10000x1 (cbs A) shapeCasts_S4x100000_S40x10000x1 i = cbW (BitVec.ofNat 32 bb) (chunkC fl bb c j) := by
    rw [shapeCast_apply (cbs A) _ _ (fun | ⟨0, _⟩ => ⟨bb, hb⟩ | ⟨1, _⟩ => ⟨10000 * c + j, by show _ < 100000; omega⟩ : S4x100000.Idx) (by
      rw [Shape.rowMajor_val_two, Shape.rowMajor_val_three]
      show bb * 100000 + (10000 * c + j) = ((i 0).val * 10000 + (i 1).val) * 1 + (i 2).val
      omega)]
    rw [cbs_val hfl bb (10000 * c + j) hb (by omega) _ rfl rfl]
    unfold chunkC
    rw [Nat.add_assoc]
  show IntOp.andi (IntOp.xori (shapeCast S40x10000x1 (cbs A) shapeCasts_S4x100000_S40x10000x1 i)
    (IntOp.shrsi .host (shapeCast S40x10000x1 (cbs A) shapeCasts_S4x100000_S40x10000x1 i) 5#32)) 31#32 = _
  rw [e]
  rfl

include hfl in
theorem hits_val (bb c j w : ℕ) (hb : bb < 4) (hc : c < 10) (hj : j < 10000) (hw : w < 32) (i : S40x10000x32.Idx) (h0 : (i 0).val = 10 * bb + c) (h1 : (i 1).val = j) (h2 : (i 2).val = w) :
    hits A i = if mineN fl bb (BitVec.ofNat 32 w) c j then 1#32 else 0#32 := by
  unfold hits
  rw [broadcastInDim_apply _ _ (owners A) i (fun | ⟨0, _⟩ => ⟨10 * bb + c, by show _ < 40; omega⟩ | ⟨1, _⟩ => ⟨j, hj⟩ | ⟨2, _⟩ => ⟨0, Nat.one_pos⟩ : S40x10000x1.Idx) (by
      intro a
      match a with
      | ⟨0, _⟩ => exact h0.symm
      | ⟨1, _⟩ => exact h1.symm
      | ⟨2, _⟩ => rfl),
    broadcastInDim_apply _ _ (iotaInDim S1x1x32 32 2) i (fun | ⟨0, _⟩ => ⟨0, Nat.one_pos⟩ | ⟨1, _⟩ => ⟨0, Nat.one_pos⟩ | ⟨2, _⟩ => ⟨w, hw⟩ : S1x1x32.Idx) (by
      intro a
      match a with
      | ⟨0, _⟩ => rfl
      | ⟨1, _⟩ => rfl
      | ⟨2, _⟩ => exact h2.symm),
    owners_val hfl bb c j hb hc hj _ rfl rfl]
  show Scalar.select (IntOp.cmpi .eq _ (BitVec.ofNat 32 w)) _ _ = _
  generalize ho : (cbW (BitVec.ofNat 32 bb) (chunkC fl bb c j) ^^^ (cbW (BitVec.ofNat 32 bb) (chunkC fl bb c j)).sshiftRight' 5#32) &&& 31#32 = o
  have em : mineN fl bb (BitVec.ofNat 32 w) c j ↔ o = BitVec.ofNat 32 w := by rw [← ho]; exact Iff.rfl
  show Scalar.select (BitVec.ofBool (o == BitVec.ofNat 32 w)) 1#32 0#32 = _
  by_cases h : o = BitVec.ofNat 32 w
  · rw [if_pos (em.mpr h), beq_iff_eq.mpr h]; rfl
  · rw [if_neg (fun x => h (em.mp x)), beq_eq_false_iff_ne.mpr h]; rfl

include hfl in
/-- Under the precondition the points' cells are in their rounds, and no tile has more of a chunk than it can list. -/
theorem fits_of_pre {F : FTy → Type} [FloatOps F] (X : S400000x128.Idx → F .f32) (h : Cert.Pre_valid.fn (F := F) A X = fun _ => 1#1) : Fits fl := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  obtain ⟨hr, hn⟩ := pre_parts A X h
  constructor
  · intro bb hb n hn'
    have e := hr (fun | ⟨0, _⟩ => ⟨bb, hb⟩ | ⟨1, _⟩ => ⟨n, hn'⟩ : S4x100000.Idx)
    rw [cbs_val hfl bb n hb hn' _ rfl rfl] at e
    generalize cbW (BitVec.ofNat 32 bb) (fl (100000 * bb + n)) = x at e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  · intro bb hb c hc w hw
    have hR : S40x10000x32.Reduces [1] S40x32 := by decide
    have e := hn (fun | ⟨0, _⟩ => ⟨10 * bb + c, by show _ < 40; omega⟩ | ⟨1, _⟩ => ⟨w, hw⟩ : S40x32.Idx)
    rw [Host.reduce_eq_fold_single _ _ _ _ hR] at e
    have hc' := count_fold (mineN fl bb (BitVec.ofNat 32 w) c) 10000
      (hits A ∘ hR.lift (fun | ⟨0, _⟩ => ⟨10 * bb + c, by show _ < 40; omega⟩ | ⟨1, _⟩ => ⟨w, hw⟩ : S40x32.Idx))
      (fun j => hits_val hfl bb c j.val w hb hc j.isLt hw _ rfl rfl rfl)
    have e' := (congrArg (fun x => IntOp.cmpi .sle x 9984#32) hc').symm.trans e
    have hle := Nat.count_le (p := mineN fl bb (BitVec.ofNat 32 w) c) (n := 10000)
    generalize Nat.count (mineN fl bb (BitVec.ofNat 32 w) c) 10000 = k at e' hle ⊢
    simp only [IntOp.cmpi, ofBool_eq_one, BitVec.sle_eq_decide, decide_eq_true_eq, BitVec.toInt_eq_toNat_cond, BitVec.toNat_ofNat, Nat.reducePow, Nat.reduceMod] at e'
    omega

end Cert.Proof
-- ==== Proof.Spec.lean ====
/- The scatter-maximum one point after another, and that the tiles' slabs together hold it. -/
module

public import proofs.«01_k».proof.Proof.Round

@[expose] public section

noncomputable section

namespace Cert.Proof

open Cert.KernelIdeal Cert.KernelIdeal.Gen
open Idealize.ShloMosaic

variable {F : FTy → Type} [FloatOps F]

/-- The table after the first `n` points in order: each has raised its cell's row to the maximum with
its features. -/
def refN (X : ℕ → ℕ → F .f32) (fl : ℕ → BitVec 32) : ℕ → ℕ → ℕ → F .f32
  | 0 => fun _ _ => zeroF
  | n + 1 => updRow (refN X fl n) (fun _ b => X n b) (fl n).toNat 0

omit [FloatOps F] in
/-- A cell that is of round `bb` is the round's first cell and what is left of it. -/
theorem cell_split (bb : ℕ) (hb : bb < 4) (x : BitVec 32) (h : (cbW (BitVec.ofNat 32 bb) x).toNat < 16384) :
    x.toNat = 16384 * bb + (cbW (BitVec.ofNat 32 bb) x).toNat := by
  unfold cbW at h ⊢
  rw [BitVec.toNat_sub, BitVec.toNat_mul, BitVec.toNat_ofNat] at h ⊢
  rw [show bb % 2 ^ 32 = bb by omega] at h ⊢
  simp only [show (16384#32 : BitVec 32).toNat = 16384 from rfl] at h ⊢
  have := x.isLt
  omega

/-- Whose a cell of a round is, in numbers. -/
theorem mine_iff (w : ℕ) (hw : w < 32) (b x : BitVec 32) (h : (cbW b x).toNat < 16384) :
    mineW (BitVec.ofNat 32 w) b x ↔ ((cbW b x).toNat ^^^ (cbW b x).toNat / 32) % 32 = w := by
  have e : (((cbW b x) ^^^ (cbW b x).sshiftRight' 5#32) &&& 31#32).toNat = ((cbW b x).toNat ^^^ (cbW b x).toNat / 32) % 32 := by
    generalize cbW b x = y at h ⊢
    have es : (y.sshiftRight' 5#32).toNat = y.toNat / 32 := by
      rw [BitVec.sshiftRight_eq', BitVec.sshiftRight_eq_of_msb_false (BitVec.msb_eq_false_iff_two_mul_lt.mpr (by omega)),
        BitVec.toNat_ushiftRight, Nat.shiftRight_eq_div_pow]
      rfl
    rw [BitVec.toNat_and, BitVec.toNat_xor, es]
    show _ &&& (2 ^ 5 - 1) = _
    rw [Nat.and_two_pow_sub_one_eq_mod]
  unfold mineW
  rw [← BitVec.toNat_inj, e, BitVec.toNat_ofNat, Nat.mod_eq_of_lt (show w < 2 ^ 32 by omega)]

/-- A point of round `bb` hits cell `a` of that round exactly when it is the cell's owner's and its row in
that owner's slab is the cell's. -/
theorem hit_iff (bb a : ℕ) (hb : bb < 4) (ha : a / 16384 = bb) (x : BitVec 32) (h : (cbW (BitVec.ofNat 32 bb) x).toNat < 16384) :
    a = x.toNat ↔ mineW (BitVec.ofNat 32 (ownN a)) (BitVec.ofNat 32 bb) x ∧ a % 16384 / 32 = (cbW (BitVec.ofNat 32 bb) x).toNat / 32 := by
  rw [mine_iff (ownN a) (by unfold ownN; omega) _ _ h, cell_split bb hb x h]
  generalize (cbW (BitVec.ofNat 32 bb) x).toNat = y at h ⊢
  constructor
  · rintro rfl
    have e : (16384 * bb + y) % 16384 = y := by omega
    unfold ownN
    rw [e]
    exact ⟨rfl, rfl⟩
  · rintro ⟨h1, h2⟩
    unfold ownN at h1
    rw [← h2, xor_mod32, xor_mod32 (a % 16384)] at h1
    have h3 : y % 32 = a % 16384 % 32 := by
      have h4 := congrArg (· ^^^ a % 16384 / 32 % 32) h1
      simpa only [Nat.xor_assoc, Nat.xor_self, Nat.xor_zero] using h4
    omega

/-- The points of another round leave a cell. -/
theorem refN_other (X : ℕ → ℕ → F .f32) (fl : ℕ → BitVec 32) (bb a b : ℕ) (hb : bb < 4) (hin : InRound fl bb) (ha : a / 16384 ≠ bb) :
    ∀ n, n ≤ 100000 → refN X fl (100000 * bb + n) a b = refN X fl (100000 * bb) a b
  | 0, _ => rfl
  | n + 1, hn => by
    rw [← refN_other X fl bb a b hb hin ha n (by omega)]
    show updRow (refN X fl (100000 * bb + n)) _ (fl (100000 * bb + n)).toNat 0 a b = _
    unfold updRow
    rw [if_neg]
    have h := hin n (by omega)
    rw [cell_split bb hb _ h]
    omega

/-- The points of a cell's own round make of it what they make of its row in its owner's slab. -/
theorem refN_own (X : ℕ → ℕ → F .f32) (fl : ℕ → BitVec 32) (bb a b : ℕ) (hb : bb < 4) (hin : InRound fl bb) (ha : a / 16384 = bb)
    (h0 : refN X fl (100000 * bb) a b = zeroF) :
    ∀ n, n ≤ 100000 → refN X fl (100000 * bb + n) a b = slabN X fl bb (BitVec.ofNat 32 (ownN a)) n (a % 16384 / 32) b
  | 0, _ => h0
  | n + 1, hn => by
    have ih := refN_own X fl bb a b hb hin ha h0 n (by omega)
    have hi := hit_iff bb a hb ha (fl (100000 * bb + n)) (hin n (by omega))
    show updRow (refN X fl (100000 * bb + n)) (fun _ b => X (100000 * bb + n) b) (fl (100000 * bb + n)).toNat 0 a b = (if _ then _ else _ : ℕ → ℕ → F .f32) _ _
    by_cases hm : mineW (BitVec.ofNat 32 (ownN a)) (BitVec.ofNat 32 bb) (fl (100000 * bb + n))
    · rw [if_pos hm]
      unfold updRow
      by_cases hl : a % 16384 / 32 = (cbW (BitVec.ofNat 32 bb) (fl (100000 * bb + n))).toNat / 32
      · rw [if_pos (hi.mpr ⟨hm, hl⟩), if_pos hl, ← hi.mpr ⟨hm, hl⟩, ih, ← hl]
      · rw [if_neg fun e => hl (hi.mp e).2, if_neg hl, ih]
    · rw [if_neg hm]
      unfold updRow
      rw [if_neg fun e => hm (hi.mp e).1, ih]

/-- The rounds before a cell's own leave it zero. -/
theorem refN_before (X : ℕ → ℕ → F .f32) (fl : ℕ → BitVec 32) (hf : ∀ bb, bb < 4 → InRound fl bb) (a b : ℕ) (ha : a / 16384 < 4) :
    ∀ bb, bb ≤ a / 16384 → refN X fl (100000 * bb) a b = zeroF
  | 0, _ => rfl
  | bb + 1, h => by
    rw [← refN_before X fl hf a b ha bb (by omega)]
    exact refN_other X fl bb a b (by omega) (hf bb (by omega)) (by omega) 100000 le_rfl

/-- The rounds after a cell's own leave it. -/
theorem refN_after (X : ℕ → ℕ → F .f32) (fl : ℕ → BitVec 32) (hf : ∀ bb, bb < 4 → InRound fl bb) (a b r : ℕ) (hr : a / 16384 < r) :
    ∀ k, r + k ≤ 4 → refN X fl (100000 * (r + k)) a b = refN X fl (100000 * r) a b
  | 0, _ => rfl
  | k + 1, h => by
    rw [← refN_after X fl hf a b r hr k (by omega)]
    exact refN_other X fl (r + k) a b (by omega) (hf _ (by omega)) (by omega) 100000 le_rfl

/-- All points in order make of a cell what its owner's slab holds after the cell's round. -/
theorem refN_final (X : ℕ → ℕ → F .f32) (fl : ℕ → BitVec 32) (hf : ∀ bb, bb < 4 → InRound fl bb) (a b : ℕ) (ha : a < 65536) :
    refN X fl 400000 a b = finalG X fl (ownN a) a b := by
  have h4 : a / 16384 < 4 := by omega
  have h1 := refN_after X fl hf a b (a / 16384 + 1) (by omega) (3 - a / 16384) (by omega)
  rw [show a / 16384 + 1 + (3 - a / 16384) = 4 by omega] at h1
  exact h1.trans (refN_own X fl (a / 16384) a b h4 (hf _ h4) rfl (refN_before X fl hf a b h4 _ le_rfl) 100000 le_rfl)

end Cert.Proof
-- ==== Proof.Table.lean ====
/- Slices of tables read at a word, and a table with one row written. -/
module

public import proofs.«01_k».proof.Proof.Spec
public import Idealize.ShloMosaic.Lib.Pointwise.ShapeOpsCore

@[expose] public section

noncomputable section

namespace Cert.Proof

open Idealize.ShloMosaic

/-- The one-entry slice of a one-axis table. -/
theorem slice_tab1 {α : Type} {n : ℕ} (A : ℕ → α) (st : Fin 1 → Int) (h : (⟨1, ![n]⟩ : Shape).Slices (fun _ => 0) ⟨1, ![1]⟩) (k : ℕ) (hk : k < n) (e : st 0 = k) :
    Host.dynamicSlice (s := ⟨1, ![n]⟩) ⟨1, ![1]⟩ (tab1 ⟨1, ![n]⟩ A) st h = fun _ => A k := by
  funext j
  rw [Host.dynamicSlice_apply]
  have hc := Host.clampedStart_of_le (s := ⟨1, ![n]⟩) (t := ⟨1, ![1]⟩) h.1 st 0 k e (by show k + 1 ≤ n; omega)
  have hj : (j 0).val < 1 := (j 0).isLt
  unfold tab1
  congr 1
  exact (dif_pos Nat.one_pos).trans (by show Host.clampedStart _ _ h.1 st 0 + (j 0).val = k; omega)

/-- A row of a two-axis table. -/
theorem slice_tab2 {α : Type} {n w : ℕ} (A : ℕ → ℕ → α) (st : Fin 2 → Int) (h : (⟨2, ![n, w]⟩ : Shape).Slices (fun _ => 0) ⟨2, ![1, w]⟩) (k : ℕ) (hk : k < n)
    (e0 : st 0 = k) (e1 : st 1 = 0) :
    Host.dynamicSlice (s := ⟨2, ![n, w]⟩) ⟨2, ![1, w]⟩ (tab2 ⟨2, ![n, w]⟩ A) st h = tab2 ⟨2, ![1, w]⟩ fun _ b => A k b := by
  funext j
  rw [Host.dynamicSlice_apply]
  have hc := Host.clampedStart_of_le (s := ⟨2, ![n, w]⟩) (t := ⟨2, ![1, w]⟩) h.1 st 0 k e0 (by show k + 1 ≤ n; omega)
  have hc1 := Host.clampedStart_of_le (s := ⟨2, ![n, w]⟩) (t := ⟨2, ![1, w]⟩) h.1 st 1 0 e1 (by show 0 + w ≤ w; omega)
  have hj : (j 0).val < 1 := (j 0).isLt
  have hj1 : co j 1 = (j 1).val := dif_pos Nat.one_lt_two
  unfold tab2
  rw [hj1]
  congr 1
  · exact (dif_pos Nat.two_pos).trans (by show Host.clampedStart _ _ h.1 st 0 + (j 0).val = k; omega)
  · exact (dif_pos Nat.one_lt_two).trans (by show Host.clampedStart _ _ h.1 st 1 + (j 1).val = (j 1).val; omega)

/-- A two-axis table with one row written. -/
theorem update_tab2 {α : Type} {n w : ℕ} (A : ℕ → ℕ → α) (R : ℕ → α) (st : Fin 2 → Int) (h : (⟨2, ![n, w]⟩ : Shape).Slices (fun _ => 0) ⟨2, ![1, w]⟩) (k : ℕ) (hk : k < n)
    (e0 : st 0 = k) (e1 : st 1 = 0) :
    Host.dynamicUpdateSlice (s := ⟨2, ![n, w]⟩) (tab2 ⟨2, ![n, w]⟩ A) (tab2 ⟨2, ![1, w]⟩ fun _ b => R b) st h
      = tab2 ⟨2, ![n, w]⟩ fun a b => if a = k then R b else A a b := by
  funext i
  rw [Host.dynamicUpdateSlice_apply]
  have hc := Host.clampedStart_of_le (s := ⟨2, ![n, w]⟩) (t := ⟨2, ![1, w]⟩) h.1 st 0 k e0 (by show k + 1 ≤ n; omega)
  have hc1 := Host.clampedStart_of_le (s := ⟨2, ![n, w]⟩) (t := ⟨2, ![1, w]⟩) h.1 st 1 0 e1 (by show 0 + w ≤ w; omega)
  have hi0 : co i 0 = (i 0).val := dif_pos Nat.two_pos
  have hi1 : co i 1 = (i 1).val := dif_pos Nat.one_lt_two
  have hw : (i 1).val < w := (i 1).isLt
  unfold tab2
  rw [hi0, hi1]
  by_cases hk' : (i 0).val = k
  · refine Eq.trans ?_ (if_pos hk').symm
    rw [dif_pos]
    · show R _ = R _
      congr 1
      exact (dif_pos Nat.one_lt_two).trans (by show (i 1).val - Host.clampedStart _ _ h.1 st 1 = (i 1).val; omega)
    · intro a
      match a with
      | ⟨0, _⟩ =>
        show Host.clampedStart _ _ h.1 st 0 ≤ (i 0).val ∧ (i 0).val < Host.clampedStart _ _ h.1 st 0 + 1
        omega
      | ⟨1, _⟩ =>
        show Host.clampedStart _ _ h.1 st 1 ≤ (i 1).val ∧ (i 1).val < Host.clampedStart _ _ h.1 st 1 + w
        omega
  · refine Eq.trans ?_ (if_neg hk').symm
    rw [dif_neg]
    intro hin
    have h0 : Host.clampedStart _ _ h.1 st 0 ≤ (i 0).val ∧ (i 0).val < Host.clampedStart _ _ h.1 st 0 + 1 := hin 0
    omega

/-- A word below the sign's is not taken from the end. -/
theorem select_nonneg (x c : BitVec 32) (hx : x.toNat < 2 ^ 31) : Scalar.select (IntOp.cmpi .slt x 0#32) (IntOp.addi x c) x = x := by
  show Scalar.select (BitVec.ofBool (x.slt 0#32)) _ _ = _
  rw [slt_small x 0#32 hx (by decide), decide_eq_false (show ¬ x.toNat < (0#32 : BitVec 32).toNat from Nat.not_lt_zero _)]
  rfl

end Cert.Proof
-- ==== Proof.Ref.lean ====
/- The reference's loop, one trip after another, and its result. -/
module

public import proofs.«01_k».proof.Proof.Table
public import proofs.«01_k».proof.Proof.Launch
public import proofs.«01_k».proof.Proof.Gen.ReferenceIdeal.Run

@[expose] public section

noncomputable section

namespace Cert.Proof

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- The loop's carried arrays before point `k`. -/
structure LoopAt (X : ℕ → ℕ → F .f32) (fl : ℕ → BitVec 32) (k : ℕ) (V : Valuation τ sig (Elt F)) : Prop where
  cells : V (Proc.devRef .tc main_v2_0) = (tab1 S400000 fl : S400000.Idx → BitVec 32)
  rows : V (Proc.devRef .tc main_v2_1) = (tab2 S400000x128 X : S400000x128.Idx → F .f32)
  point : V (Proc.devRef .tc main_v2_3) = (fun _ => BitVec.ofNat 32 k : S_.Idx → BitVec 32)
  table : V (Proc.devRef .tc main_v2_4) = (tab2 S65536x128 (refN X fl k) : S65536x128.Idx → F .f32)

/-- The point's number, as a trip reads it. -/
theorem point_word (k : ℕ) (hk : k < 400000) (V : S_.Idx → BitVec 32) (hV : V = fun _ => BitVec.ofNat 32 k) (i : S_.Idx) :
    (select (cmpi .slt V (constantI S_ 32 0#32)) (addi (id V) (constantI S_ 32 400000#32)) V i).toInt = (k : Int) := by
  subst hV
  have hn : (BitVec.ofNat 32 k).toNat = k := by rw [BitVec.toNat_ofNat]; omega
  show (Scalar.select (IntOp.cmpi .slt (BitVec.ofNat 32 k) 0#32) (IntOp.addi (BitVec.ofNat 32 k) 400000#32) (BitVec.ofNat 32 k)).toInt = _
  rw [select_nonneg _ _ (by omega), toInt_small _ (by omega), hn]

variable {X : ℕ → ℕ → F .f32} {fl : ℕ → BitVec 32} {k : ℕ} {V : Valuation τ sig (Elt F)}

/-- The point's cell, as a trip reads it. -/
theorem cell_word (h : LoopAt X fl k V) (hk : k < 400000) : res_main_while0b_v11 V = (fun _ => fl k : S_.Idx → BitVec 32) := by
  unfold res_main_while0b_v11
  rw [h.cells]
  have e := slice_tab1 fl (fun i => (((![select (cmpi .slt (V (Proc.devRef .tc main_v2_3)) (constantI S_ 32 0#32)) (addi (id (V (Proc.devRef .tc main_v2_3))) (constantI S_ 32 400000#32)) (V (Proc.devRef .tc main_v2_3))] : Fin 1 → (⟨S_, .i32⟩ : BufTy).Contents (Elt F))) i (Shape.Idx.first h_S_)).toInt) sliceFits_S400000_S1 k hk
    (point_word k hk _ h.point _)
  exact congrArg (fun f => shapeCast S_ f shapeCasts_S1_S_) e

theorem cell_word' (h : LoopAt X fl k V) (hk : k < 400000) : res_main_while0b_v27 V = (fun _ => fl k : S_.Idx → BitVec 32) := cell_word h hk

theorem cell_start (x : BitVec 32) (hx : x.toNat < 65536) (W : S_.Idx → BitVec 32) (hW : W = fun _ => x) (i : S_.Idx) :
    (select (cmpi .slt W (constantI S_ 32 0#32)) (addi W (constantI S_ 32 65536#32)) W i).toInt = (x.toNat : Int) := by
  subst hW
  show (Scalar.select (IntOp.cmpi .slt x 0#32) (IntOp.addi x 65536#32) x).toInt = _
  rw [select_nonneg _ _ (by omega), toInt_small _ (by omega)]

/-- One trip: the point's cell's row is raised. -/
theorem step_table (h : LoopAt X fl k V) (hk : k < 400000) (hc : (fl k).toNat < 65536) :
    step_main_v2_4 V = (tab2 S65536x128 (refN X fl (k + 1)) : S65536x128.Idx → F .f32) := by
  have e1 := slice_tab2 (refN X fl k) (fun i => (((![select (cmpi .slt (res_main_while0b_v11 V) (constantI S_ 32 0#32)) (addi (res_main_while0b_v11 V) (constantI S_ 32 65536#32)) (res_main_while0b_v11 V), constantI S_ 32 0#32] : Fin 2 → (⟨S_, .i32⟩ : BufTy).Contents (Elt F))) i (Shape.Idx.first h_S_)).toInt)
    sliceFits_S65536x128_S1x128 (fl k).toNat hc (cell_start (fl k) hc _ (cell_word h hk) _) rfl
  have e2 := slice_tab2 X (fun i => (((![select (cmpi .slt (V (Proc.devRef .tc main_v2_3)) (constantI S_ 32 0#32)) (addi (id (V (Proc.devRef .tc main_v2_3))) (constantI S_ 32 400000#32)) (V (Proc.devRef .tc main_v2_3)), constantI S_ 32 0#32] : Fin 2 → (⟨S_, .i32⟩ : BufTy).Contents (Elt F))) i (Shape.Idx.first h_S_)).toInt)
    sliceFits_S400000x128_S1x128 k hk (point_word k hk _ h.point _) rfl
  have e3 := update_tab2 (refN X fl k) (fun b => mx (refN X fl k (fl k).toNat b) (X k b))
    (fun i => (((![select (cmpi .slt (res_main_while0b_v27 V) (constantI S_ 32 0#32)) (addi (res_main_while0b_v27 V) (constantI S_ 32 65536#32)) (res_main_while0b_v27 V), constantI S_ 32 0#32] : Fin 2 → (⟨S_, .i32⟩ : BufTy).Contents (Elt F))) i (Shape.Idx.first h_S_)).toInt)
    updateFits_S65536x128_S1x128 (fl k).toNat hc (cell_start (fl k) hc _ (cell_word' h hk) _) rfl
  unfold step_main_v2_4
  rw [h.table, h.rows]
  refine Eq.trans ?_ e3
  refine congrArg (fun u => Host.dynamicUpdateSlice (tab2 S65536x128 (refN X fl k)) u _ updateFits_S65536x128_S1x128) ?_
  exact congrArg₂ (fun u w => maximumf (F := F) (φ := .f32) (s := S1x128) u w) e1 e2

theorem step_at (h : LoopAt X fl k V) (hk : k < 400000) (hc : (fl k).toNat < 65536) : LoopAt X fl (k + 1) (STEP V) where
  cells := (STEP_main_v2_0 V).trans h.cells
  rows := (STEP_main_v2_1 V).trans h.rows
  point := by
    rw [STEP_main_v2_3]
    unfold step_main_v2_3
    rw [h.point]
    funext i
    show BitVec.ofNat 32 k + 1#32 = BitVec.ofNat 32 (k + 1)
    rw [← BitVec.ofNat_add]
  table := (STEP_main_v2_4 V).trans (step_table h hk hc)

/-- The loop, point by point. -/
theorem iter_at (h : LoopAt X fl 0 V) (hc : ∀ n, n < 400000 → (fl n).toNat < 65536) : ∀ k, k ≤ 400000 → LoopAt X fl k (STEP^[k] V)
  | 0, _ => h
  | k + 1, hk => by
    rw [Function.iterate_succ_apply']
    exact step_at (iter_at h hc k (by omega)) (by omega) (hc k (by omega))

variable (m : (ℓ : Loc nD τ sig) → Buf (Elt F) ℓ) (ρ : Dev nD → PrngReg)

/-- The loop's entry. -/
theorem entry_at (c : Dev nD) (h0 : tab1 S400000 fl = shapeCast S400000 (m ((c.tc : Thread nD τ).loc main_arg0)) shapeCasts_S400000x1_S400000)
    (h1 : tab2 S400000x128 X = m ((c.tc : Thread nD τ).loc main_arg1)) : LoopAt X fl 0 (entryContents preI m c) where
  cells := by
    rw [h0]
    simp only [entryContents, afterL_cons, afterL_nil]
    after_reads_simp
    rfl
  rows := by
    rw [h1]
    simp only [entryContents, afterL_cons, afterL_nil]
    after_reads_simp
    rfl
  point := by
    simp only [entryContents, afterL_cons, afterL_nil]
    after_reads_simp
    rfl
  table := by
    simp only [entryContents, afterL_cons, afterL_nil]
    after_reads_simp
    rfl

/-- The reference's result, under the cells' ranges, is the program's. -/
theorem run_ref (X : Dev nD → ℕ → ℕ → F .f32) (fl : Dev nD → ℕ → BitVec 32)
    (h0 : ∀ c : Dev nD, tab1 S400000 (fl c) = shapeCast S400000 (m ((c.tc : Thread nD τ).loc main_arg0)) shapeCasts_S400000x1_S400000)
    (h1 : ∀ c : Dev nD, tab2 S400000x128 (X c) = m ((c.tc : Thread nD τ).loc main_arg1))
    (hf : ∀ c, ∀ bb, bb < 4 → InRound (fl c) bb) :
    θ_run (defs (F := F)) (onTc (τ := τ) (main (F := F))) ⟨m, fun _ => 0, ρ⟩ fun r => ∀ c : Dev nD,
      r.2.mem ((c.tc : Thread nD τ).loc main_v4) = (resZ (X c) (fl c) : S4x128x128x128.Idx → F .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run m ρ)
  have hc : ∀ n, n < 400000 → (fl c n).toNat < 65536 := by
    intro n hn
    have h := hf c (n / 100000) (by omega) (n % 100000) (by omega)
    rw [show 100000 * (n / 100000) + n % 100000 = n by omega] at h
    have := cell_split (n / 100000) (by omega) _ h
    omega
  have e := (iter_at (entry_at m c (h0 c) (h1 c)) hc 400000 le_rfl).table
  have e2 : (tab2 S65536x128 (refN (X c) (fl c) 400000) : S65536x128.Idx → F .f32) = tab2 S65536x128 (wholeG (X c) (fl c)) :=
    tab2_congr fun a b ha _ => refN_final (X c) (fl c) (hf c) a b ha
  unfold out_main_v4 resZ
  rw [e, e2]

end Cert.Proof
-- ==== Proof.CellSums.lean ====
module

public import proofs.«01_k».proof.Defs
public import proofs.«01_k».proof.Proof.Gen.Cells.Frame
public import proofs.«01_k».proof.Proof.Gen.CellsIdeal.Value
public import proofs.«01_k».proof.Proof.Gen.CellsReferenceIdeal.Run
public import Idealize.ShloMosaic.Lib.Pipeline.ValueKit
public import Idealize.ShloMosaic.Lib.Pointwise
public import Idealize.ShloMosaic.Lib.Routing.Words
public import proofs.«01_k».proof.Proof.Words

@[expose] public section

set_option maxRecDepth 16384

noncomputable section

namespace Cert.Proof.Sums

open Idealize.ShloMosaic Idealize.ShloMosaic.TcCoe Idealize.SL.Sem Cert.CellsIdeal Cert.CellsIdeal.Gen

variable {F : FTy → Type} [FloatOps F]

theorem idx : ∀ t : Fin cfg0.N, win0_0.index t = ![t.val, 0] ∧ win0_1.index t = ![0, 0] ∧ win0_2.index t = ![0] ∧ win0_3.index t = ![0, 0] ∧ win0_4.index t = ![t.val, 0] ∧ (grid0.coords t 0).val = t.val := by
  decide +kernel

/-- A point's batch: the printed floor division of the point's number is that number's quotient. -/
theorem batch_word (n : ℕ) (h : n < 400000) :
    Scalar.select
      (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          (Scalar.subi (1#32) (Scalar.extui (Scalar.cmpi .slt 100000#32 0#32))))
        (IntOp.cmpi .ne (IntOp.remsi .vector (BitVec.ofNat 32 n) 100000#32) 0#32))
      (IntOp.subi (IntOp.divsi .vector (BitVec.ofNat 32 n) 100000#32) 1#32)
      (IntOp.divsi .vector (BitVec.ofNat 32 n) 100000#32) = BitVec.ofNat 32 (n / 100000) := by
  have hd : IntOp.divsi .vector (BitVec.ofNat 32 n) 100000#32 = BitVec.ofNat 32 (n / 100000) :=
    Routing.divsi_word .vector (a := n) (b := 100000) (by omega) (by decide) (by decide)
  rw [hd]
  rcases Nat.eq_zero_or_pos n with rfl | hp
  · decide
  · have hn : (BitVec.ofNat 32 n).toNat = n := by rw [BitVec.toNat_ofNat]; omega
    have h1 : IntOp.cmpi .sgt (BitVec.ofNat 32 n) 0#32 = 1#1 := by
      show BitVec.ofBool (BitVec.slt 0#32 _) = _
      rw [slt_small _ _ (by decide) (by omega), hn]; simp [hp]
    have h2 : IntOp.cmpi .slt (BitVec.ofNat 32 n) 0#32 = 0#1 := by
      show BitVec.ofBool (BitVec.slt _ 0#32) = _
      rw [slt_small _ _ (by omega) (by decide), hn]; simp
    rw [h1, h2]
    have h3 : ∀ (b : BitVec 1) (x y : BitVec 32), Scalar.select (IntOp.andi (IntOp.cmpi .ne (IntOp.subi (BitVec.setWidth 32 (1#1)) (BitVec.setWidth 32 (0#1))) (Scalar.subi (1#32) (Scalar.extui (Scalar.cmpi .slt 100000#32 0#32)))) b) x y = y := by
      intro b x y
      have : IntOp.cmpi .ne (IntOp.subi (BitVec.setWidth 32 (1#1)) (BitVec.setWidth 32 (0#1))) (Scalar.subi (1#32) (Scalar.extui (Scalar.cmpi .slt 100000#32 0#32))) = 0#1 := by decide
      rw [this]
      have : IntOp.andi 0#1 b = 0#1 := by revert b; decide
      rw [this]; rfl
    exact h3 ..

/-- A coordinate's place on the grid: the offset and scaled coordinate's whole part, held to 0 … 127. -/
def place (x : Ideal .f32) : BitVec 32 :=
  IntOp.minsi (127#32) (IntOp.maxsi (0#32) (FloatOps.fptosi (F := Ideal) (φ := .f32) 32
    (Ideal.div (x - Ideal.ofBits FTy.f32 3259498496#32) (Ideal.ofBits FTy.f32 1120403456#32) * Ideal.ofBits FTy.f32 1123942400#32)))

/-- The cell of a point of batch `b` at the coordinates `x` and `y`. -/
def cell (b : ℕ) (x y : Ideal .f32) : BitVec 32 :=
  IntOp.addi (IntOp.addi (IntOp.muli (BitVec.ofNat 32 b) 16384#32) (IntOp.muli (place y) 128#32)) (place x)

/-- Point `n` of the points: its coordinate `k`. -/
def coord (A : (⟨S4x100000x4, .f32⟩ : BufTy).Contents (Elt Ideal)) (n : ℕ) (h : n < 400000) (k : Fin 4) : Ideal .f32 :=
  A (ix3 (⟨n / 100000, by omega⟩ : Fin 4) (⟨n % 100000, Nat.mod_lt _ (by decide)⟩ : Fin 100000) k)

/-- The points' cells. -/
def cells (A : (⟨S4x100000x4, .f32⟩ : BufTy).Contents (Elt Ideal)) : (⟨S400000x1, .i32⟩ : BufTy).Contents (Elt Ideal) :=
  fun j => cell ((j 0).val / 100000) (coord A (j 0).val (j 0).isLt 0) (coord A (j 0).val (j 0).isLt 1)

variable (m : (ℓ : Loc nD τ sig) → Buf (Elt Ideal) ℓ)

/-- A row of the points' block at grid point `t`. -/
theorem block_row (c : Dev nD) (t : Fin cfg0.N) (r : Fin 3200) (k : Fin 4) (h : 3200 * t.val + r.val < 400000) :
    iblk m c 0 t (ix2 r k) = coord (m ((c : Thread nD τ).loc main_arg0)) (3200 * t.val + r.val) h k := by
  unfold coord
  have := idx t
  show V m c main_v0 ((win0_0.blk t).view.emb (ix2 r k)) = _
  have e0 : ((((win0_0.blk t).view.emb (ix2 r k)) 0 : Fin _) : ℕ) = 3200 * t.val + r.val := by
    blk_simp [idx t]
    omega
  have e1 : ((win0_0.blk t).view.emb (ix2 r k)) = ix2 (⟨3200 * t.val + r.val, h⟩ : Fin 400000) k := by
    funext a
    fin_cases a
    · exact Fin.ext e0
    · exact Fin.ext (by blk_simp [idx t]; rfl)
  rw [e1]
  entry_read
  pointwise

theorem cells_final (c : Dev nD) : (dats m 0 c).arrAt 4 cfg0.N = cells (m ((c : Thread nD τ).loc main_arg0)) := by
  refine (dats m 0 c).arrAt_eq_of_covers 4 _ (by decide +kernel) fun t hf y => ?_
  have ht : t.val < 125 := t.isLt
  have hy : (y 0).val < 3200 := (y 0).isLt
  have hw : IntOp.addi (Scalar.muli (BitVec.ofNat 32 (grid0.coords t 0).val) 3200#32) (BitVec.ofNat 32 (y 0).val) = BitVec.ofNat 32 (3200 * t.val + (y 0).val) := by
    rw [(idx t).2.2.2.2.2]
    show BitVec.ofNat 32 _ * 3200#32 + BitVec.ofNat 32 _ = _
    apply BitVec.eq_of_toNat_eq
    simp only [BitVec.toNat_add, BitVec.toNat_mul, BitVec.toNat_ofNat]
    omega
  have he : (((((cfg0.win 4).blk t).view.emb y) 0 : Fin _) : ℕ) = 3200 * t.val + (y 0).val := by
    blk_simp [idx t]
    omega
  blk_simp
  rw [after0_4]
  have key : ∀ z, z = cell ((3200 * t.val + (y 0).val) / 100000) (iblk m c 0 t (ix2 (y 0) 0)) (iblk m c 0 t (ix2 (y 0) 1)) → z = cells (m ((c : Thread nD τ).loc main_arg0)) (((cfg0.win 4).blk t).view.emb y) := by
    rintro z rfl
    rw [block_row m c t (y 0) 0 (by omega), block_row m c t (y 0) 1 (by omega)]
    unfold cells
    simp only [he]
  refine key _ ?_
  unfold cell place
  rw [← batch_word _ (by omega), ← hw]
  by_cases h : t.val = 0
  · rw [outsAt0_A m c t (by omega) (by omega)]
    frame_out
    unfold_payloads
    pointwise
  · rw [outsAt0_B m c t (by omega) (by omega)]
    frame_out
    unfold_payloads
    pointwise

/-- The last point of the grid. -/
def tLast : Fin cfg0.N := ⟨124, by decide⟩

/-- The first layer's value of point `n` on channel `o`. -/
def first (A : (⟨S4x100000x4, .f32⟩ : BufTy).Contents (Elt Ideal)) (L : (⟨S64x4, .f32⟩ : BufTy).Contents (Elt Ideal)) (b : (⟨S64, .f32⟩ : BufTy).Contents (Elt Ideal))
    (n : ℕ) (h : n < 400000) (o : Fin 64) : EReal :=
  b (ix1 o) + coord A n h 0 * L (ix2 o 0) + coord A n h 1 * L (ix2 o 1) + coord A n h 2 * L (ix2 o 2) + coord A n h 3 * L (ix2 o 3)

/-- What row `p` of the sums adds up: the value, or its square. -/
def stat (p : Fin 2) (x : EReal) : EReal := if p = 0 then x else x * x

/-- A row of the linear map's block. -/
theorem block_lin (c : Dev nD) (t : Fin cfg0.N) (k : Fin 4) (o : Fin 64) :
    iblk m c 1 t (ix2 k o) = m ((c : Thread nD τ).loc main_arg1) (ix2 o k) := by
  have := idx t
  show V m c main_v1 ((win0_1.blk t).view.emb (ix2 k o)) = _
  have e1 : ((win0_1.blk t).view.emb (ix2 k o)) = ix2 k o := by
    funext a
    fin_cases a
    · exact Fin.ext (by blk_simp [idx t])
    · exact Fin.ext (by blk_simp [idx t])
  rw [e1]
  entry_read
  pointwise

theorem block_bias (c : Dev nD) (t : Fin cfg0.N) (o : Fin 64) :
    iblk m c 2 t (ix1 o) = m ((c : Thread nD τ).loc main_arg2) (ix1 o) := by
  have := idx t
  show V m c main_arg2 ((win0_2.blk t).view.emb (ix1 o)) = _
  have e1 : ((win0_2.blk t).view.emb (ix1 o)) = ix1 o := by
    funext a
    fin_cases a
    · exact Fin.ext (by blk_simp [idx t])
  rw [e1]
  entry_read
  rfl

/-- What a point of the grid adds to the sums. -/
def term (c : Dev nD) (t : Fin cfg0.N) (j : S2x64.Idx) : EReal :=
  ∑ r : Fin 3200, stat (j 0) (first (m ((c : Thread nD τ).loc main_arg0)) (m ((c : Thread nD τ).loc main_arg1)) (m ((c : Thread nD τ).loc main_arg2))
    (3200 * t.val + r.val) (by have := t.isLt; have h : cfg0.N = 125 := rfl; omega) (j 1))

/-- The first layer's values of a block, from the loads. -/
def lay (v0 : Vec Ideal S3200x4 .f32) (v2 : Vec Ideal S64 .f32) (v5 v13 v20 v27 : Vec Ideal S1x64 .f32) : FVec Ideal S3200x64 .f32 :=
  addf (addf (addf (addf (broadcastTo S3200x64 (shapeCast S1x64 v2 shapeCasts_S64_S1x64) broadcasts_S1x64_S3200x64)
    (mulf (broadcastTo S3200x64 (extractStridedSlice S3200x1 ![0, 0] (k0_pay2 v0) slices_S3200x4_o0_0_S3200x1) broadcasts_S3200x1_S3200x64) (broadcastTo S3200x64 (shapeCast S1x64 v5 shapeCasts_S1x64_S1x64) broadcasts_S1x64_S3200x64)))
    (mulf (broadcastTo S3200x64 (extractStridedSlice S3200x1 ![0, 1] (k0_pay2 v0) slices_S3200x4_o0_1_S3200x1) broadcasts_S3200x1_S3200x64) (broadcastTo S3200x64 (shapeCast S1x64 v13 shapeCasts_S1x64_S1x64) broadcasts_S1x64_S3200x64)))
    (mulf (broadcastTo S3200x64 (extractStridedSlice S3200x1 ![0, 2] (k0_pay2 v0) slices_S3200x4_o0_2_S3200x1) broadcasts_S3200x1_S3200x64) (broadcastTo S3200x64 (shapeCast S1x64 v20 shapeCasts_S1x64_S1x64) broadcasts_S1x64_S3200x64)))
    (mulf (broadcastTo S3200x64 (extractStridedSlice S3200x1 ![0, 3] (k0_pay2 v0) slices_S3200x4_o0_3_S3200x1) broadcasts_S3200x1_S3200x64) (broadcastTo S3200x64 (shapeCast S1x64 v27 shapeCasts_S1x64_S1x64) broadcasts_S1x64_S3200x64))

theorem lay_ap (v0 : Vec Ideal S3200x4 .f32) (v2 : Vec Ideal S64 .f32) (v5 v13 v20 v27 : Vec Ideal S1x64 .f32) (r : Fin 3200) (o : Fin 64) :
    lay v0 v2 v5 v13 v20 v27 (ix2 r o) = v2 (ix1 o) + v0 (ix2 r 0) * v5 (ix2 0 o) + v0 (ix2 r 1) * v13 (ix2 0 o) + v0 (ix2 r 2) * v20 (ix2 0 o) + v0 (ix2 r 3) * v27 (ix2 0 o) := by
  unfold lay k0_pay2
  pointwise

/-- A column's sum, and the sum of its squares, one above the other. -/
theorem stack_ap (H : FVec Ideal S3200x64 .f32) (p : Fin 2) (o : Fin 64) :
    concatenate S2x64 0 [⟨S1x64, shapeCast S1x64 (multiReduction .add [0] S64 H 0x00000000#32 reduces_S3200x64_S64 (.inl rfl) rfl) shapeCasts_S64_S1x64⟩,
      ⟨S1x64, shapeCast S1x64 (multiReduction .add [0] S64 (mulf H H) 0x00000000#32 reduces_S3200x64_S64 (.inl rfl) rfl) shapeCasts_S64_S1x64⟩] concatenates_S1x64_S1x64_S2x64_d0 (ix2 p o)
      = ∑ r : Fin 3200, stat p (H (ix2 r o)) := by
  fin_cases p
  · pointwise
    rfl
  · pointwise
    rfl

theorem pay3_ap (v0 : Vec Ideal S3200x4 .f32) (v2 : Vec Ideal S64 .f32) (v5 v13 v20 v27 : Vec Ideal S1x64 .f32) (p : Fin 2) (o : Fin 64) :
    k0_pay3 v0 v2 v5 v13 v20 v27 (ix2 p o) = ∑ r : Fin 3200, stat p (lay v0 v2 v5 v13 v20 v27 (ix2 r o)) :=
  stack_ap (lay v0 v2 v5 v13 v20 v27) p o

/-- What a point of the grid computes. -/
theorem block_sums (c : Dev nD) (t : Fin cfg0.N) (j : S2x64.Idx) :
    k0_pay3 (iblk m c 0 t) (iblk m c 2 t) (View.ld (iblk m c 1 t) (Rect.unit ![0, 0] ![1, 64] inb_S4x64_S1x64_0_0))
      (View.ld (iblk m c 1 t) (Rect.unit ![1, 0] ![1, 64] inb_S4x64_S1x64_1_0))
      (View.ld (iblk m c 1 t) (Rect.unit ![2, 0] ![1, 64] inb_S4x64_S1x64_2_0))
      (View.ld (iblk m c 1 t) (Rect.unit ![3, 0] ![1, 64] inb_S4x64_S1x64_3_0)) j = term m c t j := by
  have h125 : cfg0.N = 125 := rfl
  have := t.isLt
  obtain ⟨p, o, rfl⟩ : ∃ p o, j = ix2 p o := ⟨j 0, j 1, by funext a; fin_cases a <;> rfl⟩
  rw [pay3_ap]
  unfold term
  refine Finset.sum_congr rfl fun r _ => congrArg (stat p) ?_
  rw [lay_ap]
  unfold first
  rw [← block_row m c t r 0, ← block_row m c t r 1, ← block_row m c t r 2, ← block_row m c t r 3]
  show _ = _ + _ * m ((c : Thread nD τ).loc main_arg1) (ix2 o 0) + _ * m ((c : Thread nD τ).loc main_arg1) (ix2 o 1) + _ * m ((c : Thread nD τ).loc main_arg1) (ix2 o 2) + _ * m ((c : Thread nD τ).loc main_arg1) (ix2 o 3)
  rw [← block_lin m c t 0 o, ← block_lin m c t 1 o, ← block_lin m c t 2 o, ← block_lin m c t 3 o]
  have hk (k : ℕ) (hk : k < 4) (inb) : View.ld (iblk m c 1 t) (Rect.unit ![k, 0] ![1, 64] inb) (ix2 0 o) = iblk m c 1 t (ix2 (⟨k, hk⟩ : Fin 4) o) := by
    refine congrArg (iblk m c 1 t) (funext fun a => Fin.ext ?_)
    fin_cases a
    · show k + 1 * 0 = k
      omega
    · show 0 + 1 * o.val = o.val
      omega
  rw [hk 0 (by decide), hk 1 (by decide), hk 2 (by decide), hk 3 (by decide)]
  rw [block_bias]
  rfl

theorem at_first (c : Dev nD) (t : Fin cfg0.N) (h : t.val % 125 = 0) (j : S2x64.Idx) : (outsAt0 m c t.val t.isLt).1 j = 0 + term m c t j := by
  have h125 : cfg0.N = 125 := rfl
  have := t.isLt
  rw [outsAt0_A m c t (by omega) (by omega)]
  frame_out
  exact (block_sums m c t j).trans (zero_add _).symm

theorem at_next (c : Dev nD) (t : Fin cfg0.N) (h : ¬ t.val % 125 = 0) (j : S2x64.Idx) :
    (outsAt0 m c t.val t.isLt).1 j = (outsAt0 m c (t.val - 1) (Nat.lt_of_le_of_lt (Nat.sub_le _ _) t.isLt)).1 j + term m c t j := by
  have h125 : cfg0.N = 125 := rfl
  have := t.isLt
  rw [outsAt0_B m c t (by omega) (by omega)]
  frame_out
  rw [← block_sums]
  unfold k0_pay4
  pointwise
  rfl

theorem sums_final (c : Dev nD) : (dats m 0 c).arrAt 3 cfg0.N = fun j => ∑ n : Fin 400000, stat (j 0) (first (m ((c : Thread nD τ).loc main_arg0)) (m ((c : Thread nD τ).loc main_arg1)) (m ((c : Thread nD τ).loc main_arg2)) n.val n.isLt (j 1)) := by
  refine (dats m 0 c).arrAt_eq_of_after_last 3 tLast (by decide +kernel) _ fun j => ?_
  blk_simp
  rw [after0_3]
  refine (Pipeline.eq_sum_fin_of_reset_step_apply_last (fun n h => (outsAt0 m c n h).1) 125 (fun _ => 0) (term m c) (at_first m c) (at_next m c) (by decide) tLast rfl _).trans ?_
  rw [zero_add]
  unfold term
  refine Fin.sum_mul_add_congr (S := 125) (n := 3200) (L := 400000) (f := fun n : Fin 400000 => stat (j 0) (first (m ((c : Thread nD τ).loc main_arg0)) (m ((c : Thread nD τ).loc main_arg1)) (m ((c : Thread nD τ).loc main_arg2)) n.val n.isLt (j 1))) fun s k hl => ?_
  simp only [Nat.mul_comm 3200 s.val]

end Cert.Proof.Sums
-- ==== Proof.CellRef.lean ====
module

public import proofs.«01_k».proof.Proof.CellSums

@[expose] public section

set_option maxRecDepth 16384

noncomputable section

namespace Cert.Proof.Sums

open Idealize.ShloMosaic Idealize.ShloMosaic.TcCoe Idealize.SL.Sem Cert.CellsReferenceIdeal Cert.CellsReferenceIdeal.Gen

variable (A : FVec Ideal S4x100000x4 .f32) (L : FVec Ideal S64x4 .f32) (b : FVec Ideal S64 .f32)

/-- The reference's cells. -/
theorem ref_cells :
    (shapeCast S400000x1 (addi (addi (broadcastInDim S4x100000 ![0, 1] bcast_S4x1_S4x100000_0_1 (muli (broadcastInDim S4x1 ![0] bcast_S4_S4x1_0 (iotaInDim S4 32 0)) (broadcastInDim S4x1 ![] bcast_S_S4x1 (constantI S_ 32 16384#32)))) (muli (minsi (broadcastInDim S4x100000 ![] bcast_S_S4x100000 (id (constantI S_ 32 127#32))) (maxsi (broadcastInDim S4x100000 ![] bcast_S_S4x100000 (id (constantI S_ 32 0#32))) (fptosi 32 (mulf (Host.divf (subf (shapeCast S4x100000 (extractStridedSlice S4x100000x1 ![0, 0, 1] A slices_S4x100000x4_S4x100000x1_0_0_1) shapeCasts_S4x100000x1_S4x100000) (broadcastInDim S4x100000 ![] bcast_S_S4x100000 (constant S_ .f32 0xC2480000#32))) (broadcastInDim S4x100000 ![] bcast_S_S4x100000 (constant S_ .f32 0x42C80000#32))) (broadcastInDim S4x100000 ![] bcast_S_S4x100000 (constant S_ .f32 0x42FE0000#32)))))) (broadcastInDim S4x100000 ![] bcast_S_S4x100000 (constantI S_ 32 128#32)))) (minsi (broadcastInDim S4x100000 ![] bcast_S_S4x100000 (id (constantI S_ 32 127#32))) (maxsi (broadcastInDim S4x100000 ![] bcast_S_S4x100000 (id (constantI S_ 32 0#32))) (fptosi 32 (mulf (Host.divf (subf (shapeCast S4x100000 (extractStridedSlice S4x100000x1 ![0, 0, 0] A slices_S4x100000x4_S4x100000x1_0_0_0) shapeCasts_S4x100000x1_S4x100000) (broadcastInDim S4x100000 ![] bcast_S_S4x100000 (constant S_ .f32 0xC2480000#32))) (broadcastInDim S4x100000 ![] bcast_S_S4x100000 (constant S_ .f32 0x42C80000#32))) (broadcastInDim S4x100000 ![] bcast_S_S4x100000 (constant S_ .f32 0x42FE0000#32))))))) shapeCasts_S4x100000_S400000x1 : IVec S400000x1 32) = cells A := by
  funext j
  unfold cells cell place coord
  pointwise
  rfl

/-- The reference's first layer. -/
def refLay : FVec Ideal S4x64x100000 .f32 :=
  (addf (transpose S4x64x100000 [0, 2, 1] (Host.dotGeneral dot_S4x4x100000_S64x4_S4x100000x64_1_1_02_0_n_n none (transpose S4x4x100000 [0, 2, 1] A transposes_S4x100000x4_S4x4x100000_0_2_1) L) transposes_S4x100000x64_S4x64x100000_0_2_1) (broadcastInDim S4x64x100000 ![0, 1, 2] bcast_S1x64x1_S4x64x100000_0_1_2 (broadcastInDim S1x64x1 ![1] bcast_S64_S1x64x1_1 b)))

theorem refLay_ap (p : Fin 4) (o : Fin 64) (q : Fin 100000) :
    refLay A L b (ix3 p o q) = first A L b (100000 * p.val + q.val) (by omega) o := by
  unfold refLay
  pointwise
  have hd : (100000 * p.val + q.val) / 100000 = p.val := by omega
  have hm : (100000 * p.val + q.val) % 100000 = q.val := by omega
  have hc (k : Fin 4) : coord A (100000 * p.val + q.val) (by omega) k = A (ix3 p q k) := by
    unfold coord
    exact congrArg A (by congr 1 <;> exact Fin.ext (by assumption))
  unfold first
  rw [hc, hc, hc, hc, Fin.sum_univ_four]
  abel

/-- The sum over the first and the last axis. -/
theorem sum_outer (h : S4x64x100000.ReducesTo [0, 2] S64) (v : S4x64x100000.Idx → EReal) (o : Fin 64) :
    Ideal.hostReduceAdd h v 0 (ix1 o) = ∑ a : Fin 4, ∑ q : Fin 100000, v (ix3 a o q) := by
  refine (zero_add _).trans ((Finset.sum_filter_eq_sum_of_fiber _ (fun k : Fin 4 × Fin 100000 => ix3 k.1 o k.2)
    (fun _ _ e => Prod.ext (congrFun e 0) (congrFun e 2)) (fun i => ?_) v).trans ?_)
  · constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
  · simp only [Fintype.sum_prod_type]

theorem ref_stack (H : FVec Ideal S4x64x100000 .f32) (p : Fin 2) (o : Fin 64) :
    concatenate S2x64 0 [⟨S1x64, (broadcastInDim S1x64 ![1] bcast_S64_S1x64_1 (Host.reduceAdd H (constant S_ .f32 0x00000000#32) reducesTo_S4x64x100000_S64_d0_2 h_S_))⟩, ⟨S1x64, (broadcastInDim S1x64 ![1] bcast_S64_S1x64_1 (Host.reduceAdd (mulf H H) (constant S_ .f32 0x00000000#32) reducesTo_S4x64x100000_S64_d0_2 h_S_))⟩] concatenates_S1x64_S1x64_S2x64_d0 (ix2 p o) = ∑ a : Fin 4, ∑ q : Fin 100000, stat p (H (ix3 a o q)) := by
  fin_cases p
  · pointwise
    rw [sum_outer]
    rfl
  · pointwise
    rw [sum_outer]
    rfl

/-- The reference's sums. -/
theorem ref_sums :
    concatenate S2x64 0 [⟨S1x64, (broadcastInDim S1x64 ![1] bcast_S64_S1x64_1 (Host.reduceAdd (refLay A L b) (constant S_ .f32 0x00000000#32) reducesTo_S4x64x100000_S64_d0_2 h_S_))⟩, ⟨S1x64, (broadcastInDim S1x64 ![1] bcast_S64_S1x64_1 (Host.reduceAdd (mulf (refLay A L b) (refLay A L b)) (constant S_ .f32 0x00000000#32) reducesTo_S4x64x100000_S64_d0_2 h_S_))⟩] concatenates_S1x64_S1x64_S2x64_d0 = fun j => ∑ n : Fin 400000, stat (j 0) (first A L b n.val n.isLt (j 1)) := by
  funext j
  obtain ⟨p, o, rfl⟩ : ∃ p o, j = ix2 p o := ⟨j 0, j 1, by funext a; fin_cases a <;> rfl⟩
  refine (ref_stack (refLay A L b) p o).trans ?_
  refine Fin.sum_mul_add_congr (S := 4) (n := 100000) (L := 400000) (f := fun n : Fin 400000 => stat p (first A L b n.val n.isLt o)) fun s k hl => ?_
  rw [refLay_ap]
  simp only [Nat.mul_comm 100000 s.val]

theorem algebraic_cells : Cert.algebraic_CellsIdeal_CellsReferenceIdeal := fun m ρ m' ρ' _ hag =>
  ⟨_, _, CellsIdeal.Value.run_blocks (F := Ideal) m ρ,
    (θ_run Cert.CellsReferenceIdeal.defs _ _).mono (fun r h c => by
      obtain ⟨h1, h2, h3, h4, h5⟩ := h c
      refine ⟨h1.trans ?_, h2.trans ?_, h3, h4, h5⟩
      · rw [(hag c).1, (hag c).2.1, (hag c).2.2]
        exact (ref_sums _ _ _).trans (sums_final m c).symm
      · rw [(hag c).1]
        exact (ref_cells _).trans (cells_final m c).symm) (CellsReferenceIdeal.Value.run (F := Ideal) m' ρ')⟩

theorem frame_cells : Cert.quiescent_Cells := fun m ρ _ => Cert.Cells.Gen.frame m ρ

theorem frame_cells_ideal : Cert.quiescent_CellsIdeal := fun m ρ _ => Cert.CellsIdeal.Gen.frame m ρ

/-- The reference's frame; it has no semaphore. -/
theorem frame_cells_ref : Cert.quiescent_CellsReferenceIdeal := fun m ρ _ =>
  (θ_run Cert.CellsReferenceIdeal.defs _ _).mono (fun r h => ⟨fun c => ⟨(h c).2.2.1, (h c).2.2.2.1, (h c).2.2.2.2⟩, sem_eq_zero_of_no_sems (by decide) r.2⟩) (CellsReferenceIdeal.Value.run (F := Ideal) m ρ)

end Cert.Proof.Sums
-- ==== Proof.Layers.lean ====
module

public import proofs.«01_k».proof.Defs
public import Idealize.ShloMosaic.Lib.Pipeline.ValueKit
public import Idealize.ShloMosaic.Lib.Pointwise

@[expose] public section

noncomputable section

namespace Cert.Proof.Layers

open Idealize.ShloMosaic

/-- The number of points, as the programs print it. -/
theorem count_val : Ideal.ofBits .f32 0x48C35000#32 = ((400000 : ℝ) : EReal) := by
  simp [Ideal.ofBits, Ideal.ieee, -EReal.coe_mul]
  norm_num

/-- The number added to a variance is a real number. -/
theorem eps_real : ∃ e : ℝ, Ideal.ofBits .f32 0x3727C5AC#32 = (e : EReal) :=
  ⟨_, by simp [Ideal.ofBits, Ideal.ieee, -EReal.coe_mul]; rfl⟩

/-- The mean of a channel, from its sum. -/
def mean (s : EReal) : EReal := Ideal.div s (Ideal.ofBits .f32 0x48C35000#32)

/-- The variance of a channel plus the small number, from the sum and the sum of squares. -/
def spread (s q : EReal) : EReal := mean q - mean s * mean s + Ideal.ofBits .f32 0x3727C5AC#32

/-- The kernel's normalised value: a scale and a shift, then the positive part. -/
def act (x s q g e : EReal) : EReal :=
  max (x * (g * Ideal.rsqrt (spread s q)) + (e - mean s * (g * Ideal.rsqrt (spread s q)))) (Ideal.ofBits .f32 0x00000000#32)

/-- The reference's normalised value: the mean taken off, the deviation divided out, then gain, offset and the positive part. -/
def norm (x s q g e : EReal) : EReal :=
  max (Ideal.div (x - mean s) (Ideal.sqrt (spread s q)) * g + e) (Ideal.ofBits .f32 0x00000000#32)

/-- A difference scaled by a real number. -/
theorem scale_sub (x : EReal) (u c : ℝ) : x * (c : EReal) + -((u : EReal) * (c : EReal)) = (x - (u : EReal)) * (c : EReal) := by
  induction x using EReal.rec with
  | bot =>
    rw [EReal.bot_sub]
    rcases lt_trichotomy c 0 with h | rfl | h
    · rw [EReal.bot_mul_coe_of_neg h, ← EReal.coe_mul, ← EReal.coe_neg, EReal.top_add_coe]
    · simp
    · rw [EReal.bot_mul_coe_of_pos h, EReal.bot_add]
  | coe r =>
    norm_cast
    ring
  | top =>
    rw [EReal.top_sub_coe]
    rcases lt_trichotomy c 0 with h | rfl | h
    · rw [EReal.top_mul_coe_of_neg h, EReal.bot_add]
    · simp
    · rw [EReal.top_mul_coe_of_pos h, ← EReal.coe_mul, ← EReal.coe_neg, EReal.top_add_coe]

/-- Scale and shift say the same as taking the mean off and dividing. -/
theorem core (x v e : EReal) (u g : ℝ) (hv : 0 < v) :
    x * ((g : EReal) * Ideal.rsqrt v) + (e - (u : EReal) * ((g : EReal) * Ideal.rsqrt v)) = Ideal.div (x - (u : EReal)) (Ideal.sqrt v) * (g : EReal) + e := by
  induction v using EReal.rec with
  | bot => exact absurd hv (by simp)
  | top =>
    have h : Ideal.div (x - (u : EReal)) (Ideal.sqrt ⊤) = 0 := by
      rw [Ideal.sqrt_top, Ideal.div, if_neg (by simp), EReal.inv_top, mul_zero]
    rw [h, Ideal.rsqrt_top]
    simp
  | coe v =>
    have hv' : 0 < v := by exact_mod_cast hv
    have hs : 0 < Real.sqrt v := Real.sqrt_pos.2 hv'
    rw [Ideal.rsqrt_coe, if_neg (not_lt.2 hv'.le), if_neg hv'.ne', Ideal.sqrt_coe, if_neg (not_lt.2 hv'.le), Ideal.div_coe hs.ne', ← EReal.coe_mul, sub_eq_add_neg, add_left_comm, add_comm e, scale_sub, mul_assoc, ← EReal.coe_mul]
    congr 3
    ring

theorem mean_real (s q : EReal) (h : 0 < spread s q) : ∃ u : ℝ, mean s = u := by
  obtain ⟨e, he⟩ := eps_real
  have hb : mean s ≠ ⊤ ∧ mean s ≠ ⊥ := by
    constructor <;>
    · intro hm
      rw [spread, hm] at h
      simp at h
  exact ⟨(mean s).toReal, (EReal.coe_toReal hb.1 hb.2).symm⟩

theorem act_eq (x s q g e : EReal) (hg : ∃ r : ℝ, g = r) (h : 0 < spread s q) : act x s q g e = norm x s q g e := by
  obtain ⟨u, hu⟩ := mean_real s q h
  obtain ⟨r, rfl⟩ := hg
  unfold act norm
  rw [hu, core x _ e u r h]

end Cert.Proof.Layers
-- ==== Proof.Norm.lean ====
module

public import proofs.«01_k».proof.Proof.Layers
public import proofs.«01_k».proof.Proof.CellSums
public import proofs.«01_k».proof.Proof.Gen.FeaturesIdeal

@[expose] public section

set_option maxRecDepth 16384

noncomputable section

namespace Cert.Proof.Layers

open Idealize.ShloMosaic Cert.FeaturesIdeal Cert.FeaturesIdeal.Gen Cert.Proof.Sums

/-! ## Vectors of a block -/

/-- The scale of each of 64 channels, from the sums, the sums of squares and the gains. -/
def scale64 (s q : FVec Ideal S1x64 .f32) (g : FVec Ideal S64 .f32) : FVec Ideal S1x64 .f32 :=
  mulf (shapeCast S1x64 g shapeCasts_S64_S1x64) (rsqrt (addf (subf (divf q (broadcast S1x64 (Scalar.ofBits .f32 0x48C35000#32)))
    (mulf (divf s (broadcast S1x64 (Scalar.ofBits .f32 0x48C35000#32))) (divf s (broadcast S1x64 (Scalar.ofBits .f32 0x48C35000#32)))))
    (broadcast S1x64 (Scalar.ofBits .f32 0x3727C5AC#32))))

/-- A block's 64 channels normalised. -/
def norm64 (X : FVec Ideal S3200x64 .f32) (s q : FVec Ideal S1x64 .f32) (g e : FVec Ideal S64 .f32) : FVec Ideal S3200x64 .f32 :=
  maximumf (addf (mulf X (broadcastTo S3200x64 (scale64 s q g) broadcasts_S1x64_S3200x64))
    (broadcastTo S3200x64 (subf (shapeCast S1x64 e shapeCasts_S64_S1x64) (mulf (divf s (broadcast S1x64 (Scalar.ofBits .f32 0x48C35000#32))) (scale64 s q g))) broadcasts_S1x64_S3200x64))
    (broadcast S3200x64 (Scalar.ofBits .f32 0x00000000#32))

theorem norm64_ap (X : FVec Ideal S3200x64 .f32) (s q : FVec Ideal S1x64 .f32) (g e : FVec Ideal S64 .f32) (r : Fin 3200) (o : Fin 64) :
    norm64 X s q g e (ix2 r o) = act (X (ix2 r o)) (s (ix2 0 o)) (q (ix2 0 o)) (g (ix1 o)) (e (ix1 o)) := by
  unfold norm64 scale64 act spread mean
  pointwise

/-- The scale of each of 128 channels. -/
def scale128 (s q : FVec Ideal S1x128 .f32) (g : FVec Ideal S128 .f32) : FVec Ideal S1x128 .f32 :=
  mulf (shapeCast S1x128 g shapeCasts_S128_S1x128) (rsqrt (addf (subf (divf q (broadcast S1x128 (Scalar.ofBits .f32 0x48C35000#32)))
    (mulf (divf s (broadcast S1x128 (Scalar.ofBits .f32 0x48C35000#32))) (divf s (broadcast S1x128 (Scalar.ofBits .f32 0x48C35000#32)))))
    (broadcast S1x128 (Scalar.ofBits .f32 0x3727C5AC#32))))

/-- A block's 128 channels normalised. -/
def norm128 (X : FVec Ideal S3200x128 .f32) (s q : FVec Ideal S1x128 .f32) (g e : FVec Ideal S128 .f32) : FVec Ideal S3200x128 .f32 :=
  maximumf (addf (mulf X (broadcastTo S3200x128 (scale128 s q g) broadcasts_S1x128_S3200x128))
    (broadcastTo S3200x128 (subf (shapeCast S1x128 e shapeCasts_S128_S1x128) (mulf (divf s (broadcast S1x128 (Scalar.ofBits .f32 0x48C35000#32))) (scale128 s q g))) broadcasts_S1x128_S3200x128))
    (broadcast S3200x128 (Scalar.ofBits .f32 0x00000000#32))

theorem norm128_ap (X : FVec Ideal S3200x128 .f32) (s q : FVec Ideal S1x128 .f32) (g e : FVec Ideal S128 .f32) (r : Fin 3200) (o : Fin 128) :
    norm128 X s q g e (ix2 r o) = act (X (ix2 r o)) (s (ix2 0 o)) (q (ix2 0 o)) (g (ix1 o)) (e (ix1 o)) := by
  unfold norm128 scale128 act spread mean
  pointwise

/-- A block's second linear layer. -/
def lin64 (X : FVec Ideal S3200x64 .f32) (W : FVec Ideal S64x128 .f32) (b : FVec Ideal S128 .f32) : FVec Ideal S3200x128 .f32 :=
  addf (matmul dot_S3200x64_S64x128_S3200x128_1_0_0_1_n_n (some .fp32) X (shapeCast S64x128 W shapeCasts_S64x128_S64x128) (constant S3200x128 .f32 0x00000000#32))
    (broadcastTo S3200x128 (shapeCast S1x128 b shapeCasts_S128_S1x128) broadcasts_S1x128_S3200x128)

theorem lin64_ap (X : FVec Ideal S3200x64 .f32) (W : FVec Ideal S64x128 .f32) (b : FVec Ideal S128 .f32) (r : Fin 3200) (o : Fin 128) :
    lin64 X W b (ix2 r o) = (∑ c : Fin 64, X (ix2 r c) * W (ix2 c o)) + b (ix1 o) := by
  unfold lin64
  pointwise

/-- A block's third linear layer. -/
def lin128 (X : FVec Ideal S3200x128 .f32) (W : FVec Ideal S128x128 .f32) (b : FVec Ideal S128 .f32) : FVec Ideal S3200x128 .f32 :=
  addf (matmul dot_S3200x128_S128x128_S3200x128_1_0_0_1_n_n (some .fp32) X (shapeCast S128x128 W shapeCasts_S128x128_S128x128) (constant S3200x128 .f32 0x00000000#32))
    (broadcastTo S3200x128 (shapeCast S1x128 b shapeCasts_S128_S1x128) broadcasts_S1x128_S3200x128)

theorem lin128_ap (X : FVec Ideal S3200x128 .f32) (W : FVec Ideal S128x128 .f32) (b : FVec Ideal S128 .f32) (r : Fin 3200) (o : Fin 128) :
    lin128 X W b (ix2 r o) = (∑ c : Fin 128, X (ix2 r c) * W (ix2 c o)) + b (ix1 o) := by
  unfold lin128
  pointwise

/-! ## Values of a point -/

/-- The first layer's values after the first normalisation. -/
def val1 (A : FVec Ideal S4x100000x4 .f32) (L : FVec Ideal S64x4 .f32) (b g e : FVec Ideal S64 .f32) (S : FVec Ideal S2x64 .f32)
    (n : ℕ) (h : n < 400000) (c : Fin 64) : EReal :=
  act (first A L b n h c) (S (ix2 0 c)) (S (ix2 1 c)) (g (ix1 c)) (e (ix1 c))

/-- The second layer's values. -/
def val2 (A : FVec Ideal S4x100000x4 .f32) (L : FVec Ideal S64x4 .f32) (b g e : FVec Ideal S64 .f32) (W : FVec Ideal S128x64 .f32) (b2 : FVec Ideal S128 .f32)
    (S : FVec Ideal S2x64 .f32) (n : ℕ) (h : n < 400000) (o : Fin 128) : EReal :=
  (∑ c : Fin 64, val1 A L b g e S n h c * W (ix2 o c)) + b2 (ix1 o)

/-- The third layer's values. -/
def val3 (A : FVec Ideal S4x100000x4 .f32) (L : FVec Ideal S64x4 .f32) (b g e : FVec Ideal S64 .f32) (W : FVec Ideal S128x64 .f32) (b2 g2 e2 : FVec Ideal S128 .f32)
    (X : FVec Ideal S128x128 .f32) (b3 : FVec Ideal S128 .f32) (S : FVec Ideal S2x64 .f32) (T : FVec Ideal S2x128 .f32) (n : ℕ) (h : n < 400000) (o : Fin 128) : EReal :=
  (∑ c : Fin 128, act (val2 A L b g e W b2 S n h c) (T (ix2 0 c)) (T (ix2 1 c)) (g2 (ix1 c)) (e2 (ix1 c)) * X (ix2 o c)) + b3 (ix1 o)

/-- Row `k` of an array, loaded by itself. -/
theorem ld_row {R C : ℕ} (x : (⟨2, ![R, C]⟩ : Shape).Idx → Elt Ideal .f32) (k : ℕ) (hk : k < R) (inb) (o : Fin C) :
    View.ld x (Rect.unit (s := ⟨2, ![R, C]⟩) ![k, 0] ![1, C] inb) (ix2 (0 : Fin 1) o) = x (ix2 (⟨k, hk⟩ : Fin R) o) := by
  refine congrArg x (funext fun a => Fin.ext ?_)
  fin_cases a
  · show k + 1 * 0 = k
    omega
  · show 0 + 1 * o.val = o.val
    omega

section

variable (A : FVec Ideal S4x100000x4 .f32) (L : FVec Ideal S64x4 .f32) (b g e : FVec Ideal S64 .f32) (W : FVec Ideal S128x64 .f32) (b2 g2 e2 : FVec Ideal S128 .f32)
  (X : FVec Ideal S128x128 .f32) (b3 g3 e3 : FVec Ideal S128 .f32) (S : FVec Ideal S2x64 .f32) (T U : FVec Ideal S2x128 .f32)
  {v0 : FVec Ideal S3200x4 .f32} {v5 v13 v20 v27 s q : FVec Ideal S1x64 .f32} {w : FVec Ideal S64x128 .f32} {s2 q2 s3 q3 : FVec Ideal S1x128 .f32}
  {x : FVec Ideal S128x128 .f32} {n : ℕ} {h : n < 400000} {r : Fin 3200}

theorem lay_first (h0 : ∀ k, v0 (ix2 r k) = coord A n h k) (l0 : ∀ o, v5 (ix2 0 o) = L (ix2 o 0)) (l1 : ∀ o, v13 (ix2 0 o) = L (ix2 o 1))
    (l2 : ∀ o, v20 (ix2 0 o) = L (ix2 o 2)) (l3 : ∀ o, v27 (ix2 0 o) = L (ix2 o 3)) (o : Fin 64) :
    lay v0 b v5 v13 v20 v27 (ix2 r o) = first A L b n h o := by
  rw [lay_ap, h0, h0, h0, h0, l0, l1, l2, l3]
  rfl

theorem val2_block (h0 : ∀ k, v0 (ix2 r k) = coord A n h k) (l0 : ∀ o, v5 (ix2 0 o) = L (ix2 o 0)) (l1 : ∀ o, v13 (ix2 0 o) = L (ix2 o 1))
    (l2 : ∀ o, v20 (ix2 0 o) = L (ix2 o 2)) (l3 : ∀ o, v27 (ix2 0 o) = L (ix2 o 3)) (hs : ∀ o, s (ix2 0 o) = S (ix2 0 o)) (hq : ∀ o, q (ix2 0 o) = S (ix2 1 o))
    (hw : ∀ c o, w (ix2 c o) = W (ix2 o c)) (o : Fin 128) :
    lin64 (norm64 (lay v0 b v5 v13 v20 v27) s q g e) w b2 (ix2 r o) = val2 A L b g e W b2 S n h o := by
  rw [lin64_ap]
  unfold val2 val1
  refine congrArg (· + _) (Finset.sum_congr rfl fun c _ => ?_)
  rw [norm64_ap, lay_first A L b h0 l0 l1 l2 l3, hs, hq, hw]

theorem val3_block (h0 : ∀ k, v0 (ix2 r k) = coord A n h k) (l0 : ∀ o, v5 (ix2 0 o) = L (ix2 o 0)) (l1 : ∀ o, v13 (ix2 0 o) = L (ix2 o 1))
    (l2 : ∀ o, v20 (ix2 0 o) = L (ix2 o 2)) (l3 : ∀ o, v27 (ix2 0 o) = L (ix2 o 3)) (hs : ∀ o, s (ix2 0 o) = S (ix2 0 o)) (hq : ∀ o, q (ix2 0 o) = S (ix2 1 o))
    (hw : ∀ c o, w (ix2 c o) = W (ix2 o c)) (hs2 : ∀ o, s2 (ix2 0 o) = T (ix2 0 o)) (hq2 : ∀ o, q2 (ix2 0 o) = T (ix2 1 o))
    (hx : ∀ c o, x (ix2 c o) = X (ix2 o c)) (o : Fin 128) :
    lin128 (norm128 (lin64 (norm64 (lay v0 b v5 v13 v20 v27) s q g e) w b2) s2 q2 g2 e2) x b3 (ix2 r o) = val3 A L b g e W b2 g2 e2 X b3 S T n h o := by
  rw [lin128_ap]
  unfold val3
  refine congrArg (· + _) (Finset.sum_congr rfl fun c _ => ?_)
  rw [norm128_ap, val2_block A L b g e W b2 S h0 l0 l1 l2 l3 hs hq hw, hs2, hq2, hx]

end

end Cert.Proof.Layers
-- ==== Proof.RefNorm.lean ====
module

public import proofs.«01_k».proof.Proof.Norm
public import proofs.«01_k».proof.Proof.CellRef
public import proofs.«01_k».proof.Proof.Gen.FeaturesReferenceIdeal

@[expose] public section

set_option maxRecDepth 16384

noncomputable section

namespace Cert.Proof.Layers

open Idealize.ShloMosaic Cert.FeaturesReferenceIdeal Cert.FeaturesReferenceIdeal.Gen Cert.Proof.Sums

/-- The reference's channel means: row 0 of the sums over the number of points. -/
def refMean64 (S : FVec Ideal S2x64 .f32) : FVec Ideal S64 .f32 :=
  Host.divf (shapeCast S64 (extractStridedSlice S1x64 ![0, 0] S slices_S2x64_S1x64_0_0) shapeCasts_S1x64_S64) (broadcastInDim S64 ![] bcast_S_S64 (constant S_ .f32 0x48C35000#32))

/-- The reference's channel mean squares: row 1 of the sums over the number of points. -/
def refSquare64 (S : FVec Ideal S2x64 .f32) : FVec Ideal S64 .f32 :=
  Host.divf (shapeCast S64 (extractStridedSlice S1x64 ![1, 0] S slices_S2x64_S1x64_1_0) shapeCasts_S1x64_S64) (broadcastInDim S64 ![] bcast_S_S64 (constant S_ .f32 0x48C35000#32))

/-- A channel's value spread over the points. -/
def over64 (v : FVec Ideal S64 .f32) : FVec Ideal S4x64x100000 .f32 :=
  broadcastInDim S4x64x100000 ![0, 1, 2] bcast_S1x64x1_S4x64x100000_0_1_2 (broadcastInDim S1x64x1 ![1] bcast_S64_S1x64x1_1 v)

/-- The reference's normalisation of 64 channels. -/
def refNorm64 (H : FVec Ideal S4x64x100000 .f32) (S : FVec Ideal S2x64 .f32) (g e : FVec Ideal S64 .f32) : FVec Ideal S4x64x100000 .f32 :=
  maximumf (addf (mulf (Host.divf (subf H (over64 (refMean64 S)))
    (over64 (Host.sqrt (addf (subf (refSquare64 S) (mulf (refMean64 S) (refMean64 S))) (broadcastInDim S64 ![] bcast_S_S64 (constant S_ .f32 0x3727C5AC#32))))))
    (over64 g)) (over64 e)) (broadcastInDim S4x64x100000 ![] bcast_S_S4x64x100000 (constant S_ .f32 0x00000000#32))

theorem refNorm64_ap (H : FVec Ideal S4x64x100000 .f32) (S : FVec Ideal S2x64 .f32) (g e : FVec Ideal S64 .f32) (p : Fin 4) (o : Fin 64) (q : Fin 100000) :
    refNorm64 H S g e (ix3 p o q) = norm (H (ix3 p o q)) (S (ix2 0 o)) (S (ix2 1 o)) (g (ix1 o)) (e (ix1 o)) := by
  unfold refNorm64 over64 refMean64 refSquare64 norm spread mean
  pointwise

/-- The reference's channel means, of 128 channels. -/
def refMean128 (S : FVec Ideal S2x128 .f32) : FVec Ideal S128 .f32 :=
  Host.divf (shapeCast S128 (extractStridedSlice S1x128 ![0, 0] S slices_S2x128_S1x128_0_0) shapeCasts_S1x128_S128) (broadcastInDim S128 ![] bcast_S_S128 (constant S_ .f32 0x48C35000#32))

/-- The reference's channel mean squares, of 128 channels. -/
def refSquare128 (S : FVec Ideal S2x128 .f32) : FVec Ideal S128 .f32 :=
  Host.divf (shapeCast S128 (extractStridedSlice S1x128 ![1, 0] S slices_S2x128_S1x128_1_0) shapeCasts_S1x128_S128) (broadcastInDim S128 ![] bcast_S_S128 (constant S_ .f32 0x48C35000#32))

/-- A channel's value spread over the points, of 128 channels. -/
def over128 (v : FVec Ideal S128 .f32) : FVec Ideal S4x128x100000 .f32 :=
  broadcastInDim S4x128x100000 ![0, 1, 2] bcast_S1x128x1_S4x128x100000_0_1_2 (broadcastInDim S1x128x1 ![1] bcast_S128_S1x128x1_1 v)

/-- The reference's normalisation of 128 channels. -/
def refNorm128 (H : FVec Ideal S4x128x100000 .f32) (S : FVec Ideal S2x128 .f32) (g e : FVec Ideal S128 .f32) : FVec Ideal S4x128x100000 .f32 :=
  maximumf (addf (mulf (Host.divf (subf H (over128 (refMean128 S)))
    (over128 (Host.sqrt (addf (subf (refSquare128 S) (mulf (refMean128 S) (refMean128 S))) (broadcastInDim S128 ![] bcast_S_S128 (constant S_ .f32 0x3727C5AC#32))))))
    (over128 g)) (over128 e)) (broadcastInDim S4x128x100000 ![] bcast_S_S4x128x100000 (constant S_ .f32 0x00000000#32))

theorem refNorm128_ap (H : FVec Ideal S4x128x100000 .f32) (S : FVec Ideal S2x128 .f32) (g e : FVec Ideal S128 .f32) (p : Fin 4) (o : Fin 128) (q : Fin 100000) :
    refNorm128 H S g e (ix3 p o q) = norm (H (ix3 p o q)) (S (ix2 0 o)) (S (ix2 1 o)) (g (ix1 o)) (e (ix1 o)) := by
  unfold refNorm128 over128 refMean128 refSquare128 norm spread mean
  pointwise

/-- The reference's second linear layer. -/
def refLin64 (H : FVec Ideal S4x64x100000 .f32) (W : FVec Ideal S128x64 .f32) (b : FVec Ideal S128 .f32) : FVec Ideal S4x128x100000 .f32 :=
  addf (transpose S4x128x100000 [0, 2, 1] (Host.dotGeneral dot_S4x64x100000_S128x64_S4x100000x128_1_1_02_0_n_n none H W) transposes_S4x100000x128_S4x128x100000_0_2_1) (over128 b)

theorem refLin64_ap (H : FVec Ideal S4x64x100000 .f32) (W : FVec Ideal S128x64 .f32) (b : FVec Ideal S128 .f32) (p : Fin 4) (o : Fin 128) (q : Fin 100000) :
    refLin64 H W b (ix3 p o q) = (∑ c : Fin 64, H (ix3 p c q) * W (ix2 o c)) + b (ix1 o) := by
  unfold refLin64 over128
  pointwise

/-- The reference's third linear layer. -/
def refLin128 (H : FVec Ideal S4x128x100000 .f32) (W : FVec Ideal S128x128 .f32) (b : FVec Ideal S128 .f32) : FVec Ideal S4x128x100000 .f32 :=
  addf (transpose S4x128x100000 [0, 2, 1] (Host.dotGeneral dot_S4x128x100000_S128x128_S4x100000x128_1_1_02_0_n_n none H W) transposes_S4x100000x128_S4x128x100000_0_2_1) (over128 b)

theorem refLin128_ap (H : FVec Ideal S4x128x100000 .f32) (W : FVec Ideal S128x128 .f32) (b : FVec Ideal S128 .f32) (p : Fin 4) (o : Fin 128) (q : Fin 100000) :
    refLin128 H W b (ix3 p o q) = (∑ c : Fin 128, H (ix3 p c q) * W (ix2 o c)) + b (ix1 o) := by
  unfold refLin128 over128
  pointwise

/-- The gains are real and the spread of every channel is above zero: what the claims take of a normalisation of `C` channels. -/
def Sound {C : ℕ} (S : FVec Ideal (⟨2, ![2, C]⟩ : Shape) .f32) (g : FVec Ideal (⟨1, ![C]⟩ : Shape) .f32) : Prop :=
  ∀ o : Fin C, (∃ r : ℝ, g (ix1 o) = (r : EReal)) ∧ 0 < spread (S (ix2 0 o)) (S (ix2 1 o))

section

variable (A : FVec Ideal S4x100000x4 .f32) (L : FVec Ideal S64x4 .f32) (b g e : FVec Ideal S64 .f32) (W : FVec Ideal S128x64 .f32) (b2 g2 e2 : FVec Ideal S128 .f32)
  (X : FVec Ideal S128x128 .f32) (b3 g3 e3 : FVec Ideal S128 .f32) (S : FVec Ideal S2x64 .f32) (T U : FVec Ideal S2x128 .f32)

theorem ref_val2 (h1 : Sound S g) (p : Fin 4) (o : Fin 128) (q : Fin 100000) :
    refLin64 (refNorm64 (refLay A L b) S g e) W b2 (ix3 p o q) = val2 A L b g e W b2 S (100000 * p.val + q.val) (by omega) o := by
  rw [refLin64_ap]
  unfold val2 val1
  refine congrArg (· + _) (Finset.sum_congr rfl fun c _ => ?_)
  rw [refNorm64_ap, act_eq _ _ _ _ _ (h1 c).1 (h1 c).2, refLay_ap]

theorem ref_val3 (h1 : Sound S g) (h2 : Sound T g2) (p : Fin 4) (o : Fin 128) (q : Fin 100000) :
    refLin128 (refNorm128 (refLin64 (refNorm64 (refLay A L b) S g e) W b2) T g2 e2) X b3 (ix3 p o q) = val3 A L b g e W b2 g2 e2 X b3 S T (100000 * p.val + q.val) (by omega) o := by
  rw [refLin128_ap]
  unfold val3
  refine congrArg (· + _) (Finset.sum_congr rfl fun c _ => ?_)
  rw [refNorm128_ap, act_eq _ _ _ _ _ (h2 c).1 (h2 c).2, ref_val2 A L b g e W b2 S h1]

theorem ref_val4 (h1 : Sound S g) (h2 : Sound T g2) (h3 : Sound U g3) (p : Fin 4) (o : Fin 128) (q : Fin 100000) :
    refNorm128 (refLin128 (refNorm128 (refLin64 (refNorm64 (refLay A L b) S g e) W b2) T g2 e2) X b3) U g3 e3 (ix3 p o q)
      = act (val3 A L b g e W b2 g2 e2 X b3 S T (100000 * p.val + q.val) (by omega) o) (U (ix2 0 o)) (U (ix2 1 o)) (g3 (ix1 o)) (e3 (ix1 o)) := by
  rw [refNorm128_ap, act_eq _ _ _ _ _ (h3 o).1 (h3 o).2, ref_val3 A L b g e W b2 g2 e2 X b3 S T h1 h2]

end

/-- The sum over the first and the last axis, of 128 channels. -/
theorem sum_outer128 (h : S4x128x100000.ReducesTo [0, 2] S128) (v : S4x128x100000.Idx → EReal) (o : Fin 128) :
    Ideal.hostReduceAdd h v 0 (ix1 o) = ∑ a : Fin 4, ∑ q : Fin 100000, v (ix3 a o q) := by
  refine (zero_add _).trans ((Finset.sum_filter_eq_sum_of_fiber _ (fun k : Fin 4 × Fin 100000 => ix3 k.1 o k.2)
    (fun _ _ e => Prod.ext (congrFun e 0) (congrFun e 2)) (fun i => ?_) v).trans ?_)
  · constructor
    · intro e
      refine ⟨(i 0, i 2), ?_⟩
      funext a; apply Fin.ext
      match a with
      | ⟨0, _⟩ => rfl
      | ⟨1, _⟩ => exact (congrArg Fin.val (congrFun e 0)).symm
      | ⟨2, _⟩ => rfl
    · rintro ⟨k, rfl⟩
      funext b
      apply Fin.ext
      match b with
      | ⟨0, _⟩ => rfl
  · simp only [Fintype.sum_prod_type]

end Cert.Proof.Layers
-- ==== Proof.Sound.lean ====
module

public import proofs.«01_k».proof.Proof.RefNorm
public import proofs.«01_k».proof.Proof.Gen.Pre_sound2
public import proofs.«01_k».proof.Proof.Gen.Pre_sound3
public import proofs.«01_k».proof.Proof.Gen.Pre_sound4
public import Idealize.ShloMosaic.Lib.ReduceAll
public import Idealize.ShloMosaic.Lib.Pointwise

@[expose] public section

set_option maxRecDepth 16384

noncomputable section

namespace Cert.Proof.Layers

open Idealize.ShloMosaic Cert.Pre_sound4 Cert.Pre_sound4.Gen

/-- The test for finite gains, gain by gain. -/
def fin64 (g : FVec Ideal S64 .f32) : IVec S64 1 :=
  cmpf .olt (Host.absf g) (broadcastInDim S64 ![] bcast_S_S64 (constant S_ .f32 0x7F800000#32))

/-- The test for a positive spread, channel by channel. -/
def pos64 (S : FVec Ideal S2x64 .f32) : IVec S64 1 :=
  cmpf .ogt (addf (subf (Host.divf (shapeCast S64 (extractStridedSlice S1x64 ![1, 0] S slices_S2x64_S1x64_1_0) shapeCasts_S1x64_S64) (broadcastInDim S64 ![] bcast_S_S64 (constant S_ .f32 0x48C35000#32)))
    (mulf (Host.divf (shapeCast S64 (extractStridedSlice S1x64 ![0, 0] S slices_S2x64_S1x64_0_0) shapeCasts_S1x64_S64) (broadcastInDim S64 ![] bcast_S_S64 (constant S_ .f32 0x48C35000#32)))
      (Host.divf (shapeCast S64 (extractStridedSlice S1x64 ![0, 0] S slices_S2x64_S1x64_0_0) shapeCasts_S1x64_S64) (broadcastInDim S64 ![] bcast_S_S64 (constant S_ .f32 0x48C35000#32)))))
    (broadcastInDim S64 ![] bcast_S_S64 (constant S_ .f32 0x3727C5AC#32))) (broadcastInDim S64 ![] bcast_S_S64 (constant S_ .f32 0x00000000#32))

def fin128 (g : FVec Ideal S128 .f32) : IVec S128 1 :=
  cmpf .olt (Host.absf g) (broadcastInDim S128 ![] bcast_S_S128 (constant S_ .f32 0x7F800000#32))

def pos128 (S : FVec Ideal S2x128 .f32) : IVec S128 1 :=
  cmpf .ogt (addf (subf (Host.divf (shapeCast S128 (extractStridedSlice S1x128 ![1, 0] S slices_S2x128_S1x128_1_0) shapeCasts_S1x128_S128) (broadcastInDim S128 ![] bcast_S_S128 (constant S_ .f32 0x48C35000#32)))
    (mulf (Host.divf (shapeCast S128 (extractStridedSlice S1x128 ![0, 0] S slices_S2x128_S1x128_0_0) shapeCasts_S1x128_S128) (broadcastInDim S128 ![] bcast_S_S128 (constant S_ .f32 0x48C35000#32)))
      (Host.divf (shapeCast S128 (extractStridedSlice S1x128 ![0, 0] S slices_S2x128_S1x128_0_0) shapeCasts_S1x128_S128) (broadcastInDim S128 ![] bcast_S_S128 (constant S_ .f32 0x48C35000#32)))))
    (broadcastInDim S128 ![] bcast_S_S128 (constant S_ .f32 0x3727C5AC#32))) (broadcastInDim S128 ![] bcast_S_S128 (constant S_ .f32 0x00000000#32))

theorem real_of_test (x : EReal) (h : FloatOps.cmpf (F := Ideal) (φ := .f32) .olt (FloatOps.hostAbsf (F := Ideal) (φ := .f32) x) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hd : decide (max x (-x) < ⊤) = true := by
    by_contra hn
    have : BitVec.ofBool (decide (max x (-x) < ⊤)) = 1#1 := h
    rw [Bool.not_eq_true] at hn
    rw [hn] at this
    exact absurd this (by decide)
  have hl := of_decide_eq_true hd
  rw [max_lt_iff] at hl
  induction x using EReal.rec with
  | bot => simp at hl
  | top => simp at hl
  | coe r => exact ⟨r, rfl⟩

theorem pos_of_test (x : EReal) (h : BitVec.ofBool (decide (0 < x)) = 1#1) : 0 < x := by
  by_contra hn
  rw [decide_eq_false hn] at h
  exact absurd h (by decide)

theorem fin64_real (g : FVec Ideal S64 .f32) (o : Fin 64) (h : fin64 g (ix1 o) = 1#1) : ∃ r : ℝ, g (ix1 o) = (r : EReal) := by
  unfold fin64 at h
  pointwise at h
  exact real_of_test _ h

theorem pos64_pos (S : FVec Ideal S2x64 .f32) (o : Fin 64) (h : pos64 S (ix1 o) = 1#1) : 0 < spread (S (ix2 0 o)) (S (ix2 1 o)) := by
  unfold pos64 at h
  pointwise at h
  exact pos_of_test _ h

theorem fin128_real (g : FVec Ideal S128 .f32) (o : Fin 128) (h : fin128 g (ix1 o) = 1#1) : ∃ r : ℝ, g (ix1 o) = (r : EReal) := by
  unfold fin128 at h
  pointwise at h
  exact real_of_test _ h

theorem pos128_pos (S : FVec Ideal S2x128 .f32) (o : Fin 128) (h : pos128 S (ix1 o) = 1#1) : 0 < spread (S (ix2 0 o)) (S (ix2 1 o)) := by
  unfold pos128 at h
  pointwise at h
  exact pos_of_test _ h

/-- All of 64 tests hold. -/
def all64 (v : IVec S64 1) : BitVec 1 := Host.reduce IntOp.andi v (constantI S_ 1 1#1) reducesTo_S64_S_d0 h_S_ (Shape.Idx.first h_S_)

/-- All of 128 tests hold. -/
def all128 (v : IVec S128 1) : BitVec 1 := Host.reduce IntOp.andi v (constantI S_ 1 1#1) reducesTo_S128_S_d0 h_S_ (Shape.Idx.first h_S_)

theorem sound64 (S : FVec Ideal S2x64 .f32) (g : FVec Ideal S64 .f32) (h1 : all64 (fin64 g) = 1#1) (h2 : all64 (pos64 S) = 1#1) : Sound S g := by
  have hs : Subsingleton S_.Idx := ⟨fun a b => funext fun i => i.elim0⟩
  exact fun o => ⟨fin64_real g o (Host.reduce_andi_all _ _ _ _ _ h1 (ix1 o)), pos64_pos S o (Host.reduce_andi_all _ _ _ _ _ h2 (ix1 o))⟩

theorem sound128 (S : FVec Ideal S2x128 .f32) (g : FVec Ideal S128 .f32) (h1 : all128 (fin128 g) = 1#1) (h2 : all128 (pos128 S) = 1#1) : Sound S g := by
  have hs : Subsingleton S_.Idx := ⟨fun a b => funext fun i => i.elim0⟩
  exact fun o => ⟨fin128_real g o (Host.reduce_andi_all _ _ _ _ _ h1 (ix1 o)), pos128_pos S o (Host.reduce_andi_all _ _ _ _ _ h2 (ix1 o))⟩

section

variable (A : FVec Ideal S4x100000x4 .f32) (L : FVec Ideal S64x4 .f32) (b g e : FVec Ideal S64 .f32) (W : FVec Ideal S128x64 .f32) (b2 g2 e2 : FVec Ideal S128 .f32)
  (X : FVec Ideal S128x128 .f32) (b3 g3 e3 : FVec Ideal S128 .f32) (S : FVec Ideal S2x64 .f32) (T U : FVec Ideal S2x128 .f32)

theorem sound2 (h : Cert.Pre_sound2.fn (F := Ideal) A L b g e W b2 S = fun _ => 1#1) : Sound S g := by
  have e : IntOp.andi (all64 (fin64 g)) (all64 (pos64 S)) = 1#1 := congrFun h (Shape.Idx.first h_S_)
  obtain ⟨e1, e2⟩ := IntOp.andi_eq_one.1 e
  exact sound64 S g e1 e2

theorem sound3 (h : Cert.Pre_sound3.fn (F := Ideal) A L b g e W b2 g2 e2 X b3 S T = fun _ => 1#1) : Sound S g ∧ Sound T g2 := by
  have e : IntOp.andi (IntOp.andi (IntOp.andi (all64 (fin64 g)) (all128 (fin128 g2))) (all64 (pos64 S))) (all128 (pos128 T)) = 1#1 := congrFun h (Shape.Idx.first h_S_)
  obtain ⟨e, e4⟩ := IntOp.andi_eq_one.1 e
  obtain ⟨e, e3⟩ := IntOp.andi_eq_one.1 e
  obtain ⟨e1, e2⟩ := IntOp.andi_eq_one.1 e
  exact ⟨sound64 S g e1 e3, sound128 T g2 e2 e4⟩

theorem sound4 (h : Cert.Pre_sound4.fn (F := Ideal) A L b g e W b2 g2 e2 X b3 g3 e3 S T U = fun _ => 1#1) : Sound S g ∧ Sound T g2 ∧ Sound U g3 := by
  have e : IntOp.andi (IntOp.andi (IntOp.andi (IntOp.andi (IntOp.andi (all64 (fin64 g)) (all128 (fin128 g2))) (all128 (fin128 g3))) (all64 (pos64 S))) (all128 (pos128 T))) (all128 (pos128 U)) = 1#1 := congrFun h (Shape.Idx.first h_S_)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact ⟨sound64 S g e1 e4, sound128 T g2 e2 e5, sound128 U g3 e3 e6⟩

end

end Cert.Proof.Layers
-- ==== Proof.Seconds.lean ====
module

public import proofs.«01_k».proof.Defs
public import proofs.«01_k».proof.Proof.Norm
public import proofs.«01_k».proof.Proof.Gen.Second.Frame
public import proofs.«01_k».proof.Proof.Gen.SecondIdeal.Value
public import Idealize.ShloMosaic.Lib.Pipeline.ValueKit
public import Idealize.ShloMosaic.Lib.Pointwise

@[expose] public section

set_option maxRecDepth 16384

noncomputable section

namespace Cert.Proof.Seconds

open Idealize.ShloMosaic Idealize.ShloMosaic.TcCoe Idealize.SL.Sem Cert.SecondIdeal Cert.SecondIdeal.Gen

theorem idx : ∀ t : Fin cfg0.N, win0_0.index t = ![t.val, 0] ∧ win0_1.index t = ![0, 0] ∧ win0_2.index t = ![0] ∧ win0_3.index t = ![0] ∧ win0_4.index t = ![0] ∧ win0_5.index t = ![0, 0] ∧ win0_6.index t = ![0] ∧ win0_7.index t = ![0, 0] ∧ win0_8.index t = ![0, 0] := by
  decide +kernel

variable (m : (ℓ : Loc nD τ sig) → Buf (Elt Ideal) ℓ)

/-- A row of the points' block at grid point `t`. -/
theorem block_0 (c : Dev nD) (t : Fin cfg0.N) (r : Fin 3200) (k : Fin 4) (h : 3200 * t.val + r.val < 400000) :
    iblk m c 0 t (ix2 r k) = Sums.coord (m ((c : Thread nD τ).loc main_arg0)) (3200 * t.val + r.val) h k := by
  unfold Sums.coord
  have := idx t
  show V m c main_v0 ((win0_0.blk t).view.emb (ix2 r k)) = _
  have e0 : ((((win0_0.blk t).view.emb (ix2 r k)) 0 : Fin _) : ℕ) = 3200 * t.val + r.val := by
    blk_simp [idx t]
    omega
  have e1 : ((win0_0.blk t).view.emb (ix2 r k)) = ix2 (⟨3200 * t.val + r.val, h⟩ : Fin 400000) k := by
    funext a
    fin_cases a
    · exact Fin.ext e0
    · exact Fin.ext (by blk_simp [idx t]; rfl)
  rw [e1]
  entry_read
  pointwise

theorem block_1 (c : Dev nD) (t : Fin cfg0.N) (k : Fin 4) (o : Fin 64) :
    iblk m c 1 t (ix2 k o) = m ((c : Thread nD τ).loc main_arg1) (ix2 o k) := by
  have := idx t
  show V m c main_v1 ((win0_1.blk t).view.emb (ix2 k o)) = _
  have e1 : ((win0_1.blk t).view.emb (ix2 k o)) = ix2 k o := by
    funext a
    fin_cases a
    · exact Fin.ext (by blk_simp [idx t])
    · exact Fin.ext (by blk_simp [idx t])
  rw [e1]
  entry_read
  pointwise

theorem block_2 (c : Dev nD) (t : Fin cfg0.N) : (iblk m c 2 t : FVec Ideal S64 .f32) = m ((c : Thread nD τ).loc main_arg2) := by
  funext j
  have := idx t
  show V m c main_arg2 ((win0_2.blk t).view.emb j) = _
  have e1 : ((win0_2.blk t).view.emb j) = j := by
    funext a
    fin_cases a
    exact Fin.ext (by blk_simp [idx t])
  rw [e1]
  entry_read
  rfl

theorem block_3 (c : Dev nD) (t : Fin cfg0.N) : (iblk m c 3 t : FVec Ideal S64 .f32) = m ((c : Thread nD τ).loc main_arg3) := by
  funext j
  have := idx t
  show V m c main_arg3 ((win0_3.blk t).view.emb j) = _
  have e1 : ((win0_3.blk t).view.emb j) = j := by
    funext a
    fin_cases a
    exact Fin.ext (by blk_simp [idx t])
  rw [e1]
  entry_read
  rfl

theorem block_4 (c : Dev nD) (t : Fin cfg0.N) : (iblk m c 4 t : FVec Ideal S64 .f32) = m ((c : Thread nD τ).loc main_arg4) := by
  funext j
  have := idx t
  show V m c main_arg4 ((win0_4.blk t).view.emb j) = _
  have e1 : ((win0_4.blk t).view.emb j) = j := by
    funext a
    fin_cases a
    exact Fin.ext (by blk_simp [idx t])
  rw [e1]
  entry_read
  rfl

theorem block_5 (c : Dev nD) (t : Fin cfg0.N) (k : Fin 64) (o : Fin 128) :
    iblk m c 5 t (ix2 k o) = m ((c : Thread nD τ).loc main_arg5) (ix2 o k) := by
  have := idx t
  show V m c main_v2 ((win0_5.blk t).view.emb (ix2 k o)) = _
  have e1 : ((win0_5.blk t).view.emb (ix2 k o)) = ix2 k o := by
    funext a
    fin_cases a
    · exact Fin.ext (by blk_simp [idx t])
    · exact Fin.ext (by blk_simp [idx t])
  rw [e1]
  entry_read
  pointwise

theorem block_6 (c : Dev nD) (t : Fin cfg0.N) : (iblk m c 6 t : FVec Ideal S128 .f32) = m ((c : Thread nD τ).loc main_arg6) := by
  funext j
  have := idx t
  show V m c main_arg6 ((win0_6.blk t).view.emb j) = _
  have e1 : ((win0_6.blk t).view.emb j) = j := by
    funext a
    fin_cases a
    exact Fin.ext (by blk_simp [idx t])
  rw [e1]
  entry_read
  rfl

theorem block_7 (c : Dev nD) (t : Fin cfg0.N) (k : Fin 2) (o : Fin 64) :
    iblk m c 7 t (ix2 k o) = m ((c : Thread nD τ).loc main_arg7) (ix2 k o) := by
  have := idx t
  show V m c main_arg7 ((win0_7.blk t).view.emb (ix2 k o)) = _
  have e1 : ((win0_7.blk t).view.emb (ix2 k o)) = ix2 k o := by
    funext a
    fin_cases a
    · exact Fin.ext (by blk_simp [idx t])
    · exact Fin.ext (by blk_simp [idx t])
  rw [e1]
  entry_read
  rfl

/-- The last point of the grid. -/
def tLast : Fin cfg0.N := ⟨124, by decide⟩

/-- What a point of the grid adds to the sums. -/
def term (c : Dev nD) (t : Fin cfg0.N) (j : S2x128.Idx) : EReal :=
  ∑ r : Fin 3200, Sums.stat (j 0) (Layers.val2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (3200 * t.val + r.val) (by have := t.isLt; have h : cfg0.N = 125 := rfl; omega) (j 1))

/-- A column's sum, and the sum of its squares, one above the other. -/
theorem stack_ap (H : FVec Ideal S3200x128 .f32) (p : Fin 2) (o : Fin 128) :
    concatenate S2x128 0 [⟨S1x128, shapeCast S1x128 (multiReduction .add [0] S128 H 0x00000000#32 reduces_S3200x128_S128 (.inl rfl) rfl) shapeCasts_S128_S1x128⟩,
      ⟨S1x128, shapeCast S1x128 (multiReduction .add [0] S128 (mulf H H) 0x00000000#32 reduces_S3200x128_S128 (.inl rfl) rfl) shapeCasts_S128_S1x128⟩] concatenates_S1x128_S1x128_S2x128_d0 (ix2 p o)
      = ∑ r : Fin 3200, Sums.stat p (H (ix2 r o)) := by
  fin_cases p
  · pointwise
    rfl
  · pointwise
    rfl

theorem pay_ap (v0 : Vec Ideal S3200x4 .f32) (b : Vec Ideal S64 .f32) (v5 v13 v20 v27 s q : Vec Ideal S1x64 .f32) (g e : Vec Ideal S64 .f32) (w : Vec Ideal S64x128 .f32) (b2 : Vec Ideal S128 .f32) (p : Fin 2) (o : Fin 128) :
    k0_pay1 (k0_pay3 v0 b v5 v13 v20 v27) q g e (k0_pay4 s) (k0_pay5 (F := Ideal)) w b2 (ix2 p o)
      = ∑ r : Fin 3200, Sums.stat p ((Layers.lin64 (Layers.norm64 (Sums.lay v0 b v5 v13 v20 v27) s q g e) w b2) (ix2 r o)) :=
  stack_ap (Layers.lin64 (Layers.norm64 (Sums.lay v0 b v5 v13 v20 v27) s q g e) w b2) p o

/-- What a point of the grid computes. -/
theorem block_sums (c : Dev nD) (t : Fin cfg0.N) (j : S2x128.Idx) :
    k0_pay1 (k0_pay3 (iblk m c 0 t) (iblk m c 2 t) (View.ld (iblk m c 1 t) (Rect.unit ![0, 0] ![1, 64] inb_S4x64_S1x64_0_0)) (View.ld (iblk m c 1 t) (Rect.unit ![1, 0] ![1, 64] inb_S4x64_S1x64_1_0)) (View.ld (iblk m c 1 t) (Rect.unit ![2, 0] ![1, 64] inb_S4x64_S1x64_2_0)) (View.ld (iblk m c 1 t) (Rect.unit ![3, 0] ![1, 64] inb_S4x64_S1x64_3_0))) (View.ld (iblk m c 7 t) (Rect.unit ![1, 0] ![1, 64] inb_S2x64_S1x64_1_0)) (iblk m c 3 t) (iblk m c 4 t) (k0_pay4 (View.ld (iblk m c 7 t) (Rect.unit ![0, 0] ![1, 64] inb_S2x64_S1x64_0_0))) (k0_pay5 (F := Ideal)) (iblk m c 5 t) (iblk m c 6 t) j = term m c t j := by
  have h125 : cfg0.N = 125 := rfl
  have := t.isLt
  obtain ⟨p, o, rfl⟩ : ∃ p o, j = ix2 p o := ⟨j 0, j 1, by funext a; fin_cases a <;> rfl⟩
  rw [pay_ap]
  unfold term
  refine Finset.sum_congr rfl fun r _ => congrArg (Sums.stat p) ?_
  rw [block_2, block_3, block_4, block_6]
  exact Layers.val2_block (h := _) _ (m ((c : Thread nD τ).loc main_arg1)) _ _ _ (m ((c : Thread nD τ).loc main_arg5)) _ (m ((c : Thread nD τ).loc main_arg7)) (fun k => block_0 m c t r k (by omega))
    (fun o => (Layers.ld_row _ 0 (by decide) _ o).trans (block_1 m c t 0 o)) (fun o => (Layers.ld_row _ 1 (by decide) _ o).trans (block_1 m c t 1 o)) (fun o => (Layers.ld_row _ 2 (by decide) _ o).trans (block_1 m c t 2 o)) (fun o => (Layers.ld_row _ 3 (by decide) _ o).trans (block_1 m c t 3 o))
    (fun o => (Layers.ld_row _ 0 (by decide) _ o).trans (block_7 m c t 0 o)) (fun o => (Layers.ld_row _ 1 (by decide) _ o).trans (block_7 m c t 1 o)) (fun k o => block_5 m c t k o) o

theorem at_first (c : Dev nD) (t : Fin cfg0.N) (h : t.val % 125 = 0) (j : S2x128.Idx) : outsAt0 m c t.val t.isLt j = 0 + term m c t j := by
  have h125 : cfg0.N = 125 := rfl
  have := t.isLt
  rw [outsAt0_A m c t (by omega) (by omega)]
  frame_out
  exact (block_sums m c t j).trans (zero_add _).symm

theorem at_next (c : Dev nD) (t : Fin cfg0.N) (h : ¬ t.val % 125 = 0) (j : S2x128.Idx) :
    outsAt0 m c t.val t.isLt j = outsAt0 m c (t.val - 1) (Nat.lt_of_le_of_lt (Nat.sub_le _ _) t.isLt) j + term m c t j := by
  have h125 : cfg0.N = 125 := rfl
  have := t.isLt
  rw [outsAt0_B m c t (by omega) (by omega)]
  frame_out
  rw [← block_sums]
  unfold k0_pay2
  pointwise
  rfl

theorem sums_final (c : Dev nD) : (dats m 0 c).arrAt 8 cfg0.N = fun j => ∑ n : Fin 400000, Sums.stat (j 0) (Layers.val2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n.val n.isLt (j 1)) := by
  refine (dats m 0 c).arrAt_eq_of_after_last 8 tLast (by decide +kernel) _ fun j => ?_
  blk_simp
  rw [after0_8]
  refine (Pipeline.eq_sum_fin_of_reset_step_apply_last (fun n h => outsAt0 m c n h) 125 (fun _ => 0) (term m c) (at_first m c) (at_next m c) (by decide) tLast rfl _).trans ?_
  rw [zero_add]
  unfold term
  refine Fin.sum_mul_add_congr (S := 125) (n := 3200) (L := 400000) (f := fun n : Fin 400000 => Sums.stat (j 0) (Layers.val2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) n.val n.isLt (j 1))) fun s k hl => ?_
  simp only [Nat.mul_comm 3200 s.val]

end Cert.Proof.Seconds
-- ==== Proof.SecondRef.lean ====
module

public import proofs.«01_k».proof.Proof.Sound
public import proofs.«01_k».proof.Proof.Seconds
public import proofs.«01_k».proof.Proof.Gen.SecondReferenceIdeal.Run

@[expose] public section

set_option maxRecDepth 16384

noncomputable section

namespace Cert.Proof.Seconds

open Idealize.ShloMosaic Idealize.ShloMosaic.TcCoe Idealize.SL.Sem Cert.SecondReferenceIdeal Cert.SecondReferenceIdeal.Gen
open Cert.Proof.Sums (stat refLay)
open Cert.Proof.Layers

theorem ref_stack (H : FVec Ideal S4x128x100000 .f32) (p : Fin 2) (o : Fin 128) :
    concatenate S2x128 0 [⟨S1x128, (broadcastInDim S1x128 ![1] bcast_S128_S1x128_1 (Host.reduceAdd (H) (constant S_ .f32 0x00000000#32) reducesTo_S4x128x100000_S128_d0_2 h_S_))⟩, ⟨S1x128, (broadcastInDim S1x128 ![1] bcast_S128_S1x128_1 (Host.reduceAdd (mulf (H) (H)) (constant S_ .f32 0x00000000#32) reducesTo_S4x128x100000_S128_d0_2 h_S_))⟩] concatenates_S1x128_S1x128_S2x128_d0 (ix2 p o) = ∑ a : Fin 4, ∑ q : Fin 100000, stat p (H (ix3 a o q)) := by
  fin_cases p
  · pointwise
    rw [sum_outer128]
    rfl
  · pointwise
    rw [sum_outer128]
    rfl

/-- The reference's sums. -/
theorem ref_sums (A : FVec Ideal S4x100000x4 .f32) (L : FVec Ideal S64x4 .f32) (b g e : FVec Ideal S64 .f32) (W : FVec Ideal S128x64 .f32) (b2 : FVec Ideal S128 .f32) (S : FVec Ideal S2x64 .f32) (h1 : Sound S g) :
    concatenate S2x128 0 [⟨S1x128, (broadcastInDim S1x128 ![1] bcast_S128_S1x128_1 (Host.reduceAdd (refLin64 (refNorm64 (refLay A L b) S g e) W b2) (constant S_ .f32 0x00000000#32) reducesTo_S4x128x100000_S128_d0_2 h_S_))⟩, ⟨S1x128, (broadcastInDim S1x128 ![1] bcast_S128_S1x128_1 (Host.reduceAdd (mulf (refLin64 (refNorm64 (refLay A L b) S g e) W b2) (refLin64 (refNorm64 (refLay A L b) S g e) W b2)) (constant S_ .f32 0x00000000#32) reducesTo_S4x128x100000_S128_d0_2 h_S_))⟩] concatenates_S1x128_S1x128_S2x128_d0 = fun j => ∑ n : Fin 400000, stat (j 0) (val2 A L b g e W b2 S n.val n.isLt (j 1)) := by
  funext j
  obtain ⟨p, o, rfl⟩ : ∃ p o, j = ix2 p o := ⟨j 0, j 1, by funext a; fin_cases a <;> rfl⟩
  refine (ref_stack (refLin64 (refNorm64 (refLay A L b) S g e) W b2) p o).trans ?_
  refine Fin.sum_mul_add_congr (S := 4) (n := 100000) (L := 400000) (f := fun n : Fin 400000 => stat p (val2 A L b g e W b2 S n.val n.isLt o)) fun s k hl => ?_
  rw [ref_val2 A L b g e W b2 S h1]
  simp only [Nat.mul_comm 100000 s.val]

theorem algebraic : Cert.algebraic_SecondIdeal_SecondReferenceIdeal_pre_sound2 := fun m ρ m' ρ' hpre hag =>
  ⟨_, SecondIdeal.Value.run_blocks (F := Ideal) m ρ,
    (θ_run Cert.SecondReferenceIdeal.defs _ _).mono (fun r h c => by
      obtain ⟨h1, h2, h3, h4, h5, h6, h7, h8, h9⟩ := h c
      refine ⟨h1.trans ?_, h2, h3, h4, h5, h6, h7, h8, h9⟩
      unfold SecondReferenceIdeal.Value.res_main_v42
      rw [(hag c).1, (hag c).2.1, (hag c).2.2.1, (hag c).2.2.2.1, (hag c).2.2.2.2.1, (hag c).2.2.2.2.2.1, (hag c).2.2.2.2.2.2.1, (hag c).2.2.2.2.2.2.2]
      exact (ref_sums _ _ _ _ _ _ _ _ (sound2 _ _ _ _ _ _ _ _ (hpre c))).trans (sums_final m c).symm) (SecondReferenceIdeal.Value.run (F := Ideal) m' ρ')⟩

theorem frame : Cert.quiescent_Second := fun m ρ _ => Cert.Second.Gen.frame m ρ

theorem frame_ideal : Cert.quiescent_SecondIdeal := fun m ρ _ => Cert.SecondIdeal.Gen.frame m ρ

theorem frame_ideal_pre : Cert.quiescent_SecondIdeal_pre_sound2 := fun m ρ _ => Cert.SecondIdeal.Gen.frame m ρ

/-- The reference's frame; it has no semaphore. -/
theorem frame_ref : Cert.quiescent_SecondReferenceIdeal := fun m ρ _ =>
  (θ_run Cert.SecondReferenceIdeal.defs _ _).mono (fun r h => ⟨fun c => (h c).2, sem_eq_zero_of_no_sems (by decide) r.2⟩) (SecondReferenceIdeal.Value.run (F := Ideal) m ρ)

theorem frame_ref_pre : Cert.quiescent_SecondReferenceIdeal_pre_sound2 := fun m ρ _ => frame_ref m ρ trivial

end Cert.Proof.Seconds
-- ==== Proof.Thirds.lean ====
module

public import proofs.«01_k».proof.Defs
public import proofs.«01_k».proof.Proof.Norm
public import proofs.«01_k».proof.Proof.Gen.Third.Frame
public import proofs.«01_k».proof.Proof.Gen.ThirdIdeal.Value
public import Idealize.ShloMosaic.Lib.Pipeline.ValueKit
public import Idealize.ShloMosaic.Lib.Pointwise

@[expose] public section

set_option maxRecDepth 16384

noncomputable section

namespace Cert.Proof.Thirds

open Idealize.ShloMosaic Idealize.ShloMosaic.TcCoe Idealize.SL.Sem Cert.ThirdIdeal Cert.ThirdIdeal.Gen

theorem idx : ∀ t : Fin cfg0.N, win0_0.index t = ![t.val, 0] ∧ win0_1.index t = ![0, 0] ∧ win0_2.index t = ![0] ∧ win0_3.index t = ![0] ∧ win0_4.index t = ![0] ∧ win0_5.index t = ![0, 0] ∧ win0_6.index t = ![0] ∧ win0_7.index t = ![0] ∧ win0_8.index t = ![0] ∧ win0_9.index t = ![0, 0] ∧ win0_10.index t = ![0] ∧ win0_11.index t = ![0, 0] ∧ win0_12.index t = ![0, 0] ∧ win0_13.index t = ![0, 0] := by
  decide +kernel

variable (m : (ℓ : Loc nD τ sig) → Buf (Elt Ideal) ℓ)

/-- A row of the points' block at grid point `t`. -/
theorem block_0 (c : Dev nD) (t : Fin cfg0.N) (r : Fin 3200) (k : Fin 4) (h : 3200 * t.val + r.val < 400000) :
    iblk m c 0 t (ix2 r k) = Sums.coord (m ((c : Thread nD τ).loc main_arg0)) (3200 * t.val + r.val) h k := by
  unfold Sums.coord
  have := idx t
  show V m c main_v0 ((win0_0.blk t).view.emb (ix2 r k)) = _
  have e0 : ((((win0_0.blk t).view.emb (ix2 r k)) 0 : Fin _) : ℕ) = 3200 * t.val + r.val := by
    blk_simp [idx t]
    omega
  have e1 : ((win0_0.blk t).view.emb (ix2 r k)) = ix2 (⟨3200 * t.val + r.val, h⟩ : Fin 400000) k := by
    funext a
    fin_cases a
    · exact Fin.ext e0
    · exact Fin.ext (by blk_simp [idx t]; rfl)
  rw [e1]
  entry_read
  pointwise

theorem block_1 (c : Dev nD) (t : Fin cfg0.N) (k : Fin 4) (o : Fin 64) :
    iblk m c 1 t (ix2 k o) = m ((c : Thread nD τ).loc main_arg1) (ix2 o k) := by
  have := idx t
  show V m c main_v1 ((win0_1.blk t).view.emb (ix2 k o)) = _
  have e1 : ((win0_1.blk t).view.emb (ix2 k o)) = ix2 k o := by
    funext a
    fin_cases a
    · exact Fin.ext (by blk_simp [idx t])
    · exact Fin.ext (by blk_simp [idx t])
  rw [e1]
  entry_read
  pointwise

theorem block_2 (c : Dev nD) (t : Fin cfg0.N) : (iblk m c 2 t : FVec Ideal S64 .f32) = m ((c : Thread nD τ).loc main_arg2) := by
  funext j
  have := idx t
  show V m c main_arg2 ((win0_2.blk t).view.emb j) = _
  have e1 : ((win0_2.blk t).view.emb j) = j := by
    funext a
    fin_cases a
    exact Fin.ext (by blk_simp [idx t])
  rw [e1]
  entry_read
  rfl

theorem block_3 (c : Dev nD) (t : Fin cfg0.N) : (iblk m c 3 t : FVec Ideal S64 .f32) = m ((c : Thread nD τ).loc main_arg3) := by
  funext j
  have := idx t
  show V m c main_arg3 ((win0_3.blk t).view.emb j) = _
  have e1 : ((win0_3.blk t).view.emb j) = j := by
    funext a
    fin_cases a
    exact Fin.ext (by blk_simp [idx t])
  rw [e1]
  entry_read
  rfl

theorem block_4 (c : Dev nD) (t : Fin cfg0.N) : (iblk m c 4 t : FVec Ideal S64 .f32) = m ((c : Thread nD τ).loc main_arg4) := by
  funext j
  have := idx t
  show V m c main_arg4 ((win0_4.blk t).view.emb j) = _
  have e1 : ((win0_4.blk t).view.emb j) = j := by
    funext a
    fin_cases a
    exact Fin.ext (by blk_simp [idx t])
  rw [e1]
  entry_read
  rfl

theorem block_5 (c : Dev nD) (t : Fin cfg0.N) (k : Fin 64) (o : Fin 128) :
    iblk m c 5 t (ix2 k o) = m ((c : Thread nD τ).loc main_arg5) (ix2 o k) := by
  have := idx t
  show V m c main_v2 ((win0_5.blk t).view.emb (ix2 k o)) = _
  have e1 : ((win0_5.blk t).view.emb (ix2 k o)) = ix2 k o := by
    funext a
    fin_cases a
    · exact Fin.ext (by blk_simp [idx t])
    · exact Fin.ext (by blk_simp [idx t])
  rw [e1]
  entry_read
  pointwise

theorem block_6 (c : Dev nD) (t : Fin cfg0.N) : (iblk m c 6 t : FVec Ideal S128 .f32) = m ((c : Thread nD τ).loc main_arg6) := by
  funext j
  have := idx t
  show V m c main_arg6 ((win0_6.blk t).view.emb j) = _
  have e1 : ((win0_6.blk t).view.emb j) = j := by
    funext a
    fin_cases a
    exact Fin.ext (by blk_simp [idx t])
  rw [e1]
  entry_read
  rfl

theorem block_7 (c : Dev nD) (t : Fin cfg0.N) : (iblk m c 7 t : FVec Ideal S128 .f32) = m ((c : Thread nD τ).loc main_arg7) := by
  funext j
  have := idx t
  show V m c main_arg7 ((win0_7.blk t).view.emb j) = _
  have e1 : ((win0_7.blk t).view.emb j) = j := by
    funext a
    fin_cases a
    exact Fin.ext (by blk_simp [idx t])
  rw [e1]
  entry_read
  rfl

theorem block_8 (c : Dev nD) (t : Fin cfg0.N) : (iblk m c 8 t : FVec Ideal S128 .f32) = m ((c : Thread nD τ).loc main_arg8) := by
  funext j
  have := idx t
  show V m c main_arg8 ((win0_8.blk t).view.emb j) = _
  have e1 : ((win0_8.blk t).view.emb j) = j := by
    funext a
    fin_cases a
    exact Fin.ext (by blk_simp [idx t])
  rw [e1]
  entry_read
  rfl

theorem block_9 (c : Dev nD) (t : Fin cfg0.N) (k : Fin 128) (o : Fin 128) :
    iblk m c 9 t (ix2 k o) = m ((c : Thread nD τ).loc main_arg9) (ix2 o k) := by
  have := idx t
  show V m c main_v3 ((win0_9.blk t).view.emb (ix2 k o)) = _
  have e1 : ((win0_9.blk t).view.emb (ix2 k o)) = ix2 k o := by
    funext a
    fin_cases a
    · exact Fin.ext (by blk_simp [idx t])
    · exact Fin.ext (by blk_simp [idx t])
  rw [e1]
  entry_read
  pointwise

theorem block_10 (c : Dev nD) (t : Fin cfg0.N) : (iblk m c 10 t : FVec Ideal S128 .f32) = m ((c : Thread nD τ).loc main_arg10) := by
  funext j
  have := idx t
  show V m c main_arg10 ((win0_10.blk t).view.emb j) = _
  have e1 : ((win0_10.blk t).view.emb j) = j := by
    funext a
    fin_cases a
    exact Fin.ext (by blk_simp [idx t])
  rw [e1]
  entry_read
  rfl

theorem block_11 (c : Dev nD) (t : Fin cfg0.N) (k : Fin 2) (o : Fin 64) :
    iblk m c 11 t (ix2 k o) = m ((c : Thread nD τ).loc main_arg11) (ix2 k o) := by
  have := idx t
  show V m c main_arg11 ((win0_11.blk t).view.emb (ix2 k o)) = _
  have e1 : ((win0_11.blk t).view.emb (ix2 k o)) = ix2 k o := by
    funext a
    fin_cases a
    · exact Fin.ext (by blk_simp [idx t])
    · exact Fin.ext (by blk_simp [idx t])
  rw [e1]
  entry_read
  rfl

theorem block_12 (c : Dev nD) (t : Fin cfg0.N) (k : Fin 2) (o : Fin 128) :
    iblk m c 12 t (ix2 k o) = m ((c : Thread nD τ).loc main_arg12) (ix2 k o) := by
  have := idx t
  show V m c main_arg12 ((win0_12.blk t).view.emb (ix2 k o)) = _
  have e1 : ((win0_12.blk t).view.emb (ix2 k o)) = ix2 k o := by
    funext a
    fin_cases a
    · exact Fin.ext (by blk_simp [idx t])
    · exact Fin.ext (by blk_simp [idx t])
  rw [e1]
  entry_read
  rfl

/-- The last point of the grid. -/
def tLast : Fin cfg0.N := ⟨124, by decide⟩

/-- What a point of the grid adds to the sums. -/
def term (c : Dev nD) (t : Fin cfg0.N) (j : S2x128.Idx) : EReal :=
  ∑ r : Fin 3200, Sums.stat (j 0) (Layers.val3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (3200 * t.val + r.val) (by have := t.isLt; have h : cfg0.N = 125 := rfl; omega) (j 1))

/-- A column's sum, and the sum of its squares, one above the other. -/
theorem stack_ap (H : FVec Ideal S3200x128 .f32) (p : Fin 2) (o : Fin 128) :
    concatenate S2x128 0 [⟨S1x128, shapeCast S1x128 (multiReduction .add [0] S128 H 0x00000000#32 reduces_S3200x128_S128 (.inl rfl) rfl) shapeCasts_S128_S1x128⟩,
      ⟨S1x128, shapeCast S1x128 (multiReduction .add [0] S128 (mulf H H) 0x00000000#32 reduces_S3200x128_S128 (.inl rfl) rfl) shapeCasts_S128_S1x128⟩] concatenates_S1x128_S1x128_S2x128_d0 (ix2 p o)
      = ∑ r : Fin 3200, Sums.stat p (H (ix2 r o)) := by
  fin_cases p
  · pointwise
    rfl
  · pointwise
    rfl

theorem pay_ap (v0 : Vec Ideal S3200x4 .f32) (b : Vec Ideal S64 .f32) (v5 v13 v20 v27 s q : Vec Ideal S1x64 .f32) (g e : Vec Ideal S64 .f32) (w : Vec Ideal S64x128 .f32) (b2 : Vec Ideal S128 .f32) (s2 q2 : Vec Ideal S1x128 .f32) (g2 e2 : Vec Ideal S128 .f32) (x : Vec Ideal S128x128 .f32) (b3 : Vec Ideal S128 .f32) (p : Fin 2) (o : Fin 128) :
    k0_pay1 (k0_pay8 (k0_pay3 v0 b v5 v13 v20 v27) q g e (k0_pay4 s) (k0_pay5 (F := Ideal)) w b2 s2 q2 g2) (k0_pay9 s2 q2 g2 e2) x b3 (ix2 p o)
      = ∑ r : Fin 3200, Sums.stat p ((Layers.lin128 (Layers.norm128 (Layers.lin64 (Layers.norm64 (Sums.lay v0 b v5 v13 v20 v27) s q g e) w b2) s2 q2 g2 e2) x b3) (ix2 r o)) :=
  stack_ap (Layers.lin128 (Layers.norm128 (Layers.lin64 (Layers.norm64 (Sums.lay v0 b v5 v13 v20 v27) s q g e) w b2) s2 q2 g2 e2) x b3) p o

/-- What a point of the grid computes. -/
theorem block_sums (c : Dev nD) (t : Fin cfg0.N) (j : S2x128.Idx) :
    k0_pay1 (k0_pay8 (k0_pay3 (iblk m c 0 t) (iblk m c 2 t) (View.ld (iblk m c 1 t) (Rect.unit ![0, 0] ![1, 64] inb_S4x64_S1x64_0_0)) (View.ld (iblk m c 1 t) (Rect.unit ![1, 0] ![1, 64] inb_S4x64_S1x64_1_0)) (View.ld (iblk m c 1 t) (Rect.unit ![2, 0] ![1, 64] inb_S4x64_S1x64_2_0)) (View.ld (iblk m c 1 t) (Rect.unit ![3, 0] ![1, 64] inb_S4x64_S1x64_3_0))) (View.ld (iblk m c 11 t) (Rect.unit ![1, 0] ![1, 64] inb_S2x64_S1x64_1_0)) (iblk m c 3 t) (iblk m c 4 t) (k0_pay4 (View.ld (iblk m c 11 t) (Rect.unit ![0, 0] ![1, 64] inb_S2x64_S1x64_0_0))) (k0_pay5 (F := Ideal)) (iblk m c 5 t) (iblk m c 6 t) (View.ld (iblk m c 12 t) (Rect.unit ![0, 0] ![1, 128] inb_S2x128_S1x128_0_0)) (View.ld (iblk m c 12 t) (Rect.unit ![1, 0] ![1, 128] inb_S2x128_S1x128_1_0)) (iblk m c 7 t)) (k0_pay9 (View.ld (iblk m c 12 t) (Rect.unit ![0, 0] ![1, 128] inb_S2x128_S1x128_0_0)) (View.ld (iblk m c 12 t) (Rect.unit ![1, 0] ![1, 128] inb_S2x128_S1x128_1_0)) (iblk m c 7 t) (iblk m c 8 t)) (iblk m c 9 t) (iblk m c 10 t) j = term m c t j := by
  have h125 : cfg0.N = 125 := rfl
  have := t.isLt
  obtain ⟨p, o, rfl⟩ : ∃ p o, j = ix2 p o := ⟨j 0, j 1, by funext a; fin_cases a <;> rfl⟩
  rw [pay_ap]
  unfold term
  refine Finset.sum_congr rfl fun r _ => congrArg (Sums.stat p) ?_
  rw [block_2, block_3, block_4, block_6, block_7, block_8, block_10]
  exact Layers.val3_block (h := _) _ (m ((c : Thread nD τ).loc main_arg1)) _ _ _ (m ((c : Thread nD τ).loc main_arg5)) _ _ _ (m ((c : Thread nD τ).loc main_arg9)) _ (m ((c : Thread nD τ).loc main_arg11)) (m ((c : Thread nD τ).loc main_arg12)) (fun k => block_0 m c t r k (by omega))
    (fun o => (Layers.ld_row _ 0 (by decide) _ o).trans (block_1 m c t 0 o)) (fun o => (Layers.ld_row _ 1 (by decide) _ o).trans (block_1 m c t 1 o)) (fun o => (Layers.ld_row _ 2 (by decide) _ o).trans (block_1 m c t 2 o)) (fun o => (Layers.ld_row _ 3 (by decide) _ o).trans (block_1 m c t 3 o))
    (fun o => (Layers.ld_row _ 0 (by decide) _ o).trans (block_11 m c t 0 o)) (fun o => (Layers.ld_row _ 1 (by decide) _ o).trans (block_11 m c t 1 o)) (fun k o => block_5 m c t k o)
    (fun o => (Layers.ld_row _ 0 (by decide) _ o).trans (block_12 m c t 0 o)) (fun o => (Layers.ld_row _ 1 (by decide) _ o).trans (block_12 m c t 1 o)) (fun k o => block_9 m c t k o) o

theorem at_first (c : Dev nD) (t : Fin cfg0.N) (h : t.val % 125 = 0) (j : S2x128.Idx) : outsAt0 m c t.val t.isLt j = 0 + term m c t j := by
  have h125 : cfg0.N = 125 := rfl
  have := t.isLt
  rw [outsAt0_A m c t (by omega) (by omega)]
  frame_out
  exact (block_sums m c t j).trans (zero_add _).symm

theorem at_next (c : Dev nD) (t : Fin cfg0.N) (h : ¬ t.val % 125 = 0) (j : S2x128.Idx) :
    outsAt0 m c t.val t.isLt j = outsAt0 m c (t.val - 1) (Nat.lt_of_le_of_lt (Nat.sub_le _ _) t.isLt) j + term m c t j := by
  have h125 : cfg0.N = 125 := rfl
  have := t.isLt
  rw [outsAt0_B m c t (by omega) (by omega)]
  frame_out
  rw [← block_sums]
  unfold k0_pay2
  pointwise
  rfl

theorem sums_final (c : Dev nD) : (dats m 0 c).arrAt 13 cfg0.N = fun j => ∑ n : Fin 400000, Sums.stat (j 0) (Layers.val3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n.val n.isLt (j 1)) := by
  refine (dats m 0 c).arrAt_eq_of_after_last 13 tLast (by decide +kernel) _ fun j => ?_
  blk_simp
  rw [after0_13]
  refine (Pipeline.eq_sum_fin_of_reset_step_apply_last (fun n h => outsAt0 m c n h) 125 (fun _ => 0) (term m c) (at_first m c) (at_next m c) (by decide) tLast rfl _).trans ?_
  rw [zero_add]
  unfold term
  refine Fin.sum_mul_add_congr (S := 125) (n := 3200) (L := 400000) (f := fun n : Fin 400000 => Sums.stat (j 0) (Layers.val3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n.val n.isLt (j 1))) fun s k hl => ?_
  simp only [Nat.mul_comm 3200 s.val]

end Cert.Proof.Thirds
-- ==== Proof.ThirdRef.lean ====
module

public import proofs.«01_k».proof.Proof.Sound
public import proofs.«01_k».proof.Proof.Thirds
public import proofs.«01_k».proof.Proof.Gen.ThirdReferenceIdeal.Run

@[expose] public section

set_option maxRecDepth 16384

noncomputable section

namespace Cert.Proof.Thirds

open Idealize.ShloMosaic Idealize.ShloMosaic.TcCoe Idealize.SL.Sem Cert.ThirdReferenceIdeal Cert.ThirdReferenceIdeal.Gen
open Cert.Proof.Sums (stat refLay)
open Cert.Proof.Layers

theorem ref_stack (H : FVec Ideal S4x128x100000 .f32) (p : Fin 2) (o : Fin 128) :
    concatenate S2x128 0 [⟨S1x128, (broadcastInDim S1x128 ![1] bcast_S128_S1x128_1 (Host.reduceAdd (H) (constant S_ .f32 0x00000000#32) reducesTo_S4x128x100000_S128_d0_2 h_S_))⟩, ⟨S1x128, (broadcastInDim S1x128 ![1] bcast_S128_S1x128_1 (Host.reduceAdd (mulf (H) (H)) (constant S_ .f32 0x00000000#32) reducesTo_S4x128x100000_S128_d0_2 h_S_))⟩] concatenates_S1x128_S1x128_S2x128_d0 (ix2 p o) = ∑ a : Fin 4, ∑ q : Fin 100000, stat p (H (ix3 a o q)) := by
  fin_cases p
  · pointwise
    rw [sum_outer128]
    rfl
  · pointwise
    rw [sum_outer128]
    rfl

/-- The reference's sums. -/
theorem ref_sums (A : FVec Ideal S4x100000x4 .f32) (L : FVec Ideal S64x4 .f32) (b g e : FVec Ideal S64 .f32) (W : FVec Ideal S128x64 .f32) (b2 : FVec Ideal S128 .f32) (g2 e2 : FVec Ideal S128 .f32) (X : FVec Ideal S128x128 .f32) (b3 : FVec Ideal S128 .f32) (S : FVec Ideal S2x64 .f32) (T : FVec Ideal S2x128 .f32) (h1 : Sound S g) (h2 : Sound T g2) :
    concatenate S2x128 0 [⟨S1x128, (broadcastInDim S1x128 ![1] bcast_S128_S1x128_1 (Host.reduceAdd (refLin128 (refNorm128 (refLin64 (refNorm64 (refLay A L b) S g e) W b2) T g2 e2) X b3) (constant S_ .f32 0x00000000#32) reducesTo_S4x128x100000_S128_d0_2 h_S_))⟩, ⟨S1x128, (broadcastInDim S1x128 ![1] bcast_S128_S1x128_1 (Host.reduceAdd (mulf (refLin128 (refNorm128 (refLin64 (refNorm64 (refLay A L b) S g e) W b2) T g2 e2) X b3) (refLin128 (refNorm128 (refLin64 (refNorm64 (refLay A L b) S g e) W b2) T g2 e2) X b3)) (constant S_ .f32 0x00000000#32) reducesTo_S4x128x100000_S128_d0_2 h_S_))⟩] concatenates_S1x128_S1x128_S2x128_d0 = fun j => ∑ n : Fin 400000, stat (j 0) (val3 A L b g e W b2 g2 e2 X b3 S T n.val n.isLt (j 1)) := by
  funext j
  obtain ⟨p, o, rfl⟩ : ∃ p o, j = ix2 p o := ⟨j 0, j 1, by funext a; fin_cases a <;> rfl⟩
  refine (ref_stack (refLin128 (refNorm128 (refLin64 (refNorm64 (refLay A L b) S g e) W b2) T g2 e2) X b3) p o).trans ?_
  refine Fin.sum_mul_add_congr (S := 4) (n := 100000) (L := 400000) (f := fun n : Fin 400000 => stat p (val3 A L b g e W b2 g2 e2 X b3 S T n.val n.isLt o)) fun s k hl => ?_
  rw [ref_val3 A L b g e W b2 g2 e2 X b3 S T h1 h2]
  simp only [Nat.mul_comm 100000 s.val]

theorem algebraic : Cert.algebraic_ThirdIdeal_ThirdReferenceIdeal_pre_sound3 := fun m ρ m' ρ' hpre hag =>
  ⟨_, ThirdIdeal.Value.run_blocks (F := Ideal) m ρ,
    (θ_run Cert.ThirdReferenceIdeal.defs _ _).mono (fun r h c => by
      obtain ⟨h1, h2, h3, h4, h5, h6, h7, h8, h9, h10, h11, h12, h13, h14⟩ := h c
      refine ⟨h1.trans ?_, h2, h3, h4, h5, h6, h7, h8, h9, h10, h11, h12, h13, h14⟩
      unfold ThirdReferenceIdeal.Value.res_main_v73
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]
      exact (ref_sums _ _ _ _ _ _ _ _ _ _ _ _ _ (sound3 _ _ _ _ _ _ _ _ _ _ _ _ _ (hpre c)).1 (sound3 _ _ _ _ _ _ _ _ _ _ _ _ _ (hpre c)).2).trans (sums_final m c).symm) (ThirdReferenceIdeal.Value.run (F := Ideal) m' ρ')⟩

theorem frame : Cert.quiescent_Third := fun m ρ _ => Cert.Third.Gen.frame m ρ

theorem frame_ideal : Cert.quiescent_ThirdIdeal := fun m ρ _ => Cert.ThirdIdeal.Gen.frame m ρ

theorem frame_ideal_pre : Cert.quiescent_ThirdIdeal_pre_sound3 := fun m ρ _ => Cert.ThirdIdeal.Gen.frame m ρ

/-- The reference's frame; it has no semaphore. -/
theorem frame_ref : Cert.quiescent_ThirdReferenceIdeal := fun m ρ _ =>
  (θ_run Cert.ThirdReferenceIdeal.defs _ _).mono (fun r h => ⟨fun c => (h c).2, sem_eq_zero_of_no_sems (by decide) r.2⟩) (ThirdReferenceIdeal.Value.run (F := Ideal) m ρ)

theorem frame_ref_pre : Cert.quiescent_ThirdReferenceIdeal_pre_sound3 := fun m ρ _ => frame_ref m ρ trivial

end Cert.Proof.Thirds
-- ==== Proof.Feats.lean ====
module

public import proofs.«01_k».proof.Defs
public import proofs.«01_k».proof.Proof.Norm
public import proofs.«01_k».proof.Proof.Gen.Features.Frame
public import proofs.«01_k».proof.Proof.Gen.FeaturesIdeal.Value
public import Idealize.ShloMosaic.Lib.Pipeline.ValueKit
public import Idealize.ShloMosaic.Lib.Pointwise

@[expose] public section

set_option maxRecDepth 16384

noncomputable section

namespace Cert.Proof.Feats

open Idealize.ShloMosaic Idealize.ShloMosaic.TcCoe Idealize.SL.Sem Cert.FeaturesIdeal Cert.FeaturesIdeal.Gen

theorem idx : ∀ t : Fin cfg0.N, win0_0.index t = ![t.val, 0] ∧ win0_1.index t = ![0, 0] ∧ win0_2.index t = ![0] ∧ win0_3.index t = ![0] ∧ win0_4.index t = ![0] ∧ win0_5.index t = ![0, 0] ∧ win0_6.index t = ![0] ∧ win0_7.index t = ![0] ∧ win0_8.index t = ![0] ∧ win0_9.index t = ![0, 0] ∧ win0_10.index t = ![0] ∧ win0_11.index t = ![0] ∧ win0_12.index t = ![0] ∧ win0_13.index t = ![0, 0] ∧ win0_14.index t = ![0, 0] ∧ win0_15.index t = ![0, 0] ∧ win0_16.index t = ![t.val, 0] := by
  decide +kernel

variable (m : (ℓ : Loc nD τ sig) → Buf (Elt Ideal) ℓ)

/-- A row of the points' block at grid point `t`. -/
theorem block_0 (c : Dev nD) (t : Fin cfg0.N) (r : Fin 3200) (k : Fin 4) (h : 3200 * t.val + r.val < 400000) :
    iblk m c 0 t (ix2 r k) = Sums.coord (m ((c : Thread nD τ).loc main_arg0)) (3200 * t.val + r.val) h k := by
  unfold Sums.coord
  have := idx t
  show V m c main_v0 ((win0_0.blk t).view.emb (ix2 r k)) = _
  have e0 : ((((win0_0.blk t).view.emb (ix2 r k)) 0 : Fin _) : ℕ) = 3200 * t.val + r.val := by
    blk_simp [idx t]
    omega
  have e1 : ((win0_0.blk t).view.emb (ix2 r k)) = ix2 (⟨3200 * t.val + r.val, h⟩ : Fin 400000) k := by
    funext a
    fin_cases a
    · exact Fin.ext e0
    · exact Fin.ext (by blk_simp [idx t]; rfl)
  rw [e1]
  entry_read
  pointwise

theorem block_1 (c : Dev nD) (t : Fin cfg0.N) (k : Fin 4) (o : Fin 64) :
    iblk m c 1 t (ix2 k o) = m ((c : Thread nD τ).loc main_arg1) (ix2 o k) := by
  have := idx t
  show V m c main_v1 ((win0_1.blk t).view.emb (ix2 k o)) = _
  have e1 : ((win0_1.blk t).view.emb (ix2 k o)) = ix2 k o := by
    funext a
    fin_cases a
    · exact Fin.ext (by blk_simp [idx t])
    · exact Fin.ext (by blk_simp [idx t])
  rw [e1]
  entry_read
  pointwise

theorem block_2 (c : Dev nD) (t : Fin cfg0.N) : (iblk m c 2 t : FVec Ideal S64 .f32) = m ((c : Thread nD τ).loc main_arg2) := by
  funext j
  have := idx t
  show V m c main_arg2 ((win0_2.blk t).view.emb j) = _
  have e1 : ((win0_2.blk t).view.emb j) = j := by
    funext a
    fin_cases a
    exact Fin.ext (by blk_simp [idx t])
  rw [e1]
  entry_read
  rfl

theorem block_3 (c : Dev nD) (t : Fin cfg0.N) : (iblk m c 3 t : FVec Ideal S64 .f32) = m ((c : Thread nD τ).loc main_arg3) := by
  funext j
  have := idx t
  show V m c main_arg3 ((win0_3.blk t).view.emb j) = _
  have e1 : ((win0_3.blk t).view.emb j) = j := by
    funext a
    fin_cases a
    exact Fin.ext (by blk_simp [idx t])
  rw [e1]
  entry_read
  rfl

theorem block_4 (c : Dev nD) (t : Fin cfg0.N) : (iblk m c 4 t : FVec Ideal S64 .f32) = m ((c : Thread nD τ).loc main_arg4) := by
  funext j
  have := idx t
  show V m c main_arg4 ((win0_4.blk t).view.emb j) = _
  have e1 : ((win0_4.blk t).view.emb j) = j := by
    funext a
    fin_cases a
    exact Fin.ext (by blk_simp [idx t])
  rw [e1]
  entry_read
  rfl

theorem block_5 (c : Dev nD) (t : Fin cfg0.N) (k : Fin 64) (o : Fin 128) :
    iblk m c 5 t (ix2 k o) = m ((c : Thread nD τ).loc main_arg5) (ix2 o k) := by
  have := idx t
  show V m c main_v2 ((win0_5.blk t).view.emb (ix2 k o)) = _
  have e1 : ((win0_5.blk t).view.emb (ix2 k o)) = ix2 k o := by
    funext a
    fin_cases a
    · exact Fin.ext (by blk_simp [idx t])
    · exact Fin.ext (by blk_simp [idx t])
  rw [e1]
  entry_read
  pointwise

theorem block_6 (c : Dev nD) (t : Fin cfg0.N) : (iblk m c 6 t : FVec Ideal S128 .f32) = m ((c : Thread nD τ).loc main_arg6) := by
  funext j
  have := idx t
  show V m c main_arg6 ((win0_6.blk t).view.emb j) = _
  have e1 : ((win0_6.blk t).view.emb j) = j := by
    funext a
    fin_cases a
    exact Fin.ext (by blk_simp [idx t])
  rw [e1]
  entry_read
  rfl

theorem block_7 (c : Dev nD) (t : Fin cfg0.N) : (iblk m c 7 t : FVec Ideal S128 .f32) = m ((c : Thread nD τ).loc main_arg7) := by
  funext j
  have := idx t
  show V m c main_arg7 ((win0_7.blk t).view.emb j) = _
  have e1 : ((win0_7.blk t).view.emb j) = j := by
    funext a
    fin_cases a
    exact Fin.ext (by blk_simp [idx t])
  rw [e1]
  entry_read
  rfl

theorem block_8 (c : Dev nD) (t : Fin cfg0.N) : (iblk m c 8 t : FVec Ideal S128 .f32) = m ((c : Thread nD τ).loc main_arg8) := by
  funext j
  have := idx t
  show V m c main_arg8 ((win0_8.blk t).view.emb j) = _
  have e1 : ((win0_8.blk t).view.emb j) = j := by
    funext a
    fin_cases a
    exact Fin.ext (by blk_simp [idx t])
  rw [e1]
  entry_read
  rfl

theorem block_9 (c : Dev nD) (t : Fin cfg0.N) (k : Fin 128) (o : Fin 128) :
    iblk m c 9 t (ix2 k o) = m ((c : Thread nD τ).loc main_arg9) (ix2 o k) := by
  have := idx t
  show V m c main_v3 ((win0_9.blk t).view.emb (ix2 k o)) = _
  have e1 : ((win0_9.blk t).view.emb (ix2 k o)) = ix2 k o := by
    funext a
    fin_cases a
    · exact Fin.ext (by blk_simp [idx t])
    · exact Fin.ext (by blk_simp [idx t])
  rw [e1]
  entry_read
  pointwise

theorem block_10 (c : Dev nD) (t : Fin cfg0.N) : (iblk m c 10 t : FVec Ideal S128 .f32) = m ((c : Thread nD τ).loc main_arg10) := by
  funext j
  have := idx t
  show V m c main_arg10 ((win0_10.blk t).view.emb j) = _
  have e1 : ((win0_10.blk t).view.emb j) = j := by
    funext a
    fin_cases a
    exact Fin.ext (by blk_simp [idx t])
  rw [e1]
  entry_read
  rfl

theorem block_11 (c : Dev nD) (t : Fin cfg0.N) : (iblk m c 11 t : FVec Ideal S128 .f32) = m ((c : Thread nD τ).loc main_arg11) := by
  funext j
  have := idx t
  show V m c main_arg11 ((win0_11.blk t).view.emb j) = _
  have e1 : ((win0_11.blk t).view.emb j) = j := by
    funext a
    fin_cases a
    exact Fin.ext (by blk_simp [idx t])
  rw [e1]
  entry_read
  rfl

theorem block_12 (c : Dev nD) (t : Fin cfg0.N) : (iblk m c 12 t : FVec Ideal S128 .f32) = m ((c : Thread nD τ).loc main_arg12) := by
  funext j
  have := idx t
  show V m c main_arg12 ((win0_12.blk t).view.emb j) = _
  have e1 : ((win0_12.blk t).view.emb j) = j := by
    funext a
    fin_cases a
    exact Fin.ext (by blk_simp [idx t])
  rw [e1]
  entry_read
  rfl

theorem block_13 (c : Dev nD) (t : Fin cfg0.N) (k : Fin 2) (o : Fin 64) :
    iblk m c 13 t (ix2 k o) = m ((c : Thread nD τ).loc main_arg13) (ix2 k o) := by
  have := idx t
  show V m c main_arg13 ((win0_13.blk t).view.emb (ix2 k o)) = _
  have e1 : ((win0_13.blk t).view.emb (ix2 k o)) = ix2 k o := by
    funext a
    fin_cases a
    · exact Fin.ext (by blk_simp [idx t])
    · exact Fin.ext (by blk_simp [idx t])
  rw [e1]
  entry_read
  rfl

theorem block_14 (c : Dev nD) (t : Fin cfg0.N) (k : Fin 2) (o : Fin 128) :
    iblk m c 14 t (ix2 k o) = m ((c : Thread nD τ).loc main_arg14) (ix2 k o) := by
  have := idx t
  show V m c main_arg14 ((win0_14.blk t).view.emb (ix2 k o)) = _
  have e1 : ((win0_14.blk t).view.emb (ix2 k o)) = ix2 k o := by
    funext a
    fin_cases a
    · exact Fin.ext (by blk_simp [idx t])
    · exact Fin.ext (by blk_simp [idx t])
  rw [e1]
  entry_read
  rfl

theorem block_15 (c : Dev nD) (t : Fin cfg0.N) (k : Fin 2) (o : Fin 128) :
    iblk m c 15 t (ix2 k o) = m ((c : Thread nD τ).loc main_arg15) (ix2 k o) := by
  have := idx t
  show V m c main_arg15 ((win0_15.blk t).view.emb (ix2 k o)) = _
  have e1 : ((win0_15.blk t).view.emb (ix2 k o)) = ix2 k o := by
    funext a
    fin_cases a
    · exact Fin.ext (by blk_simp [idx t])
    · exact Fin.ext (by blk_simp [idx t])
  rw [e1]
  entry_read
  rfl

/-- Whether a point lies on the grid, from its first two coordinates. -/
def valid (x y : Ideal .f32) : BitVec 1 :=
  IntOp.andi (IntOp.andi (IntOp.andi
    (FloatOps.cmpf (F := Ideal) (φ := .f32) .oge (Ideal.div (x - Ideal.ofBits FTy.f32 0xC2480000#32) (Ideal.ofBits FTy.f32 0x42C80000#32)) (Ideal.ofBits FTy.f32 0x00000000#32))
    (FloatOps.cmpf (F := Ideal) (φ := .f32) .ole (Ideal.div (x - Ideal.ofBits FTy.f32 0xC2480000#32) (Ideal.ofBits FTy.f32 0x42C80000#32)) (Ideal.ofBits FTy.f32 0x3F800000#32)))
    (FloatOps.cmpf (F := Ideal) (φ := .f32) .oge (Ideal.div (y - Ideal.ofBits FTy.f32 0xC2480000#32) (Ideal.ofBits FTy.f32 0x42C80000#32)) (Ideal.ofBits FTy.f32 0x00000000#32)))
    (FloatOps.cmpf (F := Ideal) (φ := .f32) .ole (Ideal.div (y - Ideal.ofBits FTy.f32 0xC2480000#32) (Ideal.ofBits FTy.f32 0x42C80000#32)) (Ideal.ofBits FTy.f32 0x3F800000#32))

theorem mask_ap (X : FVec Ideal S3200x128 .f32) (v0 : FVec Ideal S3200x4 .f32) (r : Fin 3200) (o : Fin 128) :
    k0_pay1 X (k0_pay11 (k0_pay2 v0)) (k0_pay12 (k0_pay2 v0)) (ix2 r o) = Scalar.select (valid (v0 (ix2 r 0)) (v0 (ix2 r 1))) (X (ix2 r o)) (Ideal.ofBits FTy.f32 0x00000000#32) := by
  unfold k0_pay1 k0_pay11 k0_pay12 k0_pay2 valid
  pointwise

theorem mask_ld (X : FVec Ideal S3200x128 .f32) (v0 : FVec Ideal S3200x4 .f32) (r : Fin 3200) (o : Fin 128) :
    k0_pay1 X (k0_pay11 (k0_pay2 (View.ld v0 r0_0))) (k0_pay12 (k0_pay2 (View.ld v0 r0_0))) (ix2 r o) = Scalar.select (valid (v0 (ix2 r 0)) (v0 (ix2 r 1))) (X (ix2 r o)) (Ideal.ofBits FTy.f32 0x00000000#32) := by
  have full := View.ld_unit_lit (Val := Elt Ideal) (e := .f32) (S := S3200x4) (off := ![0, 0]) inb_S3200x4_S3200x4_0_0 v0 (by decide)
  rw [full]
  exact mask_ap X v0 r o

/-- The points' features: the third layer normalised, and zero off the grid. -/
def feats (A : FVec Ideal S4x100000x4 .f32) (L : FVec Ideal S64x4 .f32) (b g e : FVec Ideal S64 .f32) (W : FVec Ideal S128x64 .f32) (b2 g2 e2 : FVec Ideal S128 .f32)
    (X : FVec Ideal S128x128 .f32) (b3 g3 e3 : FVec Ideal S128 .f32) (S : FVec Ideal S2x64 .f32) (T U : FVec Ideal S2x128 .f32) : FVec Ideal S400000x128 .f32 := fun j =>
  Scalar.select (valid (Sums.coord A (j 0).val (j 0).isLt 0) (Sums.coord A (j 0).val (j 0).isLt 1))
    (Layers.act (Layers.val3 A L b g e W b2 g2 e2 X b3 S T (j 0).val (j 0).isLt (j 1)) (U (ix2 0 (j 1))) (U (ix2 1 (j 1))) (g3 (ix1 (j 1))) (e3 (ix1 (j 1))))
    (Ideal.ofBits FTy.f32 0x00000000#32)

/-- The block's payload, by layers. -/
theorem pay_layers (v0 : Vec Ideal S3200x4 .f32) (b : Vec Ideal S64 .f32) (v5 v13 v20 v27 s q : Vec Ideal S1x64 .f32) (g e : Vec Ideal S64 .f32) (w : Vec Ideal S64x128 .f32)
    (b2 : Vec Ideal S128 .f32) (s2 q2 : Vec Ideal S1x128 .f32) (g2 e2 : Vec Ideal S128 .f32) (x : Vec Ideal S128x128 .f32) (b3 : Vec Ideal S128 .f32) (s3 q3 : Vec Ideal S1x128 .f32) (g3 e3 : Vec Ideal S128 .f32) :
    k0_pay10 (k0_pay8 (k0_pay3 v0 b v5 v13 v20 v27) q g e (k0_pay4 s) (k0_pay5 (F := Ideal)) w b2 s2 q2 g2) (k0_pay9 s2 q2 g2 e2) x b3 s3 q3 g3 e3
      = Layers.norm128 (Layers.lin128 (Layers.norm128 (Layers.lin64 (Layers.norm64 (Sums.lay v0 b v5 v13 v20 v27) s q g e) w b2) s2 q2 g2 e2) x b3) s3 q3 g3 e3 := rfl

theorem feats_final (c : Dev nD) : (dats m 0 c).arrAt 16 cfg0.N = feats (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15)) := by
  refine (dats m 0 c).arrAt_eq_of_covers 16 _ (by decide +kernel) fun t hf y => ?_
  have ht : t.val < 125 := t.isLt
  obtain ⟨r, o, rfl⟩ : ∃ (r : Fin 3200) (o : Fin 128), y = ix2 r o := ⟨y 0, y 1, by funext a; fin_cases a <;> rfl⟩
  have hn : 3200 * t.val + r.val < 400000 := by omega
  have e0 : (((((cfg0.win 16).blk t).view.emb (ix2 r o)) 0 : Fin _) : ℕ) = 3200 * t.val + r.val := by
    blk_simp [idx t]
    omega
  have e1 : (((cfg0.win 16).blk t).view.emb (ix2 r o)) = ix2 (⟨3200 * t.val + r.val, hn⟩ : Fin 400000) o := by
    funext a
    fin_cases a
    · exact Fin.ext e0
    · exact Fin.ext (by blk_simp [idx t]; rfl)
  blk_simp
  rw [after0_16, e1]
  frame_out
  unfold k0_pay13
  rw [pay_layers]
  refine (mask_ld _ (iblk m c 0 t) r o).trans ?_
  rw [Layers.norm128_ap, block_0 m c t r 0 hn, block_0 m c t r 1 hn, block_2, block_3, block_4, block_6, block_7, block_8, block_10, block_11, block_12]
  rw [Layers.val3_block (h := hn) _ (m ((c : Thread nD τ).loc main_arg1)) _ _ _ (m ((c : Thread nD τ).loc main_arg5)) _ _ _ (m ((c : Thread nD τ).loc main_arg9)) _
    (m ((c : Thread nD τ).loc main_arg13)) (m ((c : Thread nD τ).loc main_arg14)) (fun k => block_0 m c t r k hn)
    (fun o => (Layers.ld_row _ 0 (by decide) _ o).trans (block_1 m c t 0 o)) (fun o => (Layers.ld_row _ 1 (by decide) _ o).trans (block_1 m c t 1 o))
    (fun o => (Layers.ld_row _ 2 (by decide) _ o).trans (block_1 m c t 2 o)) (fun o => (Layers.ld_row _ 3 (by decide) _ o).trans (block_1 m c t 3 o))
    (fun o => (Layers.ld_row _ 0 (by decide) _ o).trans (block_13 m c t 0 o)) (fun o => (Layers.ld_row _ 1 (by decide) _ o).trans (block_13 m c t 1 o))
    (fun k o => block_5 m c t k o)
    (fun o => (Layers.ld_row _ 0 (by decide) _ o).trans (block_14 m c t 0 o)) (fun o => (Layers.ld_row _ 1 (by decide) _ o).trans (block_14 m c t 1 o))
    (fun k o => block_9 m c t k o)]
  have h0 : View.ld (iblk m c 15 t) r0_10 (ix2 0 o) = m ((c : Thread nD τ).loc main_arg15) (ix2 0 o) := (Layers.ld_row _ 0 (by decide) _ o).trans (block_15 m c t 0 o)
  have h1 : View.ld (iblk m c 15 t) r0_11 (ix2 0 o) = m ((c : Thread nD τ).loc main_arg15) (ix2 1 o) := (Layers.ld_row _ 1 (by decide) _ o).trans (block_15 m c t 1 o)
  rw [h0, h1]
  rfl

end Cert.Proof.Feats
-- ==== Proof.FeatRef.lean ====
module

public import proofs.«01_k».proof.Proof.Sound
public import proofs.«01_k».proof.Proof.Feats
public import proofs.«01_k».proof.Proof.Gen.FeaturesReferenceIdeal.Run

@[expose] public section

set_option maxRecDepth 16384

noncomputable section

namespace Cert.Proof.Feats

open Idealize.ShloMosaic Idealize.ShloMosaic.TcCoe Idealize.SL.Sem Cert.FeaturesReferenceIdeal Cert.FeaturesReferenceIdeal.Gen
open Cert.Proof.Sums (stat refLay)
open Cert.Proof.Layers

/-- The reference's mask: a point inside the grid. -/
def refMask (A : FVec Ideal S4x100000x4 .f32) : IVec S4x100000 1 :=
  andi (andi (andi (cmpf .oge (Host.divf (subf (shapeCast _ (extractStridedSlice S4x100000x1 ![0, 0, 0] A slices_S4x100000x4_S4x100000x1_0_0_0) shapeCasts_S4x100000x1_S4x100000) (broadcastInDim S4x100000 ![] bcast_S_S4x100000 (constant S_ .f32 0xC2480000#32))) (broadcastInDim S4x100000 ![] bcast_S_S4x100000 (constant S_ .f32 0x42C80000#32))) (broadcastInDim S4x100000 ![] bcast_S_S4x100000 (constant S_ .f32 0x00000000#32))) (cmpf .ole (Host.divf (subf (shapeCast _ (extractStridedSlice S4x100000x1 ![0, 0, 0] A slices_S4x100000x4_S4x100000x1_0_0_0) shapeCasts_S4x100000x1_S4x100000) (broadcastInDim S4x100000 ![] bcast_S_S4x100000 (constant S_ .f32 0xC2480000#32))) (broadcastInDim S4x100000 ![] bcast_S_S4x100000 (constant S_ .f32 0x42C80000#32))) (broadcastInDim S4x100000 ![] bcast_S_S4x100000 (constant S_ .f32 0x3F800000#32)))) (cmpf .oge (Host.divf (subf (shapeCast _ (extractStridedSlice S4x100000x1 ![0, 0, 1] A slices_S4x100000x4_S4x100000x1_0_0_1) shapeCasts_S4x100000x1_S4x100000) (broadcastInDim S4x100000 ![] bcast_S_S4x100000 (constant S_ .f32 0xC2480000#32))) (broadcastInDim S4x100000 ![] bcast_S_S4x100000 (constant S_ .f32 0x42C80000#32))) (broadcastInDim S4x100000 ![] bcast_S_S4x100000 (constant S_ .f32 0x00000000#32)))) (cmpf .ole (Host.divf (subf (shapeCast _ (extractStridedSlice S4x100000x1 ![0, 0, 1] A slices_S4x100000x4_S4x100000x1_0_0_1) shapeCasts_S4x100000x1_S4x100000) (broadcastInDim S4x100000 ![] bcast_S_S4x100000 (constant S_ .f32 0xC2480000#32))) (broadcastInDim S4x100000 ![] bcast_S_S4x100000 (constant S_ .f32 0x42C80000#32))) (broadcastInDim S4x100000 ![] bcast_S_S4x100000 (constant S_ .f32 0x3F800000#32)))

theorem refMask_ap (A : FVec Ideal S4x100000x4 .f32) (p : Fin 4) (q : Fin 100000) : refMask A (ix2 p q) = valid (A (ix3 p q 0)) (A (ix3 p q 1)) := by
  unfold refMask valid
  pointwise

/-- The reference's selection, laid out as rows. -/
def refOut (M : IVec S4x100000 1) (H : FVec Ideal S4x128x100000 .f32) : FVec Ideal S400000x128 .f32 :=
  shapeCast _ (select (broadcastInDim S4x100000x128 ![0, 1, 2] bcast_S4x100000x1_S4x100000x128_0_1_2 (broadcastInDim S4x100000x1 ![0, 1] bcast_S4x100000_S4x100000x1_0_1 M)) (transpose S4x100000x128 [0, 2, 1] H transposes_S4x128x100000_S4x100000x128_0_2_1) (broadcastInDim S4x100000x128 ![] bcast_S_S4x100000x128 (id (constant S_ .f32 0x00000000#32)))) shapeCasts_S4x100000x128_S400000x128

theorem refOut_ap (M : IVec S4x100000 1) (H : FVec Ideal S4x128x100000 .f32) (n : Fin 400000) (o : Fin 128) :
    refOut M H (ix2 n o) = Scalar.select (M (ix2 (⟨n.val / 100000, by omega⟩ : Fin 4) (⟨n.val % 100000, by omega⟩ : Fin 100000)))
      (H (ix3 (⟨n.val / 100000, by omega⟩ : Fin 4) o (⟨n.val % 100000, by omega⟩ : Fin 100000))) (Ideal.ofBits .f32 0x00000000#32) := by
  unfold refOut
  rw [id_eq]
  pointwise

/-- The reference's features. -/
theorem ref_feats (A : FVec Ideal S4x100000x4 .f32) (L : FVec Ideal S64x4 .f32) (b g e : FVec Ideal S64 .f32) (W : FVec Ideal S128x64 .f32) (b2 : FVec Ideal S128 .f32) (g2 e2 : FVec Ideal S128 .f32) (X : FVec Ideal S128x128 .f32) (b3 g3 e3 : FVec Ideal S128 .f32) (S : FVec Ideal S2x64 .f32) (T U : FVec Ideal S2x128 .f32) (h1 : Sound S g) (h2 : Sound T g2) (h3 : Sound U g3) :
    refOut (refMask A) (refNorm128 (refLin128 (refNorm128 (refLin64 (refNorm64 (refLay A L b) S g e) W b2) T g2 e2) X b3) U g3 e3) = feats A L b g e W b2 g2 e2 X b3 g3 e3 S T U := by
  funext j
  obtain ⟨n, o, rfl⟩ : ∃ n o, j = ix2 n o := ⟨j 0, j 1, by funext a; fin_cases a <;> rfl⟩
  have hn : 100000 * (n.val / 100000) + n.val % 100000 = n.val := Nat.div_add_mod ..
  rw [refOut_ap, refMask_ap, ref_val4 A L b g e W b2 g2 e2 X b3 g3 e3 S T U h1 h2 h3]
  simp only [hn]
  rfl

theorem algebraic : Cert.algebraic_FeaturesIdeal_FeaturesReferenceIdeal_pre_sound4 := fun m ρ m' ρ' hpre hag =>
  ⟨_, FeaturesIdeal.Value.run_blocks (F := Ideal) m ρ,
    (θ_run Cert.FeaturesReferenceIdeal.defs _ _).mono (fun r h c => by
      obtain ⟨h1, h2, h3, h4, h5, h6, h7, h8, h9, h10, h11, h12, h13, h14, h15, h16, h17⟩ := h c
      refine ⟨h1.trans ?_, h2, h3, h4, h5, h6, h7, h8, h9, h10, h11, h12, h13, h14, h15, h16, h17⟩
      unfold FeaturesReferenceIdeal.Value.res_main_v120
      rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2.1, (hag c).2.2.2.2.2.2.2.2.2.2.2.2.2.2.2]
      exact (ref_feats _ _ _ _ _ _ _ _ _ _ _ _ _ _ _ _ (sound4 _ _ _ _ _ _ _ _ _ _ _ _ _ _ _ _ (hpre c)).1 (sound4 _ _ _ _ _ _ _ _ _ _ _ _ _ _ _ _ (hpre c)).2.1 (sound4 _ _ _ _ _ _ _ _ _ _ _ _ _ _ _ _ (hpre c)).2.2).trans (feats_final m c).symm) (FeaturesReferenceIdeal.Value.run (F := Ideal) m' ρ')⟩

theorem frame : Cert.quiescent_Features := fun m ρ _ => Cert.Features.Gen.frame m ρ

theorem frame_ideal : Cert.quiescent_FeaturesIdeal := fun m ρ _ => Cert.FeaturesIdeal.Gen.frame m ρ

theorem frame_ideal_pre : Cert.quiescent_FeaturesIdeal_pre_sound4 := fun m ρ _ => Cert.FeaturesIdeal.Gen.frame m ρ

/-- The reference's frame; it has no semaphore. -/
theorem frame_ref : Cert.quiescent_FeaturesReferenceIdeal := fun m ρ _ =>
  (θ_run Cert.FeaturesReferenceIdeal.defs _ _).mono (fun r h => ⟨fun c => (h c).2, sem_eq_zero_of_no_sems (by decide) r.2⟩) (FeaturesReferenceIdeal.Value.run (F := Ideal) m ρ)

theorem frame_ref_pre : Cert.quiescent_FeaturesReferenceIdeal_pre_sound4 := fun m ρ _ => frame_ref m ρ trivial

end Cert.Proof.Feats
-- ==== Proof.Plain.lean ====
module

public import proofs.«01_k».proof.Proof.SecondRef
public import proofs.«01_k».proof.Proof.ThirdRef
public import proofs.«01_k».proof.Proof.FeatRef
public import proofs.«01_k».proof.Proof.Gen.Pre_linked4

@[expose] public section

set_option maxRecDepth 16384

noncomputable section

namespace Cert.Proof.Layers

open Idealize.ShloMosaic Cert.Pre_linked4 Cert.Pre_linked4.Gen
open Cert.Proof.Sums (stat refLay refLay_ap first coord sum_outer)

/-! ## Real values -/

/-- A value that is a real number. -/
def IsReal (x : EReal) : Prop := ∃ r : ℝ, x = (r : EReal)

theorem IsReal.add {x y : EReal} : IsReal x → IsReal y → IsReal (x + y) := by
  rintro ⟨r, rfl⟩ ⟨t, rfl⟩
  exact ⟨r + t, (EReal.coe_add r t).symm⟩

theorem IsReal.sub {x y : EReal} : IsReal x → IsReal y → IsReal (x - y) := by
  rintro ⟨r, rfl⟩ ⟨t, rfl⟩
  exact ⟨r - t, (EReal.coe_sub r t).symm⟩

theorem IsReal.mul {x y : EReal} : IsReal x → IsReal y → IsReal (x * y) := by
  rintro ⟨r, rfl⟩ ⟨t, rfl⟩
  exact ⟨r * t, (EReal.coe_mul r t).symm⟩

theorem IsReal.max {x y : EReal} (hx : IsReal x) (hy : IsReal y) : IsReal (Max.max x y) := by
  rcases max_choice x y with h | h <;> rw [h] <;> assumption

theorem coe_sum {ι : Type} (s : Finset ι) (r : ι → ℝ) : ∑ i ∈ s, (r i : EReal) = ((∑ i ∈ s, r i : ℝ) : EReal) := by
  classical
  induction s using Finset.induction_on with
  | empty => simp
  | insert a s h ih => rw [Finset.sum_insert h, Finset.sum_insert h, ih, EReal.coe_add]

theorem IsReal.sum {ι : Type} [Fintype ι] {f : ι → EReal} (h : ∀ i, IsReal (f i)) : IsReal (∑ i, f i) := by
  choose r hr using h
  exact ⟨∑ i, r i, (Finset.sum_congr rfl fun i _ => hr i).trans (coe_sum _ r)⟩

theorem mean_coe (r : ℝ) : mean (r : EReal) = ((r * (1 / 400000) : ℝ) : EReal) := by
  unfold mean
  rw [count_val, Ideal.div_coe (by norm_num), ← EReal.coe_mul]

theorem IsReal.mean {x : EReal} : IsReal x → IsReal (Layers.mean x) := by
  rintro ⟨r, rfl⟩
  exact ⟨_, mean_coe r⟩

theorem eps_pos : ∃ e : ℝ, 0 < e ∧ Ideal.ofBits .f32 0x3727C5AC#32 = (e : EReal) := by
  refine ⟨10995116 / 2 ^ 40, by norm_num, ?_⟩
  simp [Ideal.ofBits, Ideal.ieee, -EReal.coe_mul]
  norm_num

theorem zero_real : IsReal (Ideal.ofBits .f32 0x00000000#32) := ⟨0, by simp [Ideal.ofBits, Ideal.ieee]⟩

/-! ## The variance -/

/-- The squares of the deviations, summed. -/
theorem sum_dev {K n : ℕ} (r : Fin K → Fin n → ℝ) (m : ℝ) :
    ∑ a, ∑ q, (r a q - m) * (r a q - m) = (∑ a, ∑ q, r a q * r a q) - 2 * m * (∑ a, ∑ q, r a q) + K * n * (m * m) := by
  have h : ∀ a q, (r a q - m) * (r a q - m) = r a q * r a q - 2 * m * r a q + m * m := fun a q => by ring
  simp only [h, Finset.sum_add_distrib, Finset.sum_sub_distrib, ← Finset.mul_sum, Finset.sum_const, Finset.card_univ, Fintype.card_fin, nsmul_eq_mul]
  ring

/-- The mean of the squared deviations is the mean square less the square of the mean. -/
theorem var_eq (f : Fin 4 → Fin 100000 → EReal) (h : ∀ a q, IsReal (f a q)) :
    mean (∑ a, ∑ q, (f a q - mean (∑ a, ∑ q, f a q)) * (f a q - mean (∑ a, ∑ q, f a q)))
      = mean (∑ a, ∑ q, f a q * f a q) - mean (∑ a, ∑ q, f a q) * mean (∑ a, ∑ q, f a q) := by
  choose r hr using h
  obtain rfl : f = fun a q => (r a q : EReal) := by funext a q; exact hr a q
  simp only [coe_sum, mean_coe, ← EReal.coe_sub, ← EReal.coe_mul, sum_dev]
  congr 1
  push_cast
  ring

theorem var_nonneg (f : Fin 4 → Fin 100000 → EReal) (h : ∀ a q, IsReal (f a q)) (m : EReal) (hm : IsReal m) :
    ∃ r : ℝ, 0 ≤ r ∧ mean (∑ a, ∑ q, (f a q - m) * (f a q - m)) = (r : EReal) := by
  choose r hr using h
  obtain ⟨m, rfl⟩ := hm
  obtain rfl : f = fun a q => (r a q : EReal) := by funext a q; exact hr a q
  simp only [coe_sum, mean_coe, ← EReal.coe_sub, ← EReal.coe_mul]
  exact ⟨_, mul_nonneg (Finset.sum_nonneg fun a _ => Finset.sum_nonneg fun q _ => mul_self_nonneg _) (by norm_num), rfl⟩

/-- The spread of real values is a real number above zero. -/
theorem spread_real (f : Fin 4 → Fin 100000 → EReal) (h : ∀ a q, IsReal (f a q)) :
    ∃ r : ℝ, 0 < r ∧ spread (∑ a, ∑ q, f a q) (∑ a, ∑ q, f a q * f a q) = (r : EReal) := by
  obtain ⟨r, hr, he⟩ := var_nonneg f h _ (IsReal.sum fun a => IsReal.sum fun q => h a q).mean
  obtain ⟨e, hp, hq⟩ := eps_pos
  refine ⟨r + e, by linarith, ?_⟩
  unfold spread
  rw [← var_eq f h, he, hq, EReal.coe_add]

/-- The normalised value of a real value, from its channel's real mean and spread, is real. -/
theorem norm_real {x s q g e : EReal} (hx : IsReal x) (hs : IsReal s) (hv : ∃ r : ℝ, 0 < r ∧ spread s q = (r : EReal)) (hg : IsReal g) (he : IsReal e) :
    IsReal (norm x s q g e) := by
  obtain ⟨r, hr, hv⟩ := hv
  unfold norm
  rw [hv, Ideal.sqrt_coe, if_neg (not_lt.2 hr.le), Ideal.div_coe (Real.sqrt_pos.2 hr).ne']
  exact ((((hx.sub hs.mean).mul ⟨_, rfl⟩).mul hg).add he).max zero_real

theorem count_sub : Ideal.ofBits .f32 0x48C35000#32 - FloatOps.sitofp (F := Ideal) .f32 (0#32 : BitVec 32) = Ideal.ofBits .f32 0x48C35000#32 := by
  have h : FloatOps.sitofp (F := Ideal) .f32 (0#32 : BitVec 32) = (0 : EReal) := by
    show ((((0#32 : BitVec 32).toInt : ℤ) : ℝ) : EReal) = 0
    simp
  rw [h, sub_zero]

theorem count_pos : 0 < Ideal.ofBits .f32 0x48C35000#32 := by
  rw [count_val]
  exact_mod_cast (by norm_num : (0 : ℝ) < 400000)

/-! ## 64 channels -/

/-- The two rows of sums of a layer of 64 channels. -/
def stack64 (H : FVec Ideal S4x64x100000 .f32) : FVec Ideal S2x64 .f32 :=
  concatenate S2x64 0 [⟨S1x64, (broadcastInDim S1x64 ![1] bcast_S64_S1x64_1 (Host.reduceAdd H (constant S_ .f32 0x00000000#32) reducesTo_S4x64x100000_S64_d0_2 h_S_))⟩, ⟨S1x64, (broadcastInDim S1x64 ![1] bcast_S64_S1x64_1 (Host.reduceAdd (mulf H H) (constant S_ .f32 0x00000000#32) reducesTo_S4x64x100000_S64_d0_2 h_S_))⟩] concatenates_S1x64_S1x64_S2x64_d0

theorem stack64_ap (H : FVec Ideal S4x64x100000 .f32) (p : Fin 2) (o : Fin 64) : stack64 H (ix2 p o) = ∑ a : Fin 4, ∑ q : Fin 100000, stat p (H (ix3 a o q)) :=
  Sums.ref_stack H p o

/-- A channel's mean, of 64 channels. -/
def moment64 (H : FVec Ideal S4x64x100000 .f32) : FVec Ideal S1x64x1 .f32 :=
  Host.divf (broadcastInDim S1x64x1 ![1] bcast_S64_S1x64x1_1 (Host.reduceAdd H (constant S_ .f32 0x00000000#32) reducesTo_S4x64x100000_S64_d0_2 h_S_)) (broadcastInDim S1x64x1 ![] bcast_S_S1x64x1 (constant S_ .f32 0x48C35000#32))

/-- The values less their channel's mean. -/
def dev64 (H : FVec Ideal S4x64x100000 .f32) : FVec Ideal S4x64x100000 .f32 :=
  subf H (broadcastInDim S4x64x100000 ![0, 1, 2] bcast_S1x64x1_S4x64x100000_0_1_2 (moment64 H))

/-- The number of points, less the zero the variance takes off it. -/
def count64 : FVec Ideal S_ .f32 := subf (constant S_ .f32 0x48C35000#32) (sitofp .f32 (constantI S_ 32 0#32))

/-- The channels' variances. -/
def var64 (H : FVec Ideal S4x64x100000 .f32) : FVec Ideal S1x64x1 .f32 :=
  select (broadcastInDim S1x64x1 ![] bcast_S_S1x64x1 (cmpf .ogt count64 (constant S_ .f32 0x00000000#32)))
    (Host.divf (broadcastInDim S1x64x1 ![1] bcast_S64_S1x64x1_1 (Host.reduceAdd (mulf (dev64 H) (dev64 H)) (constant S_ .f32 0x00000000#32) reducesTo_S4x64x100000_S64_d0_2 h_S_)) (broadcastInDim S1x64x1 ![] bcast_S_S1x64x1 count64))
    (broadcastInDim S1x64x1 ![] bcast_S_S1x64x1 (id (constant S_ .f32 0x7FC00000#32)))

/-- The batch normalisation of 64 channels and the positive part, as written. -/
def plain64 (H : FVec Ideal S4x64x100000 .f32) (g e : FVec Ideal S64 .f32) : FVec Ideal S4x64x100000 .f32 :=
  maximumf (addf (mulf (Host.divf (dev64 H) (broadcastInDim S4x64x100000 ![0, 1, 2] bcast_S1x64x1_S4x64x100000_0_1_2 (Host.sqrt (addf (var64 H) (broadcastInDim S1x64x1 ![] bcast_S_S1x64x1 (constant S_ .f32 0x3727C5AC#32))))))
    (over64 g)) (over64 e)) (broadcastInDim S4x64x100000 ![] bcast_S_S4x64x100000 (constant S_ .f32 0x00000000#32))

theorem moment64_ap (H : FVec Ideal S4x64x100000 .f32) (o : Fin 64) : moment64 H (ix3 0 o 0) = mean (∑ a : Fin 4, ∑ q : Fin 100000, H (ix3 a o q)) := by
  unfold moment64 mean
  pointwise
  rw [sum_outer]

theorem dev64_ap (H : FVec Ideal S4x64x100000 .f32) (p : Fin 4) (o : Fin 64) (q : Fin 100000) :
    dev64 H (ix3 p o q) = H (ix3 p o q) - mean (∑ a : Fin 4, ∑ q : Fin 100000, H (ix3 a o q)) := by
  rw [← moment64_ap]
  unfold dev64
  generalize moment64 H = M
  pointwise

theorem count64_ap (i : S_.Idx) : count64 i = Ideal.ofBits .f32 0x48C35000#32 := count_sub

theorem var64_ap (H : FVec Ideal S4x64x100000 .f32) (o : Fin 64) :
    var64 H (ix3 0 o 0) = mean (∑ a : Fin 4, ∑ q : Fin 100000, dev64 H (ix3 a o q) * dev64 H (ix3 a o q)) := by
  have hc : count64 = fun _ => Ideal.ofBits .f32 0x48C35000#32 := funext count64_ap
  unfold var64
  rw [hc, id_eq]
  generalize dev64 H = D
  pointwise
  rw [sum_outer]
  rw [if_pos count_pos]
  rfl

theorem plain64_ap (H : FVec Ideal S4x64x100000 .f32) (g e : FVec Ideal S64 .f32) (p : Fin 4) (o : Fin 64) (q : Fin 100000) :
    plain64 H g e (ix3 p o q) = max (Ideal.div (dev64 H (ix3 p o q)) (Ideal.sqrt (var64 H (ix3 0 o 0) + Ideal.ofBits .f32 0x3727C5AC#32)) * g (ix1 o) + e (ix1 o)) (Ideal.ofBits .f32 0x00000000#32) := by
  unfold plain64 over64
  generalize dev64 H = D
  generalize var64 H = V
  pointwise

section

variable (H : FVec Ideal S4x64x100000 .f32) (h : ∀ p o q, IsReal (H (ix3 p o q)))

include h

/-- The batch normalisation as written is the one from the two rows of sums. -/
theorem plain64_eq (g e : FVec Ideal S64 .f32) : plain64 H g e = refNorm64 H (stack64 H) g e := by
  funext j
  obtain ⟨p, o, q, rfl⟩ : ∃ p o q, j = ix3 p o q := ⟨j 0, j 1, j 2, by funext a; fin_cases a <;> rfl⟩
  rw [plain64_ap, refNorm64_ap, var64_ap]
  simp only [dev64_ap]
  rw [var_eq (fun a q => H (ix3 a o q)) fun a q => h a o q, stack64_ap, stack64_ap]
  rfl

theorem stack64_spread (o : Fin 64) : ∃ r : ℝ, 0 < r ∧ spread (stack64 H (ix2 0 o)) (stack64 H (ix2 1 o)) = (r : EReal) := by
  rw [stack64_ap, stack64_ap]
  exact spread_real (fun a q => H (ix3 a o q)) fun a q => h a o q

theorem stack64_sound (g : FVec Ideal S64 .f32) (hg : ∀ i, IsReal (g i)) : Sound (stack64 H) g := fun o =>
  ⟨hg _, by
    obtain ⟨r, hr, hv⟩ := stack64_spread H h o
    rw [hv]
    exact_mod_cast hr⟩

theorem norm64_real (g e : FVec Ideal S64 .f32) (hg : ∀ i, IsReal (g i)) (he : ∀ i, IsReal (e i)) (p : Fin 4) (o : Fin 64) (q : Fin 100000) :
    IsReal (refNorm64 H (stack64 H) g e (ix3 p o q)) := by
  rw [refNorm64_ap]
  refine norm_real (h p o q) ?_ (stack64_spread H h o) (hg _) (he _)
  rw [stack64_ap]
  exact IsReal.sum fun a => IsReal.sum fun q => h a o q

end

/-! ## 128 channels -/

/-- The two rows of sums of a layer of 128 channels. -/
def stack128 (H : FVec Ideal S4x128x100000 .f32) : FVec Ideal S2x128 .f32 :=
  concatenate S2x128 0 [⟨S1x128, (broadcastInDim S1x128 ![1] bcast_S128_S1x128_1 (Host.reduceAdd H (constant S_ .f32 0x00000000#32) reducesTo_S4x128x100000_S128_d0_2 h_S_))⟩, ⟨S1x128, (broadcastInDim S1x128 ![1] bcast_S128_S1x128_1 (Host.reduceAdd (mulf H H) (constant S_ .f32 0x00000000#32) reducesTo_S4x128x100000_S128_d0_2 h_S_))⟩] concatenates_S1x128_S1x128_S2x128_d0

theorem stack128_ap (H : FVec Ideal S4x128x100000 .f32) (p : Fin 2) (o : Fin 128) : stack128 H (ix2 p o) = ∑ a : Fin 4, ∑ q : Fin 100000, stat p (H (ix3 a o q)) :=
  Seconds.ref_stack H p o

/-- A channel's mean, of 128 channels. -/
def moment128 (H : FVec Ideal S4x128x100000 .f32) : FVec Ideal S1x128x1 .f32 :=
  Host.divf (broadcastInDim S1x128x1 ![1] bcast_S128_S1x128x1_1 (Host.reduceAdd H (constant S_ .f32 0x00000000#32) reducesTo_S4x128x100000_S128_d0_2 h_S_)) (broadcastInDim S1x128x1 ![] bcast_S_S1x128x1 (constant S_ .f32 0x48C35000#32))

/-- The values less their channel's mean. -/
def dev128 (H : FVec Ideal S4x128x100000 .f32) : FVec Ideal S4x128x100000 .f32 :=
  subf H (broadcastInDim S4x128x100000 ![0, 1, 2] bcast_S1x128x1_S4x128x100000_0_1_2 (moment128 H))

/-- The number of points, less the zero the variance takes off it. -/
def count128 : FVec Ideal S_ .f32 := subf (constant S_ .f32 0x48C35000#32) (sitofp .f32 (constantI S_ 32 0#32))

/-- The channels' variances. -/
def var128 (H : FVec Ideal S4x128x100000 .f32) : FVec Ideal S1x128x1 .f32 :=
  select (broadcastInDim S1x128x1 ![] bcast_S_S1x128x1 (cmpf .ogt count128 (constant S_ .f32 0x00000000#32)))
    (Host.divf (broadcastInDim S1x128x1 ![1] bcast_S128_S1x128x1_1 (Host.reduceAdd (mulf (dev128 H) (dev128 H)) (constant S_ .f32 0x00000000#32) reducesTo_S4x128x100000_S128_d0_2 h_S_)) (broadcastInDim S1x128x1 ![] bcast_S_S1x128x1 count128))
    (broadcastInDim S1x128x1 ![] bcast_S_S1x128x1 (id (constant S_ .f32 0x7FC00000#32)))

/-- The batch normalisation of 128 channels and the positive part, as written. -/
def plain128 (H : FVec Ideal S4x128x100000 .f32) (g e : FVec Ideal S128 .f32) : FVec Ideal S4x128x100000 .f32 :=
  maximumf (addf (mulf (Host.divf (dev128 H) (broadcastInDim S4x128x100000 ![0, 1, 2] bcast_S1x128x1_S4x128x100000_0_1_2 (Host.sqrt (addf (var128 H) (broadcastInDim S1x128x1 ![] bcast_S_S1x128x1 (constant S_ .f32 0x3727C5AC#32))))))
    (over128 g)) (over128 e)) (broadcastInDim S4x128x100000 ![] bcast_S_S4x128x100000 (constant S_ .f32 0x00000000#32))

theorem moment128_ap (H : FVec Ideal S4x128x100000 .f32) (o : Fin 128) : moment128 H (ix3 0 o 0) = mean (∑ a : Fin 4, ∑ q : Fin 100000, H (ix3 a o q)) := by
  unfold moment128 mean
  pointwise
  rw [sum_outer128]

theorem dev128_ap (H : FVec Ideal S4x128x100000 .f32) (p : Fin 4) (o : Fin 128) (q : Fin 100000) :
    dev128 H (ix3 p o q) = H (ix3 p o q) - mean (∑ a : Fin 4, ∑ q : Fin 100000, H (ix3 a o q)) := by
  rw [← moment128_ap]
  unfold dev128
  generalize moment128 H = M
  pointwise

theorem count128_ap (i : S_.Idx) : count128 i = Ideal.ofBits .f32 0x48C35000#32 := count_sub

theorem var128_ap (H : FVec Ideal S4x128x100000 .f32) (o : Fin 128) :
    var128 H (ix3 0 o 0) = mean (∑ a : Fin 4, ∑ q : Fin 100000, dev128 H (ix3 a o q) * dev128 H (ix3 a o q)) := by
  have hc : count128 = fun _ => Ideal.ofBits .f32 0x48C35000#32 := funext count128_ap
  unfold var128
  rw [hc, id_eq]
  generalize dev128 H = D
  pointwise
  rw [sum_outer128]
  rw [if_pos count_pos]
  rfl

theorem plain128_ap (H : FVec Ideal S4x128x100000 .f32) (g e : FVec Ideal S128 .f32) (p : Fin 4) (o : Fin 128) (q : Fin 100000) :
    plain128 H g e (ix3 p o q) = max (Ideal.div (dev128 H (ix3 p o q)) (Ideal.sqrt (var128 H (ix3 0 o 0) + Ideal.ofBits .f32 0x3727C5AC#32)) * g (ix1 o) + e (ix1 o)) (Ideal.ofBits .f32 0x00000000#32) := by
  unfold plain128 over128
  generalize dev128 H = D
  generalize var128 H = V
  pointwise

section

variable (H : FVec Ideal S4x128x100000 .f32) (h : ∀ p o q, IsReal (H (ix3 p o q)))

include h

/-- The batch normalisation as written is the one from the two rows of sums. -/
theorem plain128_eq (g e : FVec Ideal S128 .f32) : plain128 H g e = refNorm128 H (stack128 H) g e := by
  funext j
  obtain ⟨p, o, q, rfl⟩ : ∃ p o q, j = ix3 p o q := ⟨j 0, j 1, j 2, by funext a; fin_cases a <;> rfl⟩
  rw [plain128_ap, refNorm128_ap, var128_ap]
  simp only [dev128_ap]
  rw [var_eq (fun a q => H (ix3 a o q)) fun a q => h a o q, stack128_ap, stack128_ap]
  rfl

theorem stack128_spread (o : Fin 128) : ∃ r : ℝ, 0 < r ∧ spread (stack128 H (ix2 0 o)) (stack128 H (ix2 1 o)) = (r : EReal) := by
  rw [stack128_ap, stack128_ap]
  exact spread_real (fun a q => H (ix3 a o q)) fun a q => h a o q

theorem stack128_sound (g : FVec Ideal S128 .f32) (hg : ∀ i, IsReal (g i)) : Sound (stack128 H) g := fun o =>
  ⟨hg _, by
    obtain ⟨r, hr, hv⟩ := stack128_spread H h o
    rw [hv]
    exact_mod_cast hr⟩

theorem norm128_real (g e : FVec Ideal S128 .f32) (hg : ∀ i, IsReal (g i)) (he : ∀ i, IsReal (e i)) (p : Fin 4) (o : Fin 128) (q : Fin 100000) :
    IsReal (refNorm128 H (stack128 H) g e (ix3 p o q)) := by
  rw [refNorm128_ap]
  refine norm_real (h p o q) ?_ (stack128_spread H h o) (hg _) (he _)
  rw [stack128_ap]
  exact IsReal.sum fun a => IsReal.sum fun q => h a o q

end

theorem refLay_real (A : FVec Ideal S4x100000x4 .f32) (L : FVec Ideal S64x4 .f32) (b : FVec Ideal S64 .f32) (hA : ∀ i, IsReal (A i)) (hL : ∀ i, IsReal (L i)) (hb : ∀ i, IsReal (b i))
    (p : Fin 4) (o : Fin 64) (q : Fin 100000) : IsReal (refLay A L b (ix3 p o q)) := by
  rw [refLay_ap]
  unfold first coord
  exact ((((hb _).add ((hA _).mul (hL _))).add ((hA _).mul (hL _))).add ((hA _).mul (hL _))).add ((hA _).mul (hL _))

theorem refLin64_real (H : FVec Ideal S4x64x100000 .f32) (W : FVec Ideal S128x64 .f32) (b : FVec Ideal S128 .f32) (h : ∀ p o q, IsReal (H (ix3 p o q))) (hW : ∀ i, IsReal (W i)) (hb : ∀ i, IsReal (b i))
    (p : Fin 4) (o : Fin 128) (q : Fin 100000) : IsReal (refLin64 H W b (ix3 p o q)) := by
  rw [refLin64_ap]
  exact (IsReal.sum fun c => (h p c q).mul (hW _)).add (hb _)

theorem refLin128_real (H : FVec Ideal S4x128x100000 .f32) (W : FVec Ideal S128x128 .f32) (b : FVec Ideal S128 .f32) (h : ∀ p o q, IsReal (H (ix3 p o q))) (hW : ∀ i, IsReal (W i)) (hb : ∀ i, IsReal (b i))
    (p : Fin 4) (o : Fin 128) (q : Fin 100000) : IsReal (refLin128 H W b (ix3 p o q)) := by
  rw [refLin128_ap]
  exact (IsReal.sum fun c => (h p c q).mul (hW _)).add (hb _)

end Cert.Proof.Layers
-- ==== Proof.Linked.lean ====
module

public import proofs.«01_k».proof.Proof.Plain
public import proofs.«01_k».proof.Proof.Gen.Pre_linked2
public import proofs.«01_k».proof.Proof.Gen.Pre_linked3

@[expose] public section

set_option maxRecDepth 16384

noncomputable section

namespace Cert.Proof.Layers

open Idealize.ShloMosaic Cert.Pre_linked4 Cert.Pre_linked4.Gen
open Cert.Proof.Sums (refLay)

/-- All of a vector's tests hold. -/
def allOf {s : Shape} {d : List (Fin s.rank)} (h : s.ReducesTo d S_) (v : IVec s 1) : BitVec 1 := Host.reduce IntOp.andi v (constantI S_ 1 1#1) h h_S_ (Shape.Idx.first h_S_)

/-- The test for finite values. -/
def finV {s : Shape} (h : S_.BroadcastsInDim s (![] : Fin 0 → Fin s.rank)) (x : FVec Ideal s .f32) : IVec s 1 :=
  cmpf .olt (Host.absf x) (broadcastInDim s ![] h (constant S_ .f32 0x7F800000#32))

theorem real_of_all {s : Shape} {d : List (Fin s.rank)} (h : s.ReducesTo d S_) (hb : S_.BroadcastsInDim s (![] : Fin 0 → Fin s.rank)) (x : FVec Ideal s .f32)
    (e : allOf h (finV hb x) = 1#1) (i : s.Idx) : IsReal (x i) := by
  have hs : Subsingleton S_.Idx := ⟨fun a b => funext fun i => i.elim0⟩
  exact real_of_test (x i) (Host.reduce_andi_all _ _ _ _ _ e i)

theorem eq_of_all {s : Shape} {d : List (Fin s.rank)} (h : s.ReducesTo d S_) (x y : FVec Ideal s .f32) (e : allOf h (cmpf .oeq x y) = 1#1) : x = y := by
  have hs : Subsingleton S_.Idx := ⟨fun a b => funext fun i => i.elim0⟩
  funext i
  have ht : BitVec.ofBool (decide (x i = y i)) = 1#1 := Host.reduce_andi_all _ _ _ _ _ e i
  by_contra hn
  rw [decide_eq_false hn] at ht
  exact absurd ht (by decide)

variable (A : FVec Ideal S4x100000x4 .f32) (L : FVec Ideal S64x4 .f32) (b g e : FVec Ideal S64 .f32) (W : FVec Ideal S128x64 .f32) (b2 g2 e2 : FVec Ideal S128 .f32)
  (X : FVec Ideal S128x128 .f32) (b3 g3 e3 : FVec Ideal S128 .f32) (S : FVec Ideal S2x64 .f32) (T U : FVec Ideal S2x128 .f32)

/-- The second layer, its input normalised as written. -/
def plain2 : FVec Ideal S4x128x100000 .f32 := refLin64 (plain64 (refLay A L b) g e) W b2

/-- The third layer, its inputs normalised as written. -/
def plain3 : FVec Ideal S4x128x100000 .f32 := refLin128 (plain128 (plain2 A L b g e W b2) g2 e2) X b3

/-- The first precondition: real values, and the sums those of the first layer. -/
def link2 : BitVec 1 :=
  IntOp.andi (IntOp.andi (IntOp.andi (IntOp.andi (allOf reducesTo_S4x100000x4_S_d0_1_2 (finV bcast_S_S4x100000x4 A)) (allOf reducesTo_S64x4_S_d0_1 (finV bcast_S_S64x4 L)))
    (allOf reducesTo_S64_S_d0 (finV bcast_S_S64 b))) (allOf reducesTo_S64_S_d0 (finV bcast_S_S64 g))) (allOf reducesTo_S2x64_S_d0_1 (cmpf .oeq S (stack64 (refLay A L b))))

/-- The second precondition: more real values, and the sums those of the second layer. -/
def link3 : BitVec 1 :=
  IntOp.andi (IntOp.andi (link2 A L b g S) (IntOp.andi (IntOp.andi (IntOp.andi (allOf reducesTo_S64_S_d0 (finV bcast_S_S64 e)) (allOf reducesTo_S128x64_S_d0_1 (finV bcast_S_S128x64 W)))
    (allOf reducesTo_S128_S_d0 (finV bcast_S_S128 b2))) (allOf reducesTo_S128_S_d0 (finV bcast_S_S128 g2)))) (allOf reducesTo_S2x128_S_d0_1 (cmpf .oeq T (stack128 (plain2 A L b g e W b2))))

/-- The third precondition: more real values, and the sums those of the third layer. -/
def link4 : BitVec 1 :=
  IntOp.andi (IntOp.andi (link3 A L b g e W b2 g2 S T) (IntOp.andi (IntOp.andi (IntOp.andi (allOf reducesTo_S128_S_d0 (finV bcast_S_S128 e2)) (allOf reducesTo_S128x128_S_d0_1 (finV bcast_S_S128x128 X)))
    (allOf reducesTo_S128_S_d0 (finV bcast_S_S128 b3))) (allOf reducesTo_S128_S_d0 (finV bcast_S_S128 g3)))) (allOf reducesTo_S2x128_S_d0_1 (cmpf .oeq U (stack128 (plain3 A L b g e W b2 g2 e2 X b3))))

theorem fn_link2 : Cert.Pre_linked2.fn (F := Ideal) A L b g e W b2 S (Shape.Idx.first h_S_) = link2 A L b g S := rfl

theorem fn_link3 : Cert.Pre_linked3.fn (F := Ideal) A L b g e W b2 g2 e2 X b3 S T (Shape.Idx.first h_S_) = link3 A L b g e W b2 g2 S T := rfl

theorem fn_link4 : Cert.Pre_linked4.fn (F := Ideal) A L b g e W b2 g2 e2 X b3 g3 e3 S T U (Shape.Idx.first h_S_) = link4 A L b g e W b2 g2 e2 X b3 g3 S T U := rfl

theorem link2_true (h : link2 A L b g S = 1#1) : (∀ i, IsReal (g i)) ∧ (∀ p o q, IsReal (refLay A L b (ix3 p o q))) ∧ S = stack64 (refLay A L b) := by
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨real_of_all _ _ g h4, refLay_real A L b (real_of_all _ _ A h1) (real_of_all _ _ L h2) (real_of_all _ _ b h3), eq_of_all _ _ _ h5⟩

theorem plain2_eq (h : link2 A L b g S = 1#1) : plain2 A L b g e W b2 = refLin64 (refNorm64 (refLay A L b) S g e) W b2 := by
  obtain ⟨_, hH, hS⟩ := link2_true A L b g S h
  unfold plain2
  rw [plain64_eq _ hH, hS]

theorem link2_sound (h : link2 A L b g S = 1#1) : Sound S g := by
  obtain ⟨hg, hH, hS⟩ := link2_true A L b g S h
  rw [hS]
  exact stack64_sound _ hH g hg

theorem link3_true (h : link3 A L b g e W b2 g2 S T = 1#1) :
    link2 A L b g S = 1#1 ∧ (∀ i, IsReal (g2 i)) ∧ (∀ p o q, IsReal (plain2 A L b g e W b2 (ix3 p o q))) ∧ T = stack128 (plain2 A L b g e W b2) := by
  obtain ⟨h, h3⟩ := IntOp.andi_eq_one.1 h
  obtain ⟨h1, h⟩ := IntOp.andi_eq_one.1 h
  obtain ⟨h, h7⟩ := IntOp.andi_eq_one.1 h
  obtain ⟨h, h6⟩ := IntOp.andi_eq_one.1 h
  obtain ⟨h4, h5⟩ := IntOp.andi_eq_one.1 h
  obtain ⟨hg, hH, hS⟩ := link2_true A L b g S h1
  refine ⟨h1, real_of_all _ _ g2 h7, ?_, eq_of_all _ _ _ h3⟩
  rw [plain2_eq A L b g e W b2 S h1, hS]
  exact refLin64_real _ W b2 (norm64_real _ hH g e hg (real_of_all _ _ e h4)) (real_of_all _ _ W h5) (real_of_all _ _ b2 h6)

theorem plain3_eq (h : link3 A L b g e W b2 g2 S T = 1#1) :
    plain3 A L b g e W b2 g2 e2 X b3 = refLin128 (refNorm128 (refLin64 (refNorm64 (refLay A L b) S g e) W b2) T g2 e2) X b3 := by
  obtain ⟨h1, _, hH, hT⟩ := link3_true A L b g e W b2 g2 S T h
  unfold plain3
  rw [plain128_eq _ hH, ← hT, plain2_eq A L b g e W b2 S h1]

theorem link3_sound (h : link3 A L b g e W b2 g2 S T = 1#1) : Sound S g ∧ Sound T g2 := by
  obtain ⟨h1, hg, hH, hT⟩ := link3_true A L b g e W b2 g2 S T h
  refine ⟨link2_sound A L b g S h1, ?_⟩
  rw [hT]
  exact stack128_sound _ hH g2 hg

theorem link4_true (h : link4 A L b g e W b2 g2 e2 X b3 g3 S T U = 1#1) :
    link3 A L b g e W b2 g2 S T = 1#1 ∧ (∀ i, IsReal (g3 i)) ∧ (∀ p o q, IsReal (plain3 A L b g e W b2 g2 e2 X b3 (ix3 p o q))) ∧ U = stack128 (plain3 A L b g e W b2 g2 e2 X b3) := by
  obtain ⟨h, h3⟩ := IntOp.andi_eq_one.1 h
  obtain ⟨h1, h⟩ := IntOp.andi_eq_one.1 h
  obtain ⟨h, h7⟩ := IntOp.andi_eq_one.1 h
  obtain ⟨h, h6⟩ := IntOp.andi_eq_one.1 h
  obtain ⟨h4, h5⟩ := IntOp.andi_eq_one.1 h
  obtain ⟨_, hg, hH, hT⟩ := link3_true A L b g e W b2 g2 S T h1
  refine ⟨h1, real_of_all _ _ g3 h7, ?_, eq_of_all _ _ _ h3⟩
  unfold plain3
  rw [plain128_eq _ hH]
  exact refLin128_real _ X b3 (norm128_real _ hH g2 e2 hg (real_of_all _ _ e2 h4)) (real_of_all _ _ X h5) (real_of_all _ _ b3 h6)

/-- The features, the last layer normalised as written. -/
theorem plain4_eq (h : link4 A L b g e W b2 g2 e2 X b3 g3 S T U = 1#1) :
    plain128 (plain3 A L b g e W b2 g2 e2 X b3) g3 e3
      = refNorm128 (refLin128 (refNorm128 (refLin64 (refNorm64 (refLay A L b) S g e) W b2) T g2 e2) X b3) U g3 e3 := by
  obtain ⟨h1, _, hH, hU⟩ := link4_true A L b g e W b2 g2 e2 X b3 g3 S T U h
  rw [plain128_eq _ hH, ← hU, plain3_eq A L b g e W b2 g2 e2 X b3 S T h1]

theorem link4_sound (h : link4 A L b g e W b2 g2 e2 X b3 g3 S T U = 1#1) : Sound S g ∧ Sound T g2 ∧ Sound U g3 := by
  obtain ⟨h1, hg, hH, hU⟩ := link4_true A L b g e W b2 g2 e2 X b3 g3 S T U h
  obtain ⟨s1, s2⟩ := link3_sound A L b g e W b2 g2 S T h1
  refine ⟨s1, s2, ?_⟩
  rw [hU]
  exact stack128_sound _ hH g3 hg

end Cert.Proof.Layers
-- ==== Proof.SecondPlain.lean ====
module

public import proofs.«01_k».proof.Proof.Linked
public import proofs.«01_k».proof.Proof.Gen.SecondPlainIdeal.Run

@[expose] public section

set_option maxRecDepth 16384

noncomputable section

namespace Cert.Proof.Seconds

open Idealize.ShloMosaic Idealize.ShloMosaic.TcCoe Idealize.SL.Sem
open Cert.Proof.Layers

/-- The reference's term. -/
theorem plain_res (m' : (ℓ : Loc SecondPlainIdeal.nD SecondPlainIdeal.τ SecondPlainIdeal.sig) → Buf (Elt Ideal) ℓ) (c : Dev SecondPlainIdeal.nD) :
    SecondPlainIdeal.Value.res_main_v35 m' c = stack128 (plain2 (m' ((c.tc : Thread Cert.SecondPlainIdeal.nD Cert.SecondPlainIdeal.τ).loc Cert.SecondPlainIdeal.main_arg0)) (m' ((c.tc : Thread Cert.SecondPlainIdeal.nD Cert.SecondPlainIdeal.τ).loc Cert.SecondPlainIdeal.main_arg1)) (m' ((c.tc : Thread Cert.SecondPlainIdeal.nD Cert.SecondPlainIdeal.τ).loc Cert.SecondPlainIdeal.main_arg2)) (m' ((c.tc : Thread Cert.SecondPlainIdeal.nD Cert.SecondPlainIdeal.τ).loc Cert.SecondPlainIdeal.main_arg3)) (m' ((c.tc : Thread Cert.SecondPlainIdeal.nD Cert.SecondPlainIdeal.τ).loc Cert.SecondPlainIdeal.main_arg4)) (m' ((c.tc : Thread Cert.SecondPlainIdeal.nD Cert.SecondPlainIdeal.τ).loc Cert.SecondPlainIdeal.main_arg5)) (m' ((c.tc : Thread Cert.SecondPlainIdeal.nD Cert.SecondPlainIdeal.τ).loc Cert.SecondPlainIdeal.main_arg6))) := rfl

theorem plain_algebraic : Cert.algebraic_SecondIdeal_SecondPlainIdeal_pre_linked2 := fun m ρ m' ρ' hpre hag =>
  ⟨_, SecondIdeal.Value.run_blocks (F := Ideal) m ρ,
    (θ_run Cert.SecondPlainIdeal.defs _ _).mono (fun r h c => by
      obtain ⟨h1, h2, h3, h4, h5, h6, h7, h8, h9⟩ := h c
      refine ⟨h1.trans ?_, h2, h3, h4, h5, h6, h7, h8, h9⟩
      rw [plain_res, (hag c).1, (hag c).2.1, (hag c).2.2.1, (hag c).2.2.2.1, (hag c).2.2.2.2.1, (hag c).2.2.2.2.2.1, (hag c).2.2.2.2.2.2.1]
      have hl := (fn_link2 _ _ _ _ _ _ _ _).symm.trans (congrFun (hpre c) _)
      rw [plain2_eq _ _ _ _ _ _ _ _ hl]
      exact (ref_sums _ _ _ _ _ _ _ _ (link2_sound _ _ _ _ _ hl)).trans (sums_final m c).symm) (SecondPlainIdeal.Value.run (F := Ideal) m' ρ')⟩

theorem frame_ideal_linked : Cert.quiescent_SecondIdeal_pre_linked2 := fun m ρ _ => Cert.SecondIdeal.Gen.frame m ρ

/-- The frame of the reference as written; it has no semaphore. -/
theorem frame_plain : Cert.quiescent_SecondPlainIdeal := fun m ρ _ =>
  (θ_run Cert.SecondPlainIdeal.defs _ _).mono (fun r h => ⟨fun c => (h c).2, sem_eq_zero_of_no_sems (by decide) r.2⟩) (SecondPlainIdeal.Value.run (F := Ideal) m ρ)

theorem frame_plain_pre : Cert.quiescent_SecondPlainIdeal_pre_linked2 := fun m ρ _ => frame_plain m ρ trivial

end Cert.Proof.Seconds
-- ==== Proof.ThirdPlain.lean ====
module

public import proofs.«01_k».proof.Proof.Linked
public import proofs.«01_k».proof.Proof.Gen.ThirdPlainIdeal.Run

@[expose] public section

set_option maxRecDepth 16384

noncomputable section

namespace Cert.Proof.Thirds

open Idealize.ShloMosaic Idealize.ShloMosaic.TcCoe Idealize.SL.Sem
open Cert.Proof.Layers

/-- The reference's third layer. -/
theorem plain_res (m' : (ℓ : Loc ThirdPlainIdeal.nD ThirdPlainIdeal.τ ThirdPlainIdeal.sig) → Buf (Elt Ideal) ℓ) (c : Dev ThirdPlainIdeal.nD) :
    ThirdPlainIdeal.Value.res_main_v53 (StableHlo.launchContents m' c) = plain3 (m' ((c.tc : Thread Cert.ThirdPlainIdeal.nD Cert.ThirdPlainIdeal.τ).loc Cert.ThirdPlainIdeal.main_arg0)) (m' ((c.tc : Thread Cert.ThirdPlainIdeal.nD Cert.ThirdPlainIdeal.τ).loc Cert.ThirdPlainIdeal.main_arg1)) (m' ((c.tc : Thread Cert.ThirdPlainIdeal.nD Cert.ThirdPlainIdeal.τ).loc Cert.ThirdPlainIdeal.main_arg2)) (m' ((c.tc : Thread Cert.ThirdPlainIdeal.nD Cert.ThirdPlainIdeal.τ).loc Cert.ThirdPlainIdeal.main_arg3)) (m' ((c.tc : Thread Cert.ThirdPlainIdeal.nD Cert.ThirdPlainIdeal.τ).loc Cert.ThirdPlainIdeal.main_arg4)) (m' ((c.tc : Thread Cert.ThirdPlainIdeal.nD Cert.ThirdPlainIdeal.τ).loc Cert.ThirdPlainIdeal.main_arg5)) (m' ((c.tc : Thread Cert.ThirdPlainIdeal.nD Cert.ThirdPlainIdeal.τ).loc Cert.ThirdPlainIdeal.main_arg6)) (m' ((c.tc : Thread Cert.ThirdPlainIdeal.nD Cert.ThirdPlainIdeal.τ).loc Cert.ThirdPlainIdeal.main_arg7)) (m' ((c.tc : Thread Cert.ThirdPlainIdeal.nD Cert.ThirdPlainIdeal.τ).loc Cert.ThirdPlainIdeal.main_arg8)) (m' ((c.tc : Thread Cert.ThirdPlainIdeal.nD Cert.ThirdPlainIdeal.τ).loc Cert.ThirdPlainIdeal.main_arg9)) (m' ((c.tc : Thread Cert.ThirdPlainIdeal.nD Cert.ThirdPlainIdeal.τ).loc Cert.ThirdPlainIdeal.main_arg10)) := rfl

theorem plain_algebraic : Cert.algebraic_ThirdIdeal_ThirdPlainIdeal_pre_linked3 := fun m ρ m' ρ' hpre hag =>
  ⟨_, ThirdIdeal.Value.run_blocks (F := Ideal) m ρ,
    (θ_run Cert.ThirdPlainIdeal.defs _ _).mono (fun r h c => by
      obtain ⟨h1, h2, h3, h4, h5, h6, h7, h8, h9, h10, h11, h12, h13, h14⟩ := h c
      refine ⟨h1.trans ?_, h2, h3, h4, h5, h6, h7, h8, h9, h10, h11, h12, h13, h14⟩
      rw [plain_res, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1]
      have hl := (fn_link3 _ _ _ _ _ _ _ _ _ _ _ _ _).symm.trans (congrFun (hpre c) _)
      rw [plain3_eq _ _ _ _ _ _ _ _ _ _ _ _ _ hl]
      exact (ref_sums _ _ _ _ _ _ _ _ _ _ _ _ _ (link3_sound _ _ _ _ _ _ _ _ _ _ hl).1 (link3_sound _ _ _ _ _ _ _ _ _ _ hl).2).trans (sums_final m c).symm) (ThirdPlainIdeal.Value.run (F := Ideal) m' ρ')⟩

theorem frame_ideal_linked : Cert.quiescent_ThirdIdeal_pre_linked3 := fun m ρ _ => Cert.ThirdIdeal.Gen.frame m ρ

/-- The frame of the reference as written; it has no semaphore. -/
theorem frame_plain : Cert.quiescent_ThirdPlainIdeal := fun m ρ _ =>
  (θ_run Cert.ThirdPlainIdeal.defs _ _).mono (fun r h => ⟨fun c => (h c).2, sem_eq_zero_of_no_sems (by decide) r.2⟩) (ThirdPlainIdeal.Value.run (F := Ideal) m ρ)

theorem frame_plain_pre : Cert.quiescent_ThirdPlainIdeal_pre_linked3 := fun m ρ _ => frame_plain m ρ trivial

end Cert.Proof.Thirds
-- ==== Proof.FeatPlain.lean ====
module

public import proofs.«01_k».proof.Proof.Linked
public import proofs.«01_k».proof.Proof.Gen.FeaturesPlainIdeal.Run

@[expose] public section

set_option maxRecDepth 16384

noncomputable section

namespace Cert.Proof.Feats

open Idealize.ShloMosaic Idealize.ShloMosaic.TcCoe Idealize.SL.Sem
open Cert.Proof.Layers

/-- The reference's third layer. -/
theorem plain_res (m' : (ℓ : Loc FeaturesPlainIdeal.nD FeaturesPlainIdeal.τ FeaturesPlainIdeal.sig) → Buf (Elt Ideal) ℓ) (c : Dev FeaturesPlainIdeal.nD) :
    FeaturesPlainIdeal.Value.res_main_v76 (StableHlo.launchContents m' c) = plain3 (m' ((c.tc : Thread Cert.FeaturesPlainIdeal.nD Cert.FeaturesPlainIdeal.τ).loc Cert.FeaturesPlainIdeal.main_arg0)) (m' ((c.tc : Thread Cert.FeaturesPlainIdeal.nD Cert.FeaturesPlainIdeal.τ).loc Cert.FeaturesPlainIdeal.main_arg1)) (m' ((c.tc : Thread Cert.FeaturesPlainIdeal.nD Cert.FeaturesPlainIdeal.τ).loc Cert.FeaturesPlainIdeal.main_arg2)) (m' ((c.tc : Thread Cert.FeaturesPlainIdeal.nD Cert.FeaturesPlainIdeal.τ).loc Cert.FeaturesPlainIdeal.main_arg3)) (m' ((c.tc : Thread Cert.FeaturesPlainIdeal.nD Cert.FeaturesPlainIdeal.τ).loc Cert.FeaturesPlainIdeal.main_arg4)) (m' ((c.tc : Thread Cert.FeaturesPlainIdeal.nD Cert.FeaturesPlainIdeal.τ).loc Cert.FeaturesPlainIdeal.main_arg5)) (m' ((c.tc : Thread Cert.FeaturesPlainIdeal.nD Cert.FeaturesPlainIdeal.τ).loc Cert.FeaturesPlainIdeal.main_arg6)) (m' ((c.tc : Thread Cert.FeaturesPlainIdeal.nD Cert.FeaturesPlainIdeal.τ).loc Cert.FeaturesPlainIdeal.main_arg7)) (m' ((c.tc : Thread Cert.FeaturesPlainIdeal.nD Cert.FeaturesPlainIdeal.τ).loc Cert.FeaturesPlainIdeal.main_arg8)) (m' ((c.tc : Thread Cert.FeaturesPlainIdeal.nD Cert.FeaturesPlainIdeal.τ).loc Cert.FeaturesPlainIdeal.main_arg9)) (m' ((c.tc : Thread Cert.FeaturesPlainIdeal.nD Cert.FeaturesPlainIdeal.τ).loc Cert.FeaturesPlainIdeal.main_arg10)) := rfl

theorem plain_algebraic : Cert.algebraic_FeaturesIdeal_FeaturesPlainIdeal_pre_linked4 := fun m ρ m' ρ' hpre hag =>
  ⟨_, FeaturesIdeal.Value.run_blocks (F := Ideal) m ρ,
    (θ_run Cert.FeaturesPlainIdeal.defs _ _).mono (fun r h c => by
      obtain ⟨h1, h2, h3, h4, h5, h6, h7, h8, h9, h10, h11, h12, h13, h14, h15, h16, h17⟩ := h c
      refine ⟨h1.trans ?_, h2, h3, h4, h5, h6, h7, h8, h9, h10, h11, h12, h13, h14, h15, h16, h17⟩
      refine Eq.trans (b := refOut (refMask (m' ((c.tc : Thread Cert.FeaturesPlainIdeal.nD Cert.FeaturesPlainIdeal.τ).loc Cert.FeaturesPlainIdeal.main_arg0))) (plain128 (FeaturesPlainIdeal.Value.res_main_v76 (StableHlo.launchContents m' c)) (m' ((c.tc : Thread Cert.FeaturesPlainIdeal.nD Cert.FeaturesPlainIdeal.τ).loc Cert.FeaturesPlainIdeal.main_arg11)) (m' ((c.tc : Thread Cert.FeaturesPlainIdeal.nD Cert.FeaturesPlainIdeal.τ).loc Cert.FeaturesPlainIdeal.main_arg12)))) rfl ?_
      rw [plain_res, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1]
      have hl := (fn_link4 _ _ _ _ _ _ _ _ _ _ _ _ _ _ _ _).symm.trans (congrFun (hpre c) _)
      rw [plain4_eq _ _ _ _ _ _ _ _ _ _ _ _ _ _ _ _ hl]
      exact (ref_feats _ _ _ _ _ _ _ _ _ _ _ _ _ _ _ _ (link4_sound _ _ _ _ _ _ _ _ _ _ _ _ _ _ _ hl).1 (link4_sound _ _ _ _ _ _ _ _ _ _ _ _ _ _ _ hl).2.1 (link4_sound _ _ _ _ _ _ _ _ _ _ _ _ _ _ _ hl).2.2).trans (feats_final m c).symm) (FeaturesPlainIdeal.Value.run (F := Ideal) m' ρ')⟩

theorem frame_ideal_linked : Cert.quiescent_FeaturesIdeal_pre_linked4 := fun m ρ _ => Cert.FeaturesIdeal.Gen.frame m ρ

/-- The frame of the reference as written; it has no semaphore. -/
theorem frame_plain : Cert.quiescent_FeaturesPlainIdeal := fun m ρ _ =>
  (θ_run Cert.FeaturesPlainIdeal.defs _ _).mono (fun r h => ⟨fun c => (h c).2, sem_eq_zero_of_no_sems (by decide) r.2⟩) (FeaturesPlainIdeal.Value.run (F := Ideal) m ρ)

theorem frame_plain_pre : Cert.quiescent_FeaturesPlainIdeal_pre_linked4 := fun m ρ _ => frame_plain m ρ trivial

end Cert.Proof.Feats
-- ==== Proof.lean ====
/- The claim: the kernel's run and value, the reference's, and that they agree. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_valid
public import proofs.«01_k».proof.Proof.Launch
public import proofs.«01_k».proof.Proof.Pre
public import proofs.«01_k».proof.Proof.Ref
public import proofs.«01_k».proof.Proof.CellRef
public import proofs.«01_k».proof.Proof.SecondPlain
public import proofs.«01_k».proof.Proof.ThirdPlain
public import proofs.«01_k».proof.Proof.FeatPlain
public import Idealize.ShloMosaic.Lib.Quiescent

@[expose] public section

noncomputable section

namespace Cert.Proof

open Idealize.ShloMosaic Idealize.ShloMosaic.TcCoe Idealize.SL.Sem

variable {F : FTy → Type} [FloatOps F]

/-- The arguments and the old output, as functions of numbers. -/
theorem exists_reads (m : (ℓ : Loc KernelIdeal.nD KernelIdeal.τ KernelIdeal.sig) → Buf (Elt F) ℓ) : ∃ fl X Y, Reads m fl X Y := by
  have h1 : ∀ d, ∃ fl : ℕ → BitVec 32, tab1 KernelIdeal.S400000 fl = shapeCast KernelIdeal.S400000 (m (aLoc d)) KernelIdeal.Gen.shapeCasts_S400000x1_S400000 :=
    fun d => exists_tab1 (n := KernelIdeal.S400000.size) 0#32 _
  have h2 : ∀ d, ∃ X : ℕ → ℕ → F .f32, tab2 KernelIdeal.S400000x128 X = m (xLoc d) := fun d => exists_tab2 (n := KernelIdeal.S400000x128.size) zeroF _
  have h3 : ∀ d, ∃ Y : ℕ → ℕ → F .f32, tab2 KernelIdeal.S65536x128 Y = m (oLoc d) := fun d => exists_tab2 (n := KernelIdeal.S65536x128.size) zeroF _
  choose fl hfl using h1
  choose X hX using h2
  choose Y hY using h3
  exact ⟨fl, X, Y, hfl, hX, hY⟩

/-- The precondition, of a memory of the kernel's. -/
def PreF (m : (ℓ : Loc KernelIdeal.nD KernelIdeal.τ KernelIdeal.sig) → Buf (Elt F) ℓ) : Prop :=
  ∀ c, Cert.Pre_valid.fn (F := F) (m (aLoc c)) (m (xLoc c)) = fun _ => 1#1

/-- The kernel's run under the precondition. -/
theorem run_kernel [∀ e, Nonempty (Elt F e)] (m : (ℓ : Loc KernelIdeal.nD KernelIdeal.τ KernelIdeal.sig) → Buf (Elt F) ℓ) (ρ : Dev KernelIdeal.nD → PrngReg) (h : PreF m) :
    ∃ fl X Y, Reads m fl X Y ∧ (∀ d, Fits (fl d)) ∧ θ_run (KernelIdeal.defs (F := F)) (KernelIdeal.threads (F := F)) ⟨m, fun _ => 0, ρ⟩ (QC m fl X) := by
  obtain ⟨fl, X, Y, hr⟩ := exists_reads m
  have hf : ∀ d, Fits (fl d) := fun d => fits_of_pre (hr.cells d) (m (xLoc d)) (h d)
  exact ⟨fl, X, Y, hr, hf, run_main ρ hr hf⟩

/-- The kernel's and the reference's runs from memories that agree on the arguments: the same result. -/
theorem same [∀ e, Nonempty (Elt F e)] (m : (ℓ : Loc KernelIdeal.nD KernelIdeal.τ KernelIdeal.sig) → Buf (Elt F) ℓ) (ρ : Dev KernelIdeal.nD → PrngReg)
    (m' : (ℓ : Loc ReferenceIdeal.nD ReferenceIdeal.τ ReferenceIdeal.sig) → Buf (Elt F) ℓ) (ρ' : Dev ReferenceIdeal.nD → PrngReg) (h : PreF m)
    (hag : ∀ c : Dev KernelIdeal.nD, m' ((c.tc : Thread ReferenceIdeal.nD ReferenceIdeal.τ).loc ReferenceIdeal.main_arg0) = m (aLoc c)
      ∧ m' ((c.tc : Thread ReferenceIdeal.nD ReferenceIdeal.τ).loc ReferenceIdeal.main_arg1) = m (xLoc c)) :
    ∃ v : Dev KernelIdeal.nD → KernelIdeal.S4x128x128x128.Idx → F .f32,
      θ_run (KernelIdeal.defs (F := F)) (KernelIdeal.threads (F := F)) ⟨m, fun _ => 0, ρ⟩ (fun r => ∀ c,
        r.2.mem (zLoc c) = v c ∧ r.2.mem (aLoc c) = m (aLoc c) ∧ r.2.mem (xLoc c) = m (xLoc c))
      ∧ θ_run (ReferenceIdeal.defs (F := F)) (onTc (τ := ReferenceIdeal.τ) (ReferenceIdeal.main (F := F))) ⟨m', fun _ => 0, ρ'⟩ (fun r => ∀ c : Dev ReferenceIdeal.nD,
        r.2.mem ((c.tc : Thread ReferenceIdeal.nD ReferenceIdeal.τ).loc ReferenceIdeal.main_v4) = v c
        ∧ r.2.mem ((c.tc : Thread ReferenceIdeal.nD ReferenceIdeal.τ).loc ReferenceIdeal.main_arg0) = m' ((c.tc : Thread ReferenceIdeal.nD ReferenceIdeal.τ).loc ReferenceIdeal.main_arg0)
        ∧ r.2.mem ((c.tc : Thread ReferenceIdeal.nD ReferenceIdeal.τ).loc ReferenceIdeal.main_arg1) = m' ((c.tc : Thread ReferenceIdeal.nD ReferenceIdeal.τ).loc ReferenceIdeal.main_arg1)) := by
  obtain ⟨fl, X, Y, hr, hf, hk⟩ := run_kernel m ρ h
  refine ⟨fun c => resZ (X c) (fl c), (θ_run KernelIdeal.defs _ _).mono (fun r hq c => ⟨(hq.1 c).2.2, (hq.1 c).1, (hq.1 c).2.1⟩) hk,
    run_ref m' ρ' X fl (fun c => ?_) (fun c => ?_) fun c => (hf c).inRound⟩
  · rw [(hag c).1]; exact hr.cells c
  · rw [(hag c).2]; exact hr.rows c

set_option maxHeartbeats 4000000 in
theorem frame_kernel : Cert.quiescent_Kernel := fun m ρ h => by
  obtain ⟨_, _, _, _, _, hk⟩ := run_kernel (F := Bits) m ρ h
  exact (θ_run KernelIdeal.defs _ _).mono (fun r hq => ⟨fun c => ⟨(hq.1 c).1, (hq.1 c).2.1⟩, hq.2⟩) hk

theorem frame_ideal : Cert.quiescent_KernelIdeal := fun m ρ h => by
  obtain ⟨_, _, _, _, _, hk⟩ := run_kernel (F := Ideal) m ρ h
  exact (θ_run KernelIdeal.defs _ _).mono (fun r hq => ⟨fun c => ⟨(hq.1 c).1, (hq.1 c).2.1⟩, hq.2⟩) hk

/-- The reference's frame; it has no semaphore. -/
theorem frame_ref : Cert.quiescent_ReferenceIdeal := fun m ρ _ =>
  (θ_run ReferenceIdeal.defs _ _).mono (fun r h => ⟨fun c => (h c).2, sem_eq_zero_of_no_sems (by decide) r.2⟩) (ReferenceIdeal.Value.run (F := Ideal) m ρ)

theorem frame_reference : Cert.quiescent_Reference := fun m ρ _ =>
  (θ_run Reference.defs _ _).mono (fun r h => ⟨fun c => (h c).2, sem_eq_zero_of_no_sems (by decide) r.2⟩) (Reference.Value.run (F := Bits) m ρ)

theorem algebraic : Cert.algebraic_KernelIdeal_ReferenceIdeal := fun m ρ m' ρ' h hag => same (F := Ideal) m ρ m' ρ' h hag

set_option maxHeartbeats 4000000 in
theorem bitexact : Cert.bitexact_Kernel_Reference := fun m ρ m' ρ' h hag => same (F := Bits) m ρ m' ρ' h hag

theorem claim : Cert.Claim :=
  ⟨Cert.Kernel.Gen.facts, Cert.KernelIdeal.Gen.facts, Cert.ReferenceIdeal.Gen.facts, Cert.Reference.Gen.facts, Cert.Cells.Gen.facts, Cert.CellsIdeal.Gen.facts,
    Cert.CellsReferenceIdeal.Gen.facts, Cert.Second.Gen.facts, Cert.SecondIdeal.Gen.facts, Cert.SecondReferenceIdeal.Gen.facts,
    Cert.Third.Gen.facts, Cert.ThirdIdeal.Gen.facts, Cert.ThirdReferenceIdeal.Gen.facts,
    Cert.Features.Gen.facts, Cert.FeaturesIdeal.Gen.facts, Cert.FeaturesReferenceIdeal.Gen.facts,
    Cert.SecondPlainIdeal.Gen.facts, Cert.ThirdPlainIdeal.Gen.facts, Cert.FeaturesPlainIdeal.Gen.facts,
    Cert.Pre_valid.Gen.facts, Cert.Pre_sound2.Gen.facts, Cert.Pre_linked2.Gen.facts, Cert.Pre_sound3.Gen.facts, Cert.Pre_linked3.Gen.facts, Cert.Pre_sound4.Gen.facts, Cert.Pre_linked4.Gen.facts,
    frame_kernel, frame_ideal, frame_ref, fun m ρ _ => frame_ref m ρ trivial, frame_reference, Sums.frame_cells, Sums.frame_cells_ideal, Sums.frame_cells_ref,
    Seconds.frame, Seconds.frame_ideal, Seconds.frame_ideal_pre, Seconds.frame_ideal_linked, Seconds.frame_ref, Seconds.frame_ref_pre,
    Thirds.frame, Thirds.frame_ideal, Thirds.frame_ideal_pre, Thirds.frame_ideal_linked, Thirds.frame_ref, Thirds.frame_ref_pre,
    Feats.frame, Feats.frame_ideal, Feats.frame_ideal_pre, Feats.frame_ideal_linked, Feats.frame_ref, Feats.frame_ref_pre,
    Seconds.frame_plain, Seconds.frame_plain_pre, Thirds.frame_plain, Thirds.frame_plain_pre, Feats.frame_plain, Feats.frame_plain_pre,
    trivial, algebraic, bitexact, trivial, Sums.algebraic_cells, trivial, Seconds.algebraic, trivial, Thirds.algebraic, trivial, Feats.algebraic,
    Seconds.plain_algebraic, Thirds.plain_algebraic, Feats.plain_algebraic⟩

end Cert.Proof

end
